-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Reference10 (m : (ℓ : Loc Cert.Reference10.nD Cert.Reference10.τ Cert.Reference10.sig) → Buf (Elt Bits) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_steps_below_infinity [hPre_steps_below_infinity : Cert.Pre_steps_below_infinity.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_steps_below_infinity.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).1 = (fun _ => 1#1)
    ∧ (Cert.Pre_steps_below_infinity.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_steps_below_infinity [hPre_steps_below_infinity : Cert.Pre_steps_below_infinity.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_steps_below_infinity.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).1 = (fun _ => 1#1)
    ∧ (Cert.Pre_steps_below_infinity.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0)
      ∧ r.2.mem ((c.tc : Thread Cert.Reference10.nD Cert.Reference10.τ).loc Cert.Reference10.main_arg1) = m ((c.tc : Thread Cert.Reference10.nD Cert.Reference10.τ).loc Cert.Reference10.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_steps_below_infinity [hKernel11Ideal : Cert.Kernel11Ideal.Facts] [hPre_steps_below_infinity : Cert.Pre_steps_below_infinity.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_steps_below_infinity m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_steps_below_infinity [hReference11Ideal : Cert.Reference11Ideal.Facts] [hPre_steps_below_infinity : Cert.Pre_steps_below_infinity.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_steps_below_infinity m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v8)) (v2 : (c : Dev Cert.Kernel5Ideal.nD) → Buf (Elt Ideal) ((c.tc : Thread Cert.Kernel5Ideal.nD Cert.Kernel5Ideal.τ).loc Cert.Kernel5Ideal.main_v9)) (v3 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_v9) = v2 c
          ∧ r.2.mem ((c.tc : Thread Cert.Kernel5Ideal.nD Cert.Kernel5Ideal.τ).loc Cert.Kernel5Ideal.main_v10) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)) →
    ∃ (v0 : (c : Dev Cert.Kernel7Ideal.nD) → Buf (Elt Ideal) ((c.tc : Thread Cert.Kernel7Ideal.nD Cert.Kernel7Ideal.τ).loc Cert.Kernel7Ideal.main_v47)) (v1 : (c : Dev Cert.Kernel7Ideal.nD) → Buf (Elt Ideal) ((c.tc : Thread Cert.Kernel7Ideal.nD Cert.Kernel7Ideal.τ).loc Cert.Kernel7Ideal.main_v49)) (v2 : (c : Dev Cert.Kernel7Ideal.nD) → Buf (Elt Ideal) ((c.tc : Thread Cert.Kernel7Ideal.nD Cert.Kernel7Ideal.τ).loc Cert.Kernel7Ideal.main_v51)) (v3 : (c : Dev Cert.Kernel7Ideal.nD) → Buf (Elt Ideal) ((c.tc : Thread Cert.Kernel7Ideal.nD Cert.Kernel7Ideal.τ).loc Cert.Kernel7Ideal.main_v53)) (v4 : (c : Dev Cert.Kernel7Ideal.nD) → Buf (Elt Ideal) ((c.tc : Thread Cert.Kernel7Ideal.nD Cert.Kernel7Ideal.τ).loc Cert.Kernel7Ideal.main_v55)) (v5 : (c : Dev Cert.Kernel7Ideal.nD) → Buf (Elt Ideal) ((c.tc : Thread Cert.Kernel7Ideal.nD Cert.Kernel7Ideal.τ).loc Cert.Kernel7Ideal.main_v57)) (v6 : (c : Dev Cert.Kernel7Ideal.nD) → Buf (Elt Ideal) ((c.tc : Thread Cert.Kernel7Ideal.nD Cert.Kernel7Ideal.τ).loc Cert.Kernel7Ideal.main_v59)) (v7 : (c : Dev Cert.Kernel7Ideal.nD) → Buf (Elt Ideal) ((c.tc : Thread Cert.Kernel7Ideal.nD Cert.Kernel7Ideal.τ).loc Cert.Kernel7Ideal.main_v61)) (v8 : (c : Dev Cert.Kernel7Ideal.nD) → Buf (Elt Ideal) ((c.tc : Thread Cert.Kernel7Ideal.nD Cert.Kernel7Ideal.τ).loc Cert.Kernel7Ideal.main_v64)) (v9 : (c : Dev Cert.Kernel7Ideal.nD) → Buf (Elt Ideal) ((c.tc : Thread Cert.Kernel7Ideal.nD Cert.Kernel7Ideal.τ).loc Cert.Kernel7Ideal.main_v66)) (v10 : (c : Dev Cert.Kernel7Ideal.nD) → Buf (Elt Ideal) ((c.tc : Thread Cert.Kernel7Ideal.nD Cert.Kernel7Ideal.τ).loc Cert.Kernel7Ideal.main_v68)) (v11 : (c : Dev Cert.Kernel7Ideal.nD) → Buf (Elt Ideal) ((c.tc : Thread Cert.Kernel7Ideal.nD Cert.Kernel7Ideal.τ).loc Cert.Kernel7Ideal.main_v70)) (v12 : (c : Dev Cert.Kernel7Ideal.nD) → Buf (Elt Ideal) ((c.tc : Thread Cert.Kernel7Ideal.nD Cert.Kernel7Ideal.τ).loc Cert.Kernel7Ideal.main_v72)) (v13 : (c : Dev Cert.Kernel7Ideal.nD) → Buf (Elt Ideal) ((c.tc : Thread Cert.Kernel7Ideal.nD Cert.Kernel7Ideal.τ).loc Cert.Kernel7Ideal.main_v74)) (v14 : (c : Dev Cert.Kernel7Ideal.nD) → Buf (Elt Ideal) ((c.tc : Thread Cert.Kernel7Ideal.nD Cert.Kernel7Ideal.τ).loc Cert.Kernel7Ideal.main_v76)) (v15 : (c : Dev Cert.Kernel7Ideal.nD) → Buf (Elt Ideal) ((c.tc : Thread Cert.Kernel7Ideal.nD Cert.Kernel7Ideal.τ).loc Cert.Kernel7Ideal.main_v78)) (v16 : (c : Dev Cert.Kernel7Ideal.nD) → Buf (Elt Ideal) ((c.tc : Thread Cert.Kernel7Ideal.nD Cert.Kernel7Ideal.τ).loc Cert.Kernel7Ideal.main_v81)) (v17 : (c : Dev Cert.Kernel7Ideal.nD) → Buf (Elt Ideal) ((c.tc : Thread Cert.Kernel7Ideal.nD Cert.Kernel7Ideal.τ).loc Cert.Kernel7Ideal.main_v83)) (v18 : (c : Dev Cert.Kernel7Ideal.nD) → Buf (Elt Ideal) ((c.tc : Thread Cert.Kernel7Ideal.nD Cert.Kernel7Ideal.τ).loc Cert.Kernel7Ideal.main_v85)) (v19 : (c : Dev Cert.Kernel7Ideal.nD) → Buf (Elt Ideal) ((c.tc : Thread Cert.Kernel7Ideal.nD Cert.Kernel7Ideal.τ).loc Cert.Kernel7Ideal.main_v87)) (v20 : (c : Dev Cert.Kernel7Ideal.nD) → Buf (Elt Ideal) ((c.tc : Thread Cert.Kernel7Ideal.nD Cert.Kernel7Ideal.τ).loc Cert.Kernel7Ideal.main_v89)) (v21 : (c : Dev Cert.Kernel7Ideal.nD) → Buf (Elt Ideal) ((c.tc : Thread Cert.Kernel7Ideal.nD Cert.Kernel7Ideal.τ).loc Cert.Kernel7Ideal.main_v91)) (v22 : (c : Dev Cert.Kernel7Ideal.nD) → Buf (Elt Ideal) ((c.tc : Thread Cert.Kernel7Ideal.nD Cert.Kernel7Ideal.τ).loc Cert.Kernel7Ideal.main_v93)) (v23 : (c : Dev Cert.Kernel7Ideal.nD) → Buf (Elt Ideal) ((c.tc : Thread Cert.Kernel7Ideal.nD Cert.Kernel7Ideal.τ).loc Cert.Kernel7Ideal.main_v95)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47) = v0 c
          ∧ r.2.mem ((c.tc : Thread Cert.Kernel7Ideal.nD Cert.Kernel7Ideal.τ).loc Cert.Kernel7Ideal.main_v49) = v1 c
          ∧ r.2.mem ((c.tc : Thread Cert.Kernel7Ideal.nD Cert.Kernel7Ideal.τ).loc Cert.Kernel7Ideal.main_v51) = v2 c
          ∧ r.2.mem ((c.tc : Thread Cert.Kernel7Ideal.nD Cert.Kernel7Ideal.τ).loc Cert.Kernel7Ideal.main_v53) = v3 c
          ∧ r.2.mem ((c.tc : Thread Cert.Kernel7Ideal.nD Cert.Kernel7Ideal.τ).loc Cert.Kernel7Ideal.main_v55) = v4 c
          ∧ r.2.mem ((c.tc : Thread Cert.Kernel7Ideal.nD Cert.Kernel7Ideal.τ).loc Cert.Kernel7Ideal.main_v57) = v5 c
          ∧ r.2.mem ((c.tc : Thread Cert.Kernel7Ideal.nD Cert.Kernel7Ideal.τ).loc Cert.Kernel7Ideal.main_v59) = v6 c
          ∧ r.2.mem ((c.tc : Thread Cert.Kernel7Ideal.nD Cert.Kernel7Ideal.τ).loc Cert.Kernel7Ideal.main_v61) = v7 c
          ∧ r.2.mem ((c.tc : Thread Cert.Kernel7Ideal.nD Cert.Kernel7Ideal.τ).loc Cert.Kernel7Ideal.main_v64) = v8 c
          ∧ r.2.mem ((c.tc : Thread Cert.Kernel7Ideal.nD Cert.Kernel7Ideal.τ).loc Cert.Kernel7Ideal.main_v66) = v9 c
          ∧ r.2.mem ((c.tc : Thread Cert.Kernel7Ideal.nD Cert.Kernel7Ideal.τ).loc Cert.Kernel7Ideal.main_v68) = v10 c
          ∧ r.2.mem ((c.tc : Thread Cert.Kernel7Ideal.nD Cert.Kernel7Ideal.τ).loc Cert.Kernel7Ideal.main_v70) = v11 c
          ∧ r.2.mem ((c.tc : Thread Cert.Kernel7Ideal.nD Cert.Kernel7Ideal.τ).loc Cert.Kernel7Ideal.main_v72) = v12 c
          ∧ r.2.mem ((c.tc : Thread Cert.Kernel7Ideal.nD Cert.Kernel7Ideal.τ).loc Cert.Kernel7Ideal.main_v74) = v13 c
          ∧ r.2.mem ((c.tc : Thread Cert.Kernel7Ideal.nD Cert.Kernel7Ideal.τ).loc Cert.Kernel7Ideal.main_v76) = v14 c
          ∧ r.2.mem ((c.tc : Thread Cert.Kernel7Ideal.nD Cert.Kernel7Ideal.τ).loc Cert.Kernel7Ideal.main_v78) = v15 c
          ∧ r.2.mem ((c.tc : Thread Cert.Kernel7Ideal.nD Cert.Kernel7Ideal.τ).loc Cert.Kernel7Ideal.main_v81) = v16 c
          ∧ r.2.mem ((c.tc : Thread Cert.Kernel7Ideal.nD Cert.Kernel7Ideal.τ).loc Cert.Kernel7Ideal.main_v83) = v17 c
          ∧ r.2.mem ((c.tc : Thread Cert.Kernel7Ideal.nD Cert.Kernel7Ideal.τ).loc Cert.Kernel7Ideal.main_v85) = v18 c
          ∧ r.2.mem ((c.tc : Thread Cert.Kernel7Ideal.nD Cert.Kernel7Ideal.τ).loc Cert.Kernel7Ideal.main_v87) = v19 c
          ∧ r.2.mem ((c.tc : Thread Cert.Kernel7Ideal.nD Cert.Kernel7Ideal.τ).loc Cert.Kernel7Ideal.main_v89) = v20 c
          ∧ r.2.mem ((c.tc : Thread Cert.Kernel7Ideal.nD Cert.Kernel7Ideal.τ).loc Cert.Kernel7Ideal.main_v91) = v21 c
          ∧ r.2.mem ((c.tc : Thread Cert.Kernel7Ideal.nD Cert.Kernel7Ideal.τ).loc Cert.Kernel7Ideal.main_v93) = v22 c
          ∧ r.2.mem ((c.tc : Thread Cert.Kernel7Ideal.nD Cert.Kernel7Ideal.τ).loc Cert.Kernel7Ideal.main_v95) = v23 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v119) = v4 c
          ∧ r.2.mem ((c.tc : Thread Cert.Reference7Ideal.nD Cert.Reference7Ideal.τ).loc Cert.Reference7Ideal.main_v143) = v5 c
          ∧ r.2.mem ((c.tc : Thread Cert.Reference7Ideal.nD Cert.Reference7Ideal.τ).loc Cert.Reference7Ideal.main_v167) = v6 c
          ∧ r.2.mem ((c.tc : Thread Cert.Reference7Ideal.nD Cert.Reference7Ideal.τ).loc Cert.Reference7Ideal.main_v191) = v7 c
          ∧ r.2.mem ((c.tc : Thread Cert.Reference7Ideal.nD Cert.Reference7Ideal.τ).loc Cert.Reference7Ideal.main_v4) = v8 c
          ∧ r.2.mem ((c.tc : Thread Cert.Reference7Ideal.nD Cert.Reference7Ideal.τ).loc Cert.Reference7Ideal.main_v28) = v9 c
          ∧ r.2.mem ((c.tc : Thread Cert.Reference7Ideal.nD Cert.Reference7Ideal.τ).loc Cert.Reference7Ideal.main_v52) = v10 c
          ∧ r.2.mem ((c.tc : Thread Cert.Reference7Ideal.nD Cert.Reference7Ideal.τ).loc Cert.Reference7Ideal.main_v76) = v11 c
          ∧ r.2.mem ((c.tc : Thread Cert.Reference7Ideal.nD Cert.Reference7Ideal.τ).loc Cert.Reference7Ideal.main_v100) = v12 c
          ∧ r.2.mem ((c.tc : Thread Cert.Reference7Ideal.nD Cert.Reference7Ideal.τ).loc Cert.Reference7Ideal.main_v124) = v13 c
          ∧ r.2.mem ((c.tc : Thread Cert.Reference7Ideal.nD Cert.Reference7Ideal.τ).loc Cert.Reference7Ideal.main_v148) = v14 c
          ∧ r.2.mem ((c.tc : Thread Cert.Reference7Ideal.nD Cert.Reference7Ideal.τ).loc Cert.Reference7Ideal.main_v172) = v15 c
          ∧ r.2.mem ((c.tc : Thread Cert.Reference7Ideal.nD Cert.Reference7Ideal.τ).loc Cert.Reference7Ideal.main_v10) = v16 c
          ∧ r.2.mem ((c.tc : Thread Cert.Reference7Ideal.nD Cert.Reference7Ideal.τ).loc Cert.Reference7Ideal.main_v34) = v17 c
          ∧ r.2.mem ((c.tc : Thread Cert.Reference7Ideal.nD Cert.Reference7Ideal.τ).loc Cert.Reference7Ideal.main_v58) = v18 c
          ∧ r.2.mem ((c.tc : Thread Cert.Reference7Ideal.nD Cert.Reference7Ideal.τ).loc Cert.Reference7Ideal.main_v82) = v19 c
          ∧ r.2.mem ((c.tc : Thread Cert.Reference7Ideal.nD Cert.Reference7Ideal.τ).loc Cert.Reference7Ideal.main_v106) = v20 c
          ∧ r.2.mem ((c.tc : Thread Cert.Reference7Ideal.nD Cert.Reference7Ideal.τ).loc Cert.Reference7Ideal.main_v130) = v21 c
          ∧ r.2.mem ((c.tc : Thread Cert.Reference7Ideal.nD Cert.Reference7Ideal.τ).loc Cert.Reference7Ideal.main_v154) = v22 c
          ∧ r.2.mem ((c.tc : Thread Cert.Reference7Ideal.nD Cert.Reference7Ideal.τ).loc Cert.Reference7Ideal.main_v178) = v23 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)) (v1 : (c : Dev Cert.Kernel8Ideal.nD) → Buf (Elt Ideal) ((c.tc : Thread Cert.Kernel8Ideal.nD Cert.Kernel8Ideal.τ).loc Cert.Kernel8Ideal.main_v3)) (v2 : (c : Dev Cert.Kernel8Ideal.nD) → Buf (Elt Ideal) ((c.tc : Thread Cert.Kernel8Ideal.nD Cert.Kernel8Ideal.τ).loc Cert.Kernel8Ideal.main_v4)) (v3 : (c : Dev Cert.Kernel8Ideal.nD) → Buf (Elt Ideal) ((c.tc : Thread Cert.Kernel8Ideal.nD Cert.Kernel8Ideal.τ).loc Cert.Kernel8Ideal.main_v5)) (v4 : (c : Dev Cert.Kernel8Ideal.nD) → Buf (Elt Ideal) ((c.tc : Thread Cert.Kernel8Ideal.nD Cert.Kernel8Ideal.τ).loc Cert.Kernel8Ideal.main_v6)) (v5 : (c : Dev Cert.Kernel8Ideal.nD) → Buf (Elt Ideal) ((c.tc : Thread Cert.Kernel8Ideal.nD Cert.Kernel8Ideal.τ).loc Cert.Kernel8Ideal.main_v7)) (v6 : (c : Dev Cert.Kernel8Ideal.nD) → Buf (Elt Ideal) ((c.tc : Thread Cert.Kernel8Ideal.nD Cert.Kernel8Ideal.τ).loc Cert.Kernel8Ideal.main_v8)) (v7 : (c : Dev Cert.Kernel8Ideal.nD) → Buf (Elt Ideal) ((c.tc : Thread Cert.Kernel8Ideal.nD Cert.Kernel8Ideal.τ).loc Cert.Kernel8Ideal.main_v9)) (v8 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_v3) = v1 c
          ∧ r.2.mem ((c.tc : Thread Cert.Kernel8Ideal.nD Cert.Kernel8Ideal.τ).loc Cert.Kernel8Ideal.main_v4) = v2 c
          ∧ r.2.mem ((c.tc : Thread Cert.Kernel8Ideal.nD Cert.Kernel8Ideal.τ).loc Cert.Kernel8Ideal.main_v5) = v3 c
          ∧ r.2.mem ((c.tc : Thread Cert.Kernel8Ideal.nD Cert.Kernel8Ideal.τ).loc Cert.Kernel8Ideal.main_v6) = v4 c
          ∧ r.2.mem ((c.tc : Thread Cert.Kernel8Ideal.nD Cert.Kernel8Ideal.τ).loc Cert.Kernel8Ideal.main_v7) = v5 c
          ∧ r.2.mem ((c.tc : Thread Cert.Kernel8Ideal.nD Cert.Kernel8Ideal.τ).loc Cert.Kernel8Ideal.main_v8) = v6 c
          ∧ r.2.mem ((c.tc : Thread Cert.Kernel8Ideal.nD Cert.Kernel8Ideal.τ).loc Cert.Kernel8Ideal.main_v9) = v7 c
          ∧ r.2.mem ((c.tc : Thread Cert.Kernel8Ideal.nD Cert.Kernel8Ideal.τ).loc Cert.Kernel8Ideal.main_v10) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_v14) = v4 c
          ∧ r.2.mem ((c.tc : Thread Cert.Reference8Ideal.nD Cert.Reference8Ideal.τ).loc Cert.Reference8Ideal.main_v15) = v5 c
          ∧ r.2.mem ((c.tc : Thread Cert.Reference8Ideal.nD Cert.Reference8Ideal.τ).loc Cert.Reference8Ideal.main_v16) = v6 c
          ∧ r.2.mem ((c.tc : Thread Cert.Reference8Ideal.nD Cert.Reference8Ideal.τ).loc Cert.Reference8Ideal.main_v17) = v7 c
          ∧ r.2.mem ((c.tc : Thread Cert.Reference8Ideal.nD Cert.Reference8Ideal.τ).loc Cert.Reference8Ideal.main_v18) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def bitexact_Kernel9_Reference9 [hKernel9 : Cert.Kernel9.Facts] [hReference9 : Cert.Reference9.Facts] : Prop :=
  ∀ (m : (ℓ : Loc Cert.Kernel9.nD Cert.Kernel9.τ Cert.Kernel9.sig) → Buf (Elt Bits) ℓ) (g : Dev Cert.Kernel9.nD → PrngReg)
    (m' : (ℓ : Loc Cert.Reference9.nD Cert.Reference9.τ Cert.Reference9.sig) → Buf (Elt Bits) ℓ) (g' : Dev Cert.Reference9.nD → PrngReg), Pre_Kernel9 m →
    (∀ c : Dev Cert.Kernel9.nD,
      m' ((c.tc : Thread Cert.Reference9.nD Cert.Reference9.τ).loc Cert.Reference9.main_arg0) = m ((c.tc : Thread Cert.Kernel9.nD Cert.Kernel9.τ).loc Cert.Kernel9.main_arg0)) →
    ∃ (v0 : (c : Dev Cert.Kernel9.nD) → Buf (Elt Bits) ((c.tc : Thread Cert.Kernel9.nD Cert.Kernel9.τ).loc Cert.Kernel9.main_v0)),
      θ_run (Cert.Kernel9.defs (F := Bits)) (onTc (τ := Cert.Kernel9.τ) (Cert.Kernel9.main (F := Bits))) ⟨m, fun _ => 0, g⟩ (fun r => ∀ c : Dev Cert.Kernel9.nD,
          r.2.mem ((c.tc : Thread Cert.Kernel9.nD Cert.Kernel9.τ).loc Cert.Kernel9.main_v0) = v0 c
          ∧ r.2.mem ((c.tc : Thread Cert.Kernel9.nD Cert.Kernel9.τ).loc Cert.Kernel9.main_arg0) = m ((c.tc : Thread Cert.Kernel9.nD Cert.Kernel9.τ).loc Cert.Kernel9.main_arg0))
      ∧ θ_run (Cert.Reference9.defs (F := Bits)) (onTc (τ := Cert.Reference9.τ) (Cert.Reference9.main (F := Bits))) ⟨m', fun _ => 0, g'⟩ (fun r => ∀ c : Dev Cert.Reference9.nD,
          r.2.mem ((c.tc : Thread Cert.Reference9.nD Cert.Reference9.τ).loc Cert.Reference9.main_v2) = v0 c
          ∧ r.2.mem ((c.tc : Thread Cert.Reference9.nD Cert.Reference9.τ).loc Cert.Reference9.main_arg0) = m' ((c.tc : Thread Cert.Reference9.nD Cert.Reference9.τ).loc Cert.Reference9.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def bitexact_Kernel10_Reference10 [hKernel10 : Cert.Kernel10.Facts] [hReference10 : Cert.Reference10.Facts] : Prop :=
  ∀ (m : (ℓ : Loc Cert.Kernel10.nD Cert.Kernel10.τ Cert.Kernel10.sig) → Buf (Elt Bits) ℓ) (g : Dev Cert.Kernel10.nD → PrngReg)
    (m' : (ℓ : Loc Cert.Reference10.nD Cert.Reference10.τ Cert.Reference10.sig) → Buf (Elt Bits) ℓ) (g' : Dev Cert.Reference10.nD → PrngReg), Pre_Kernel10 m →
    (∀ c : Dev Cert.Kernel10.nD,
      m' ((c.tc : Thread Cert.Reference10.nD Cert.Reference10.τ).loc Cert.Reference10.main_arg0) = m ((c.tc : Thread Cert.Kernel10.nD Cert.Kernel10.τ).loc Cert.Kernel10.main_arg0)
      ∧ m' ((c.tc : Thread Cert.Reference10.nD Cert.Reference10.τ).loc Cert.Reference10.main_arg1) = m ((c.tc : Thread Cert.Kernel10.nD Cert.Kernel10.τ).loc Cert.Kernel10.main_arg1)) →
    ∃ (v0 : (c : Dev Cert.Kernel10.nD) → Buf (Elt Bits) ((c.tc : Thread Cert.Kernel10.nD Cert.Kernel10.τ).loc Cert.Kernel10.main_v0)),
      θ_run (Cert.Kernel10.defs (F := Bits)) (onTc (τ := Cert.Kernel10.τ) (Cert.Kernel10.main (F := Bits))) ⟨m, fun _ => 0, g⟩ (fun r => ∀ c : Dev Cert.Kernel10.nD,
          r.2.mem ((c.tc : Thread Cert.Kernel10.nD Cert.Kernel10.τ).loc Cert.Kernel10.main_v0) = v0 c
          ∧ r.2.mem ((c.tc : Thread Cert.Kernel10.nD Cert.Kernel10.τ).loc Cert.Kernel10.main_arg0) = m ((c.tc : Thread Cert.Kernel10.nD Cert.Kernel10.τ).loc Cert.Kernel10.main_arg0)
          ∧ r.2.mem ((c.tc : Thread Cert.Kernel10.nD Cert.Kernel10.τ).loc Cert.Kernel10.main_arg1) = m ((c.tc : Thread Cert.Kernel10.nD Cert.Kernel10.τ).loc Cert.Kernel10.main_arg1))
      ∧ θ_run (Cert.Reference10.defs (F := Bits)) (onTc (τ := Cert.Reference10.τ) (Cert.Reference10.main (F := Bits))) ⟨m', fun _ => 0, g'⟩ (fun r => ∀ c : Dev Cert.Reference10.nD,
          r.2.mem ((c.tc : Thread Cert.Reference10.nD Cert.Reference10.τ).loc Cert.Reference10.main_v5) = v0 c
          ∧ r.2.mem ((c.tc : Thread Cert.Reference10.nD Cert.Reference10.τ).loc Cert.Reference10.main_arg0) = m' ((c.tc : Thread Cert.Reference10.nD Cert.Reference10.τ).loc Cert.Reference10.main_arg0)
          ∧ r.2.mem ((c.tc : Thread Cert.Reference10.nD Cert.Reference10.τ).loc Cert.Reference10.main_arg1) = m' ((c.tc : Thread Cert.Reference10.nD Cert.Reference10.τ).loc Cert.Reference10.main_arg1))

def preserves_Kernel11_Kernel11Ideal : Prop :=
  True

def algebraic_Kernel11Ideal_Reference11Ideal_pre_steps_below_infinity [hKernel11Ideal : Cert.Kernel11Ideal.Facts] [hReference11Ideal : Cert.Reference11Ideal.Facts] [hPre_steps_below_infinity : Cert.Pre_steps_below_infinity.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_steps_below_infinity m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)) (v3 : (c : Dev Cert.Kernel11Ideal.nD) → Buf (Elt Ideal) ((c.tc : Thread Cert.Kernel11Ideal.nD Cert.Kernel11Ideal.τ).loc Cert.Kernel11Ideal.main_v6_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_v6_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v422) = v0 c
          ∧ r.2.mem ((c.tc : Thread Cert.Reference11Ideal.nD Cert.Reference11Ideal.τ).loc Cert.Reference11Ideal.main_v403) = v1 c
          ∧ r.2.mem ((c.tc : Thread Cert.Reference11Ideal.nD Cert.Reference11Ideal.τ).loc Cert.Reference11Ideal.main_v424) = v2 c
          ∧ r.2.mem ((c.tc : Thread Cert.Reference11Ideal.nD Cert.Reference11Ideal.τ).loc Cert.Reference11Ideal.main_v34) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hReference9 : Cert.Reference9.Facts) (hKernel10 : Cert.Kernel10.Facts) (hKernel10Ideal : Cert.Kernel10Ideal.Facts) (hReference10Ideal : Cert.Reference10Ideal.Facts) (hReference10 : Cert.Reference10.Facts) (hKernel11 : Cert.Kernel11.Facts) (hKernel11Ideal : Cert.Kernel11Ideal.Facts) (hReference11Ideal : Cert.Reference11Ideal.Facts) (hPre_steps_below_infinity : Cert.Pre_steps_below_infinity.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ quiescent_Kernel10 (hKernel10 := hKernel10)
    ∧ quiescent_Kernel10Ideal (hKernel10Ideal := hKernel10Ideal)
    ∧ quiescent_Reference10Ideal (hReference10Ideal := hReference10Ideal)
    ∧ quiescent_Reference10 (hReference10 := hReference10)
    ∧ quiescent_Kernel11 (hKernel11 := hKernel11)
    ∧ quiescent_Kernel11Ideal (hKernel11Ideal := hKernel11Ideal)
    ∧ quiescent_Kernel11Ideal_pre_steps_below_infinity (hKernel11Ideal := hKernel11Ideal) (hPre_steps_below_infinity := hPre_steps_below_infinity)
    ∧ quiescent_Reference11Ideal (hReference11Ideal := hReference11Ideal)
    ∧ quiescent_Reference11Ideal_pre_steps_below_infinity (hReference11Ideal := hReference11Ideal) (hPre_steps_below_infinity := hPre_steps_below_infinity)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ bitexact_Kernel9_Reference9 (hKernel9 := hKernel9) (hReference9 := hReference9)
    ∧ preserves_Kernel10_Kernel10Ideal
    ∧ algebraic_Kernel10Ideal_Reference10Ideal (hKernel10Ideal := hKernel10Ideal) (hReference10Ideal := hReference10Ideal)
    ∧ bitexact_Kernel10_Reference10 (hKernel10 := hKernel10) (hReference10 := hReference10)
    ∧ preserves_Kernel11_Kernel11Ideal
    ∧ algebraic_Kernel11Ideal_Reference11Ideal_pre_steps_below_infinity (hKernel11Ideal := hKernel11Ideal) (hReference11Ideal := hReference11Ideal) (hPre_steps_below_infinity := hPre_steps_below_infinity)
-- ==== Pre_steps_below_infinity.lean ====
abbrev S4096x7168 : Shape := ⟨2, ![4096, 7168]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S4096x16 : Shape := ⟨2, ![4096, 16]⟩
abbrev S_ : Shape := ⟨0, ![]⟩

class Facts : Prop where
  slices_S4096x7168_S4096x16_0_6656 : S4096x7168.Slices ![0, 6656] S4096x16
  bcast_S_S4096x16 : S_.BroadcastsInDim S4096x16 (![] : Fin 0 → Fin S4096x16.rank)
  bcast_S_S1x16 : S_.BroadcastsInDim S1x16 (![] : Fin 0 → Fin S1x16.rank)

variable [Facts]

def fn {F : FTy → Type} [FloatOps F] (main_arg0 : FVec F S4096x7168 .f32) (main_arg1 : FVec F S4x1536 .f32) (main_arg2 : FVec F S1x1536 .f32) (main_arg3 : FVec F S1x16 .f32) (main_arg4 : FVec F S1x16 .f32) (main_arg5 : FVec F S1x16 .f32) (main_arg6 : FVec F S1x1024 .f32) : IVec S4096x16 1 × IVec S1x16 1 :=
  let main_v0 : FVec F S4096x16 .f32 := (extractStridedSlice S4096x16 ![0, 6656] · slices_S4096x7168_S4096x16_0_6656) main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_cst_0 : FVec F S_ .f32 := constant S_ .f32 0x7F800000#32
  let main_v3 : FVec F S1x16 .f32 := broadcastInDim S1x16 ![] bcast_S_S1x16 main_cst_0
  let main_v4 : IVec S1x16 1 := cmpf .olt main_arg3 main_v3
  (main_v2, main_v4)
-- ==== Kernel.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S8x1024 : Shape := ⟨2, ![8, 1024]⟩
abbrev S512x1024 : Shape := ⟨2, ![512, 1024]⟩
abbrev S512x2048 : Shape := ⟨2, ![512, 2048]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x2048, .f32⟩
  | .hbm, ⟨7, _⟩ => ⟨S4096x1024, .f32⟩
  | .hbm, ⟨8, _⟩ => ⟨S8x1024, .f32⟩
  | .hbm, ⟨9, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x2048, .f32⟩
  | .local _ .vmem, ⟨11, _⟩ => ⟨S512x2048, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S6x1024 : Shape := ⟨2, ![6, 1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S2048x1024, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S1024x2048, .f32⟩
  | .hbm, ⟨86, _⟩ => ⟨S2048x1024, .f32⟩
  | .hbm, ⟨87, _⟩ => ⟨S4096x2048, .f32⟩
  | .hbm, ⟨88, _⟩ => ⟨S_, .f32⟩
  | .hbm, ⟨89, _⟩ => ⟨S6x1024, .f32⟩
  | .hbm, ⟨90, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S4096x3072 : Shape := ⟨2, ![4096, 3072]⟩
abbrev S7168x1024 : Shape := ⟨2, ![7168, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S7168x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S8x1024, .f32⟩
  | .local _ .vmem, ⟨20, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 7], ![false, false]⟩

def k0_cond8 (i : grid0.Coords) : BitVec 1 :=
  let arg1 : BitVec 32 := BitVec.ofNat 32 (i 1).val
  let c6_i32 : BitVec 32 := 6#32
  let v33 : BitVec 1 := Scalar.cmpi .eq arg1 c6_i32
  let v34 : BitVec 32 := Scalar.extui v33
  let c0_i32_14 : BitVec 32 := 0#32
  let v35 : BitVec 1 := Scalar.cmpi .ne v34 c0_i32_14
  v35

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference2Ideal.lean ====
abbrev S4096x1024 : Shape := ⟨2, ![4096, 1024]⟩
abbrev S4096x3072 : Shape := ⟨2, ![4096, 3072]⟩
abbrev S7168x1024 : Shape := ⟨2, ![7168, 1024]⟩
abbrev S1x1024 : Shape := ⟨2, ![1, 1024]⟩
abbrev S4096x7168 : Shape := ⟨2, ![4096, 7168]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S7168x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x7168, .f32⟩
  | .hbm, ⟨15, _⟩ => ⟨S7168x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x7168, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1x1024, .f32⟩
  | .hbm, ⟨66, _⟩ => ⟨S_, .f32⟩
  | .hbm, ⟨67, _⟩ => ⟨S7x1024, .f32⟩
  | .hbm, ⟨68, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel3.lean ====
abbrev S4096x1024 : Shape := ⟨2, ![4096, 1024]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7168x1024 : Shape := ⟨2, ![7168, 1024]⟩
abbrev S1024x1024 : Shape := ⟨2, ![1024, 1024]⟩

abbrev nBuf : Space → Nat
  | .hbm => 26
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S7168x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![7, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let arg1 : BitVec 32 := BitVec.ofNat 32 (i 1).val
  let c0_i32_2 : BitVec 32 := 0#32
  let v6 : BitVec 1 := Scalar.cmpi .sge arg1 c0_i32_2
  let c1_i32_3 : BitVec 32 := 1#32
  let v7 : BitVec 1 := Scalar.cmpi .slt arg1 c1_i32_3
  let v8 : BitVec 1 := Scalar.andi v6 v7
  let v9 : BitVec 1 := Scalar.andi v5 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg0 : BitVec 32 := BitVec.ofNat 32 (i 0).val
  let c1_i32_5 : BitVec 32 := 1#32
  let v12 : BitVec 1 := Scalar.cmpi .sge arg0 c1_i32_5
  let c2_i32 : BitVec 32 := 2#32
  let v13 : BitVec 1 := Scalar.cmpi .slt arg0 c2_i32
  let v14 : BitVec 1 := Scalar.andi v12 v13
  let arg1 : BitVec 32 := BitVec.ofNat 32 (i 1).val
  let c0_i32_6 : BitVec 32 := 0#32
  let v15 : BitVec 1 := Scalar.cmpi .sge arg1 c0_i32_6
  let c1_i32_7 : BitVec 32 := 1#32
  let v16 : BitVec 1 := Scalar.cmpi .slt arg1 c1_i32_7
  let v17 : BitVec 1 := Scalar.andi v15 v16
  let v18 : BitVec 1 := Scalar.andi v14 v17
  let v19 : BitVec 32 := Scalar.extui v18
  let c0_i32_8 : BitVec 32 := 0#32
  let v20 : BitVec 1 := Scalar.cmpi .ne v19 c0_i32_8
  v20

def k0_cond4 (i : grid0.Coords) : BitVec 1 :=
  let arg0 : BitVec 32 := BitVec.ofNat 32 (i 0).val
  let c2_i32_9 : BitVec 32 := 2#32
  let v21 : BitVec 1 := Scalar.cmpi .sge arg0 c2_i32_9
  let c3_i32 : BitVec 32 := 3#32
  let v22 : BitVec 1 := Scalar.cmpi .slt arg0 c3_i32
  let v23 : BitVec 1 := Scalar.andi v21 v22
  let arg1 : BitVec 32 := BitVec.ofNat 32 (i 1).val
  let c0_i32_10 : BitVec 32 := 0#32
  let v24 : BitVec 1 := Scalar.cmpi .sge arg1 c0_i32_10
  let c1_i32_11 : BitVec 32 := 1#32
  let v25 : BitVec 1 := Scalar.cmpi .slt arg1 c1_i32_11
  let v26 : BitVec 1 := Scalar.andi v24 v25
  let v27 : BitVec 1 := Scalar.andi v23 v26
  let v28 : BitVec 32 := Scalar.extui v27
  let c0_i32_12 : BitVec 32 := 0#32
  let v29 : BitVec 1 := Scalar.cmpi .ne v28 c0_i32_12
  v29

def k0_cond5 (i : grid0.Coords) : BitVec 1 :=
  let arg0 : BitVec 32 := BitVec.ofNat 32 (i 0).val
  let c3_i32_13 : BitVec 32 := 3#32
  let v30 : BitVec 1 := Scalar.cmpi .sge arg0 c3_i32_13
  let c4_i32 : BitVec 32 := 4#32
  let v31 : BitVec 1 := Scalar.cmpi .slt arg0 c4_i32
  let v32 : BitVec 1 := Scalar.andi v30 v31
  let arg1 : BitVec 32 := BitVec.ofNat 32 (i 1).val
  let c0_i32_14 : BitVec 32 := 0#32
  let v33 : BitVec 1 := Scalar.cmpi .sge arg1 c0_i32_14
  let c1_i32_15 : BitVec 32 := 1#32
  let v34 : BitVec 1 := Scalar.cmpi .slt arg1 c1_i32_15
  let v35 : BitVec 1 := Scalar.andi v33 v34
  let v36 : BitVec 1 := Scalar.andi v32 v35
  let v37 : BitVec 32 := Scalar.extui v36
  let c0_i32_16 : BitVec 32 := 0#32
  let v38 : BitVec 1 := Scalar.cmpi .ne v37 c0_i32_16
  v38

def k0_cond6 (i : grid0.Coords) : BitVec 1 :=
  let arg0 : BitVec 32 := BitVec.ofNat 32 (i 0).val
  let c4_i32_17 : BitVec 32 := 4#32
  let v39 : BitVec 1 := Scalar.cmpi .sge arg0 c4_i32_17
  let c7_i32 : BitVec 32 := 7#32
  let v40 : BitVec 1 := Scalar.cmpi .slt arg0 c7_i32
  let v41 : BitVec 1 := Scalar.andi v39 v40
  let arg1 : BitVec 32 := BitVec.ofNat 32 (i 1).val
  let c0_i32_18 : BitVec 32 := 0#32
  let v42 : BitVec 1 := Scalar.cmpi .sge arg1 c0_i32_18
  let c1_i32_19 : BitVec 32 := 1#32
  let v43 : BitVec 1 := Scalar.cmpi .slt arg1 c1_i32_19
  let v44 : BitVec 1 := Scalar.andi v42 v43
  let v45 : BitVec 1 := Scalar.andi v41 v44
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg0 c1_i32
  let c2_i32 : BitVec 32 := 2#32
  let v1 : BitVec 1 := Scalar.cmpi .slt arg0 c2_i32
  let v2 : BitVec 1 := Scalar.andi v0 v1
  let c0_i32 : BitVec 32 := 0#32
  let v3 : BitVec 32 := Scalar.select v2 arg2 c0_i32
  let c1_i32_0 : BitVec 32 := 1#32
  let v4 : BitVec 32 := Scalar.subi arg0 c1_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg0 c3_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg0 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg0 c4_i32
  let c7_i32 : BitVec 32 := 7#32
  let v1 : BitVec 1 := Scalar.cmpi .slt arg0 c7_i32
  let v2 : BitVec 1 := Scalar.andi v0 v1
  let c0_i32 : BitVec 32 := 0#32
  let v3 : BitVec 32 := Scalar.select v2 arg2 c0_i32
  let c4_i32_0 : BitVec 32 := 4#32
  let v4 : BitVec 32 := Scalar.subi arg0 c4_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference3Ideal.lean ====
abbrev S4096x1024 : Shape := ⟨2, ![4096, 1024]⟩
abbrev S4096x3072 : Shape := ⟨2, ![4096, 3072]⟩
abbrev S1x1024 : Shape := ⟨2, ![1, 1024]⟩
abbrev S4096x7168 : Shape := ⟨2, ![4096, 7168]⟩
abbrev S_ : Shape := ⟨0, ![]⟩
abbrev S7168x1024 : Shape := ⟨2, ![7168, 1024]⟩
abbrev S1024 : Shape := ⟨1, ![1024]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .f32⟩
  | .hbm, ⟨12, _⟩ => ⟨S4096x7168, .f32⟩
  | .hbm, ⟨13, _⟩ => ⟨S_, .f32⟩
  | .hbm, ⟨14, _⟩ => ⟨S7168x1024, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x7168, .f32⟩
  | .hbm, ⟨33, _⟩ => ⟨S7168x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S7168x1024 : Shape := ⟨2, ![7168, 1024]⟩
abbrev S4096x7168 : Shape := ⟨2, ![4096, 7168]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7168x1024, .bf16⟩
  | .hbm, ⟨3, _⟩ => ⟨S4096x7168, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S7168x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 7], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7168x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4096x1024 : Shape := ⟨2, ![4096, 1024]⟩
abbrev S1x1024 : Shape := ⟨2, ![1, 1024]⟩
abbrev S7168x1024 : Shape := ⟨2, ![7168, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7168x1024, .bf16⟩
  | .hbm, ⟨3, _⟩ => ⟨S7168x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x7168, .f32⟩
  | .hbm, ⟨22, _⟩ => ⟨S1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S4x834x1024 : Shape := ⟨3, ![4, 834, 1024]⟩
abbrev S1x1024x834 : Shape := ⟨3, ![1, 1024, 834]⟩
abbrev S1024x834 : Shape := ⟨2, ![1024, 834]⟩
abbrev S834x1024 : Shape := ⟨2, ![834, 1024]⟩
abbrev S4x834x256 : Shape := ⟨3, ![4, 834, 256]⟩
abbrev S834x256 : Shape := ⟨2, ![834, 256]⟩
abbrev S1x834x256 : Shape := ⟨3, ![1, 834, 256]⟩

abbrev nBuf : Space → Nat
  | .hbm => 18
  | .vmem => 16
  | .smem => 0
  | _ => 0

abbrev bufTy : (tb : Table) → Fin (tcTables nBuf tb) → BufTy
  | .hbm, ⟨0, _⟩ => ⟨S4x834x1024, .bf16⟩
  | .hbm, ⟨1, _⟩ => ⟨S1x1024x834, .f32⟩
  | .hbm, ⟨2, _⟩ => ⟨S1x1024x834, .f32⟩
  | .hbm, ⟨3, _⟩ => ⟨S1x1024x834, .f32⟩
  | .hbm, ⟨4, _⟩ => ⟨S1024x834, .f32⟩
  | .hbm, ⟨5, _⟩ => ⟨S834x1024, .f32⟩
  | .hbm, ⟨6, _⟩ => ⟨S1024x834, .f32⟩
  | .hbm, ⟨7, _⟩ => ⟨S834x1024, .f32⟩
  | .hbm, ⟨8, _⟩ => ⟨S1024x834, .f32⟩
  | .hbm, ⟨9, _⟩ => ⟨S834x1024, .f32⟩
  | .hbm, ⟨10, _⟩ => ⟨S834x1024, .f32⟩
  | .hbm, ⟨11, _⟩ => ⟨S834x1024, .f32⟩
  | .hbm, ⟨12, _⟩ => ⟨S834x1024, .f32⟩
  | .hbm, ⟨13, _⟩ => ⟨S834x1024, .f32⟩
  | .hbm, ⟨14, _⟩ => ⟨S1024x834, .f32⟩
  | .hbm, ⟨15, _⟩ => ⟨S1024x834, .f32⟩
  | .hbm, ⟨16, _⟩ => ⟨S1024x834, .f32⟩
  | .hbm, ⟨17, _⟩ => ⟨S1024x834, .f32⟩
  | .local _ .vmem, ⟨0, _⟩ => ⟨S4x834x256, .bf16⟩
  | .local _ .vmem, ⟨1, _⟩ => ⟨S4x834x256, .bf16⟩
  | .local _ .vmem, ⟨2, _⟩ => ⟨S834x256, .f32⟩
  | .local _ .vmem, ⟨3, _⟩ => ⟨S834x256, .f32⟩
  | .local _ .vmem, ⟨4, _⟩ => ⟨S834x256, .f32⟩
  | .local _ .vmem, ⟨5, _⟩ => ⟨S834x256, .f32⟩
  | .local _ .vmem, ⟨6, _⟩ => ⟨S834x256, .f32⟩
  | .local _ .vmem, ⟨7, _⟩ => ⟨S834x256, .f32⟩
  | .local _ .vmem, ⟨8, _⟩ => ⟨S834x256, .f32⟩
  | .local _ .vmem, ⟨9, _⟩ => ⟨S834x256, .f32⟩
  | .local _ .vmem, ⟨10, _⟩ => ⟨S834x256, .f32⟩
  | .local _ .vmem, ⟨11, _⟩ => ⟨S834x256, .f32⟩
  | .local _ .vmem, ⟨12, _⟩ => ⟨S834x256, .f32⟩
  | .local _ .vmem, ⟨13, _⟩ => ⟨S834x256, .f32⟩
  | .local _ .vmem, ⟨14, _⟩ => ⟨S834x256, .f32⟩
  | .local _ .vmem, ⟨15, _⟩ => ⟨S834x256, .f32⟩
  | _, _ => ⟨S4x834x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x834x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S834x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S834x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S834x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S834x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S834x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S834x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S834x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x834x1024 : Shape := ⟨3, ![4, 834, 1024]⟩
abbrev S1x1024x834 : Shape := ⟨3, ![1, 1024, 834]⟩
abbrev S_ : Shape := ⟨0, ![]⟩
abbrev S834x1024 : Shape := ⟨2, ![834, 1024]⟩
abbrev S1024x834 : Shape := ⟨2, ![1024, 834]⟩

abbrev nBuf : Space → Nat
  | .hbm => 44
  | .vmem => 0
  | .smem => 0
  | _ => 0

abbrev bufTy : (tb : Table) → Fin (tcTables nBuf tb) → BufTy
  | .hbm, ⟨0, _⟩ => ⟨S4x834x1024, .bf16⟩
  | .hbm, ⟨1, _⟩ => ⟨S1x1024x834, .f32⟩
  | .hbm, ⟨2, _⟩ => ⟨S1x1024x834, .f32⟩
  | .hbm, ⟨3, _⟩ => ⟨S1x1024x834, .f32⟩
  | .hbm, ⟨4, _⟩ => ⟨S4x834x1024, .f32⟩
  | .hbm, ⟨5, _⟩ => ⟨S_, .f32⟩
  | .hbm, ⟨6, _⟩ => ⟨S834x1024, .f32⟩
  | .hbm, ⟨7, _⟩ => ⟨S1024x834, .f32⟩
  | .hbm, ⟨8, _⟩ => ⟨S1024x834, .f32⟩
  | .hbm, ⟨9, _⟩ => ⟨S1024x834, .f32⟩
  | .hbm, ⟨10, _⟩ => ⟨S1024x834, .f32⟩
  | .hbm, ⟨11, _⟩ => ⟨S_, .f32⟩
  | .hbm, ⟨12, _⟩ => ⟨S1024x834, .f32⟩
  | .hbm, ⟨13, _⟩ => ⟨S1024x834, .f32⟩
  | .hbm, ⟨14, _⟩ => ⟨S_, .f32⟩
  | .hbm, ⟨15, _⟩ => ⟨S1024x834, .f32⟩
  | .hbm, ⟨16, _⟩ => ⟨S1024x834, .f32⟩
  | .hbm, ⟨17, _⟩ => ⟨S1024x834, .f32⟩
  | .hbm, ⟨18, _⟩ => ⟨S_, .f32⟩
  | .hbm, ⟨19, _⟩ => ⟨S1024x834, .f32⟩
  | .hbm, ⟨20, _⟩ => ⟨S1024x834, .f32⟩
  | .hbm, ⟨21, _⟩ => ⟨S1024x834, .f32⟩
  | .hbm, ⟨22, _⟩ => ⟨S_, .f32⟩
  | .hbm, ⟨23, _⟩ => ⟨S1024x834, .f32⟩
  | .hbm, ⟨24, _⟩ => ⟨S1024x834, .f32⟩
  | .hbm, ⟨25, _⟩ => ⟨S1024x834, .f32⟩
  | .hbm, ⟨26, _⟩ => ⟨S_, .f32⟩
  | .hbm, ⟨27, _⟩ => ⟨S1024x834, .f32⟩
  | .hbm, ⟨28, _⟩ => ⟨S1024x834, .f32⟩
  | .hbm, ⟨29, _⟩ => ⟨S_, .f32⟩
  | .hbm, ⟨30, _⟩ => ⟨S1024x834, .f32⟩
  | .hbm, ⟨31, _⟩ => ⟨S1024x834, .f32⟩
  | .hbm, ⟨32, _⟩ => ⟨S1024x834, .f32⟩
  | .hbm, ⟨33, _⟩ => ⟨S_, .f32⟩
  | .hbm, ⟨34, _⟩ => ⟨S1024x834, .f32⟩
  | .hbm, ⟨35, _⟩ => ⟨S1024x834, .f32⟩
  | .hbm, ⟨36, _⟩ => ⟨S1024x834, .f32⟩
  | .hbm, ⟨37, _⟩ => ⟨S_, .f32⟩
  | .hbm, ⟨38, _⟩ => ⟨S1024x834, .f32⟩
  | .hbm, ⟨39, _⟩ => ⟨S1024x834, .f32⟩
  | .hbm, ⟨40, _⟩ => ⟨S1024x834, .f32⟩
  | .hbm, ⟨41, _⟩ => ⟨S_, .f32⟩
  | .hbm, ⟨42, _⟩ => ⟨S1024x834, .f32⟩
  | .hbm, ⟨43, _⟩ => ⟨S1024x834, .f32⟩
  | _, _ => ⟨S4x834x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel6.lean ====
abbrev S4x256x1024 : Shape := ⟨3, ![4, 256, 1024]⟩
abbrev S1x256x1024 : Shape := ⟨3, ![1, 256, 1024]⟩
abbrev S256x1024 : Shape := ⟨2, ![256, 1024]⟩
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 11
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S4x256x256, .bf16⟩
  | .local _ .vmem, ⟨1, _⟩ => ⟨S4x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x256x1024 : Shape := ⟨3, ![4, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel7.lean ====
abbrev S4x192 : Shape := ⟨2, ![4, 192]⟩
abbrev S1x1536 : Shape := ⟨2, ![1, 1536]⟩
abbrev S1x1024 : Shape := ⟨2, ![1, 1024]⟩
abbrev S1x16 : Shape := ⟨2, ![1, 16]⟩
abbrev S768 : Shape := ⟨1, ![768]⟩
abbrev S1536 : Shape := ⟨1, ![1536]⟩
abbrev S1024 : Shape := ⟨1, ![1024]⟩
abbrev S16 : Shape := ⟨1, ![16]⟩
abbrev S5424 : Shape := ⟨1, ![5424]⟩
abbrev S_ : Shape := ⟨0, ![]⟩
abbrev S6144 : Shape := ⟨1, ![6144]⟩
abbrev S48x128 : Shape := ⟨2, ![48, 128]⟩

abbrev nBuf : Space → Nat
  | .hbm => 138
  | .vmem => 7
  | .smem => 0
  | _ => 0

abbrev hbmTy0_0 (i : Nat) : BufTy := match i % 128 with
  | 0 => ⟨S4x192, .f32⟩
  | 1 => ⟨S1x1536, .f32⟩
  | 2 => ⟨S1x1024, .f32⟩
  | 3 => ⟨S1x1024, .f32⟩
  | 4 => ⟨S1x1024, .f32⟩
  | 5 => ⟨S1x16, .f32⟩
  | 6 => ⟨S1x16, .f32⟩
  | 7 => ⟨S1x16, .f32⟩
  | 8 => ⟨S4x192, .f32⟩
  | 9 => ⟨S1x1536, .f32⟩
  | 10 => ⟨S1x1024, .f32⟩
  | 11 => ⟨S1x1024, .f32⟩
  | 12 => ⟨S1x1024, .f32⟩
  | 13 => ⟨S1x16, .f32⟩
  | 14 => ⟨S1x16, .f32⟩
  | 15 => ⟨S1x16, .f32⟩
  | 16 => ⟨S4x192, .f32⟩
  | 17 => ⟨S1x1536, .f32⟩
  | 18 => ⟨S1x1024, .f32⟩
  | 19 => ⟨S1x1024, .f32⟩
  | 20 => ⟨S1x1024, .f32⟩
  | 21 => ⟨S1x16, .f32⟩
  | 22 => ⟨S1x16, .f32⟩
  | 23 => ⟨S1x16, .f32⟩
  | 24 => ⟨S4x192, .f32⟩
  | 25 => ⟨S1x1536, .f32⟩
  | 26 => ⟨S1x1024, .f32⟩
  | 27 => ⟨S1x1024, .f32⟩
  | 28 => ⟨S1x1024, .f32⟩
  | 29 => ⟨S1x16, .f32⟩
  | 30 => ⟨S1x16, .f32⟩
  | 31 => ⟨S1x16, .f32⟩
  | 32 => ⟨S768, .f32⟩
  | 33 => ⟨S1536, .f32⟩
  | 34 => ⟨S1024, .f32⟩
  | 35 => ⟨S1024, .f32⟩
  | 36 => ⟨S1024, .f32⟩
  | 37 => ⟨S16, .f32⟩
  | 38 => ⟨S16, .f32⟩
  | 39 => ⟨S16, .f32⟩
  | 40 => ⟨S5424, .f32⟩
  | 41 => ⟨S_, .i32⟩
  | 42 => ⟨S_, .f32⟩
  | 43 => ⟨S6144, .f32⟩
  | 44 => ⟨S48x128, .f32⟩
  | 45 => ⟨S768, .f32⟩
  | 46 => ⟨S1536, .f32⟩
  | 47 => ⟨S1024, .f32⟩
  | 48 => ⟨S1024, .f32⟩
  | 49 => ⟨S1024, .f32⟩
  | 50 => ⟨S16, .f32⟩
  | 51 => ⟨S16, .f32⟩
  | 52 => ⟨S16, .f32⟩
  | 53 => ⟨S5424, .f32⟩
  | 54 => ⟨S_, .i32⟩
  | 55 => ⟨S_, .f32⟩
  | 56 => ⟨S6144, .f32⟩
  | 57 => ⟨S48x128, .f32⟩
  | 58 => ⟨S768, .f32⟩
  | 59 => ⟨S1536, .f32⟩
  | 60 => ⟨S1024, .f32⟩
  | 61 => ⟨S1024, .f32⟩
  | 62 => ⟨S1024, .f32⟩
  | 63 => ⟨S16, .f32⟩
  | 64 => ⟨S16, .f32⟩
  | 65 => ⟨S16, .f32⟩
  | 66 => ⟨S5424, .f32⟩
  | 67 => ⟨S_, .i32⟩
  | 68 => ⟨S_, .f32⟩
  | 69 => ⟨S6144, .f32⟩
  | 70 => ⟨S48x128, .f32⟩
  | 71 => ⟨S768, .f32⟩
  | 72 => ⟨S1536, .f32⟩
  | 73 => ⟨S1024, .f32⟩
  | 74 => ⟨S1024, .f32⟩
  | 75 => ⟨S1024, .f32⟩
  | 76 => ⟨S16, .f32⟩
  | 77 => ⟨S16, .f32⟩
  | 78 => ⟨S16, .f32⟩
  | 79 => ⟨S5424, .f32⟩
  | 80 => ⟨S_, .f32⟩
  | 81 => ⟨S_, .f32⟩
  | 82 => ⟨S6144, .f32⟩
  | 83 => ⟨S48x128, .f32⟩
  | 84 => ⟨S48x128, .f32⟩
  | 85 => ⟨S48x128, .f32⟩
  | 86 => ⟨S48x128, .f32⟩
  | 87 => ⟨S6144, .f32⟩
  | 88 => ⟨S768, .f32⟩
  | 89 => ⟨S4x192, .f32⟩
  | 90 => ⟨S1536, .f32⟩
  | 91 => ⟨S1x1536, .f32⟩
  | 92 => ⟨S1024, .f32⟩
  | 93 => ⟨S1x1024, .f32⟩
  | 94 => ⟨S1024, .f32⟩
  | 95 => ⟨S1x1024, .f32⟩
  | 96 => ⟨S1024, .f32⟩
  | 97 => ⟨S1x1024, .f32⟩
  | 98 => ⟨S16, .f32⟩
  | 99 => ⟨S1x16, .f32⟩
  | 100 => ⟨S16, .f32⟩
  | 101 => ⟨S1x16, .f32⟩
  | 102 => ⟨S16, .f32⟩
  | 103 => ⟨S1x16, .f32⟩
  | 104 => ⟨S6144, .f32⟩
  | 105 => ⟨S768, .f32⟩
  | 106 => ⟨S4x192, .f32⟩
  | 107 => ⟨S1536, .f32⟩
  | 108 => ⟨S1x1536, .f32⟩
  | 109 => ⟨S1024, .f32⟩
  | 110 => ⟨S1x1024, .f32⟩
  | 111 => ⟨S1024, .f32⟩
  | 112 => ⟨S1x1024, .f32⟩
  | 113 => ⟨S1024, .f32⟩
  | 114 => ⟨S1x1024, .f32⟩
  | 115 => ⟨S16, .f32⟩
  | 116 => ⟨S1x16, .f32⟩
  | 117 => ⟨S16, .f32⟩
  | 118 => ⟨S1x16, .f32⟩
  | 119 => ⟨S16, .f32⟩
  | 120 => ⟨S1x16, .f32⟩
  | 121 => ⟨S6144, .f32⟩
  | 122 => ⟨S768, .f32⟩
  | 123 => ⟨S4x192, .f32⟩
  | 124 => ⟨S1536, .f32⟩
  | 125 => ⟨S1x1536, .f32⟩
  | 126 => ⟨S1024, .f32⟩
  | 127 => ⟨S1x1024, .f32⟩
  | _ => ⟨S4x192, .f32⟩

abbrev hbmTy0_1 (i : Nat) : BufTy := match i % 128 with
  | 0 => ⟨S1024, .f32⟩
  | 1 => ⟨S1x1024, .f32⟩
  | 2 => ⟨S1024, .f32⟩
  | 3 => ⟨S1x1024, .f32⟩
  | 4 => ⟨S16, .f32⟩
  | 5 => ⟨S1x16, .f32⟩
  | 6 => ⟨S16, .f32⟩
  | 7 => ⟨S1x16, .f32⟩
  | 8 => ⟨S16, .f32⟩
  | 9 => ⟨S1x16, .f32⟩
  | _ => ⟨S4x192, .f32⟩

abbrev hbmTy (i : Nat) : BufTy := match i / 128 with
  | 0 => hbmTy0_0 i
  | 1 => hbmTy0_1 i
  | _ => ⟨S4x192, .f32⟩

abbrev bufTy : (tb : Table) → Fin (tcTables nBuf tb) → BufTy
  | .hbm, ⟨i, _⟩ => hbmTy i
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c : Ref sig .tc := ⟨.hbm, 41, rfl⟩
abbrev main_call0_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_0 : Ref sig .tc := ⟨.hbm, 54, rfl⟩
abbrev main_call1_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_1 : Ref sig .tc := ⟨.hbm, 67, rfl⟩
abbrev main_call2_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst : Ref sig .tc := ⟨.hbm, 80, rfl⟩
abbrev main_call3_v0 : Ref sig .tc := ⟨.hbm, 81, rfl⟩
abbrev main_v42 : Ref sig .tc := ⟨.hbm, 82, rfl⟩
abbrev main_v43 : Ref sig .tc := ⟨.hbm, 83, rfl⟩
abbrev main_v44_0 : Ref sig .tc := ⟨.hbm, 84, rfl⟩
abbrev main_v44_1 : Ref sig .tc := ⟨.hbm, 85, rfl⟩
abbrev main_v44_2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference7Ideal.lean ====
abbrev S4x192 : Shape := ⟨2, ![4, 192]⟩
abbrev S1x1536 : Shape := ⟨2, ![1, 1536]⟩
abbrev S1x1024 : Shape := ⟨2, ![1, 1024]⟩
abbrev S1x16 : Shape := ⟨2, ![1, 16]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4x192, .f32⟩
  | 1 => ⟨S1x1536, .f32⟩
  | 2 => ⟨S1x1024, .f32⟩
  | 3 => ⟨S1x1024, .f32⟩
  | 4 => ⟨S1x1024, .f32⟩
  | 5 => ⟨S1x16, .f32⟩
  | 6 => ⟨S1x16, .f32⟩
  | 7 => ⟨S1x16, .f32⟩
  | 8 => ⟨S4x192, .f32⟩
  | 9 => ⟨S1x1536, .f32⟩
  | 10 => ⟨S1x1024, .f32⟩
  | 11 => ⟨S1x1024, .f32⟩
  | 12 => ⟨S1x1024, .f32⟩
  | 13 => ⟨S1x16, .f32⟩
  | 14 => ⟨S1x16, .f32⟩
  | 15 => ⟨S1x16, .f32⟩
  | 16 => ⟨S4x192, .f32⟩
  | 17 => ⟨S1x1536, .f32⟩
  | 18 => ⟨S1x1024, .f32⟩
  | 19 => ⟨S1x1024, .f32⟩
  | 20 => ⟨S1x1024, .f32⟩
  | 21 => ⟨S1x16, .f32⟩
  | 22 => ⟨S1x16, .f32⟩
  | 23 => ⟨S1x16, .f32⟩
  | 24 => ⟨S4x192, .f32⟩
  | 25 => ⟨S1x1536, .f32⟩
  | 26 => ⟨S1x1024, .f32⟩
  | 27 => ⟨S1x1024, .f32⟩
  | 28 => ⟨S1x1024, .f32⟩
  | 29 => ⟨S1x16, .f32⟩
  | 30 => ⟨S1x16, .f32⟩
  | 31 => ⟨S1x16, .f32⟩
  | 32 => ⟨S_, .f32⟩
  | 33 => ⟨S4x192, .f32⟩
  | 34 => ⟨S4x192, .f32⟩
  | 35 => ⟨S_, .f32⟩
  | 36 => ⟨S4x192, .f32⟩
  | 37 => ⟨S4x192, .f32⟩
  | 38 => ⟨S4x192, .f32⟩
  | 39 => ⟨S_, .f32⟩
  | 40 => ⟨S4x192, .f32⟩
  | 41 => ⟨S4x192, .f32⟩
  | 42 => ⟨S4x192, .f32⟩
  | 43 => ⟨S_, .f32⟩
  | 44 => ⟨S4x192, .f32⟩
  | 45 => ⟨S4x192, .f32⟩
  | 46 => ⟨S4x192, .f32⟩
  | 47 => ⟨S_, .f32⟩
  | 48 => ⟨S4x192, .f32⟩
  | 49 => ⟨S4x192, .f32⟩
  | 50 => ⟨S_, .f32⟩
  | 51 => ⟨S4x192, .f32⟩
  | 52 => ⟨S4x192, .f32⟩
  | 53 => ⟨S4x192, .f32⟩
  | 54 => ⟨S_, .f32⟩
  | 55 => ⟨S4x192, .f32⟩
  | 56 => ⟨S4x192, .f32⟩
  | 57 => ⟨S4x192, .f32⟩
  | 58 => ⟨S_, .f32⟩
  | 59 => ⟨S4x192, .f32⟩
  | 60 => ⟨S4x192, .f32⟩
  | 61 => ⟨S4x192, .f32⟩
  | 62 => ⟨S_, .f32⟩
  | 63 => ⟨S4x192, .f32⟩
  | 64 => ⟨S4x192, .f32⟩
  | 65 => ⟨S_, .f32⟩
  | 66 => ⟨S1x1536, .f32⟩
  | 67 => ⟨S1x1536, .f32⟩
  | 68 => ⟨S_, .f32⟩
  | 69 => ⟨S1x1536, .f32⟩
  | 70 => ⟨S1x1536, .f32⟩
  | 71 => ⟨S1x1536, .f32⟩
  | 72 => ⟨S_, .f32⟩
  | 73 => ⟨S1x1536, .f32⟩
  | 74 => ⟨S1x1536, .f32⟩
  | 75 => ⟨S1x1536, .f32⟩
  | 76 => ⟨S_, .f32⟩
  | 77 => ⟨S1x1536, .f32⟩
  | 78 => ⟨S1x1536, .f32⟩
  | 79 => ⟨S1x1536, .f32⟩
  | 80 => ⟨S_, .f32⟩
  | 81 => ⟨S1x1536, .f32⟩
  | 82 => ⟨S1x1536, .f32⟩
  | 83 => ⟨S_, .f32⟩
  | 84 => ⟨S1x1536, .f32⟩
  | 85 => ⟨S1x1536, .f32⟩
  | 86 => ⟨S1x1536, .f32⟩
  | 87 => ⟨S_, .f32⟩
  | 88 => ⟨S1x1536, .f32⟩
  | 89 => ⟨S1x1536, .f32⟩
  | 90 => ⟨S1x1536, .f32⟩
  | 91 => ⟨S_, .f32⟩
  | 92 => ⟨S1x1536, .f32⟩
  | 93 => ⟨S1x1536, .f32⟩
  | 94 => ⟨S1x1536, .f32⟩
  | 95 => ⟨S_, .f32⟩
  | 96 => ⟨S1x1536, .f32⟩
  | 97 => ⟨S1x1536, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S4x192, .f32⟩

abbrev hbmTy0_1 (i : Nat) : BufTy := match i % 128 with
  | 0 => ⟨S_, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x16, .f32⟩
  | 71 => ⟨S1x16, .f32⟩
  | 72 => ⟨S_, .f32⟩
  | 73 => ⟨S1x16, .f32⟩
  | 74 => ⟨S1x16, .f32⟩
  | 75 => ⟨S1x16, .f32⟩
  | 76 => ⟨S_, .f32⟩
  | 77 => ⟨S1x16, .f32⟩
  | 78 => ⟨S1x16, .f32⟩
  | 79 => ⟨S1x16, .f32⟩
  | 80 => ⟨S_, .f32⟩
  | 81 => ⟨S1x16, .f32⟩
  | 82 => ⟨S1x16, .f32⟩
  | 83 => ⟨S1x16, .f32⟩
  | 84 => ⟨S_, .f32⟩
  | 85 => ⟨S1x16, .f32⟩
  | 86 => ⟨S1x16, .f32⟩
  | 87 => ⟨S_, .f32⟩
  | 88 => ⟨S1x16, .f32⟩
  | 89 => ⟨S1x16, .f32⟩
  | 90 => ⟨S1x16, .f32⟩
  | 91 => ⟨S_, .f32⟩
  | 92 => ⟨S1x16, .f32⟩
  | 93 => ⟨S1x16, .f32⟩
  | 94 => ⟨S1x16, .f32⟩
  | 95 => ⟨S_, .f32⟩
  | 96 => ⟨S1x16, .f32⟩
  | 97 => ⟨S1x16, .f32⟩
  | 98 => ⟨S1x16, .f32⟩
  | 99 => ⟨S_, .f32⟩
  | 100 => ⟨S1x16, .f32⟩
  | 101 => ⟨S1x16, .f32⟩
  | 102 => ⟨S_, .f32⟩
  | 103 => ⟨S1x16, .f32⟩
  | 104 => ⟨S1x16, .f32⟩
  | 105 => ⟨S_, .f32⟩
  | 106 => ⟨S1x16, .f32⟩
  | 107 => ⟨S1x16, .f32⟩
  | 108 => ⟨S1x16, .f32⟩
  | 109 => ⟨S_, .f32⟩
  | 110 => ⟨S1x16, .f32⟩
  | 111 => ⟨S1x16, .f32⟩
  | 112 => ⟨S1x16, .f32⟩
  | 113 => ⟨S_, .f32⟩
  | 114 => ⟨S1x16, .f32⟩
  | 115 => ⟨S1x16, .f32⟩
  | 116 => ⟨S1x16, .f32⟩
  | 117 => ⟨S_, .f32⟩
  | 118 => ⟨S1x16, .f32⟩
  | 119 => ⟨S1x16, .f32⟩
  | 120 => ⟨S_, .f32⟩
  | 121 => ⟨S1x16, .f32⟩
  | 122 => ⟨S1x16, .f32⟩
  | 123 => ⟨S1x16, .f32⟩
  | 124 => ⟨S_, .f32⟩
  | 125 => ⟨S1x16, .f32⟩
  | 126 => ⟨S1x16, .f32⟩
  | 127 => ⟨S1x16, .f32⟩
  | _ => ⟨S4x192, .f32⟩

abbrev hbmTy0_2 (i : Nat) : BufTy := match i % 128 with
  | 0 => ⟨S_, .f32⟩
  | 1 => ⟨S1x16, .f32⟩
  | 2 => ⟨S1x16, .f32⟩
  | 3 => ⟨S1x16, .f32⟩
  | 4 => ⟨S_, .f32⟩
  | 5 => ⟨S1x16, .f32⟩
  | 6 => ⟨S1x16, .f32⟩
  | 7 => ⟨S_, .f32⟩
  | 8 => ⟨S1x16, .f32⟩
  | 9 => ⟨S1x16, .f32⟩
  | 10 => ⟨S_, .f32⟩
  | 11 => ⟨S1x16, .f32⟩
  | 12 => ⟨S1x16, .f32⟩
  | 13 => ⟨S1x16, .f32⟩
  | 14 => ⟨S_, .f32⟩
  | 15 => ⟨S1x16, .f32⟩
  | 16 => ⟨S1x16, .f32⟩
  | 17 => ⟨S1x16, .f32⟩
  | 18 => ⟨S_, .f32⟩
  | 19 => ⟨S1x16, .f32⟩
  | 20 => ⟨S1x16, .f32⟩
  | 21 => ⟨S1x16, .f32⟩
  | 22 => ⟨S_, .f32⟩
  | 23 => ⟨S1x16, .f32⟩
  | 24 => ⟨S1x16, .f32⟩
  | 25 => ⟨S_, .f32⟩
  | 26 => ⟨S1x16, .f32⟩
  | 27 => ⟨S1x16, .f32⟩
  | 28 => ⟨S1x16, .f32⟩
  | 29 => ⟨S_, .f32⟩
  | 30 => ⟨S1x16, .f32⟩
  | 31 => ⟨S1x16, .f32⟩
  | 32 => ⟨S1x16, .f32⟩
  | 33 => ⟨S_, .f32⟩
  | 34 => ⟨S1x16, .f32⟩
  | 35 => ⟨S1x16, .f32⟩
  | 36 => ⟨S1x16, .f32⟩
  | 37 => ⟨S_, .f32⟩
  | 38 => ⟨S1x16, .f32⟩
  | 39 => ⟨S1x16, .f32⟩
  | _ => ⟨S4x192, .f32⟩

abbrev hbmTy (i : Nat) : BufTy := match i / 128 with
  | 0 => hbmTy0_0 i
  | 1 => hbmTy0_1 i
  | 2 => hbmTy0_2 i
  | _ => ⟨S4x192, .f32⟩

abbrev bufTy : (tb : Table) → Fin (tcTables nBuf tb) → BufTy
  | .hbm, ⟨i, _⟩ => hbmTy i
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel8.lean ====
abbrev S8x16x1536 : Shape := ⟨3, ![8, 16, 1536]⟩
abbrev S8x8x1024 : Shape := ⟨3, ![8, 8, 1024]⟩
abbrev S16x1536 : Shape := ⟨2, ![16, 1536]⟩
abbrev S1x16x1536 : Shape := ⟨3, ![1, 16, 1536]⟩
abbrev S1x8x1024 : Shape := ⟨3, ![1, 8, 1024]⟩
abbrev S8x1024 : Shape := ⟨2, ![8, 1024]⟩
abbrev S1x1024 : Shape := ⟨2, ![1, 1024]⟩
abbrev S1024x128 : Shape := ⟨2, ![1024, 128]⟩
abbrev S8x128 : Shape := ⟨2, ![8, 128]⟩
abbrev S1 : Shape := ⟨1, ![1]⟩
abbrev S1x1 : Shape := ⟨2, ![1, 1]⟩
abbrev S_ : Shape := ⟨0, ![]⟩
abbrev S4x1536 : Shape := ⟨2, ![4, 1536]⟩
abbrev S1x1536 : Shape := ⟨2, ![1, 1536]⟩
abbrev S1x16 : Shape := ⟨2, ![1, 16]⟩

abbrev nBuf : Space → Nat
  | .hbm => 13
  | .vmem => 3
  | .smem => 0
  | _ => 0

abbrev bufTy : (tb : Table) → Fin (tcTables nBuf tb) → BufTy
  | .hbm, ⟨0, _⟩ => ⟨S8x16x1536, .f32⟩
  | .hbm, ⟨1, _⟩ => ⟨S8x8x1024, .f32⟩
  | .hbm, ⟨2, _⟩ => ⟨S16x1536, .f32⟩
  | .hbm, ⟨3, _⟩ => ⟨S1x1, .f32⟩
  | .hbm, ⟨4, _⟩ => ⟨S_, .f32⟩
  | .hbm, ⟨5, _⟩ => ⟨S1x1024, .f32⟩
  | .hbm, ⟨6, _⟩ => ⟨S4x1536, .f32⟩
  | .hbm, ⟨7, _⟩ => ⟨S1x1536, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S1x1024, .f32⟩
  | .hbm, ⟨12, _⟩ => ⟨S1x1024, .f32⟩
  | .local _ .vmem, ⟨0, _⟩ => ⟨S8x16x1536, .f32⟩
  | .local _ .vmem, ⟨1, _⟩ => ⟨S8x8x1024, .f32⟩
  | .local _ .vmem, ⟨2, _⟩ => ⟨S16x1536, .f32⟩
  | _, _ => ⟨S8x16x1536, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference8Ideal.lean ====
abbrev S8x16x1536 : Shape := ⟨3, ![8, 16, 1536]⟩
abbrev S8x8x1024 : Shape := ⟨3, ![8, 8, 1024]⟩
abbrev S_ : Shape := ⟨0, ![]⟩
abbrev S16x1536 : Shape := ⟨2, ![16, 1536]⟩
abbrev S2x1024 : Shape := ⟨2, ![2, 1024]⟩
abbrev S2x16x64 : Shape := ⟨3, ![2, 16, 64]⟩
abbrev S2x16 : Shape := ⟨2, ![2, 16]⟩
abbrev S1x1024 : Shape := ⟨2, ![1, 1024]⟩
abbrev S1024 : Shape := ⟨1, ![1024]⟩
abbrev S8x1x1024 : Shape := ⟨3, ![8, 1, 1024]⟩
abbrev S4x1536 : Shape := ⟨2, ![4, 1536]⟩
abbrev S1x1536 : Shape := ⟨2, ![1, 1536]⟩
abbrev S1x16 : Shape := ⟨2, ![1, 16]⟩

abbrev nBuf : Space → Nat
  | .hbm => 27
  | .vmem => 0
  | .smem => 0
  | _ => 0

abbrev bufTy : (tb : Table) → Fin (tcTables nBuf tb) → BufTy
  | .hbm, ⟨0, _⟩ => ⟨S8x16x1536, .f32⟩
  | .hbm, ⟨1, _⟩ => ⟨S8x8x1024, .f32⟩
  | .hbm, ⟨2, _⟩ => ⟨S_, .f32⟩
  | .hbm, ⟨3, _⟩ => ⟨S16x1536, .f32⟩
  | .hbm, ⟨4, _⟩ => ⟨S2x1024, .f32⟩
  | .hbm, ⟨5, _⟩ => ⟨S2x16x64, .f32⟩
  | .hbm, ⟨6, _⟩ => ⟨S_, .f32⟩
  | .hbm, ⟨7, _⟩ => ⟨S2x16, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x1x1024, .f32⟩
  | .hbm, ⟨18, _⟩ => ⟨S_, .f32⟩
  | .hbm, ⟨19, _⟩ => ⟨S1x1024, .f32⟩
  | .hbm, ⟨20, _⟩ => ⟨S4x1536, .f32⟩
  | .hbm, ⟨21, _⟩ => ⟨S1x1536, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x1024, .f32⟩
  | .hbm, ⟨26, _⟩ => ⟨S1x1024, .f32⟩
  | _, _ => ⟨S8x16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel9.lean ====
abbrev S8x834x1024 : Shape := ⟨3, ![8, 834, 1024]⟩
abbrev S7168x1024 : Shape := ⟨2, ![7168, 1024]⟩
abbrev S8x834x256 : Shape := ⟨3, ![8, 834, 256]⟩
abbrev S7168x256 : Shape := ⟨2, ![7168, 256]⟩
abbrev S1x834x256 : Shape := ⟨3, ![1, 834, 256]⟩
abbrev S834x256 : Shape := ⟨2, ![834, 256]⟩
abbrev S496x256 : Shape := ⟨2, ![496, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x834x1024, .bf16⟩
  | .hbm, ⟨1, _⟩ => ⟨S7168x1024, .bf16⟩
  | .local _ .vmem, ⟨0, _⟩ => ⟨S8x834x256, .bf16⟩
  | .local _ .vmem, ⟨1, _⟩ => ⟨S8x834x256, .bf16⟩
  | .local _ .vmem, ⟨2, _⟩ => ⟨S7168x256, .bf16⟩
  | .local _ .vmem, ⟨3, _⟩ => ⟨S7168x256, .bf16⟩
  | _, _ => ⟨S8x834x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x834x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9.lean ====
abbrev S8x834x1024 : Shape := ⟨3, ![8, 834, 1024]⟩
abbrev S6672x1024 : Shape := ⟨2, ![6672, 1024]⟩
abbrev S_ : Shape := ⟨0, ![]⟩
abbrev S496x1024 : Shape := ⟨2, ![496, 1024]⟩
abbrev S7168x1024 : Shape := ⟨2, ![7168, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x834x1024, .bf16⟩
  | .hbm, ⟨1, _⟩ => ⟨S6672x1024, .bf16⟩
  | .hbm, ⟨2, _⟩ => ⟨S_, .bf16⟩
  | .hbm, ⟨3, _⟩ => ⟨S496x1024, .bf16⟩
  | .hbm, ⟨4, _⟩ => ⟨S7168x1024, .bf16⟩
  | _, _ => ⟨S8x834x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S7168x1024 : Shape := ⟨2, ![7168, 1024]⟩
abbrev S4x834x1024 : Shape := ⟨3, ![4, 834, 1024]⟩
abbrev S7168x128 : Shape := ⟨2, ![7168, 128]⟩
abbrev S4x834x128 : Shape := ⟨3, ![4, 834, 128]⟩
abbrev S834x128 : Shape := ⟨2, ![834, 128]⟩
abbrev S1x834x128 : Shape := ⟨3, ![1, 834, 128]⟩

abbrev nBuf : Space → Nat
  | .hbm => 3
  | .vmem => 6
  | .smem => 0
  | _ => 0

abbrev bufTy : (tb : Table) → Fin (tcTables nBuf tb) → BufTy
  | .hbm, ⟨0, _⟩ => ⟨S7168x1024, .f32⟩
  | .hbm, ⟨1, _⟩ => ⟨S7168x1024, .f32⟩
  | .hbm, ⟨2, _⟩ => ⟨S4x834x1024, .bf16⟩
  | .local _ .vmem, ⟨0, _⟩ => ⟨S7168x128, .f32⟩
  | .local _ .vmem, ⟨1, _⟩ => ⟨S7168x128, .f32⟩
  | .local _ .vmem, ⟨2, _⟩ => ⟨S7168x128, .f32⟩
  | .local _ .vmem, ⟨3, _⟩ => ⟨S7168x128, .f32⟩
  | .local _ .vmem, ⟨4, _⟩ => ⟨S4x834x128, .bf16⟩
  | .local _ .vmem, ⟨5, _⟩ => ⟨S4x834x128, .bf16⟩
  | _, _ => ⟨S7168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S7168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x834x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10.lean ====
abbrev S7168x1024 : Shape := ⟨2, ![7168, 1024]⟩
abbrev S6672x1024 : Shape := ⟨2, ![6672, 1024]⟩
abbrev S4x2x834x1024 : Shape := ⟨4, ![4, 2, 834, 1024]⟩
abbrev S4x1x834x1024 : Shape := ⟨4, ![4, 1, 834, 1024]⟩
abbrev S4x834x1024 : Shape := ⟨3, ![4, 834, 1024]⟩

abbrev nBuf : Space → Nat
  | .hbm => 8
  | .vmem => 0
  | .smem => 0
  | _ => 0

abbrev bufTy : (tb : Table) → Fin (tcTables nBuf tb) → BufTy
  | .hbm, ⟨0, _⟩ => ⟨S7168x1024, .f32⟩
  | .hbm, ⟨1, _⟩ => ⟨S7168x1024, .f32⟩
  | .hbm, ⟨2, _⟩ => ⟨S7168x1024, .f32⟩
  | .hbm, ⟨3, _⟩ => ⟨S6672x1024, .f32⟩
  | .hbm, ⟨4, _⟩ => ⟨S4x2x834x1024, .f32⟩
  | .hbm, ⟨5, _⟩ => ⟨S4x1x834x1024, .f32⟩
  | .hbm, ⟨6, _⟩ => ⟨S4x834x1024, .f32⟩
  | .hbm, ⟨7, _⟩ => ⟨S4x834x1024, .bf16⟩
  | _, _ => ⟨S7168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S4096x7168 : Shape := ⟨2, ![4096, 7168]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S1x128 : Shape := ⟨2, ![1, 128]⟩
abbrev S1x16x64 : Shape := ⟨3, ![1, 16, 64]⟩
abbrev S4096x1024 : Shape := ⟨2, ![4096, 1024]⟩
abbrev S32x128x1024 : Shape := ⟨3, ![32, 128, 1024]⟩
abbrev S4096x1536 : Shape := ⟨2, ![4096, 1536]⟩
abbrev S256x1024 : Shape := ⟨2, ![256, 1024]⟩
abbrev S256x512 : Shape := ⟨2, ![256, 512]⟩
abbrev S8x1024 : Shape := ⟨2, ![8, 1024]⟩
abbrev S8x512 : Shape := ⟨2, ![8, 512]⟩
abbrev S256x128 : Shape := ⟨2, ![256, 128]⟩
abbrev S2x128x1024 : Shape := ⟨3, ![2, 128, 1024]⟩
abbrev S256x1536 : Shape := ⟨2, ![256, 1536]⟩
abbrev S128x1024 : Shape := ⟨2, ![128, 1024]⟩
abbrev S136x1536 : Shape := ⟨2, ![136, 1536]⟩
abbrev S128x2048 : Shape := ⟨2, ![128, 2048]⟩
abbrev S128x512 : Shape := ⟨2, ![128, 512]⟩
abbrev S128x1536 : Shape := ⟨2, ![128, 1536]⟩
abbrev S128x128 : Shape := ⟨2, ![128, 128]⟩
abbrev S128x384 : Shape := ⟨2, ![128, 384]⟩
abbrev S384x2048 : Shape := ⟨2, ![384, 2048]⟩
abbrev S1x128x1024 : Shape := ⟨3, ![1, 128, 1024]⟩
abbrev S128 : Shape := ⟨1, ![128]⟩
abbrev S128x1 : Shape := ⟨2, ![128, 1]⟩
abbrev S1x512 : Shape := ⟨2, ![1, 512]⟩

abbrev nBuf : Space → Nat
  | .hbm => 21
  | .vmem => 33
  | .smem => 0
  | _ => 0

abbrev bufTy : (tb : Table) → Fin (tcTables nBuf tb) → BufTy
  | .hbm, ⟨0, _⟩ => ⟨S4096x7168, .f32⟩
  | .hbm, ⟨1, _⟩ => ⟨S4x1536, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x16x64, .f32⟩
  | .hbm, ⟨14, _⟩ => ⟨S1x1024, .f32⟩
  | .hbm, ⟨15, _⟩ => ⟨S1x16x64, .f32⟩
  | .hbm, ⟨16, _⟩ => ⟨S1x1024, .f32⟩
  | .hbm, ⟨17, _⟩ => ⟨S4096x1024, .bf16⟩
  | .hbm, ⟨18, _⟩ => ⟨S4096x1024, .f32⟩
  | .hbm, ⟨19, _⟩ => ⟨S32x128x1024, .f32⟩
  | .hbm, ⟨20, _⟩ => ⟨S4096x1536, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S8x1024, .f32⟩
  | .local _ .vmem, ⟨5, _⟩ => ⟨S8x1024, .f32⟩
  | .local _ .vmem, ⟨6, _⟩ => ⟨S8x512, .f32⟩
  | .local _ .vmem, ⟨7, _⟩ => ⟨S8x512, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S4x1536, .f32⟩
  | .local _ .vmem, ⟨13, _⟩ => ⟨S1x1536, .f32⟩
  | .local _ .vmem, ⟨14, _⟩ => ⟨S1x128, .f32⟩
  | .local _ .vmem, ⟨15, _⟩ => ⟨S1x128, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S2x128x1024, .f32⟩
  | .local _ .vmem, ⟨24, _⟩ => ⟨S2x128x1024, .f32⟩
  | .local _ .vmem, ⟨25, _⟩ => ⟨S256x1536, .f32⟩
  | .local _ .vmem, ⟨26, _⟩ => ⟨S256x1536, .f32⟩
  | .local _ .vmem, ⟨27, _⟩ => ⟨S128x1024, .f32⟩
  | .local _ .vmem, ⟨28, _⟩ => ⟨S136x1536, .f32⟩
  | .local _ .vmem, ⟨29, _⟩ => ⟨S136x1536, .f32⟩
  | .local _ .vmem, ⟨30, _⟩ => ⟨S128x1024, .f32⟩
  | .local _ .vmem, ⟨31, _⟩ => ⟨S128x1024, .f32⟩
  | .local _ .vmem, ⟨32, _⟩ => ⟨S128x2048, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_3 (i : grid0.Coords) : Fin 2 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_4 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference11Ideal.lean ====
abbrev S4096x7168 : Shape := ⟨2, ![4096, 7168]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S4096x1024 : Shape := ⟨2, ![4096, 1024]⟩
abbrev S4096x1536 : Shape := ⟨2, ![4096, 1536]⟩
abbrev S4096x16 : Shape := ⟨2, ![4096, 16]⟩
abbrev S1536 : Shape := ⟨1, ![1536]⟩
abbrev S_ : Shape := ⟨0, ![]⟩
abbrev S4099x1536 : Shape := ⟨2, ![4099, 1536]⟩
abbrev S4096x16x64 : Shape := ⟨3, ![4096, 16, 64]⟩
abbrev S4096x256 : Shape := ⟨2, ![4096, 256]⟩
abbrev S4096x2x128 : Shape := ⟨3, ![4096, 2, 128]⟩
abbrev S16 : Shape := ⟨1, ![16]⟩
abbrev S4096x16x1 : Shape := ⟨3, ![4096, 16, 1]⟩
abbrev S32x128x2x8x64 : Shape := ⟨5, ![32, 128, 2, 8, 64]⟩
abbrev S32x128x2x8 : Shape := ⟨4, ![32, 128, 2, 8]⟩
abbrev S2x8x32x128 : Shape := ⟨4, ![2, 8, 32, 128]⟩
abbrev S32x128x2x128 : Shape := ⟨4, ![32, 128, 2, 128]⟩
abbrev S128x128 : Shape := ⟨2, ![128, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x32 : Shape := ⟨3, ![2, 8, 32]⟩
abbrev S2x8x64x128 : Shape := ⟨4, ![2, 8, 64, 128]⟩
abbrev S32x2x8 : Shape := ⟨3, ![32, 2, 8]⟩
abbrev S0x2x8x64x128 : Shape := ⟨5, ![0, 2, 8, 64, 128]⟩
abbrev S0x2x8 : Shape := ⟨3, ![0, 2, 8]⟩
abbrev S1x2x8x64x128 : Shape := ⟨5, ![1, 2, 8, 64, 128]⟩
abbrev S1x2x8 : Shape := ⟨3, ![1, 2, 8]⟩
abbrev S2x8 : Shape := ⟨2, ![2, 8]⟩
abbrev S2x8x1x1 : Shape := ⟨4, ![2, 8, 1, 1]⟩
abbrev S16x2x8x64x128 : Shape := ⟨5, ![16, 2, 8, 64, 128]⟩
abbrev S16x1 : Shape := ⟨2, ![16, 1]⟩
abbrev S1x16x1 : Shape := ⟨3, ![1, 16, 1]⟩
abbrev S1024 : Shape := ⟨1, ![1024]⟩
abbrev S4096x2x512 : Shape := ⟨3, ![4096, 2, 512]⟩
abbrev S4096x2 : Shape := ⟨2, ![4096, 2]⟩
abbrev S4096x2x1 : Shape := ⟨3, ![4096, 2, 1]⟩
abbrev S32x128x1024 : Shape := ⟨3, ![32, 128, 1024]⟩

abbrev nBuf : Space → Nat
  | .hbm => 483
  | .vmem => 0
  | .smem => 0
  | _ => 0

abbrev hbmTy0_0 (i : Nat) : BufTy := match i % 128 with
  | 0 => ⟨S4096x7168, .f32⟩
  | 1 => ⟨S4x1536, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S4096x1024, .f32⟩
  | 8 => ⟨S4096x1536, .f32⟩
  | 9 => ⟨S4096x16, .f32⟩
  | 10 => ⟨S1536, .f32⟩
  | 11 => ⟨S_, .i32⟩
  | 12 => ⟨S_, .f32⟩
  | 13 => ⟨S4099x1536, .f32⟩
  | 14 => ⟨S4096x1536, .f32⟩
  | 15 => ⟨S1x1536, .f32⟩
  | 16 => ⟨S1536, .f32⟩
  | 17 => ⟨S1x1536, .f32⟩
  | 18 => ⟨S4096x1536, .f32⟩
  | 19 => ⟨S4096x1536, .f32⟩
  | 20 => ⟨S4096x1536, .f32⟩
  | 21 => ⟨S1x1536, .f32⟩
  | 22 => ⟨S1536, .f32⟩
  | 23 => ⟨S1x1536, .f32⟩
  | 24 => ⟨S4096x1536, .f32⟩
  | 25 => ⟨S4096x1536, .f32⟩
  | 26 => ⟨S4096x1536, .f32⟩
  | 27 => ⟨S4096x1536, .f32⟩
  | 28 => ⟨S1x1536, .f32⟩
  | 29 => ⟨S1536, .f32⟩
  | 30 => ⟨S1x1536, .f32⟩
  | 31 => ⟨S4096x1536, .f32⟩
  | 32 => ⟨S4096x1536, .f32⟩
  | 33 => ⟨S4096x1536, .f32⟩
  | 34 => ⟨S4096x1536, .f32⟩
  | 35 => ⟨S1x1536, .f32⟩
  | 36 => ⟨S1536, .f32⟩
  | 37 => ⟨S1x1536, .f32⟩
  | 38 => ⟨S4096x1536, .f32⟩
  | 39 => ⟨S4096x1536, .f32⟩
  | 40 => ⟨S4096x1536, .f32⟩
  | 41 => ⟨S1x1536, .f32⟩
  | 42 => ⟨S4096x1536, .f32⟩
  | 43 => ⟨S4096x1536, .f32⟩
  | 44 => ⟨S4096x1536, .f32⟩
  | 45 => ⟨S4096x1536, .f32⟩
  | 46 => ⟨S_, .f32⟩
  | 47 => ⟨S4096x1536, .f32⟩
  | 48 => ⟨S4096x1536, .f32⟩
  | 49 => ⟨S_, .f32⟩
  | 50 => ⟨S4096x1536, .f32⟩
  | 51 => ⟨S4096x1536, .f32⟩
  | 52 => ⟨S4096x1536, .f32⟩
  | 53 => ⟨S4096x1024, .f32⟩
  | 54 => ⟨S4096x16x64, .f32⟩
  | 55 => ⟨S4096x256, .f32⟩
  | 56 => ⟨S4096x2x128, .f32⟩
  | 57 => ⟨S4096x256, .f32⟩
  | 58 => ⟨S4096x2x128, .f32⟩
  | 59 => ⟨S16, .f32⟩
  | 60 => ⟨S1x16, .f32⟩
  | 61 => ⟨S4096x16, .f32⟩
  | 62 => ⟨S4096x16, .f32⟩
  | 63 => ⟨S_, .f32⟩
  | 64 => ⟨S4096x16, .f32⟩
  | 65 => ⟨S4096x16, .f32⟩
  | 66 => ⟨S4096x16, .f32⟩
  | 67 => ⟨S4096x16, .f32⟩
  | 68 => ⟨S4096x16, .i1⟩
  | 69 => ⟨S4096x16, .f32⟩
  | 70 => ⟨S4096x16, .f32⟩
  | 71 => ⟨S4096x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S16, .f32⟩
  | 78 => ⟨S16, .f32⟩
  | 79 => ⟨S16, .f32⟩
  | 80 => ⟨S4096x16x1, .f32⟩
  | 81 => ⟨S4096x16x64, .f32⟩
  | 82 => ⟨S4096x16x64, .f32⟩
  | 83 => ⟨S32x128x2x8x64, .f32⟩
  | 84 => ⟨S1x16, .f32⟩
  | 85 => ⟨S4096x16, .f32⟩
  | 86 => ⟨S4096x16, .f32⟩
  | 87 => ⟨S32x128x2x8, .f32⟩
  | 88 => ⟨S2x8x32x128, .f32⟩
  | 89 => ⟨S32x128x2x128, .f32⟩
  | 90 => ⟨S32x128x2x128, .f32⟩
  | 91 => ⟨S_, .f32⟩
  | 92 => ⟨S_, .f32⟩
  | 93 => ⟨S2x8x32x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S2x8x32x128x1, .f32⟩
  | 106 => ⟨S2x8x32x1x128, .f32⟩
  | 107 => ⟨S2x8x32x128x128, .f32⟩
  | 108 => ⟨S2x8x32x128x128, .f32⟩
  | 109 => ⟨S2x8x32x128x128, .f32⟩
  | 110 => ⟨S_, .f32⟩
  | 111 => ⟨S_, .f32⟩
  | 112 => ⟨S2x8x32x128x128, .i1⟩
  | 113 => ⟨S2x8x32x128x128, .f32⟩
  | 114 => ⟨S2x8x32x128x128, .f32⟩
  | 115 => ⟨S2x8x32x128x128, .f32⟩
  | 116 => ⟨S2x32x128x128, .f32⟩
  | 117 => ⟨S2x1x32x128x128, .f32⟩
  | 118 => ⟨S2x8x32x128x128, .f32⟩
  | 119 => ⟨S2x8x32x128x128, .f32⟩
  | 120 => ⟨S32x2x8x64x128, .f32⟩
  | 121 => ⟨S32x128x2x8x64, .f32⟩
  | 122 => ⟨S2x8x32x1, .f32⟩
  | 123 => ⟨S2x8x32x128, .f32⟩
  | 124 => ⟨S2x8x32x128, .f32⟩
  | 125 => ⟨S2x8x32x128, .f32⟩
  | 126 => ⟨S32x128x2x8, .f32⟩
  | 127 => ⟨S32x128x2x8x1, .f32⟩
  | _ => ⟨S4096x7168, .f32⟩

abbrev hbmTy0_1 (i : Nat) : BufTy := match i % 128 with
  | 0 => ⟨S32x128x2x8x64, .f32⟩
  | 1 => ⟨S32x128x2x8x64, .f32⟩
  | 2 => ⟨S32x2x8x64x128, .f32⟩
  | 3 => ⟨S2x8x32x1, .f32⟩
  | 4 => ⟨S2x8x32, .f32⟩
  | 5 => ⟨S2x8x32, .f32⟩
  | 6 => ⟨S_, .f32⟩
  | 7 => ⟨S2x8x64x128, .f32⟩
  | 8 => ⟨S32x2x8, .f32⟩
  | 9 => ⟨S0x2x8x64x128, .f32⟩
  | 10 => ⟨S32x2x8x64x128, .f32⟩
  | 11 => ⟨S0x2x8, .f32⟩
  | 12 => ⟨S32x2x8, .f32⟩
  | 13 => ⟨S_, .f32⟩
  | 14 => ⟨S0x2x8x64x128, .f32⟩
  | 15 => ⟨S1x2x8x64x128, .f32⟩
  | 16 => ⟨S2x8x64x128, .f32⟩
  | 17 => ⟨S1x2x8, .f32⟩
  | 18 => ⟨S2x8, .f32⟩
  | 19 => ⟨S2x8x1x1, .f32⟩
  | 20 => ⟨S2x8x64x128, .f32⟩
  | 21 => ⟨S2x8x64x128, .f32⟩
  | 22 => ⟨S2x8x64x128, .f32⟩
  | 23 => ⟨S1x2x8x64x128, .f32⟩
  | 24 => ⟨S2x8x64x128, .f32⟩
  | 25 => ⟨S1x2x8, .f32⟩
  | 26 => ⟨S2x8, .f32⟩
  | 27 => ⟨S2x8x1x1, .f32⟩
  | 28 => ⟨S2x8x64x128, .f32⟩
  | 29 => ⟨S2x8x64x128, .f32⟩
  | 30 => ⟨S2x8x64x128, .f32⟩
  | 31 => ⟨S1x2x8x64x128, .f32⟩
  | 32 => ⟨S2x8x64x128, .f32⟩
  | 33 => ⟨S1x2x8, .f32⟩
  | 34 => ⟨S2x8, .f32⟩
  | 35 => ⟨S2x8x1x1, .f32⟩
  | 36 => ⟨S2x8x64x128, .f32⟩
  | 37 => ⟨S2x8x64x128, .f32⟩
  | 38 => ⟨S2x8x64x128, .f32⟩
  | 39 => ⟨S1x2x8x64x128, .f32⟩
  | 40 => ⟨S2x8x64x128, .f32⟩
  | 41 => ⟨S1x2x8, .f32⟩
  | 42 => ⟨S2x8, .f32⟩
  | 43 => ⟨S2x8x1x1, .f32⟩
  | 44 => ⟨S2x8x64x128, .f32⟩
  | 45 => ⟨S2x8x64x128, .f32⟩
  | 46 => ⟨S2x8x64x128, .f32⟩
  | 47 => ⟨S1x2x8x64x128, .f32⟩
  | 48 => ⟨S2x8x64x128, .f32⟩
  | 49 => ⟨S1x2x8, .f32⟩
  | 50 => ⟨S2x8, .f32⟩
  | 51 => ⟨S2x8x1x1, .f32⟩
  | 52 => ⟨S2x8x64x128, .f32⟩
  | 53 => ⟨S2x8x64x128, .f32⟩
  | 54 => ⟨S2x8x64x128, .f32⟩
  | 55 => ⟨S1x2x8x64x128, .f32⟩
  | 56 => ⟨S2x8x64x128, .f32⟩
  | 57 => ⟨S1x2x8, .f32⟩
  | 58 => ⟨S2x8, .f32⟩
  | 59 => ⟨S2x8x1x1, .f32⟩
  | 60 => ⟨S2x8x64x128, .f32⟩
  | 61 => ⟨S2x8x64x128, .f32⟩
  | 62 => ⟨S2x8x64x128, .f32⟩
  | 63 => ⟨S1x2x8x64x128, .f32⟩
  | 64 => ⟨S2x8x64x128, .f32⟩
  | 65 => ⟨S1x2x8, .f32⟩
  | 66 => ⟨S2x8, .f32⟩
  | 67 => ⟨S2x8x1x1, .f32⟩
  | 68 => ⟨S2x8x64x128, .f32⟩
  | 69 => ⟨S2x8x64x128, .f32⟩
  | 70 => ⟨S2x8x64x128, .f32⟩
  | 71 => ⟨S1x2x8x64x128, .f32⟩
  | 72 => ⟨S2x8x64x128, .f32⟩
  | 73 => ⟨S1x2x8, .f32⟩
  | 74 => ⟨S2x8, .f32⟩
  | 75 => ⟨S2x8x1x1, .f32⟩
  | 76 => ⟨S2x8x64x128, .f32⟩
  | 77 => ⟨S2x8x64x128, .f32⟩
  | 78 => ⟨S2x8x64x128, .f32⟩
  | 79 => ⟨S1x2x8x64x128, .f32⟩
  | 80 => ⟨S2x8x64x128, .f32⟩
  | 81 => ⟨S1x2x8, .f32⟩
  | 82 => ⟨S2x8, .f32⟩
  | 83 => ⟨S2x8x1x1, .f32⟩
  | 84 => ⟨S2x8x64x128, .f32⟩
  | 85 => ⟨S2x8x64x128, .f32⟩
  | 86 => ⟨S2x8x64x128, .f32⟩
  | 87 => ⟨S1x2x8x64x128, .f32⟩
  | 88 => ⟨S2x8x64x128, .f32⟩
  | 89 => ⟨S1x2x8, .f32⟩
  | 90 => ⟨S2x8, .f32⟩
  | 91 => ⟨S2x8x1x1, .f32⟩
  | 92 => ⟨S2x8x64x128, .f32⟩
  | 93 => ⟨S2x8x64x128, .f32⟩
  | 94 => ⟨S2x8x64x128, .f32⟩
  | 95 => ⟨S1x2x8x64x128, .f32⟩
  | 96 => ⟨S2x8x64x128, .f32⟩
  | 97 => ⟨S1x2x8, .f32⟩
  | 98 => ⟨S2x8, .f32⟩
  | 99 => ⟨S2x8x1x1, .f32⟩
  | 100 => ⟨S2x8x64x128, .f32⟩
  | 101 => ⟨S2x8x64x128, .f32⟩
  | 102 => ⟨S2x8x64x128, .f32⟩
  | 103 => ⟨S1x2x8x64x128, .f32⟩
  | 104 => ⟨S2x8x64x128, .f32⟩
  | 105 => ⟨S1x2x8, .f32⟩
  | 106 => ⟨S2x8, .f32⟩
  | 107 => ⟨S2x8x1x1, .f32⟩
  | 108 => ⟨S2x8x64x128, .f32⟩
  | 109 => ⟨S2x8x64x128, .f32⟩
  | 110 => ⟨S2x8x64x128, .f32⟩
  | 111 => ⟨S1x2x8x64x128, .f32⟩
  | 112 => ⟨S2x8x64x128, .f32⟩
  | 113 => ⟨S1x2x8, .f32⟩
  | 114 => ⟨S2x8, .f32⟩
  | 115 => ⟨S2x8x1x1, .f32⟩
  | 116 => ⟨S2x8x64x128, .f32⟩
  | 117 => ⟨S2x8x64x128, .f32⟩
  | 118 => ⟨S2x8x64x128, .f32⟩
  | 119 => ⟨S1x2x8x64x128, .f32⟩
  | 120 => ⟨S2x8x64x128, .f32⟩
  | 121 => ⟨S1x2x8, .f32⟩
  | 122 => ⟨S2x8, .f32⟩
  | 123 => ⟨S2x8x1x1, .f32⟩
  | 124 => ⟨S2x8x64x128, .f32⟩
  | 125 => ⟨S2x8x64x128, .f32⟩
  | 126 => ⟨S2x8x64x128, .f32⟩
  | 127 => ⟨S1x2x8x64x128, .f32⟩
  | _ => ⟨S4096x7168, .f32⟩

abbrev hbmTy0_2 (i : Nat) : BufTy := match i % 128 with
  | 0 => ⟨S2x8x64x128, .f32⟩
  | 1 => ⟨S1x2x8, .f32⟩
  | 2 => ⟨S2x8, .f32⟩
  | 3 => ⟨S2x8x1x1, .f32⟩
  | 4 => ⟨S2x8x64x128, .f32⟩
  | 5 => ⟨S2x8x64x128, .f32⟩
  | 6 => ⟨S2x8x64x128, .f32⟩
  | 7 => ⟨S1x2x8x64x128, .f32⟩
  | 8 => ⟨S2x8x64x128, .f32⟩
  | 9 => ⟨S1x2x8, .f32⟩
  | 10 => ⟨S2x8, .f32⟩
  | 11 => ⟨S2x8x1x1, .f32⟩
  | 12 => ⟨S2x8x64x128, .f32⟩
  | 13 => ⟨S2x8x64x128, .f32⟩
  | 14 => ⟨S2x8x64x128, .f32⟩
  | 15 => ⟨S1x2x8x64x128, .f32⟩
  | 16 => ⟨S2x8x64x128, .f32⟩
  | 17 => ⟨S1x2x8, .f32⟩
  | 18 => ⟨S2x8, .f32⟩
  | 19 => ⟨S2x8x1x1, .f32⟩
  | 20 => ⟨S2x8x64x128, .f32⟩
  | 21 => ⟨S2x8x64x128, .f32⟩
  | 22 => ⟨S2x8x64x128, .f32⟩
  | 23 => ⟨S1x2x8x64x128, .f32⟩
  | 24 => ⟨S2x8x64x128, .f32⟩
  | 25 => ⟨S1x2x8, .f32⟩
  | 26 => ⟨S2x8, .f32⟩
  | 27 => ⟨S2x8x1x1, .f32⟩
  | 28 => ⟨S2x8x64x128, .f32⟩
  | 29 => ⟨S2x8x64x128, .f32⟩
  | 30 => ⟨S2x8x64x128, .f32⟩
  | 31 => ⟨S1x2x8x64x128, .f32⟩
  | 32 => ⟨S2x8x64x128, .f32⟩
  | 33 => ⟨S1x2x8, .f32⟩
  | 34 => ⟨S2x8, .f32⟩
  | 35 => ⟨S2x8x1x1, .f32⟩
  | 36 => ⟨S2x8x64x128, .f32⟩
  | 37 => ⟨S2x8x64x128, .f32⟩
  | 38 => ⟨S2x8x64x128, .f32⟩
  | 39 => ⟨S1x2x8x64x128, .f32⟩
  | 40 => ⟨S2x8x64x128, .f32⟩
  | 41 => ⟨S1x2x8, .f32⟩
  | 42 => ⟨S2x8, .f32⟩
  | 43 => ⟨S2x8x1x1, .f32⟩
  | 44 => ⟨S2x8x64x128, .f32⟩
  | 45 => ⟨S2x8x64x128, .f32⟩
  | 46 => ⟨S2x8x64x128, .f32⟩
  | 47 => ⟨S1x2x8x64x128, .f32⟩
  | 48 => ⟨S2x8x64x128, .f32⟩
  | 49 => ⟨S1x2x8, .f32⟩
  | 50 => ⟨S2x8, .f32⟩
  | 51 => ⟨S2x8x1x1, .f32⟩
  | 52 => ⟨S2x8x64x128, .f32⟩
  | 53 => ⟨S2x8x64x128, .f32⟩
  | 54 => ⟨S2x8x64x128, .f32⟩
  | 55 => ⟨S1x2x8x64x128, .f32⟩
  | 56 => ⟨S2x8x64x128, .f32⟩
  | 57 => ⟨S1x2x8, .f32⟩
  | 58 => ⟨S2x8, .f32⟩
  | 59 => ⟨S2x8x1x1, .f32⟩
  | 60 => ⟨S2x8x64x128, .f32⟩
  | 61 => ⟨S2x8x64x128, .f32⟩
  | 62 => ⟨S2x8x64x128, .f32⟩
  | 63 => ⟨S1x2x8x64x128, .f32⟩
  | 64 => ⟨S2x8x64x128, .f32⟩
  | 65 => ⟨S1x2x8, .f32⟩
  | 66 => ⟨S2x8, .f32⟩
  | 67 => ⟨S2x8x1x1, .f32⟩
  | 68 => ⟨S2x8x64x128, .f32⟩
  | 69 => ⟨S2x8x64x128, .f32⟩
  | 70 => ⟨S2x8x64x128, .f32⟩
  | 71 => ⟨S1x2x8x64x128, .f32⟩
  | 72 => ⟨S2x8x64x128, .f32⟩
  | 73 => ⟨S1x2x8, .f32⟩
  | 74 => ⟨S2x8, .f32⟩
  | 75 => ⟨S2x8x1x1, .f32⟩
  | 76 => ⟨S2x8x64x128, .f32⟩
  | 77 => ⟨S2x8x64x128, .f32⟩
  | 78 => ⟨S2x8x64x128, .f32⟩
  | 79 => ⟨S1x2x8x64x128, .f32⟩
  | 80 => ⟨S2x8x64x128, .f32⟩
  | 81 => ⟨S1x2x8, .f32⟩
  | 82 => ⟨S2x8, .f32⟩
  | 83 => ⟨S2x8x1x1, .f32⟩
  | 84 => ⟨S2x8x64x128, .f32⟩
  | 85 => ⟨S2x8x64x128, .f32⟩
  | 86 => ⟨S2x8x64x128, .f32⟩
  | 87 => ⟨S1x2x8x64x128, .f32⟩
  | 88 => ⟨S2x8x64x128, .f32⟩
  | 89 => ⟨S1x2x8, .f32⟩
  | 90 => ⟨S2x8, .f32⟩
  | 91 => ⟨S2x8x1x1, .f32⟩
  | 92 => ⟨S2x8x64x128, .f32⟩
  | 93 => ⟨S2x8x64x128, .f32⟩
  | 94 => ⟨S2x8x64x128, .f32⟩
  | 95 => ⟨S1x2x8x64x128, .f32⟩
  | 96 => ⟨S2x8x64x128, .f32⟩
  | 97 => ⟨S1x2x8, .f32⟩
  | 98 => ⟨S2x8, .f32⟩
  | 99 => ⟨S2x8x1x1, .f32⟩
  | 100 => ⟨S2x8x64x128, .f32⟩
  | 101 => ⟨S2x8x64x128, .f32⟩
  | 102 => ⟨S2x8x64x128, .f32⟩
  | 103 => ⟨S1x2x8x64x128, .f32⟩
  | 104 => ⟨S2x8x64x128, .f32⟩
  | 105 => ⟨S1x2x8, .f32⟩
  | 106 => ⟨S2x8, .f32⟩
  | 107 => ⟨S2x8x1x1, .f32⟩
  | 108 => ⟨S2x8x64x128, .f32⟩
  | 109 => ⟨S2x8x64x128, .f32⟩
  | 110 => ⟨S2x8x64x128, .f32⟩
  | 111 => ⟨S1x2x8x64x128, .f32⟩
  | 112 => ⟨S2x8x64x128, .f32⟩
  | 113 => ⟨S1x2x8, .f32⟩
  | 114 => ⟨S2x8, .f32⟩
  | 115 => ⟨S2x8x1x1, .f32⟩
  | 116 => ⟨S2x8x64x128, .f32⟩
  | 117 => ⟨S2x8x64x128, .f32⟩
  | 118 => ⟨S2x8x64x128, .f32⟩
  | 119 => ⟨S1x2x8x64x128, .f32⟩
  | 120 => ⟨S2x8x64x128, .f32⟩
  | 121 => ⟨S1x2x8, .f32⟩
  | 122 => ⟨S2x8, .f32⟩
  | 123 => ⟨S2x8x1x1, .f32⟩
  | 124 => ⟨S2x8x64x128, .f32⟩
  | 125 => ⟨S2x8x64x128, .f32⟩
  | 126 => ⟨S2x8x64x128, .f32⟩
  | 127 => ⟨S1x2x8x64x128, .f32⟩
  | _ => ⟨S4096x7168, .f32⟩

abbrev hbmTy0_3 (i : Nat) : BufTy := match i % 128 with
  | 0 => ⟨S2x8x64x128, .f32⟩
  | 1 => ⟨S1x2x8, .f32⟩
  | 2 => ⟨S2x8, .f32⟩
  | 3 => ⟨S2x8x1x1, .f32⟩
  | 4 => ⟨S2x8x64x128, .f32⟩
  | 5 => ⟨S2x8x64x128, .f32⟩
  | 6 => ⟨S2x8x64x128, .f32⟩
  | 7 => ⟨S1x2x8x64x128, .f32⟩
  | 8 => ⟨S2x8x64x128, .f32⟩
  | 9 => ⟨S1x2x8, .f32⟩
  | 10 => ⟨S2x8, .f32⟩
  | 11 => ⟨S2x8x1x1, .f32⟩
  | 12 => ⟨S2x8x64x128, .f32⟩
  | 13 => ⟨S2x8x64x128, .f32⟩
  | 14 => ⟨S2x8x64x128, .f32⟩
  | 15 => ⟨S1x2x8x64x128, .f32⟩
  | 16 => ⟨S1x2x8x64x128, .f32⟩
  | 17 => ⟨S1x2x8x64x128, .f32⟩
  | 18 => ⟨S1x2x8x64x128, .f32⟩
  | 19 => ⟨S1x2x8x64x128, .f32⟩
  | 20 => ⟨S1x2x8x64x128, .f32⟩
  | 21 => ⟨S1x2x8x64x128, .f32⟩
  | 22 => ⟨S1x2x8x64x128, .f32⟩
  | 23 => ⟨S1x2x8x64x128, .f32⟩
  | 24 => ⟨S1x2x8x64x128, .f32⟩
  | 25 => ⟨S1x2x8x64x128, .f32⟩
  | 26 => ⟨S1x2x8x64x128, .f32⟩
  | 27 => ⟨S1x2x8x64x128, .f32⟩
  | 28 => ⟨S1x2x8x64x128, .f32⟩
  | 29 => ⟨S1x2x8x64x128, .f32⟩
  | 30 => ⟨S1x2x8x64x128, .f32⟩
  | 31 => ⟨S1x2x8x64x128, .f32⟩
  | 32 => ⟨S1x2x8x64x128, .f32⟩
  | 33 => ⟨S1x2x8x64x128, .f32⟩
  | 34 => ⟨S1x2x8x64x128, .f32⟩
  | 35 => ⟨S1x2x8x64x128, .f32⟩
  | 36 => ⟨S1x2x8x64x128, .f32⟩
  | 37 => ⟨S1x2x8x64x128, .f32⟩
  | 38 => ⟨S1x2x8x64x128, .f32⟩
  | 39 => ⟨S1x2x8x64x128, .f32⟩
  | 40 => ⟨S1x2x8x64x128, .f32⟩
  | 41 => ⟨S1x2x8x64x128, .f32⟩
  | 42 => ⟨S1x2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S16x2x8x64x128, .f32⟩
  | 48 => ⟨S16x2x8x64x128, .f32⟩
  | 49 => ⟨S32x2x8x64x128, .f32⟩
  | 50 => ⟨S32x2x8x64x128, .f32⟩
  | 51 => ⟨S32x2x8x64x128, .f32⟩
  | 52 => ⟨S32x128x2x8x64, .f32⟩
  | 53 => ⟨S2x8x32x128, .f32⟩
  | 54 => ⟨S32x128x2x8, .f32⟩
  | 55 => ⟨S32x128x2x8x1, .f32⟩
  | 56 => ⟨S32x128x2x8x64, .f32⟩
  | 57 => ⟨S32x128x2x8x64, .f32⟩
  | 58 => ⟨S32x128x2x8x64, .f32⟩
  | 59 => ⟨S4096x16x64, .f32⟩
  | 60 => ⟨S16, .f32⟩
  | 61 => ⟨S16x1, .f32⟩
  | 62 => ⟨S1x16x1, .f32⟩
  | 63 => ⟨S4096x16x64, .f32⟩
  | 64 => ⟨S4096x16x64, .f32⟩
  | 65 => ⟨S4096x16x64, .f32⟩
  | 66 => ⟨S4096x1024, .f32⟩
  | 67 => ⟨S1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S4096x2x512, .f32⟩
  | 79 => ⟨S4096x2x512, .f32⟩
  | 80 => ⟨S_, .f32⟩
  | 81 => ⟨S4096x2, .f32⟩
  | 82 => ⟨S4096x2x1, .f32⟩
  | 83 => ⟨S_, .f32⟩
  | 84 => ⟨S4096x2x1, .f32⟩
  | 85 => ⟨S4096x2x1, .f32⟩
  | 86 => ⟨S_, .f32⟩
  | 87 => ⟨S4096x2x1, .f32⟩
  | 88 => ⟨S4096x2x1, .f32⟩
  | 89 => ⟨S4096x2x1, .f32⟩
  | 90 => ⟨S4096x2x512, .f32⟩
  | 91 => ⟨S4096x2x512, .f32⟩
  | 92 => ⟨S4096x1024, .f32⟩
  | 93 => ⟨S1x1024, .f32⟩
  | 94 => ⟨S4096x1024, .f32⟩
  | 95 => ⟨S4096x1024, .f32⟩
  | 96 => ⟨S4096x1024, .bf16⟩
  | 97 => ⟨S32x128x2x8x64, .f32⟩
  | 98 => ⟨S32x128x1024, .f32⟩
  | _ => ⟨S4096x7168, .f32⟩

abbrev hbmTy (i : Nat) : BufTy := match i / 128 with
  | 0 => hbmTy0_0 i
  | 1 => hbmTy0_1 i
  | 2 => hbmTy0_2 i
  | 3 => hbmTy0_3 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call3_call0_cst : Ref sig .tc := ⟨.hbm, 91, rfl⟩
abbrev main_call3_call0_v0 : Ref sig .tc := ⟨.hbm, 92, rfl⟩
abbrev main_v61 : Ref sig .tc := ⟨.hbm, 93, rfl⟩
abbrev main_c_0 : Ref sig .tc := ⟨.hbm, 94, rfl⟩
abbrev main_v62 : Ref sig .tc := ⟨.hbm, 95, rfl⟩
abbrev main_call4_v0 : Ref sig .tc := ⟨.hbm, 96, rfl⟩
abbrev main_call4_c : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_0 : Ref sig .tc := ⟨.hbm, 102, rfl⟩
abbrev main_call4_v5 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_1 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_2 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_call6_v0 : Ref sig .tc := ⟨.hbm, 452, rfl⟩
abbrev main_call6_v1 : Ref sig .tc := ⟨.hbm, 453, rfl⟩
abbrev main_call6_cst : Ref sig .tc := ⟨.hbm, 454, rfl⟩
abbrev main_call6_v2 : Ref sig .tc := ⟨.hbm, 455, rfl⟩
abbrev main_call6_v3 : Ref sig .tc := ⟨.hbm, 456, rfl⟩
abbrev main_call6_cst_0 : Ref sig .tc := ⟨.hbm, 457, rfl⟩
abbrev main_call6_v4 : Ref sig .tc := ⟨.hbm, 458, rfl⟩
abbrev main_call6_v5 : Ref sig .tc := ⟨.hbm, 459, rfl⟩
abbrev main_v405 : Ref sig .tc := ⟨.hbm, 460, rfl⟩
abbrev main_v406 : Ref sig .tc := ⟨.hbm, 461, rfl⟩
abbrev main_v407 : Ref sig .tc := ⟨.hbm, 462, rfl⟩
abbrev main_v408 : Ref sig .tc := ⟨.hbm, 463, rfl⟩
abbrev main_cst_3 : Ref sig .tc := ⟨.hbm, 464, rfl⟩
abbrev main_v409 : Ref sig .tc := ⟨.hbm, 465, rfl⟩
abbrev main_v410 : Ref sig .tc := ⟨.hbm, 466, rfl⟩
abbrev main_cst_4 : Ref sig .tc := ⟨.hbm, 467, rfl⟩
abbrev main_v411 : Ref sig .tc := ⟨.hbm, 468, rfl⟩
abbrev main_v412 : Ref sig .tc := ⟨.hbm, 469, rfl⟩
abbrev main_cst_5 : Ref sig .tc := ⟨.hbm, 470, rfl⟩
abbrev main_v413 : Ref sig .tc := ⟨.hbm, 471, rfl⟩
abbrev main_v414 : Ref sig .tc := ⟨.hbm, 472, rfl⟩
abbrev main_v415 : Ref sig .tc := ⟨.hbm, 473, rfl⟩
abbrev main_v416 : Ref sig .tc := ⟨.hbm, 474, rfl⟩
abbrev main_v417 : Ref sig .tc := ⟨.hbm, 475, rfl⟩
abbrev main_v418 : Ref sig .tc := ⟨.hbm, 476, rfl⟩
abbrev main_v419 : Ref sig .tc := ⟨.hbm, 477, rfl⟩
abbrev main_v420 : Ref sig .tc := ⟨.hbm, 478, rfl⟩
abbrev main_v421 : Ref sig .tc := ⟨.hbm, 479, rfl⟩
abbrev main_v422 : Ref sig .tc := ⟨.hbm, 480, rfl⟩
abbrev main_v423 : Ref sig .tc := ⟨.hbm, 481, rfl⟩
abbrev main_v424 : Ref sig .tc := ⟨.hbm, 482, rfl⟩

abbrev nD : Nat := 1
abbrev τ : Topo := Topo.v7x

variable {F : FTy → Type} [FloatOps F]
-- ==== Proof.Blocks.lean ====
/-
  ARRAYS BY COORDINATES, and the sums a blocked product leaves.

  Every kernel of this certificate is a blocked product of matrices: an array is cut into blocks, each grid point
  multiplies one pair of blocks, and the products are added point by point. This module has the plain arithmetic the
  three value proofs share. `rd x a b` is the element of the matrix `x` at row `a` and column `b`, with `a` and `b`
  natural numbers (zero outside the matrix), so that "row `r` of block `k`" can be written `1024 * k + r` without
  carrying bounds. `sum_blocks` puts a sum over blocks of rows back together as one sum over all rows. `matmul_tn`,
  `matmul_nt` and `matmul_nn` read the three kinds of product used (left operand transposed, right operand transposed,
  none transposed) at one element of the result, over the extended reals.
-/
module

public import Idealize.ShloMosaic.PureOps.Ideal.Laws
public import Idealize.ShloMosaic.Lib.ValueIdx
public import Idealize.ShloMosaic.Lib.Pipeline.Value

@[expose] public section

noncomputable section

open scoped BigOperators

namespace Cert.Proof.Blocks

open Idealize.ShloMosaic Idealize.ShloMosaic.ValueIdx

/-! ## Elements by natural coordinates -/

/-- The element of a matrix at row `a`, column `b`; zero outside it. -/
def rd {n m : ℕ} (x : (⟨2, ![n, m]⟩ : Shape).Idx → EReal) (a b : ℕ) : EReal :=
  if h : a < n ∧ b < m then x (ix2 ⟨a, h.1⟩ ⟨b, h.2⟩) else 0

/-- An element read at an index is the element at the index's coordinates. -/
theorem eq_rd {n m : ℕ} (x : (⟨2, ![n, m]⟩ : Shape).Idx → EReal) (i : (⟨2, ![n, m]⟩ : Shape).Idx) {a b : ℕ}
    (ha : (i 0).val = a) (hb : (i 1).val = b) : x i = rd x a b := by
  subst ha hb
  have h : (i 0).val < n ∧ (i 1).val < m := ⟨idx2_lt0 i, idx2_lt1 i⟩
  rw [rd, dif_pos h]
  exact congrArg x (eq_ix2 i)

/-- Inside the matrix, `rd` is the element. -/
theorem rd_of_lt {n m : ℕ} (x : (⟨2, ![n, m]⟩ : Shape).Idx → EReal) {a b : ℕ} (ha : a < n) (hb : b < m) :
    rd x a b = x (ix2 ⟨a, ha⟩ ⟨b, hb⟩) := by
  rw [rd, dif_pos ⟨ha, hb⟩]

/-! ## Sums over blocks -/

/-- A sum over `a` blocks of `b` terms is the sum over all `a * b` terms. -/
theorem sum_blocks {M : Type*} [AddCommMonoid M] (f : ℕ → M) (b : ℕ) : ∀ a : ℕ,
    ∑ i ∈ Finset.range a, ∑ j : Fin b, f (b * i + j.val) = ∑ s : Fin (a * b), f s.val
  | 0 => by rw [Fin.sum_univ_eq_sum_range f (0 * b)]; simp
  | a + 1 => by
    rw [Finset.sum_range_succ, sum_blocks f b a, Fin.sum_univ_eq_sum_range f (a * b),
      Fin.sum_univ_eq_sum_range (fun j => f (b * a + j)) b, Fin.sum_univ_eq_sum_range f ((a + 1) * b), Nat.succ_mul,
      Finset.sum_range_add, Nat.mul_comm b a]

/-- The same with the number of terms named. -/
theorem sum_blocks' {M : Type*} [AddCommMonoid M] (f : ℕ → M) (a b n : ℕ) (h : a * b = n) :
    ∑ i ∈ Finset.range a, ∑ j : Fin b, f (b * i + j.val) = ∑ s : Fin n, f s.val := by
  subst h
  exact sum_blocks f b a

/-! ## The three kinds of product, at one element -/

section Products
variable {n0 n1 m0 m1 o0 o1 K : ℕ} (d : DotDims ⟨2, ![n0, n1]⟩ ⟨2, ![m0, m1]⟩ ⟨2, ![o0, o1]⟩) {φ₁ φ₂ : FTy}
    (A : (⟨2, ![n0, n1]⟩ : Shape).Idx → EReal) (B : (⟨2, ![m0, m1]⟩ : Shape).Idx → EReal)
    (hr : d.contr.rank = 1) (hs : d.contr.size ⟨0, Nat.lt_of_lt_of_eq Nat.one_pos hr.symm⟩ = K)

include hr hs

/-- The left operand transposed: rows of both operands are summed over. -/
theorem matmul_tn (hl0 : ∀ j q, (d.lhsIdx j q 0).val = (q ⟨0, Nat.lt_of_lt_of_eq Nat.one_pos hr.symm⟩).val) (hl1 : ∀ j q, (d.lhsIdx j q 1).val = (j 0).val)
    (hr0 : ∀ j q, (d.rhsIdx j q 0).val = (q ⟨0, Nat.lt_of_lt_of_eq Nat.one_pos hr.symm⟩).val) (hr1 : ∀ j q, (d.rhsIdx j q 1).val = (j 1).val)
    (j : (⟨2, ![o0, o1]⟩ : Shape).Idx) :
    (FloatOps.matmul (F := Ideal) (φ₁ := φ₁) (φ₂ := φ₂) d none A B (constant ⟨2, ![o0, o1]⟩ .f32 0x00000000#32) j : EReal)
      = ∑ k : Fin K, rd A k.val (j 0).val * rd B k.val (j 1).val := by
  rw [Ideal.matmul_constant_zero_apply, ← Equiv.sum_comp (contrEquiv1 d K hr hs).symm]
  refine Finset.sum_congr rfl fun k _ => ?_
  have hk := contrEquiv1_symm_val d K hr hs k
  exact congrArg₂ (· * ·) (eq_rd A _ ((hl0 _ _).trans hk) (hl1 _ _)) (eq_rd B _ ((hr0 _ _).trans hk) (hr1 _ _))

/-- The right operand transposed: columns of both operands are summed over. -/
theorem matmul_nt (hl0 : ∀ j q, (d.lhsIdx j q 0).val = (j 0).val) (hl1 : ∀ j q, (d.lhsIdx j q 1).val = (q ⟨0, Nat.lt_of_lt_of_eq Nat.one_pos hr.symm⟩).val)
    (hr0 : ∀ j q, (d.rhsIdx j q 0).val = (j 1).val) (hr1 : ∀ j q, (d.rhsIdx j q 1).val = (q ⟨0, Nat.lt_of_lt_of_eq Nat.one_pos hr.symm⟩).val)
    (j : (⟨2, ![o0, o1]⟩ : Shape).Idx) :
    (FloatOps.matmul (F := Ideal) (φ₁ := φ₁) (φ₂ := φ₂) d none A B (constant ⟨2, ![o0, o1]⟩ .f32 0x00000000#32) j : EReal)
      = ∑ k : Fin K, rd A (j 0).val k.val * rd B (j 1).val k.val := by
  rw [Ideal.matmul_constant_zero_apply, ← Equiv.sum_comp (contrEquiv1 d K hr hs).symm]
  refine Finset.sum_congr rfl fun k _ => ?_
  have hk := contrEquiv1_symm_val d K hr hs k
  exact congrArg₂ (· * ·) (eq_rd A _ (hl0 _ _) ((hl1 _ _).trans hk)) (eq_rd B _ (hr0 _ _) ((hr1 _ _).trans hk))

/-- Neither transposed: columns of the left operand and rows of the right are summed over. -/
theorem matmul_nn (hl0 : ∀ j q, (d.lhsIdx j q 0).val = (j 0).val) (hl1 : ∀ j q, (d.lhsIdx j q 1).val = (q ⟨0, Nat.lt_of_lt_of_eq Nat.one_pos hr.symm⟩).val)
    (hr0 : ∀ j q, (d.rhsIdx j q 0).val = (q ⟨0, Nat.lt_of_lt_of_eq Nat.one_pos hr.symm⟩).val) (hr1 : ∀ j q, (d.rhsIdx j q 1).val = (j 1).val)
    (j : (⟨2, ![o0, o1]⟩ : Shape).Idx) :
    (FloatOps.matmul (F := Ideal) (φ₁ := φ₁) (φ₂ := φ₂) d none A B (constant ⟨2, ![o0, o1]⟩ .f32 0x00000000#32) j : EReal)
      = ∑ k : Fin K, rd A (j 0).val k.val * rd B k.val (j 1).val := by
  rw [Ideal.matmul_constant_zero_apply, ← Equiv.sum_comp (contrEquiv1 d K hr hs).symm]
  refine Finset.sum_congr rfl fun k _ => ?_
  have hk := contrEquiv1_symm_val d K hr hs k
  exact congrArg₂ (· * ·) (eq_rd A _ (hl0 _ _) ((hl1 _ _).trans hk)) (eq_rd B _ ((hr0 _ _).trans hk) (hr1 _ _))

end Products

/-! ## Sums along one axis of a matrix, and one row or column repeated -/

/-- A sum along the rows, stood up as a column. -/
theorem rowsum {n m : ℕ} (src : (⟨2, ![n, m]⟩ : Shape).Idx → EReal) (acc : BitVec (FTy.bits .f32))
    (h : Shape.Reduces ⟨2, ![n, m]⟩ [1] ⟨1, ![n]⟩) (hφ : FKind.Formats .f32) (hacc : acc = FKind.add.neutral .f32 hφ)
    (hc : Shape.ShapeCasts ⟨1, ![n]⟩ ⟨2, ![n, 1]⟩) (i : (⟨2, ![n, 1]⟩ : Shape).Idx) :
    (shapeCast ⟨2, ![n, 1]⟩ (multiReduction (F := Ideal) .add [1] ⟨1, ![n]⟩ src acc h hφ hacc) hc i : EReal)
      = ∑ k : Fin m, rd src (i 0).val k.val := by
  have h1 : (i 1).val = 0 := by have := idx2_lt1 i; omega
  rw [shapeCast_apply _ hc i (ix1 ⟨(i 0).val, idx2_lt0 i⟩)
    (by rw [Shape.rowMajor_val_one, Shape.rowMajor_val_two]; show (i 0).val = (i 0).val * 1 + (i 1).val; omega)]
  refine (Ideal.multiReduction_add_single src acc h hφ hacc _).trans (Finset.sum_congr rfl fun k _ => ?_)
  exact eq_rd src _ rfl rfl

/-- A sum along the columns, laid down as a row. -/
theorem colsum {n m : ℕ} (src : (⟨2, ![n, m]⟩ : Shape).Idx → EReal) (acc : BitVec (FTy.bits .f32))
    (h : Shape.Reduces ⟨2, ![n, m]⟩ [0] ⟨1, ![m]⟩) (hφ : FKind.Formats .f32) (hacc : acc = FKind.add.neutral .f32 hφ)
    (hc : Shape.ShapeCasts ⟨1, ![m]⟩ ⟨2, ![1, m]⟩) (i : (⟨2, ![1, m]⟩ : Shape).Idx) :
    (shapeCast ⟨2, ![1, m]⟩ (multiReduction (F := Ideal) .add [0] ⟨1, ![m]⟩ src acc h hφ hacc) hc i : EReal)
      = ∑ k : Fin n, rd src k.val (i 1).val := by
  have h0 : (i 0).val = 0 := by have := idx2_lt0 i; omega
  rw [shapeCast_apply _ hc i (ix1 ⟨(i 1).val, idx2_lt1 i⟩)
    (by rw [Shape.rowMajor_val_one, Shape.rowMajor_val_two]; show (i 1).val = (i 0).val * m + (i 1).val; rw [h0]; omega)]
  refine (Ideal.multiReduction_add_single src acc h hφ hacc _).trans (Finset.sum_congr rfl fun k _ => ?_)
  exact eq_rd src _ rfl rfl

/-- A column repeated along the rows. -/
theorem bcol {n m : ℕ} (x : (⟨2, ![n, 1]⟩ : Shape).Idx → EReal) (h : Shape.Broadcasts ⟨2, ![n, 1]⟩ ⟨2, ![n, m]⟩)
    (i : (⟨2, ![n, m]⟩ : Shape).Idx) : broadcastTo ⟨2, ![n, m]⟩ x h i = x (ix2 ⟨(i 0).val, idx2_lt0 i⟩ 0) := by
  refine broadcastTo_apply x h i _ fun a => ?_
  match a with
  | ⟨0, _⟩ =>
    show (i 0).val = if n = 1 then 0 else (i 0).val
    split
    · have := idx2_lt0 i; omega
    · rfl
  | ⟨1, _⟩ => rfl

/-- A row repeated down the columns. -/
theorem brow {n m : ℕ} (x : (⟨2, ![1, m]⟩ : Shape).Idx → EReal) (h : Shape.Broadcasts ⟨2, ![1, m]⟩ ⟨2, ![n, m]⟩)
    (i : (⟨2, ![n, m]⟩ : Shape).Idx) : broadcastTo ⟨2, ![n, m]⟩ x h i = rd x 0 (i 1).val := by
  rw [broadcastTo_apply x h i (ix2 0 ⟨(i 1).val, idx2_lt1 i⟩) fun a => ?_]
  · exact eq_rd x _ rfl rfl
  · match a with
    | ⟨0, _⟩ => rfl
    | ⟨1, _⟩ =>
      show (i 1).val = if m = 1 then 0 else (i 1).val
      split
      · have := idx2_lt1 i; omega
      · rfl

/-- A block of a matrix, read at an element. -/
theorem rd_ld {n m p q : ℕ} (x : (⟨2, ![n, m]⟩ : Shape).Idx → EReal) (o : ℕ)
    (inb : ∀ a, (![o, 0] : Fin 2 → ℕ) a + (![p, q] : Fin 2 → ℕ) a ≤ (⟨2, ![n, m]⟩ : Shape).size a) {a b : ℕ} (ha : a < p) (hb : b < q) :
    rd (n := p) (m := q) (fun y => x ((Rect.unit (s := ⟨2, ![n, m]⟩) ![o, 0] ![p, q] inb).emb y)) a b = rd x (o + a) b := by
  rw [rd_of_lt _ ha hb]
  refine eq_rd x _ ?_ ?_
  · show o + 1 * a = _; omega
  · show 0 + 1 * b = _; omega

/-! ## Arrays side by side -/

/-- A concatenation along the columns, read inside piece `k`: that piece's element, its column counted from the piece's
    first one. -/
theorem concat_cols {n w W : ℕ} (xs : List ((s : Shape) × (s.Idx → EReal)))
    (h : Shape.Concatenates (xs.map (·.1)) ⟨2, ![n, W]⟩ 1) (j : (⟨2, ![n, W]⟩ : Shape).Idx) (k : ℕ) (hk : k < xs.length)
    (x : (⟨2, ![n, w]⟩ : Shape).Idx → EReal) (hxk : xs[k] = ⟨⟨2, ![n, w]⟩, x⟩) (pre : ℕ)
    (hpre : (((xs.take k).map (·.1)).map fun s => if h : s.rank = (⟨2, ![n, W]⟩ : Shape).rank then s.size ((1 : Fin (⟨2, ![n, W]⟩ : Shape).rank).cast h.symm) else 0).sum = pre)
    (h0 : pre ≤ (j 1).val) (h1 : (j 1).val < pre + w) :
    concatenate ⟨2, ![n, W]⟩ 1 xs h j = rd x (j 0).val ((j 1).val - pre) := by
  rw [rd_of_lt x (idx2_lt0 j) (show (j 1).val - pre < w by omega)]
  refine concatenate_apply_piece 1 xs h j k hk _ x hxk rfl pre hpre _ (fun b hb => ?_) ?_
  · match b with
    | ⟨0, _⟩ => rfl
    | ⟨1, _⟩ => exact absurd rfl hb
  · show pre + ((j 1).val - pre) = (j 1).val
    omega

/-- A concatenation along the rows, read inside piece `k`: that piece's element, its row counted from the piece's first
    one. -/
theorem concat_rows {n m N : ℕ} (xs : List ((s : Shape) × (s.Idx → EReal)))
    (h : Shape.Concatenates (xs.map (·.1)) ⟨2, ![N, m]⟩ 0) (j : (⟨2, ![N, m]⟩ : Shape).Idx) (k : ℕ) (hk : k < xs.length)
    (x : (⟨2, ![n, m]⟩ : Shape).Idx → EReal) (hxk : xs[k] = ⟨⟨2, ![n, m]⟩, x⟩) (pre : ℕ)
    (hpre : (((xs.take k).map (·.1)).map fun s => if h : s.rank = (⟨2, ![N, m]⟩ : Shape).rank then s.size ((0 : Fin (⟨2, ![N, m]⟩ : Shape).rank).cast h.symm) else 0).sum = pre)
    (h0 : pre ≤ (j 0).val) (h1 : (j 0).val < pre + n) :
    concatenate ⟨2, ![N, m]⟩ 0 xs h j = rd x ((j 0).val - pre) (j 1).val := by
  rw [rd_of_lt x (show (j 0).val - pre < n by omega) (idx2_lt1 j)]
  refine concatenate_apply_piece 0 xs h j k hk _ x hxk rfl pre hpre _ (fun b hb => ?_) ?_
  · match b with
    | ⟨0, _⟩ => exact absurd rfl hb
    | ⟨1, _⟩ => rfl
  · show pre + ((j 0).val - pre) = (j 0).val
    omega

/-- The five incoming gradients side by side: token `s`, feature `r` of 7168. -/
def P (a0 a1 a2 a3 : (⟨2, ![4096, 1024]⟩ : Shape).Idx → EReal) (a4 : (⟨2, ![4096, 3072]⟩ : Shape).Idx → EReal) (s r : ℕ) : EReal :=
  if r < 1024 then rd a0 s r else if r < 2048 then rd a1 s (r - 1024) else if r < 3072 then rd a2 s (r - 2048)
    else if r < 4096 then rd a3 s (r - 3072) else rd a4 s (r - 4096)

/-- The concatenation of the five incoming gradients, read at an index. -/
theorem concat_P (a0 a1 a2 a3 : (⟨2, ![4096, 1024]⟩ : Shape).Idx → EReal) (a4 : (⟨2, ![4096, 3072]⟩ : Shape).Idx → EReal)
    (h : Shape.Concatenates [⟨2, ![4096, 1024]⟩, ⟨2, ![4096, 1024]⟩, ⟨2, ![4096, 1024]⟩, ⟨2, ![4096, 1024]⟩, ⟨2, ![4096, 3072]⟩] ⟨2, ![4096, 7168]⟩ 1)
    (j : (⟨2, ![4096, 7168]⟩ : Shape).Idx) :
    concatenate ⟨2, ![4096, 7168]⟩ 1 [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩] h j
      = P a0 a1 a2 a3 a4 (j 0).val (j 1).val := by
  have hj : (j 1).val < 7168 := idx2_lt1 j
  unfold P
  split_ifs with h1 h2 h3 h4
  · exact concat_cols (W := 7168) [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩]
      h j 0 (show 0 < 5 by decide) a0 rfl 0 rfl (by omega) (by omega)
  · exact concat_cols (W := 7168) [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩]
      h j 1 (show 1 < 5 by decide) a1 rfl 1024 rfl (by omega) (by omega)
  · exact concat_cols (W := 7168) [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩]
      h j 2 (show 2 < 5 by decide) a2 rfl 2048 rfl (by omega) (by omega)
  · exact concat_cols (W := 7168) [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩]
      h j 3 (show 3 < 5 by decide) a3 rfl 3072 rfl (by omega) (by omega)
  · exact concat_cols (W := 7168) [⟨⟨2, ![4096, 1024]⟩, a0⟩, ⟨⟨2, ![4096, 1024]⟩, a1⟩, ⟨⟨2, ![4096, 1024]⟩, a2⟩, ⟨⟨2, ![4096, 1024]⟩, a3⟩, ⟨⟨2, ![4096, 3072]⟩, a4⟩]
      h j 4 (show 4 < 5 by decide) a4 rfl 4096 rfl (by omega) (by omega)

end Cert.Proof.Blocks

end
-- ==== Proof.Consts.lean ====
/-
  The numbers of the printed programs, read at the ideal numbers: 1024, its inverse, 2, 1, 1/2, -1/2 and the
  normalisation's small positive addend.
-/
module

public import Idealize.ShloMosaic.PureOps.Ideal

@[expose] public section

noncomputable section

open Idealize.ShloMosaic

namespace Cert.Proof.Consts

/-- The normalisation's addend, the rounding of one millionth to a 32-bit float. -/
def eps : ℝ := 8796093 / 2 ^ 43

theorem eps_pos : 0 < eps := by unfold eps; positivity

theorem c1024 : Ideal.ofBits .f32 0x44800000#32 = ((1024 : ℝ) : EReal) := by
  simp [Ideal.ofBits, Ideal.ieee, -EReal.coe_mul]; norm_num
theorem cinv : Ideal.ofBits .f32 0x3A800000#32 = ((1 / 1024 : ℝ) : EReal) := by
  simp [Ideal.ofBits, Ideal.ieee, -EReal.coe_mul]; norm_num
theorem ceps : Ideal.ofBits .f32 0x358637BD#32 = ((eps : ℝ) : EReal) := by
  simp [Ideal.ofBits, Ideal.ieee, -EReal.coe_mul, eps]; norm_num
theorem c2 : Ideal.ofBits .f32 0x40000000#32 = ((2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cneg : Ideal.ofBits .f32 0xBF000000#32 = ((-1 / 2 : ℝ) : EReal) := by
  simp [Ideal.ofBits, Ideal.ieee, -EReal.coe_mul]; norm_num

end Cert.Proof.Consts
-- ==== Proof.Norm.lean ====
/-
  The gradient of the root-mean-square normalisation, over the extended reals, one row at a time: the form the kernels
  compute, r·(d − n·mean(d·n)) with n the normalised row, and the form that differentiating the quotient gives,
  d·r + y·c + c·y with c the gradient of the mean square. They agree for every row of extended reals, also with
  infinite entries: then r is 0 and both are 0.
-/
module

public import Idealize.ShloMosaic.PureOps.Ideal

@[expose] public section

noncomputable section

open Idealize.ShloMosaic

namespace Cert.Proof.Norm

theorem mul_self_nonneg (x : EReal) : 0 ≤ x * x := by
  induction x with
  | bot => simp
  | top => simp
  | coe r => rw [← EReal.coe_mul]; exact_mod_cast _root_.mul_self_nonneg r

theorem add_self (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_mul, ← EReal.coe_add, two_mul]

/-- A real factor that is not negative goes into a sum of two. -/
theorem mul_add_coe {r : ℝ} (hr : 0 ≤ r) (x y : EReal) : (r : EReal) * (x + y) = r * x + r * y :=
  EReal.left_distrib_of_nonneg_of_ne_top (by exact_mod_cast hr) (EReal.coe_ne_top r) x y

/-- … and into any finite sum. -/
theorem mul_sum_coe {ι : Type*} (s : Finset ι) {r : ℝ} (hr : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, mul_add_coe hr, ih]

/-- The mean square of a row plus the addend. -/
def ms {n : ℕ} (e : ℝ) (y : Fin n → EReal) : EReal :=
  Ideal.div (∑ k, y k * y k) ((1024 : ℝ) : EReal) + (e : EReal)

/-- A row with an infinite entry has the scale 0; the scale and the mean square of any other are positive reals. -/
theorem ms_cases {n : ℕ} {e : ℝ} (he : 0 < e) (y : Fin n → EReal) :
    ms e y = ⊤ ∨ ∃ (z : Fin n → ℝ) (μ : ℝ), (∀ k, y k = (z k : EReal)) ∧ 0 < μ ∧ ms e y = (μ : EReal) := by
  by_cases h : ∃ k, y k = ⊤ ∨ y k = ⊥
  · left
    obtain ⟨k, hk⟩ := h
    have h1 : y k * y k = ⊤ := by rcases hk with hk | hk <;> simp [hk]
    have h2 : (⊤ : EReal) ≤ ∑ k, y k * y k :=
      h1 ▸ Finset.single_le_sum (f := fun k => y k * y k) (fun i _ => mul_self_nonneg (y i)) (Finset.mem_univ k)
    unfold ms
    rw [top_le_iff.mp h2, Ideal.div_coe (by norm_num), EReal.top_mul_coe_of_pos (by norm_num), EReal.top_add_coe]
  · right
    have h' : ∀ k, ∃ z : ℝ, y k = (z : EReal) := fun k => by
      induction hy : y k with
      | bot => exact absurd ⟨k, Or.inr hy⟩ h
      | top => exact absurd ⟨k, Or.inl hy⟩ h
      | coe r => exact ⟨r, rfl⟩
    choose z hz using h'
    refine ⟨z, (∑ k, z k * z k) * (1 / 1024) + e, hz, ?_, ?_⟩
    · have : 0 ≤ ∑ k, z k * z k := Finset.sum_nonneg fun k _ => _root_.mul_self_nonneg (z k)
      positivity
    · unfold ms
      rw [Ideal.div_coe (by norm_num)]
      have : (∑ k, y k * y k) = ((∑ k, z k * z k : ℝ) : EReal) := by
        rw [show ((∑ k, z k * z k : ℝ) : EReal) = ∑ k, ((z k * z k : ℝ) : EReal) from
          map_sum (⟨⟨Real.toEReal, EReal.coe_zero⟩, EReal.coe_add⟩ : ℝ →+ EReal) _ _]
        exact Finset.sum_congr rfl fun k _ => by rw [hz, EReal.coe_mul]
      rw [this, EReal.coe_add, EReal.coe_mul]

theorem rsqrt_pos {μ : ℝ} (h : 0 < μ) : Ideal.rsqrt (μ : EReal) = (((Real.sqrt μ)⁻¹ : ℝ) : EReal) := by
  rw [Ideal.rsqrt_coe, if_neg (not_lt.mpr h.le), if_neg h.ne']

/-- The gradient's coefficient on the row, as differentiating the quotient gives it. -/
def coef {n : ℕ} (e : ℝ) (y d : Fin n → EReal) : EReal :=
  Ideal.div ((∑ k, y k * d k) * (((-1 / 2 : ℝ) : EReal) * Ideal.div (Ideal.rsqrt (ms e y)) (ms e y)))
    ((1024 : ℝ) : EReal)

/-- The kernels' form of the gradient is the other. -/
theorem grad_eq {n : ℕ} {e : ℝ} (he : 0 < e) (y d : Fin n → EReal) (j : Fin n) :
    Ideal.rsqrt (ms e y) * (d j - (y j * Ideal.rsqrt (ms e y))
        * Ideal.div (∑ k, d k * (y k * Ideal.rsqrt (ms e y))) ((1024 : ℝ) : EReal))
      = d j * Ideal.rsqrt (ms e y) + y j * coef e y d + coef e y d * y j := by
  rcases ms_cases he y with h | ⟨z, μ, hz, hμ, h⟩
  · have hd : Ideal.div (0 : EReal) ⊤ = 0 := by simp [Ideal.div]
    have hc : coef e y d = 0 := by
      unfold coef
      rw [h, Ideal.rsqrt_top, hd, mul_zero, mul_zero, Ideal.div_coe (by norm_num), zero_mul]
    rw [hc, h, Ideal.rsqrt_top, zero_mul, mul_zero, mul_zero, zero_mul, add_zero, add_zero]
  · have hr := rsqrt_pos hμ
    have hs : 0 < Real.sqrt μ := Real.sqrt_pos.mpr hμ
    have hρ : 0 < (Real.sqrt μ)⁻¹ := inv_pos.mpr hs
    have hq : (1 / μ : ℝ) = (Real.sqrt μ)⁻¹ * (Real.sqrt μ)⁻¹ := by
      rw [← mul_inv, Real.mul_self_sqrt hμ.le, one_div]
    unfold coef
    rw [h, hr, Ideal.div_coe hμ.ne', hq]
    generalize (Real.sqrt μ)⁻¹ = ρ at *
    have e1 : ∑ k, d k * (y k * (ρ : EReal)) = (ρ : EReal) * ∑ k, y k * d k := by
      rw [mul_sum_coe _ hρ.le]
      exact Finset.sum_congr rfl fun k _ => by rw [← mul_assoc, mul_comm (d k * y k), mul_comm (d k)]
    rw [e1, hz j]
    generalize (∑ k, y k * d k) = S
    rw [Ideal.div_coe (by norm_num), Ideal.div_coe (by norm_num), sub_eq_add_neg, mul_add_coe hρ.le,
      mul_comm (ρ : EReal) (d j), add_assoc, ← EReal.neg_mul]
    refine congrArg (d j * (ρ : EReal) + ·) ?_
    have e2 : ∀ q : ℝ, (z j : EReal) * (S * q) = S * ((q * z j : ℝ) : EReal) := fun q => by
      rw [EReal.coe_mul, mul_comm, mul_assoc]
    rw [← EReal.coe_mul, ← EReal.coe_mul, ← EReal.coe_mul, mul_assoc S, ← EReal.coe_mul, mul_comm (S * _) (z j : EReal),
      add_self, e2]
    have e3 : ∀ a b d : EReal, a * (b * (a * S * d)) = S * (a * (b * (a * d))) := fun a b d => by ac_rfl
    have e4 : ∀ a b : EReal, a * (S * b) = S * (a * b) := fun a b => by ac_rfl
    rw [e3, e4, ← EReal.coe_neg, ← EReal.coe_mul, ← EReal.coe_mul, ← EReal.coe_mul, ← EReal.coe_mul]
    refine congrArg (S * ·) (congrArg _ ?_)
    ring

end Cert.Proof.Norm
-- ==== Proof.Rows.lean ====
/-
  ROWS: what the kernels compute along one row of 1024 features, in one place for the calls that normalise.

  `rs` is a row's scale (the reciprocal root of its mean square plus epsilon), `on` the normalised row, `ngrad` the
  gradient of the normalised row's inner product with `g`. `scale_at` and `ngrad_at` say that the kernels' operations on a
  block of rows are these, row by row; `ngrad_eq` gives the gradient in the form the reference's derivative has.
-/
module

public import proofs.«01_k».proof.Proof.Blocks
public import proofs.«01_k».proof.Proof.Consts
public import proofs.«01_k».proof.Proof.Norm

@[expose] public section

noncomputable section

open scoped BigOperators

namespace Cert.Proof.Rows

open Idealize.ShloMosaic Idealize.ShloMosaic.ValueIdx Cert.Proof.Blocks Cert.Proof.Consts

/-- Row `a` of a matrix of 1024 columns. -/
def row {n : ℕ} (x : (⟨2, ![n, 1024]⟩ : Shape).Idx → EReal) (a : ℕ) : Fin 1024 → EReal := fun j => rd x a j.val

/-- The row's scale. -/
def rs (y : Fin 1024 → EReal) : EReal := Ideal.rsqrt (Norm.ms eps y)

/-- The normalised row. -/
def on (y : Fin 1024 → EReal) (j : Fin 1024) : EReal := y j * rs y

/-- The gradient through the normalisation. -/
def ngrad (y g : Fin 1024 → EReal) (j : Fin 1024) : EReal :=
  rs y * (g j - on y j * Ideal.div (∑ k, g k * on y k) ((1024 : ℝ) : EReal))

/-- The gradient as differentiating the quotient gives it. -/
theorem ngrad_eq (y g : Fin 1024 → EReal) (j : Fin 1024) :
    ngrad y g j = g j * rs y + y j * Norm.coef eps y g + Norm.coef eps y g * y j :=
  Norm.grad_eq eps_pos y g j

/-- A matrix element is its row's. -/
theorem row_at {n : ℕ} (x : (⟨2, ![n, 1024]⟩ : Shape).Idx → EReal) (i : (⟨2, ![n, 1024]⟩ : Shape).Idx) :
    x i = row x (i 0).val ⟨(i 1).val, idx2_lt1 i⟩ := eq_rd x i rfl rfl

/-- Two matrices' rows agree where their elements do. -/
theorem row_ext {n : ℕ} (x : (⟨2, ![n, 1024]⟩ : Shape).Idx → EReal) {a : ℕ} (ha : a < n) (f : Fin 1024 → EReal)
    (h : ∀ j : Fin 1024, x (ix2 ⟨a, ha⟩ j) = f j) : row x a = f :=
  funext fun j => (rd_of_lt x ha j.isLt).trans (h j)

section
variable {n : ℕ}

/-- The kernels' scale of a block of rows. -/
theorem scale_at (X : (⟨2, ![n, 1024]⟩ : Shape).Idx → EReal) (h : Shape.Reduces ⟨2, ![n, 1024]⟩ [1] ⟨1, ![n]⟩)
    (hφ : FKind.Formats .f32) (acc : BitVec (FTy.bits .f32)) (hacc : acc = FKind.add.neutral .f32 hφ)
    (hc : Shape.ShapeCasts ⟨1, ![n]⟩ ⟨2, ![n, 1]⟩) (i : (⟨2, ![n, 1]⟩ : Shape).Idx) :
    Ideal.rsqrt (Ideal.div (shapeCast ⟨2, ![n, 1]⟩ (multiReduction (F := Ideal) (φ := .f32) .add [1] ⟨1, ![n]⟩ (fun i => X i * X i) acc h hφ hacc) hc i)
      (Ideal.ofBits .f32 0x44800000#32) + Ideal.ofBits .f32 0x358637BD#32) = rs (row X (i 0).val) := by
  rw [rowsum, c1024, ceps]
  refine congrArg (fun s => Ideal.rsqrt (Ideal.div s ((1024 : ℝ) : EReal) + ((eps : ℝ) : EReal))) ?_
  refine Finset.sum_congr rfl fun k _ => ?_
  rw [rd_of_lt _ (idx2_lt0 i) k.isLt]
  exact congrArg₂ (· * ·) (eq_rd X _ rfl rfl) (eq_rd X _ rfl rfl)

/-- The kernels' gradient through the normalisation of a block of rows `X`: the scale times (the gradient less the
    normalised row times the mean of their products). -/
theorem ngrad_at (X S1 g o : (⟨2, ![n, 1024]⟩ : Shape).Idx → EReal) (h : Shape.Reduces ⟨2, ![n, 1024]⟩ [1] ⟨1, ![n]⟩)
    (hφ : FKind.Formats .f32) (acc : BitVec (FTy.bits .f32)) (hacc : acc = FKind.add.neutral .f32 hφ)
    (hc : Shape.ShapeCasts ⟨1, ![n]⟩ ⟨2, ![n, 1]⟩) (hb : Shape.Broadcasts ⟨2, ![n, 1]⟩ ⟨2, ![n, 1024]⟩)
    (i : (⟨2, ![n, 1024]⟩ : Shape).Idx)
    (hS : S1 i = rs (row X (i 0).val)) (ho : ∀ j, o j = on (row X (j 0).val) ⟨(j 1).val, idx2_lt1 j⟩) :
    S1 i * (g i - o i * broadcastTo ⟨2, ![n, 1024]⟩ (fun q => Ideal.div (shapeCast ⟨2, ![n, 1]⟩ (multiReduction (F := Ideal) (φ := .f32) .add [1] ⟨1, ![n]⟩ (fun i => g i * o i) acc h hφ hacc) hc q)
      (Ideal.ofBits .f32 0x44800000#32)) hb i) = ngrad (row X (i 0).val) (row g (i 0).val) ⟨(i 1).val, idx2_lt1 i⟩ := by
  have e : (∑ k : Fin 1024, rd (fun i => g i * o i) (i 0).val k.val) = ∑ k, row g (i 0).val k * on (row X (i 0).val) k := by
    refine Finset.sum_congr rfl fun k _ => ?_
    rw [rd_of_lt _ (idx2_lt0 i) k.isLt]
    exact congrArg₂ (· * ·) (eq_rd g _ rfl rfl) (ho _)
  rw [bcol, rowsum, c1024, hS, ho i, row_at g i]
  unfold ngrad
  rw [← e]
  rfl

end

end Cert.Proof.Rows

end
-- ==== Proof.Head.lean ====
/-
  THE OUTPUT PROJECTION, POST-NORM AND LOSS, GOING BACK (`Kernel`): the body's values, row by row.

  For one token: `p` and `q` are the two mixers' rows, `w` the output projection, `x` the residual stream's row, `t` the
  target's, `v` the post-norm's weight. `mix` is the projected row, `D` the difference from the target, `R` the gradient
  of the residual stream, `O` the gradient of the projected row. The lemmas below say that the values the kernel's body
  computes on a block of 512 rows are these, at each row.
-/
module

public import proofs.«01_k».proof.Proof.Rows
public import proofs.«01_k».proof.Proof.Gen.KernelIdeal.Value

@[expose] public section

noncomputable section

open scoped BigOperators

namespace Cert.Proof.Head

open Idealize.ShloMosaic Idealize.ShloMosaic.ValueIdx Cert.Proof.Blocks Cert.Proof.Consts Cert.Proof.Rows
open Cert.KernelIdeal Cert.KernelIdeal.Gen

/-- The projected row. -/
def mix (p q : Fin 1024 → EReal) (w : ℕ → Fin 1024 → EReal) (j : Fin 1024) : EReal :=
  ∑ e : Fin 1024, p e * w e.val j + ∑ e : Fin 1024, q e * w (1024 + e.val) j

/-- The difference of the residual stream's new row from the target. -/
def D (p q : Fin 1024 → EReal) (w : ℕ → Fin 1024 → EReal) (x t v : Fin 1024 → EReal) (j : Fin 1024) : EReal :=
  (x j + on (mix p q w) j * v j) - t j

/-- The gradient of the residual stream's row. -/
def R (p q : Fin 1024 → EReal) (w : ℕ → Fin 1024 → EReal) (x t v : Fin 1024 → EReal) (j : Fin 1024) : EReal :=
  D p q w x t v j * ((1 / 1024 : ℝ) : EReal)

/-- The gradient of the projected row. -/
def O (p q : Fin 1024 → EReal) (w : ℕ → Fin 1024 → EReal) (x t v : Fin 1024 → EReal) (j : Fin 1024) : EReal :=
  ngrad (mix p q w) (fun k => R p q w x t v k * v k) j

section
variable (x0 x1 : S512x1024.Idx → EReal) (x2 : S2048x1024.Idx → EReal) (x3 x4 : S512x1024.Idx → EReal) (x5 : S1x1024.Idx → EReal)

/-- The upper half of the projection's rows. -/
abbrev lo : S1024x1024.Idx → EReal :=
  fun y => x2 ((Rect.unit (s := S2048x1024) ![0, 0] S1024x1024.size inb_S2048x1024_S1024x1024_0_0).emb y)
/-- The lower half of the projection's rows. -/
abbrev hi : S1024x1024.Idx → EReal :=
  fun y => x2 ((Rect.unit (s := S2048x1024) ![1024, 0] S1024x1024.size inb_S2048x1024_S1024x1024_1024_0).emb y)

abbrev Dnn := dot_S512x1024_S1024x1024_S512x1024_1_0_0_1_n_n
theorem nl0 (j : S512x1024.Idx) (q : Dnn.contr.Idx) : (Dnn.lhsIdx j q 0).val = (j 0).val := by
  unfold DotDims.lhsIdx
  rw [dif_neg (show ¬(0 : Fin S512x1024.rank) ∈ Dnn.lhsBatch by decide), dif_pos (show (0 : Fin S512x1024.rank) ∈ Dnn.lhsNonContracting by decide)]
  rfl
theorem nl1 (j : S512x1024.Idx) (q : Dnn.contr.Idx) : (Dnn.lhsIdx j q 1).val = (q ⟨0, by decide⟩).val := Dnn.lhsIdx_val_of_single rfl j q
theorem nr0 (j : S512x1024.Idx) (q : Dnn.contr.Idx) : (Dnn.rhsIdx j q 0).val = (q ⟨0, by decide⟩).val := Dnn.rhsIdx_val_of_single rfl j q
theorem nr1 (j : S512x1024.Idx) (q : Dnn.contr.Idx) : (Dnn.rhsIdx j q 1).val = (j 1).val := by
  unfold DotDims.rhsIdx
  rw [dif_neg (show ¬(1 : Fin S1024x1024.rank) ∈ Dnn.rhsBatch by decide), dif_pos (show (1 : Fin S1024x1024.rank) ∈ Dnn.rhsNonContracting by decide)]
  rfl

abbrev Dnt := dot_S512x1024_S2048x1024_S512x2048_1_1_0_0_n_n
theorem tl0 (j : S512x2048.Idx) (q : Dnt.contr.Idx) : (Dnt.lhsIdx j q 0).val = (j 0).val := by
  unfold DotDims.lhsIdx
  rw [dif_neg (show ¬(0 : Fin S512x1024.rank) ∈ Dnt.lhsBatch by decide), dif_pos (show (0 : Fin S512x1024.rank) ∈ Dnt.lhsNonContracting by decide)]
  rfl
theorem tl1 (j : S512x2048.Idx) (q : Dnt.contr.Idx) : (Dnt.lhsIdx j q 1).val = (q ⟨0, by decide⟩).val := Dnt.lhsIdx_val_of_single rfl j q
theorem tr1 (j : S512x2048.Idx) (q : Dnt.contr.Idx) : (Dnt.rhsIdx j q 1).val = (q ⟨0, by decide⟩).val := Dnt.rhsIdx_val_of_single rfl j q
theorem tr0 (j : S512x2048.Idx) (q : Dnt.contr.Idx) : (Dnt.rhsIdx j q 0).val = (j 1).val := by
  unfold DotDims.rhsIdx
  rw [dif_neg (show ¬(0 : Fin S2048x1024.rank) ∈ Dnt.rhsBatch by decide), dif_pos (show (0 : Fin S2048x1024.rank) ∈ Dnt.rhsNonContracting by decide)]
  rfl

abbrev Dtn := dot_S512x1024_S512x1024_S1024x1024_0_0_1_1_n_n
theorem ul0 (j : S1024x1024.Idx) (q : Dtn.contr.Idx) : (Dtn.lhsIdx j q 0).val = (q ⟨0, by decide⟩).val := Dtn.lhsIdx_val_of_single rfl j q
theorem ur0 (j : S1024x1024.Idx) (q : Dtn.contr.Idx) : (Dtn.rhsIdx j q 0).val = (q ⟨0, by decide⟩).val := Dtn.rhsIdx_val_of_single rfl j q
theorem ul1 (j : S1024x1024.Idx) (q : Dtn.contr.Idx) : (Dtn.lhsIdx j q 1).val = (j 0).val := by
  unfold DotDims.lhsIdx
  rw [dif_neg (show ¬(1 : Fin S512x1024.rank) ∈ Dtn.lhsBatch by decide), dif_pos (show (1 : Fin S512x1024.rank) ∈ Dtn.lhsNonContracting by decide)]
  rfl
theorem ur1 (j : S1024x1024.Idx) (q : Dtn.contr.Idx) : (Dtn.rhsIdx j q 1).val = (j 1).val := by
  unfold DotDims.rhsIdx
  rw [dif_neg (show ¬(1 : Fin S512x1024.rank) ∈ Dtn.rhsBatch by decide), dif_pos (show (1 : Fin S512x1024.rank) ∈ Dtn.rhsNonContracting by decide)]
  rfl

/-- The projected rows. -/
theorem pay4_at (i : S512x1024.Idx) :
    (k0_pay4 (F := Ideal) x0 (lo x2) x1 (hi x2) i : EReal) = mix (row x0 (i 0).val) (row x1 (i 0).val) (row x2) ⟨(i 1).val, idx2_lt1 i⟩ := by
  have a1 : (FloatOps.matmul (F := Ideal) (φ₁ := .bf16) (φ₂ := .bf16) Dnn none x0 (lo x2) (constant S512x1024 .f32 0x00000000#32) i : EReal)
      = ∑ e : Fin 1024, row x0 (i 0).val e * row x2 e.val ⟨(i 1).val, idx2_lt1 i⟩ := by
    rw [matmul_nn Dnn x0 (lo x2) rfl rfl nl0 nl1 nr0 nr1 i]
    refine Finset.sum_congr rfl fun e _ => congrArg (rd x0 (i 0).val e.val * ·) ?_
    refine (rd_ld x2 0 _ e.isLt (idx2_lt1 i)).trans ?_
    rw [Nat.zero_add]
    rfl
  have a2 : (FloatOps.matmul (F := Ideal) (φ₁ := .bf16) (φ₂ := .bf16) Dnn none x1 (hi x2) (constant S512x1024 .f32 0x00000000#32) i : EReal)
      = ∑ e : Fin 1024, row x1 (i 0).val e * row x2 (1024 + e.val) ⟨(i 1).val, idx2_lt1 i⟩ := by
    rw [matmul_nn Dnn x1 (hi x2) rfl rfl nl0 nl1 nr0 nr1 i]
    refine Finset.sum_congr rfl fun e _ => congrArg (rd x1 (i 0).val e.val * ·) ?_
    exact rd_ld x2 1024 _ e.isLt (idx2_lt1 i)
  exact congrArg₂ (· + ·) a1 a2

theorem row4 {a : ℕ} (ha : a < 512) : row (n := 512) (k0_pay4 (F := Ideal) x0 (lo x2) x1 (hi x2)) a = mix (row x0 a) (row x1 a) (row x2) :=
  row_ext _ ha _ fun j => pay4_at x0 x1 x2 (ix2 ⟨a, ha⟩ j)

/-- The rows' scales. -/
theorem pay5_at (i : S512x1.Idx) :
    (k0_pay5 (F := Ideal) x0 (lo x2) x1 (hi x2) i : EReal) = rs (mix (row x0 (i 0).val) (row x1 (i 0).val) (row x2)) := by
  rw [← row4 x0 x1 x2 (idx2_lt0 i)]
  exact scale_at (n := 512) (k0_pay4 (F := Ideal) x0 (lo x2) x1 (hi x2)) _ _ _ _ _ i

/-- The normalised rows. -/
theorem pay6_at (i : S512x1024.Idx) :
    (k0_pay6 (F := Ideal) x0 (lo x2) x1 (hi x2) i : EReal) = on (mix (row x0 (i 0).val) (row x1 (i 0).val) (row x2)) ⟨(i 1).val, idx2_lt1 i⟩ := by
  refine congrArg₂ (· * ·) (pay4_at x0 x1 x2 i) ?_
  refine (bcol (n := 512) (m := 1024) (k0_pay5 (F := Ideal) x0 (lo x2) x1 (hi x2)) _ i).trans ?_
  exact pay5_at x0 x1 x2 _

/-- The differences from the target. -/
theorem pay7_at (i : S512x1024.Idx) :
    (k0_pay7 (F := Ideal) x0 (lo x2) x1 (hi x2) x3 x5 x4 i : EReal)
      = D (row x0 (i 0).val) (row x1 (i 0).val) (row x2) (row x3 (i 0).val) (row x4 (i 0).val) (row x5 0) ⟨(i 1).val, idx2_lt1 i⟩ := by
  refine congrArg₂ (· - ·) (congrArg₂ (· + ·) (row_at x3 i) (congrArg₂ (· * ·) (pay6_at x0 x1 x2 i) ?_)) (row_at x4 i)
  exact brow (n := 512) (m := 1024) x5 _ i

/-- The residual stream's gradient. -/
theorem pay8_at (i : S512x1024.Idx) :
    (k0_pay8 (F := Ideal) x0 (lo x2) x1 (hi x2) x3 x5 x4 i : EReal)
      = R (row x0 (i 0).val) (row x1 (i 0).val) (row x2) (row x3 (i 0).val) (row x4 (i 0).val) (row x5 0) ⟨(i 1).val, idx2_lt1 i⟩ :=
  congrArg₂ (· * ·) (pay7_at x0 x1 x2 x3 x4 x5 i) cinv

/-- The projected rows' gradient. -/
theorem pay11_at (i : S512x1024.Idx) :
    (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5 i : EReal)
      = O (row x0 (i 0).val) (row x1 (i 0).val) (row x2) (row x3 (i 0).val) (row x4 (i 0).val) (row x5 0) ⟨(i 1).val, idx2_lt1 i⟩ := by
  have hg : row (n := 512) (fun i => (k0_pay8 (F := Ideal) x0 (lo x2) x1 (hi x2) x3 x5 x4 i : EReal) * broadcastTo S512x1024 x5 broadcasts_S1x1024_S512x1024 i) (i 0).val
      = fun k => R (row x0 (i 0).val) (row x1 (i 0).val) (row x2) (row x3 (i 0).val) (row x4 (i 0).val) (row x5 0) k * row x5 0 k :=
    row_ext _ (idx2_lt0 i) _ fun j => congrArg₂ (· * ·) (pay8_at x0 x1 x2 x3 x4 x5 _) (brow (n := 512) (m := 1024) x5 _ _)
  unfold O
  rw [← hg, ← row4 x0 x1 x2 (idx2_lt0 i)]
  refine ngrad_at (n := 512) (k0_pay4 (F := Ideal) x0 (lo x2) x1 (hi x2)) (broadcastTo S512x1024 (k0_pay5 (F := Ideal) x0 (lo x2) x1 (hi x2)) broadcasts_S512x1_S512x1024)
    (fun i => (k0_pay8 (F := Ideal) x0 (lo x2) x1 (hi x2) x3 x5 x4 i : EReal) * broadcastTo S512x1024 x5 broadcasts_S1x1024_S512x1024 i)
    (k0_pay6 (F := Ideal) x0 (lo x2) x1 (hi x2)) _ _ _ _ _ _ i ?_ fun j => ?_
  · refine (bcol (n := 512) (m := 1024) (k0_pay5 (F := Ideal) x0 (lo x2) x1 (hi x2)) _ i).trans ?_
    rw [row4 x0 x1 x2 (idx2_lt0 i)]
    exact pay5_at x0 x1 x2 _
  · rw [row4 x0 x1 x2 (idx2_lt0 j)]
    exact pay6_at x0 x1 x2 j

/-- One token's difference, gradient of the residual stream and gradient of the projected row, on a block. -/
abbrev Db {n : ℕ} (x0 x1 : (⟨2, ![n, 1024]⟩ : Shape).Idx → EReal) (x2 : S2048x1024.Idx → EReal) (x3 x4 : (⟨2, ![n, 1024]⟩ : Shape).Idx → EReal) (x5 : S1x1024.Idx → EReal) (s : ℕ) (j : Fin 1024) : EReal := D (row x0 s) (row x1 s) (row x2) (row x3 s) (row x4 s) (row x5 0) j
@[inherit_doc Db] abbrev Rb {n : ℕ} (x0 x1 : (⟨2, ![n, 1024]⟩ : Shape).Idx → EReal) (x2 : S2048x1024.Idx → EReal) (x3 x4 : (⟨2, ![n, 1024]⟩ : Shape).Idx → EReal) (x5 : S1x1024.Idx → EReal) (s : ℕ) (j : Fin 1024) : EReal := R (row x0 s) (row x1 s) (row x2) (row x3 s) (row x4 s) (row x5 0) j
@[inherit_doc Db] abbrev Ob {n : ℕ} (x0 x1 : (⟨2, ![n, 1024]⟩ : Shape).Idx → EReal) (x2 : S2048x1024.Idx → EReal) (x3 x4 : (⟨2, ![n, 1024]⟩ : Shape).Idx → EReal) (x5 : S1x1024.Idx → EReal) (s : ℕ) (j : Fin 1024) : EReal := O (row x0 s) (row x1 s) (row x2) (row x3 s) (row x4 s) (row x5 0) j

/-- The projected rows' gradient, by its row. -/
theorem row11 {a : ℕ} (ha : a < 512) :
    row (n := 512) (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5) a
      = Ob x0 x1 x2 x3 x4 x5 a :=
  row_ext _ ha _ fun j => pay11_at x0 x1 x2 x3 x4 x5 (ix2 ⟨a, ha⟩ j)

/-- The mixers' gradient. -/
theorem pay12_at (i : S512x2048.Idx) :
    (k0_pay12 (F := Ideal) (k0_pay5 (F := Ideal) x0 (lo x2) x1 (hi x2)) (k0_pay6 (F := Ideal) x0 (lo x2) x1 (hi x2)) (k0_pay8 (F := Ideal) x0 (lo x2) x1 (hi x2) x3 x5 x4) x5 x2 i : EReal)
      = ∑ k : Fin 1024, Ob x0 x1 x2 x3 x4 x5 (i 0).val k * row x2 (i 1).val k := by
  refine (matmul_nt Dnt (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5) x2 rfl rfl tl0 tl1 tr0 tr1 i).trans ?_
  refine Finset.sum_congr rfl fun k _ => congrArg (· * row x2 (i 1).val k) ?_
  exact congrFun (row11 x0 x1 x2 x3 x4 x5 (idx2_lt0 i)) k

/-- The upper half of the weight's gradient: what was there plus the block's term. -/
theorem pay13_at (prev : S1024x1024.Idx → EReal) (i : S1024x1024.Idx) :
    (k0_pay13 (F := Ideal) (k0_pay5 (F := Ideal) x0 (lo x2) x1 (hi x2)) (k0_pay6 (F := Ideal) x0 (lo x2) x1 (hi x2)) (k0_pay8 (F := Ideal) x0 (lo x2) x1 (hi x2) x3 x5 x4) x5 prev x0 i : EReal)
      = prev i + ∑ s : Fin 512, rd x0 s.val (i 0).val * Ob x0 x1 x2 x3 x4 x5 s.val ⟨(i 1).val, idx2_lt1 i⟩ := by
  refine congrArg₂ (· + ·) (congrFun (shapeCast_self prev _) i) ?_
  refine (matmul_tn Dtn x0 (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5) rfl rfl ul0 ul1 ur0 ur1 i).trans ?_
  refine Finset.sum_congr rfl fun s _ => congrArg (rd x0 s.val (i 0).val * ·) ?_
  exact congrFun (row11 x0 x1 x2 x3 x4 x5 s.isLt) ⟨(i 1).val, idx2_lt1 i⟩

/-- The lower half likewise. -/
theorem pay1_at (prev : S1024x1024.Idx → EReal) (i : S1024x1024.Idx) :
    (k0_pay1 (F := Ideal) (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5) prev x1 i : EReal)
      = prev i + ∑ s : Fin 512, rd x1 s.val (i 0).val * Ob x0 x1 x2 x3 x4 x5 s.val ⟨(i 1).val, idx2_lt1 i⟩ := by
  refine congrArg₂ (· + ·) (congrFun (shapeCast_self prev _) i) ?_
  refine (matmul_tn Dtn x1 (k0_pay11 (F := Ideal) (k0_pay5 (F := Ideal) x0 (lo x2) x1 (hi x2)) (k0_pay6 (F := Ideal) x0 (lo x2) x1 (hi x2)) (k0_pay8 (F := Ideal) x0 (lo x2) x1 (hi x2) x3 x5 x4) x5) rfl rfl ul0 ul1 ur0 ur1 i).trans ?_
  refine Finset.sum_congr rfl fun s _ => congrArg (rd x1 s.val (i 0).val * ·) ?_
  exact congrFun (row11 x0 x1 x2 x3 x4 x5 s.isLt) ⟨(i 1).val, idx2_lt1 i⟩

/-- The loss's row: what was there plus the block's squares. -/
theorem pay9_at (prev : S1x1024.Idx → EReal) (i : S1x1024.Idx) :
    (k0_pay9 (F := Ideal) (k0_pay7 (F := Ideal) x0 (lo x2) x1 (hi x2) x3 x5 x4) prev i : EReal)
      = prev i + ∑ s : Fin 512, Db x0 x1 x2 x3 x4 x5 s.val ⟨(i 1).val, idx2_lt1 i⟩ * Db x0 x1 x2 x3 x4 x5 s.val ⟨(i 1).val, idx2_lt1 i⟩ := by
  refine congrArg₂ (· + ·) (congrFun (shapeCast_self prev _) i) ?_
  refine (colsum (n := 512) (m := 1024) (fun i => (k0_pay7 (F := Ideal) x0 (lo x2) x1 (hi x2) x3 x5 x4 i : EReal) * k0_pay7 (F := Ideal) x0 (lo x2) x1 (hi x2) x3 x5 x4 i) _ _ _ _ _ i).trans ?_
  refine Finset.sum_congr rfl fun s _ => ?_
  rw [rd_of_lt _ s.isLt (idx2_lt1 i)]
  exact congrArg₂ (· * ·) (pay7_at x0 x1 x2 x3 x4 x5 _) (pay7_at x0 x1 x2 x3 x4 x5 _)

/-- The post-norm's row: what was there plus the block's products. -/
theorem pay10_at (prev : S1x1024.Idx → EReal) (i : S1x1024.Idx) :
    (k0_pay10 (F := Ideal) (k0_pay6 (F := Ideal) x0 (lo x2) x1 (hi x2)) (k0_pay8 (F := Ideal) x0 (lo x2) x1 (hi x2) x3 x5 x4) prev i : EReal)
      = prev i + ∑ s : Fin 512, Rb x0 x1 x2 x3 x4 x5 s.val ⟨(i 1).val, idx2_lt1 i⟩ * on (mix (row x0 s.val) (row x1 s.val) (row x2)) ⟨(i 1).val, idx2_lt1 i⟩ := by
  refine congrArg₂ (· + ·) (congrFun (shapeCast_self prev _) i) ?_
  refine (colsum (n := 512) (m := 1024) (fun i => (k0_pay8 (F := Ideal) x0 (lo x2) x1 (hi x2) x3 x5 x4 i : EReal) * k0_pay6 (F := Ideal) x0 (lo x2) x1 (hi x2) i) _ _ _ _ _ i).trans ?_
  refine Finset.sum_congr rfl fun s _ => ?_
  rw [rd_of_lt _ s.isLt (idx2_lt1 i)]
  exact congrArg₂ (· * ·) (pay8_at x0 x1 x2 x3 x4 x5 _) (pay6_at x0 x1 x2 _)

end

end Cert.Proof.Head

end
-- ==== Proof.Pieces.lean ====
/-
  READING A LIST OF STORES OF WHOLE ROWS, where the list covers the buffer: an element under the newest store reads its
  payload, any other element what the earlier stores left.
-/
module

public import Idealize.ShloMosaic.Lib.Pipeline.Value
public import Idealize.ShloMosaic.Lib.WritesUnit
public import Idealize.ShloMosaic.Lib.ValueIdx

@[expose] public section

namespace Cert.Proof.Pieces

open Idealize.ShloMosaic

variable {e : EltTy} {Val : EltTy → Type} [∀ e, Nonempty (Val e)] {d : Fin 2 → ℕ}

/-- Row `o + x 0`, column `x 1` reads the newest store's payload at `x`, the store's offsets being row `o`, column 0. -/
theorem canon_rows_in {size : Fin 2 → ℕ} (o : ℕ) (inb : ∀ a : Fin 2, (![o, 0] : Fin 2 → ℕ) a + size a ≤ d a)
    (w : (Rect.unit (s := ⟨2, d⟩) ![o, 0] size inb).shape.Idx → Val e) (L : List (View.Piece Val (⟨2, d⟩ : Shape) e))
    (y : (⟨2, d⟩ : Shape).Idx) (x : (Rect.unit (s := ⟨2, d⟩) ![o, 0] size inb).shape.Idx)
    (hx0 : (y (0 : Fin 2)).val = o + (x (0 : Fin 2)).val) (hx1 : (y (1 : Fin 2)).val = (x (1 : Fin 2)).val) :
    View.canon ((⟨Rect.unit (s := ⟨2, d⟩) ![o, 0] size inb, w⟩ : View.Piece Val (⟨2, d⟩ : Shape) e) :: L) y = w x := by
  have hy : (Rect.unit (s := ⟨2, d⟩) ![o, 0] size inb).emb x = y := funext (Fin.forall_fin_two.mpr
    ⟨Fin.ext (by show o + 1 * (x (0 : Fin 2)).val = _; rw [hx0, Nat.one_mul]),
     Fin.ext (by show 0 + 1 * (x (1 : Fin 2)).val = _; rw [hx1, Nat.one_mul, Nat.zero_add])⟩)
  rw [← hy]
  exact View.canon_cons_emb _ w L x

/-- A row outside `[o, o + W)` reads what the rest of the list left. -/
theorem canon_rows_out {size : Fin 2 → ℕ} (o W : ℕ) (inb : ∀ a : Fin 2, (![o, 0] : Fin 2 → ℕ) a + size a ≤ d a)
    (w : (Rect.unit (s := ⟨2, d⟩) ![o, 0] size inb).shape.Idx → Val e) (L : List (View.Piece Val (⟨2, d⟩ : Shape) e))
    (y : (⟨2, d⟩ : Shape).Idx) (hW : size (0 : Fin 2) = W)
    (h : (y (0 : Fin 2)).val < o ∨ o + W ≤ (y (0 : Fin 2)).val) :
    View.canon ((⟨Rect.unit (s := ⟨2, d⟩) ![o, 0] size inb, w⟩ : View.Piece Val (⟨2, d⟩ : Shape) e) :: L) y = View.canon L y := by
  refine View.canon_cons_of_not_mem _ L ?_
  show y ∉ (Rect.unit (s := ⟨2, d⟩) ![o, 0] size inb).set
  rw [Rect.mem_set_unit]
  intro hall
  have h0 : o ≤ (y (0 : Fin 2)).val ∧ (y (0 : Fin 2)).val < o + size (0 : Fin 2) := hall (0 : Fin 2)
  omega

end Cert.Proof.Pieces
-- ==== Proof.OutBody.lean ====
/-
  THE OUTPUT PROJECTION, POST-NORM AND LOSS, GOING BACK (`Kernel`): what one pass of the body leaves in its four result
  buffers, in the two cases (the first point, which zeroes the two accumulators, and the later ones).
-/
module

public import proofs.«01_k».proof.Proof.Pieces
public import proofs.«01_k».proof.Proof.Gen.KernelIdeal.Value

@[expose] public section

noncomputable section

open Idealize.ShloMosaic Idealize.ShloMosaic.TcCoe Idealize.SL.Sem Idealize.ShloMosaic.ValueIdx

namespace Cert.Proof.OutProj

open Cert.KernelIdeal Cert.KernelIdeal.Gen Cert.Proof.Pieces

variable {F : FTy → Type} [FloatOps F]

theorem hz : (![0, 0] : Fin 2 → Nat) = fun _ => 0 := funext fun a => by fin_cases a <;> rfl

/-- Row 0 of the 8-row block. -/
abbrev row0 : Rect S8x1024 := Rect.unit (s := S8x1024) ![0, 0] S1x1024.size inb_S8x1024_S1x1024_0_0
/-- Row 1 of the 8-row block. -/
abbrev row1 : Rect S8x1024 := Rect.unit (s := S8x1024) ![1, 0] S1x1024.size inb_S8x1024_S1x1024_1_0
/-- The upper half of the 2048 rows. -/
abbrev half0 : Rect S2048x1024 := Rect.unit (s := S2048x1024) ![0, 0] S1024x1024.size inb_S2048x1024_S1024x1024_0_0
/-- The lower half of the 2048 rows. -/
abbrev half1 : Rect S2048x1024 := Rect.unit (s := S2048x1024) ![1024, 0] S1024x1024.size inb_S2048x1024_S1024x1024_1024_0

section
variable (x0 x1 : Vec F S512x1024 .bf16) (x2 : Vec F S2048x1024 .bf16) (x3 x4 : Vec F S512x1024 .f32) (x5 : Vec F S1x1024 .f32)

/-- The rows' scales. -/
abbrev sc : FVec F S512x1 .f32 := k0_pay5 x0 (View.ld x2 half0) x1 (View.ld x2 half1)
/-- The normalised rows. -/
abbrev nr : FVec F S512x1024 .f32 := k0_pay6 x0 (View.ld x2 half0) x1 (View.ld x2 half1)
/-- The differences from the target. -/
abbrev df : FVec F S512x1024 .f32 := k0_pay7 x0 (View.ld x2 half0) x1 (View.ld x2 half1) x3 x5 x4
/-- The residual stream's gradient. -/
abbrev rg : FVec F S512x1024 .f32 := k0_pay8 x0 (View.ld x2 half0) x1 (View.ld x2 half1) x3 x5 x4

/-- The 8-row block: rows 0 and 1 are added to, the others stay. -/
def acc8 (prev : Vec F S8x1024 .f32) : Vec F S8x1024 .f32 := fun y =>
  if (y 0).val = 0 then k0_pay9 (df x0 x1 x2 x3 x4 x5) (View.ld prev row0) (ix2 ⟨0, Nat.one_pos⟩ ⟨(y 1).val, idx2_lt1 y⟩)
  else if (y 0).val = 1 then k0_pay10 (nr x0 x1 x2) (rg x0 x1 x2 x3 x4 x5) (View.ld prev row1) (ix2 ⟨0, Nat.one_pos⟩ ⟨(y 1).val, idx2_lt1 y⟩)
  else prev y

/-- The 2048-row block: each half is added to. -/
def acc9 (prev : Vec F S2048x1024 .f32) : Vec F S2048x1024 .f32 := fun y =>
  if h : (y 0).val < 1024 then k0_pay13 (sc x0 x1 x2) (nr x0 x1 x2) (rg x0 x1 x2 x3 x4 x5) x5 (View.ld prev half0) x0 (ix2 ⟨(y 0).val, h⟩ ⟨(y 1).val, idx2_lt1 y⟩)
  else k0_pay1 (k0_pay11 (sc x0 x1 x2) (nr x0 x1 x2) (rg x0 x1 x2 x3 x4 x5) x5) (View.ld prev half1) x1
    (ix2 ⟨(y 0).val - 1024, Nat.sub_lt_left_of_lt_add (Nat.le_of_not_lt h) (idx2_lt0 y)⟩ ⟨(y 1).val, idx2_lt1 y⟩)

end

/-- Reading rows 0 and 1 stored over a base that is known elementwise. -/
theorem read8 (prev : Vec F S8x1024 .f32) (L : List (View.Piece (Elt F) S8x1024 .f32))
    (a : S1x1024.Idx → Elt F .f32) (b : S1x1024.Idx → Elt F .f32) (hL : ∀ y, View.canon L y = prev y) (y : S8x1024.Idx) :
    View.canon ((⟨row1, b⟩ : View.Piece (Elt F) S8x1024 .f32) :: (⟨row0, a⟩ : View.Piece (Elt F) S8x1024 .f32) :: L) y
      = if (y 0).val = 0 then a (ix2 ⟨0, Nat.one_pos⟩ ⟨(y 1).val, idx2_lt1 y⟩)
        else if (y 0).val = 1 then b (ix2 ⟨0, Nat.one_pos⟩ ⟨(y 1).val, idx2_lt1 y⟩) else prev y := by
  by_cases h0 : (y 0).val = 0
  · rw [if_pos h0]
    refine (canon_rows_out (d := S8x1024.size) 1 1 inb_S8x1024_S1x1024_1_0 b _ y rfl (Or.inl (by omega))).trans ?_
    exact canon_rows_in (d := S8x1024.size) 0 inb_S8x1024_S1x1024_0_0 a _ y (ix2 ⟨0, Nat.one_pos⟩ ⟨(y 1).val, idx2_lt1 y⟩) h0 rfl
  rw [if_neg h0]
  by_cases h1 : (y 0).val = 1
  · rw [if_pos h1]
    exact canon_rows_in (d := S8x1024.size) 1 inb_S8x1024_S1x1024_1_0 b _ y (ix2 ⟨0, Nat.one_pos⟩ ⟨(y 1).val, idx2_lt1 y⟩) h1 rfl
  rw [if_neg h1]
  refine (canon_rows_out (d := S8x1024.size) 1 1 inb_S8x1024_S1x1024_1_0 b _ y rfl (Or.inr (by omega))).trans ?_
  exact (canon_rows_out (d := S8x1024.size) 0 1 inb_S8x1024_S1x1024_0_0 a _ y rfl (Or.inr (by omega))).trans (hL y)

/-- Reading the two halves. -/
theorem read9 (L : List (View.Piece (Elt F) S2048x1024 .f32)) (a b : S1024x1024.Idx → Elt F .f32) (y : S2048x1024.Idx) :
    View.canon ((⟨half1, b⟩ : View.Piece (Elt F) S2048x1024 .f32) :: (⟨half0, a⟩ : View.Piece (Elt F) S2048x1024 .f32) :: L) y
      = if h : (y 0).val < 1024 then a (ix2 ⟨(y 0).val, h⟩ ⟨(y 1).val, idx2_lt1 y⟩)
        else b (ix2 ⟨(y 0).val - 1024, Nat.sub_lt_left_of_lt_add (Nat.le_of_not_lt h) (idx2_lt0 y)⟩ ⟨(y 1).val, idx2_lt1 y⟩) := by
  by_cases h0 : (y 0).val < 1024
  · rw [dif_pos h0]
    refine (canon_rows_out (d := S2048x1024.size) 1024 1024 inb_S2048x1024_S1024x1024_1024_0 b _ y rfl (Or.inl h0)).trans ?_
    exact canon_rows_in (d := S2048x1024.size) 0 inb_S2048x1024_S1024x1024_0_0 a _ y (ix2 ⟨(y 0).val, h0⟩ ⟨(y 1).val, idx2_lt1 y⟩) (Nat.zero_add _).symm rfl
  rw [dif_neg h0]
  exact canon_rows_in (d := S2048x1024.size) 1024 inb_S2048x1024_S1024x1024_1024_0 b _ y
    (ix2 ⟨(y 0).val - 1024, Nat.sub_lt_left_of_lt_add (Nat.le_of_not_lt h0) (idx2_lt0 y)⟩ ⟨(y 1).val, idx2_lt1 y⟩)
    (show (y 0).val = 1024 + ((y 0).val - 1024) by omega) rfl

/-- The first point: the mixers' gradient. -/
theorem out_A_6 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) :
    out0_A_6 c i arg1 harg1 arg2 harg2 arg3 harg3 arg4 harg4 arg5 harg5 arg6 harg6 arg7 harg7 arg8 harg8 arg9 harg9 arg10 harg10 hc0 x0 x1 x2 x3 x4 x5 = k0_pay12 (sc x0 x1 x2) (nr x0 x1 x2) (rg x0 x1 x2 x3 x4 x5) x5 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S2048x1024) hz]
  exact View.canon_unit_zero hz _ _

/-- The first point: the residual stream's gradient. -/
theorem out_A_7 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) :
    out0_A_7 c i arg1 harg1 arg2 harg2 arg3 harg3 arg4 harg4 arg5 harg5 arg6 harg6 arg7 harg7 arg8 harg8 arg9 harg9 arg10 harg10 hc0 x0 x1 x2 x3 x4 x5 = rg x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S2048x1024) hz]
  exact View.canon_unit_zero hz _ _

/-- The first point: the 8-row block. -/
theorem out_A_8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) :
    out0_A_8 c i arg1 harg1 arg2 harg2 arg3 harg3 arg4 harg4 arg5 harg5 arg6 harg6 arg7 harg7 arg8 harg8 arg9 harg9 arg10 harg10 hc0 x0 x1 x2 x3 x4 x5 = acc8 x0 x1 x2 x3 x4 x5 (k0_pay2 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S2048x1024) hz]
  funext y
  refine (read8 (k0_pay2 (F := F)) _ _ _ (fun y => congrFun (View.canon_unit_zero (S := S8x1024) hz _ _) y) y).trans ?_
  have e0 : arg9.view.readCov [(⟨Rect.unit (s := S8x1024) ![0, 0] S8x1024.size inb_S8x1024_S8x1024_0_0, k0_pay2 (F := F)⟩ : View.Piece (Elt F) S8x1024 .f32)] row0.toLoadRect = View.ld (k0_pay2 (F := F)) row0 := by
    rw [View.readCov_eq_canon', View.canon_unit_zero (S := S8x1024) hz]
  have e1 : ∀ w : S1x1024.Idx → Elt F .f32, arg9.view.readCov [(⟨row0, w⟩ : View.Piece (Elt F) S8x1024 .f32), (⟨Rect.unit (s := S8x1024) ![0, 0] S8x1024.size inb_S8x1024_S8x1024_0_0, k0_pay2 (F := F)⟩ : View.Piece (Elt F) S8x1024 .f32)] row1.toLoadRect = View.ld (k0_pay2 (F := F)) row1 := by
    intro w
    rw [View.readCov_eq_canon']
    funext j
    refine (canon_rows_out (d := S8x1024.size) 0 1 inb_S8x1024_S1x1024_0_0 w _ (row1.idx j) rfl (Or.inr ?_)).trans ?_
    · show 0 + 1 ≤ 1 + 1 * (j 0).val
      omega
    · exact congrFun (View.canon_unit_zero (S := S8x1024) hz _ _) _
  rw [e0, e1]
  rfl

/-- The first point: the weight's gradient block. -/
theorem out_A_9 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) :
    out0_A_9 c i arg1 harg1 arg2 harg2 arg3 harg3 arg4 harg4 arg5 harg5 arg6 harg6 arg7 harg7 arg8 harg8 arg9 harg9 arg10 harg10 hc0 x0 x1 x2 x3 x4 x5 = acc9 x0 x1 x2 x3 x4 x5 (k0_pay3 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S2048x1024) hz]
  funext y
  refine (read9 _ _ _ y).trans ?_
  have e0 : arg10.view.readCov [(⟨Rect.unit (s := S2048x1024) ![0, 0] S2048x1024.size inb_S2048x1024_S2048x1024_0_0, k0_pay3 (F := F)⟩ : View.Piece (Elt F) S2048x1024 .f32)] half0.toLoadRect = View.ld (k0_pay3 (F := F)) half0 := by
    rw [View.readCov_eq_canon', View.canon_unit_zero (S := S2048x1024) hz]
  have e1 : ∀ w : S1024x1024.Idx → Elt F .f32, arg10.view.readCov [(⟨half0, w⟩ : View.Piece (Elt F) S2048x1024 .f32), (⟨Rect.unit (s := S2048x1024) ![0, 0] S2048x1024.size inb_S2048x1024_S2048x1024_0_0, k0_pay3 (F := F)⟩ : View.Piece (Elt F) S2048x1024 .f32)] half1.toLoadRect = View.ld (k0_pay3 (F := F)) half1 := by
    intro w
    rw [View.readCov_eq_canon']
    funext j
    refine (canon_rows_out (d := S2048x1024.size) 0 1024 inb_S2048x1024_S1024x1024_0_0 w _ (half1.idx j) rfl (Or.inr ?_)).trans ?_
    · show 0 + 1024 ≤ 1024 + 1 * (j 0).val
      omega
    · exact congrFun (View.canon_unit_zero (S := S2048x1024) hz _ _) _
  rw [e0, e1]
  rfl

/-- A later point: the mixers' gradient. -/
theorem out_B_6 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : ¬cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) (xo8 : Vec F S8x1024 .f32) (xo9 : Vec F S2048x1024 .f32) :
    out0_B_6 c i arg1 harg1 arg2 harg2 arg3 harg3 arg4 harg4 arg5 harg5 arg6 harg6 arg7 harg7 arg8 harg8 arg9 harg9 arg10 harg10 hc0 x0 x1 x2 x3 x4 x5 xo8 xo9 = k0_pay12 (sc x0 x1 x2) (nr x0 x1 x2) (rg x0 x1 x2 x3 x4 x5) x5 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  simp only [View.readAt_eq_ld, harg1.read_unread, harg2.read_unread, harg3.read_unread, harg4.read_unread, harg5.read_unread, harg6.read_unread, harg9.read_unread, harg10.read_unread, View.ld_unit_zero (S := S512x1024) hz, View.ld_unit_zero (S := S1x1024) hz, View.ld_unit_zero (S := S2048x1024) hz]
  exact View.canon_unit_zero hz _ _

/-- A later point: the residual stream's gradient. -/
theorem out_B_7 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : ¬cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) (xo8 : Vec F S8x1024 .f32) (xo9 : Vec F S2048x1024 .f32) :
    out0_B_7 c i arg1 harg1 arg2 harg2 arg3 harg3 arg4 harg4 arg5 harg5 arg6 harg6 arg7 harg7 arg8 harg8 arg9 harg9 arg10 harg10 hc0 x0 x1 x2 x3 x4 x5 xo8 xo9 = rg x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  simp only [View.readAt_eq_ld, harg1.read_unread, harg2.read_unread, harg3.read_unread, harg4.read_unread, harg5.read_unread, harg6.read_unread, harg9.read_unread, harg10.read_unread, View.ld_unit_zero (S := S512x1024) hz, View.ld_unit_zero (S := S1x1024) hz, View.ld_unit_zero (S := S2048x1024) hz]
  exact View.canon_unit_zero hz _ _

/-- A later point: the 8-row block. -/
theorem out_B_8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : ¬cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) (xo8 : Vec F S8x1024 .f32) (xo9 : Vec F S2048x1024 .f32) :
    out0_B_8 c i arg1 harg1 arg2 harg2 arg3 harg3 arg4 harg4 arg5 harg5 arg6 harg6 arg7 harg7 arg8 harg8 arg9 harg9 arg10 harg10 hc0 x0 x1 x2 x3 x4 x5 xo8 xo9 = acc8 x0 x1 x2 x3 x4 x5 xo8 := by
  unfold out0_B_8
  unfold kernelRun0_B
  dsimp only
  sl_unfold_words
  simp only [View.readAt_eq_ld, harg1.read_unread, harg2.read_unread, harg3.read_unread, harg4.read_unread, harg5.read_unread, harg6.read_unread, harg9.read_unread, harg10.read_unread, View.ld_unit_zero (S := S512x1024) hz, View.ld_unit_zero (S := S1x1024) hz, View.ld_unit_zero (S := S2048x1024) hz]
  funext y
  unfold acc8
  by_cases h0 : (y 0).val = 0
  · rw [if_pos h0]
    refine (View.read_writes_cons_rows_of_not_mem (d := S8x1024.size) arg9.view _ inb_S8x1024_S1x1024_1_0 _ _ y (o := 1) (W := 1) rfl rfl (Or.inl (by omega))).trans ?_
    exact View.read_writes_cons_rows_of_mem (d := S8x1024.size) arg9.view _ inb_S8x1024_S1x1024_0_0 _ _ y (o := 0) (ix2 ⟨0, Nat.one_pos⟩ ⟨(y 1).val, idx2_lt1 y⟩) rfl h0 rfl
  rw [if_neg h0]
  by_cases h1 : (y 0).val = 1
  · rw [if_pos h1]
    exact View.read_writes_cons_rows_of_mem (d := S8x1024.size) arg9.view _ inb_S8x1024_S1x1024_1_0 _ _ y (o := 1) (ix2 ⟨0, Nat.one_pos⟩ ⟨(y 1).val, idx2_lt1 y⟩) rfl h1 rfl
  rw [if_neg h1]
  refine (View.read_writes_cons_rows_of_not_mem (d := S8x1024.size) arg9.view _ inb_S8x1024_S1x1024_1_0 _ _ y (o := 1) (W := 1) rfl rfl (Or.inr (by omega))).trans ?_
  refine (View.read_writes_cons_rows_of_not_mem (d := S8x1024.size) arg9.view _ inb_S8x1024_S1x1024_0_0 _ _ y (o := 0) (W := 1) rfl rfl (Or.inr (by omega))).trans ?_
  exact congrFun (harg9.read_unread xo8) y

/-- A later point: the weight's gradient block. -/
theorem out_B_9 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x2048 .f32) (harg7 : arg7.IsWhole) (arg8 : Memref sig .tc .vmem S512x1024 .f32) (harg8 : arg8.IsWhole) (arg9 : Memref sig .tc .vmem S8x1024 .f32) (harg9 : arg9.IsWhole) (arg10 : Memref sig .tc .vmem S2048x1024 .f32) (harg10 : arg10.IsWhole) (hc0 : ¬cond0_0 i)
    (x0 : Vec F S512x1024 .bf16) (x1 : Vec F S512x1024 .bf16) (x2 : Vec F S2048x1024 .bf16) (x3 : Vec F S512x1024 .f32) (x4 : Vec F S512x1024 .f32) (x5 : Vec F S1x1024 .f32) (xo8 : Vec F S8x1024 .f32) (xo9 : Vec F S2048x1024 .f32) :
    out0_B_9 c i arg1 harg1 arg2 harg2 arg3 harg3 arg4 harg4 arg5 harg5 arg6 harg6 arg7 harg7 arg8 harg8 arg9 harg9 arg10 harg10 hc0 x0 x1 x2 x3 x4 x5 xo8 xo9 = acc9 x0 x1 x2 x3 x4 x5 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  simp only [View.readAt_eq_ld, harg1.read_unread, harg2.read_unread, harg3.read_unread, harg4.read_unread, harg5.read_unread, harg6.read_unread, harg9.read_unread, harg10.read_unread, View.ld_unit_zero (S := S512x1024) hz, View.ld_unit_zero (S := S1x1024) hz, View.ld_unit_zero (S := S2048x1024) hz]
  funext y
  exact (read9 _ _ _ y).trans rfl

end Cert.Proof.OutProj

end
-- ==== Proof.OutProj.lean ====
/-
  THE OUTPUT PROJECTION, POST-NORM AND LOSS, GOING BACK (`Kernel`): what the four result arrays hold.

  The kernel walks eight blocks of 512 tokens. At each it computes the block's projected rows, their difference from the
  target and the way back; the mixers' gradient and the residual stream's gradient are written block by block, while the
  loss's column sums, the post-norm weight's gradient and the projection weight's gradient are added to over the eight
  points. `outs6` … `outs9` say what each point leaves, `final6` … `final9` what the arrays hold at the end, in the row
  quantities of `Head.lean`.
-/
module

public import proofs.«01_k».proof.Proof.Head
public import proofs.«01_k».proof.Proof.OutBody

@[expose] public section

noncomputable section

open Idealize.ShloMosaic Idealize.ShloMosaic.TcCoe Idealize.SL.Sem Idealize.ShloMosaic.ValueIdx
open Idealize.ShloMosaic.Pipeline (Dat)
open scoped BigOperators

namespace Cert.Proof.OutProj

open Cert.KernelIdeal Cert.KernelIdeal.Gen Cert.Proof.Blocks Cert.Proof.Rows Cert.Proof.Head

section Block
variable (x0 x1 : S512x1024.Idx → EReal) (x2 : S2048x1024.Idx → EReal) (x3 x4 : S512x1024.Idx → EReal) (x5 : S1x1024.Idx → EReal)

/-- What one block adds to the 8-row block. -/
def t8 (y : S8x1024.Idx) : EReal :=
  if (y 0).val = 0 then ∑ s : Fin 512, Db x0 x1 x2 x3 x4 x5 s.val ⟨(y 1).val, idx2_lt1 y⟩ * Db x0 x1 x2 x3 x4 x5 s.val ⟨(y 1).val, idx2_lt1 y⟩
  else if (y 0).val = 1 then ∑ s : Fin 512, Rb x0 x1 x2 x3 x4 x5 s.val ⟨(y 1).val, idx2_lt1 y⟩ * on (mix (row x0 s.val) (row x1 s.val) (row x2)) ⟨(y 1).val, idx2_lt1 y⟩
  else 0

/-- The two mixers' outputs side by side. -/
def both {n : ℕ} (a b : (⟨2, ![n, 1024]⟩ : Shape).Idx → EReal) (s e : ℕ) : EReal := if e < 1024 then rd a s e else rd b s (e - 1024)

/-- What one block adds to the weight's gradient. -/
def t9 (y : S2048x1024.Idx) : EReal := ∑ s : Fin 512, both x0 x1 s.val (y 0).val * Ob x0 x1 x2 x3 x4 x5 s.val ⟨(y 1).val, idx2_lt1 y⟩

theorem acc8_at (prev : S8x1024.Idx → EReal) (y : S8x1024.Idx) :
    (acc8 (F := Ideal) x0 x1 x2 x3 x4 x5 prev y : EReal) = prev y + t8 x0 x1 x2 x3 x4 x5 y := by
  unfold acc8 t8
  by_cases h0 : (y 0).val = 0
  · rw [if_pos h0, if_pos h0]
    refine (pay9_at x0 x1 x2 x3 x4 x5 (View.ld (Val := Elt Ideal) (e' := .f32) prev row0) _).trans (congrArg (· + _) ?_)
    refine congrArg prev (funext (Fin.forall_fin_two.mpr ⟨Fin.ext ?_, Fin.ext ?_⟩))
    · show 0 + 1 * 0 = (y 0).val; omega
    · show 0 + 1 * (y 1).val = (y 1).val; omega
  rw [if_neg h0, if_neg h0]
  by_cases h1 : (y 0).val = 1
  · rw [if_pos h1, if_pos h1]
    refine (pay10_at x0 x1 x2 x3 x4 x5 (View.ld (Val := Elt Ideal) (e' := .f32) prev row1) _).trans (congrArg (· + _) ?_)
    refine congrArg prev (funext (Fin.forall_fin_two.mpr ⟨Fin.ext ?_, Fin.ext ?_⟩))
    · show 1 + 1 * 0 = (y 0).val; omega
    · show 0 + 1 * (y 1).val = (y 1).val; omega
  rw [if_neg h1, if_neg h1]
  exact (add_zero (prev y)).symm

theorem acc9_at (prev : S2048x1024.Idx → EReal) (y : S2048x1024.Idx) :
    (acc9 (F := Ideal) x0 x1 x2 x3 x4 x5 prev y : EReal) = prev y + t9 x0 x1 x2 x3 x4 x5 y := by
  unfold acc9 t9 both
  by_cases h0 : (y 0).val < 1024
  · rw [dif_pos h0]
    refine (pay13_at x0 x1 x2 x3 x4 x5 (View.ld (Val := Elt Ideal) (e' := .f32) prev half0) _).trans (congrArg₂ (· + ·) ?_ ?_)
    · refine congrArg prev (funext (Fin.forall_fin_two.mpr ⟨Fin.ext ?_, Fin.ext ?_⟩))
      · show 0 + 1 * (y 0).val = (y 0).val; omega
      · show 0 + 1 * (y 1).val = (y 1).val; omega
    · refine Finset.sum_congr rfl fun s _ => ?_
      rw [if_pos h0]
  · rw [dif_neg h0]
    refine (pay1_at x0 x1 x2 x3 x4 x5 (View.ld (Val := Elt Ideal) (e' := .f32) prev half1) _).trans (congrArg₂ (· + ·) ?_ ?_)
    · refine congrArg prev (funext (Fin.forall_fin_two.mpr ⟨Fin.ext ?_, Fin.ext ?_⟩))
      · show 1024 + 1 * ((y 0).val - 1024) = (y 0).val; omega
      · show 0 + 1 * (y 1).val = (y 1).val; omega
    · refine Finset.sum_congr rfl fun s _ => ?_
      rw [if_neg h0]

end Block

variable (m : (ℓ : Loc nD τ sig) → Buf (Elt Ideal) ℓ) (ρ : Dev nD → PrngReg)

/-! The arguments. -/

abbrev A0 (c : Dev nD) : S4096x1024.Idx → EReal := m ((c : Thread nD τ).loc main_arg0)
abbrev A1 (c : Dev nD) : S4096x1024.Idx → EReal := m ((c : Thread nD τ).loc main_arg1)
abbrev A2 (c : Dev nD) : S2048x1024.Idx → EReal := m ((c : Thread nD τ).loc main_arg2)
abbrev A3 (c : Dev nD) : S4096x1024.Idx → EReal := m ((c : Thread nD τ).loc main_arg3)
abbrev A4 (c : Dev nD) : S4096x1024.Idx → EReal := m ((c : Thread nD τ).loc main_arg4)
abbrev A5 (c : Dev nD) : S1x1024.Idx → EReal := m ((c : Thread nD τ).loc main_arg5)

/-! Where each window's block sits. -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel

theorem blk0 (c : Dev nD) (t : Fin cfg0.N) (a : Fin 512) : row (n := 512) (iblk m c 0 t) a.val = row (A0 m c) (512 * t.val + a.val) := by
  funext j
  show rd _ _ _ = rd _ _ _
  rw [rd_of_lt _ a.isLt j.isLt]
  unfold iblk
  rw [View.read_apply]
  refine (congrFun (V_main_arg0 m c) _).trans (eq_rd (n := 4096) (m := 1024) (A0 m c) _ ?_ ?_)
  · show win0_0.index t 0 * 512 + 1 * a.val = _; rw [(idx0 t).1]; omega
  · show win0_0.index t 1 * 1024 + 1 * j.val = _; rw [(idx0 t).2]; omega

theorem blk1 (c : Dev nD) (t : Fin cfg0.N) (a : Fin 512) : row (n := 512) (iblk m c 1 t) a.val = row (A1 m c) (512 * t.val + a.val) := by
  funext j
  show rd _ _ _ = rd _ _ _
  rw [rd_of_lt _ a.isLt j.isLt]
  unfold iblk
  rw [View.read_apply]
  refine (congrFun (V_main_arg1 m c) _).trans (eq_rd (n := 4096) (m := 1024) (A1 m c) _ ?_ ?_)
  · show win0_1.index t 0 * 512 + 1 * a.val = _; rw [(idx1 t).1]; omega
  · show win0_1.index t 1 * 1024 + 1 * j.val = _; rw [(idx1 t).2]; omega

theorem blk3 (c : Dev nD) (t : Fin cfg0.N) (a : Fin 512) : row (n := 512) (iblk m c 3 t) a.val = row (A3 m c) (512 * t.val + a.val) := by
  funext j
  show rd _ _ _ = rd _ _ _
  rw [rd_of_lt _ a.isLt j.isLt]
  unfold iblk
  rw [View.read_apply]
  refine (congrFun (V_main_arg3 m c) _).trans (eq_rd (n := 4096) (m := 1024) (A3 m c) _ ?_ ?_)
  · show win0_3.index t 0 * 512 + 1 * a.val = _; rw [(idx3 t).1]; omega
  · show win0_3.index t 1 * 1024 + 1 * j.val = _; rw [(idx3 t).2]; omega

theorem blk4 (c : Dev nD) (t : Fin cfg0.N) (a : Fin 512) : row (n := 512) (iblk m c 4 t) a.val = row (A4 m c) (512 * t.val + a.val) := by
  funext j
  show rd _ _ _ = rd _ _ _
  rw [rd_of_lt _ a.isLt j.isLt]
  unfold iblk
  rw [View.read_apply]
  refine (congrFun (V_main_arg4 m c) _).trans (eq_rd (n := 4096) (m := 1024) (A4 m c) _ ?_ ?_)
  · show win0_4.index t 0 * 512 + 1 * a.val = _; rw [(idx4 t).1]; omega
  · show win0_4.index t 1 * 1024 + 1 * j.val = _; rw [(idx4 t).2]; omega

theorem blk2 (c : Dev nD) (t : Fin cfg0.N) : iblk m c 2 t = A2 m c := by
  funext y
  unfold iblk
  rw [View.read_apply]
  refine (congrFun (V_main_arg2 m c) _).trans ?_
  refine congrArg (A2 m c) (funext (Fin.forall_fin_two.mpr ⟨Fin.ext ?_, Fin.ext ?_⟩))
  · show win0_2.index t 0 * 2048 + 1 * (y 0).val = _; rw [(idx2 t).1]; omega
  · show win0_2.index t 1 * 1024 + 1 * (y 1).val = _; rw [(idx2 t).2]; omega

theorem blk5 (c : Dev nD) (t : Fin cfg0.N) : iblk m c 5 t = A5 m c := by
  funext y
  unfold iblk
  rw [View.read_apply]
  refine (congrFun (V_main_arg5 m c) _).trans ?_
  refine congrArg (A5 m c) (funext (Fin.forall_fin_two.mpr ⟨Fin.ext ?_, Fin.ext ?_⟩))
  · show win0_5.index t 0 * 1 + 1 * (y 0).val = _; rw [(idx5 t).1]; omega
  · show win0_5.index t 1 * 1024 + 1 * (y 1).val = _; rw [(idx5 t).2]; omega

/-! One token's quantities, of the whole arrays. -/

/-- The projected row of token `s`. -/
abbrev Xm (c : Dev nD) (s : ℕ) : Fin 1024 → EReal := mix (row (A0 m c) s) (row (A1 m c) s) (row (A2 m c))
/-- Its difference from the target. -/
abbrev Dm (c : Dev nD) (s : ℕ) (j : Fin 1024) : EReal := Db (A0 m c) (A1 m c) (A2 m c) (A3 m c) (A4 m c) (A5 m c) s j
/-- The residual stream's gradient. -/
abbrev Rm (c : Dev nD) (s : ℕ) (j : Fin 1024) : EReal := Rb (A0 m c) (A1 m c) (A2 m c) (A3 m c) (A4 m c) (A5 m c) s j
/-- The projected row's gradient. -/
abbrev Om (c : Dev nD) (s : ℕ) (j : Fin 1024) : EReal := Ob (A0 m c) (A1 m c) (A2 m c) (A3 m c) (A4 m c) (A5 m c) s j

section
variable (c : Dev nD) (t : Fin cfg0.N)

theorem Db_blk (s : Fin 512) (j : Fin 1024) : Db (iblk m c 0 t) (iblk m c 1 t) (iblk m c 2 t) (iblk m c 3 t) (iblk m c 4 t) (iblk m c 5 t) s.val j = Dm m c (512 * t.val + s.val) j := by
  show D _ _ _ _ _ _ j = D _ _ _ _ _ _ j
  rw [blk0, blk1, blk2, blk3, blk4, blk5]

theorem Rb_blk (s : Fin 512) (j : Fin 1024) : Rb (iblk m c 0 t) (iblk m c 1 t) (iblk m c 2 t) (iblk m c 3 t) (iblk m c 4 t) (iblk m c 5 t) s.val j = Rm m c (512 * t.val + s.val) j := by
  show R _ _ _ _ _ _ j = R _ _ _ _ _ _ j
  rw [blk0, blk1, blk2, blk3, blk4, blk5]

theorem Ob_blk (s : Fin 512) (j : Fin 1024) : Ob (iblk m c 0 t) (iblk m c 1 t) (iblk m c 2 t) (iblk m c 3 t) (iblk m c 4 t) (iblk m c 5 t) s.val j = Om m c (512 * t.val + s.val) j := by
  show O _ _ _ _ _ _ j = O _ _ _ _ _ _ j
  rw [blk0, blk1, blk2, blk3, blk4, blk5]

theorem Xb_blk (s : Fin 512) : mix (row (n := 512) (iblk m c 0 t) s.val) (row (n := 512) (iblk m c 1 t) s.val) (row (n := 2048) (iblk m c 2 t)) = Xm m c (512 * t.val + s.val) := by
  rw [blk0, blk1, blk2]

theorem both_blk (s : Fin 512) (e : ℕ) (he : e < 2048) : both (n := 512) (iblk m c 0 t) (iblk m c 1 t) s.val e = both (A0 m c) (A1 m c) (512 * t.val + s.val) e := by
  unfold both
  by_cases h : e < 1024
  · rw [if_pos h, if_pos h]
    exact congrFun (blk0 m c t s) ⟨e, h⟩
  · rw [if_neg h, if_neg h]
    exact congrFun (blk1 m c t s) ⟨e - 1024, by omega⟩

/-- What point `k` adds to the 8-row block. -/
def term8 (y : S8x1024.Idx) (k : ℕ) : EReal :=
  if (y 0).val = 0 then ∑ s : Fin 512, Dm m c (512 * k + s.val) ⟨(y 1).val, idx2_lt1 y⟩ * Dm m c (512 * k + s.val) ⟨(y 1).val, idx2_lt1 y⟩
  else if (y 0).val = 1 then ∑ s : Fin 512, Rm m c (512 * k + s.val) ⟨(y 1).val, idx2_lt1 y⟩ * on (Xm m c (512 * k + s.val)) ⟨(y 1).val, idx2_lt1 y⟩
  else 0

/-- What point `k` adds to the weight's gradient. -/
def term9 (y : S2048x1024.Idx) (k : ℕ) : EReal :=
  ∑ s : Fin 512, both (A0 m c) (A1 m c) (512 * k + s.val) (y 0).val * Om m c (512 * k + s.val) ⟨(y 1).val, idx2_lt1 y⟩

theorem t8_blk (y : S8x1024.Idx) : t8 (iblk m c 0 t) (iblk m c 1 t) (iblk m c 2 t) (iblk m c 3 t) (iblk m c 4 t) (iblk m c 5 t) y = term8 m c y t.val := by
  unfold t8 term8
  simp only [Db_blk, Rb_blk, Xb_blk]

theorem t9_blk (y : S2048x1024.Idx) : t9 (iblk m c 0 t) (iblk m c 1 t) (iblk m c 2 t) (iblk m c 3 t) (iblk m c 4 t) (iblk m c 5 t) y = term9 m c y t.val := by
  unfold t9 term9
  refine Finset.sum_congr rfl fun s _ => ?_
  rw [Ob_blk, both_blk m c t s (y 0).val (idx2_lt0 y)]

/-! What a point leaves. -/

theorem step6 (y : S512x2048.Idx) : ((outsAt0 m c t.val t.isLt).1 y : EReal) = ∑ k : Fin 1024, Om m c (512 * t.val + (y 0).val) k * row (A2 m c) (y 1).val k := by
  have h : ((outsAt0 m c t.val t.isLt).1 y : EReal) = ∑ k : Fin 1024, Ob (iblk m c 0 t) (iblk m c 1 t) (iblk m c 2 t) (iblk m c 3 t) (iblk m c 4 t) (iblk m c 5 t) (y 0).val k * row (n := 2048) (iblk m c 2 t) (y 1).val k := by
    by_cases h0 : t.val % 8 = 0
    · rw [outsAt0_A m c t h0]
      dsimp only
      rw [out_A_6]
      exact pay12_at _ _ _ _ _ _ y
    · rw [outsAt0_B m c t h0]
      dsimp only
      rw [out_B_6]
      exact pay12_at _ _ _ _ _ _ y
  rw [h]
  refine Finset.sum_congr rfl fun k _ => ?_
  rw [← Ob_blk m c t ⟨(y 0).val, idx2_lt0 y⟩, blk2]

theorem step7 (y : S512x1024.Idx) : ((outsAt0 m c t.val t.isLt).2.1 y : EReal) = Rm m c (512 * t.val + (y 0).val) ⟨(y 1).val, idx2_lt1 y⟩ := by
  rw [← Rb_blk m c t ⟨(y 0).val, idx2_lt0 y⟩]
  by_cases h0 : t.val % 8 = 0
  · rw [outsAt0_A m c t h0]
    dsimp only
    rw [out_A_7]
    exact pay8_at _ _ _ _ _ _ y
  · rw [outsAt0_B m c t h0]
    dsimp only
    rw [out_B_7]
    exact pay8_at _ _ _ _ _ _ y

theorem reset8 (h0 : t.val % 8 = 0) (y : S8x1024.Idx) : ((outsAt0 m c t.val t.isLt).2.2.1 y : EReal) = term8 m c y t.val := by
  rw [outsAt0_A m c t h0]
  dsimp only
  rw [out_A_8, ← t8_blk m c t]
  refine (acc8_at (iblk m c 0 t) (iblk m c 1 t) (iblk m c 2 t) (iblk m c 3 t) (iblk m c 4 t) (iblk m c 5 t) (k0_pay2 (F := Ideal)) y).trans ?_
  refine (congrArg (· + _) (?_ : (k0_pay2 (F := Ideal) y : EReal) = 0)).trans (zero_add _)
  exact Ideal.ofBits_zero_f32

theorem add8 (h0 : ¬t.val % 8 = 0) (y : S8x1024.Idx) : ((outsAt0 m c t.val t.isLt).2.2.1 y : EReal)
    = ((outsAt0 m c (t.val - 1) (Nat.lt_of_le_of_lt (Nat.sub_le _ _) t.isLt)).2.2.1 y : EReal) + term8 m c y t.val := by
  rw [outsAt0_B m c t h0]
  dsimp only
  rw [out_B_8, ← t8_blk m c t]
  exact acc8_at (iblk m c 0 t) (iblk m c 1 t) (iblk m c 2 t) (iblk m c 3 t) (iblk m c 4 t) (iblk m c 5 t) _ y

theorem reset9 (h0 : t.val % 8 = 0) (y : S2048x1024.Idx) : ((outsAt0 m c t.val t.isLt).2.2.2 y : EReal) = term9 m c y t.val := by
  rw [outsAt0_A m c t h0]
  dsimp only
  rw [out_A_9, ← t9_blk m c t]
  refine (acc9_at (iblk m c 0 t) (iblk m c 1 t) (iblk m c 2 t) (iblk m c 3 t) (iblk m c 4 t) (iblk m c 5 t) (k0_pay3 (F := Ideal)) y).trans ?_
  refine (congrArg (· + _) (?_ : (k0_pay3 (F := Ideal) y : EReal) = 0)).trans (zero_add _)
  exact Ideal.ofBits_zero_f32

theorem add9 (h0 : ¬t.val % 8 = 0) (y : S2048x1024.Idx) : ((outsAt0 m c t.val t.isLt).2.2.2 y : EReal)
    = ((outsAt0 m c (t.val - 1) (Nat.lt_of_le_of_lt (Nat.sub_le _ _) t.isLt)).2.2.2 y : EReal) + term9 m c y t.val := by
  rw [outsAt0_B m c t h0]
  dsimp only
  rw [out_B_9, ← t9_blk m c t]
  exact acc9_at (iblk m c 0 t) (iblk m c 1 t) (iblk m c 2 t) (iblk m c 3 t) (iblk m c 4 t) (iblk m c 5 t) _ y

end

theorem outs8_eq (c : Dev nD) (y : S8x1024.Idx) : ∀ (n : ℕ) (h : n < cfg0.N), ((outsAt0 m c n h).2.2.1 y : EReal) = ∑ k ∈ Finset.range (n + 1), term8 m c y k
  | 0, h => by
    rw [reset8 m c ⟨0, h⟩ rfl y]
    exact (Finset.sum_range_one _).symm
  | n + 1, h => by
    have hN : n + 1 < 8 := h.trans_eq N_0
    rw [add8 m c ⟨n + 1, h⟩ (by dsimp only; omega) y, Finset.sum_range_succ]
    exact congrArg (· + _) (outs8_eq c y n (Nat.lt_of_succ_lt h))

theorem outs9_eq (c : Dev nD) (y : S2048x1024.Idx) : ∀ (n : ℕ) (h : n < cfg0.N), ((outsAt0 m c n h).2.2.2 y : EReal) = ∑ k ∈ Finset.range (n + 1), term9 m c y k
  | 0, h => by
    rw [reset9 m c ⟨0, h⟩ rfl y]
    exact (Finset.sum_range_one _).symm
  | n + 1, h => by
    have hN : n + 1 < 8 := h.trans_eq N_0
    rw [add9 m c ⟨n + 1, h⟩ (by dsimp only; omega) y, Finset.sum_range_succ]
    exact congrArg (· + _) (outs9_eq c y n (Nat.lt_of_succ_lt h))

/-! The four result arrays. -/

/-- The mixers' gradient. -/
def G6 (c : Dev nD) : S4096x2048.Idx → EReal := fun i => ∑ k : Fin 1024, Om m c (i 0).val k * row (A2 m c) (i 1).val k
/-- The residual stream's gradient. -/
def G7 (c : Dev nD) : S4096x1024.Idx → EReal := fun i => Rm m c (i 0).val ⟨(i 1).val, idx2_lt1 i⟩
/-- Row 0: the loss's column sums; row 1: the post-norm weight's gradient. -/
def G8 (c : Dev nD) : S8x1024.Idx → EReal := fun y =>
  if (y 0).val = 0 then ∑ s : Fin 4096, Dm m c s.val ⟨(y 1).val, idx2_lt1 y⟩ * Dm m c s.val ⟨(y 1).val, idx2_lt1 y⟩
  else if (y 0).val = 1 then ∑ s : Fin 4096, Rm m c s.val ⟨(y 1).val, idx2_lt1 y⟩ * on (Xm m c s.val) ⟨(y 1).val, idx2_lt1 y⟩
  else 0
/-- The projection weight's gradient. -/
def G9 (c : Dev nD) : S2048x1024.Idx → EReal := fun y =>
  ∑ s : Fin 4096, both (A0 m c) (A1 m c) s.val (y 0).val * Om m c s.val ⟨(y 1).val, idx2_lt1 y⟩

theorem sum8 (c : Dev nD) (y : S8x1024.Idx) : ∑ k ∈ Finset.range (7 + 1), term8 m c y k = G8 m c y := by
  unfold term8 G8
  by_cases h0 : (y 0).val = 0
  · simp only [if_pos h0]
    exact sum_blocks' (fun s => Dm m c s ⟨(y 1).val, idx2_lt1 y⟩ * Dm m c s ⟨(y 1).val, idx2_lt1 y⟩) 8 512 4096 rfl
  by_cases h1 : (y 0).val = 1
  · simp only [if_neg h0, if_pos h1]
    exact sum_blocks' (fun s => Rm m c s ⟨(y 1).val, idx2_lt1 y⟩ * on (Xm m c s) ⟨(y 1).val, idx2_lt1 y⟩) 8 512 4096 rfl
  · simp only [if_neg h0, if_neg h1]
    exact Finset.sum_const_zero

theorem sum9 (c : Dev nD) (y : S2048x1024.Idx) : ∑ k ∈ Finset.range (7 + 1), term9 m c y k = G9 m c y :=
  sum_blocks' (fun s => both (A0 m c) (A1 m c) s (y 0).val * Om m c s ⟨(y 1).val, idx2_lt1 y⟩) 8 512 4096 rfl

theorem flushed6_eq (c : Dev nD) (t : Fin cfg0.N) (hf : (cfg0.win 6).flush t = true) :
    (dats m 0 c).flushed 6 t = ((cfg0.win 6).blk t).view.read (Elt Ideal) (G6 m c) := by
  rw [Cert.KernelIdeal.Value.flushed6]
  funext y
  show ((outsAt0 m c t.val t.isLt).1 y : EReal) = _
  rw [step6 m c t y, View.read_apply]
  have e0 : (((cfg0.win 6).blk t).view.emb y 0).val = 512 * t.val + (y 0).val := by
    show win0_6.index t 0 * 512 + 1 * (y 0).val = _; rw [(idx6 t).1]; omega
  have e1 : (((cfg0.win 6).blk t).view.emb y 1).val = (y 1).val := by
    show win0_6.index t 1 * 2048 + 1 * (y 1).val = _; rw [(idx6 t).2]; omega
  unfold G6
  show _ = ∑ k : Fin 1024, Om m c (((cfg0.win 6).blk t).view.emb y 0).val k * row (A2 m c) (((cfg0.win 6).blk t).view.emb y 1).val k
  rw [e0, e1]

/-- Result array 6. -/
theorem final6 (c : Dev nD) : (dats m 0 c).arrAt 6 cfg0.N = G6 m c :=
  (dats m 0 c).arrAt_eq_of_cover 6 (G6 m c) (flushed6_eq m c) fun i => by
    have h0 : (i 0 : Nat) < 4096 := (i 0).isLt
    have h1 : (i 1 : Nat) < 2048 := (i 1).isLt
    have hN : cfg0.N = 8 := N_0
    have ht : (i 0 : Nat) / 512 < cfg0.N := by omega
    refine ⟨⟨(i 0 : Nat) / 512, ht⟩, flush0_6 _, ?_⟩
    show i ∈ ((View.whole main_v0_0).slice (win0_6.rect ⟨(i 0 : Nat) / 512, ht⟩)).set
    rw [View.set_slice_whole, Rect.mem_set_unit]
    have e := idx6 ⟨(i 0 : Nat) / 512, ht⟩
    dsimp only at e
    intro a
    match a with
    | ⟨0, _⟩ =>
      show win0_6.index ⟨(i 0 : Nat) / 512, ht⟩ 0 * 512 ≤ (i 0 : Nat) ∧ (i 0 : Nat) < win0_6.index ⟨(i 0 : Nat) / 512, ht⟩ 0 * 512 + 512
      rw [e.1]; omega
    | ⟨1, _⟩ =>
      show win0_6.index ⟨(i 0 : Nat) / 512, ht⟩ 1 * 2048 ≤ (i 1 : Nat) ∧ (i 1 : Nat) < win0_6.index ⟨(i 0 : Nat) / 512, ht⟩ 1 * 2048 + 2048
      rw [e.2]; omega

theorem flushed7_eq (c : Dev nD) (t : Fin cfg0.N) (hf : (cfg0.win 7).flush t = true) :
    (dats m 0 c).flushed 7 t = ((cfg0.win 7).blk t).view.read (Elt Ideal) (G7 m c) := by
  rw [Cert.KernelIdeal.Value.flushed7]
  funext y
  show ((outsAt0 m c t.val t.isLt).2.1 y : EReal) = _
  rw [step7 m c t y, View.read_apply]
  have e0 : (((cfg0.win 7).blk t).view.emb y 0).val = 512 * t.val + (y 0).val := by
    show win0_7.index t 0 * 512 + 1 * (y 0).val = _; rw [(idx7 t).1]; omega
  have e1 : (((cfg0.win 7).blk t).view.emb y 1).val = (y 1).val := by
    show win0_7.index t 1 * 1024 + 1 * (y 1).val = _; rw [(idx7 t).2]; omega
  unfold G7
  show _ = Rm m c (((cfg0.win 7).blk t).view.emb y 0).val ⟨(((cfg0.win 7).blk t).view.emb y 1).val, _⟩
  rw [e0]
  exact congrArg _ (Fin.ext e1.symm)

/-- Result array 7. -/
theorem final7 (c : Dev nD) : (dats m 0 c).arrAt 7 cfg0.N = G7 m c :=
  (dats m 0 c).arrAt_eq_of_cover 7 (G7 m c) (flushed7_eq m c) fun i => by
    have h0 : (i 0 : Nat) < 4096 := (i 0).isLt
    have h1 : (i 1 : Nat) < 1024 := (i 1).isLt
    have hN : cfg0.N = 8 := N_0
    have ht : (i 0 : Nat) / 512 < cfg0.N := by omega
    refine ⟨⟨(i 0 : Nat) / 512, ht⟩, flush0_7 _, ?_⟩
    show i ∈ ((View.whole main_v0_1).slice (win0_7.rect ⟨(i 0 : Nat) / 512, ht⟩)).set
    rw [View.set_slice_whole, Rect.mem_set_unit]
    have e := idx7 ⟨(i 0 : Nat) / 512, ht⟩
    dsimp only at e
    intro a
    match a with
    | ⟨0, _⟩ =>
      show win0_7.index ⟨(i 0 : Nat) / 512, ht⟩ 0 * 512 ≤ (i 0 : Nat) ∧ (i 0 : Nat) < win0_7.index ⟨(i 0 : Nat) / 512, ht⟩ 0 * 512 + 512
      rw [e.1]; omega
    | ⟨1, _⟩ =>
      show win0_7.index ⟨(i 0 : Nat) / 512, ht⟩ 1 * 1024 ≤ (i 1 : Nat) ∧ (i 1 : Nat) < win0_7.index ⟨(i 0 : Nat) / 512, ht⟩ 1 * 1024 + 1024
      rw [e.2]; omega

theorem flushed8_eq (c : Dev nD) (t : Fin cfg0.N) (hf : (cfg0.win 8).flush t = true) :
    (dats m 0 c).flushed 8 t = ((cfg0.win 8).blk t).view.read (Elt Ideal) (G8 m c) := by
  have h7 := (flush0_8 t).mp hf
  have hN : t.val < 8 := t.isLt.trans_eq N_0
  have ht : t.val = 7 := by omega
  rw [Cert.KernelIdeal.Value.flushed8]
  funext y
  show ((outsAt0 m c t.val t.isLt).2.2.1 y : EReal) = _
  rw [outs8_eq m c y t.val t.isLt, ht, sum8, View.read_apply]
  refine congrArg (G8 m c) (funext (Fin.forall_fin_two.mpr ⟨Fin.ext ?_, Fin.ext ?_⟩))
  · show (y 0).val = win0_8.index t 0 * 8 + 1 * (y 0).val; rw [(idx8 t).1]; omega
  · show (y 1).val = win0_8.index t 1 * 1024 + 1 * (y 1).val; rw [(idx8 t).2]; omega

/-- Result array 8. -/
theorem final8 (c : Dev nD) : (dats m 0 c).arrAt 8 cfg0.N = G8 m c :=
  (dats m 0 c).arrAt_eq_of_cover 8 (G8 m c) (flushed8_eq m c) fun i => by
    have h0 : (i 0 : Nat) < 8 := (i 0).isLt
    have h1 : (i 1 : Nat) < 1024 := (i 1).isLt
    have hN : cfg0.N = 8 := N_0
    have ht : 7 < cfg0.N := by omega
    refine ⟨⟨7, ht⟩, (flush0_8 _).mpr rfl, ?_⟩
    show i ∈ ((View.whole main_v0_2).slice (win0_8.rect ⟨7, ht⟩)).set
    rw [View.set_slice_whole, Rect.mem_set_unit]
    have e := idx8 ⟨7, ht⟩
    intro a
    match a with
    | ⟨0, _⟩ =>
      show win0_8.index ⟨7, ht⟩ 0 * 8 ≤ (i 0 : Nat) ∧ (i 0 : Nat) < win0_8.index ⟨7, ht⟩ 0 * 8 + 8
      rw [e.1]; omega
    | ⟨1, _⟩ =>
      show win0_8.index ⟨7, ht⟩ 1 * 1024 ≤ (i 1 : Nat) ∧ (i 1 : Nat) < win0_8.index ⟨7, ht⟩ 1 * 1024 + 1024
      rw [e.2]; omega

theorem flushed9_eq (c : Dev nD) (t : Fin cfg0.N) (hf : (cfg0.win 9).flush t = true) :
    (dats m 0 c).flushed 9 t = ((cfg0.win 9).blk t).view.read (Elt Ideal) (G9 m c) := by
  have h7 := (flush0_9 t).mp hf
  have hN : t.val < 8 := t.isLt.trans_eq N_0
  have ht : t.val = 7 := by omega
  rw [Cert.KernelIdeal.Value.flushed9]
  funext y
  show ((outsAt0 m c t.val t.isLt).2.2.2 y : EReal) = _
  rw [outs9_eq m c y t.val t.isLt, ht, sum9, View.read_apply]
  refine congrArg (G9 m c) (funext (Fin.forall_fin_two.mpr ⟨Fin.ext ?_, Fin.ext ?_⟩))
  · show (y 0).val = win0_9.index t 0 * 2048 + 1 * (y 0).val; rw [(idx9 t).1]; omega
  · show (y 1).val = win0_9.index t 1 * 1024 + 1 * (y 1).val; rw [(idx9 t).2]; omega

/-- Result array 9. -/
theorem final9 (c : Dev nD) : (dats m 0 c).arrAt 9 cfg0.N = G9 m c :=
  (dats m 0 c).arrAt_eq_of_cover 9 (G9 m c) (flushed9_eq m c) fun i => by
    have h0 : (i 0 : Nat) < 2048 := (i 0).isLt
    have h1 : (i 1 : Nat) < 1024 := (i 1).isLt
    have hN : cfg0.N = 8 := N_0
    have ht : 7 < cfg0.N := by omega
    refine ⟨⟨7, ht⟩, (flush0_9 _).mpr rfl, ?_⟩
    show i ∈ ((View.whole main_v0_3).slice (win0_9.rect ⟨7, ht⟩)).set
    rw [View.set_slice_whole, Rect.mem_set_unit]
    have e := idx9 ⟨7, ht⟩
    intro a
    match a with
    | ⟨0, _⟩ =>
      show win0_9.index ⟨7, ht⟩ 0 * 2048 ≤ (i 0 : Nat) ∧ (i 0 : Nat) < win0_9.index ⟨7, ht⟩ 0 * 2048 + 2048
      rw [e.1]; omega
    | ⟨1, _⟩ =>
      show win0_9.index ⟨7, ht⟩ 1 * 1024 ≤ (i 1 : Nat) ∧ (i 1 : Nat) < win0_9.index ⟨7, ht⟩ 1 * 1024 + 1024
      rw [e.2]; omega

end Cert.Proof.OutProj

end
-- ==== Proof.OutProjRef.lean ====
/-
  THE OUTPUT PROJECTION, POST-NORM AND LOSS, GOING BACK (`Kernel`), against the reference: the reference's values row by
  row are the row quantities of `Head.lean` — the projected row over the two mixers side by side, the normalised row, the
  difference from the target, and the gradients as differentiating these gives them (`Norm.grad_eq` turns the gradient
  through the normalisation into the kernel's form).
-/
module

public import proofs.«01_k».proof.Defs
public import proofs.«01_k».proof.Proof.OutProj
public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem Idealize.ShloMosaic.ValueIdx
open scoped BigOperators

namespace Cert.Proof.OutProj

open Cert.Proof.Blocks Cert.Proof.Rows Cert.Proof.Head Cert.Proof.Consts
open Cert.ReferenceIdeal (S4096x1024 S4096x2048 S2048x1024 S1x1024 S4096 S4096x1 S1024 S8x1024 S6x1024 S1024x2048)
open Cert.ReferenceIdeal.Read

section
variable (x0 x1 : S4096x1024.Idx → EReal) (x2 : S2048x1024.Idx → EReal) (x3 x4 : S4096x1024.Idx → EReal) (x5 : S1x1024.Idx → EReal)

/-- A sum over 2048 is one over each half. -/
theorem sum_halves (f : Fin 2048 → EReal) (g h : Fin 1024 → EReal) (hg : ∀ e : Fin 1024, f ⟨e.val, e.isLt.trans (by decide)⟩ = g e)
    (hh : ∀ e : Fin 1024, f ⟨1024 + e.val, Nat.add_lt_add_left e.isLt 1024⟩ = h e) : ∑ k, f k = ∑ e, g e + ∑ e, h e :=
  (Fin.sum_univ_add (a := 1024) (b := 1024) f).trans
    (congrArg₂ (· + ·) (Finset.sum_congr rfl fun e _ => hg e) (Finset.sum_congr rfl fun e _ => hh e))

theorem v2_at (j : S4096x2048.Idx) : ((val_main_v2 (F := Ideal) x0 x1) j : EReal) = both x0 x1 (j 0).val (j 1).val := by
  have hj : (j 1).val < 2048 := idx2_lt1 j
  unfold both
  split_ifs with h
  · exact concat_cols (W := 2048) [⟨⟨2, ![4096, 1024]⟩, x0⟩, ⟨⟨2, ![4096, 1024]⟩, x1⟩] _ j 0 (show 0 < 2 by decide) x0 rfl 0 rfl (by omega) (by omega)
  · exact concat_cols (W := 2048) [⟨⟨2, ![4096, 1024]⟩, x0⟩, ⟨⟨2, ![4096, 1024]⟩, x1⟩] _ j 1 (show 1 < 2 by decide) x1 rfl 1024 rfl (by omega) (by omega)

/-- The projected row. -/
abbrev Xr (s : ℕ) : Fin 1024 → EReal := mix (row x0 s) (row x1 s) (row x2)

theorem v4_at (i : S4096x1024.Idx) : ((val_main_v4 (F := Ideal) x0 x1 x2) i : EReal) = Xr x0 x1 x2 (i 0).val ⟨(i 1).val, idx2_lt1 i⟩ := by
  rw [val_main_v4_apply]
  refine sum_halves _ _ _ (fun e => ?_) (fun e => ?_)
  · refine congrArg₂ (· * ·) ((v2_at x0 x1 _).trans ?_) (eq_rd x2 _ rfl rfl)
    exact if_pos e.isLt
  · refine congrArg₂ (· * ·) ((v2_at x0 x1 _).trans ?_) (eq_rd x2 _ rfl rfl)
    refine (if_neg (show ¬1024 + e.val < 1024 by omega)).trans ?_
    show rd x1 _ (1024 + e.val - 1024) = rd x1 _ e.val
    rw [Nat.add_sub_cancel_left]

theorem v12_at (i : S4096x1.Idx) : ((val_main_v12 (F := Ideal) x0 x1 x2) i : EReal) = Norm.ms eps (Xr x0 x1 x2 (i 0).val) := by
  rw [val_main_v12_apply, val_main_v10_apply, val_main_v8_apply, val_main_v7_apply, val_main_v9_apply, val_main_v11_apply]
  show Ideal.div (Ideal.ofBits .f32 0x00000000#32 + _) (Ideal.ofBits .f32 0x44800000#32) + Ideal.ofBits .f32 0x358637BD#32 = _
  rw [Ideal.ofBits_zero_f32, zero_add, c1024, ceps]
  unfold Norm.ms
  refine congrArg (fun s => Ideal.div s ((1024 : ℝ) : EReal) + ((eps : ℝ) : EReal)) ?_
  refine Finset.sum_congr rfl fun k _ => ?_
  rw [val_main_v6_apply]
  exact congrArg₂ (· * ·) (v4_at x0 x1 x2 _) (v4_at x0 x1 x2 _)

theorem v13_at (i : S4096x1.Idx) : ((val_main_v13 (F := Ideal) x0 x1 x2) i : EReal) = rs (Xr x0 x1 x2 (i 0).val) :=
  congrArg Ideal.rsqrt (v12_at x0 x1 x2 i)

theorem v16_at (i : S4096x1.Idx) : ((val_main_v16 (F := Ideal) x0 x1 x2) i : EReal) = ((-1 / 2 : ℝ) : EReal) * Ideal.div (rs (Xr x0 x1 x2 (i 0).val)) (Norm.ms eps (Xr x0 x1 x2 (i 0).val)) := by
  rw [val_main_v16_apply, val_main_v15_apply, val_main_v14_apply]
  exact congrArg₂ (· * ·) cneg (congrArg₂ Ideal.div (v13_at x0 x1 x2 i) (v12_at x0 x1 x2 i))

theorem v18_at (i : S4096x1024.Idx) : ((val_main_v18 (F := Ideal) x0 x1 x2) i : EReal) = on (Xr x0 x1 x2 (i 0).val) ⟨(i 1).val, idx2_lt1 i⟩ := by
  rw [val_main_v18_apply, val_main_v17_apply]
  exact congrArg₂ (· * ·) (v4_at x0 x1 x2 i) (v13_at x0 x1 x2 _)

theorem v19_at (i : S1x1024.Idx) : ((val_main_v19 (F := Ideal) x5) i : EReal) = row x5 0 ⟨(i 1).val, idx2_lt1 i⟩ := by
  rw [val_main_v19_apply, val_main_v5_apply]
  refine eq_rd (n := 1) (m := 1024) x5 _ rfl ?_
  exact Nat.mod_eq_of_lt (idx2_lt1 i)

theorem v23_at (i : S4096x1024.Idx) : ((val_main_v23 (F := Ideal) x0 x1 x2 x3 x4 x5) i : EReal) = Db x0 x1 x2 x3 x4 x5 (i 0).val ⟨(i 1).val, idx2_lt1 i⟩ := by
  rw [val_main_v23_apply, val_main_v22_apply, val_main_v21_apply, val_main_v20_apply]
  exact congrArg₂ (fun a b : EReal => a - b) (congrArg₂ (· + ·) (row_at x3 i) (congrArg₂ (· * ·) (v18_at x0 x1 x2 i) (v19_at x5 _))) (row_at x4 i)

theorem scale_R (d : EReal) : Ideal.div (((1 / 2 : ℝ) : EReal) * ((1 : ℝ) : EReal)) ((1024 : ℝ) : EReal) * (((2 : ℝ) : EReal) * d) = d * ((1 / 1024 : ℝ) : EReal) := by
  rw [Ideal.div_coe (by norm_num), ← EReal.coe_mul, ← EReal.coe_mul, ← mul_assoc, ← EReal.coe_mul, mul_comm]
  congr 2
  norm_num

theorem v39_at (i : S4096x1024.Idx) : ((val_main_v39 (F := Ideal) x0 x1 x2 x3 x4 x5) i : EReal) = Rb x0 x1 x2 x3 x4 x5 (i 0).val ⟨(i 1).val, idx2_lt1 i⟩ := by
  rw [val_main_v39_apply, val_main_v38_apply, val_main_v37_apply, val_main_v35_apply, val_main_v36_apply, val_main_v34_apply, val_main_v26_apply, val_main_v25_apply]
  show Ideal.div (Ideal.ofBits .f32 0x3F000000#32 * Ideal.ofBits .f32 0x3F800000#32) (Ideal.ofBits .f32 0x44800000#32) * (Ideal.ofBits .f32 0x40000000#32 * (val_main_v23 (F := Ideal) x0 x1 x2 x3 x4 x5) i) = _
  rw [c1024, chalf, c1, c2, v23_at]
  exact scale_R _

theorem v44_at (i : S4096x1024.Idx) : ((val_main_v44 (F := Ideal) x0 x1 x2 x3 x4 x5) i : EReal) = Rb x0 x1 x2 x3 x4 x5 (i 0).val ⟨(i 1).val, idx2_lt1 i⟩ * row x5 0 ⟨(i 1).val, idx2_lt1 i⟩ := by
  rw [val_main_v44_apply, val_main_v43_apply]
  exact congrArg₂ (· * ·) (v39_at x0 x1 x2 x3 x4 x5 i) (v19_at x5 _)

/-- The gradient of the normalised row. -/
abbrev Gr (s : ℕ) (k : Fin 1024) : EReal := Rb x0 x1 x2 x3 x4 x5 s k * row x5 0 k

theorem v53_at (i : S4096x1.Idx) : ((val_main_v53 (F := Ideal) x0 x1 x2 x3 x4 x5) i : EReal) = Norm.coef eps (Xr x0 x1 x2 (i 0).val) (Gr x0 x1 x2 x3 x4 x5 (i 0).val) := by
  rw [val_main_v53_apply, val_main_v51_apply, val_main_v48_apply, val_main_v47_apply, val_main_v52_apply]
  show Ideal.div ((Ideal.ofBits .f32 0x00000000#32 + _) * _) (Ideal.ofBits .f32 0x44800000#32) = _
  rw [Ideal.ofBits_zero_f32, zero_add, c1024, v16_at]
  unfold Norm.coef
  refine congrArg (fun s => Ideal.div (s * _) ((1024 : ℝ) : EReal)) ?_
  have hi : (i 1).val = 0 := Nat.lt_one_iff.mp (idx2_lt1 i)
  have e0 : (i 0).val * 1 + (i 1).val = (i 0).val := by omega
  refine Finset.sum_congr rfl fun k _ => ?_
  rw [val_main_v46_apply]
  refine congrArg₂ (· * ·) ((v4_at x0 x1 x2 _).trans ?_) ((v44_at x0 x1 x2 x3 x4 x5 _).trans ?_)
  · show Xr x0 x1 x2 ((i 0).val * 1 + (i 1).val) k = _
    rw [e0]
  · show Gr x0 x1 x2 x3 x4 x5 ((i 0).val * 1 + (i 1).val) k = _
    rw [e0]

theorem v55_at (i : S4096x1024.Idx) : ((val_main_v55 (F := Ideal) x0 x1 x2 x3 x4 x5) i : EReal) = Norm.coef eps (Xr x0 x1 x2 (i 0).val) (Gr x0 x1 x2 x3 x4 x5 (i 0).val) := by
  rw [val_main_v55_apply, val_main_v54_apply]
  show Ideal.ofBits .f32 0x00000000#32 + _ = _
  rw [Ideal.ofBits_zero_f32, zero_add, Fin.sum_univ_one]
  exact v53_at x0 x1 x2 x3 x4 x5 _

theorem v59_at (i : S4096x1024.Idx) : ((val_main_v59 (F := Ideal) x0 x1 x2 x3 x4 x5) i : EReal) = Ob x0 x1 x2 x3 x4 x5 (i 0).val ⟨(i 1).val, idx2_lt1 i⟩ := by
  rw [val_main_v59_apply, val_main_v57_apply, val_main_v50_apply, val_main_v49_apply, val_main_v56_apply, val_main_v58_apply]
  refine Eq.trans ?_ (ngrad_eq (Xr x0 x1 x2 (i 0).val) (Gr x0 x1 x2 x3 x4 x5 (i 0).val) _).symm
  exact congrArg₂ (· + ·) (congrArg₂ (· + ·) (congrArg₂ (· * ·) (v44_at x0 x1 x2 x3 x4 x5 i) (v13_at x0 x1 x2 _))
    (congrArg₂ (· * ·) (v4_at x0 x1 x2 i) (v55_at x0 x1 x2 x3 x4 x5 i))) (congrArg₂ (· * ·) (v55_at x0 x1 x2 x3 x4 x5 i) (v4_at x0 x1 x2 i))

/-! The four results. -/

theorem v63_at (i : S4096x2048.Idx) : ((val_main_v63 (F := Ideal) x0 x1 x2 x3 x4 x5) i : EReal) = ∑ k : Fin 1024, Ob x0 x1 x2 x3 x4 x5 (i 0).val k * row x2 (i 1).val k := by
  rw [val_main_v63_apply]
  refine Finset.sum_congr rfl fun k _ => ?_
  exact congrArg₂ (· * ·) (v59_at x0 x1 x2 x3 x4 x5 _) (eq_rd x2 _ rfl rfl)

theorem v62_at (i : S2048x1024.Idx) : ((val_main_v62 (F := Ideal) x0 x1 x2 x3 x4 x5) i : EReal) = ∑ s : Fin 4096, both x0 x1 s.val (i 0).val * Ob x0 x1 x2 x3 x4 x5 s.val ⟨(i 1).val, idx2_lt1 i⟩ := by
  rw [val_main_v62_apply, val_main_v61_apply]
  refine Finset.sum_congr rfl fun k _ => ?_
  exact (mul_comm _ _).trans (congrArg₂ (· * ·) (v2_at x0 x1 _) (v59_at x0 x1 x2 x3 x4 x5 _))

theorem v32_at (i : S1024.Idx) : ((val_main_v32 (F := Ideal) x0 x1 x2 x3 x4 x5) i : EReal) = ∑ s : Fin 4096, Db x0 x1 x2 x3 x4 x5 s.val ⟨(i 0).val, (i 0).isLt⟩ * Db x0 x1 x2 x3 x4 x5 s.val ⟨(i 0).val, (i 0).isLt⟩ := by
  rw [val_main_v32_apply]
  show Ideal.ofBits .f32 0x00000000#32 + _ = _
  rw [Ideal.ofBits_zero_f32, zero_add]
  refine Finset.sum_congr rfl fun k _ => ?_
  rw [val_main_v24_apply]
  exact congrArg₂ (· * ·) (v23_at x0 x1 x2 x3 x4 x5 _) (v23_at x0 x1 x2 x3 x4 x5 _)

theorem v41_at (i : S1024.Idx) : ((val_main_v41 (F := Ideal) x0 x1 x2 x3 x4 x5) i : EReal) = ∑ s : Fin 4096, Rb x0 x1 x2 x3 x4 x5 s.val ⟨(i 0).val, (i 0).isLt⟩ * on (Xr x0 x1 x2 s.val) ⟨(i 0).val, (i 0).isLt⟩ := by
  rw [val_main_v41_apply]
  show Ideal.ofBits .f32 0x00000000#32 + _ = _
  rw [Ideal.ofBits_zero_f32, zero_add]
  refine Finset.sum_congr rfl fun k _ => ?_
  rw [val_main_v40_apply]
  exact (mul_comm _ _).trans (congrArg₂ (· * ·) (v39_at x0 x1 x2 x3 x4 x5 _) (v18_at x0 x1 x2 _))

theorem v60_at (i : S1x1024.Idx) : ((val_main_v60 (F := Ideal) x0 x1 x2 x3 x4 x5) i : EReal) = ∑ s : Fin 4096, Rb x0 x1 x2 x3 x4 x5 s.val ⟨(i 1).val, idx2_lt1 i⟩ * on (Xr x0 x1 x2 s.val) ⟨(i 1).val, idx2_lt1 i⟩ := by
  rw [val_main_v60_apply, val_main_v45_apply]
  show Ideal.ofBits .f32 0x00000000#32 + _ = _
  rw [Ideal.ofBits_zero_f32, zero_add, Fin.sum_univ_one, val_main_v42_apply, v41_at]
  have e : ∀ h h', (⟨0 * 1024 + (i 1).val, h⟩ : Fin 1024) = ⟨(i 1).val, h'⟩ := fun _ _ => Fin.ext (by dsimp only; omega)
  refine Finset.sum_congr rfl fun k _ => ?_
  exact congrArg (fun a => Rb x0 x1 x2 x3 x4 x5 k.val a * on (Xr x0 x1 x2 k.val) a) (e _ _)

theorem v65_at (y : S8x1024.Idx) : ((val_main_v65 (F := Ideal) x0 x1 x2 x3 x4 x5) y : EReal) =
    if (y 0).val = 0 then ∑ s : Fin 4096, Db x0 x1 x2 x3 x4 x5 s.val ⟨(y 1).val, idx2_lt1 y⟩ * Db x0 x1 x2 x3 x4 x5 s.val ⟨(y 1).val, idx2_lt1 y⟩
    else if (y 0).val = 1 then ∑ s : Fin 4096, Rb x0 x1 x2 x3 x4 x5 s.val ⟨(y 1).val, idx2_lt1 y⟩ * on (Xr x0 x1 x2 s.val) ⟨(y 1).val, idx2_lt1 y⟩
    else 0 := by
  have hy : (y 0).val < 8 := idx2_lt0 y
  have hz : ∀ i : S6x1024.Idx, ((val_main_v64 (F := Ideal)) i : EReal) = 0 := fun i => by
    rw [val_main_v64_apply]
    exact Ideal.ofBits_zero_f32
  unfold val_main_v65
  split_ifs with h0 h1
  · refine (concat_rows (N := 8) [⟨⟨2, ![1, 1024]⟩, (val_main_v33 (F := Ideal) x0 x1 x2 x3 x4 x5)⟩, ⟨⟨2, ![1, 1024]⟩, (val_main_v60 (F := Ideal) x0 x1 x2 x3 x4 x5)⟩, ⟨⟨2, ![6, 1024]⟩, (val_main_v64 (F := Ideal))⟩] _ y 0 (show 0 < 3 by decide) (val_main_v33 (F := Ideal) x0 x1 x2 x3 x4 x5) rfl 0 rfl (by omega) (by omega)).trans ?_
    rw [rd_of_lt _ (show (y 0).val - 0 < 1 by omega) (idx2_lt1 y), val_main_v33_apply]
    exact v32_at x0 x1 x2 x3 x4 x5 _
  · refine (concat_rows (N := 8) [⟨⟨2, ![1, 1024]⟩, (val_main_v33 (F := Ideal) x0 x1 x2 x3 x4 x5)⟩, ⟨⟨2, ![1, 1024]⟩, (val_main_v60 (F := Ideal) x0 x1 x2 x3 x4 x5)⟩, ⟨⟨2, ![6, 1024]⟩, (val_main_v64 (F := Ideal))⟩] _ y 1 (show 1 < 3 by decide) (val_main_v60 (F := Ideal) x0 x1 x2 x3 x4 x5) rfl 1 rfl (by omega) (by omega)).trans ?_
    rw [rd_of_lt _ (show (y 0).val - 1 < 1 by omega) (idx2_lt1 y)]
    exact v60_at x0 x1 x2 x3 x4 x5 _
  · refine (concat_rows (N := 8) [⟨⟨2, ![1, 1024]⟩, (val_main_v33 (F := Ideal) x0 x1 x2 x3 x4 x5)⟩, ⟨⟨2, ![1, 1024]⟩, (val_main_v60 (F := Ideal) x0 x1 x2 x3 x4 x5)⟩, ⟨⟨2, ![6, 1024]⟩, (val_main_v64 (F := Ideal))⟩] _ y 2 (show 2 < 3 by decide) (val_main_v64 (F := Ideal)) rfl 2 rfl (by omega) (by omega)).trans ?_
    rw [rd_of_lt _ (show (y 0).val - 2 < 6 by omega) (idx2_lt1 y)]
    exact hz _

end

/-- The algebraic claim of `Kernel`. -/
theorem algebraic : Cert.algebraic_KernelIdeal_ReferenceIdeal := by
  intro m g m' g' _ hargs
  refine ⟨fun c => G6 m c, fun c => G7 m c, fun c => G8 m c, fun c => G9 m c, ?_, ?_⟩
  · refine (θ_run _ _ _).mono (fun r h c => ?_) (Cert.KernelIdeal.Value.run_blocks m g)
    exact ⟨(h c).1.trans (final6 m c), (h c).2.1.trans (final7 m c), (h c).2.2.1.trans (final8 m c), (h c).2.2.2.1.trans (final9 m c), (h c).2.2.2.2⟩
  · refine (θ_run _ _ _).mono (fun r h c => ?_) (Cert.ReferenceIdeal.Value.run m' g')
    obtain ⟨e0, e1, e2, e3, e4, e5⟩ := hargs c
    refine ⟨(h c).1.trans ?_, (h c).2.1.trans ?_, (h c).2.2.1.trans ?_, (h c).2.2.2.1.trans ?_, (h c).2.2.2.2⟩
    · refine (val_main_v63_eq _ _).trans ?_
      rw [e0, e1, e2, e3, e4, e5]
      exact funext fun i => v63_at _ _ _ _ _ _ i
    · rw [e0, e1, e2, e3, e4, e5]
      exact (val_main_v39_eq _ _ _ _ _ _).trans (funext fun i => v39_at _ _ _ _ _ _ i)
    · refine (val_main_v65_eq _ _).trans ?_
      rw [e0, e1, e2, e3, e4, e5]
      exact funext fun i => v65_at _ _ _ _ _ _ i
    · refine (val_main_v62_eq _ _).trans ?_
      rw [e0, e1, e2, e3, e4, e5]
      exact funext fun i => v62_at _ _ _ _ _ _ i

end Cert.Proof.OutProj

end
-- ==== Proof.InBody.lean ====
/-
  THE INPUT PROJECTION AND PRE-NORM, GOING BACK (`Kernel2`): what one pass of the body leaves in its scratch and its two
  result buffers. At the first of the seven points of a row block the scratch takes the product of the first gradient's
  block and the weight's; at the later ones a product is added; at the last the results are computed from it.
-/
module

public import proofs.«01_k».proof.Proof.Pieces
public import proofs.«01_k».proof.Proof.Gen.Kernel2Ideal.Value

@[expose] public section

noncomputable section

open Idealize.ShloMosaic Idealize.ShloMosaic.TcCoe Idealize.SL.Sem Idealize.ShloMosaic.ValueIdx

namespace Cert.Proof.InProj

open Cert.Kernel2Ideal Cert.Kernel2Ideal.Gen Cert.Proof.Pieces

variable {F : FTy → Type} [FloatOps F]

theorem hz : (![0, 0] : Fin 2 → Nat) = fun _ => 0 := funext fun a => by fin_cases a <;> rfl

/-- The product of two blocks. -/
def prod (a b : Vec F S1024x1024 .bf16) : FVec F S1024x1024 .f32 :=
  matmul dot_S1024x1024_S1024x1024_S1024x1024_1_0_0_1_n_n none a b (constant S1024x1024 .f32 0x00000000#32)

/-- Row 0 of the 8-row block. -/
abbrev row0 : Rect S8x1024 := Rect.unit (s := S8x1024) ![0, 0] S1x1024.size inb_S8x1024_S1x1024_0_0

/-- The 8-row block: row 0 is added to, the others stay. -/
def acc10 (x6 d : Vec F S1024x1024 .f32) (prev : Vec F S8x1024 .f32) : Vec F S8x1024 .f32 := fun y =>
  if (y 0).val = 0 then k0_pay4 x6 d (View.ld prev row0) (ix2 ⟨0, Nat.one_pos⟩ ⟨(y 1).val, idx2_lt1 y⟩)
  else prev y

/-- Case A: the scratch. -/
theorem s_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 = prod x0 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8)]
  unfold kernelRun0_A
  dsimp only
  sl_unfold_words
  rw [View.canon_unit_zero (S := S1024x1024) hz]
  unfold k0_pay7
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1x1024) hz, shapeCast_self, prod]

/-- Case G: the scratch. -/
theorem s_G (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) :
    sout0_G_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 = prod x0 x5 := by
  unfold sout0_G_0
  rw [View.read_writes_eq_canon _ _ _ (scover0_G_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8)]
  unfold kernelRun0_G
  dsimp only
  sl_unfold_words
  rw [View.canon_unit_zero (S := S1024x1024) hz]
  unfold k0_pay7
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1x1024) hz, shapeCast_self, prod]

/-- Case B: the scratch. -/
theorem s_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xs0 : Vec F S1024x1024 .f32) :
    sout0_B_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0 = addf xs0 (prod x1 x5) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0)]
  unfold kernelRun0_B
  dsimp only
  sl_unfold_words
  rw [View.canon_unit_zero (S := S1024x1024) hz]
  unfold k0_pay9
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz, shapeCast_self, prod]

/-- Case C: the scratch. -/
theorem s_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xs0 : Vec F S1024x1024 .f32) :
    sout0_C_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0 = addf xs0 (prod x2 x5) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0)]
  unfold kernelRun0_C
  dsimp only
  sl_unfold_words
  rw [View.canon_unit_zero (S := S1024x1024) hz]
  unfold k0_pay10
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz, shapeCast_self, prod]

/-- Case D: the scratch. -/
theorem s_D (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xs0 : Vec F S1024x1024 .f32) :
    sout0_D_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0 = addf xs0 (prod x3 x5) := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0)]
  unfold kernelRun0_D
  dsimp only
  sl_unfold_words
  rw [View.canon_unit_zero (S := S1024x1024) hz]
  unfold k0_pay11
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz, shapeCast_self, prod]

/-- Case E: the scratch. -/
theorem s_E (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xs0 : Vec F S1024x1024 .f32) :
    sout0_E_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0 = addf xs0 (prod x4 x5) := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xs0)]
  unfold kernelRun0_E
  dsimp only
  sl_unfold_words
  rw [View.canon_unit_zero (S := S1024x1024) hz]
  unfold k0_pay1
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz, shapeCast_self, prod]

/-- Case F: the scratch. -/
theorem s_F (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xo10 : Vec F S8x1024 .f32) (xs0 : Vec F S1024x1024 .f32) :
    sout0_F_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xo10 xs0 = addf xs0 (prod x4 x5) := by
  unfold sout0_F_0
  rw [View.read_writes_eq_canon _ _ _ (scover0_F_0 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xo10 xs0)]
  unfold kernelRun0_F
  dsimp only
  sl_unfold_words
  rw [View.canon_unit_zero (S := S1024x1024) hz]
  unfold k0_pay1
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz, shapeCast_self, prod]

/-- Case A: the 8-row block is zero. -/
theorem o10_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) :
    out0_A_10 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 = k0_pay6 (F := F) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8)]
  unfold kernelRun0_A
  dsimp only
  sl_unfold_words
  exact View.canon_unit_zero (S := S8x1024) hz _ _

/-- Case F: the residual stream's gradient. -/
theorem o9_F (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xo10 : Vec F S8x1024 .f32) (xs0 : Vec F S1024x1024 .f32) :
    out0_F_9 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xo10 xs0 = k0_pay5 x6 (addf xs0 (prod x4 x5)) x7 x8 := by
  unfold out0_F_9
  rw [View.read_writes_eq_canon _ _ _ (cover0_F_9 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xo10 xs0)]
  unfold kernelRun0_F
  dsimp only
  sl_unfold_words
  rw [View.canon_unit_zero (S := S1024x1024) hz]
  simp only [View.readAt_eq_ld, harg2.read_unread, harg3.read_unread, harg4.read_unread, harg5.read_unread, harg6.read_unread, harg7.read_unread, harg8.read_unread, harg9.read_unread, harg10.read_unread, harg13.read_unread, View.ld_unit_zero (S := S1024x1024) hz, View.ld_unit_zero (S := S1x1024) hz]
  rw [View.readCov_unit_zero (S := S1024x1024) _ hz]
  unfold k0_pay1
  simp only [shapeCast_self]
  rfl

/-- Case F: the 8-row block. -/
theorem o10_F (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : cond0_7 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (x6 : Vec F S1024x1024 .f32) (x7 : Vec F S1x1024 .f32) (x8 : Vec F S1024x1024 .f32) (xo10 : Vec F S8x1024 .f32) (xs0 : Vec F S1024x1024 .f32) :
    out0_F_10 c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 x7 x8 xo10 xs0 = acc10 x6 (addf xs0 (prod x4 x5)) xo10 := by
  unfold out0_F_10
  unfold kernelRun0_F
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, harg12.read_unread, View.ld_unit_zero (S := S1024x1024) hz, View.ld_unit_zero (S := S1x1024) hz]
  rw [View.readCov_unit_zero (S := S1024x1024) _ hz]
  funext y
  unfold acc10
  by_cases h0 : (y 0).val = 0
  · rw [if_pos h0]
    refine (View.read_writes_cons_rows_of_mem (d := S8x1024.size) arg12.view _ inb_S8x1024_S1x1024_0_0 _ _ y (o := 0) (ix2 ⟨0, Nat.one_pos⟩ ⟨(y 1).val, idx2_lt1 y⟩) rfl h0 rfl).trans ?_
    unfold k0_pay1
    simp only [shapeCast_self]
    rfl
  rw [if_neg h0]
  refine (View.read_writes_cons_rows_of_not_mem (d := S8x1024.size) arg12.view _ inb_S8x1024_S1x1024_0_0 _ _ y (o := 0) (W := 1) rfl rfl (Or.inr (by omega))).trans ?_
  exact congrFun (harg12.read_unread xo10) y

end Cert.Proof.InProj

end
-- ==== Proof.InProj.lean ====
/-
  THE INPUT PROJECTION AND PRE-NORM, GOING BACK (`Kernel2`): what the two result arrays hold.

  The kernel walks four blocks of 1024 tokens and, for each, seven blocks of 1024 features. Over the seven points it adds
  up, in its scratch, the five incoming gradients side by side times the weight (`acc_eq`): the normalised row's gradient,
  `DU`. At the seventh it takes that through the norm's weight and the normalisation, adds the residual stream's own
  gradient and writes the block (`final9`); and it adds the block's share of the norm weight's gradient to row 0 of the
  8-row result, whose other rows stay zero (`final10`).
-/
module

public import proofs.«01_k».proof.Proof.Rows
public import proofs.«01_k».proof.Proof.InBody

@[expose] public section

noncomputable section

open Idealize.ShloMosaic Idealize.ShloMosaic.TcCoe Idealize.SL.Sem Idealize.ShloMosaic.ValueIdx
open Idealize.ShloMosaic.Pipeline (Dat)
open scoped BigOperators

namespace Cert.Proof.InProj

open Cert.Kernel2Ideal Cert.Kernel2Ideal.Gen Cert.Proof.Blocks Cert.Proof.Rows

abbrev D := dot_S1024x1024_S1024x1024_S1024x1024_1_0_0_1_n_n
theorem hl0 (j : S1024x1024.Idx) (q : D.contr.Idx) : (D.lhsIdx j q 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
theorem hl1 (j : S1024x1024.Idx) (q : D.contr.Idx) : (D.lhsIdx j q 1).val = (q ⟨0, by decide⟩).val := D.lhsIdx_val_of_single rfl j q
theorem hr0 (j : S1024x1024.Idx) (q : D.contr.Idx) : (D.rhsIdx j q 0).val = (q ⟨0, by decide⟩).val := D.rhsIdx_val_of_single rfl j q
theorem hr1 (j : S1024x1024.Idx) (q : D.contr.Idx) : (D.rhsIdx j q 1).val = (j 1).val := by
  unfold DotDims.rhsIdx
  rw [dif_neg (show ¬(1 : Fin S1024x1024.rank) ∈ D.rhsBatch by decide), dif_pos (show (1 : Fin S1024x1024.rank) ∈ D.rhsNonContracting by decide)]
  rfl

/-- One block's product at an element. -/
theorem prod_at (a b : S1024x1024.Idx → EReal) (j : S1024x1024.Idx) :
    (prod (F := Ideal) a b j : EReal) = ∑ k : Fin 1024, rd a (j 0).val k.val * rd b k.val (j 1).val :=
  matmul_nn D a b rfl rfl hl0 hl1 hr0 hr1 j

section Block
variable (x6 d : S1024x1024.Idx → EReal) (w : S1x1024.Idx → EReal) (x8 : S1024x1024.Idx → EReal)

/-- The rows' scales. -/
theorem pay2_at (i : S1024x1.Idx) : (k0_pay2 (F := Ideal) x6 i : EReal) = rs (row x6 (i 0).val) :=
  scale_at (n := 1024) x6 _ _ _ _ _ i

/-- The normalised rows. -/
theorem pay3_at (i : S1024x1024.Idx) : (k0_pay3 (F := Ideal) x6 i : EReal) = on (row x6 (i 0).val) ⟨(i 1).val, idx2_lt1 i⟩ := by
  refine congrArg₂ (· * ·) (row_at x6 i) ?_
  refine (bcol (n := 1024) (m := 1024) (k0_pay2 (F := Ideal) x6) _ i).trans ?_
  exact pay2_at x6 _

/-- The norm weight's row: what was there plus the block's products. -/
theorem pay4_at (prev : S1x1024.Idx → EReal) (i : S1x1024.Idx) :
    (k0_pay4 (F := Ideal) x6 d prev i : EReal)
      = prev i + ∑ s : Fin 1024, row d s.val ⟨(i 1).val, idx2_lt1 i⟩ * on (row x6 s.val) ⟨(i 1).val, idx2_lt1 i⟩ := by
  refine congrArg₂ (· + ·) (congrFun (shapeCast_self prev _) i) ?_
  refine (colsum (n := 1024) (m := 1024) (fun i => (d i : EReal) * k0_pay3 (F := Ideal) x6 i) _ _ _ _ _ i).trans ?_
  refine Finset.sum_congr rfl fun s _ => ?_
  rw [rd_of_lt _ s.isLt (idx2_lt1 i)]
  exact congrArg₂ (· * ·) (row_at d _) (pay3_at x6 _)

/-- The residual stream's gradient. -/
theorem pay5_at (i : S1024x1024.Idx) :
    (k0_pay5 (F := Ideal) x6 d w x8 i : EReal)
      = row x8 (i 0).val ⟨(i 1).val, idx2_lt1 i⟩ + ngrad (row x6 (i 0).val) (fun k => row d (i 0).val k * row w 0 k) ⟨(i 1).val, idx2_lt1 i⟩ := by
  have hg : row (n := 1024) (fun i => (d i : EReal) * broadcastTo S1024x1024 w broadcasts_S1x1024_S1024x1024 i) (i 0).val
      = fun k => row d (i 0).val k * row w 0 k :=
    row_ext _ (idx2_lt0 i) _ fun j => congrArg₂ (· * ·) (row_at d _) (brow (n := 1024) (m := 1024) w _ _)
  rw [← hg]
  refine congrArg₂ (· + ·) (row_at x8 i) ?_
  refine ngrad_at (n := 1024) x6 (broadcastTo S1024x1024 (k0_pay2 (F := Ideal) x6) broadcasts_S1024x1_S1024x1024)
    (fun i => (d i : EReal) * broadcastTo S1024x1024 w broadcasts_S1x1024_S1024x1024 i)
    (k0_pay3 (F := Ideal) x6) _ _ _ _ _ _ i ?_ fun j => pay3_at x6 j
  refine (bcol (n := 1024) (m := 1024) (k0_pay2 (F := Ideal) x6) _ i).trans ?_
  exact pay2_at x6 _

theorem acc10_at (prev : S8x1024.Idx → EReal) (y : S8x1024.Idx) :
    (acc10 (F := Ideal) x6 d prev y : EReal) = prev y + if (y 0).val = 0 then
      ∑ s : Fin 1024, row d s.val ⟨(y 1).val, idx2_lt1 y⟩ * on (row x6 s.val) ⟨(y 1).val, idx2_lt1 y⟩ else 0 := by
  unfold acc10
  by_cases h0 : (y 0).val = 0
  · rw [if_pos h0, if_pos h0]
    refine (pay4_at x6 d (View.ld (Val := Elt Ideal) (e' := .f32) prev row0) _).trans (congrArg (· + _) ?_)
    refine congrArg prev (funext (Fin.forall_fin_two.mpr ⟨Fin.ext ?_, Fin.ext ?_⟩))
    · show 0 + 1 * 0 = (y 0).val; omega
    · show 0 + 1 * (y 1).val = (y 1).val; omega
  · rw [if_neg h0, if_neg h0]
    exact (add_zero (prev y)).symm

end Block

variable (m : (ℓ : Loc nD τ sig) → Buf (Elt Ideal) ℓ) (ρ : Dev nD → PrngReg)

/-! The arguments. -/

abbrev A0 (c : Dev nD) : S4096x1024.Idx → EReal := m ((c : Thread nD τ).loc main_arg0)
abbrev A1 (c : Dev nD) : S4096x1024.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)
abbrev A4 (c : Dev nD) : S4096x3072.Idx → EReal := m ((c : Thread nD τ).loc main_arg4)
abbrev A5 (c : Dev nD) : S7168x1024.Idx → EReal := m ((c : Thread nD τ).loc main_arg5)
abbrev A6 (c : Dev nD) : S4096x1024.Idx → EReal := m ((c : Thread nD τ).loc main_arg6)
abbrev A7 (c : Dev nD) : S1x1024.Idx → EReal := m ((c : Thread nD τ).loc main_arg7)
abbrev A8 (c : Dev nD) : S4096x1024.Idx → EReal := m ((c : Thread nD τ).loc main_arg8)

/-- The five incoming gradients side by side. -/
abbrev Pm (c : Dev nD) (s r : ℕ) : EReal := P (A0 m c) (A1 m c) (A2 m c) (A3 m c) (A4 m c) s r
/-- The normalised row's gradient: token `s`, feature `j`. -/
def DU (c : Dev nD) (s : ℕ) (j : Fin 1024) : EReal := ∑ r : Fin 7168, Pm m c s r.val * rd (A5 m c) r.val j.val

/-! Where each window's block sits. -/

theorem idx0 : ∀ t : Fin grid0.N, t.val % 7 = 0 → win0_0.index t 0 = t.val / 7 ∧ win0_0.index t 1 = 0 := by decide +kernel
theorem idx1 : ∀ t : Fin grid0.N, t.val % 7 = 1 → win0_1.index t 0 = t.val / 7 ∧ win0_1.index t 1 = 0 := by decide +kernel
theorem idx2 : ∀ t : Fin grid0.N, t.val % 7 = 2 → win0_2.index t 0 = t.val / 7 ∧ win0_2.index t 1 = 0 := by decide +kernel
theorem idx3 : ∀ t : Fin grid0.N, t.val % 7 = 3 → win0_3.index t 0 = t.val / 7 ∧ win0_3.index t 1 = 0 := by decide +kernel
theorem idx4 : ∀ t : Fin grid0.N, 4 ≤ t.val % 7 → win0_4.index t 0 = t.val / 7 ∧ win0_4.index t 1 = t.val % 7 - 4 := by decide +kernel
theorem idx5 : ∀ t : Fin grid0.N, win0_5.index t 0 = t.val % 7 ∧ win0_5.index t 1 = 0 := by decide +kernel
theorem idx6 : ∀ t : Fin grid0.N, win0_6.index t 0 = t.val / 7 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val / 7 ∧ win0_8.index t 1 = 0 := by decide +kernel
theorem idx9 : ∀ t : Fin grid0.N, win0_9.index t 0 = t.val / 7 ∧ win0_9.index t 1 = 0 := by decide +kernel
theorem idx10 : ∀ t : Fin grid0.N, win0_10.index t 0 = 0 ∧ win0_10.index t 1 = 0 := by decide +kernel

theorem blk0 (c : Dev nD) (t : Fin cfg0.N) (h : t.val % 7 = 0) (a j : Fin 1024) :
    rd (n := 1024) (m := 1024) (iblk m c 0 t) a.val j.val = Pm m c (1024 * (t.val / 7) + a.val) (1024 * (t.val % 7) + j.val) := by
  have hj := j.isLt
  have h7 : t.val % 7 < 7 := Nat.mod_lt _ (by decide)
  unfold Pm P
  rw [if_pos (by omega), rd_of_lt _ a.isLt j.isLt]
  unfold iblk
  rw [View.read_apply]
  refine (congrFun (V_main_arg0 m c) _).trans (eq_rd (n := 4096) (m := 1024) (A0 m c) _ ?_ ?_)
  · show win0_0.index t 0 * 1024 + 1 * a.val = _; rw [(idx0 t h).1]; omega
  · show win0_0.index t 1 * 1024 + 1 * j.val = _; rw [(idx0 t h).2]; omega

theorem blk1 (c : Dev nD) (t : Fin cfg0.N) (h : t.val % 7 = 1) (a j : Fin 1024) :
    rd (n := 1024) (m := 1024) (iblk m c 1 t) a.val j.val = Pm m c (1024 * (t.val / 7) + a.val) (1024 * (t.val % 7) + j.val) := by
  have hj := j.isLt
  have h7 : t.val % 7 < 7 := Nat.mod_lt _ (by decide)
  unfold Pm P
  rw [if_neg (by omega), if_pos (by omega), rd_of_lt _ a.isLt j.isLt]
  unfold iblk
  rw [View.read_apply]
  refine (congrFun (V_main_arg1 m c) _).trans (eq_rd (n := 4096) (m := 1024) (A1 m c) _ ?_ ?_)
  · show win0_1.index t 0 * 1024 + 1 * a.val = _; rw [(idx1 t h).1]; omega
  · show win0_1.index t 1 * 1024 + 1 * j.val = _; rw [(idx1 t h).2]; omega

theorem blk2 (c : Dev nD) (t : Fin cfg0.N) (h : t.val % 7 = 2) (a j : Fin 1024) :
    rd (n := 1024) (m := 1024) (iblk m c 2 t) a.val j.val = Pm m c (1024 * (t.val / 7) + a.val) (1024 * (t.val % 7) + j.val) := by
  have hj := j.isLt
  have h7 : t.val % 7 < 7 := Nat.mod_lt _ (by decide)
  unfold Pm P
  rw [if_neg (by omega), if_neg (by omega), if_pos (by omega), rd_of_lt _ a.isLt j.isLt]
  unfold iblk
  rw [View.read_apply]
  refine (congrFun (V_main_arg2 m c) _).trans (eq_rd (n := 4096) (m := 1024) (A2 m c) _ ?_ ?_)
  · show win0_2.index t 0 * 1024 + 1 * a.val = _; rw [(idx2 t h).1]; omega
  · show win0_2.index t 1 * 1024 + 1 * j.val = _; rw [(idx2 t h).2]; omega

theorem blk3 (c : Dev nD) (t : Fin cfg0.N) (h : t.val % 7 = 3) (a j : Fin 1024) :
    rd (n := 1024) (m := 1024) (iblk m c 3 t) a.val j.val = Pm m c (1024 * (t.val / 7) + a.val) (1024 * (t.val % 7) + j.val) := by
  have hj := j.isLt
  have h7 : t.val % 7 < 7 := Nat.mod_lt _ (by decide)
  unfold Pm P
  rw [if_neg (by omega), if_neg (by omega), if_neg (by omega), if_pos (by omega), rd_of_lt _ a.isLt j.isLt]
  unfold iblk
  rw [View.read_apply]
  refine (congrFun (V_main_arg3 m c) _).trans (eq_rd (n := 4096) (m := 1024) (A3 m c) _ ?_ ?_)
  · show win0_3.index t 0 * 1024 + 1 * a.val = _; rw [(idx3 t h).1]; omega
  · show win0_3.index t 1 * 1024 + 1 * j.val = _; rw [(idx3 t h).2]; omega

theorem blk4 (c : Dev nD) (t : Fin cfg0.N) (h : 4 ≤ t.val % 7) (a j : Fin 1024) :
    rd (n := 1024) (m := 1024) (iblk m c 4 t) a.val j.val = Pm m c (1024 * (t.val / 7) + a.val) (1024 * (t.val % 7) + j.val) := by
  have hj := j.isLt
  have h7 : t.val % 7 < 7 := Nat.mod_lt _ (by decide)
  unfold Pm P
  rw [if_neg (by omega), if_neg (by omega), if_neg (by omega), if_neg (by omega), rd_of_lt _ a.isLt j.isLt]
  unfold iblk
  rw [View.read_apply]
  refine (congrFun (V_main_arg4 m c) _).trans (eq_rd (n := 4096) (m := 3072) (A4 m c) _ ?_ ?_)
  · show win0_4.index t 0 * 1024 + 1 * a.val = _; rw [(idx4 t h).1]; omega
  · show win0_4.index t 1 * 1024 + 1 * j.val = _; rw [(idx4 t h).2]; omega

theorem blk5 (c : Dev nD) (t : Fin cfg0.N) (a j : Fin 1024) :
    rd (n := 1024) (m := 1024) (iblk m c 5 t) a.val j.val = rd (A5 m c) (1024 * (t.val % 7) + a.val) j.val := by
  rw [rd_of_lt _ a.isLt j.isLt]
  unfold iblk
  rw [View.read_apply]
  refine (congrFun (V_main_arg5 m c) _).trans (eq_rd (n := 7168) (m := 1024) (A5 m c) _ ?_ ?_)
  · show win0_5.index t 0 * 1024 + 1 * a.val = _; rw [(idx5 t).1]; omega
  · show win0_5.index t 1 * 1024 + 1 * j.val = _; rw [(idx5 t).2]; omega

theorem blk6 (c : Dev nD) (t : Fin cfg0.N) (a : Fin 1024) : row (n := 1024) (iblk m c 6 t) a.val = row (A6 m c) (1024 * (t.val / 7) + a.val) := by
  funext j
  show rd _ _ _ = rd _ _ _
  rw [rd_of_lt _ a.isLt j.isLt]
  unfold iblk
  rw [View.read_apply]
  refine (congrFun (V_main_arg6 m c) _).trans (eq_rd (n := 4096) (m := 1024) (A6 m c) _ ?_ ?_)
  · show win0_6.index t 0 * 1024 + 1 * a.val = _; rw [(idx6 t).1]; omega
  · show win0_6.index t 1 * 1024 + 1 * j.val = _; rw [(idx6 t).2]; omega

theorem blk8 (c : Dev nD) (t : Fin cfg0.N) (a : Fin 1024) : row (n := 1024) (iblk m c 8 t) a.val = row (A8 m c) (1024 * (t.val / 7) + a.val) := by
  funext j
  show rd _ _ _ = rd _ _ _
  rw [rd_of_lt _ a.isLt j.isLt]
  unfold iblk
  rw [View.read_apply]
  refine (congrFun (V_main_arg8 m c) _).trans (eq_rd (n := 4096) (m := 1024) (A8 m c) _ ?_ ?_)
  · show win0_8.index t 0 * 1024 + 1 * a.val = _; rw [(idx8 t).1]; omega
  · show win0_8.index t 1 * 1024 + 1 * j.val = _; rw [(idx8 t).2]; omega

theorem blk7 (c : Dev nD) (t : Fin cfg0.N) : iblk m c 7 t = A7 m c := by
  funext y
  unfold iblk
  rw [View.read_apply]
  refine (congrFun (V_main_arg7 m c) _).trans ?_
  refine congrArg (A7 m c) (funext (Fin.forall_fin_two.mpr ⟨Fin.ext ?_, Fin.ext ?_⟩))
  · show win0_7.index t 0 * 1 + 1 * (y 0).val = _; rw [(idx7 t).1]; omega
  · show win0_7.index t 1 * 1024 + 1 * (y 1).val = _; rw [(idx7 t).2]; omega

/-- The term of one block of features. -/
abbrev term (c : Dev nD) (s j kk : ℕ) : EReal :=
  ∑ r : Fin 1024, Pm m c s (1024 * kk + r.val) * rd (A5 m c) (1024 * kk + r.val) j

/-- A point's product is the term of its block of features, given where its left block sits. -/
theorem prod_term (c : Dev nD) (t : Fin cfg0.N) (x : S1024x1024.Idx → EReal)
    (hx : ∀ a j : Fin 1024, rd (n := 1024) (m := 1024) x a.val j.val = Pm m c (1024 * (t.val / 7) + a.val) (1024 * (t.val % 7) + j.val))
    (j : S1024x1024.Idx) :
    (prod (F := Ideal) x (iblk m c 5 t) j : EReal) = term m c (1024 * (t.val / 7) + (j 0).val) (j 1).val (t.val % 7) := by
  rw [prod_at]
  exact Finset.sum_congr rfl fun k _ => congrArg₂ (· * ·) (hx (j 0) k) (blk5 m c t k (j 1))

section
variable (c : Dev nD) (t : Fin cfg0.N)

/-! What a point leaves in the scratch. -/

theorem reset (h1 : t.val % 7 = 0) (j : S1024x1024.Idx) :
    ((outsAt0 m c t.val t.isLt).2.2 j : EReal) = term m c (1024 * (t.val / 7) + (j 0).val) (j 1).val (t.val % 7) := by
  by_cases h0 : t.val % 28 = 0
  · rw [outsAt0_A m c t h0 h1 (by omega) (by omega) (by omega) (by omega) (by omega)]
    dsimp only
    rw [s_A]
    exact prod_term m c t _ (blk0 m c t h1) j
  · rw [outsAt0_G m c t h0 h1 (by omega) (by omega) (by omega) (by omega) (by omega)]
    dsimp only
    rw [s_G]
    exact prod_term m c t _ (blk0 m c t h1) j

theorem add (h1 : ¬t.val % 7 = 0) (j : S1024x1024.Idx) :
    ((outsAt0 m c t.val t.isLt).2.2 j : EReal) = ((outsAt0 m c (t.val - 1) (Nat.lt_of_le_of_lt (Nat.sub_le _ _) t.isLt)).2.2 j : EReal)
      + term m c (1024 * (t.val / 7) + (j 0).val) (j 1).val (t.val % 7) := by
  have h0 : ¬t.val % 28 = 0 := by omega
  by_cases h3 : t.val % 7 = 1
  · rw [outsAt0_B m c t h0 h1 h3 (by omega) (by omega) (by omega) (by omega)]
    dsimp only
    rw [s_B]
    exact congrArg (_ + ·) (prod_term m c t _ (blk1 m c t h3) j)
  by_cases h4 : t.val % 7 = 2
  · rw [outsAt0_C m c t h0 h1 h3 h4 (by omega) (by omega) (by omega)]
    dsimp only
    rw [s_C]
    exact congrArg (_ + ·) (prod_term m c t _ (blk2 m c t h4) j)
  by_cases h5 : t.val % 7 = 3
  · rw [outsAt0_D m c t h0 h1 h3 h4 h5 (by omega) (by omega)]
    dsimp only
    rw [s_D]
    exact congrArg (_ + ·) (prod_term m c t _ (blk3 m c t h5) j)
  have h6 : 4 ≤ t.val % 7 := by omega
  by_cases h7 : t.val % 7 = 6
  · rw [outsAt0_F m c t h0 h1 h3 h4 h5 h6 h7]
    dsimp only
    rw [s_F]
    exact congrArg (_ + ·) (prod_term m c t _ (blk4 m c t h6) j)
  · rw [outsAt0_E m c t h0 h1 h3 h4 h5 h6 h7]
    dsimp only
    rw [s_E]
    exact congrArg (_ + ·) (prod_term m c t _ (blk4 m c t h6) j)

end

/-- The scratch after point `n`: the terms of the row block's features so far. -/
theorem acc_eq (c : Dev nD) (j : S1024x1024.Idx) : ∀ (n : ℕ) (h : n < cfg0.N), ((outsAt0 m c n h).2.2 j : EReal)
    = ∑ k ∈ Finset.range (n % 7 + 1), term m c (1024 * (n / 7) + (j 0).val) (j 1).val k
  | 0, h => by
    rw [reset m c ⟨0, h⟩ rfl j]
    exact (Finset.sum_range_one _).symm
  | n + 1, h => by
    by_cases h1 : (n + 1) % 7 = 0
    · rw [reset m c ⟨n + 1, h⟩ h1 j]
      dsimp only
      rw [h1]
      exact (Finset.sum_range_one _).symm
    · rw [add m c ⟨n + 1, h⟩ h1 j]
      have e0 : (n + 1) % 7 = n % 7 + 1 := by omega
      have e1 : (n + 1) / 7 = n / 7 := by omega
      dsimp only
      rw [e0, e1, Finset.sum_range_succ]
      exact congrArg (· + _) (acc_eq c j n (Nat.lt_of_succ_lt h))

/-- … so at a row block's last point it is the normalised rows' gradient. -/
theorem acc_last (c : Dev nD) (t : Fin cfg0.N) (h7 : t.val % 7 = 6) (a : Fin 1024) :
    row (n := 1024) ((outsAt0 m c t.val t.isLt).2.2) a.val = DU m c (1024 * (t.val / 7) + a.val) := by
  refine row_ext _ a.isLt _ fun j => ?_
  refine (acc_eq m c (ix2 ⟨a.val, a.isLt⟩ j) t.val t.isLt).trans ?_
  rw [h7]
  exact sum_blocks' (fun r => Pm m c (1024 * (t.val / 7) + a.val) r * rd (A5 m c) r j.val) 7 1024 7168 rfl

/-- What row block `q` adds to the 8-row block. -/
def term10 (c : Dev nD) (y : S8x1024.Idx) (q : ℕ) : EReal :=
  if (y 0).val = 0 then ∑ s : Fin 1024, DU m c (1024 * q + s.val) ⟨(y 1).val, idx2_lt1 y⟩ * on (row (A6 m c) (1024 * q + s.val)) ⟨(y 1).val, idx2_lt1 y⟩
  else 0

section
variable (c : Dev nD) (t : Fin cfg0.N)

theorem step9 (h7 : t.val % 7 = 6) (y : S1024x1024.Idx) : ((outsAt0 m c t.val t.isLt).1 y : EReal)
    = row (A8 m c) (1024 * (t.val / 7) + (y 0).val) ⟨(y 1).val, idx2_lt1 y⟩
      + ngrad (row (A6 m c) (1024 * (t.val / 7) + (y 0).val)) (fun k => DU m c (1024 * (t.val / 7) + (y 0).val) k * row (A7 m c) 0 k) ⟨(y 1).val, idx2_lt1 y⟩ := by
  have e := acc_last m c t h7 ⟨(y 0).val, idx2_lt0 y⟩
  rw [← blk8 m c t ⟨(y 0).val, idx2_lt0 y⟩, ← blk6 m c t ⟨(y 0).val, idx2_lt0 y⟩, ← blk7 m c t, ← e]
  rw [outsAt0_F m c t (by omega) (by omega) (by omega) (by omega) (by omega) (by omega) h7]
  dsimp only
  rw [o9_F, s_F]
  exact pay5_at _ _ _ _ y

theorem start10 (h0 : t.val % 28 = 0) (y : S8x1024.Idx) : ((outsAt0 m c t.val t.isLt).2.1 y : EReal) = 0 := by
  rw [outsAt0_A m c t h0 (by omega) (by omega) (by omega) (by omega) (by omega) (by omega)]
  dsimp only
  rw [o10_A]
  exact Ideal.ofBits_zero_f32

theorem keep10 (h0 : ¬t.val % 28 = 0) (h7 : ¬t.val % 7 = 6) :
    (outsAt0 m c t.val t.isLt).2.1 = (outsAt0 m c (t.val - 1) (Nat.lt_of_le_of_lt (Nat.sub_le _ _) t.isLt)).2.1 := by
  by_cases h1 : t.val % 7 = 0
  · rw [outsAt0_G m c t h0 h1 (by omega) (by omega) (by omega) (by omega) h7]
    rfl
  by_cases h3 : t.val % 7 = 1
  · rw [outsAt0_B m c t h0 h1 h3 (by omega) (by omega) (by omega) h7]
    rfl
  by_cases h4 : t.val % 7 = 2
  · rw [outsAt0_C m c t h0 h1 h3 h4 (by omega) (by omega) h7]
    rfl
  by_cases h5 : t.val % 7 = 3
  · rw [outsAt0_D m c t h0 h1 h3 h4 h5 (by omega) h7]
    rfl
  · rw [outsAt0_E m c t h0 h1 h3 h4 h5 (by omega) h7]
    rfl

theorem add10 (h7 : t.val % 7 = 6) (y : S8x1024.Idx) : ((outsAt0 m c t.val t.isLt).2.1 y : EReal)
    = ((outsAt0 m c (t.val - 1) (Nat.lt_of_le_of_lt (Nat.sub_le _ _) t.isLt)).2.1 y : EReal) + term10 m c y (t.val / 7) := by
  have e := acc_last m c t h7
  unfold term10
  simp only [← blk6 m c t, ← e]
  rw [outsAt0_F m c t (by omega) (by omega) (by omega) (by omega) (by omega) (by omega) h7]
  dsimp only
  rw [o10_F, s_F]
  exact acc10_at _ _ _ y

end

theorem outs10_eq (c : Dev nD) (y : S8x1024.Idx) : ∀ (n : ℕ) (h : n < cfg0.N), ((outsAt0 m c n h).2.1 y : EReal) = ∑ q ∈ Finset.range ((n + 1) / 7), term10 m c y q
  | 0, h => (start10 m c ⟨0, h⟩ rfl y).trans (Finset.sum_range_zero _).symm
  | n + 1, h => by
    have hN : n + 1 < 28 := h.trans_eq N_0
    by_cases h7 : (n + 1) % 7 = 6
    · rw [add10 m c ⟨n + 1, h⟩ h7 y]
      have e0 : (n + 1 + 1) / 7 = (n + 1) / 7 + 1 := by omega
      rw [e0, Finset.sum_range_succ]
      exact congrArg (· + _) (outs10_eq c y n (Nat.lt_of_succ_lt h))
    · rw [keep10 m c ⟨n + 1, h⟩ (by dsimp only; omega) h7]
      have e0 : (n + 1 + 1) / 7 = (n + 1) / 7 := by omega
      rw [e0]
      exact outs10_eq c y n (Nat.lt_of_succ_lt h)

/-! The two result arrays. -/

/-- The residual stream's gradient. -/
def G9 (c : Dev nD) : S4096x1024.Idx → EReal := fun i =>
  row (A8 m c) (i 0).val ⟨(i 1).val, idx2_lt1 i⟩
    + ngrad (row (A6 m c) (i 0).val) (fun k => DU m c (i 0).val k * row (A7 m c) 0 k) ⟨(i 1).val, idx2_lt1 i⟩
/-- Row 0: the pre-norm weight's gradient. -/
def G10 (c : Dev nD) : S8x1024.Idx → EReal := fun y =>
  if (y 0).val = 0 then ∑ s : Fin 4096, DU m c s.val ⟨(y 1).val, idx2_lt1 y⟩ * on (row (A6 m c) s.val) ⟨(y 1).val, idx2_lt1 y⟩ else 0

theorem sum10 (c : Dev nD) (y : S8x1024.Idx) : ∑ q ∈ Finset.range 4, term10 m c y q = G10 m c y := by
  unfold term10 G10
  by_cases h0 : (y 0).val = 0
  · simp only [if_pos h0]
    exact sum_blocks' (fun s => DU m c s ⟨(y 1).val, idx2_lt1 y⟩ * on (row (A6 m c) s) ⟨(y 1).val, idx2_lt1 y⟩) 4 1024 4096 rfl
  · simp only [if_neg h0]
    exact Finset.sum_const_zero

theorem flushed9_eq (c : Dev nD) (t : Fin cfg0.N) (hf : (cfg0.win 9).flush t = true) :
    (dats m 0 c).flushed 9 t = ((cfg0.win 9).blk t).view.read (Elt Ideal) (G9 m c) := by
  have h7 := (flush0_9 t).mp hf
  rw [Cert.Kernel2Ideal.Value.flushed9]
  funext y
  show ((outsAt0 m c t.val t.isLt).1 y : EReal) = _
  rw [step9 m c t h7 y, View.read_apply]
  have e0 : (((cfg0.win 9).blk t).view.emb y 0).val = 1024 * (t.val / 7) + (y 0).val := by
    show win0_9.index t 0 * 1024 + 1 * (y 0).val = _; rw [(idx9 t).1]; omega
  have e1 : (((cfg0.win 9).blk t).view.emb y 1).val = (y 1).val := by
    show win0_9.index t 1 * 1024 + 1 * (y 1).val = _; rw [(idx9 t).2]; omega
  have e1' : (⟨(y 1).val, idx2_lt1 y⟩ : Fin 1024) = ⟨(((cfg0.win 9).blk t).view.emb y 1).val, idx2_lt1 (n0 := 4096) (n1 := 1024) (((cfg0.win 9).blk t).view.emb y)⟩ := Fin.ext e1.symm
  rw [e1', ← e0]
  rfl

/-- Result array 9. -/
theorem final9 (c : Dev nD) : (dats m 0 c).arrAt 9 cfg0.N = G9 m c :=
  (dats m 0 c).arrAt_eq_of_cover 9 (G9 m c) (flushed9_eq m c) fun i => by
    have h0 : (i 0 : Nat) < 4096 := (i 0).isLt
    have h1 : (i 1 : Nat) < 1024 := (i 1).isLt
    have hN : cfg0.N = 28 := N_0
    have ht : 7 * ((i 0 : Nat) / 1024) + 6 < cfg0.N := by omega
    refine ⟨⟨7 * ((i 0 : Nat) / 1024) + 6, ht⟩, (flush0_9 _).mpr (by dsimp only; omega), ?_⟩
    show i ∈ ((View.whole main_v0_0).slice (win0_9.rect ⟨7 * ((i 0 : Nat) / 1024) + 6, ht⟩)).set
    rw [View.set_slice_whole, Rect.mem_set_unit]
    have e := idx9 ⟨7 * ((i 0 : Nat) / 1024) + 6, ht⟩
    dsimp only at e
    intro a
    match a with
    | ⟨0, _⟩ =>
      show win0_9.index ⟨7 * ((i 0 : Nat) / 1024) + 6, ht⟩ 0 * 1024 ≤ (i 0 : Nat) ∧ (i 0 : Nat) < win0_9.index ⟨7 * ((i 0 : Nat) / 1024) + 6, ht⟩ 0 * 1024 + 1024
      rw [e.1]; omega
    | ⟨1, _⟩ =>
      show win0_9.index ⟨7 * ((i 0 : Nat) / 1024) + 6, ht⟩ 1 * 1024 ≤ (i 1 : Nat) ∧ (i 1 : Nat) < win0_9.index ⟨7 * ((i 0 : Nat) / 1024) + 6, ht⟩ 1 * 1024 + 1024
      rw [e.2]; omega

theorem flushed10_eq (c : Dev nD) (t : Fin cfg0.N) (hf : (cfg0.win 10).flush t = true) :
    (dats m 0 c).flushed 10 t = ((cfg0.win 10).blk t).view.read (Elt Ideal) (G10 m c) := by
  have h7 := (flush0_10 t).mp hf
  have hN : t.val < 28 := t.isLt.trans_eq N_0
  have ht : (t.val + 1) / 7 = 4 := by omega
  rw [Cert.Kernel2Ideal.Value.flushed10]
  funext y
  show ((outsAt0 m c t.val t.isLt).2.1 y : EReal) = _
  rw [outs10_eq m c y t.val t.isLt, ht, sum10, View.read_apply]
  refine congrArg (G10 m c) (funext (Fin.forall_fin_two.mpr ⟨Fin.ext ?_, Fin.ext ?_⟩))
  · show (y 0).val = win0_10.index t 0 * 8 + 1 * (y 0).val; rw [(idx10 t).1]; omega
  · show (y 1).val = win0_10.index t 1 * 1024 + 1 * (y 1).val; rw [(idx10 t).2]; omega

/-- Result array 10. -/
theorem final10 (c : Dev nD) : (dats m 0 c).arrAt 10 cfg0.N = G10 m c :=
  (dats m 0 c).arrAt_eq_of_cover 10 (G10 m c) (flushed10_eq m c) fun i => by
    have h0 : (i 0 : Nat) < 8 := (i 0).isLt
    have h1 : (i 1 : Nat) < 1024 := (i 1).isLt
    have hN : cfg0.N = 28 := N_0
    have ht : 27 < cfg0.N := by omega
    refine ⟨⟨27, ht⟩, (flush0_10 _).mpr rfl, ?_⟩
    show i ∈ ((View.whole main_v0_1).slice (win0_10.rect ⟨27, ht⟩)).set
    rw [View.set_slice_whole, Rect.mem_set_unit]
    have e := idx10 ⟨27, ht⟩
    intro a
    match a with
    | ⟨0, _⟩ =>
      show win0_10.index ⟨27, ht⟩ 0 * 8 ≤ (i 0 : Nat) ∧ (i 0 : Nat) < win0_10.index ⟨27, ht⟩ 0 * 8 + 8
      rw [e.1]; omega
    | ⟨1, _⟩ =>
      show win0_10.index ⟨27, ht⟩ 1 * 1024 ≤ (i 1 : Nat) ∧ (i 1 : Nat) < win0_10.index ⟨27, ht⟩ 1 * 1024 + 1024
      rw [e.2]; omega

end Cert.Proof.InProj

end
-- ==== Proof.InProjRef.lean ====
/-
  THE INPUT PROJECTION AND PRE-NORM, GOING BACK (`Kernel2`), against the reference: the reference differentiates the
  pre-norm and the projection; row by row its gradient of the normalised state is `DU`, and its gradient of the residual
  stream is the incoming one plus the gradient through the normalisation in the form differentiating the quotient gives,
  which `Norm.grad_eq` turns into the kernel's.
-/
module

public import proofs.«01_k».proof.Defs
public import proofs.«01_k».proof.Proof.InProj
public import proofs.«01_k».proof.Proof.Gen.Reference2Ideal.Run
public import proofs.«01_k».proof.Proof.Gen.Reference2Ideal.Read

@[expose] public section

noncomputable section

open Idealize.ShloMosaic Idealize.ShloMosaic.TcCoe Idealize.SL.Sem Idealize.ShloMosaic.ValueIdx
open scoped BigOperators

namespace Cert.Proof.InProj

open Cert.Proof.Blocks Cert.Proof.Rows Cert.Proof.Consts
open Cert.Reference2Ideal (S4096x1024 S4096x3072 S7168x1024 S4096x7168 S1x1024 S4096 S4096x1 S1024 S8x1024 S7x1024)
open Cert.Reference2Ideal.Read

section
variable (x0 x1 x2 x3 : S4096x1024.Idx → EReal) (x4 : S4096x3072.Idx → EReal) (x5 : S7168x1024.Idx → EReal) (x6 : S4096x1024.Idx → EReal) (x7 : S1x1024.Idx → EReal) (x8 : S4096x1024.Idx → EReal)

/-- The normalised row's gradient. -/
abbrev Ur (s : ℕ) (j : Fin 1024) : EReal := ∑ r : Fin 7168, P x0 x1 x2 x3 x4 s r.val * rd x5 r.val j.val
/-- The same through the norm's weight. -/
abbrev Gr (s : ℕ) (k : Fin 1024) : EReal := Ur x0 x1 x2 x3 x4 x5 s k * row x7 0 k

theorem v25_at (i : S4096x1024.Idx) : ((val_main_v25 (F := Ideal) x0 x1 x2 x3 x4 x5) i : EReal) = Ur x0 x1 x2 x3 x4 x5 (i 0).val ⟨(i 1).val, idx2_lt1 i⟩ := by
  rw [val_main_v25_apply]
  refine Finset.sum_congr rfl fun k _ => congrArg₂ (· * ·) ?_ (eq_rd x5 _ rfl rfl)
  exact concat_P _ _ _ _ _ _ (lidx_main_v25 i k)

theorem v14_at (i : S4096x1.Idx) : ((val_main_v14 (F := Ideal) x6) i : EReal) = Norm.ms eps (row x6 (i 0).val) := by
  rw [val_main_v14_apply, val_main_v12_apply, val_main_v10_apply, val_main_v9_apply, val_main_v11_apply, val_main_v13_apply]
  show Ideal.div (Ideal.ofBits .f32 0x00000000#32 + _) (Ideal.ofBits .f32 0x44800000#32) + Ideal.ofBits .f32 0x358637BD#32 = _
  rw [Ideal.ofBits_zero_f32, zero_add, c1024, ceps]
  unfold Norm.ms
  refine congrArg (fun s => Ideal.div s ((1024 : ℝ) : EReal) + ((eps : ℝ) : EReal)) ?_
  refine Finset.sum_congr rfl fun k _ => ?_
  rw [val_main_v8_apply]
  exact congrArg₂ (· * ·) (row_at x6 _) (row_at x6 _)

theorem v15_at (i : S4096x1.Idx) : ((val_main_v15 (F := Ideal) x6) i : EReal) = rs (row x6 (i 0).val) :=
  congrArg Ideal.rsqrt (v14_at x6 i)

theorem v18_at (i : S4096x1.Idx) : ((val_main_v18 (F := Ideal) x6) i : EReal) = ((-1 / 2 : ℝ) : EReal) * Ideal.div (rs (row x6 (i 0).val)) (Norm.ms eps (row x6 (i 0).val)) := by
  rw [val_main_v18_apply, val_main_v17_apply, val_main_v16_apply]
  exact congrArg₂ (· * ·) cneg (congrArg₂ Ideal.div (v15_at x6 i) (v14_at x6 i))

theorem v20_at (i : S4096x1024.Idx) : ((val_main_v20 (F := Ideal) x6) i : EReal) = on (row x6 (i 0).val) ⟨(i 1).val, idx2_lt1 i⟩ := by
  rw [val_main_v20_apply, val_main_v19_apply]
  exact congrArg₂ (· * ·) (row_at x6 i) (v15_at x6 _)

theorem v21_at (i : S1x1024.Idx) : ((val_main_v21 (F := Ideal) x7) i : EReal) = row x7 0 ⟨(i 1).val, idx2_lt1 i⟩ := by
  rw [val_main_v21_apply, val_main_v7_apply]
  refine eq_rd (n := 1) (m := 1024) x7 _ rfl ?_
  exact Nat.mod_eq_of_lt (idx2_lt1 i)

theorem v30_at (i : S4096x1024.Idx) : ((val_main_v30 (F := Ideal) x0 x1 x2 x3 x4 x5 x7) i : EReal) = Gr x0 x1 x2 x3 x4 x5 x7 (i 0).val ⟨(i 1).val, idx2_lt1 i⟩ := by
  rw [val_main_v30_apply, val_main_v29_apply]
  exact congrArg₂ (· * ·) (v25_at x0 x1 x2 x3 x4 x5 i) (v21_at x7 _)

theorem v40_at (i : S4096x1.Idx) : ((val_main_v40 (F := Ideal) x0 x1 x2 x3 x4 x5 x6 x7) i : EReal) = Norm.coef eps (row x6 (i 0).val) (Gr x0 x1 x2 x3 x4 x5 x7 (i 0).val) := by
  rw [val_main_v40_apply, val_main_v38_apply, val_main_v34_apply, val_main_v33_apply, val_main_v39_apply]
  show Ideal.div ((Ideal.ofBits .f32 0x00000000#32 + _) * _) (Ideal.ofBits .f32 0x44800000#32) = _
  rw [Ideal.ofBits_zero_f32, zero_add, c1024, v18_at]
  unfold Norm.coef
  refine congrArg (fun s => Ideal.div (s * _) ((1024 : ℝ) : EReal)) ?_
  have hi : (i 1).val = 0 := Nat.lt_one_iff.mp (idx2_lt1 i)
  have e0 : (i 0).val * 1 + (i 1).val = (i 0).val := by omega
  refine Finset.sum_congr rfl fun k _ => ?_
  rw [val_main_v32_apply]
  refine congrArg₂ (· * ·) ((row_at x6 _).trans ?_) ((v30_at x0 x1 x2 x3 x4 x5 x7 _).trans ?_)
  · show row x6 ((i 0).val * 1 + (i 1).val) k = _
    rw [e0]
  · show Gr x0 x1 x2 x3 x4 x5 x7 ((i 0).val * 1 + (i 1).val) k = _
    rw [e0]

theorem v42_at (i : S4096x1024.Idx) : ((val_main_v42 (F := Ideal) x0 x1 x2 x3 x4 x5 x6 x7) i : EReal) = Norm.coef eps (row x6 (i 0).val) (Gr x0 x1 x2 x3 x4 x5 x7 (i 0).val) := by
  rw [val_main_v42_apply, val_main_v41_apply]
  show Ideal.ofBits .f32 0x00000000#32 + _ = _
  rw [Ideal.ofBits_zero_f32, zero_add, Fin.sum_univ_one]
  exact v40_at x0 x1 x2 x3 x4 x5 x6 x7 _

/-- The residual stream's gradient. -/
theorem v46_at (i : S4096x1024.Idx) : ((val_main_v46 (F := Ideal) x0 x1 x2 x3 x4 x5 x6 x7 x8) i : EReal) = row x8 (i 0).val ⟨(i 1).val, idx2_lt1 i⟩
    + ngrad (row x6 (i 0).val) (Gr x0 x1 x2 x3 x4 x5 x7 (i 0).val) ⟨(i 1).val, idx2_lt1 i⟩ := by
  rw [val_main_v46_apply, val_main_v44_apply, val_main_v37_apply, val_main_v36_apply, val_main_v35_apply, val_main_v43_apply, val_main_v45_apply, ngrad_eq]
  rw [v42_at, v30_at, v15_at, row_at x6 i, row_at x8 i]
  show ((_ + _ * _) + _ * _) + _ * _ = _ + (_ * _ + _ * _ + _ * _ : EReal)
  rw [add_assoc, add_assoc, add_assoc]

theorem v31_at (i : S1024.Idx) : ((val_main_v31 (F := Ideal) x0 x1 x2 x3 x4 x5 x6) i : EReal) = ∑ s : Fin 4096, Ur x0 x1 x2 x3 x4 x5 s.val ⟨(i 0).val, (i 0).isLt⟩ * on (row x6 s.val) ⟨(i 0).val, (i 0).isLt⟩ := by
  rw [val_main_v31_apply]
  show Ideal.ofBits .f32 0x00000000#32 + _ = _
  rw [Ideal.ofBits_zero_f32, zero_add, Fin.sum_univ_one, val_main_v28_apply, val_main_v27_apply]
  show Ideal.ofBits .f32 0x00000000#32 + _ = _
  rw [Ideal.ofBits_zero_f32, zero_add]
  have e : ∀ h h', (⟨0 * 1024 + (i 0).val, h⟩ : Fin 1024) = ⟨(i 0).val, h'⟩ := fun _ _ => Fin.ext (by dsimp only; omega)
  refine Finset.sum_congr rfl fun k _ => ?_
  rw [val_main_v26_apply]
  refine (mul_comm _ _).trans ((congrArg₂ (· * ·) (v25_at x0 x1 x2 x3 x4 x5 _) (v20_at x6 _)).trans ?_)
  exact congrArg (fun a => Ur x0 x1 x2 x3 x4 x5 k.val a * on (row x6 k.val) a) (e _ _)

/-- Row 0: the pre-norm weight's gradient. -/
theorem v49_at (y : S8x1024.Idx) : ((val_main_v49 (F := Ideal) x0 x1 x2 x3 x4 x5 x6) y : EReal) =
    if (y 0).val = 0 then ∑ s : Fin 4096, Ur x0 x1 x2 x3 x4 x5 s.val ⟨(y 1).val, idx2_lt1 y⟩ * on (row x6 s.val) ⟨(y 1).val, idx2_lt1 y⟩ else 0 := by
  have hy : (y 0).val < 8 := idx2_lt0 y
  have hz : ∀ i : S7x1024.Idx, ((val_main_v48 (F := Ideal) ) i : EReal) = 0 := fun i => by
    rw [val_main_v48_apply]
    exact Ideal.ofBits_zero_f32
  unfold val_main_v49
  split_ifs with h0
  · refine (concat_rows (N := 8) [⟨⟨2, ![1, 1024]⟩, (val_main_v47 (F := Ideal) x0 x1 x2 x3 x4 x5 x6)⟩, ⟨⟨2, ![7, 1024]⟩, (val_main_v48 (F := Ideal) )⟩] _ y 0 (show 0 < 2 by decide) (val_main_v47 (F := Ideal) x0 x1 x2 x3 x4 x5 x6) rfl 0 rfl (by omega) (by omega)).trans ?_
    rw [rd_of_lt _ (show (y 0).val - 0 < 1 by omega) (idx2_lt1 y), val_main_v47_apply]
    exact v31_at x0 x1 x2 x3 x4 x5 x6 _
  · refine (concat_rows (N := 8) [⟨⟨2, ![1, 1024]⟩, (val_main_v47 (F := Ideal) x0 x1 x2 x3 x4 x5 x6)⟩, ⟨⟨2, ![7, 1024]⟩, (val_main_v48 (F := Ideal) )⟩] _ y 1 (show 1 < 2 by decide) (val_main_v48 (F := Ideal) ) rfl 1 rfl (by omega) (by omega)).trans ?_
    rw [rd_of_lt _ (show (y 0).val - 1 < 7 by omega) (idx2_lt1 y)]
    exact hz _

end

/-- The algebraic claim of `Kernel2`. -/
theorem algebraic : Cert.algebraic_Kernel2Ideal_Reference2Ideal := by
  intro m g m' g' _ hargs
  refine ⟨fun c => G9 m c, fun c => G10 m c, ?_, ?_⟩
  · refine (θ_run _ _ _).mono (fun r h c => ?_) (Cert.Kernel2Ideal.Value.run_blocks m g)
    exact ⟨(h c).1.trans (final9 m c), (h c).2.1.trans (final10 m c), (h c).2.2⟩
  · refine (θ_run _ _ _).mono (fun r h c => ?_) (Cert.Reference2Ideal.Value.run m' g')
    obtain ⟨e0, e1, e2, e3, e4, e5, e6, e7, e8⟩ := hargs c
    refine ⟨(h c).1.trans ?_, (h c).2.1.trans ?_, (h c).2.2⟩
    · refine (val_main_v46_eq _ _).trans ?_
      rw [e0, e1, e2, e3, e4, e5, e6, e7, e8]
      exact funext fun i => v46_at _ _ _ _ _ _ _ _ _ i
    · rw [e0, e1, e2, e3, e4, e5, e6]
      exact (val_main_v49_eq _ _ _ _ _ _ _).trans (funext fun i => v49_at _ _ _ _ _ _ _ i)

end Cert.Proof.InProj

end
-- ==== Proof.DwIn.lean ====
/-
  THE IN-PROJECTION'S WEIGHT GRADIENT (`Kernel3`): the blocked kernel's result array is the plain product.

  The kernel walks seven row blocks of the 7168 × 1024 gradient and, for each, four blocks of 1024 tokens. At each
  point it adds the product of one 1024 × 1024 block of the incoming gradient (taken from one of five arrays: dq, dk,
  dv, dg and the three column blocks of dzxd) with one block of the normalised hidden state `u` to a block it zeroed at
  the first of the four points. `out_A` … `out_J` say what the body leaves in the ten cases of its conditionals;
  `outsAt_eq` says what the block holds after each point, as a sum over the tokens seen so far; `final` says what the
  array holds at the end: at row `r` and column `j`, the sum over all 4096 tokens `s` of `P s r * U s j`, with `P` the five
  arrays side by side.
-/
module

public import proofs.«01_k».proof.Proof.Blocks
public import proofs.«01_k».proof.Proof.Gen.Kernel3Ideal.Value

@[expose] public section

noncomputable section

open Idealize.ShloMosaic Idealize.ShloMosaic.TcCoe Idealize.SL.Sem
open Idealize.ShloMosaic.Pipeline (Dat)
open scoped BigOperators

namespace Cert.Proof.DwIn

open Cert.Kernel3Ideal Cert.Kernel3Ideal.Gen Cert.Proof.Blocks

/-! ## What the body leaves, case by case -/

section Body
variable {F : FTy → Type} [FloatOps F]

theorem hz : (![0, 0] : Fin 2 → Nat) = fun _ => 0 := funext fun a => by fin_cases a <;> rfl

/-- The zero block. -/
abbrev zero : Vec F S1024x1024 .f32 := broadcast S1024x1024 (Scalar.ofBits .f32 0x00000000#32)

/-- One block's product: the left block transposed times the right block, from zero. -/
abbrev prod (a b : Vec F S1024x1024 .bf16) : Vec F S1024x1024 .f32 :=
  matmul dot_S1024x1024_S1024x1024_S1024x1024_0_0_1_1_n_n none a b (constant S1024x1024 .f32 0x00000000#32)

/-- At the first point of a run over input 0, the body leaves zero plus the product of that input's block and `u`'s. -/
theorem out_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : cond0_1 i) (hc2 : ¬cond0_2 i) (hc3 : ¬cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) :
    out0_A_6 c i arg3 harg3 arg4 harg4 arg5 harg5 arg6 harg6 arg7 harg7 arg8 harg8 arg9 harg9 hc0 hc1 hc2 hc3 hc4 hc5 x0 x1 x2 x3 x4 x5 = addf (zero (F := F)) (prod x0 x5) := by
  unfold out0_A_6
  rw [View.read_writes_eq_canon _ _ _ (cover0_A_6 c i arg3 harg3 arg4 harg4 arg5 harg5 arg6 harg6 arg7 harg7 arg8 harg8 arg9 harg9 hc0 hc1 hc2 hc3 hc4 hc5 x0 x1 x2 x3 x4 x5)]
  unfold kernelRun0_A
  dsimp only
  sl_unfold_words
  rw [View.canon_cons_unit_zero (S := S1024x1024) hz, View.readCov_unit_zero (S := S1024x1024) _ hz]
  unfold k0_pay4 k0_pay3
  simp only [View.readAt_eq_ld, harg3.read_unread, harg8.read_unread, View.ld_unit_zero (S := S1024x1024) hz, shapeCast_self, zero, prod]

/-- At a later point of a run over input 0, the body adds the product of that input's block and `u`'s to what the buffer held. -/
theorem out_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i) (hc2 : ¬cond0_2 i) (hc3 : ¬cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (xo6 : Vec F S1024x1024 .f32) :
    out0_B_6 c i arg3 harg3 arg4 harg4 arg5 harg5 arg6 harg6 arg7 harg7 arg8 harg8 arg9 harg9 hc0 hc1 hc2 hc3 hc4 hc5 x0 x1 x2 x3 x4 x5 xo6 = addf xo6 (prod x0 x5) := by
  unfold out0_B_6
  rw [View.read_writes_eq_canon _ _ _ (cover0_B_6 c i arg3 harg3 arg4 harg4 arg5 harg5 arg6 harg6 arg7 harg7 arg8 harg8 arg9 harg9 hc0 hc1 hc2 hc3 hc4 hc5 x0 x1 x2 x3 x4 x5 xo6)]
  unfold kernelRun0_B
  dsimp only
  rw [View.canon_unit_zero hz]
  unfold k0_pay4
  simp only [View.readAt_eq_ld, harg3.read_unread, harg8.read_unread, harg9.read_unread, View.ld_unit_zero (S := S1024x1024) hz, shapeCast_self, prod]

/-- At the first point of a run over input 1, the body leaves zero plus the product of that input's block and `u`'s. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i) (hc2 : cond0_2 i) (hc3 : ¬cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) :
    out0_C_6 c i arg3 harg3 arg4 harg4 arg5 harg5 arg6 harg6 arg7 harg7 arg8 harg8 arg9 harg9 hc0 hc1 hc2 hc3 hc4 hc5 x0 x1 x2 x3 x4 x5 = addf (zero (F := F)) (prod x1 x5) := by
  unfold out0_C_6
  rw [View.read_writes_eq_canon _ _ _ (cover0_C_6 c i arg3 harg3 arg4 harg4 arg5 harg5 arg6 harg6 arg7 harg7 arg8 harg8 arg9 harg9 hc0 hc1 hc2 hc3 hc4 hc5 x0 x1 x2 x3 x4 x5)]
  unfold kernelRun0_C
  dsimp only
  sl_unfold_words
  rw [View.canon_cons_unit_zero (S := S1024x1024) hz, View.readCov_unit_zero (S := S1024x1024) _ hz]
  unfold k0_pay5 k0_pay3
  simp only [View.readAt_eq_ld, harg4.read_unread, harg8.read_unread, View.ld_unit_zero (S := S1024x1024) hz, shapeCast_self, zero, prod]

/-- At a later point of a run over input 1, the body adds the product of that input's block and `u`'s to what the buffer held. -/
theorem out_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (xo6 : Vec F S1024x1024 .f32) :
    out0_D_6 c i arg3 harg3 arg4 harg4 arg5 harg5 arg6 harg6 arg7 harg7 arg8 harg8 arg9 harg9 hc0 hc1 hc2 hc3 hc4 hc5 x0 x1 x2 x3 x4 x5 xo6 = addf xo6 (prod x1 x5) := by
  unfold out0_D_6
  rw [View.read_writes_eq_canon _ _ _ (cover0_D_6 c i arg3 harg3 arg4 harg4 arg5 harg5 arg6 harg6 arg7 harg7 arg8 harg8 arg9 harg9 hc0 hc1 hc2 hc3 hc4 hc5 x0 x1 x2 x3 x4 x5 xo6)]
  unfold kernelRun0_D
  dsimp only
  rw [View.canon_unit_zero hz]
  unfold k0_pay5
  simp only [View.readAt_eq_ld, harg4.read_unread, harg8.read_unread, harg9.read_unread, View.ld_unit_zero (S := S1024x1024) hz, shapeCast_self, prod]

/-- At the first point of a run over input 2, the body leaves zero plus the product of that input's block and `u`'s. -/
theorem out_E (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i) (hc2 : ¬cond0_2 i) (hc3 : cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) :
    out0_E_6 c i arg3 harg3 arg4 harg4 arg5 harg5 arg6 harg6 arg7 harg7 arg8 harg8 arg9 harg9 hc0 hc1 hc2 hc3 hc4 hc5 x0 x1 x2 x3 x4 x5 = addf (zero (F := F)) (prod x2 x5) := by
  unfold out0_E_6
  rw [View.read_writes_eq_canon _ _ _ (cover0_E_6 c i arg3 harg3 arg4 harg4 arg5 harg5 arg6 harg6 arg7 harg7 arg8 harg8 arg9 harg9 hc0 hc1 hc2 hc3 hc4 hc5 x0 x1 x2 x3 x4 x5)]
  unfold kernelRun0_E
  dsimp only
  sl_unfold_words
  rw [View.canon_cons_unit_zero (S := S1024x1024) hz, View.readCov_unit_zero (S := S1024x1024) _ hz]
  unfold k0_pay6 k0_pay3
  simp only [View.readAt_eq_ld, harg5.read_unread, harg8.read_unread, View.ld_unit_zero (S := S1024x1024) hz, shapeCast_self, zero, prod]

/-- At a later point of a run over input 2, the body adds the product of that input's block and `u`'s to what the buffer held. -/
theorem out_F (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (xo6 : Vec F S1024x1024 .f32) :
    out0_F_6 c i arg3 harg3 arg4 harg4 arg5 harg5 arg6 harg6 arg7 harg7 arg8 harg8 arg9 harg9 hc0 hc1 hc2 hc3 hc4 hc5 x0 x1 x2 x3 x4 x5 xo6 = addf xo6 (prod x2 x5) := by
  unfold out0_F_6
  rw [View.read_writes_eq_canon _ _ _ (cover0_F_6 c i arg3 harg3 arg4 harg4 arg5 harg5 arg6 harg6 arg7 harg7 arg8 harg8 arg9 harg9 hc0 hc1 hc2 hc3 hc4 hc5 x0 x1 x2 x3 x4 x5 xo6)]
  unfold kernelRun0_F
  dsimp only
  rw [View.canon_unit_zero hz]
  unfold k0_pay6
  simp only [View.readAt_eq_ld, harg5.read_unread, harg8.read_unread, harg9.read_unread, View.ld_unit_zero (S := S1024x1024) hz, shapeCast_self, prod]

/-- At the first point of a run over input 3, the body leaves zero plus the product of that input's block and `u`'s. -/
theorem out_G (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i) (hc2 : ¬cond0_2 i) (hc3 : ¬cond0_3 i) (hc4 : cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) :
    out0_G_6 c i arg3 harg3 arg4 harg4 arg5 harg5 arg6 harg6 arg7 harg7 arg8 harg8 arg9 harg9 hc0 hc1 hc2 hc3 hc4 hc5 x0 x1 x2 x3 x4 x5 = addf (zero (F := F)) (prod x3 x5) := by
  unfold out0_G_6
  rw [View.read_writes_eq_canon _ _ _ (cover0_G_6 c i arg3 harg3 arg4 harg4 arg5 harg5 arg6 harg6 arg7 harg7 arg8 harg8 arg9 harg9 hc0 hc1 hc2 hc3 hc4 hc5 x0 x1 x2 x3 x4 x5)]
  unfold kernelRun0_G
  dsimp only
  sl_unfold_words
  rw [View.canon_cons_unit_zero (S := S1024x1024) hz, View.readCov_unit_zero (S := S1024x1024) _ hz]
  unfold k0_pay1 k0_pay3
  simp only [View.readAt_eq_ld, harg6.read_unread, harg8.read_unread, View.ld_unit_zero (S := S1024x1024) hz, shapeCast_self, zero, prod]

/-- At a later point of a run over input 3, the body adds the product of that input's block and `u`'s to what the buffer held. -/
theorem out_H (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i) (hc2 : ¬cond0_2 i) (hc3 : ¬cond0_3 i) (hc4 : cond0_4 i) (hc5 : ¬cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (xo6 : Vec F S1024x1024 .f32) :
    out0_H_6 c i arg3 harg3 arg4 harg4 arg5 harg5 arg6 harg6 arg7 harg7 arg8 harg8 arg9 harg9 hc0 hc1 hc2 hc3 hc4 hc5 x0 x1 x2 x3 x4 x5 xo6 = addf xo6 (prod x3 x5) := by
  unfold out0_H_6
  rw [View.read_writes_eq_canon _ _ _ (cover0_H_6 c i arg3 harg3 arg4 harg4 arg5 harg5 arg6 harg6 arg7 harg7 arg8 harg8 arg9 harg9 hc0 hc1 hc2 hc3 hc4 hc5 x0 x1 x2 x3 x4 x5 xo6)]
  unfold kernelRun0_H
  dsimp only
  rw [View.canon_unit_zero hz]
  unfold k0_pay1
  simp only [View.readAt_eq_ld, harg6.read_unread, harg8.read_unread, harg9.read_unread, View.ld_unit_zero (S := S1024x1024) hz, shapeCast_self, prod]

/-- At the first point of a run over input 4, the body leaves zero plus the product of that input's block and `u`'s. -/
theorem out_I (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i) (hc2 : ¬cond0_2 i) (hc3 : ¬cond0_3 i) (hc4 : ¬cond0_4 i) (hc5 : cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) :
    out0_I_6 c i arg3 harg3 arg4 harg4 arg5 harg5 arg6 harg6 arg7 harg7 arg8 harg8 arg9 harg9 hc0 hc1 hc2 hc3 hc4 hc5 x0 x1 x2 x3 x4 x5 = addf (zero (F := F)) (prod x4 x5) := by
  unfold out0_I_6
  rw [View.read_writes_eq_canon _ _ _ (cover0_I_6 c i arg3 harg3 arg4 harg4 arg5 harg5 arg6 harg6 arg7 harg7 arg8 harg8 arg9 harg9 hc0 hc1 hc2 hc3 hc4 hc5 x0 x1 x2 x3 x4 x5)]
  unfold kernelRun0_I
  dsimp only
  sl_unfold_words
  rw [View.canon_cons_unit_zero (S := S1024x1024) hz, View.readCov_unit_zero (S := S1024x1024) _ hz]
  unfold k0_pay2 k0_pay3
  simp only [View.readAt_eq_ld, harg7.read_unread, harg8.read_unread, View.ld_unit_zero (S := S1024x1024) hz, shapeCast_self, zero, prod]

/-- At a later point of a run over input 4, the body adds the product of that input's block and `u`'s to what the buffer held. -/
theorem out_J (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i) (hc2 : ¬cond0_2 i) (hc3 : ¬cond0_3 i) (hc4 : ¬cond0_4 i) (hc5 : cond0_5 i)
    (x0 : Vec F S1024x1024 .bf16) (x1 : Vec F S1024x1024 .bf16) (x2 : Vec F S1024x1024 .bf16) (x3 : Vec F S1024x1024 .bf16) (x4 : Vec F S1024x1024 .bf16) (x5 : Vec F S1024x1024 .bf16) (xo6 : Vec F S1024x1024 .f32) :
    out0_J_6 c i arg3 harg3 arg4 harg4 arg5 harg5 arg6 harg6 arg7 harg7 arg8 harg8 arg9 harg9 hc0 hc1 hc2 hc3 hc4 hc5 x0 x1 x2 x3 x4 x5 xo6 = addf xo6 (prod x4 x5) := by
  unfold out0_J_6
  rw [View.read_writes_eq_canon _ _ _ (cover0_J_6 c i arg3 harg3 arg4 harg4 arg5 harg5 arg6 harg6 arg7 harg7 arg8 harg8 arg9 harg9 hc0 hc1 hc2 hc3 hc4 hc5 x0 x1 x2 x3 x4 x5 xo6)]
  unfold kernelRun0_J
  dsimp only
  rw [View.canon_unit_zero hz]
  unfold k0_pay2
  simp only [View.readAt_eq_ld, harg7.read_unread, harg8.read_unread, harg9.read_unread, View.ld_unit_zero (S := S1024x1024) hz, shapeCast_self, prod]

end Body

/-! ## What the block holds after each point, over the extended reals -/

variable (m : (ℓ : Loc nD τ sig) → Buf (Elt Ideal) ℓ) (ρ : Dev nD → PrngReg)

abbrev D := dot_S1024x1024_S1024x1024_S1024x1024_0_0_1_1_n_n

theorem hl0 (j : S1024x1024.Idx) (q : D.contr.Idx) : (D.lhsIdx j q 0).val = (q ⟨0, by decide⟩).val :=
  D.lhsIdx_val_of_single rfl j q
theorem hl1 (j : S1024x1024.Idx) (q : D.contr.Idx) : (D.lhsIdx j q 1).val = (j 0).val := by
  unfold DotDims.lhsIdx
  rw [dif_neg (show ¬(1 : Fin S1024x1024.rank) ∈ D.lhsBatch by decide), dif_pos (show (1 : Fin S1024x1024.rank) ∈ D.lhsNonContracting by decide)]
  rfl
theorem hr0 (j : S1024x1024.Idx) (q : D.contr.Idx) : (D.rhsIdx j q 0).val = (q ⟨0, by decide⟩).val :=
  D.rhsIdx_val_of_single rfl j q
theorem hr1 (j : S1024x1024.Idx) (q : D.contr.Idx) : (D.rhsIdx j q 1).val = (j 1).val := by
  unfold DotDims.rhsIdx
  rw [dif_neg (show ¬(1 : Fin S1024x1024.rank) ∈ D.rhsBatch by decide), dif_pos (show (1 : Fin S1024x1024.rank) ∈ D.rhsNonContracting by decide)]
  rfl

/-- One block's product at an element: the sum over the block's 1024 tokens. -/
theorem prod_apply (a b : S1024x1024.Idx → EReal) (j : S1024x1024.Idx) :
    (prod (F := Ideal) a b j : EReal) = ∑ k : Fin 1024, rd a k.val (j 0).val * rd b k.val (j 1).val :=
  matmul_tn D a b rfl rfl hl0 hl1 hr0 hr1 j

/-- The five arrays as the call is given them, side by side. -/
abbrev Pm (c : Dev nD) (s r : ℕ) : EReal :=
  P (m ((c : Thread nD τ).loc main_arg0)) (m ((c : Thread nD τ).loc main_arg1)) (m ((c : Thread nD τ).loc main_arg2))
    (m ((c : Thread nD τ).loc main_arg3)) (m ((c : Thread nD τ).loc main_arg4)) s r

/-- The normalised hidden state the region is given. -/
abbrev Um (c : Dev nD) (s j : ℕ) : EReal := rd (n := 4096) (m := 1024) (V m c main_v14) s j

/-! Where each window's block sits, at the points that read it. -/

theorem idx0 : ∀ t : Fin grid0.N, t.val < 4 → win0_0.index t 0 = t.val % 4 ∧ win0_0.index t 1 = 0 := by decide +kernel
theorem idx1 : ∀ t : Fin grid0.N, t.val / 4 % 7 = 1 → win0_1.index t 0 = t.val % 4 ∧ win0_1.index t 1 = 0 := by decide +kernel
theorem idx2 : ∀ t : Fin grid0.N, t.val / 4 % 7 = 2 → win0_2.index t 0 = t.val % 4 ∧ win0_2.index t 1 = 0 := by decide +kernel
theorem idx3 : ∀ t : Fin grid0.N, t.val / 4 % 7 = 3 → win0_3.index t 0 = t.val % 4 ∧ win0_3.index t 1 = 0 := by decide +kernel
theorem idx4 : ∀ t : Fin grid0.N, 16 ≤ t.val → win0_4.index t 0 = t.val % 4 ∧ win0_4.index t 1 = t.val / 4 - 4 := by decide +kernel
theorem idx5 : ∀ t : Fin grid0.N, win0_5.index t 0 = t.val % 4 ∧ win0_5.index t 1 = 0 := by decide +kernel
theorem idx6 : ∀ t : Fin grid0.N, win0_6.index t 0 = t.val / 4 ∧ win0_6.index t 1 = 0 := by decide +kernel

theorem blk5 (c : Dev nD) (t : Fin cfg0.N) (k j : Fin 1024) :
    rd (n := 1024) (m := 1024) (iblk m c 5 t) k.val j.val = Um m c (1024 * (t.val % 4) + k.val) j.val := by
  rw [rd_of_lt _ k.isLt j.isLt]
  unfold iblk
  rw [View.read_apply]
  refine eq_rd (n := 4096) (m := 1024) (V m c main_v14) _ ?_ ?_
  · show win0_5.index t 0 * 1024 + 1 * k.val = _; rw [(idx5 t).1]; omega
  · show win0_5.index t 1 * 1024 + 1 * j.val = _; rw [(idx5 t).2]; omega

theorem blk0 (c : Dev nD) (t : Fin cfg0.N) (h : t.val < 4) (k j : Fin 1024) :
    rd (n := 1024) (m := 1024) (iblk m c 0 t) k.val j.val = Pm m c (1024 * (t.val % 4) + k.val) (1024 * (t.val / 4) + j.val) := by
  have hj := j.isLt
  unfold Pm P
  rw [if_pos (by omega), rd_of_lt _ k.isLt j.isLt]
  unfold iblk
  rw [View.read_apply]
  refine (congrFun (V_main_arg0 m c) _).trans (eq_rd (n := 4096) (m := 1024) (m ((c : Thread nD τ).loc main_arg0)) _ ?_ ?_)
  · show win0_0.index t 0 * 1024 + 1 * k.val = _; rw [(idx0 t h).1]; omega
  · show win0_0.index t 1 * 1024 + 1 * j.val = _; rw [(idx0 t h).2]; omega

theorem blk1 (c : Dev nD) (t : Fin cfg0.N) (h : t.val / 4 % 7 = 1) (k j : Fin 1024) :
    rd (n := 1024) (m := 1024) (iblk m c 1 t) k.val j.val = Pm m c (1024 * (t.val % 4) + k.val) (1024 * (t.val / 4) + j.val) := by
  have hj := j.isLt
  have hN : t.val < 28 := t.isLt.trans_eq N_0
  unfold Pm P
  rw [if_neg (by omega), if_pos (by omega), rd_of_lt _ k.isLt j.isLt]
  unfold iblk
  rw [View.read_apply]
  refine (congrFun (V_main_arg1 m c) _).trans (eq_rd (n := 4096) (m := 1024) (m ((c : Thread nD τ).loc main_arg1)) _ ?_ ?_)
  · show win0_1.index t 0 * 1024 + 1 * k.val = _; rw [(idx1 t h).1]; omega
  · show win0_1.index t 1 * 1024 + 1 * j.val = _; rw [(idx1 t h).2]; omega

theorem blk2 (c : Dev nD) (t : Fin cfg0.N) (h : t.val / 4 % 7 = 2) (k j : Fin 1024) :
    rd (n := 1024) (m := 1024) (iblk m c 2 t) k.val j.val = Pm m c (1024 * (t.val % 4) + k.val) (1024 * (t.val / 4) + j.val) := by
  have hj := j.isLt
  have hN : t.val < 28 := t.isLt.trans_eq N_0
  unfold Pm P
  rw [if_neg (by omega), if_neg (by omega), if_pos (by omega), rd_of_lt _ k.isLt j.isLt]
  unfold iblk
  rw [View.read_apply]
  refine (congrFun (V_main_arg2 m c) _).trans (eq_rd (n := 4096) (m := 1024) (m ((c : Thread nD τ).loc main_arg2)) _ ?_ ?_)
  · show win0_2.index t 0 * 1024 + 1 * k.val = _; rw [(idx2 t h).1]; omega
  · show win0_2.index t 1 * 1024 + 1 * j.val = _; rw [(idx2 t h).2]; omega

theorem blk3 (c : Dev nD) (t : Fin cfg0.N) (h : t.val / 4 % 7 = 3) (k j : Fin 1024) :
    rd (n := 1024) (m := 1024) (iblk m c 3 t) k.val j.val = Pm m c (1024 * (t.val % 4) + k.val) (1024 * (t.val / 4) + j.val) := by
  have hj := j.isLt
  have hN : t.val < 28 := t.isLt.trans_eq N_0
  unfold Pm P
  rw [if_neg (by omega), if_neg (by omega), if_neg (by omega), if_pos (by omega), rd_of_lt _ k.isLt j.isLt]
  unfold iblk
  rw [View.read_apply]
  refine (congrFun (V_main_arg3 m c) _).trans (eq_rd (n := 4096) (m := 1024) (m ((c : Thread nD τ).loc main_arg3)) _ ?_ ?_)
  · show win0_3.index t 0 * 1024 + 1 * k.val = _; rw [(idx3 t h).1]; omega
  · show win0_3.index t 1 * 1024 + 1 * j.val = _; rw [(idx3 t h).2]; omega

theorem blk4 (c : Dev nD) (t : Fin cfg0.N) (h : 16 ≤ t.val) (k j : Fin 1024) :
    rd (n := 1024) (m := 1024) (iblk m c 4 t) k.val j.val = Pm m c (1024 * (t.val % 4) + k.val) (1024 * (t.val / 4) + j.val) := by
  have hj := j.isLt
  have hN : t.val < 28 := t.isLt.trans_eq N_0
  unfold Pm P
  rw [if_neg (by omega), if_neg (by omega), if_neg (by omega), if_neg (by omega), rd_of_lt _ k.isLt j.isLt]
  unfold iblk
  rw [View.read_apply]
  refine (congrFun (V_main_arg4 m c) _).trans (eq_rd (n := 4096) (m := 3072) (m ((c : Thread nD τ).loc main_arg4)) _ ?_ ?_)
  · show win0_4.index t 0 * 1024 + 1 * k.val = _; rw [(idx4 t h).1]; omega
  · show win0_4.index t 1 * 1024 + 1 * j.val = _; rw [(idx4 t h).2]; omega

/-- The term of one block of 1024 tokens. -/
abbrev term (c : Dev nD) (r j kk : ℕ) : EReal :=
  ∑ k : Fin 1024, Pm m c (1024 * kk + k.val) r * Um m c (1024 * kk + k.val) j

/-- A point's product is the term of its block of tokens, given where its left block sits. -/
theorem prod_term (c : Dev nD) (t : Fin cfg0.N) (x : S1024x1024.Idx → EReal)
    (hx : ∀ k j : Fin 1024, rd (n := 1024) (m := 1024) x k.val j.val = Pm m c (1024 * (t.val % 4) + k.val) (1024 * (t.val / 4) + j.val))
    (j : S1024x1024.Idx) :
    (prod (F := Ideal) x (iblk m c 5 t) j : EReal) = term m c (1024 * (t.val / 4) + (j 0).val) (j 1).val (t.val % 4) := by
  rw [prod_apply]
  exact Finset.sum_congr rfl fun k _ => congrArg₂ (· * ·) (hx k (j 0)) (blk5 m c t k (j 1))

/-- The zero block adds nothing. -/
theorem zero_add' (y : EReal) : Ideal.ofBits .f32 0x00000000#32 + y = y := by
  rw [Ideal.ofBits_zero_f32, zero_add]

/-- What a point leaves: at the first point of a run the term alone, later what was there plus the term. -/
theorem step_reset (c : Dev nD) (t : Fin cfg0.N) (h0 : t.val % 4 = 0) (j : S1024x1024.Idx) :
    (outsAt0 m c t.val t.isLt j : EReal) = term m c (1024 * (t.val / 4) + (j 0).val) (j 1).val (t.val % 4) := by
  have hN : t.val < 28 := t.isLt.trans_eq N_0
  by_cases h1 : t.val < 4
  · rw [outsAt0_A m c t h0 h1 (by omega) (by omega) (by omega) (by omega), out_A]
    exact (zero_add' _).trans (prod_term m c t _ (blk0 m c t h1) j)
  by_cases h2 : t.val / 4 % 7 = 1
  · rw [outsAt0_C m c t h0 h1 h2 (by omega) (by omega) (by omega), out_C]
    exact (zero_add' _).trans (prod_term m c t _ (blk1 m c t h2) j)
  by_cases h3 : t.val / 4 % 7 = 2
  · rw [outsAt0_E m c t h0 h1 h2 h3 (by omega) (by omega), out_E]
    exact (zero_add' _).trans (prod_term m c t _ (blk2 m c t h3) j)
  by_cases h4 : t.val / 4 % 7 = 3
  · rw [outsAt0_G m c t h0 h1 h2 h3 h4 (by omega), out_G]
    exact (zero_add' _).trans (prod_term m c t _ (blk3 m c t h4) j)
  have h5 : 16 ≤ t.val := by omega
  rw [outsAt0_I m c t h0 h1 h2 h3 h4 h5, out_I]
  exact (zero_add' _).trans (prod_term m c t _ (blk4 m c t h5) j)

theorem step_add (c : Dev nD) (t : Fin cfg0.N) (h0 : ¬t.val % 4 = 0) (j : S1024x1024.Idx) :
    (outsAt0 m c t.val t.isLt j : EReal) = (outsAt0 m c (t.val - 1) (Nat.lt_of_le_of_lt (Nat.sub_le _ _) t.isLt) j : EReal)
      + term m c (1024 * (t.val / 4) + (j 0).val) (j 1).val (t.val % 4) := by
  have hN : t.val < 28 := t.isLt.trans_eq N_0
  by_cases h1 : t.val < 4
  · rw [outsAt0_B m c t h0 h1 (by omega) (by omega) (by omega) (by omega), out_B]
    exact congrArg (_ + ·) (prod_term m c t _ (blk0 m c t h1) j)
  by_cases h2 : t.val / 4 % 7 = 1
  · rw [outsAt0_D m c t h0 h1 h2 (by omega) (by omega) (by omega), out_D]
    exact congrArg (_ + ·) (prod_term m c t _ (blk1 m c t h2) j)
  by_cases h3 : t.val / 4 % 7 = 2
  · rw [outsAt0_F m c t h0 h1 h2 h3 (by omega) (by omega), out_F]
    exact congrArg (_ + ·) (prod_term m c t _ (blk2 m c t h3) j)
  by_cases h4 : t.val / 4 % 7 = 3
  · rw [outsAt0_H m c t h0 h1 h2 h3 h4 (by omega), out_H]
    exact congrArg (_ + ·) (prod_term m c t _ (blk3 m c t h4) j)
  have h5 : 16 ≤ t.val := by omega
  rw [outsAt0_J m c t h0 h1 h2 h3 h4 h5, out_J]
  exact congrArg (_ + ·) (prod_term m c t _ (blk4 m c t h5) j)

/-- After point `n` the block holds the terms of the token blocks seen since its run began. -/
theorem outsAt_eq (c : Dev nD) (j : S1024x1024.Idx) : ∀ (n : ℕ) (h : n < cfg0.N),
    (outsAt0 m c n h j : EReal) = ∑ kk ∈ Finset.range (n % 4 + 1), term m c (1024 * (n / 4) + (j 0).val) (j 1).val kk
  | 0, h => by
    rw [step_reset m c ⟨0, h⟩ rfl j]
    exact (Finset.sum_range_one _).symm
  | n + 1, h => by
    by_cases h0 : (n + 1) % 4 = 0
    · rw [step_reset m c ⟨n + 1, h⟩ h0 j]
      dsimp only
      rw [h0]
      exact (Finset.sum_range_one _).symm
    · rw [step_add m c ⟨n + 1, h⟩ h0 j]
      dsimp only
      rw [show (n + 1) % 4 = n % 4 + 1 by omega, show (n + 1) / 4 = n / 4 by omega, Finset.sum_range_succ]
      exact congrArg (· + _) (outsAt_eq c j n (Nat.lt_of_succ_lt h))

/-- The gradient: at row `r`, column `j`, the sum over all tokens. -/
def G (c : Dev nD) : Buf (Elt Ideal) ((c : Thread nD τ).loc main_v15) :=
  fun i => (∑ s : Fin 4096, Pm m c s.val (i 0).val * Um m c s.val (i 1).val : EReal)

theorem flushed_eq (c : Dev nD) (t : Fin cfg0.N) (hf : (cfg0.win 6).flush t = true) :
    (dats m 0 c).flushed 6 t = ((cfg0.win 6).blk t).view.read (Elt Ideal) (G m c) := by
  have h3 := (flush0_6 t).mp hf
  rw [Cert.Kernel3Ideal.Value.flushed6]
  funext j
  show (outsAt0 m c t.val t.isLt j : EReal) = _
  rw [outsAt_eq m c j t.val t.isLt, h3, View.read_apply]
  unfold G
  refine (sum_blocks' (fun s => Pm m c s (1024 * (t.val / 4) + (j 0).val) * Um m c s (j 1).val) 4 1024 4096 rfl).trans ?_
  have e0 : (((cfg0.win 6).blk t).view.emb j 0).val = 1024 * (t.val / 4) + (j 0).val := by
    show win0_6.index t 0 * 1024 + 1 * (j 0).val = _; rw [(idx6 t).1]; omega
  have e1 : (((cfg0.win 6).blk t).view.emb j 1).val = (j 1).val := by
    show win0_6.index t 1 * 1024 + 1 * (j 1).val = _; rw [(idx6 t).2]; omega
  refine Finset.sum_congr rfl fun s _ => ?_
  show _ = Pm m c s.val (((cfg0.win 6).blk t).view.emb j 0).val * Um m c s.val (((cfg0.win 6).blk t).view.emb j 1).val
  rw [e0, e1]

/-- The result array holds the gradient. -/
theorem final (c : Dev nD) : (dats m 0 c).arrAt 6 cfg0.N = G m c :=
  (dats m 0 c).arrAt_eq_of_cover 6 (G m c) (flushed_eq m c) fun i => by
    have h0 : (i 0 : Nat) < 7168 := (i 0).isLt
    have h1 : (i 1 : Nat) < 1024 := (i 1).isLt
    have hN : cfg0.N = 28 := N_0
    have ht : 4 * ((i 0 : Nat) / 1024) + 3 < cfg0.N := by omega
    refine ⟨⟨4 * ((i 0 : Nat) / 1024) + 3, ht⟩, (flush0_6 _).mpr (by dsimp only; omega), ?_⟩
    show i ∈ ((View.whole main_v15).slice (win0_6.rect ⟨4 * ((i 0 : Nat) / 1024) + 3, ht⟩)).set
    rw [View.set_slice_whole, Rect.mem_set_unit]
    have e := idx6 ⟨4 * ((i 0 : Nat) / 1024) + 3, ht⟩
    dsimp only at e
    intro a
    match a with
    | ⟨0, _⟩ =>
      show win0_6.index ⟨4 * ((i 0 : Nat) / 1024) + 3, ht⟩ 0 * 1024 ≤ (i 0 : Nat) ∧ (i 0 : Nat) < win0_6.index ⟨4 * ((i 0 : Nat) / 1024) + 3, ht⟩ 0 * 1024 + 1024
      rw [e.1]; omega
    | ⟨1, _⟩ =>
      show win0_6.index ⟨4 * ((i 0 : Nat) / 1024) + 3, ht⟩ 1 * 1024 ≤ (i 1 : Nat) ∧ (i 1 : Nat) < win0_6.index ⟨4 * ((i 0 : Nat) / 1024) + 3, ht⟩ 1 * 1024 + 1024
      rw [e.2]; omega

end Cert.Proof.DwIn

end
-- ==== Proof.DwInRef.lean ====
/-
  THE IN-PROJECTION'S WEIGHT GRADIENT (`Kernel3`), against the reference: the reference's gradient of the linear map
  `wt ↦ u wtᵀ` is the product of the five incoming gradients side by side, transposed, with the normalised hidden state,
  which is what `DwIn.final` says the kernel's array holds. The host lines before the kernel's region compute the same
  normalised state.
-/
module

public import proofs.«01_k».proof.Defs
public import proofs.«01_k».proof.Proof.DwIn
public import proofs.«01_k».proof.Proof.Gen.Reference3Ideal.Run
public import proofs.«01_k».proof.Proof.Gen.Reference3Ideal.Read

@[expose] public section

noncomputable section

open Idealize.ShloMosaic Idealize.ShloMosaic.TcCoe Idealize.SL.Sem
open scoped BigOperators

namespace Cert.Proof.DwIn

open Cert.Proof.Blocks
open Cert.Kernel3Ideal (nD τ sig main_arg0 main_arg1 main_arg2 main_arg3 main_arg4 main_arg5 main_arg6 main_v14 main_v15)
open Cert.Kernel3Ideal.Gen

variable (m : (ℓ : Loc nD τ sig) → Buf (Elt Ideal) ℓ)

/-- The normalised hidden state of the kernel's host lines is the reference's. -/
theorem u_eq (c : Dev nD) : V m c main_v14 = (Cert.Reference3Ideal.Read.val_main_v20 (F := Ideal) (m ((c : Thread nD τ).loc main_arg5)) (m ((c : Thread nD τ).loc main_arg6)) : Cert.Reference3Ideal.S4096x1024.Idx → EReal) := by
  unfold V
  after_results
  rfl

/-- The reference's result is the kernel's. -/
theorem ref_eq (c : Dev nD) : (Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Cert.Reference3Ideal.S7168x1024.Idx → EReal) = G m c := by
  funext i
  rw [Cert.Reference3Ideal.Read.val_main_v22_apply]
  unfold G
  refine Finset.sum_congr rfl fun k _ => ?_
  refine congrArg₂ (· * ·) ?_ ?_
  · exact concat_P _ _ _ _ _ _ (Cert.Reference3Ideal.Read.lidx_main_v22 i k)
  · show _ = rd (n := 4096) (m := 1024) (V m c main_v14) k.val (i 1).val
    rw [u_eq m c]
    exact eq_rd _ (Cert.Reference3Ideal.Read.ridx_main_v22 i k) rfl rfl

/-- The algebraic claim of `Kernel3`. -/
theorem algebraic : Cert.algebraic_Kernel3Ideal_Reference3Ideal := by
  intro m g m' g' _ hargs
  refine ⟨fun c => G m c, ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run m' g')
    refine ⟨(h c).1.trans ?_, (h c).2⟩
    obtain ⟨e0, e1, e2, e3, e4, e5, e6⟩ := hargs c
    rw [e0, e1, e2, e3, e4, e5, e6]
    exact (Cert.Reference3Ideal.Read.val_main_v22_eq _ _ _ _ _ _ _).trans (ref_eq m c)

end Cert.Proof.DwIn

end
-- ==== Proof.PreFrame.lean ====
/-
  THE PRE-NORM AND THE INPUT PROJECTION, GOING FORWARD (`Kernel4`): the body at every point, over any float values. At
  the first of a row block's seven points the body normalises the block into the second result's buffer; that buffer
  stays as it is at the six points that follow, and is written back after the last of them. Every point multiplies the
  normalised block by its own 1024 rows of the weight.
-/
module

public import proofs.«01_k».proof.Proof.Gen.Kernel4Ideal.Skeleton
public import proofs.«01_k».proof.Proof.Gen.Kernel4Ideal.Frame
public import Idealize.ShloMosaic.Lib.Pipeline.TableIdle
public import Idealize.ShloMosaic.Lib.Pipeline.Value
public import Idealize.ShloMosaic.Lib.Claim

@[expose] public section

set_option maxRecDepth 16384

noncomputable section

namespace Cert.Proof.PreNorm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The point opens a row block. -/
abbrev first (i : grid0.Coords) : Prop := k0_cond1 i = 1#1

theorem first_iff : ∀ t : Fin cfg0.N, first (grid0.coords t) ↔ t.val % 7 = 0 :=
  (by decide +kernel : ∀ t : Fin grid0.N, first (grid0.coords t) ↔ t.val % 7 = 0)

/-- The rows of the weight that a point uses. -/
abbrev rows (i : grid0.Coords) : Rect S7168x1024 := Rect.unit (s := S7168x1024) (k0_off1 i) S1024x1024.size (k0_off1_inb i)

/-- A normalised block times the point's rows of the weight. -/
def prod (i : grid0.Coords) (u : Vec F S1024x1024 .bf16) (w : Vec F S7168x1024 .bf16) : Vec F S1024x1024 .f32 :=
  k0_pay2 u (View.ld w (rows i))

/-- What a whole buffer reads after one store of all of it. -/
theorem read_whole {sp : Space} {e : EltTy} (M : Memref sig .tc sp S1024x1024 e) (f) (p : S1024x1024.Idx → Elt F e) :
    M.view.read (Elt F) (M.view.writes (Elt F) f
      [(⟨Rect.unit (s := S1024x1024) ![0, 0] S1024x1024.size inb_S1024x1024_S1024x1024_0_0, p⟩ : View.Piece (Elt F) S1024x1024 e)]) = p := by
  rw [View.read_writes_eq_canon _ _ _ (fun y => View.cover_of_tiledL _ S1024x1024.size (by sl_kernel_rfl) y)]
  exact View.canon_unit_zero (S := S1024x1024) hz _ _

set_option maxHeartbeats 1600000 in
/-- The body at a point that opens a row block. -/
theorem body_first (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S7168x1024 .bf16) (harg4 : arg4.IsWhole)
    (arg5 : Memref sig .tc .vmem S1024x1024 .f32) (harg5 : arg5.IsWhole) (arg6 : Memref sig .tc .vmem S1024x1024 .bf16) (harg6 : arg6.IsWhole)
    (hc : first i) (x0 : Vec F S1024x1024 .f32) (x1 : Vec F S1x1024 .f32) (x2 : Vec F S7168x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (prod i (k0_pay1 x0 x1) x2) ∗ owns (c : Thread nD τ) arg6 fullShare (k0_pay1 x0 x1)) -∗ K ⟨⟩))
      ⊢ wp frame (wpE (defs₀ (F := F)) Variants.none c none) Set.univ (cc0_prenorm_inproj i arg2 harg2 arg3 harg3 arg4 harg4 arg5 harg5 arg6 harg6) K := by
  simp only [cc0_prenorm_inproj_eq_skeleton]; unfold cc0_prenorm_inproj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole, View.readCov_unit_zero (S := S1024x1024) _ hz]
    simp only [View.readAt_eq_ld, harg2.read_unread, harg3.read_unread, harg4.read_unread, View.ld_unit_zero (S := S1024x1024) hz, View.ld_unit_zero (S := S1x1024) hz]
    rfl
  iexists _; isplitr
  swap; · iexact H4
  ipureintro
  sl_unfold_words
  rw [read_whole]
  simp only [View.readAt_eq_ld, harg2.read_unread, harg3.read_unread, View.ld_unit_zero (S := S1024x1024) hz, View.ld_unit_zero (S := S1x1024) hz]

set_option maxHeartbeats 1600000 in
/-- The body at the other points: the normalised block is read and stays. -/
theorem body_rest (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S7168x1024 .bf16) (harg4 : arg4.IsWhole)
    (arg5 : Memref sig .tc .vmem S1024x1024 .f32) (harg5 : arg5.IsWhole) (arg6 : Memref sig .tc .vmem S1024x1024 .bf16) (harg6 : arg6.IsWhole)
    (hc : ¬first i) (x0 : Vec F S1024x1024 .f32) (x1 : Vec F S1x1024 .f32) (x2 : Vec F S7168x1024 .bf16) (u : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare u
        ∗ (iprop(owns (c : Thread nD τ) arg2 fullShare x0 ∗ owns (c : Thread nD τ) arg3 fullShare x1 ∗ owns (c : Thread nD τ) arg4 fullShare x2
            ∗ owns (c : Thread nD τ) arg5 fullShare (prod i u x2) ∗ owns (c : Thread nD τ) arg6 fullShare u) -∗ K ⟨⟩))
      ⊢ wp frame (wpE (defs₀ (F := F)) Variants.none c none) Set.univ (cc0_prenorm_inproj i arg2 harg2 arg3 harg3 arg4 harg4 arg5 harg5 arg6 harg6) K := by
  simp only [cc0_prenorm_inproj_eq_skeleton]; unfold cc0_prenorm_inproj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole]
    simp only [View.readAt_eq_ld, harg6.read_unread, harg4.read_unread, View.ld_unit_zero (S := S1024x1024) hz]
    rfl
  iexists _; isplitr; · ipureintro; exact harg6.read_unread _
  iexact H4

/-! ## The proof data -/

variable (m : (ℓ : Loc nD τ sig) → Buf (Elt F) ℓ) (ρ : Dev nD → PrngReg)

/-- The row block of `x` at a point, normalised. -/
def norm (c : Dev nD) (t : Fin cfg0.N) : Vec F S1024x1024 .bf16 := k0_pay1 (iblk m c 0 t) (iblk m c 1 t)

/-- The arrays as launched; after a point the inputs' buffers at their blocks, the first result's at the product and
    the second's at the normalised row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (grid0.coords t) (norm m c t) (iblk m c 2 t)
    | ⟨4, _⟩ => norm m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = prod (grid0.coords t) (norm m c t) (iblk m c 2 t) := by dsimp only [dats]
theorem after_4 (c : Dev nD) (t : Fin cfg0.N) : (dats m 0 c).after 4 t = norm m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The second result's buffer is stored into at the first point of a row block only. -/
theorem idle_iff (t : Fin cfg0.N) : cfg0.idle 4 (grid0.coords t) = !decide (t.val % 7 = 0) :=
  (by decide +kernel : ∀ t : Fin grid0.N, cfg0.idle 4 (grid0.coords t) = !decide (t.val % 7 = 0)) t

/-- Nothing of a row block is in the second result's buffer before the block's first point. -/
theorem fresh_iff (n : ℕ) (h : n ≤ cfg0.N) : cfg0.fresh 4 n = decide (n % 7 = 0) :=
  cfg0.fresh_tab 4 (fun n => decide (n % 7 = 0)) rfl (fun t => by
    have hf : (cfg0.win 4).flush t = decide (t.val % 7 = 6) := Bool.eq_iff_iff.mpr ((flush0_4 t).trans decide_eq_true_iff.symm)
    have hi : cfg0.idle 4 (cfg0.grid.coords t) = !decide (t.val % 7 = 0) := idle_iff t
    rw [hf, hi]
    have hN : t.val < 28 := lt_of_lt_of_eq t.isLt (show cfg0.N = 28 from N_0)
    by_cases h0 : t.val % 7 = 0
    · have h1 : ¬(t.val + 1) % 7 = 0 := by omega
      have h2 : ¬t.val % 7 = 6 := by omega
      simp [h0, h1]
    · by_cases h6 : t.val % 7 = 6
      · have h1 : (t.val + 1) % 7 = 0 := by omega
        simp [h6, h1]
      · have h1 : ¬(t.val + 1) % 7 = 0 := by omega
        simp [h0, h6, h1]) n h

/-- The points of a row block have the row block in common. -/
theorem norm_prev (c : Dev nD) (t : Fin cfg0.N) (h : ¬t.val % 7 = 0) (h' : t.val - 1 < cfg0.N) : norm m c ⟨t.val - 1, h'⟩ = norm m c t := by
  have hN : t.val < 28 := lt_of_lt_of_eq t.isLt (show cfg0.N = 28 from N_0)
  have e0 : iblk m c 0 ⟨t.val - 1, h'⟩ = iblk m c 0 t := by
    have d : (cfg0.win 0).block.Idx → Elt F (cfg0.win 0).elt := iblk m c 0 t
    have hf : (cfg0.win 0).fetch t = false := Bool.eq_false_iff.mpr fun e => h ((fetch0_0 t).mp e)
    have e := (dats m 0 c).before_of_pos 0 t (by omega) hf d
    rw [before_0] at e
    exact e.symm
  have e1 : iblk m c 1 ⟨t.val - 1, h'⟩ = iblk m c 1 t := by
    have d : (cfg0.win 1).block.Idx → Elt F (cfg0.win 1).elt := iblk m c 1 t
    have hf : (cfg0.win 1).fetch t = false := Bool.eq_false_iff.mpr fun e => by have := (fetch0_1 t).mp e; omega
    have e := (dats m 0 c).before_of_pos 1 t (by omega) hf d
    rw [before_1] at e
    exact e.symm
  unfold norm
  rw [e0, e1]

/-- Past a row block's first point the second result's buffer holds the normalised row block. -/
theorem before_4 (c : Dev nD) (t : Fin cfg0.N) (h : ¬t.val % 7 = 0) (d) : (dats m 0 c).before 4 t d = norm m c t := by
  rw [(dats m 0 c).before_out_traj 4 rfl (fun _ _ => rfl) (fun t _ hi _ => by
      have h : ¬t.val % 7 = 0 := fun e => by
        have hi : cfg0.idle 4 (grid0.coords t) = true := hi
        rw [idle_iff, decide_eq_true e] at hi
        exact Bool.noConfusion hi
      rw [after_4, after_4, norm_prev m c t h]) t.val t rfl d,
    fresh_iff t.val t.isLt.le, if_neg (by simpa using h), after_4, norm_prev m c t h]

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The second result's buffer at the normalised row block is what a point is to leave there, whichever point it is. -/
theorem leaves_4 (c : Dev nD) (t : Fin cfg0.N) : owns (c : Thread nD τ) (st0_4 t) fullShare (norm m c t) ⊢ ((dats m 0 c).leavesExact 4 t : sProp 𝕄) := by
  unfold Dat.leavesExact
  by_cases h0 : t.val % 7 = 0
  · have hi : cfg0.idle 4 (cfg0.grid.coords t) = false := by
      show cfg0.idle 4 (grid0.coords t) = false
      rw [idle_iff, decide_eq_true h0]; rfl
    rw [hi]
    dsimp only
    rw [after_4]
  · have hi : cfg0.idle 4 (cfg0.grid.coords t) = true := by
      show cfg0.idle 4 (grid0.coords t) = true
      rw [idle_iff, decide_eq_false h0]; rfl
    rw [hi]
    dsimp only
    cases hf : (cfg0.win 4).flush t
    · dsimp only
      iintro H
      iexists (norm m c t)
      rw [before_4 m c t h0]
      iexact H
    · dsimp only
      rw [after_4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  by_cases h0 : t.val % 7 = 0
  · iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((first_iff t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · simp only [before_4 m c t h0]
    iintro ⟨HΦ, Ho, ⟨%d0, H0⟩, ⟨%d1, H1⟩, ⟨%d2, H2⟩, ⟨%d3, H3⟩, ⟨%d4, H4⟩⟩
    iapply (body_rest c (grid0.coords t) _ _ _ _ _ _ _ _ _ _ (fun e => h0 ((first_iff t).mp e)) (iblk m c 0 t) (iblk m c 1 t) (iblk m c 2 t) (norm m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

/-- The body table's row at a point is the body at that point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- Every execution ends with the pipeline's arrays at what the data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The arguments end as they were launched and every counter ends at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.Proof.PreNorm

end
-- ==== Proof.PreVal.lean ====
/-
  THE PRE-NORM AND THE INPUT PROJECTION, GOING FORWARD (`Kernel4`): what the two result arrays hold, over the extended
  reals. The second holds every row of `x` normalised and times the norm's weight (`final4`); the first holds those rows
  times the projection's weight (`final3`).
-/
module

public import proofs.«01_k».proof.Proof.Rows
public import proofs.«01_k».proof.Proof.PreFrame

@[expose] public section

noncomputable section

open Idealize.ShloMosaic Idealize.ShloMosaic.TcCoe Idealize.SL.Sem Idealize.ShloMosaic.ValueIdx
open Idealize.ShloMosaic.Pipeline (Dat)
open scoped BigOperators

namespace Cert.Proof.PreNorm

open Cert.Kernel4Ideal Cert.Kernel4Ideal.Gen Cert.Proof.Blocks Cert.Proof.Rows

abbrev D := dot_S1024x1024_S1024x1024_S1024x1024_1_1_0_0_n_n
theorem hl0 (j : S1024x1024.Idx) (q : D.contr.Idx) : (D.lhsIdx j q 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
theorem hl1 (j : S1024x1024.Idx) (q : D.contr.Idx) : (D.lhsIdx j q 1).val = (q ⟨0, by decide⟩).val := D.lhsIdx_val_of_single rfl j q
theorem hr0 (j : S1024x1024.Idx) (q : D.contr.Idx) : (D.rhsIdx j q 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl
theorem hr1 (j : S1024x1024.Idx) (q : D.contr.Idx) : (D.rhsIdx j q 1).val = (q ⟨0, by decide⟩).val := D.rhsIdx_val_of_single rfl j q

section Block
variable (x : S1024x1024.Idx → EReal) (w : S1x1024.Idx → EReal)

/-- A row of a block normalised and times the norm's weight. -/
theorem pay1_at (i : S1024x1024.Idx) :
    (k0_pay1 (F := Ideal) x w i : EReal) = on (row x (i 0).val) ⟨(i 1).val, idx2_lt1 i⟩ * row w 0 ⟨(i 1).val, idx2_lt1 i⟩ := by
  refine congrArg₂ (· * ·) (congrArg₂ (· * ·) (row_at x i) ?_) (brow (n := 1024) (m := 1024) w _ i)
  refine (bcol (n := 1024) (m := 1024) _ _ i).trans ?_
  exact scale_at (n := 1024) x _ _ _ _ _ _

/-- A block's product with the transpose of another. -/
theorem pay2_at (u v : S1024x1024.Idx → EReal) (i : S1024x1024.Idx) :
    (k0_pay2 (F := Ideal) u v i : EReal) = ∑ k : Fin 1024, rd u (i 0).val k.val * rd v (i 1).val k.val := by
  unfold k0_pay2
  dsimp only
  rw [shapeCast_self]
  exact matmul_nt D (φ₁ := .bf16) (φ₂ := .bf16) u v rfl rfl hl0 hl1 hr0 hr1 i

end Block

variable (m : (ℓ : Loc nD τ sig) → Buf (Elt Ideal) ℓ) (ρ : Dev nD → PrngReg)

/-! The arguments. -/

abbrev A0 (c : Dev nD) : S4096x1024.Idx → EReal := m ((c : Thread nD τ).loc main_arg0)
abbrev A1 (c : Dev nD) : S1x1024.Idx → EReal := m ((c : Thread nD τ).loc main_arg1)
abbrev A2 (c : Dev nD) : S7168x1024.Idx → EReal := m ((c : Thread nD τ).loc main_arg2)

/-- The normalised rows: token `s`, feature `j`. -/
def U (x : S4096x1024.Idx → EReal) (w : S1x1024.Idx → EReal) (s : ℕ) (j : Fin 1024) : EReal := on (row x s) j * row w 0 j

/-! Where each window's block sits. -/

theorem idx0 : ∀ t : Fin grid0.N, win0_0.index t 0 = t.val / 7 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val / 7 ∧ win0_3.index t 1 = t.val % 7 := by decide +kernel
theorem idx4 : ∀ t : Fin grid0.N, win0_4.index t 0 = t.val / 7 ∧ win0_4.index t 1 = 0 := by decide +kernel
theorem off_at : ∀ t : Fin grid0.N, k0_off1 (grid0.coords t) 0 = 1024 * (t.val % 7) ∧ k0_off1 (grid0.coords t) 1 = 0 := by decide +kernel

theorem row0 (c : Dev nD) (t : Fin cfg0.N) (a : ℕ) (ha : a < 1024) :
    row (n := 1024) (iblk m c 0 t) a = row (A0 m c) (1024 * (t.val / 7) + a) :=
  row_ext (n := 1024) _ ha _ fun j => by
    unfold iblk
    rw [View.read_apply]
    refine (congrFun (V_main_arg0 m c) _).trans (eq_rd (n := 4096) (m := 1024) (A0 m c) _ ?_ ?_)
    · show win0_0.index t 0 * 1024 + 1 * a = _; rw [(idx0 t).1]; omega
    · show win0_0.index t 1 * 1024 + 1 * j.val = _; rw [(idx0 t).2]; omega

theorem row1 (c : Dev nD) (t : Fin cfg0.N) : row (n := 1) (iblk m c 1 t) 0 = row (A1 m c) 0 :=
  row_ext (n := 1) _ (by decide) _ fun j => by
    unfold iblk
    rw [View.read_apply]
    refine (congrFun (V_main_arg1 m c) _).trans (eq_rd (n := 1) (m := 1024) (A1 m c) _ ?_ ?_)
    · show win0_1.index t 0 * 1 + 1 * 0 = _; rw [(idx1 t).1]
    · show win0_1.index t 1 * 1024 + 1 * j.val = _; rw [(idx1 t).2]; omega

/-- The point's rows of the projection's weight. -/
theorem rd2 (c : Dev nD) (t : Fin cfg0.N) (a : ℕ) (ha : a < 1024) (j : Fin 1024) :
    rd (n := 1024) (m := 1024) (View.ld (Val := Elt Ideal) (e' := .bf16) (iblk m c 2 t) (rows (grid0.coords t))) a j.val
      = rd (A2 m c) (1024 * (t.val % 7) + a) j.val := by
  rw [rd_of_lt _ ha j.isLt]
  show iblk m c 2 t _ = _
  unfold iblk
  rw [View.read_apply]
  refine (congrFun (V_main_arg2 m c) _).trans (eq_rd (n := 7168) (m := 1024) (A2 m c) _ ?_ ?_)
  · show win0_2.index t 0 * 7168 + 1 * (k0_off1 (grid0.coords t) 0 + 1 * a) = _; rw [(idx2 t).1, (off_at t).1]; omega
  · show win0_2.index t 1 * 1024 + 1 * (k0_off1 (grid0.coords t) 1 + 1 * j.val) = _; rw [(idx2 t).2, (off_at t).2]; omega

/-- The normalised row block of a point. -/
theorem norm_at (c : Dev nD) (t : Fin cfg0.N) (y : S1024x1024.Idx) :
    (norm m c t y : EReal) = U (A0 m c) (A1 m c) (1024 * (t.val / 7) + (y 0).val) ⟨(y 1).val, idx2_lt1 y⟩ := by
  unfold norm U
  rw [pay1_at, row0 m c t _ (idx2_lt0 y), row1 m c t]

/-- The point's product. -/
theorem prod_at (c : Dev nD) (t : Fin cfg0.N) (y : S1024x1024.Idx) :
    (prod (grid0.coords t) (norm m c t) (iblk m c 2 t) y : EReal)
      = ∑ k : Fin 1024, U (A0 m c) (A1 m c) (1024 * (t.val / 7) + (y 0).val) k * rd (A2 m c) (1024 * (t.val % 7) + (y 1).val) k.val := by
  unfold prod
  refine (pay2_at _ _ y).trans (Finset.sum_congr rfl fun k _ => ?_)
  refine congrArg₂ (· * ·) ?_ (rd2 m c t _ (idx2_lt1 y) k)
  exact (rd_of_lt _ (idx2_lt0 y) k.isLt).trans (norm_at m c t _)

/-! The two result arrays. -/

/-- The projection of the normalised rows. -/
def G3 (c : Dev nD) : S4096x7168.Idx → EReal := fun i => ∑ k : Fin 1024, U (A0 m c) (A1 m c) (i 0).val k * rd (A2 m c) (i 1).val k.val
/-- The normalised rows. -/
def G4 (c : Dev nD) : S4096x1024.Idx → EReal := fun i => U (A0 m c) (A1 m c) (i 0).val ⟨(i 1).val, idx2_lt1 i⟩

theorem flushed3_eq (c : Dev nD) (t : Fin cfg0.N) (hf : (cfg0.win 3).flush t = true) :
    (dats m 0 c).flushed 3 t = ((cfg0.win 3).blk t).view.read (Elt Ideal) (G3 m c) := by
  have e : (dats m 0 c).flushed 3 t = prod (grid0.coords t) (norm m c t) (iblk m c 2 t) := after_3 m c t
  rw [e]
  funext y
  rw [View.read_apply]
  refine (prod_at m c t y).trans ?_
  have e0 : (((cfg0.win 3).blk t).view.emb y 0).val = 1024 * (t.val / 7) + (y 0).val := by
    show win0_3.index t 0 * 1024 + 1 * (y 0).val = _; rw [(idx3 t).1]; omega
  have e1 : (((cfg0.win 3).blk t).view.emb y 1).val = 1024 * (t.val % 7) + (y 1).val := by
    show win0_3.index t 1 * 1024 + 1 * (y 1).val = _; rw [(idx3 t).2]; omega
  rw [← e0, ← e1]
  rfl

/-- Result array 3. -/
theorem final3 (c : Dev nD) : (dats m 0 c).arrAt 3 cfg0.N = G3 m c :=
  (dats m 0 c).arrAt_eq_of_cover 3 (G3 m c) (flushed3_eq m c) fun i => by
    have h0 : (i 0 : Nat) < 4096 := (i 0).isLt
    have h1 : (i 1 : Nat) < 7168 := (i 1).isLt
    have hN : cfg0.N = 28 := N_0
    have ht : 7 * ((i 0 : Nat) / 1024) + (i 1 : Nat) / 1024 < cfg0.N := by omega
    refine ⟨⟨7 * ((i 0 : Nat) / 1024) + (i 1 : Nat) / 1024, ht⟩, flush0_3 _, ?_⟩
    show i ∈ ((View.whole main_v0_0).slice (win0_3.rect ⟨7 * ((i 0 : Nat) / 1024) + (i 1 : Nat) / 1024, ht⟩)).set
    rw [View.set_slice_whole, Rect.mem_set_unit]
    have e := idx3 ⟨7 * ((i 0 : Nat) / 1024) + (i 1 : Nat) / 1024, ht⟩
    dsimp only at e
    intro a
    match a with
    | ⟨0, _⟩ =>
      show win0_3.index ⟨7 * ((i 0 : Nat) / 1024) + (i 1 : Nat) / 1024, ht⟩ 0 * 1024 ≤ (i 0 : Nat) ∧ (i 0 : Nat) < win0_3.index ⟨7 * ((i 0 : Nat) / 1024) + (i 1 : Nat) / 1024, ht⟩ 0 * 1024 + 1024
      rw [e.1]; omega
    | ⟨1, _⟩ =>
      show win0_3.index ⟨7 * ((i 0 : Nat) / 1024) + (i 1 : Nat) / 1024, ht⟩ 1 * 1024 ≤ (i 1 : Nat) ∧ (i 1 : Nat) < win0_3.index ⟨7 * ((i 0 : Nat) / 1024) + (i 1 : Nat) / 1024, ht⟩ 1 * 1024 + 1024
      rw [e.2]; omega

theorem flushed4_eq (c : Dev nD) (t : Fin cfg0.N) (hf : (cfg0.win 4).flush t = true) :
    (dats m 0 c).flushed 4 t = ((cfg0.win 4).blk t).view.read (Elt Ideal) (G4 m c) := by
  have e : (dats m 0 c).flushed 4 t = norm m c t := after_4 m c t
  rw [e]
  funext y
  rw [View.read_apply]
  refine (norm_at m c t y).trans ?_
  have e0 : (((cfg0.win 4).blk t).view.emb y 0).val = 1024 * (t.val / 7) + (y 0).val := by
    show win0_4.index t 0 * 1024 + 1 * (y 0).val = _; rw [(idx4 t).1]; omega
  have e1 : (((cfg0.win 4).blk t).view.emb y 1).val = (y 1).val := by
    show win0_4.index t 1 * 1024 + 1 * (y 1).val = _; rw [(idx4 t).2]; omega
  have e1' : (⟨(y 1).val, idx2_lt1 y⟩ : Fin 1024) = ⟨(((cfg0.win 4).blk t).view.emb y 1).val, idx2_lt1 (n0 := 4096) (n1 := 1024) (((cfg0.win 4).blk t).view.emb y)⟩ := Fin.ext e1.symm
  rw [e1', ← e0]
  rfl

/-- Result array 4. -/
theorem final4 (c : Dev nD) : (dats m 0 c).arrAt 4 cfg0.N = G4 m c :=
  (dats m 0 c).arrAt_eq_of_cover 4 (G4 m c) (flushed4_eq m c) fun i => by
    have h0 : (i 0 : Nat) < 4096 := (i 0).isLt
    have h1 : (i 1 : Nat) < 1024 := (i 1).isLt
    have hN : cfg0.N = 28 := N_0
    have ht : 7 * ((i 0 : Nat) / 1024) + 6 < cfg0.N := by omega
    refine ⟨⟨7 * ((i 0 : Nat) / 1024) + 6, ht⟩, (flush0_4 _).mpr (by dsimp only; omega), ?_⟩
    show i ∈ ((View.whole main_v0_1).slice (win0_4.rect ⟨7 * ((i 0 : Nat) / 1024) + 6, ht⟩)).set
    rw [View.set_slice_whole, Rect.mem_set_unit]
    have e := idx4 ⟨7 * ((i 0 : Nat) / 1024) + 6, ht⟩
    dsimp only at e
    intro a
    match a with
    | ⟨0, _⟩ =>
      show win0_4.index ⟨7 * ((i 0 : Nat) / 1024) + 6, ht⟩ 0 * 1024 ≤ (i 0 : Nat) ∧ (i 0 : Nat) < win0_4.index ⟨7 * ((i 0 : Nat) / 1024) + 6, ht⟩ 0 * 1024 + 1024
      rw [e.1]; omega
    | ⟨1, _⟩ =>
      show win0_4.index ⟨7 * ((i 0 : Nat) / 1024) + 6, ht⟩ 1 * 1024 ≤ (i 1 : Nat) ∧ (i 1 : Nat) < win0_4.index ⟨7 * ((i 0 : Nat) / 1024) + 6, ht⟩ 1 * 1024 + 1024
      rw [e.2]; omega

/-- Every execution ends with the two result arrays at these values and the arguments as they were launched. -/
theorem ends : θ_run defs (onTc (τ := τ) (main (F := Ideal))) ⟨m, fun _ => 0, ρ⟩ fun r => ∀ c : Dev nD,
    r.2.mem ((c : Thread nD τ).loc main_v0_0) = G3 m c
    ∧ r.2.mem ((c : Thread nD τ).loc main_v0_1) = G4 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final3 m c), ((h c).1 4).trans (final4 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩) (run m ρ)

end Cert.Proof.PreNorm

end
-- ==== Proof.PreRef.lean ====
/-
  THE PRE-NORM AND THE INPUT PROJECTION, GOING FORWARD (`Kernel4`), against the reference: row by row the reference's
  normalised state is the kernel's, and so is its product with the weight.
-/
module

public import proofs.«01_k».proof.Defs
public import proofs.«01_k».proof.Proof.PreVal
public import proofs.«01_k».proof.Proof.Gen.Reference4Ideal.Run
public import proofs.«01_k».proof.Proof.Gen.Reference4Ideal.Read

@[expose] public section

noncomputable section

open Idealize.ShloMosaic Idealize.ShloMosaic.TcCoe Idealize.SL.Sem Idealize.ShloMosaic.ValueIdx
open scoped BigOperators

namespace Cert.Proof.PreNorm

open Cert.Proof.Blocks Cert.Proof.Rows Cert.Proof.Consts
open Cert.Reference4Ideal (S4096x1024 S7168x1024 S4096x7168 S1x1024 S4096 S4096x1 S1024)
open Cert.Reference4Ideal.Read

section
variable (x0 : S4096x1024.Idx → EReal) (x1 : S1x1024.Idx → EReal) (x2 : S7168x1024.Idx → EReal)

theorem v8_at (i : S4096x1.Idx) : (val_main_v8 (F := Ideal) x0 i : EReal) = Norm.ms eps (row x0 (i 0).val) := by
  rw [val_main_v8_apply, val_main_v6_apply, val_main_v4_apply, val_main_v3_apply, val_main_v5_apply, val_main_v7_apply]
  show Ideal.div (Ideal.ofBits .f32 0x00000000#32 + _) (Ideal.ofBits .f32 0x44800000#32) + Ideal.ofBits .f32 0x358637BD#32 = _
  rw [Ideal.ofBits_zero_f32, zero_add, c1024, ceps]
  unfold Norm.ms
  refine congrArg (fun s => Ideal.div s ((1024 : ℝ) : EReal) + ((eps : ℝ) : EReal)) ?_
  refine Finset.sum_congr rfl fun k _ => ?_
  rw [val_main_v2_apply]
  exact congrArg₂ (· * ·) (row_at x0 _) (row_at x0 _)

theorem v14_at (i : S4096x1024.Idx) : (val_main_v14 (F := Ideal) x0 x1 i : EReal) = U x0 x1 (i 0).val ⟨(i 1).val, idx2_lt1 i⟩ := by
  rw [val_main_v14_apply, val_main_v11_apply, val_main_v10_apply, val_main_v13_apply, val_main_v12_apply, val_main_v1_apply]
  refine congrArg₂ (· * ·) (congrArg₂ (· * ·) (row_at x0 i) ?_) ?_
  · rw [val_main_v9_apply]
    exact congrArg Ideal.rsqrt (v8_at x0 _)
  · refine eq_rd (n := 1) (m := 1024) x1 _ rfl ?_
    exact Nat.mod_eq_of_lt (idx2_lt1 i)

/-- The projection. -/
theorem v15_at (i : S4096x7168.Idx) : (val_main_v15 (F := Ideal) x0 x1 x2 i : EReal) = ∑ k : Fin 1024, U x0 x1 (i 0).val k * rd x2 (i 1).val k.val := by
  rw [val_main_v15_apply]
  refine Finset.sum_congr rfl fun k _ => congrArg₂ (· * ·) (v14_at x0 x1 _) ?_
  rw [val_main_v0_apply]
  exact eq_rd x2 _ rfl rfl

theorem v23_at (i : S4096x1.Idx) : (val_main_v23 (F := Ideal) x0 i : EReal) = Norm.ms eps (row x0 (i 0).val) := by
  rw [val_main_v23_apply, val_main_v21_apply, val_main_v19_apply, val_main_v18_apply, val_main_v20_apply, val_main_v22_apply]
  show Ideal.div (Ideal.ofBits .f32 0x00000000#32 + _) (Ideal.ofBits .f32 0x44800000#32) + Ideal.ofBits .f32 0x358637BD#32 = _
  rw [Ideal.ofBits_zero_f32, zero_add, c1024, ceps]
  unfold Norm.ms
  refine congrArg (fun s => Ideal.div s ((1024 : ℝ) : EReal) + ((eps : ℝ) : EReal)) ?_
  refine Finset.sum_congr rfl fun k _ => ?_
  rw [val_main_v17_apply]
  exact congrArg₂ (· * ·) (row_at x0 _) (row_at x0 _)

theorem v29_at (i : S4096x1024.Idx) : (val_main_v29 (F := Ideal) x0 x1 i : EReal) = U x0 x1 (i 0).val ⟨(i 1).val, idx2_lt1 i⟩ := by
  rw [val_main_v29_apply, val_main_v26_apply, val_main_v25_apply, val_main_v28_apply, val_main_v27_apply, val_main_v16_apply]
  refine congrArg₂ (· * ·) (congrArg₂ (· * ·) (row_at x0 i) ?_) ?_
  · rw [val_main_v24_apply]
    exact congrArg Ideal.rsqrt (v23_at x0 _)
  · refine eq_rd (n := 1) (m := 1024) x1 _ rfl ?_
    exact Nat.mod_eq_of_lt (idx2_lt1 i)

/-- The normalised state. -/
theorem v30_at (i : S4096x1024.Idx) : (val_main_v30 (F := Ideal) x0 x1 i : EReal) = U x0 x1 (i 0).val ⟨(i 1).val, idx2_lt1 i⟩ := by
  rw [val_main_v30_apply]
  exact v29_at x0 x1 i

end

/-- The algebraic claim of `Kernel4`. -/
theorem algebraic : Cert.algebraic_Kernel4Ideal_Reference4Ideal := by
  intro m g m' g' _ hargs
  refine ⟨fun c => G3 m c, fun c => G4 m c, ends m g, ?_⟩
  refine (θ_run _ _ _).mono (fun r h c => ?_) (Cert.Reference4Ideal.Value.run m' g')
  obtain ⟨e0, e1, e2⟩ := hargs c
  refine ⟨(h c).1.trans ?_, (h c).2.1.trans ?_, (h c).2.2⟩
  · rw [e0, e1, e2]
    exact (val_main_v15_eq _ _ _).trans (funext fun i => v15_at _ _ _ i)
  · rw [e0, e1]
    exact (val_main_v30_eq _ _).trans (funext fun i => v30_at _ _ i)

end Cert.Proof.PreNorm

end
-- ==== Proof.Adam.lean ====
/-
  ONE STEP OF THE OPTIMISER AT ONE ELEMENT, over the extended reals, and the sum of four shares of a gradient.

  `mom` and `vel` are the new first and second moment of an element from its old one and the gradient; `step` is what is
  to be added to the weight, from the weight and the two new moments. The constants are kept as the words that the
  programs print. `four` adds an element of four stacked arrays, from the first to the last.
-/
module

public import proofs.«01_k».proof.Proof.Blocks

@[expose] public section

noncomputable section

open scoped BigOperators

namespace Cert.Proof.Adam

open Idealize.ShloMosaic Idealize.ShloMosaic.ValueIdx

/-- The new first moment. -/
def mom (m g : EReal) : EReal := Ideal.ofBits .f32 0x3F666666#32 * m + Ideal.ofBits .f32 0x3DCCCCCD#32 * g
/-- The new second moment. -/
def vel (v g : EReal) : EReal := Ideal.ofBits .f32 0x3F7FBE77#32 * v + Ideal.ofBits .f32 0x3A83126F#32 * (g * g)
/-- What is added to the weight, from the weight and the new moments. -/
def step (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The element of a stack of matrices at layer `q`, row `a`, column `b`; zero outside it. -/
def rd3 {k n m : ℕ} (x : (⟨3, ![k, n, m]⟩ : Shape).Idx → EReal) (q a b : ℕ) : EReal :=
  if h : q < k ∧ a < n ∧ b < m then x (ix3 ⟨q, h.1⟩ ⟨a, h.2.1⟩ ⟨b, h.2.2⟩) else 0

/-- An element read at an index is the element at the index's coordinates. -/
theorem eq_rd3 {k n m : ℕ} (x : (⟨3, ![k, n, m]⟩ : Shape).Idx → EReal) (i : (⟨3, ![k, n, m]⟩ : Shape).Idx) {q a b : ℕ}
    (hq : (i 0).val = q) (ha : (i 1).val = a) (hb : (i 2).val = b) : x i = rd3 x q a b := by
  subst hq ha hb
  have h : (i 0).val < k ∧ (i 1).val < n ∧ (i 2).val < m := ⟨(i 0).isLt, (i 1).isLt, (i 2).isLt⟩
  rw [rd3, dif_pos h]
  exact congrArg x (eq_ix3 i)

/-- Inside the stack, `rd3` is the element. -/
theorem rd3_of_lt {k n m : ℕ} (x : (⟨3, ![k, n, m]⟩ : Shape).Idx → EReal) {q a b : ℕ} (hq : q < k) (ha : a < n) (hb : b < m) :
    rd3 x q a b = x (ix3 ⟨q, hq⟩ ⟨a, ha⟩ ⟨b, hb⟩) := by
  rw [rd3, dif_pos ⟨hq, ha, hb⟩]

/-- Four shares of an element, added from the first to the last. -/
def four {n m : ℕ} (x : (⟨3, ![4, n, m]⟩ : Shape).Idx → EReal) (a b : ℕ) : EReal :=
  rd3 x 0 a b + rd3 x 1 a b + rd3 x 2 a b + rd3 x 3 a b

/-- A sum over the four layers started at zero is the four shares added in order. -/
theorem sum_eq_four {n m : ℕ} (x : (⟨3, ![4, n, m]⟩ : Shape).Idx → EReal) (f : Fin 4 → (⟨3, ![4, n, m]⟩ : Shape).Idx) {a b : ℕ}
    (h0 : ∀ k, (f k 0).val = k.val) (h1 : ∀ k, (f k 1).val = a) (h2 : ∀ k, (f k 2).val = b) :
    Ideal.ofBits .f32 0x00000000#32 + (∑ k : Fin 4, x (f k) : EReal) = four x a b := by
  rw [Ideal.ofBits_zero_f32, zero_add, Fin.sum_univ_four]
  unfold four
  rw [eq_rd3 x _ (h0 0) (h1 0) (h2 0), eq_rd3 x _ (h0 1) (h1 1) (h2 1), eq_rd3 x _ (h0 2) (h1 2) (h2 2),
    eq_rd3 x _ (h0 3) (h1 3) (h2 3)]
  rfl

end Cert.Proof.Adam

end
-- ==== Proof.SumIn.lean ====
/-
  THE OPTIMISER'S CALL FOR THE INPUT PROJECTION'S WEIGHT (`Kernel5`): what the four result arrays hold, over the extended
  reals. The call works on transposed arrays, a block of 256 columns at each of four points; the host transposes its
  arguments before it and its results after it.
-/
module

public import proofs.«01_k».proof.Proof.Adam
public import proofs.«01_k».proof.Proof.Gen.Kernel5Ideal.Frame

@[expose] public section

noncomputable section

open Idealize.ShloMosaic Idealize.ShloMosaic.TcCoe Idealize.SL.Sem Idealize.ShloMosaic.ValueIdx
open Idealize.ShloMosaic.Pipeline (Dat)
open scoped BigOperators

namespace Cert.Proof.SumIn

open Cert.Kernel5Ideal Cert.Kernel5Ideal.Gen Cert.Proof.Blocks Cert.Proof.Adam

/-! The body at one element of its blocks. -/

section Block
variable (x : S4x834x256.Idx → EReal) (w u v : S834x256.Idx → EReal) (y : S834x256.Idx)

/-- A layer's element, its leading axis dropped. -/
theorem lay (z : Vec Ideal S1x834x256 .bf16) :
    (extf (F := Ideal) .f32 (shapeCast S834x256 z shapeCasts_S1x834x256_S834x256) bitsLt_bf16_f32 y : EReal)
      = z (Fin.cons ⟨0, Nat.one_pos⟩ y) :=
  shapeCast_dropUnit_apply (α := EReal) ![834, 256] z shapeCasts_S1x834x256_S834x256 y

theorem pay2_at : (k0_pay2 (F := Ideal) (View.ld x r0_0) (View.ld x r0_1) (View.ld x r0_2) (View.ld x r0_3) y : EReal)
    = four x (y 0).val (y 1).val := by
  unfold k0_pay2
  dsimp only
  refine congrArg₂ (· + ·) (congrArg₂ (· + ·) (congrArg₂ (· + ·) ?_ ?_) ?_) ?_ <;>
  · refine (lay y _).trans ?_
    show x _ = _
    refine eq_rd3 x _ rfl ?_ ?_
    · show 0 + 1 * (y 0).val = _; omega
    · show 0 + 1 * (y 1).val = _; omega

theorem pay6_at : (k0_pay6 (F := Ideal) x w u v y : EReal) = mom (u y) (four x (y 0).val (y 1).val) := by
  unfold k0_pay6 k0_pay4
  dsimp only
  rw [shapeCast_self, View.ld_unit_zero (S := S834x256) (by decide)]
  exact congrArg (mom (u y)) (pay2_at x y)

theorem pay7_at : (k0_pay7 (F := Ideal) x w u v y : EReal) = vel (v y) (four x (y 0).val (y 1).val) := by
  unfold k0_pay7 k0_pay5
  dsimp only
  rw [shapeCast_self, View.ld_unit_zero (S := S834x256) (by decide)]
  exact congrArg (vel (v y)) (pay2_at x y)

theorem out4_at : (out0_4 (F := Ideal) x w u v y : EReal) = four x (y 0).val (y 1).val := by
  unfold out0_4
  rw [View.canon_unit_zero (S := S834x256) (by decide)]
  exact pay2_at x y

theorem out5_at : (out0_5 (F := Ideal) x w u v y : EReal)
    = step (w y) (mom (u y) (four x (y 0).val (y 1).val)) (vel (v y) (four x (y 0).val (y 1).val)) := by
  unfold out0_5
  rw [View.canon_unit_zero (S := S834x256) (by decide)]
  rw [← pay6_at x w u v y, ← pay7_at x w u v y]
  unfold k0_pay1 k0_pay3
  dsimp only
  rw [shapeCast_self, View.ld_unit_zero (S := S834x256) (by decide)]
  rfl

theorem out6_at : (out0_6 (F := Ideal) x w u v y : EReal) = mom (u y) (four x (y 0).val (y 1).val) := by
  unfold out0_6
  rw [View.canon_unit_zero (S := S834x256) (by decide)]
  exact pay6_at x w u v y

theorem out7_at : (out0_7 (F := Ideal) x w u v y : EReal) = vel (v y) (four x (y 0).val (y 1).val) := by
  unfold out0_7
  rw [View.canon_unit_zero (S := S834x256) (by decide)]
  exact pay7_at x w u v y

end Block

variable (m : (ℓ : Loc nD τ sig) → Buf (Elt Ideal) ℓ) (ρ : Dev nD → PrngReg)

/-! The arrays as the call finds them: the four shares of the gradient, and the weight and its moments, transposed. -/

abbrev A0 (c : Dev nD) : S4x834x1024.Idx → EReal := m ((c : Thread nD τ).loc main_arg0)
abbrev B1 (c : Dev nD) : S834x1024.Idx → EReal := V m c main_v1
abbrev B2 (c : Dev nD) : S834x1024.Idx → EReal := V m c main_v3
abbrev B3 (c : Dev nD) : S834x1024.Idx → EReal := V m c main_v5

/-! Where each window's block sits. -/

theorem idx0 : ∀ t : Fin grid0.N, win0_0.index t 0 = 0 ∧ win0_0.index t 1 = 0 ∧ win0_0.index t 2 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = t.val := by decide +kernel
theorem idx6 : ∀ t : Fin grid0.N, win0_6.index t 0 = 0 ∧ win0_6.index t 1 = t.val := by decide +kernel
theorem idx7 : ∀ t : Fin grid0.N, win0_7.index t 0 = 0 ∧ win0_7.index t 1 = t.val := by decide +kernel

theorem layer0 (c : Dev nD) (t : Fin cfg0.N) (q a b : ℕ) (hq : q < 4) (ha : a < 834) (hb : b < 256) :
    rd3 (k := 4) (n := 834) (m := 256) (iblk m c 0 t) q a b = rd3 (A0 m c) q a (256 * t.val + b) := by
  rw [rd3_of_lt _ hq ha hb]
  unfold iblk
  rw [View.read_apply]
  refine (congrFun (V_main_arg0 m c) _).trans (eq_rd3 (k := 4) (n := 834) (m := 1024) (A0 m c) _ ?_ ?_ ?_)
  · show win0_0.index t 0 * 4 + 1 * q = _; rw [(idx0 t).1]; omega
  · show win0_0.index t 1 * 834 + 1 * a = _; rw [(idx0 t).2.1]; omega
  · show win0_0.index t 2 * 256 + 1 * b = _; rw [(idx0 t).2.2]; omega

/-- The gradient of a block is the four shares at the block's place. -/
theorem grad_at (c : Dev nD) (t : Fin cfg0.N) (a b : ℕ) (ha : a < 834) (hb : b < 256) :
    four (n := 834) (m := 256) (iblk m c 0 t) a b = four (A0 m c) a (256 * t.val + b) := by
  unfold four
  rw [layer0 m c t 0 a b (by decide) ha hb, layer0 m c t 1 a b (by decide) ha hb, layer0 m c t 2 a b (by decide) ha hb,
    layer0 m c t 3 a b (by decide) ha hb]

theorem blk1 (c : Dev nD) (t : Fin cfg0.N) (y : S834x256.Idx) :
    (iblk m c 1 t y : EReal) = rd (B1 m c) (y 0).val (256 * t.val + (y 1).val) := by
  unfold iblk
  rw [View.read_apply]
  refine eq_rd (n := 834) (m := 1024) (B1 m c) _ ?_ ?_
  · show win0_1.index t 0 * 834 + 1 * (y 0).val = _; rw [(idx1 t).1]; omega
  · show win0_1.index t 1 * 256 + 1 * (y 1).val = _; rw [(idx1 t).2]; omega
theorem blk2 (c : Dev nD) (t : Fin cfg0.N) (y : S834x256.Idx) :
    (iblk m c 2 t y : EReal) = rd (B2 m c) (y 0).val (256 * t.val + (y 1).val) := by
  unfold iblk
  rw [View.read_apply]
  refine eq_rd (n := 834) (m := 1024) (B2 m c) _ ?_ ?_
  · show win0_2.index t 0 * 834 + 1 * (y 0).val = _; rw [(idx2 t).1]; omega
  · show win0_2.index t 1 * 256 + 1 * (y 1).val = _; rw [(idx2 t).2]; omega
theorem blk3 (c : Dev nD) (t : Fin cfg0.N) (y : S834x256.Idx) :
    (iblk m c 3 t y : EReal) = rd (B3 m c) (y 0).val (256 * t.val + (y 1).val) := by
  unfold iblk
  rw [View.read_apply]
  refine eq_rd (n := 834) (m := 1024) (B3 m c) _ ?_ ?_
  · show win0_3.index t 0 * 834 + 1 * (y 0).val = _; rw [(idx3 t).1]; omega
  · show win0_3.index t 1 * 256 + 1 * (y 1).val = _; rw [(idx3 t).2]; omega

/-! The four arrays that the call writes, at a row and a column. -/

def g4 (c : Dev nD) (a b : ℕ) : EReal := four (A0 m c) a b
def g6 (c : Dev nD) (a b : ℕ) : EReal := mom (rd (B2 m c) a b) (g4 m c a b)
def g7 (c : Dev nD) (a b : ℕ) : EReal := vel (rd (B3 m c) a b) (g4 m c a b)
def g5 (c : Dev nD) (a b : ℕ) : EReal := step (rd (B1 m c) a b) (g6 m c a b) (g7 m c a b)

/-- A matrix from its elements by coordinates. -/
def mat (g : ℕ → ℕ → EReal) : S834x1024.Idx → EReal := fun i => g (i 0).val (i 1).val

theorem flushed4_eq (c : Dev nD) (t : Fin cfg0.N) (hf : (cfg0.win 4).flush t = true) :
    (dats m 0 c).flushed 4 t = ((cfg0.win 4).blk t).view.read (Elt Ideal) (mat (g4 m c)) := by
  have e : (dats m 0 c).flushed 4 t = out0_4 (iblk m c 0 t) (iblk m c 1 t) (iblk m c 2 t) (iblk m c 3 t) := after0_4 m c t
  rw [e]
  funext y
  rw [View.read_apply]
  refine ((out4_at _ _ _ _ y).trans (grad_at m c t _ _ (idx2_lt0 y) (idx2_lt1 y))).trans (congrArg₂ (g4 m c) ?_ ?_)
  · show (y 0).val = win0_4.index t 0 * 834 + 1 * (y 0).val; rw [(idx4 t).1]; omega
  · show 256 * t.val + (y 1).val = win0_4.index t 1 * 256 + 1 * (y 1).val; rw [(idx4 t).2]; omega

theorem flushed6_eq (c : Dev nD) (t : Fin cfg0.N) (hf : (cfg0.win 6).flush t = true) :
    (dats m 0 c).flushed 6 t = ((cfg0.win 6).blk t).view.read (Elt Ideal) (mat (g6 m c)) := by
  have e : (dats m 0 c).flushed 6 t = out0_6 (iblk m c 0 t) (iblk m c 1 t) (iblk m c 2 t) (iblk m c 3 t) := after0_6 m c t
  rw [e]
  funext y
  rw [View.read_apply]
  refine ((out6_at _ _ _ _ y).trans (congrArg₂ mom (blk2 m c t y) (grad_at m c t _ _ (idx2_lt0 y) (idx2_lt1 y)))).trans (congrArg₂ (g6 m c) ?_ ?_)
  · show (y 0).val = win0_6.index t 0 * 834 + 1 * (y 0).val; rw [(idx6 t).1]; omega
  · show 256 * t.val + (y 1).val = win0_6.index t 1 * 256 + 1 * (y 1).val; rw [(idx6 t).2]; omega

theorem flushed7_eq (c : Dev nD) (t : Fin cfg0.N) (hf : (cfg0.win 7).flush t = true) :
    (dats m 0 c).flushed 7 t = ((cfg0.win 7).blk t).view.read (Elt Ideal) (mat (g7 m c)) := by
  have e : (dats m 0 c).flushed 7 t = out0_7 (iblk m c 0 t) (iblk m c 1 t) (iblk m c 2 t) (iblk m c 3 t) := after0_7 m c t
  rw [e]
  funext y
  rw [View.read_apply]
  refine ((out7_at _ _ _ _ y).trans (congrArg₂ vel (blk3 m c t y) (grad_at m c t _ _ (idx2_lt0 y) (idx2_lt1 y)))).trans (congrArg₂ (g7 m c) ?_ ?_)
  · show (y 0).val = win0_7.index t 0 * 834 + 1 * (y 0).val; rw [(idx7 t).1]; omega
  · show 256 * t.val + (y 1).val = win0_7.index t 1 * 256 + 1 * (y 1).val; rw [(idx7 t).2]; omega

theorem flushed5_eq (c : Dev nD) (t : Fin cfg0.N) (hf : (cfg0.win 5).flush t = true) :
    (dats m 0 c).flushed 5 t = ((cfg0.win 5).blk t).view.read (Elt Ideal) (mat (g5 m c)) := by
  have e : (dats m 0 c).flushed 5 t = out0_5 (iblk m c 0 t) (iblk m c 1 t) (iblk m c 2 t) (iblk m c 3 t) := after0_5 m c t
  rw [e]
  funext y
  rw [View.read_apply]
  have hg := grad_at m c t _ _ (idx2_lt0 y) (idx2_lt1 y)
  refine (out5_at _ _ _ _ y).trans ?_
  refine (congr (congrArg₂ step (blk1 m c t y) (congrArg₂ mom (blk2 m c t y) hg)) (congrArg₂ vel (blk3 m c t y) hg)).trans
    (congrArg₂ (g5 m c) ?_ ?_)
  · show (y 0).val = win0_5.index t 0 * 834 + 1 * (y 0).val; rw [(idx5 t).1]; omega
  · show 256 * t.val + (y 1).val = win0_5.index t 1 * 256 + 1 * (y 1).val; rw [(idx5 t).2]; omega

/-- The point whose block has an element's column. -/
theorem point_lt (i : S834x1024.Idx) : (i 1 : Nat) / 256 < cfg0.N := by
  have h1 : (i 1 : Nat) < 1024 := (i 1).isLt
  have hN : cfg0.N = 4 := N_0
  omega
def point (i : S834x1024.Idx) : Fin cfg0.N := ⟨(i 1 : Nat) / 256, point_lt i⟩

/-- A block of 256 columns at the point's place holds the element. -/
theorem holds (i : S834x1024.Idx) (p q : ℕ) (hp : p = 0) (hq : q = (point i).val) :
    (p * 834 ≤ (i 0 : Nat) ∧ (i 0 : Nat) < p * 834 + 834) ∧ (q * 256 ≤ (i 1 : Nat) ∧ (i 1 : Nat) < q * 256 + 256) := by
  have h0 : (i 0 : Nat) < 834 := (i 0).isLt
  have h1 : (point i).val = (i 1 : Nat) / 256 := rfl
  omega

theorem final4 (c : Dev nD) : (dats m 0 c).arrAt 4 cfg0.N = mat (g4 m c) :=
  (dats m 0 c).arrAt_eq_of_cover 4 (mat (g4 m c)) (flushed4_eq m c) fun i => by
    refine ⟨point i, flush0_4 _, ?_⟩
    show i ∈ ((View.whole main_v6_0).slice (win0_4.rect (point i))).set
    rw [View.set_slice_whole, Rect.mem_set_unit]
    have h := holds i _ _ (idx4 (point i)).1 (idx4 (point i)).2
    intro a
    match a with
    | ⟨0, _⟩ => exact h.1
    | ⟨1, _⟩ => exact h.2
theorem final5 (c : Dev nD) : (dats m 0 c).arrAt 5 cfg0.N = mat (g5 m c) :=
  (dats m 0 c).arrAt_eq_of_cover 5 (mat (g5 m c)) (flushed5_eq m c) fun i => by
    refine ⟨point i, flush0_5 _, ?_⟩
    show i ∈ ((View.whole main_v6_1).slice (win0_5.rect (point i))).set
    rw [View.set_slice_whole, Rect.mem_set_unit]
    have h := holds i _ _ (idx5 (point i)).1 (idx5 (point i)).2
    intro a
    match a with
    | ⟨0, _⟩ => exact h.1
    | ⟨1, _⟩ => exact h.2
theorem final6 (c : Dev nD) : (dats m 0 c).arrAt 6 cfg0.N = mat (g6 m c) :=
  (dats m 0 c).arrAt_eq_of_cover 6 (mat (g6 m c)) (flushed6_eq m c) fun i => by
    refine ⟨point i, flush0_6 _, ?_⟩
    show i ∈ ((View.whole main_v6_2).slice (win0_6.rect (point i))).set
    rw [View.set_slice_whole, Rect.mem_set_unit]
    have h := holds i _ _ (idx6 (point i)).1 (idx6 (point i)).2
    intro a
    match a with
    | ⟨0, _⟩ => exact h.1
    | ⟨1, _⟩ => exact h.2
theorem final7 (c : Dev nD) : (dats m 0 c).arrAt 7 cfg0.N = mat (g7 m c) :=
  (dats m 0 c).arrAt_eq_of_cover 7 (mat (g7 m c)) (flushed7_eq m c) fun i => by
    refine ⟨point i, flush0_7 _, ?_⟩
    show i ∈ ((View.whole main_v6_3).slice (win0_7.rect (point i))).set
    rw [View.set_slice_whole, Rect.mem_set_unit]
    have h := holds i _ _ (idx7 (point i)).1 (idx7 (point i)).2
    intro a
    match a with
    | ⟨0, _⟩ => exact h.1
    | ⟨1, _⟩ => exact h.2

/-! The host's transposes, before and after. -/

/-- A matrix of the call's shape, transposed. -/
abbrev flip (x : S834x1024.Idx → EReal) : S1024x834.Idx → EReal := transpose S1024x834 [1, 0] x transposes_S834x1024_S1024x834_1_0
/-- A weight or moment as its rows are stored, without the leading axis. -/
abbrev drop (x : S1x1024x834.Idx → EReal) : S1024x834.Idx → EReal := shapeCast S1024x834 x shapeCasts_S1x1024x834_S1024x834

theorem flip_at (g : ℕ → ℕ → EReal) (i : S1024x834.Idx) : flip (mat g) i = g (i 1).val (i 0).val :=
  transpose_apply (s := S834x1024) (t := S1024x834) [1, 0] (mat g) _ i (ix2 (i 1) (i 0)) fun b => by
    match b with
    | ⟨0, _⟩ => rfl
    | ⟨1, _⟩ => rfl

theorem turn_at (x : S1024x834.Idx → EReal) (i : S1024x834.Idx) :
    rd (n := 834) (m := 1024) (transpose S834x1024 [1, 0] x transposes_S1024x834_S834x1024_1_0) (i 1).val (i 0).val = x i := by
  rw [rd_of_lt _ (idx2_lt1 i) (idx2_lt0 i)]
  exact transpose_apply (s := S1024x834) (t := S834x1024) [1, 0] x _ _ i fun b => by
    match b with
    | ⟨0, _⟩ => rfl
    | ⟨1, _⟩ => rfl

theorem B1_eq (c : Dev nD) : B1 m c = transpose S834x1024 [1, 0] (drop (m ((c : Thread nD τ).loc main_arg1))) transposes_S1024x834_S834x1024_1_0 := by
  unfold B1 V V0
  simp only [List.flatten_cons, List.flatten_nil, List.append_nil]
  after_results
  rfl
theorem B2_eq (c : Dev nD) : B2 m c = transpose S834x1024 [1, 0] (drop (m ((c : Thread nD τ).loc main_arg2))) transposes_S1024x834_S834x1024_1_0 := by
  unfold B2 V V0
  simp only [List.flatten_cons, List.flatten_nil, List.append_nil]
  after_results
  rfl
theorem B3_eq (c : Dev nD) : B3 m c = transpose S834x1024 [1, 0] (drop (m ((c : Thread nD τ).loc main_arg3))) transposes_S1024x834_S834x1024_1_0 := by
  unfold B3 V V0
  simp only [List.flatten_cons, List.flatten_nil, List.append_nil]
  after_results
  rfl

/-- The device's buffers as the call leaves them. -/
abbrev W (c : Dev nD) : Valuation τ sig (Elt Ideal) := Pipeline.withArrays spec0 c (V0 m c) fun w => (dats m 0 c).arrAt w cfg0.N

theorem tail (c : Dev nD) :
    StableHlo.after hostOps1 (W m c) (Proc.devRef .tc main_v7) = flip (mat (g4 m c))
    ∧ StableHlo.after hostOps1 (W m c) (Proc.devRef .tc main_v8) = flip (mat (g5 m c))
    ∧ StableHlo.after hostOps1 (W m c) (Proc.devRef .tc main_v9) = flip (mat (g6 m c))
    ∧ StableHlo.after hostOps1 (W m c) (Proc.devRef .tc main_v10) = flip (mat (g7 m c)) := by
  have e4 : W m c (Proc.devRef .tc main_v6_0) = mat (g4 m c) := (Pipeline.withArrays_arr spec0 launch0.win.arr_inj c _ _ 4).trans (final4 m c)
  have e5 : W m c (Proc.devRef .tc main_v6_1) = mat (g5 m c) := (Pipeline.withArrays_arr spec0 launch0.win.arr_inj c _ _ 5).trans (final5 m c)
  have e6 : W m c (Proc.devRef .tc main_v6_2) = mat (g6 m c) := (Pipeline.withArrays_arr spec0 launch0.win.arr_inj c _ _ 6).trans (final6 m c)
  have e7 : W m c (Proc.devRef .tc main_v6_3) = mat (g7 m c) := (Pipeline.withArrays_arr spec0 launch0.win.arr_inj c _ _ 7).trans (final7 m c)
  refine ⟨?_, ?_, ?_, ?_⟩
  · generalize W m c = X at e4 ⊢; after_results; exact congrArg flip e4
  · generalize W m c = X at e5 ⊢; after_results; exact congrArg flip e5
  · generalize W m c = X at e6 ⊢; after_results; exact congrArg flip e6
  · generalize W m c = X at e7 ⊢; after_results; exact congrArg flip e7

/-- Every execution ends with the four results at these values and the arguments as they were launched. -/
theorem ends : θ_run defs (onTc (τ := τ) (main (F := Ideal))) ⟨m, fun _ => 0, ρ⟩ fun r => ∀ c : Dev nD,
    r.2.mem ((c : Thread nD τ).loc main_v7) = flip (mat (g4 m c))
    ∧ r.2.mem ((c : Thread nD τ).loc main_v8) = flip (mat (g5 m c))
    ∧ r.2.mem ((c : Thread nD τ).loc main_v9) = flip (mat (g6 m c))
    ∧ r.2.mem ((c : Thread nD τ).loc main_v10) = flip (mat (g7 m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨
      ((h.1 c).2 main_v7 (Pipeline.mem_restRefs_of main_v7 (by decide) (by decide))).trans (tail m c).1,
      ((h.1 c).2 main_v8 (Pipeline.mem_restRefs_of main_v8 (by decide) (by decide))).trans (tail m c).2.1,
      ((h.1 c).2 main_v9 (Pipeline.mem_restRefs_of main_v9 (by decide) (by decide))).trans (tail m c).2.2.1,
      ((h.1 c).2 main_v10 (Pipeline.mem_restRefs_of main_v10 (by decide) (by decide))).trans (tail m c).2.2.2, h.2 c⟩)
    (θ_run_and (run_main m ρ) (unchanged m ρ))

end Cert.Proof.SumIn

end
-- ==== Proof.SumInRef.lean ====
/-
  THE OPTIMISER'S CALL FOR THE INPUT PROJECTION'S WEIGHT: the reference's four results, element by element, and that the
  kernel's are the same over the extended reals (`algebraic`).
-/
module

public import proofs.«01_k».proof.Defs
public import proofs.«01_k».proof.Proof.SumIn
public import proofs.«01_k».proof.Proof.Gen.Reference5Ideal.Run
public import proofs.«01_k».proof.Proof.Gen.Reference5Ideal.Read

@[expose] public section

noncomputable section

open Idealize.ShloMosaic Idealize.ShloMosaic.TcCoe Idealize.SL.Sem Idealize.ShloMosaic.ValueIdx
open scoped BigOperators

namespace Cert.Proof.SumInRef

open Cert.Reference5Ideal Cert.Reference5Ideal.Read Cert.Proof.Blocks Cert.Proof.Adam

section Value
variable (P : S4x834x1024.Idx → EReal) (w u v : S1x1024x834.Idx → EReal) (i : S1024x834.Idx)

/-- The gradient. -/
theorem grad_at : (val_main_v2 (F := Ideal) P i : EReal) = four P (i 1).val (i 0).val := by
  rw [val_main_v2_apply, val_main_v1_apply]
  exact sum_eq_four (n := 834) (m := 1024) P (idx_main_v1 (idx_main_v2 i)) (fun _ => rfl) (fun _ => rfl) (fun _ => rfl)
/-- The new first moment. -/
theorem mom_at : (val_main_v10 (F := Ideal) P u i : EReal) = mom (val_main_v4 (F := Ideal) u i) (four P (i 1).val (i 0).val) := by
  rw [val_main_v10_apply, val_main_v7_apply, val_main_v9_apply, grad_at, val_main_v6_apply, val_main_v8_apply]
  rfl
/-- The new second moment. -/
theorem vel_at : (val_main_v16 (F := Ideal) P v i : EReal) = vel (val_main_v5 (F := Ideal) v i) (four P (i 1).val (i 0).val) := by
  rw [val_main_v16_apply, val_main_v12_apply, val_main_v15_apply, val_main_v13_apply, grad_at, val_main_v11_apply, val_main_v14_apply]
  rfl
/-- What is added to the weight. -/
theorem step_at : (val_main_v29 (F := Ideal) P w u v i : EReal)
    = step (val_main_v3 (F := Ideal) w i) (mom (val_main_v4 (F := Ideal) u i) (four P (i 1).val (i 0).val))
        (vel (val_main_v5 (F := Ideal) v i) (four P (i 1).val (i 0).val)) := by
  rw [val_main_v29_apply, val_main_v27_apply, val_main_v24_apply, val_main_v26_apply, val_main_v18_apply, val_main_v23_apply,
    val_main_v21_apply, val_main_v20_apply, mom_at, vel_at, val_main_v28_apply, val_main_v25_apply, val_main_v22_apply,
    val_main_v19_apply, val_main_v17_apply]
  rfl

end Value

open Cert.Proof.SumIn in
/-- Over the extended reals the kernel's results are the reference's. -/
theorem algebraic (hK : Cert.Kernel5Ideal.Facts) (hR : Cert.Reference5Ideal.Facts) :
    Cert.algebraic_Kernel5Ideal_Reference5Ideal (hKernel5Ideal := hK) (hReference5Ideal := hR) := by
  intro m g m' g' _ hargs
  refine ⟨fun c => flip (mat (g4 m c)), fun c => flip (mat (g5 m c)), fun c => flip (mat (g6 m c)), fun c => flip (mat (g7 m c)),
    ends m g, ?_⟩
  refine (θ_run _ _ _).mono (fun r h c => ?_) (Cert.Reference5Ideal.Value.run m' g')
  obtain ⟨e0, e1, e2, e3⟩ := hargs c
  obtain ⟨h2, h29, h10, h16, k0, k1, k2, k3⟩ := h c
  have t1 : ∀ i : S1024x834.Idx, rd (B1 m c) (i 1).val (i 0).val = val_main_v3 (F := Ideal) (m ((c : Thread Cert.Kernel5Ideal.nD Cert.Kernel5Ideal.τ).loc Cert.Kernel5Ideal.main_arg1)) i := fun i => by
    rw [B1_eq]; exact turn_at _ i
  have t2 : ∀ i : S1024x834.Idx, rd (B2 m c) (i 1).val (i 0).val = val_main_v4 (F := Ideal) (m ((c : Thread Cert.Kernel5Ideal.nD Cert.Kernel5Ideal.τ).loc Cert.Kernel5Ideal.main_arg2)) i := fun i => by
    rw [B2_eq]; exact turn_at _ i
  have t3 : ∀ i : S1024x834.Idx, rd (B3 m c) (i 1).val (i 0).val = val_main_v5 (F := Ideal) (m ((c : Thread Cert.Kernel5Ideal.nD Cert.Kernel5Ideal.τ).loc Cert.Kernel5Ideal.main_arg3)) i := fun i => by
    rw [B3_eq]; exact turn_at _ i
  refine ⟨?_, ?_, ?_, ?_, k0, k1, k2, k3⟩
  · rw [h2, val_main_v2_eq, e0]
    exact funext fun i => (grad_at _ i).trans (flip_at _ i).symm
  · rw [h29, val_main_v29_eq, e0, e1, e2, e3]
    refine funext fun i => (step_at _ _ _ _ i).trans (Eq.trans ?_ (flip_at _ i).symm)
    rw [← t1 i, ← t2 i, ← t3 i]
    rfl
  · rw [h10, val_main_v10_eq, e0, e2]
    refine funext fun i => (mom_at _ _ i).trans (Eq.trans ?_ (flip_at _ i).symm)
    rw [← t2 i]
    rfl
  · rw [h16, val_main_v16_eq, e0, e3]
    refine funext fun i => (vel_at _ _ i).trans (Eq.trans ?_ (flip_at _ i).symm)
    rw [← t3 i]
    rfl

end Cert.Proof.SumInRef

end
-- ==== Proof.SumOut.lean ====
/-
  THE OPTIMISER'S CALL FOR THE OUTPUT PROJECTION'S WEIGHT (`Kernel6`): what the four result arrays hold, over the extended
  reals. The call works on a block of 256 columns at each of four points; the host drops the leading axis of the weight
  and of its moments before it.
-/
module

public import proofs.«01_k».proof.Proof.Adam
public import proofs.«01_k».proof.Proof.Gen.Kernel6Ideal.Frame

@[expose] public section

noncomputable section

open Idealize.ShloMosaic Idealize.ShloMosaic.TcCoe Idealize.SL.Sem Idealize.ShloMosaic.ValueIdx
open Idealize.ShloMosaic.Pipeline (Dat)
open scoped BigOperators

namespace Cert.Proof.SumOut

open Cert.Kernel6Ideal Cert.Kernel6Ideal.Gen Cert.Proof.Blocks Cert.Proof.Adam

/-! The body at one element of its blocks. -/

section Block
variable (x : S4x256x256.Idx → EReal) (w u v : S256x256.Idx → EReal) (y : S256x256.Idx)

/-- A layer's element, its leading axis dropped. -/
theorem lay (z : Vec Ideal S1x256x256 .bf16) :
    (extf (F := Ideal) .f32 (shapeCast S256x256 z shapeCasts_S1x256x256_S256x256) bitsLt_bf16_f32 y : EReal)
      = z (Fin.cons ⟨0, Nat.one_pos⟩ y) :=
  shapeCast_dropUnit_apply (α := EReal) ![256, 256] z shapeCasts_S1x256x256_S256x256 y

theorem pay2_at : (k0_pay2 (F := Ideal) (View.ld x r0_0) (View.ld x r0_1) (View.ld x r0_2) (View.ld x r0_3) y : EReal)
    = four x (y 0).val (y 1).val := by
  unfold k0_pay2
  dsimp only
  refine congrArg₂ (· + ·) (congrArg₂ (· + ·) (congrArg₂ (· + ·) ?_ ?_) ?_) ?_ <;>
  · refine (lay y _).trans ?_
    show x _ = _
    refine eq_rd3 x _ rfl ?_ ?_
    · show 0 + 1 * (y 0).val = _; omega
    · show 0 + 1 * (y 1).val = _; omega

theorem pay6_at : (k0_pay6 (F := Ideal) x w u v y : EReal) = mom (u y) (four x (y 0).val (y 1).val) := by
  unfold k0_pay6 k0_pay4
  dsimp only
  rw [shapeCast_self, View.ld_unit_zero (S := S256x256) (by decide)]
  exact congrArg (mom (u y)) (pay2_at x y)

theorem pay7_at : (k0_pay7 (F := Ideal) x w u v y : EReal) = vel (v y) (four x (y 0).val (y 1).val) := by
  unfold k0_pay7 k0_pay5
  dsimp only
  rw [shapeCast_self, View.ld_unit_zero (S := S256x256) (by decide)]
  exact congrArg (vel (v y)) (pay2_at x y)

theorem out4_at : (out0_4 (F := Ideal) x w u v y : EReal) = four x (y 0).val (y 1).val := by
  unfold out0_4
  rw [View.canon_unit_zero (S := S256x256) (by decide)]
  exact pay2_at x y

theorem out5_at : (out0_5 (F := Ideal) x w u v y : EReal)
    = step (w y) (mom (u y) (four x (y 0).val (y 1).val)) (vel (v y) (four x (y 0).val (y 1).val)) := by
  unfold out0_5
  rw [View.canon_unit_zero (S := S256x256) (by decide)]
  rw [← pay6_at x w u v y, ← pay7_at x w u v y]
  unfold k0_pay1 k0_pay3
  dsimp only
  rw [shapeCast_self, View.ld_unit_zero (S := S256x256) (by decide)]
  rfl

theorem out6_at : (out0_6 (F := Ideal) x w u v y : EReal) = mom (u y) (four x (y 0).val (y 1).val) := by
  unfold out0_6
  rw [View.canon_unit_zero (S := S256x256) (by decide)]
  exact pay6_at x w u v y

theorem out7_at : (out0_7 (F := Ideal) x w u v y : EReal) = vel (v y) (four x (y 0).val (y 1).val) := by
  unfold out0_7
  rw [View.canon_unit_zero (S := S256x256) (by decide)]
  exact pay7_at x w u v y

end Block

variable (m : (ℓ : Loc nD τ sig) → Buf (Elt Ideal) ℓ) (ρ : Dev nD → PrngReg)

/-! The arrays as the call finds them: the four shares of the gradient, and the weight and its moments. -/

abbrev A0 (c : Dev nD) : S4x256x1024.Idx → EReal := m ((c : Thread nD τ).loc main_arg0)
abbrev B1 (c : Dev nD) : S256x1024.Idx → EReal := V m c main_v0
abbrev B2 (c : Dev nD) : S256x1024.Idx → EReal := V m c main_v1
abbrev B3 (c : Dev nD) : S256x1024.Idx → EReal := V m c main_v2

/-! Where each window's block sits. -/

theorem idx0 : ∀ t : Fin grid0.N, win0_0.index t 0 = 0 ∧ win0_0.index t 1 = 0 ∧ win0_0.index t 2 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = t.val := by decide +kernel
theorem idx6 : ∀ t : Fin grid0.N, win0_6.index t 0 = 0 ∧ win0_6.index t 1 = t.val := by decide +kernel
theorem idx7 : ∀ t : Fin grid0.N, win0_7.index t 0 = 0 ∧ win0_7.index t 1 = t.val := by decide +kernel

theorem layer0 (c : Dev nD) (t : Fin cfg0.N) (q a b : ℕ) (hq : q < 4) (ha : a < 256) (hb : b < 256) :
    rd3 (k := 4) (n := 256) (m := 256) (iblk m c 0 t) q a b = rd3 (A0 m c) q a (256 * t.val + b) := by
  rw [rd3_of_lt _ hq ha hb]
  unfold iblk
  rw [View.read_apply]
  refine (congrFun (V_main_arg0 m c) _).trans (eq_rd3 (k := 4) (n := 256) (m := 1024) (A0 m c) _ ?_ ?_ ?_)
  · show win0_0.index t 0 * 4 + 1 * q = _; rw [(idx0 t).1]; omega
  · show win0_0.index t 1 * 256 + 1 * a = _; rw [(idx0 t).2.1]; omega
  · show win0_0.index t 2 * 256 + 1 * b = _; rw [(idx0 t).2.2]; omega

/-- The gradient of a block is the four shares at the block's place. -/
theorem grad_at (c : Dev nD) (t : Fin cfg0.N) (a b : ℕ) (ha : a < 256) (hb : b < 256) :
    four (n := 256) (m := 256) (iblk m c 0 t) a b = four (A0 m c) a (256 * t.val + b) := by
  unfold four
  rw [layer0 m c t 0 a b (by decide) ha hb, layer0 m c t 1 a b (by decide) ha hb, layer0 m c t 2 a b (by decide) ha hb,
    layer0 m c t 3 a b (by decide) ha hb]

theorem blk1 (c : Dev nD) (t : Fin cfg0.N) (y : S256x256.Idx) :
    (iblk m c 1 t y : EReal) = rd (B1 m c) (y 0).val (256 * t.val + (y 1).val) := by
  unfold iblk
  rw [View.read_apply]
  refine eq_rd (n := 256) (m := 1024) (B1 m c) _ ?_ ?_
  · show win0_1.index t 0 * 256 + 1 * (y 0).val = _; rw [(idx1 t).1]; omega
  · show win0_1.index t 1 * 256 + 1 * (y 1).val = _; rw [(idx1 t).2]; omega
theorem blk2 (c : Dev nD) (t : Fin cfg0.N) (y : S256x256.Idx) :
    (iblk m c 2 t y : EReal) = rd (B2 m c) (y 0).val (256 * t.val + (y 1).val) := by
  unfold iblk
  rw [View.read_apply]
  refine eq_rd (n := 256) (m := 1024) (B2 m c) _ ?_ ?_
  · show win0_2.index t 0 * 256 + 1 * (y 0).val = _; rw [(idx2 t).1]; omega
  · show win0_2.index t 1 * 256 + 1 * (y 1).val = _; rw [(idx2 t).2]; omega
theorem blk3 (c : Dev nD) (t : Fin cfg0.N) (y : S256x256.Idx) :
    (iblk m c 3 t y : EReal) = rd (B3 m c) (y 0).val (256 * t.val + (y 1).val) := by
  unfold iblk
  rw [View.read_apply]
  refine eq_rd (n := 256) (m := 1024) (B3 m c) _ ?_ ?_
  · show win0_3.index t 0 * 256 + 1 * (y 0).val = _; rw [(idx3 t).1]; omega
  · show win0_3.index t 1 * 256 + 1 * (y 1).val = _; rw [(idx3 t).2]; omega

/-! The four arrays that the call writes, at a row and a column. -/

def g4 (c : Dev nD) (a b : ℕ) : EReal := four (A0 m c) a b
def g6 (c : Dev nD) (a b : ℕ) : EReal := mom (rd (B2 m c) a b) (g4 m c a b)
def g7 (c : Dev nD) (a b : ℕ) : EReal := vel (rd (B3 m c) a b) (g4 m c a b)
def g5 (c : Dev nD) (a b : ℕ) : EReal := step (rd (B1 m c) a b) (g6 m c a b) (g7 m c a b)

/-- A matrix from its elements by coordinates. -/
def mat (g : ℕ → ℕ → EReal) : S256x1024.Idx → EReal := fun i => g (i 0).val (i 1).val

theorem flushed4_eq (c : Dev nD) (t : Fin cfg0.N) (hf : (cfg0.win 4).flush t = true) :
    (dats m 0 c).flushed 4 t = ((cfg0.win 4).blk t).view.read (Elt Ideal) (mat (g4 m c)) := by
  have e : (dats m 0 c).flushed 4 t = out0_4 (iblk m c 0 t) (iblk m c 1 t) (iblk m c 2 t) (iblk m c 3 t) := after0_4 m c t
  rw [e]
  funext y
  rw [View.read_apply]
  refine ((out4_at _ _ _ _ y).trans (grad_at m c t _ _ (idx2_lt0 y) (idx2_lt1 y))).trans (congrArg₂ (g4 m c) ?_ ?_)
  · show (y 0).val = win0_4.index t 0 * 256 + 1 * (y 0).val; rw [(idx4 t).1]; omega
  · show 256 * t.val + (y 1).val = win0_4.index t 1 * 256 + 1 * (y 1).val; rw [(idx4 t).2]; omega

theorem flushed6_eq (c : Dev nD) (t : Fin cfg0.N) (hf : (cfg0.win 6).flush t = true) :
    (dats m 0 c).flushed 6 t = ((cfg0.win 6).blk t).view.read (Elt Ideal) (mat (g6 m c)) := by
  have e : (dats m 0 c).flushed 6 t = out0_6 (iblk m c 0 t) (iblk m c 1 t) (iblk m c 2 t) (iblk m c 3 t) := after0_6 m c t
  rw [e]
  funext y
  rw [View.read_apply]
  refine ((out6_at _ _ _ _ y).trans (congrArg₂ mom (blk2 m c t y) (grad_at m c t _ _ (idx2_lt0 y) (idx2_lt1 y)))).trans (congrArg₂ (g6 m c) ?_ ?_)
  · show (y 0).val = win0_6.index t 0 * 256 + 1 * (y 0).val; rw [(idx6 t).1]; omega
  · show 256 * t.val + (y 1).val = win0_6.index t 1 * 256 + 1 * (y 1).val; rw [(idx6 t).2]; omega

theorem flushed7_eq (c : Dev nD) (t : Fin cfg0.N) (hf : (cfg0.win 7).flush t = true) :
    (dats m 0 c).flushed 7 t = ((cfg0.win 7).blk t).view.read (Elt Ideal) (mat (g7 m c)) := by
  have e : (dats m 0 c).flushed 7 t = out0_7 (iblk m c 0 t) (iblk m c 1 t) (iblk m c 2 t) (iblk m c 3 t) := after0_7 m c t
  rw [e]
  funext y
  rw [View.read_apply]
  refine ((out7_at _ _ _ _ y).trans (congrArg₂ vel (blk3 m c t y) (grad_at m c t _ _ (idx2_lt0 y) (idx2_lt1 y)))).trans (congrArg₂ (g7 m c) ?_ ?_)
  · show (y 0).val = win0_7.index t 0 * 256 + 1 * (y 0).val; rw [(idx7 t).1]; omega
  · show 256 * t.val + (y 1).val = win0_7.index t 1 * 256 + 1 * (y 1).val; rw [(idx7 t).2]; omega

theorem flushed5_eq (c : Dev nD) (t : Fin cfg0.N) (hf : (cfg0.win 5).flush t = true) :
    (dats m 0 c).flushed 5 t = ((cfg0.win 5).blk t).view.read (Elt Ideal) (mat (g5 m c)) := by
  have e : (dats m 0 c).flushed 5 t = out0_5 (iblk m c 0 t) (iblk m c 1 t) (iblk m c 2 t) (iblk m c 3 t) := after0_5 m c t
  rw [e]
  funext y
  rw [View.read_apply]
  have hg := grad_at m c t _ _ (idx2_lt0 y) (idx2_lt1 y)
  refine (out5_at _ _ _ _ y).trans ?_
  refine (congr (congrArg₂ step (blk1 m c t y) (congrArg₂ mom (blk2 m c t y) hg)) (congrArg₂ vel (blk3 m c t y) hg)).trans
    (congrArg₂ (g5 m c) ?_ ?_)
  · show (y 0).val = win0_5.index t 0 * 256 + 1 * (y 0).val; rw [(idx5 t).1]; omega
  · show 256 * t.val + (y 1).val = win0_5.index t 1 * 256 + 1 * (y 1).val; rw [(idx5 t).2]; omega

/-- The point whose block has an element's column. -/
theorem point_lt (i : S256x1024.Idx) : (i 1 : Nat) / 256 < cfg0.N := by
  have h1 : (i 1 : Nat) < 1024 := (i 1).isLt
  have hN : cfg0.N = 4 := N_0
  omega
def point (i : S256x1024.Idx) : Fin cfg0.N := ⟨(i 1 : Nat) / 256, point_lt i⟩

/-- A block of 256 columns at the point's place holds the element. -/
theorem holds (i : S256x1024.Idx) (p q : ℕ) (hp : p = 0) (hq : q = (point i).val) :
    (p * 256 ≤ (i 0 : Nat) ∧ (i 0 : Nat) < p * 256 + 256) ∧ (q * 256 ≤ (i 1 : Nat) ∧ (i 1 : Nat) < q * 256 + 256) := by
  have h0 : (i 0 : Nat) < 256 := (i 0).isLt
  have h1 : (point i).val = (i 1 : Nat) / 256 := rfl
  omega

theorem final4 (c : Dev nD) : (dats m 0 c).arrAt 4 cfg0.N = mat (g4 m c) :=
  (dats m 0 c).arrAt_eq_of_cover 4 (mat (g4 m c)) (flushed4_eq m c) fun i => by
    refine ⟨point i, flush0_4 _, ?_⟩
    show i ∈ ((View.whole main_v3_0).slice (win0_4.rect (point i))).set
    rw [View.set_slice_whole, Rect.mem_set_unit]
    have h := holds i _ _ (idx4 (point i)).1 (idx4 (point i)).2
    intro a
    match a with
    | ⟨0, _⟩ => exact h.1
    | ⟨1, _⟩ => exact h.2
theorem final5 (c : Dev nD) : (dats m 0 c).arrAt 5 cfg0.N = mat (g5 m c) :=
  (dats m 0 c).arrAt_eq_of_cover 5 (mat (g5 m c)) (flushed5_eq m c) fun i => by
    refine ⟨point i, flush0_5 _, ?_⟩
    show i ∈ ((View.whole main_v3_1).slice (win0_5.rect (point i))).set
    rw [View.set_slice_whole, Rect.mem_set_unit]
    have h := holds i _ _ (idx5 (point i)).1 (idx5 (point i)).2
    intro a
    match a with
    | ⟨0, _⟩ => exact h.1
    | ⟨1, _⟩ => exact h.2
theorem final6 (c : Dev nD) : (dats m 0 c).arrAt 6 cfg0.N = mat (g6 m c) :=
  (dats m 0 c).arrAt_eq_of_cover 6 (mat (g6 m c)) (flushed6_eq m c) fun i => by
    refine ⟨point i, flush0_6 _, ?_⟩
    show i ∈ ((View.whole main_v3_2).slice (win0_6.rect (point i))).set
    rw [View.set_slice_whole, Rect.mem_set_unit]
    have h := holds i _ _ (idx6 (point i)).1 (idx6 (point i)).2
    intro a
    match a with
    | ⟨0, _⟩ => exact h.1
    | ⟨1, _⟩ => exact h.2
theorem final7 (c : Dev nD) : (dats m 0 c).arrAt 7 cfg0.N = mat (g7 m c) :=
  (dats m 0 c).arrAt_eq_of_cover 7 (mat (g7 m c)) (flushed7_eq m c) fun i => by
    refine ⟨point i, flush0_7 _, ?_⟩
    show i ∈ ((View.whole main_v3_3).slice (win0_7.rect (point i))).set
    rw [View.set_slice_whole, Rect.mem_set_unit]
    have h := holds i _ _ (idx7 (point i)).1 (idx7 (point i)).2
    intro a
    match a with
    | ⟨0, _⟩ => exact h.1
    | ⟨1, _⟩ => exact h.2

/-! The host drops the leading axis before the call. -/

abbrev drop (x : S1x256x1024.Idx → EReal) : S256x1024.Idx → EReal := shapeCast S256x1024 x shapeCasts_S1x256x1024_S256x1024

theorem B1_eq (c : Dev nD) : B1 m c = drop (m ((c : Thread nD τ).loc main_arg1)) := by
  unfold B1 V
  after_results
  rfl
theorem B2_eq (c : Dev nD) : B2 m c = drop (m ((c : Thread nD τ).loc main_arg2)) := by
  unfold B2 V
  after_results
  rfl
theorem B3_eq (c : Dev nD) : B3 m c = drop (m ((c : Thread nD τ).loc main_arg3)) := by
  unfold B3 V
  after_results
  rfl

/-- Every execution ends with the four results at these values and the arguments as they were launched. -/
theorem ends : θ_run defs (onTc (τ := τ) (main (F := Ideal))) ⟨m, fun _ => 0, ρ⟩ fun r => ∀ c : Dev nD,
    r.2.mem ((c : Thread nD τ).loc main_v3_0) = mat (g4 m c)
    ∧ r.2.mem ((c : Thread nD τ).loc main_v3_1) = mat (g5 m c)
    ∧ r.2.mem ((c : Thread nD τ).loc main_v3_2) = mat (g6 m c)
    ∧ r.2.mem ((c : Thread nD τ).loc main_v3_3) = mat (g7 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h.1 c).1 4).trans (final4 m c), ((h.1 c).1 5).trans (final5 m c),
      ((h.1 c).1 6).trans (final6 m c), ((h.1 c).1 7).trans (final7 m c), h.2 c⟩)
    (θ_run_and (run_main m ρ) (unchanged m ρ))

end Cert.Proof.SumOut

end
-- ==== Proof.SumOutRef.lean ====
/-
  THE OPTIMISER'S CALL FOR THE OUTPUT PROJECTION'S WEIGHT: the reference's four results, element by element, and that the
  kernel's are the same over the extended reals (`algebraic`).
-/
module

public import proofs.«01_k».proof.Defs
public import proofs.«01_k».proof.Proof.SumOut
public import proofs.«01_k».proof.Proof.Gen.Reference6Ideal.Run
public import proofs.«01_k».proof.Proof.Gen.Reference6Ideal.Read

@[expose] public section

noncomputable section

open Idealize.ShloMosaic Idealize.ShloMosaic.TcCoe Idealize.SL.Sem Idealize.ShloMosaic.ValueIdx
open scoped BigOperators

namespace Cert.Proof.SumOutRef

open Cert.Reference6Ideal Cert.Reference6Ideal.Read Cert.Proof.Blocks Cert.Proof.Adam

section Value
variable (P : S4x256x1024.Idx → EReal) (w u v : S1x256x1024.Idx → EReal) (i : S256x1024.Idx)

/-- The gradient. -/
theorem grad_at : (val_main_v1 (F := Ideal) P i : EReal) = four P (i 0).val (i 1).val := by
  rw [val_main_v1_apply]
  exact sum_eq_four (n := 256) (m := 1024) P (idx_main_v1 i) (fun _ => rfl) (fun _ => rfl) (fun _ => rfl)
/-- The new first moment. -/
theorem mom_at : (val_main_v9 (F := Ideal) P u i : EReal) = mom (val_main_v3 (F := Ideal) u i) (four P (i 0).val (i 1).val) := by
  rw [val_main_v9_apply, val_main_v6_apply, val_main_v8_apply, grad_at, val_main_v5_apply, val_main_v7_apply]
  rfl
/-- The new second moment. -/
theorem vel_at : (val_main_v15 (F := Ideal) P v i : EReal) = vel (val_main_v4 (F := Ideal) v i) (four P (i 0).val (i 1).val) := by
  rw [val_main_v15_apply, val_main_v11_apply, val_main_v14_apply, val_main_v12_apply, grad_at, val_main_v10_apply, val_main_v13_apply]
  rfl
/-- What is added to the weight. -/
theorem step_at : (val_main_v28 (F := Ideal) P w u v i : EReal)
    = step (val_main_v2 (F := Ideal) w i) (mom (val_main_v3 (F := Ideal) u i) (four P (i 0).val (i 1).val))
        (vel (val_main_v4 (F := Ideal) v i) (four P (i 0).val (i 1).val)) := by
  rw [val_main_v28_apply, val_main_v26_apply, val_main_v23_apply, val_main_v25_apply, val_main_v17_apply, val_main_v22_apply,
    val_main_v20_apply, val_main_v19_apply, mom_at, vel_at, val_main_v27_apply, val_main_v24_apply, val_main_v21_apply,
    val_main_v18_apply, val_main_v16_apply]
  rfl

end Value

open Cert.Proof.SumOut in
/-- Over the extended reals the kernel's results are the reference's. -/
theorem algebraic (hK : Cert.Kernel6Ideal.Facts) (hR : Cert.Reference6Ideal.Facts) :
    Cert.algebraic_Kernel6Ideal_Reference6Ideal (hKernel6Ideal := hK) (hReference6Ideal := hR) := by
  intro m g m' g' _ hargs
  refine ⟨fun c => mat (g4 m c), fun c => mat (g5 m c), fun c => mat (g6 m c), fun c => mat (g7 m c), ends m g, ?_⟩
  refine (θ_run _ _ _).mono (fun r h c => ?_) (Cert.Reference6Ideal.Value.run m' g')
  obtain ⟨e0, e1, e2, e3⟩ := hargs c
  obtain ⟨h1, h28, h9, h15, k⟩ := h c
  have t1 : ∀ i : S256x1024.Idx, rd (B1 m c) (i 0).val (i 1).val = val_main_v2 (F := Ideal) (m ((c : Thread Cert.Kernel6Ideal.nD Cert.Kernel6Ideal.τ).loc Cert.Kernel6Ideal.main_arg1)) i := fun i => by
    rw [B1_eq]; exact (eq_rd _ i rfl rfl).symm
  have t2 : ∀ i : S256x1024.Idx, rd (B2 m c) (i 0).val (i 1).val = val_main_v3 (F := Ideal) (m ((c : Thread Cert.Kernel6Ideal.nD Cert.Kernel6Ideal.τ).loc Cert.Kernel6Ideal.main_arg2)) i := fun i => by
    rw [B2_eq]; exact (eq_rd _ i rfl rfl).symm
  have t3 : ∀ i : S256x1024.Idx, rd (B3 m c) (i 0).val (i 1).val = val_main_v4 (F := Ideal) (m ((c : Thread Cert.Kernel6Ideal.nD Cert.Kernel6Ideal.τ).loc Cert.Kernel6Ideal.main_arg3)) i := fun i => by
    rw [B3_eq]; exact (eq_rd _ i rfl rfl).symm
  refine ⟨?_, ?_, ?_, ?_, k⟩
  · rw [h1, val_main_v1_eq, e0]
    exact funext fun i => grad_at _ i
  · rw [h28, val_main_v28_eq, e0, e1, e2, e3]
    refine funext fun i => (step_at _ _ _ _ i).trans ?_
    rw [← t1 i, ← t2 i, ← t3 i]
    rfl
  · rw [h9, val_main_v9_eq, e0, e2]
    refine funext fun i => (mom_at _ _ i).trans ?_
    rw [← t2 i]
    rfl
  · rw [h15, val_main_v15_eq, e0, e3]
    refine funext fun i => (vel_at _ _ i).trans ?_
    rw [← t3 i]
    rfl

end Cert.Proof.SumOutRef

end
-- ==== Proof.Small.lean ====
/-
  THE OPTIMISER'S CALL FOR THE EIGHT SMALL WEIGHTS (`Kernel7`): what its twenty-four results hold, over the extended reals.

  The host flattens the eight weights, joins them end to end, pads the row to 6144 and lays it out as 48 rows of 128; it does
  the same with the gradients and with both moments. The call works on the four packed arrays element by element. The host
  then cuts each weight's stretch out of the three packed results again. `packed` is the packing and `cut` the cutting; an
  element of a weight sits at the same place of every packed array, so a cut of the call's result is the element's own step.
-/
module

public import proofs.«01_k».proof.Proof.Adam
public import proofs.«01_k».proof.Proof.Gen.Kernel7Ideal.Frame
public import Idealize.ShloMosaic.Lib.KernelVsHost

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Small

open Cert.Kernel7Ideal Cert.Kernel7Ideal.Gen Cert.Proof.Blocks Cert.Proof.Adam

/-! ## Packing and cutting -/

/-- The place of the row's element `k` in the 48 rows of 128. -/
def pos (k : ℕ) : S48x128.Idx := ix2 ⟨k / 128 % 48, Nat.mod_lt _ (by decide)⟩ ⟨k % 128, Nat.mod_lt _ (by decide)⟩

/-- The row's element that an element of a weight becomes: the weight's offset, and the element's place in its own row-major
    order. -/
def spot (o : ℕ) {a b : ℕ} (i : (⟨2, ![a, b]⟩ : Shape).Idx) : ℕ := o + ((i 0).val * b + (i 1).val)

theorem spot_lt (o : ℕ) {a b : ℕ} (i : (⟨2, ![a, b]⟩ : Shape).Idx) : spot o i < o + a * b := by
  have h0 := idx2_lt0 i
  have h1 := idx2_lt1 i
  have : ((i 0).val + 1) * b ≤ a * b := Nat.mul_le_mul_right b h0
  unfold spot
  rw [Nat.add_mul, Nat.one_mul] at this
  omega

/-- A weight's stretch of the row, cut out of a packed array and given the weight's shape again. -/
def cut (o n a b : ℕ) (hs : S6144.Slices ![o] ⟨1, ![n]⟩) (hc : (⟨1, ![n]⟩ : Shape).ShapeCasts ⟨2, ![a, b]⟩)
    (G : S48x128.Idx → EReal) : (⟨2, ![a, b]⟩ : Shape).Idx → EReal :=
  shapeCast ⟨2, ![a, b]⟩ (extractStridedSlice ⟨1, ![n]⟩ ![o] (shapeCast S6144 G shapeCasts_S48x128_S6144) hs) hc

/-- An element of a cut is the packed array's element at its place. -/
theorem cut_at (o n a b : ℕ) (hs) (hc) (hn : n = a * b) (ho : o + n ≤ 6144) (G : S48x128.Idx → EReal)
    (i : (⟨2, ![a, b]⟩ : Shape).Idx) : cut o n a b hs hc G i = G (pos (spot o i)) := by
  have hlt := spot_lt o i
  have hk : spot o i < 6144 := by omega
  have hr : (i 0).val * b + (i 1).val < n := by unfold spot at hlt; omega
  unfold cut
  refine (shapeCast_apply _ hc i (ix1 ⟨(i 0).val * b + (i 1).val, hr⟩) ?_).trans ?_
  · rw [Shape.rowMajor_val_one, Shape.rowMajor_val_two]
    rfl
  · refine (shapeCast_apply G shapeCasts_S48x128_S6144 _ (pos (spot o i)) ?_)
    rw [Shape.rowMajor_val_one, Shape.rowMajor_val_two]
    show spot o i / 128 % 48 * 128 + spot o i % 128 = o + ((i 0).val * b + (i 1).val)
    rw [Nat.mod_eq_of_lt (show spot o i / 128 < 48 by omega), Nat.div_add_mod']
    rfl

/-- Eight weights joined end to end, padded and laid out in 48 rows of 128. -/
def packed (z : S_.Idx → EReal) (x0 : S4x192.Idx → EReal) (x1 : S1x1536.Idx → EReal) (x2 x3 x4 : S1x1024.Idx → EReal)
    (x5 x6 x7 : S1x16.Idx → EReal) : S48x128.Idx → EReal :=
  shapeCast S48x128 (pad S6144 ![0] ![720] ![0]
    (concatenate S5424 0 [⟨S768, shapeCast S768 x0 shapeCasts_S4x192_S768⟩, ⟨S1536, shapeCast S1536 x1 shapeCasts_S1x1536_S1536⟩,
      ⟨S1024, shapeCast S1024 x2 shapeCasts_S1x1024_S1024⟩, ⟨S1024, shapeCast S1024 x3 shapeCasts_S1x1024_S1024⟩,
      ⟨S1024, shapeCast S1024 x4 shapeCasts_S1x1024_S1024⟩, ⟨S16, shapeCast S16 x5 shapeCasts_S1x16_S16⟩,
      ⟨S16, shapeCast S16 x6 shapeCasts_S1x16_S16⟩, ⟨S16, shapeCast S16 x7 shapeCasts_S1x16_S16⟩]
      concatenates_S768_S1536_S1024_S1024_S1024_S16_S16_S16_S5424_d0)
    z pads_S5424_S6144_07200 h_S_) shapeCasts_S6144_S48x128

/-- A packed array at the place of an element of piece `k`: that element. -/
theorem place (xs : List ((s : Shape) × (s.Idx → EReal))) (h : Shape.Concatenates (xs.map (·.1)) S5424 0) (z : S_.Idx → EReal)
    (k : ℕ) (hk : k < xs.length) (o n a b : ℕ) (x : (⟨2, ![a, b]⟩ : Shape).Idx → EReal) (hc : (⟨2, ![a, b]⟩ : Shape).ShapeCasts ⟨1, ![n]⟩)
    (hx : xs[k] = ⟨⟨1, ![n]⟩, shapeCast ⟨1, ![n]⟩ x hc⟩)
    (ho : (((xs.take k).map (·.1)).map fun s => if h : s.rank = S5424.rank then s.size ((0 : Fin S5424.rank).cast h.symm) else 0).sum = o)
    (hn : n = a * b) (hl : o + n ≤ 5424) (i : (⟨2, ![a, b]⟩ : Shape).Idx) :
    shapeCast S48x128 (pad S6144 ![0] ![720] ![0] (concatenate S5424 0 xs h) z pads_S5424_S6144_07200 h_S_) shapeCasts_S6144_S48x128
      (pos (spot o i)) = x i := by
  have hlt := spot_lt o i
  have hq : spot o i < 5424 := by omega
  have hr : (i 0).val * b + (i 1).val < n := by unfold spot at hlt; omega
  refine (shapeCast_apply _ shapeCasts_S6144_S48x128 _ (ix1 ⟨spot o i, by omega⟩) ?_).trans ?_
  · rw [Shape.rowMajor_val_one, Shape.rowMajor_val_two]
    show spot o i = spot o i / 128 % 48 * 128 + spot o i % 128
    rw [Nat.mod_eq_of_lt (show spot o i / 128 < 48 by omega), Nat.div_add_mod']
  refine (pad_apply_of_inside _ _ _ _ z pads_S5424_S6144_07200 h_S_ _ (ix1 ⟨spot o i, hq⟩) fun q => ?_).trans ?_
  · match q with
    | ⟨0, _⟩ => show spot o i = 0 + spot o i * (0 + 1); omega
  refine (concatenate_apply_piece 0 xs h _ k hk _ _ hx rfl o ho (ix1 ⟨(i 0).val * b + (i 1).val, hr⟩) (fun q hq => ?_) rfl).trans ?_
  · match q with
    | ⟨0, _⟩ => exact absurd rfl hq
  · refine shapeCast_apply x hc _ i ?_
    rw [Shape.rowMajor_val_one, Shape.rowMajor_val_two]
    rfl

section Places
variable {z : S_.Idx → EReal} {x0 : S4x192.Idx → EReal} {x1 : S1x1536.Idx → EReal} {x2 x3 x4 : S1x1024.Idx → EReal}
  {x5 x6 x7 : S1x16.Idx → EReal}

theorem place0 (i) : packed z x0 x1 x2 x3 x4 x5 x6 x7 (pos (spot 0 i)) = x0 i :=
  place _ _ z 0 (by simp) 0 768 4 192 x0 _ rfl rfl rfl (by decide) i
theorem place1 (i) : packed z x0 x1 x2 x3 x4 x5 x6 x7 (pos (spot 768 i)) = x1 i :=
  place _ _ z 1 (by simp) 768 1536 1 1536 x1 _ rfl rfl rfl (by decide) i
theorem place2 (i) : packed z x0 x1 x2 x3 x4 x5 x6 x7 (pos (spot 2304 i)) = x2 i :=
  place _ _ z 2 (by simp) 2304 1024 1 1024 x2 _ rfl rfl rfl (by decide) i
theorem place3 (i) : packed z x0 x1 x2 x3 x4 x5 x6 x7 (pos (spot 3328 i)) = x3 i :=
  place _ _ z 3 (by simp) 3328 1024 1 1024 x3 _ rfl rfl rfl (by decide) i
theorem place4 (i) : packed z x0 x1 x2 x3 x4 x5 x6 x7 (pos (spot 4352 i)) = x4 i :=
  place _ _ z 4 (by simp) 4352 1024 1 1024 x4 _ rfl rfl rfl (by decide) i
theorem place5 (i) : packed z x0 x1 x2 x3 x4 x5 x6 x7 (pos (spot 5376 i)) = x5 i :=
  place _ _ z 5 (by simp) 5376 16 1 16 x5 _ rfl (by simp) rfl (by decide) i
theorem place6 (i) : packed z x0 x1 x2 x3 x4 x5 x6 x7 (pos (spot 5392 i)) = x6 i :=
  place _ _ z 6 (by simp) 5392 16 1 16 x6 _ rfl (by simp) rfl (by decide) i
theorem place7 (i) : packed z x0 x1 x2 x3 x4 x5 x6 x7 (pos (spot 5408 i)) = x7 i :=
  place _ _ z 7 (by simp) 5408 16 1 16 x7 _ rfl (by simp) rfl (by decide) i

end Places

variable (m : (ℓ : Loc nD τ sig) → Buf (Elt Ideal) ℓ) (ρ : Dev nD → PrngReg)

/-! ## The arrays as the call finds them -/

/-- The eight weights packed, then their gradients and both moments. -/
abbrev packW (c : Dev nD) : S48x128.Idx → EReal :=
  packed (sitofp (F := Ideal) .f32 (constantI S_ 32 0#32)) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
abbrev packG (c : Dev nD) : S48x128.Idx → EReal :=
  packed (sitofp (F := Ideal) .f32 (constantI S_ 32 0#32)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
abbrev packM (c : Dev nD) : S48x128.Idx → EReal :=
  packed (sitofp (F := Ideal) .f32 (constantI S_ 32 0#32)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) (m ((c : Thread nD τ).loc main_arg22)) (m ((c : Thread nD τ).loc main_arg23))
abbrev packV (c : Dev nD) : S48x128.Idx → EReal :=
  packed (constant (F := Ideal) S_ .f32 0x3F800000#32) (m ((c : Thread nD τ).loc main_arg24)) (m ((c : Thread nD τ).loc main_arg25))
    (m ((c : Thread nD τ).loc main_arg26)) (m ((c : Thread nD τ).loc main_arg27)) (m ((c : Thread nD τ).loc main_arg28))
    (m ((c : Thread nD τ).loc main_arg29)) (m ((c : Thread nD τ).loc main_arg30)) (m ((c : Thread nD τ).loc main_arg31))

theorem found0 (c : Dev nD) : V m c main_v10 = packW m c := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl
theorem found1 (c : Dev nD) : V m c main_v21 = packG m c := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl
theorem found2 (c : Dev nD) : V m c main_v32 = packM m c := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl
theorem found3 (c : Dev nD) : V m c main_v43 = packV m c := by
  unfold V V0
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem idx0 : ∀ t : Fin grid0.N, ∀ a, win0_0.index t a = 0 := by decide +kernel
theorem idx1 : ∀ t : Fin grid0.N, ∀ a, win0_1.index t a = 0 := by decide +kernel
theorem idx2 : ∀ t : Fin grid0.N, ∀ a, win0_2.index t a = 0 := by decide +kernel
theorem idx3 : ∀ t : Fin grid0.N, ∀ a, win0_3.index t a = 0 := by decide +kernel
theorem idx4 : ∀ t : Fin grid0.N, ∀ a, win0_4.index t a = 0 := by decide +kernel
theorem idx5 : ∀ t : Fin grid0.N, ∀ a, win0_5.index t a = 0 := by decide +kernel
theorem idx6 : ∀ t : Fin grid0.N, ∀ a, win0_6.index t a = 0 := by decide +kernel

theorem blk0 (c : Dev nD) (t : Fin cfg0.N) : (iblk m c 0 t : S48x128.Idx → EReal) = packW m c := by
  funext y
  unfold iblk
  rw [View.read_apply]
  refine (congrFun (found0 m c) _).trans (congrArg (packW m c) (funext fun a => Fin.ext ?_))
  show win0_0.index t a * S48x128.size a + 1 * (y a).val = (y a).val
  rw [idx0 t a]; omega
theorem blk1 (c : Dev nD) (t : Fin cfg0.N) : (iblk m c 1 t : S48x128.Idx → EReal) = packG m c := by
  funext y
  unfold iblk
  rw [View.read_apply]
  refine (congrFun (found1 m c) _).trans (congrArg (packG m c) (funext fun a => Fin.ext ?_))
  show win0_1.index t a * S48x128.size a + 1 * (y a).val = (y a).val
  rw [idx1 t a]; omega
theorem blk2 (c : Dev nD) (t : Fin cfg0.N) : (iblk m c 2 t : S48x128.Idx → EReal) = packM m c := by
  funext y
  unfold iblk
  rw [View.read_apply]
  refine (congrFun (found2 m c) _).trans (congrArg (packM m c) (funext fun a => Fin.ext ?_))
  show win0_2.index t a * S48x128.size a + 1 * (y a).val = (y a).val
  rw [idx2 t a]; omega
theorem blk3 (c : Dev nD) (t : Fin cfg0.N) : (iblk m c 3 t : S48x128.Idx → EReal) = packV m c := by
  funext y
  unfold iblk
  rw [View.read_apply]
  refine (congrFun (found3 m c) _).trans (congrArg (packV m c) (funext fun a => Fin.ext ?_))
  show win0_3.index t a * S48x128.size a + 1 * (y a).val = (y a).val
  rw [idx3 t a]; omega

/-! ## The call -/

/-- Element by element, what is added to the weight, the new first moment and the new second moment. -/
def stepOf {s : Shape} (w g u v : s.Idx → EReal) : s.Idx → EReal := fun i => step (w i) (mom (u i) (g i)) (vel (v i) (g i))
def momOf {s : Shape} (g u : s.Idx → EReal) : s.Idx → EReal := fun i => mom (u i) (g i)
def velOf {s : Shape} (g v : s.Idx → EReal) : s.Idx → EReal := fun i => vel (v i) (g i)

section Block
variable (w g u v : S48x128.Idx → EReal)

theorem out5_eq : (out0_5 (F := Ideal) w g u v : S48x128.Idx → EReal) = momOf g u := by
  unfold out0_5
  rw [View.canon_unit_zero (S := S48x128) (by decide)]
  unfold k0_pay2 k0_pay1
  dsimp only
  rw [shapeCast_self, shapeCast_self, View.ld_unit_zero (S := S48x128) (by decide), View.ld_unit_zero (S := S48x128) (by decide)]
  rfl

theorem out6_eq : (out0_6 (F := Ideal) w g u v : S48x128.Idx → EReal) = velOf g v := by
  unfold out0_6
  rw [View.canon_unit_zero (S := S48x128) (by decide)]
  unfold k0_pay3 k0_pay1
  dsimp only
  rw [shapeCast_self, shapeCast_self, View.ld_unit_zero (S := S48x128) (by decide), View.ld_unit_zero (S := S48x128) (by decide)]
  rfl

theorem out4_eq : (out0_4 (F := Ideal) w g u v : S48x128.Idx → EReal) = stepOf w g u v := by
  unfold out0_4
  rw [View.canon_unit_zero (S := S48x128) (by decide)]
  unfold k0_pay4 k0_pay2 k0_pay3 k0_pay1
  dsimp only
  rw [shapeCast_self, shapeCast_self, shapeCast_self, shapeCast_self, View.ld_unit_zero (S := S48x128) (by decide),
    View.ld_unit_zero (S := S48x128) (by decide), View.ld_unit_zero (S := S48x128) (by decide),
    View.ld_unit_zero (S := S48x128) (by decide)]
  rfl

end Block

/-- The three packed results. -/
abbrev g4 (c : Dev nD) : S48x128.Idx → EReal := stepOf (packW m c) (packG m c) (packM m c) (packV m c)
abbrev g5 (c : Dev nD) : S48x128.Idx → EReal := momOf (packG m c) (packM m c)
abbrev g6 (c : Dev nD) : S48x128.Idx → EReal := velOf (packG m c) (packV m c)

/-- The call's only point. -/
def point : Fin cfg0.N := ⟨0, by decide⟩

theorem flushed4_eq (c : Dev nD) (t : Fin cfg0.N) (hf : (cfg0.win 4).flush t = true) :
    (dats m 0 c).flushed 4 t = ((cfg0.win 4).blk t).view.read (Elt Ideal) (g4 m c) := by
  refine (after0_4 m c t).trans ?_
  rw [blk0, blk1, blk2, blk3, out4_eq]
  funext y
  rw [View.read_apply]
  refine congrArg (g4 m c) (funext fun a => Fin.ext ?_)
  show (y a).val = win0_4.index t a * S48x128.size a + 1 * (y a).val
  rw [idx4 t a]; omega
theorem final4 (c : Dev nD) : (dats m 0 c).arrAt 4 cfg0.N = g4 m c :=
  (dats m 0 c).arrAt_eq_of_cover 4 (g4 m c) (flushed4_eq m c) fun i => by
    refine ⟨point, flush0_4 _, ?_⟩
    show i ∈ ((View.whole main_v44_0).slice (win0_4.rect point)).set
    rw [View.set_slice_whole, Rect.mem_set_unit]
    intro a
    have hi := (i a).isLt
    show win0_4.index point a * S48x128.size a ≤ (i a : Nat) ∧ (i a : Nat) < win0_4.index point a * S48x128.size a + S48x128.size a
    rw [idx4 point a]
    exact ⟨by omega, by rw [Nat.zero_mul, Nat.zero_add]; exact hi⟩
theorem flushed5_eq (c : Dev nD) (t : Fin cfg0.N) (hf : (cfg0.win 5).flush t = true) :
    (dats m 0 c).flushed 5 t = ((cfg0.win 5).blk t).view.read (Elt Ideal) (g5 m c) := by
  refine (after0_5 m c t).trans ?_
  rw [blk0, blk1, blk2, blk3, out5_eq]
  funext y
  rw [View.read_apply]
  refine congrArg (g5 m c) (funext fun a => Fin.ext ?_)
  show (y a).val = win0_5.index t a * S48x128.size a + 1 * (y a).val
  rw [idx5 t a]; omega
theorem final5 (c : Dev nD) : (dats m 0 c).arrAt 5 cfg0.N = g5 m c :=
  (dats m 0 c).arrAt_eq_of_cover 5 (g5 m c) (flushed5_eq m c) fun i => by
    refine ⟨point, flush0_5 _, ?_⟩
    show i ∈ ((View.whole main_v44_1).slice (win0_5.rect point)).set
    rw [View.set_slice_whole, Rect.mem_set_unit]
    intro a
    have hi := (i a).isLt
    show win0_5.index point a * S48x128.size a ≤ (i a : Nat) ∧ (i a : Nat) < win0_5.index point a * S48x128.size a + S48x128.size a
    rw [idx5 point a]
    exact ⟨by omega, by rw [Nat.zero_mul, Nat.zero_add]; exact hi⟩
theorem flushed6_eq (c : Dev nD) (t : Fin cfg0.N) (hf : (cfg0.win 6).flush t = true) :
    (dats m 0 c).flushed 6 t = ((cfg0.win 6).blk t).view.read (Elt Ideal) (g6 m c) := by
  refine (after0_6 m c t).trans ?_
  rw [blk0, blk1, blk2, blk3, out6_eq]
  funext y
  rw [View.read_apply]
  refine congrArg (g6 m c) (funext fun a => Fin.ext ?_)
  show (y a).val = win0_6.index t a * S48x128.size a + 1 * (y a).val
  rw [idx6 t a]; omega
theorem final6 (c : Dev nD) : (dats m 0 c).arrAt 6 cfg0.N = g6 m c :=
  (dats m 0 c).arrAt_eq_of_cover 6 (g6 m c) (flushed6_eq m c) fun i => by
    refine ⟨point, flush0_6 _, ?_⟩
    show i ∈ ((View.whole main_v44_2).slice (win0_6.rect point)).set
    rw [View.set_slice_whole, Rect.mem_set_unit]
    intro a
    have hi := (i a).isLt
    show win0_6.index point a * S48x128.size a ≤ (i a : Nat) ∧ (i a : Nat) < win0_6.index point a * S48x128.size a + S48x128.size a
    rw [idx6 point a]
    exact ⟨by omega, by rw [Nat.zero_mul, Nat.zero_add]; exact hi⟩

/-! ## The cuts -/

/-- A weight's stretches of the packed steps and moments are the weight's own step and moments. -/
theorem own {o n a b : ℕ} {hs : S6144.Slices ![o] ⟨1, ![n]⟩} {hc : (⟨1, ![n]⟩ : Shape).ShapeCasts ⟨2, ![a, b]⟩}
    (hn : n = a * b) (ho : o + n ≤ 6144) {pw pg pu pv : S48x128.Idx → EReal} {w g u v : (⟨2, ![a, b]⟩ : Shape).Idx → EReal}
    (hw : ∀ i, pw (pos (spot o i)) = w i) (hg : ∀ i, pg (pos (spot o i)) = g i) (hu : ∀ i, pu (pos (spot o i)) = u i)
    (hv : ∀ i, pv (pos (spot o i)) = v i) :
    cut o n a b hs hc (stepOf pw pg pu pv) = stepOf w g u v ∧ cut o n a b hs hc (momOf pg pu) = momOf g u
      ∧ cut o n a b hs hc (velOf pg pv) = velOf g v := by
  refine ⟨funext fun i => ?_, funext fun i => ?_, funext fun i => ?_⟩ <;> rw [cut_at o n a b hs hc hn ho _ i]
  · unfold stepOf; rw [hw, hg, hu, hv]
  · unfold momOf; rw [hg, hu]
  · unfold velOf; rw [hg, hv]

/-! ## The run -/

/-- The device's buffers as the call leaves them. -/
abbrev W (c : Dev nD) : Valuation τ sig (Elt Ideal) := Pipeline.withArrays spec0 c (V0 m c) fun w => (dats m 0 c).arrAt w cfg0.N

/-- The host's cuts of the packed steps. -/
theorem tail0 (c : Dev nD) :
    StableHlo.after hostOps1 (W m c) (Proc.devRef .tc main_v47) = cut 0 768 4 192 slices_S6144_S768_0 shapeCasts_S768_S4x192 (g4 m c)
    ∧ StableHlo.after hostOps1 (W m c) (Proc.devRef .tc main_v49) = cut 768 1536 1 1536 slices_S6144_S1536_768 shapeCasts_S1536_S1x1536 (g4 m c)
    ∧ StableHlo.after hostOps1 (W m c) (Proc.devRef .tc main_v51) = cut 2304 1024 1 1024 slices_S6144_S1024_2304 shapeCasts_S1024_S1x1024 (g4 m c)
    ∧ StableHlo.after hostOps1 (W m c) (Proc.devRef .tc main_v53) = cut 3328 1024 1 1024 slices_S6144_S1024_3328 shapeCasts_S1024_S1x1024 (g4 m c)
    ∧ StableHlo.after hostOps1 (W m c) (Proc.devRef .tc main_v55) = cut 4352 1024 1 1024 slices_S6144_S1024_4352 shapeCasts_S1024_S1x1024 (g4 m c)
    ∧ StableHlo.after hostOps1 (W m c) (Proc.devRef .tc main_v57) = cut 5376 16 1 16 slices_S6144_S16_5376 shapeCasts_S16_S1x16 (g4 m c)
    ∧ StableHlo.after hostOps1 (W m c) (Proc.devRef .tc main_v59) = cut 5392 16 1 16 slices_S6144_S16_5392 shapeCasts_S16_S1x16 (g4 m c)
    ∧ StableHlo.after hostOps1 (W m c) (Proc.devRef .tc main_v61) = cut 5408 16 1 16 slices_S6144_S16_5408 shapeCasts_S16_S1x16 (g4 m c) := by
  have e : W m c (Proc.devRef .tc main_v44_0) = g4 m c := (Pipeline.withArrays_arr spec0 launch0.win.arr_inj c _ _ 4).trans (final4 m c)
  generalize W m c = X at e ⊢
  rw [← e]
  refine ⟨?_, ?_, ?_, ?_, ?_, ?_, ?_, ?_⟩ <;> · after_results; rfl

/-- The host's cuts of the packed new first moments. -/
theorem tail1 (c : Dev nD) :
    StableHlo.after hostOps1 (W m c) (Proc.devRef .tc main_v64) = cut 0 768 4 192 slices_S6144_S768_0 shapeCasts_S768_S4x192 (g5 m c)
    ∧ StableHlo.after hostOps1 (W m c) (Proc.devRef .tc main_v66) = cut 768 1536 1 1536 slices_S6144_S1536_768 shapeCasts_S1536_S1x1536 (g5 m c)
    ∧ StableHlo.after hostOps1 (W m c) (Proc.devRef .tc main_v68) = cut 2304 1024 1 1024 slices_S6144_S1024_2304 shapeCasts_S1024_S1x1024 (g5 m c)
    ∧ StableHlo.after hostOps1 (W m c) (Proc.devRef .tc main_v70) = cut 3328 1024 1 1024 slices_S6144_S1024_3328 shapeCasts_S1024_S1x1024 (g5 m c)
    ∧ StableHlo.after hostOps1 (W m c) (Proc.devRef .tc main_v72) = cut 4352 1024 1 1024 slices_S6144_S1024_4352 shapeCasts_S1024_S1x1024 (g5 m c)
    ∧ StableHlo.after hostOps1 (W m c) (Proc.devRef .tc main_v74) = cut 5376 16 1 16 slices_S6144_S16_5376 shapeCasts_S16_S1x16 (g5 m c)
    ∧ StableHlo.after hostOps1 (W m c) (Proc.devRef .tc main_v76) = cut 5392 16 1 16 slices_S6144_S16_5392 shapeCasts_S16_S1x16 (g5 m c)
    ∧ StableHlo.after hostOps1 (W m c) (Proc.devRef .tc main_v78) = cut 5408 16 1 16 slices_S6144_S16_5408 shapeCasts_S16_S1x16 (g5 m c) := by
  have e : W m c (Proc.devRef .tc main_v44_1) = g5 m c := (Pipeline.withArrays_arr spec0 launch0.win.arr_inj c _ _ 5).trans (final5 m c)
  generalize W m c = X at e ⊢
  rw [← e]
  refine ⟨?_, ?_, ?_, ?_, ?_, ?_, ?_, ?_⟩ <;> · after_results; rfl

/-- The host's cuts of the packed new second moments. -/
theorem tail2 (c : Dev nD) :
    StableHlo.after hostOps1 (W m c) (Proc.devRef .tc main_v81) = cut 0 768 4 192 slices_S6144_S768_0 shapeCasts_S768_S4x192 (g6 m c)
    ∧ StableHlo.after hostOps1 (W m c) (Proc.devRef .tc main_v83) = cut 768 1536 1 1536 slices_S6144_S1536_768 shapeCasts_S1536_S1x1536 (g6 m c)
    ∧ StableHlo.after hostOps1 (W m c) (Proc.devRef .tc main_v85) = cut 2304 1024 1 1024 slices_S6144_S1024_2304 shapeCasts_S1024_S1x1024 (g6 m c)
    ∧ StableHlo.after hostOps1 (W m c) (Proc.devRef .tc main_v87) = cut 3328 1024 1 1024 slices_S6144_S1024_3328 shapeCasts_S1024_S1x1024 (g6 m c)
    ∧ StableHlo.after hostOps1 (W m c) (Proc.devRef .tc main_v89) = cut 4352 1024 1 1024 slices_S6144_S1024_4352 shapeCasts_S1024_S1x1024 (g6 m c)
    ∧ StableHlo.after hostOps1 (W m c) (Proc.devRef .tc main_v91) = cut 5376 16 1 16 slices_S6144_S16_5376 shapeCasts_S16_S1x16 (g6 m c)
    ∧ StableHlo.after hostOps1 (W m c) (Proc.devRef .tc main_v93) = cut 5392 16 1 16 slices_S6144_S16_5392 shapeCasts_S16_S1x16 (g6 m c)
    ∧ StableHlo.after hostOps1 (W m c) (Proc.devRef .tc main_v95) = cut 5408 16 1 16 slices_S6144_S16_5408 shapeCasts_S16_S1x16 (g6 m c) := by
  have e : W m c (Proc.devRef .tc main_v44_2) = g6 m c := (Pipeline.withArrays_arr spec0 launch0.win.arr_inj c _ _ 6).trans (final6 m c)
  generalize W m c = X at e ⊢
  rw [← e]
  refine ⟨?_, ?_, ?_, ?_, ?_, ?_, ?_, ?_⟩ <;> · after_results; rfl

/-- Every execution ends with the results the weights' own steps and moments, and the arguments as they were launched. -/
theorem ends : θ_run defs (onTc (τ := τ) (main (F := Ideal))) ⟨m, fun _ => 0, ρ⟩ fun r => ∀ c : Dev nD,
    r.2.mem ((c : Thread nD τ).loc main_v47) = stepOf (s := S4x192) (m ((c : Thread nD τ).loc main_arg0)) (m ((c : Thread nD τ).loc main_arg8)) (m ((c : Thread nD τ).loc main_arg16)) (m ((c : Thread nD τ).loc main_arg24))
    ∧ r.2.mem ((c : Thread nD τ).loc main_v49) = stepOf (s := S1x1536) (m ((c : Thread nD τ).loc main_arg1)) (m ((c : Thread nD τ).loc main_arg9)) (m ((c : Thread nD τ).loc main_arg17)) (m ((c : Thread nD τ).loc main_arg25))
    ∧ r.2.mem ((c : Thread nD τ).loc main_v51) = stepOf (s := S1x1024) (m ((c : Thread nD τ).loc main_arg2)) (m ((c : Thread nD τ).loc main_arg10)) (m ((c : Thread nD τ).loc main_arg18)) (m ((c : Thread nD τ).loc main_arg26))
    ∧ r.2.mem ((c : Thread nD τ).loc main_v53) = stepOf (s := S1x1024) (m ((c : Thread nD τ).loc main_arg3)) (m ((c : Thread nD τ).loc main_arg11)) (m ((c : Thread nD τ).loc main_arg19)) (m ((c : Thread nD τ).loc main_arg27))
    ∧ r.2.mem ((c : Thread nD τ).loc main_v55) = stepOf (s := S1x1024) (m ((c : Thread nD τ).loc main_arg4)) (m ((c : Thread nD τ).loc main_arg12)) (m ((c : Thread nD τ).loc main_arg20)) (m ((c : Thread nD τ).loc main_arg28))
    ∧ r.2.mem ((c : Thread nD τ).loc main_v57) = stepOf (s := S1x16) (m ((c : Thread nD τ).loc main_arg5)) (m ((c : Thread nD τ).loc main_arg13)) (m ((c : Thread nD τ).loc main_arg21)) (m ((c : Thread nD τ).loc main_arg29))
    ∧ r.2.mem ((c : Thread nD τ).loc main_v59) = stepOf (s := S1x16) (m ((c : Thread nD τ).loc main_arg6)) (m ((c : Thread nD τ).loc main_arg14)) (m ((c : Thread nD τ).loc main_arg22)) (m ((c : Thread nD τ).loc main_arg30))
    ∧ r.2.mem ((c : Thread nD τ).loc main_v61) = stepOf (s := S1x16) (m ((c : Thread nD τ).loc main_arg7)) (m ((c : Thread nD τ).loc main_arg15)) (m ((c : Thread nD τ).loc main_arg23)) (m ((c : Thread nD τ).loc main_arg31))
    ∧ r.2.mem ((c : Thread nD τ).loc main_v64) = momOf (s := S4x192) (m ((c : Thread nD τ).loc main_arg8)) (m ((c : Thread nD τ).loc main_arg16))
    ∧ r.2.mem ((c : Thread nD τ).loc main_v66) = momOf (s := S1x1536) (m ((c : Thread nD τ).loc main_arg9)) (m ((c : Thread nD τ).loc main_arg17))
    ∧ r.2.mem ((c : Thread nD τ).loc main_v68) = momOf (s := S1x1024) (m ((c : Thread nD τ).loc main_arg10)) (m ((c : Thread nD τ).loc main_arg18))
    ∧ r.2.mem ((c : Thread nD τ).loc main_v70) = momOf (s := S1x1024) (m ((c : Thread nD τ).loc main_arg11)) (m ((c : Thread nD τ).loc main_arg19))
    ∧ r.2.mem ((c : Thread nD τ).loc main_v72) = momOf (s := S1x1024) (m ((c : Thread nD τ).loc main_arg12)) (m ((c : Thread nD τ).loc main_arg20))
    ∧ r.2.mem ((c : Thread nD τ).loc main_v74) = momOf (s := S1x16) (m ((c : Thread nD τ).loc main_arg13)) (m ((c : Thread nD τ).loc main_arg21))
    ∧ r.2.mem ((c : Thread nD τ).loc main_v76) = momOf (s := S1x16) (m ((c : Thread nD τ).loc main_arg14)) (m ((c : Thread nD τ).loc main_arg22))
    ∧ r.2.mem ((c : Thread nD τ).loc main_v78) = momOf (s := S1x16) (m ((c : Thread nD τ).loc main_arg15)) (m ((c : Thread nD τ).loc main_arg23))
    ∧ r.2.mem ((c : Thread nD τ).loc main_v81) = velOf (s := S4x192) (m ((c : Thread nD τ).loc main_arg8)) (m ((c : Thread nD τ).loc main_arg24))
    ∧ r.2.mem ((c : Thread nD τ).loc main_v83) = velOf (s := S1x1536) (m ((c : Thread nD τ).loc main_arg9)) (m ((c : Thread nD τ).loc main_arg25))
    ∧ r.2.mem ((c : Thread nD τ).loc main_v85) = velOf (s := S1x1024) (m ((c : Thread nD τ).loc main_arg10)) (m ((c : Thread nD τ).loc main_arg26))
    ∧ r.2.mem ((c : Thread nD τ).loc main_v87) = velOf (s := S1x1024) (m ((c : Thread nD τ).loc main_arg11)) (m ((c : Thread nD τ).loc main_arg27))
    ∧ r.2.mem ((c : Thread nD τ).loc main_v89) = velOf (s := S1x1024) (m ((c : Thread nD τ).loc main_arg12)) (m ((c : Thread nD τ).loc main_arg28))
    ∧ r.2.mem ((c : Thread nD τ).loc main_v91) = velOf (s := S1x16) (m ((c : Thread nD τ).loc main_arg13)) (m ((c : Thread nD τ).loc main_arg29))
    ∧ r.2.mem ((c : Thread nD τ).loc main_v93) = velOf (s := S1x16) (m ((c : Thread nD τ).loc main_arg14)) (m ((c : Thread nD τ).loc main_arg30))
    ∧ r.2.mem ((c : Thread nD τ).loc main_v95) = velOf (s := S1x16) (m ((c : Thread nD τ).loc main_arg15)) (m ((c : Thread nD τ).loc main_arg31))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28)
    ∧ r.2.mem ((c : Thread nD τ).loc main_arg29) = m ((c : Thread nD τ).loc main_arg29)
    ∧ r.2.mem ((c : Thread nD τ).loc main_arg30) = m ((c : Thread nD τ).loc main_arg30)
    ∧ r.2.mem ((c : Thread nD τ).loc main_arg31) = m ((c : Thread nD τ).loc main_arg31) :=
  (θ_run defs _ _).mono (fun r h c => by
    obtain ⟨t47, t49, t51, t53, t55, t57, t59, t61⟩ := tail0 m c
    obtain ⟨t64, t66, t68, t70, t72, t74, t76, t78⟩ := tail1 m c
    obtain ⟨t81, t83, t85, t87, t89, t91, t93, t95⟩ := tail2 m c
    obtain ⟨a0, b0, d0⟩ := own (hs := slices_S6144_S768_0) (hc := shapeCasts_S768_S4x192) rfl (by decide) (pw := packW m c) (pg := packG m c)
      (pu := packM m c) (pv := packV m c) place0 place0 place0 place0
    obtain ⟨a1, b1, d1⟩ := own (hs := slices_S6144_S1536_768) (hc := shapeCasts_S1536_S1x1536) rfl (by decide) (pw := packW m c) (pg := packG m c)
      (pu := packM m c) (pv := packV m c) place1 place1 place1 place1
    obtain ⟨a2, b2, d2⟩ := own (hs := slices_S6144_S1024_2304) (hc := shapeCasts_S1024_S1x1024) rfl (by decide) (pw := packW m c) (pg := packG m c)
      (pu := packM m c) (pv := packV m c) place2 place2 place2 place2
    obtain ⟨a3, b3, d3⟩ := own (hs := slices_S6144_S1024_3328) (hc := shapeCasts_S1024_S1x1024) rfl (by decide) (pw := packW m c) (pg := packG m c)
      (pu := packM m c) (pv := packV m c) place3 place3 place3 place3
    obtain ⟨a4, b4, d4⟩ := own (hs := slices_S6144_S1024_4352) (hc := shapeCasts_S1024_S1x1024) rfl (by decide) (pw := packW m c) (pg := packG m c)
      (pu := packM m c) (pv := packV m c) place4 place4 place4 place4
    obtain ⟨a5, b5, d5⟩ := own (hs := slices_S6144_S16_5376) (hc := shapeCasts_S16_S1x16) rfl (by decide) (pw := packW m c) (pg := packG m c)
      (pu := packM m c) (pv := packV m c) place5 place5 place5 place5
    obtain ⟨a6, b6, d6⟩ := own (hs := slices_S6144_S16_5392) (hc := shapeCasts_S16_S1x16) rfl (by decide) (pw := packW m c) (pg := packG m c)
      (pu := packM m c) (pv := packV m c) place6 place6 place6 place6
    obtain ⟨a7, b7, d7⟩ := own (hs := slices_S6144_S16_5408) (hc := shapeCasts_S16_S1x16) rfl (by decide) (pw := packW m c) (pg := packG m c)
      (pu := packM m c) (pv := packV m c) place7 place7 place7 place7
    have k := (h.1 c).2
    exact ⟨(k main_v47 (Pipeline.mem_restRefs_of main_v47 (by decide) (by decide))).trans (t47.trans a0),
      (k main_v49 (Pipeline.mem_restRefs_of main_v49 (by decide) (by decide))).trans (t49.trans a1),
      (k main_v51 (Pipeline.mem_restRefs_of main_v51 (by decide) (by decide))).trans (t51.trans a2),
      (k main_v53 (Pipeline.mem_restRefs_of main_v53 (by decide) (by decide))).trans (t53.trans a3),
      (k main_v55 (Pipeline.mem_restRefs_of main_v55 (by decide) (by decide))).trans (t55.trans a4),
      (k main_v57 (Pipeline.mem_restRefs_of main_v57 (by decide) (by decide))).trans (t57.trans a5),
      (k main_v59 (Pipeline.mem_restRefs_of main_v59 (by decide) (by decide))).trans (t59.trans a6),
      (k main_v61 (Pipeline.mem_restRefs_of main_v61 (by decide) (by decide))).trans (t61.trans a7),
      (k main_v64 (Pipeline.mem_restRefs_of main_v64 (by decide) (by decide))).trans (t64.trans b0),
      (k main_v66 (Pipeline.mem_restRefs_of main_v66 (by decide) (by decide))).trans (t66.trans b1),
      (k main_v68 (Pipeline.mem_restRefs_of main_v68 (by decide) (by decide))).trans (t68.trans b2),
      (k main_v70 (Pipeline.mem_restRefs_of main_v70 (by decide) (by decide))).trans (t70.trans b3),
      (k main_v72 (Pipeline.mem_restRefs_of main_v72 (by decide) (by decide))).trans (t72.trans b4),
      (k main_v74 (Pipeline.mem_restRefs_of main_v74 (by decide) (by decide))).trans (t74.trans b5),
      (k main_v76 (Pipeline.mem_restRefs_of main_v76 (by decide) (by decide))).trans (t76.trans b6),
      (k main_v78 (Pipeline.mem_restRefs_of main_v78 (by decide) (by decide))).trans (t78.trans b7),
      (k main_v81 (Pipeline.mem_restRefs_of main_v81 (by decide) (by decide))).trans (t81.trans d0),
      (k main_v83 (Pipeline.mem_restRefs_of main_v83 (by decide) (by decide))).trans (t83.trans d1),
      (k main_v85 (Pipeline.mem_restRefs_of main_v85 (by decide) (by decide))).trans (t85.trans d2),
      (k main_v87 (Pipeline.mem_restRefs_of main_v87 (by decide) (by decide))).trans (t87.trans d3),
      (k main_v89 (Pipeline.mem_restRefs_of main_v89 (by decide) (by decide))).trans (t89.trans d4),
      (k main_v91 (Pipeline.mem_restRefs_of main_v91 (by decide) (by decide))).trans (t91.trans d5),
      (k main_v93 (Pipeline.mem_restRefs_of main_v93 (by decide) (by decide))).trans (t93.trans d6),
      (k main_v95 (Pipeline.mem_restRefs_of main_v95 (by decide) (by decide))).trans (t95.trans d7), h.2 c⟩)
    (θ_run_and (run_main m ρ) (unchanged m ρ))

end Cert.Proof.Small

end
-- ==== Proof.SmallRef.lean ====
/-
  THE OPTIMISER'S CALL FOR THE EIGHT SMALL WEIGHTS: the reference's twenty-four results, and that the kernel's are the same
  over the extended reals (`algebraic`). The reference takes each weight by itself; its three expressions are the same for
  every weight but for the shape, so each is read once, at any shape.
-/
module

public import proofs.«01_k».proof.Defs
public import proofs.«01_k».proof.Proof.Small
public import proofs.«01_k».proof.Proof.Gen.Reference7Ideal.Run

@[expose] public section

noncomputable section

open Idealize.ShloMosaic Idealize.ShloMosaic.TcCoe Idealize.SL.Sem Idealize.ShloMosaic.ValueIdx

namespace Cert.Proof.SmallRef

open Cert.Reference7Ideal Cert.Proof.Adam Cert.Proof.Small

section Value
variable {s : Shape} (h : S_.BroadcastsInDim s (![] : Fin 0 → Fin s.rank)) {w g u v w' g' u' v' : FVec Ideal s .f32}

/-- A constant at the weight's shape. -/
abbrev fill (b : BitVec 32) : FVec Ideal s .f32 := broadcastInDim s ![] h (constant (F := Ideal) S_ .f32 b)

/-- The reference's new first moment. -/
abbrev firstOf (g u : FVec Ideal s .f32) : FVec Ideal s .f32 := addf (mulf (fill h 0x3F666666#32) u) (mulf (fill h 0x3DCCCCCD#32) g)
/-- The reference's new second moment. -/
abbrev secondOf (g v : FVec Ideal s .f32) : FVec Ideal s .f32 :=
  addf (mulf (fill h 0x3F7FBE77#32) v) (mulf (fill h 0x3A83126F#32) (mulf g g))
/-- What the reference adds to the weight. -/
abbrev deltaOf (w g u v : FVec Ideal s .f32) : FVec Ideal s .f32 :=
  mulf (fill h 0xBA83126F#32)
    (addf (Host.divf (Host.divf (firstOf h g u) (fill h 0x3F26BD02#32))
        (addf (Host.sqrt (Host.divf (secondOf h g v) (fill h 0x3C231ACC#32))) (fill h 0x322BCC77#32)))
      (mulf (fill h 0x3C23D70A#32) w))

theorem firstOf_eq (eg : g = g') (eu : u = u') : firstOf h g u = momOf g' u' := by
  subst eg eu
  rfl
theorem secondOf_eq (eg : g = g') (ev : v = v') : secondOf h g v = velOf g' v' := by
  subst eg ev
  rfl
theorem deltaOf_eq (ew : w = w') (eg : g = g') (eu : u = u') (ev : v = v') : deltaOf h w g u v = stepOf w' g' u' v' := by
  subst ew eg eu ev
  rfl

end Value

/-- Over the extended reals the kernel's results are the reference's. -/
theorem algebraic (hK : Cert.Kernel7Ideal.Facts) (hR : Cert.Reference7Ideal.Facts) :
    Cert.algebraic_Kernel7Ideal_Reference7Ideal (hKernel7Ideal := hK) (hReference7Ideal := hR) := by
  intro m g m' g' _ hargs
  refine ⟨_, _, _, _, _, _, _, _, _, _, _, _, _, _, _, _, _, _, _, _, _, _, _, _, ends m g, ?_⟩
  refine (θ_run _ _ _).mono (fun r h c => ?_) (Cert.Reference7Ideal.Value.run m' g')
  obtain ⟨e0, e1, e2, e3, e4, e5, e6, e7, e8, e9, e10, e11, e12, e13, e14, e15, e16, e17, e18, e19, e20, e21, e22, e23, e24, e25, e26, e27, e28, e29, e30, e31⟩ := hargs c
  obtain ⟨r23, r47, r71, r95, r119, r143, r167, r191, r4, r28, r52, r76, r100, r124, r148, r172, r10, r34, r58, r82, r106, r130, r154, r178, k⟩ := h c
  exact ⟨r23.trans (deltaOf_eq _ e0 e8 e16 e24), r47.trans (deltaOf_eq _ e1 e9 e17 e25),
    r71.trans (deltaOf_eq _ e2 e10 e18 e26), r95.trans (deltaOf_eq _ e3 e11 e19 e27),
    r119.trans (deltaOf_eq _ e4 e12 e20 e28), r143.trans (deltaOf_eq _ e5 e13 e21 e29),
    r167.trans (deltaOf_eq _ e6 e14 e22 e30), r191.trans (deltaOf_eq _ e7 e15 e23 e31),
    r4.trans (firstOf_eq _ e8 e16), r28.trans (firstOf_eq _ e9 e17),
    r52.trans (firstOf_eq _ e10 e18), r76.trans (firstOf_eq _ e11 e19),
    r100.trans (firstOf_eq _ e12 e20), r124.trans (firstOf_eq _ e13 e21),
    r148.trans (firstOf_eq _ e14 e22), r172.trans (firstOf_eq _ e15 e23),
    r10.trans (secondOf_eq _ e8 e24), r34.trans (secondOf_eq _ e9 e25),
    r58.trans (secondOf_eq _ e10 e26), r82.trans (secondOf_eq _ e11 e27),
    r106.trans (secondOf_eq _ e12 e28), r130.trans (secondOf_eq _ e13 e29),
    r154.trans (secondOf_eq _ e14 e30), r178.trans (secondOf_eq _ e15 e31), k⟩

end Cert.Proof.SmallRef

end
-- ==== Proof.Total.lean ====
/-
  THE SUM OF THE DEVICES' SMALL GRADIENTS AND LOSSES (`Kernel8`): what the result array holds, over the extended reals.

  Eight devices' packed rows are added. Row 5 is then replaced by the sum of the pre-norm's rows, which come in an array of
  their own; the first two of the last eight rows are folded, 64 lanes to a head, by a product with a matrix of zeros and
  ones; and row 12 gets the loss, the sum of row 11 times a constant.
-/
module

public import proofs.«01_k».proof.Proof.Adam
public import proofs.«01_k».proof.Proof.Pieces
public import proofs.«01_k».proof.Proof.Gen.Kernel8Ideal.Frame

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Total

open Cert.Kernel8Ideal Cert.Kernel8Ideal.Gen Cert.Proof.Blocks Cert.Proof.Adam Cert.Proof.Pieces

/-- Eight shares of an element, added from the first to the last. -/
def eight {n m : ℕ} (x : (⟨3, ![8, n, m]⟩ : Shape).Idx → EReal) (a b : ℕ) : EReal :=
  rd3 x 0 a b + rd3 x 1 a b + rd3 x 2 a b + rd3 x 3 a b + rd3 x 4 a b + rd3 x 5 a b + rd3 x 6 a b + rd3 x 7 a b

/-! ## The matrix of zeros and ones -/

/-- The words' quotient by 64, rounded down as the body rounds it. -/
def quot (r : BitVec 32) : BitVec 32 :=
  Scalar.select
    (IntOp.andi
      (IntOp.cmpi .ne (IntOp.subi ((IntOp.cmpi .sgt r 0#32).setWidth 32) ((IntOp.cmpi .slt r 0#32).setWidth 32))
        (Scalar.subi (Scalar.extui (Scalar.cmpi .sgt 64#32 0#32)) (Scalar.extui (Scalar.cmpi .slt 64#32 0#32))))
      (IntOp.cmpi .ne (IntOp.remsi .vector r 64#32) 0#32))
    (IntOp.subi (IntOp.divsi .vector r 64#32) 1#32) (IntOp.divsi .vector r 64#32)

theorem quot_eq : ∀ r : Fin 1024, quot (BitVec.ofNat 32 r.val) = BitVec.ofNat 32 (r.val / 64) := by decide +kernel

/-- One where lane `k` is of head `b`. -/
def cell (k b : ℕ) : EReal := if k / 64 = b then 1 else 0

theorem cell_eq (k : Fin 1024) (b : ℕ) (hb : b < 128) :
    ((((IntOp.cmpi .eq (quot (BitVec.ofNat 32 k.val)) (BitVec.ofNat 32 b)).setWidth 32).toInt : ℝ) : EReal) = cell k.val b := by
  rw [quot_eq]
  unfold cell
  have hk := k.isLt
  by_cases h : k.val / 64 = b
  · rw [if_pos h, h]
    simp [IntOp.cmpi]
  · rw [if_neg h]
    have hne : (BitVec.ofNat 32 (k.val / 64) : BitVec 32) ≠ BitVec.ofNat 32 b := by
      intro e
      have e' := congrArg BitVec.toNat e
      rw [BitVec.toNat_ofNat, BitVec.toNat_ofNat, Nat.mod_eq_of_lt (by omega), Nat.mod_eq_of_lt (by omega)] at e'
      exact h e'
    simp [IntOp.cmpi, beq_eq_false_iff_ne.mpr hne]

abbrev D := dot_S8x1024_S1024x128_S8x128_1_0_0_1_n_n

theorem dl0 (j : S8x128.Idx) (q : D.contr.Idx) : (D.lhsIdx j q 0).val = (j 0).val := by
  unfold DotDims.lhsIdx
  rw [dif_neg (show ¬(0 : Fin S8x1024.rank) ∈ D.lhsBatch by decide), dif_pos (show (0 : Fin S8x1024.rank) ∈ D.lhsNonContracting by decide)]
  rfl
theorem dl1 (j : S8x128.Idx) (q : D.contr.Idx) : (D.lhsIdx j q 1).val = (q ⟨0, by decide⟩).val := D.lhsIdx_val_of_single rfl j q
theorem dr0 (j : S8x128.Idx) (q : D.contr.Idx) : (D.rhsIdx j q 0).val = (q ⟨0, by decide⟩).val := D.rhsIdx_val_of_single rfl j q
theorem dr1 (j : S8x128.Idx) (q : D.contr.Idx) : (D.rhsIdx j q 1).val = (j 1).val := by
  unfold DotDims.rhsIdx
  rw [dif_neg (show ¬(1 : Fin S1024x128.rank) ∈ D.rhsBatch by decide), dif_pos (show (1 : Fin S1024x128.rank) ∈ D.rhsNonContracting by decide)]
  rfl

/-- The product with the matrix, at one element. -/
theorem fold_at (A : S8x1024.Idx → EReal) (B : S1024x128.Idx → EReal) (j : S8x128.Idx) :
    (matmul (F := Ideal) (φ₁ := .f32) (φ₂ := .f32) D (some .fp32) A B (constant S8x128 .f32 0x00000000#32) j : EReal)
      = ∑ k : Fin 1024, rd A (j 0).val k.val * rd B k.val (j 1).val := by
  refine (Ideal.matmul_constant_zero_apply (φ₁ := .f32) (φ₂ := .f32) D (some .fp32) A B j).trans ?_
  rw [← Equiv.sum_comp (contrEquiv1 D 1024 rfl rfl).symm]
  refine Finset.sum_congr rfl fun k _ => ?_
  have hk := contrEquiv1_symm_val D 1024 rfl rfl k
  exact congrArg₂ (· * ·) (eq_rd A _ (dl0 _ _) ((dl1 _ _).trans hk)) (eq_rd B _ ((dr0 _ _).trans hk) (dr1 _ _))

/-! ## The pieces of the result -/

section Block
variable (x : S8x16x1536.Idx → EReal) (p : S8x8x1024.Idx → EReal)

/-- A layer of the packed rows, as the body reads it. -/
abbrev layX (q : ℕ) (h : ∀ a, (![q, 0, 0] : Fin 3 → ℕ) a + S1x16x1536.size a ≤ S8x16x1536.size a) : Vec Ideal S1x16x1536 .f32 :=
  fun z => x ((Rect.unit (s := S8x16x1536) ![q, 0, 0] S1x16x1536.size h).idx z)
/-- A layer of the pre-norm's rows. -/
abbrev layP (q : ℕ) (h : ∀ a, (![q, 0, 0] : Fin 3 → ℕ) a + S1x8x1024.size a ≤ S8x8x1024.size a) : Vec Ideal S1x8x1024 .f32 :=
  fun z => p ((Rect.unit (s := S8x8x1024) ![q, 0, 0] S1x8x1024.size h).idx z)

theorem layX_at (q : ℕ) (h) (y : S16x1536.Idx) :
    (shapeCast S16x1536 (layX x q h) shapeCasts_S1x16x1536_S16x1536 y : EReal) = rd3 x q (y 0).val (y 1).val := by
  refine (shapeCast_dropUnit_apply (α := EReal) ![16, 1536] (layX x q h) shapeCasts_S1x16x1536_S16x1536 y).trans ?_
  show x _ = _
  refine eq_rd3 x _ ?_ ?_ ?_
  · show q + 1 * 0 = _; omega
  · show 0 + 1 * (y 0).val = _; omega
  · show 0 + 1 * (y 1).val = _; omega
theorem layP_at (q : ℕ) (h) (y : S8x1024.Idx) :
    (shapeCast S8x1024 (layP p q h) shapeCasts_S1x8x1024_S8x1024 y : EReal) = rd3 p q (y 0).val (y 1).val := by
  refine (shapeCast_dropUnit_apply (α := EReal) ![8, 1024] (layP p q h) shapeCasts_S1x8x1024_S8x1024 y).trans ?_
  show p _ = _
  refine eq_rd3 p _ ?_ ?_ ?_
  · show q + 1 * 0 = _; omega
  · show 0 + 1 * (y 0).val = _; omega
  · show 0 + 1 * (y 1).val = _; omega

/-- The sum of the packed rows. -/
abbrev tot : FVec Ideal S16x1536 .f32 :=
  k0_pay4 (k0_pay2 (layX x 0 inb_S8x16x1536_S1x16x1536_0_0_0) (layX x 1 inb_S8x16x1536_S1x16x1536_1_0_0)
      (layX x 2 inb_S8x16x1536_S1x16x1536_2_0_0) (layX x 3 inb_S8x16x1536_S1x16x1536_3_0_0) (layX x 4 inb_S8x16x1536_S1x16x1536_4_0_0))
    (layX x 5 inb_S8x16x1536_S1x16x1536_5_0_0) (layX x 6 inb_S8x16x1536_S1x16x1536_6_0_0) (layX x 7 inb_S8x16x1536_S1x16x1536_7_0_0)
/-- The sum of the pre-norm's rows. -/
abbrev pre : FVec Ideal S1x1024 .f32 :=
  k0_pay5 (k0_pay3 (layP p 0 inb_S8x8x1024_S1x8x1024_0_0_0) (layP p 1 inb_S8x8x1024_S1x8x1024_1_0_0)
      (layP p 2 inb_S8x8x1024_S1x8x1024_2_0_0) (layP p 3 inb_S8x8x1024_S1x8x1024_3_0_0) (layP p 4 inb_S8x8x1024_S1x8x1024_4_0_0))
    (layP p 5 inb_S8x8x1024_S1x8x1024_5_0_0) (layP p 6 inb_S8x8x1024_S1x8x1024_6_0_0) (layP p 7 inb_S8x8x1024_S1x8x1024_7_0_0)

theorem tot_at (y : S16x1536.Idx) : (tot x y : EReal) = eight x (y 0).val (y 1).val := by
  unfold tot k0_pay4 k0_pay2
  dsimp only
  unfold eight
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;> exact layX_at x _ _ y

theorem pre_at (y : S1x1024.Idx) : (pre p y : EReal) = eight p 0 (y 1).val := by
  have h0 : (y 0).val = 0 := by have := idx2_lt0 y; omega
  unfold pre k0_pay5 k0_pay3
  dsimp only
  unfold eight
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
  · refine (layP_at p _ _ _).trans (congrArg₂ (rd3 p _) ?_ ?_)
    · show 0 + (y 0).val = 0; omega
    · show 0 + (y 1).val = _; omega

/-- The last eight rows' first 128 columns. -/
abbrev last : FVec Ideal S8x128 .f32 :=
  k0_pay1 (F := Ideal) (tot x) (iota .tc S1024x128 32 [0] iota_S1024x128_d0_w32) 64#32 k0_pay6 k0_pay7
    (Scalar.extui (Scalar.cmpi .sgt 64#32 0#32)) 0#32

/-- The result at a row and a column. -/
def res (a b : ℕ) : EReal :=
  if 8 ≤ a ∧ b < 128 then
    if a < 10 then ∑ k : Fin 1024, eight x a k.val * cell k.val b
    else if a = 12 then (∑ k : Fin 1024, eight x 11 k.val) * Ideal.ofBits .f32 0x3A000000#32
    else eight x a b
  else if a = 5 ∧ b < 1024 then eight p 0 b
  else eight x a b

theorem last_at (y : S8x128.Idx) : (last x y : EReal) = res x p (8 + (y 0).val) (y 1).val := by
  have h0 := idx2_lt0 y
  have h1 := idx2_lt1 y
  unfold res
  rw [if_pos ⟨by omega, h1⟩]
  unfold last k0_pay1
  dsimp only
  show Scalar.select (IntOp.cmpi .slt (BitVec.ofNat 32 (0 * 8 + (y 0).val)) 2#32) _
    (Scalar.select (IntOp.cmpi .eq (BitVec.ofNat 32 (0 * 8 + (y 0).val)) 4#32) _ _) = _
  have hs : ∀ r : Fin 8, (IntOp.cmpi .slt (BitVec.ofNat 32 (0 * 8 + r.val)) 2#32 = 1) ↔ 8 + r.val < 10 := by decide
  have he : ∀ r : Fin 8, (IntOp.cmpi .eq (BitVec.ofNat 32 (0 * 8 + r.val)) 4#32 = 1) ↔ 8 + r.val = 12 := by decide
  unfold Scalar.select
  refine ite_congr (propext (hs ⟨(y 0).val, h0⟩)) (fun _ => ?_) fun _ => ite_congr (propext (he ⟨(y 0).val, h0⟩)) (fun _ => ?_) fun _ => ?_
  · refine (fold_at _ _ y).trans (Finset.sum_congr rfl fun k _ => congrArg₂ (· * ·) ?_ ?_)
    · rw [rd_of_lt _ h0 k.isLt]
      refine (tot_at x _).trans (congrArg₂ (eight x) ?_ ?_)
      · rfl
      · show 0 + k.val = _; omega
    · rw [rd_of_lt _ k.isLt h1]
      refine Eq.trans ?_ (cell_eq k (y 1).val h1)
      show ((((IntOp.cmpi .eq (quot (BitVec.ofNat 32 (0 * 1024 + k.val))) (BitVec.ofNat 32 (0 * 128 + (y 1).val))).setWidth 32).toInt : ℝ) : EReal) = _
      simp only [Nat.zero_mul, Nat.zero_add]
  · rw [broadcastTo_apply _ broadcasts_S1x1_S8x128 y (ix2 0 0) fun a => by match a with | ⟨0, _⟩ => rfl | ⟨1, _⟩ => rfl, shapeCast_self]
    refine congrArg₂ (· * ·) ?_ rfl
    refine (rowsum (n := 1) (m := 1024) _ 0x00000000#32 reduces_S1x1024_S1 (.inl rfl) rfl shapeCasts_S1_S1x1 (ix2 0 0)).trans
      (Finset.sum_congr rfl fun k _ => ?_)
    rw [rd_of_lt _ (by decide) k.isLt]
    refine (tot_at x _).trans (congrArg₂ (eight x) ?_ ?_)
    · rfl
    · show 0 + k.val = _; omega
  · refine (tot_at x _).trans (congrArg₂ (eight x) ?_ ?_)
    · rfl
    · show 0 + (y 1).val = _; omega

/-- The three stores read back: the whole, row 5, and the last eight rows' first columns. -/
theorem read_at (y : S16x1536.Idx) :
    (View.canon (Val := Elt Ideal) [(⟨Rect.unit (s := S16x1536) ![8, 0] S8x128.size inb_S16x1536_S8x128_8_0, last x⟩ : View.Piece (Elt Ideal) S16x1536 .f32),
      (⟨Rect.unit (s := S16x1536) ![5, 0] S1x1024.size inb_S16x1536_S1x1024_5_0, pre p⟩ : View.Piece (Elt Ideal) S16x1536 .f32),
      (⟨Rect.unit (s := S16x1536) ![0, 0] S16x1536.size inb_S16x1536_S16x1536_0_0, tot x⟩ : View.Piece (Elt Ideal) S16x1536 .f32)] y : EReal)
      = res x p (y 0).val (y 1).val := by
  have h0 := idx2_lt0 y
  have h1 := idx2_lt1 y
  by_cases ha : 8 ≤ (y 0).val ∧ (y 1).val < 128
  · refine (canon_rows_in (Val := Elt Ideal) (e := .f32) (d := S16x1536.size) 8 inb_S16x1536_S8x128_8_0 (last x) _ y
      (ix2 ⟨(y 0).val - 8, by omega⟩ ⟨(y 1).val, ha.2⟩) (show (y 0).val = 8 + ((y 0).val - 8) by omega) rfl).trans ?_
    refine (last_at x p _).trans (congrArg₂ (res x p) ?_ rfl)
    show 8 + ((y 0).val - 8) = _
    omega
  · refine (View.canon_cons_of_not_mem _ _ ?_).trans ?_
    · show y ∉ (Rect.unit (s := S16x1536) ![8, 0] S8x128.size inb_S16x1536_S8x128_8_0).set
      rw [Rect.mem_set_unit]
      intro hall
      have g0 : 8 ≤ (y 0).val ∧ (y 0).val < 8 + 8 := hall 0
      have g1 : 0 ≤ (y 1).val ∧ (y 1).val < 0 + 128 := hall 1
      omega
    by_cases hb : (y 0).val = 5 ∧ (y 1).val < 1024
    · refine (canon_rows_in (Val := Elt Ideal) (e := .f32) (d := S16x1536.size) 5 inb_S16x1536_S1x1024_5_0 (pre p) _ y
        (ix2 ⟨0, Nat.one_pos⟩ ⟨(y 1).val, hb.2⟩) hb.1 rfl).trans ?_
      refine (pre_at p _).trans ?_
      unfold res
      rw [if_neg ha, if_pos hb]
    · refine (View.canon_cons_of_not_mem _ _ ?_).trans ?_
      · show y ∉ (Rect.unit (s := S16x1536) ![5, 0] S1x1024.size inb_S16x1536_S1x1024_5_0).set
        rw [Rect.mem_set_unit]
        intro hall
        have g0 : 5 ≤ (y 0).val ∧ (y 0).val < 5 + 1 := hall 0
        have g1 : 0 ≤ (y 1).val ∧ (y 1).val < 0 + 1024 := hall 1
        omega
      rw [View.canon_unit_zero (S := S16x1536) (by decide)]
      refine (tot_at x y).trans ?_
      unfold res
      rw [if_neg ha, if_neg hb]

end Block

/-- What the body leaves in the result's buffer. -/
theorem out_eq (c : Dev nD) (arg0 : Memref sig .tc .vmem S8x16x1536 .f32) (harg0 : arg0.IsWhole) (arg1 : Memref sig .tc .vmem S8x8x1024 .f32) (harg1 : arg1.IsWhole) (arg2 : Memref sig .tc .vmem S16x1536 .f32) (harg2 : arg2.IsWhole)
    (x : Vec Ideal S8x16x1536 .f32) (p : Vec Ideal S8x8x1024 .f32) :
    out0_A_2 c arg0 harg0 arg1 harg1 arg2 harg2 x p = fun y => res x p (y 0).val (y 1).val := by
  unfold out0_A_2
  rw [View.read_writes_eq_canon _ _ _ (cover0_A_2 c arg0 harg0 arg1 harg1 arg2 harg2 x p)]
  unfold kernelRun0_A
  dsimp only
  sl_unfold_words
  simp only [View.readAt_eq_ld, harg0.read_unread, harg1.read_unread]
  funext y
  exact read_at x p y

variable (m : (ℓ : Loc nD τ sig) → Buf (Elt Ideal) ℓ) (ρ : Dev nD → PrngReg)

/-! ## The run -/

abbrev A0 (c : Dev nD) : S8x16x1536.Idx → EReal := m ((c : Thread nD τ).loc main_arg0)
abbrev A1 (c : Dev nD) : S8x8x1024.Idx → EReal := m ((c : Thread nD τ).loc main_arg1)

/-- The result array. -/
def arr (c : Dev nD) : S16x1536.Idx → EReal := fun i => res (A0 m c) (A1 m c) (i 0).val (i 1).val

theorem idx0 : ∀ t : Fin grid0.N, ∀ a, win0_0.index t a = 0 := by decide +kernel
theorem idx1 : ∀ t : Fin grid0.N, ∀ a, win0_1.index t a = 0 := by decide +kernel
theorem idx2 : ∀ t : Fin grid0.N, ∀ a, win0_2.index t a = 0 := by decide +kernel

theorem blk0 (c : Dev nD) (t : Fin cfg0.N) : (iblk m c 0 t : S8x16x1536.Idx → EReal) = A0 m c := by
  funext y
  unfold iblk
  rw [View.read_apply]
  refine (congrFun (V_main_arg0 m c) _).trans (congrArg (A0 m c) (funext fun a => Fin.ext ?_))
  show win0_0.index t a * S8x16x1536.size a + 1 * (y a).val = (y a).val
  rw [idx0 t a]; omega
theorem blk1 (c : Dev nD) (t : Fin cfg0.N) : (iblk m c 1 t : S8x8x1024.Idx → EReal) = A1 m c := by
  funext y
  unfold iblk
  rw [View.read_apply]
  refine (congrFun (V_main_arg1 m c) _).trans (congrArg (A1 m c) (funext fun a => Fin.ext ?_))
  show win0_1.index t a * S8x8x1024.size a + 1 * (y a).val = (y a).val
  rw [idx1 t a]; omega

theorem flushed_eq (c : Dev nD) (t : Fin cfg0.N) (hf : (cfg0.win 2).flush t = true) :
    (dats m 0 c).flushed 2 t = ((cfg0.win 2).blk t).view.read (Elt Ideal) (arr m c) := by
  have e : (dats m 0 c).flushed 2 t = outsAt0 m c t := after0_2 m c t
  rw [e]
  unfold outsAt0
  rw [out_eq, blk0, blk1]
  funext y
  rw [View.read_apply]
  refine congrArg (arr m c) (funext fun a => Fin.ext ?_)
  show (y a).val = win0_2.index t a * S16x1536.size a + 1 * (y a).val
  rw [idx2 t a]; omega

/-- The call's only point. -/
def point : Fin cfg0.N := ⟨0, by decide⟩

theorem final (c : Dev nD) : (dats m 0 c).arrAt 2 cfg0.N = arr m c :=
  (dats m 0 c).arrAt_eq_of_cover 2 (arr m c) (flushed_eq m c) fun i => by
    refine ⟨point, flush0_2 _, ?_⟩
    show i ∈ ((View.whole main_v0).slice (win0_2.rect point)).set
    rw [View.set_slice_whole, Rect.mem_set_unit]
    intro a
    have hi := (i a).isLt
    have h0 := idx2 point a
    show win0_2.index point a * S16x1536.size a ≤ (i a : Nat) ∧ (i a : Nat) < win0_2.index point a * S16x1536.size a + S16x1536.size a
    rw [h0]
    constructor
    · omega
    · rw [Nat.zero_mul, Nat.zero_add]; exact hi

/-- The device's buffers as the call leaves them. -/
abbrev W (c : Dev nD) : Valuation τ sig (Elt Ideal) := Pipeline.withArrays spec0 c (V0 m c) fun w => (dats m 0 c).arrAt w cfg0.N

/-- The host's cuts of the result array. -/
theorem tail (c : Dev nD) :
    StableHlo.after hostOps1 (W m c) (Proc.devRef .tc main_v2) = shapeCast S_ (extractStridedSlice S1x1 ![12, 0] (arr m c) slices_S16x1536_S1x1_12_0) shapeCasts_S1x1_S_
    ∧ StableHlo.after hostOps1 (W m c) (Proc.devRef .tc main_v3) = extractStridedSlice S1x1024 ![5, 0] (arr m c) slices_S16x1536_S1x1024_5_0
    ∧ StableHlo.after hostOps1 (W m c) (Proc.devRef .tc main_v4) = extractStridedSlice S4x1536 ![0, 0] (arr m c) slices_S16x1536_S4x1536_0_0
    ∧ StableHlo.after hostOps1 (W m c) (Proc.devRef .tc main_v5) = extractStridedSlice S1x1536 ![4, 0] (arr m c) slices_S16x1536_S1x1536_4_0
    ∧ StableHlo.after hostOps1 (W m c) (Proc.devRef .tc main_v6) = extractStridedSlice S1x16 ![10, 0] (arr m c) slices_S16x1536_S1x16_10_0
    ∧ StableHlo.after hostOps1 (W m c) (Proc.devRef .tc main_v7) = extractStridedSlice S1x16 ![8, 0] (arr m c) slices_S16x1536_S1x16_8_0
    ∧ StableHlo.after hostOps1 (W m c) (Proc.devRef .tc main_v8) = extractStridedSlice S1x16 ![9, 0] (arr m c) slices_S16x1536_S1x16_9_0
    ∧ StableHlo.after hostOps1 (W m c) (Proc.devRef .tc main_v9) = extractStridedSlice S1x1024 ![6, 0] (arr m c) slices_S16x1536_S1x1024_6_0
    ∧ StableHlo.after hostOps1 (W m c) (Proc.devRef .tc main_v10) = extractStridedSlice S1x1024 ![7, 0] (arr m c) slices_S16x1536_S1x1024_7_0 := by
  have e : W m c (Proc.devRef .tc main_v0) = arr m c := (Pipeline.withArrays_arr spec0 launch0.win.arr_inj c _ _ 2).trans (final m c)
  generalize W m c = X at e ⊢
  rw [← e]
  refine ⟨?_, ?_, ?_, ?_, ?_, ?_, ?_, ?_, ?_⟩ <;> after_results
  rfl

/-- Every execution ends with the nine results at these values and the arguments as they were launched. -/
theorem ends : θ_run defs (onTc (τ := τ) (main (F := Ideal))) ⟨m, fun _ => 0, ρ⟩ fun r => ∀ c : Dev nD,
    r.2.mem ((c : Thread nD τ).loc main_v2) = shapeCast S_ (extractStridedSlice S1x1 ![12, 0] (arr m c) slices_S16x1536_S1x1_12_0) shapeCasts_S1x1_S_
    ∧ r.2.mem ((c : Thread nD τ).loc main_v3) = extractStridedSlice S1x1024 ![5, 0] (arr m c) slices_S16x1536_S1x1024_5_0
    ∧ r.2.mem ((c : Thread nD τ).loc main_v4) = extractStridedSlice S4x1536 ![0, 0] (arr m c) slices_S16x1536_S4x1536_0_0
    ∧ r.2.mem ((c : Thread nD τ).loc main_v5) = extractStridedSlice S1x1536 ![4, 0] (arr m c) slices_S16x1536_S1x1536_4_0
    ∧ r.2.mem ((c : Thread nD τ).loc main_v6) = extractStridedSlice S1x16 ![10, 0] (arr m c) slices_S16x1536_S1x16_10_0
    ∧ r.2.mem ((c : Thread nD τ).loc main_v7) = extractStridedSlice S1x16 ![8, 0] (arr m c) slices_S16x1536_S1x16_8_0
    ∧ r.2.mem ((c : Thread nD τ).loc main_v8) = extractStridedSlice S1x16 ![9, 0] (arr m c) slices_S16x1536_S1x16_9_0
    ∧ r.2.mem ((c : Thread nD τ).loc main_v9) = extractStridedSlice S1x1024 ![6, 0] (arr m c) slices_S16x1536_S1x1024_6_0
    ∧ r.2.mem ((c : Thread nD τ).loc main_v10) = extractStridedSlice S1x1024 ![7, 0] (arr m c) slices_S16x1536_S1x1024_7_0
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => by
    obtain ⟨t2, t3, t4, t5, t6, t7, t8, t9, t10⟩ := tail m c
    exact ⟨((h.1 c).2 main_v2 (Pipeline.mem_restRefs_of main_v2 (by decide) (by decide))).trans t2,
      ((h.1 c).2 main_v3 (Pipeline.mem_restRefs_of main_v3 (by decide) (by decide))).trans t3,
      ((h.1 c).2 main_v4 (Pipeline.mem_restRefs_of main_v4 (by decide) (by decide))).trans t4,
      ((h.1 c).2 main_v5 (Pipeline.mem_restRefs_of main_v5 (by decide) (by decide))).trans t5,
      ((h.1 c).2 main_v6 (Pipeline.mem_restRefs_of main_v6 (by decide) (by decide))).trans t6,
      ((h.1 c).2 main_v7 (Pipeline.mem_restRefs_of main_v7 (by decide) (by decide))).trans t7,
      ((h.1 c).2 main_v8 (Pipeline.mem_restRefs_of main_v8 (by decide) (by decide))).trans t8,
      ((h.1 c).2 main_v9 (Pipeline.mem_restRefs_of main_v9 (by decide) (by decide))).trans t9,
      ((h.1 c).2 main_v10 (Pipeline.mem_restRefs_of main_v10 (by decide) (by decide))).trans t10, h.2 c⟩)
    (θ_run_and (run_main m ρ) (unchanged m ρ))

end Cert.Proof.Total

end
-- ==== Proof.TotalRef.lean ====
/-
  THE SUM OF THE DEVICES' SMALL GRADIENTS AND LOSSES: the reference's nine results, element by element, and that the kernel's
  are the same over the extended reals (`algebraic`).

  A product with a matrix of zeros and ones, one where a lane is of a head, is the sum of the head's 64 lanes; and half of the
  mean of a row is the row's sum times the constant that the kernel multiplies by, since a positive real factor goes into any
  sum of extended reals.
-/
module

public import proofs.«01_k».proof.Defs
public import proofs.«01_k».proof.Proof.Total
public import proofs.«01_k».proof.Proof.Norm
public import proofs.«01_k».proof.Proof.Consts
public import proofs.«01_k».proof.Proof.Gen.Reference8Ideal.Run
public import proofs.«01_k».proof.Proof.Gen.Reference8Ideal.Read

@[expose] public section

noncomputable section

open Idealize.ShloMosaic Idealize.ShloMosaic.TcCoe Idealize.SL.Sem Idealize.ShloMosaic.ValueIdx
open scoped BigOperators

namespace Cert.Proof.TotalRef

open Cert.Reference8Ideal Cert.Reference8Ideal.Read Cert.Proof.Blocks Cert.Proof.Adam Cert.Proof.Consts
open Cert.Proof.Total (eight cell res)

/-- A sum over the eight layers started at zero is the eight shares added in order. -/
theorem sum_eq_eight {n m : ℕ} (x : (⟨3, ![8, n, m]⟩ : Shape).Idx → EReal) (f : Fin 8 → (⟨3, ![8, n, m]⟩ : Shape).Idx) {a b : ℕ}
    (h0 : ∀ k, (f k 0).val = k.val) (h1 : ∀ k, (f k 1).val = a) (h2 : ∀ k, (f k 2).val = b) :
    Ideal.ofBits .f32 0x00000000#32 + (∑ k : Fin 8, x (f k) : EReal) = eight x a b := by
  rw [Ideal.ofBits_zero_f32, zero_add, Fin.sum_univ_eight]
  unfold eight
  rw [eq_rd3 x _ (h0 0) (h1 0) (h2 0), eq_rd3 x _ (h0 1) (h1 1) (h2 1), eq_rd3 x _ (h0 2) (h1 2) (h2 2),
    eq_rd3 x _ (h0 3) (h1 3) (h2 3), eq_rd3 x _ (h0 4) (h1 4) (h2 4), eq_rd3 x _ (h0 5) (h1 5) (h2 5),
    eq_rd3 x _ (h0 6) (h1 6) (h2 6), eq_rd3 x _ (h0 7) (h1 7) (h2 7)]
  rfl

/-- The 1024 terms with a weight of one at the lanes of head `b` and zero elsewhere are the head's 64 terms. -/
theorem lanes (f : ℕ → EReal) (b : ℕ) (hb : b < 16) :
    ∑ k : Fin 1024, f k.val * cell k.val b = ∑ k : Fin 64, f (64 * b + k.val) := by
  rw [← sum_blocks' (fun k => f k * cell k b) 16 64 1024 rfl]
  refine (Finset.sum_eq_single b (fun i _ hi => ?_) fun h => absurd (Finset.mem_range.mpr hb) h).trans ?_
  · refine Finset.sum_eq_zero fun j _ => ?_
    have hj := j.isLt
    show f _ * cell _ _ = 0
    unfold cell
    rw [if_neg (by omega), mul_zero]
  · refine Finset.sum_congr rfl fun j _ => ?_
    have hj := j.isLt
    show f _ * cell _ _ = _
    unfold cell
    rw [if_pos (by omega), mul_one]

theorem closs : Ideal.ofBits .f32 0x3A000000#32 = ((1 / 2048 : ℝ) : EReal) := by
  simp [Ideal.ofBits, Ideal.ieee, -EReal.coe_mul]; norm_num

/-- Half of the mean of a row of 1024. -/
theorem half_mean (f : Fin 1024 → EReal) :
    ((1 / 2 : ℝ) : EReal) * ∑ k, Ideal.div (f k) ((1024 : ℝ) : EReal) = (∑ k, f k) * ((1 / 2048 : ℝ) : EReal) := by
  rw [mul_comm (∑ k, f k), Norm.mul_sum_coe _ (by norm_num), Norm.mul_sum_coe _ (by norm_num)]
  refine Finset.sum_congr rfl fun k _ => ?_
  rw [Ideal.div_coe (by norm_num), mul_comm (f k), ← mul_assoc, ← EReal.coe_mul]
  congr 2
  norm_num

section Value
variable (x : S8x16x1536.Idx → EReal) (p : S8x8x1024.Idx → EReal)

theorem v0_at (i : S16x1536.Idx) : (val_main_v0 (F := Ideal) x i : EReal) = eight x (i 0).val (i 1).val := by
  rw [val_main_v0_apply]
  exact sum_eq_eight (n := 16) (m := 1536) x (idx_main_v0 i) (fun _ => rfl) (fun _ => rfl) (fun _ => rfl)
theorem v11_at (i : S1x1024.Idx) : (val_main_v11 (F := Ideal) p i : EReal) = eight p 0 (i 1).val := by
  rw [val_main_v11_apply]
  have h0 : (i 0).val = 0 := by have := idx2_lt0 i; omega
  simp only [val_main_v10_apply]
  exact sum_eq_eight (n := 8) (m := 1024) p (fun k => idx_main_v10 (idx_main_v11 i k)) (fun _ => rfl) (fun _ => h0) (fun _ => rfl)
/-- A head's sum, of the row for the decay and of the row for the skip. -/
theorem v3_at (i : S2x16.Idx) : (val_main_v3 (F := Ideal) x i : EReal) = ∑ k : Fin 64, eight x (8 + (i 0).val) (64 * (i 1).val + k.val) := by
  have h0 := idx2_lt0 i
  have h1 := idx2_lt1 i
  rw [val_main_v3_apply]
  show Ideal.ofBits .f32 0x00000000#32 + (∑ k : Fin 64, _ : EReal) = _
  rw [Ideal.ofBits_zero_f32, zero_add]
  refine Finset.sum_congr rfl fun k _ => ?_
  have hk := k.isLt
  rw [val_main_v2_apply, val_main_v1_apply]
  refine (v0_at x _).trans (congrArg₂ (eight x) ?_ ?_)
  · show 8 + (((i 0).val * 16 + (i 1).val) * 64 + k.val) / 1024 = _; omega
  · show (((i 0).val * 16 + (i 1).val) * 64 + k.val) % 1024 = _; omega
theorem v5_at (k : Fin 1024) : (val_main_v5 (F := Ideal) x (ix1 k) : EReal) = eight x 11 k.val := by
  have hk := k.isLt
  rw [val_main_v5_apply, val_main_v4_apply]
  refine (v0_at x _).trans (congrArg₂ (eight x) rfl ?_)
  show k.val % 1024 = _; omega
/-- The loss. -/
theorem v9_at (i : S_.Idx) : (val_main_v9 (F := Ideal) x i : EReal) = (∑ k : Fin 1024, eight x 11 k.val) * ((1 / 2048 : ℝ) : EReal) := by
  rw [val_main_v9_apply, val_main_v8_apply]
  show Ideal.ofBits .f32 0x3F000000#32 * (Ideal.ofBits .f32 0x00000000#32 + (∑ j : S1024.Idx, _ : EReal)) = _
  rw [Ideal.ofBits_zero_f32, zero_add, chalf, ← half_mean]
  refine congrArg (_ * ·) ?_
  let e : S1024.Idx ≃ Fin 1024 := ⟨fun j => ⟨(j 0).val, (j 0).isLt⟩, fun k => ix1 k, fun j => (eq_ix1 j).symm, fun k => rfl⟩
  rw [← Equiv.sum_comp e.symm]
  refine Finset.sum_congr rfl fun k _ => ?_
  rw [val_main_v7_apply, val_main_v6_apply, ← v5_at x k, ← c1024]
  rfl

end Value

/-! ## The kernel's element where the reference has the same -/

section Res
variable (x : S8x16x1536.Idx → EReal) (p : S8x8x1024.Idx → EReal)

/-- A row that the kernel only adds. -/
theorem res_row (a b : ℕ) (h : a < 8 ∧ a ≠ 5 ∨ a = 10 ∨ 128 ≤ b ∧ a ≠ 5) : res x p a b = eight x a b := by
  unfold res
  split_ifs <;> first | rfl | omega
theorem res_pre (b : ℕ) (hb : b < 1024) : res x p 5 b = eight p 0 b := by
  unfold res
  rw [if_neg (by omega), if_pos ⟨rfl, hb⟩]
theorem res_head (a b : ℕ) (h8 : 8 ≤ a) (ha : a < 10) (hb : b < 16) : res x p a b = ∑ k : Fin 64, eight x a (64 * b + k.val) := by
  unfold res
  rw [if_pos ⟨h8, by omega⟩, if_pos ha]
  exact lanes (eight x a) b hb
theorem res_loss : res x p 12 0 = (∑ k : Fin 1024, eight x 11 k.val) * ((1 / 2048 : ℝ) : EReal) := by
  unfold res
  rw [if_pos ⟨by decide, by decide⟩, if_neg (by decide), if_pos rfl, closs]

end Res

open Cert.Proof.Total in
/-- Over the extended reals the kernel's results are the reference's. -/
theorem algebraic (hK : Cert.Kernel8Ideal.Facts) (hR : Cert.Reference8Ideal.Facts) :
    Cert.algebraic_Kernel8Ideal_Reference8Ideal (hKernel8Ideal := hK) (hReference8Ideal := hR) := by
  intro m g m' g' _ hargs
  refine ⟨_, _, _, _, _, _, _, _, _, ends m g, ?_⟩
  refine (θ_run _ _ _).mono (fun r h c => ?_) (Cert.Reference8Ideal.Value.run m' g')
  obtain ⟨e0, e1⟩ := hargs c
  obtain ⟨h9, h11, h12, h13, h14, h15, h16, h17, h18, k⟩ := h c
  refine ⟨?_, ?_, ?_, ?_, ?_, ?_, ?_, ?_, ?_, k⟩
  · rw [h9, val_main_v9_eq, e0]
    refine funext fun i => (v9_at _ i).trans ((res_loss (A0 m c) (A1 m c)).symm.trans ?_)
    refine (shapeCast_apply (α := EReal) (extractStridedSlice Cert.Kernel8Ideal.S1x1 ![12, 0] (arr m c) _) _ i (ix2 0 0) ?_).symm
    have h : (Shape.rowMajor S_ i).val < 1 := (Shape.rowMajor S_ i).isLt
    rw [Shape.rowMajor_val_two]
    show 0 * 1 + 0 = (Shape.rowMajor S_ i).val
    omega
  · rw [h11, val_main_v11_eq, e1]
    refine funext fun i => (v11_at _ i).trans ((res_pre (A0 m c) (A1 m c) _ (idx2_lt1 i)).symm.trans ?_)
    have h0 : (i 0).val = 0 := by have := idx2_lt0 i; omega
    show res _ _ _ _ = res _ _ (5 + (i 0).val) (0 + (i 1).val)
    rw [h0, Nat.zero_add]
  · rw [h12, val_main_v12_eq, e0]
    refine funext fun i => ?_
    have h0 := idx2_lt0 i
    rw [val_main_v12_apply]
    refine (v0_at _ _).trans ((res_row (A0 m c) (A1 m c) _ _ ?_).symm.trans ?_)
    · left; show (i 0).val < 8 ∧ (i 0).val ≠ 5; omega
    · show res _ _ (i 0).val (i 1).val = res _ _ (0 + (i 0).val) (0 + (i 1).val)
      rw [Nat.zero_add, Nat.zero_add]
  · rw [h13, val_main_v13_eq, e0]
    refine funext fun i => ?_
    have h0 : (i 0).val = 0 := by have := idx2_lt0 i; omega
    rw [val_main_v13_apply]
    refine (v0_at _ _).trans ((res_row (A0 m c) (A1 m c) _ _ ?_).symm.trans ?_)
    · left; show 4 + (i 0).val < 8 ∧ 4 + (i 0).val ≠ 5; omega
    · show res _ _ (4 + (i 0).val) (i 1).val = res _ _ (4 + (i 0).val) (0 + (i 1).val)
      rw [Nat.zero_add (i 1).val]
  · rw [h14, val_main_v14_eq, e0]
    refine funext fun i => ?_
    have h0 : (i 0).val = 0 := by have := idx2_lt0 i; omega
    rw [val_main_v14_apply]
    refine (v0_at _ _).trans ((res_row (A0 m c) (A1 m c) _ _ ?_).symm.trans ?_)
    · right; left; show 10 + (i 0).val = 10; omega
    · show res _ _ (10 + (i 0).val) (i 1).val = res _ _ (10 + (i 0).val) (0 + (i 1).val)
      rw [Nat.zero_add (i 1).val]
  · rw [h15, val_main_v15_eq, e0]
    refine funext fun i => ?_
    have h0 : (i 0).val = 0 := by have := idx2_lt0 i; omega
    rw [val_main_v15_apply]
    refine (v3_at _ _).trans ((res_head (A0 m c) (A1 m c) _ _ (Nat.le_add_right 8 _) ?_ (idx2_lt1 i)).symm.trans ?_)
    · show 8 + (i 0).val < 10; omega
    · show res _ _ (8 + (i 0).val) (i 1).val = res _ _ (8 + (i 0).val) (0 + (i 1).val)
      rw [Nat.zero_add (i 1).val]
  · rw [h16, val_main_v16_eq, e0]
    refine funext fun i => ?_
    have h0 : (i 0).val = 0 := by have := idx2_lt0 i; omega
    rw [val_main_v16_apply]
    refine (v3_at _ _).trans ((res_head (A0 m c) (A1 m c) _ _ (Nat.le_add_right 8 _) ?_ (idx2_lt1 i)).symm.trans ?_)
    · show 8 + (1 + (i 0).val) < 10; omega
    · show res _ _ (8 + (1 + (i 0).val)) (i 1).val = res _ _ (9 + (i 0).val) (0 + (i 1).val)
      rw [Nat.zero_add (i 1).val, h0]
  · rw [h17, val_main_v17_eq, e0]
    refine funext fun i => ?_
    have h0 : (i 0).val = 0 := by have := idx2_lt0 i; omega
    rw [val_main_v17_apply]
    refine (v0_at _ _).trans ((res_row (A0 m c) (A1 m c) _ _ ?_).symm.trans ?_)
    · left; show 6 + (i 0).val < 8 ∧ 6 + (i 0).val ≠ 5; omega
    · show res _ _ (6 + (i 0).val) (i 1).val = res _ _ (6 + (i 0).val) (0 + (i 1).val)
      rw [Nat.zero_add (i 1).val]
  · rw [h18, val_main_v18_eq, e0]
    refine funext fun i => ?_
    have h0 : (i 0).val = 0 := by have := idx2_lt0 i; omega
    rw [val_main_v18_apply]
    refine (v0_at _ _).trans ((res_row (A0 m c) (A1 m c) _ _ ?_).symm.trans ?_)
    · left; show 7 + (i 0).val < 8 ∧ 7 + (i 0).val ≠ 5; omega
    · show res _ _ (7 + (i 0).val) (i 1).val = res _ _ (7 + (i 0).val) (0 + (i 1).val)
      rw [Nat.zero_add (i 1).val]

end Cert.Proof.TotalRef

end
-- ==== Proof.Stack.lean ====
/-
  THE INPUT PROJECTION'S WEIGHT PUT TOGETHER (`Kernel9`): the eight devices' shards, 834 rows each, one under the other,
  and 496 rows of zeros below them. The call moves values and computes none, so everything here is over any float values;
  `StackRef` reads it at the machine's values and over the extended reals.
-/
module

public import proofs.«01_k».proof.Proof.Gen.Kernel9Ideal.Frame
public import Idealize.ShloMosaic.Lib.Pipeline.Value
public import Idealize.ShloMosaic.Lib.ValueIdx

@[expose] public section

noncomputable section

open Idealize.ShloMosaic Idealize.ShloMosaic.TcCoe Idealize.ShloMosaic.Tactic Idealize.SL.Sem Idealize.ShloMosaic.ValueIdx
open Idealize.ShloMosaic.Pipeline (Dat)

namespace Cert.Proof.Stack

open Cert.Kernel9Ideal Cert.Kernel9Ideal.Gen

variable {α : Type} {n : ℕ}

theorem shard_lt {k : ℕ} (h : k < 6672) : k / 834 < 8 := by omega
theorem row_lt (k : ℕ) : k % 834 < 834 := Nat.mod_lt _ (by decide)

/-- Shards one under the other, `z` below the last. -/
def stack (z : α) (x : (⟨3, ![8, 834, n]⟩ : Shape).Idx → α) (i : (⟨2, ![7168, n]⟩ : Shape).Idx) : α :=
  if h : (i 0).val < 6672 then x (ix3 ⟨(i 0).val / 834, shard_lt h⟩ ⟨(i 0).val % 834, row_lt _⟩ ⟨(i 1).val, idx2_lt1 i⟩) else z

/-- A row of a shard, read in the stack. -/
theorem stack_row (z : α) (x : (⟨3, ![8, 834, n]⟩ : Shape).Idx → α) (i : (⟨2, ![7168, n]⟩ : Shape).Idx)
    (y : (⟨3, ![8, 834, n]⟩ : Shape).Idx) (h0 : (i 0).val = 834 * (y 0).val + (y 1).val) (h1 : (i 1).val = (y 2).val) :
    stack z x i = x y := by
  have a0 : (y 0).val < 8 := (y 0).isLt
  have a1 : (y 1).val < 834 := (y 1).isLt
  rw [stack, dif_pos (by omega)]
  refine congrArg x (funext fun a => Fin.ext ?_)
  match a with
  | ⟨0, _⟩ => show (i 0).val / 834 = (y 0).val; omega
  | ⟨1, _⟩ => show (i 0).val % 834 = (y 1).val; omega
  | ⟨2, _⟩ => exact h1

/-- Below the shards. -/
theorem stack_below (z : α) (x : (⟨3, ![8, 834, n]⟩ : Shape).Idx → α) (i : (⟨2, ![7168, n]⟩ : Shape).Idx)
    (h : 6672 ≤ (i 0).val) : stack z x i = z := by
  rw [stack, dif_neg (by omega)]

variable {F : FTy → Type} [FloatOps F]

/-- The zero that fills the rows below. -/
abbrev zero : F .bf16 := FloatOps.ofBits .bf16 0x0000#16

/-- A shard's row as the body loads it, its leading axis dropped. -/
theorem piece_at (x : Vec F S8x834x256 .bf16) (k : ℕ) (inb : ∀ a : Fin 3, (![k, 0, 0] : Fin 3 → ℕ) a + S1x834x256.size a ≤ S8x834x256.size a)
    (inb' : ∀ a : Fin 2, (![834 * k, 0] : Fin 2 → ℕ) a + S834x256.size a ≤ S7168x256.size a) (w : S834x256.Idx) :
    shapeCast S834x256 (View.ld x (Rect.unit (s := S8x834x256) ![k, 0, 0] S1x834x256.size inb)) shapeCasts_S1x834x256_S834x256 w
      = stack (n := 256) (zero (F := F)) x ((Rect.unit (s := S7168x256) ![834 * k, 0] S834x256.size inb').emb w) := by
  refine (shapeCast_dropUnit_apply ![834, 256] _ shapeCasts_S1x834x256_S834x256 w).trans (stack_row _ _ _ _ ?_ ?_).symm
  · show 834 * k + 1 * (w 0).val = 834 * (k + 1 * 0) + (0 + 1 * (w 0).val); omega
  · show 0 + 1 * (w 1).val = 0 + 1 * (w 1).val; rfl

/-- What the body leaves in the result's block. -/
theorem out_eq (c : Dev nD) (i : grid0.Coords) (arg1 : Memref sig .tc .vmem S8x834x256 .bf16) (harg1 : arg1.IsWhole)
    (arg2 : Memref sig .tc .vmem S7168x256 .bf16) (harg2 : arg2.IsWhole) (x : Vec F S8x834x256 .bf16) :
    out0_A_1 c i arg1 harg1 arg2 harg2 x = stack (n := 256) (zero (F := F)) x := by
  unfold out0_A_1
  rw [View.read_writes_eq_canon _ _ _ (cover0_A_1 c i arg1 harg1 arg2 harg2 x)]
  funext y
  refine View.canon_apply_of_pieces _ _ ?_ y (cover0_A_1 c i arg1 harg1 arg2 harg2 x y)
  unfold kernelRun0_A
  dsimp only
  sl_unfold_words
  simp only [View.readAt_eq_ld, harg1.read_unread]
  simp only [List.forall_mem_cons]
  refine ⟨fun w => ?_, ?_, ?_, ?_, ?_, ?_, ?_, ?_, ?_, fun p hp => absurd hp List.not_mem_nil⟩
  · refine (stack_below _ _ _ ?_).symm
    show 6672 ≤ 6672 + 1 * (w 0).val
    omega
  all_goals exact fun w => piece_at x _ _ _ w

variable (m : (ℓ : Loc nD τ sig) → Buf (Elt F) ℓ) (ρ : Dev nD → PrngReg)

/-- The shards as launched. -/
abbrev A (c : Dev nD) : S8x834x1024.Idx → Elt F .bf16 := m ((c : Thread nD τ).loc main_arg0)

theorem idx0 : ∀ t : Fin grid0.N, win0_0.index t 0 = 0 ∧ win0_0.index t 1 = 0 ∧ win0_0.index t 2 = t.val := by decide +kernel
theorem idx1 : ∀ t : Fin grid0.N, win0_1.index t 0 = 0 ∧ win0_1.index t 1 = t.val := by decide +kernel

theorem flushed_eq (c : Dev nD) (t : Fin cfg0.N) (hf : (cfg0.win 1).flush t = true) :
    (dats m 0 c).flushed 1 t = ((cfg0.win 1).blk t).view.read (Elt F) (stack (n := 1024) (zero (F := F)) (A m c)) := by
  have e : (dats m 0 c).flushed 1 t = stack (n := 256) (zero (F := F)) (iblk m c 0 t) :=
    (after0_1 m c t).trans (out_eq c _ _ _ _ _ _)
  rw [e]
  funext y
  rw [View.read_apply]
  have r0 : (((cfg0.win 1).blk t).view.emb y 0).val = (y 0).val := by
    show win0_1.index t 0 * 7168 + 1 * (y 0).val = _
    rw [(idx1 t).1]; omega
  have r1 : (((cfg0.win 1).blk t).view.emb y 1).val = 256 * t.val + (y 1).val := by
    show win0_1.index t 1 * 256 + 1 * (y 1).val = _
    rw [(idx1 t).2]; omega
  by_cases h : (y 0).val < 6672
  · rw [stack, dif_pos h]
    unfold iblk
    rw [View.read_apply]
    refine (congrFun (V_main_arg0 m c) _).trans (stack_row (n := 1024) _ _ _ _ ?_ ?_).symm
    · refine r0.trans ?_
      show _ = 834 * (win0_0.index t 0 * 8 + 1 * ((y 0).val / 834)) + (win0_0.index t 1 * 834 + 1 * ((y 0).val % 834))
      rw [(idx0 t).1, (idx0 t).2.1]; omega
    · refine r1.trans ?_
      show _ = win0_0.index t 2 * 256 + 1 * (y 1).val
      rw [(idx0 t).2.2]; omega
  · rw [stack_below _ _ y (by omega)]
    exact (stack_below (n := 1024) _ _ _ (by rw [r0]; omega)).symm

/-- The point whose block has an element's column. -/
theorem point_lt (i : S7168x1024.Idx) : (i 1 : Nat) / 256 < cfg0.N := by
  have h1 : (i 1 : Nat) < 1024 := (i 1).isLt
  have hN : cfg0.N = 4 := N_0
  omega
def point (i : S7168x1024.Idx) : Fin cfg0.N := ⟨(i 1 : Nat) / 256, point_lt i⟩

theorem final (c : Dev nD) : (dats m 0 c).arrAt 1 cfg0.N = stack (n := 1024) (zero (F := F)) (A m c) :=
  (dats m 0 c).arrAt_eq_of_cover 1 _ (flushed_eq m c) fun i => by
    refine ⟨point i, flush0_1 _, ?_⟩
    show i ∈ ((View.whole main_v0).slice (win0_1.rect (point i))).set
    rw [View.set_slice_whole, Rect.mem_set_unit]
    have h0 : (i 0 : Nat) < 7168 := (i 0).isLt
    have h1 : (point i).val = (i 1 : Nat) / 256 := rfl
    intro a
    match a with
    | ⟨0, _⟩ =>
      show win0_1.index (point i) 0 * 7168 ≤ (i 0 : Nat) ∧ (i 0 : Nat) < win0_1.index (point i) 0 * 7168 + 7168
      rw [(idx1 (point i)).1]; omega
    | ⟨1, _⟩ =>
      show win0_1.index (point i) 1 * 256 ≤ (i 1 : Nat) ∧ (i 1 : Nat) < win0_1.index (point i) 1 * 256 + 256
      rw [(idx1 (point i)).2]; omega

/-- Every execution ends with the shards stacked and the argument as it was launched. -/
theorem ends : θ_run defs (onTc (τ := τ) (main (F := F))) ⟨m, fun _ => 0, ρ⟩ fun r => ∀ c : Dev nD,
    r.2.mem ((c : Thread nD τ).loc main_v0) = stack (n := 1024) (zero (F := F)) (A m c)
    ∧ r.2.mem ((c : Thread nD τ).loc main_arg0) = m ((c : Thread nD τ).loc main_arg0) :=
  (θ_run defs _ _).mono (fun r h c => ⟨((h.1 c).1 1).trans (final m c), h.2 c⟩) (θ_run_and (run_main m ρ) (unchanged m ρ))

end Cert.Proof.Stack

end
-- ==== Proof.StackRef.lean ====
/-
  THE INPUT PROJECTION'S WEIGHT PUT TOGETHER: the reference reshapes the shards to one matrix and puts rows of zeros below
  it. Its result is the kernel's over any float values, so the two agree over the extended reals (`algebraic`) and on the
  machine's own values (`bitexact`). The program over the machine's values and the one over the extended reals have the
  same text; here the texts are compared, so one run serves both.
-/
module

public import proofs.«01_k».proof.Defs
public import proofs.«01_k».proof.Proof.Stack
public import proofs.«01_k».proof.Proof.Gen.Kernel9
public import proofs.«01_k».proof.Proof.Gen.Reference9Ideal.Run
public import proofs.«01_k».proof.Proof.Gen.Reference9Ideal.Read
public import proofs.«01_k».proof.Proof.Gen.Reference9.Run

@[expose] public section

noncomputable section

open Idealize.ShloMosaic Idealize.ShloMosaic.TcCoe Idealize.SL.Sem Idealize.ShloMosaic.ValueIdx

namespace Cert.Proof.StackRef

open Cert.Reference9Ideal Cert.Reference9Ideal.Read Cert.Proof.Stack

variable {F : FTy → Type} [FloatOps F]

/-- The reference's result. -/
theorem ref_eq (x : S8x834x1024.Idx → Elt F .bf16) : val_main_v2 (F := F) x = stack (n := 1024) (zero (F := F)) x := by
  funext i
  unfold val_main_v2
  by_cases h : (i 0).val < 6672
  · refine (concatenate_pair_apply_left (t := S7168x1024) (s₁ := S6672x1024) (s₂ := S496x1024) 0 _ _ _ i rfl
      (ix2 ⟨(i 0).val, h⟩ ⟨(i 1).val, idx2_lt1 i⟩) (fun b => by match b with | ⟨0, _⟩ => rfl | ⟨1, _⟩ => rfl)).trans ?_
    rw [val_main_v0_apply]
    have h1 : (i 1).val < 1024 := idx2_lt1 i
    refine (stack_row (n := 1024) _ _ _ _ ?_ ?_).symm
    · show (i 0).val = 834 * (((i 0).val * 1024 + (i 1).val) / 854016) + ((i 0).val * 1024 + (i 1).val) / 1024 % 834
      omega
    · show (i 1).val = ((i 0).val * 1024 + (i 1).val) % 1024
      omega
  · have h0 : (i 0).val < 7168 := idx2_lt0 i
    refine (concatenate_pair_apply_right (t := S7168x1024) (s₁ := S6672x1024) (s₂ := S496x1024) 0 _ _ _ i rfl rfl
      (ix2 ⟨(i 0).val - 6672, by omega⟩ ⟨(i 1).val, idx2_lt1 i⟩)
      (fun b hb => by match b with | ⟨0, _⟩ => exact absurd rfl hb | ⟨1, _⟩ => rfl)
      (by show (i 0).val - 6672 + 6672 = (i 0).val; omega)).trans ?_
    rw [val_main_v1_apply, val_main_cst_apply]
    exact (stack_below _ _ i (by omega)).symm

/-- Over the extended reals the kernel's result is the reference's. -/
theorem algebraic (hK : Cert.Kernel9Ideal.Facts) (hR : Cert.Reference9Ideal.Facts) :
    Cert.algebraic_Kernel9Ideal_Reference9Ideal (hKernel9Ideal := hK) (hReference9Ideal := hR) := by
  intro m g m' g' _ hargs
  refine ⟨fun c => stack (n := 1024) (zero (F := Ideal)) (A m c), ends m g, ?_⟩
  refine (θ_run _ _ _).mono (fun r h c => ⟨?_, (h c).2⟩) (Cert.Reference9Ideal.Value.run m' g')
  rw [(h c).1, val_main_v2_eq, hargs c]
  exact ref_eq _

/-- The kernel's function is the same in both programs. -/
theorem body_same (i : Cert.Kernel9.grid0.Coords)
    (a1 : Memref Cert.Kernel9.sig .tc .vmem Cert.Kernel9.S8x834x256 .bf16) (h1 : a1.IsWhole)
    (a2 : Memref Cert.Kernel9.sig .tc .vmem Cert.Kernel9.S7168x256 .bf16) (h2 : a2.IsWhole) :
    Cert.Kernel9.cc0_assemble_w_in (F := F) i a1 h1 a2 h2 = Cert.Kernel9Ideal.cc0_assemble_w_in (F := F) i a1 h1 a2 h2 := by
  unfold Cert.Kernel9.cc0_assemble_w_in Cert.Kernel9Ideal.cc0_assemble_w_in Cert.Kernel9.k0_part1 Cert.Kernel9Ideal.k0_part1
  rfl

/-- So is the table of bodies, which has the kernel's function alone; -/
theorem table_same : Cert.Kernel9.defs₀ (F := F) = Cert.Kernel9Ideal.defs₀ (F := F) := by
  unfold Cert.Kernel9.defs₀ Cert.Kernel9Ideal.defs₀
  refine congrArg Defs.onTc (funext fun l => funext fun a => ?_)
  match l, a with
  | 0, (t, s) => exact body_same _ _ _ _ _
  | ⟨_ + 1, h⟩, _ => exact absurd h (Nat.not_lt.2 (Nat.le_add_left _ _))

/-- and with it what the program's calls run. -/
theorem defs_same : Cert.Kernel9.defs (F := F) = Cert.Kernel9Ideal.defs (F := F) :=
  congrArg (Pipeline.defs Cert.Kernel9Ideal.pcfgs) table_same

/-- The frame over the machine's values. -/
theorem frame_kernel : Cert.quiescent_Kernel9 := fun m ρ _ =>
  (congrArg (fun d => θ_run d (onTc Cert.Kernel9Ideal.main) ⟨m, fun _ => 0, ρ⟩ _) (defs_same (F := Bits))).mpr
    (Cert.Kernel9Ideal.Gen.frame (F := Bits) m ρ)

/-- The kernel's result on the machine's values is the reference's. -/
theorem bitexact (hK : Cert.Kernel9.Facts) (hR : Cert.Reference9.Facts) :
    Cert.bitexact_Kernel9_Reference9 (hKernel9 := hK) (hReference9 := hR) := by
  intro m g m' g' _ hargs
  refine ⟨fun c => stack (n := 1024) (zero (F := Bits)) (A (F := Bits) m c), ?_, ?_⟩
  · exact (congrArg (fun d => θ_run d (onTc Cert.Kernel9Ideal.main) ⟨m, fun _ => 0, g⟩ _) (defs_same (F := Bits))).mpr
      (ends (F := Bits) m g)
  · refine (θ_run _ _ _).mono (fun r h c => ⟨?_, (h c).2⟩) (Cert.Reference9.Value.run m' g')
    rw [(h c).1, hargs c]
    exact ref_eq _

end Cert.Proof.StackRef

end
-- ==== Proof.Chip.lean ====
/-
  TWO CORES' GRADIENTS OF THE INPUT PROJECTION'S WEIGHT, ADDED (`Kernel10`): of the 7168 rows the call adds the four
  stretches of 834 rows that start at row 0, 1668, 3336 and 5004, and rounds the sums. Everything here is over any float
  values; `ChipRef` reads it at the machine's values and over the extended reals.
-/
module

public import proofs.«01_k».proof.Proof.Gen.Kernel10Ideal.Frame
public import Idealize.ShloMosaic.Lib.Pipeline.Value
public import Idealize.ShloMosaic.Lib.ValueIdx

@[expose] public section

noncomputable section

open Idealize.ShloMosaic Idealize.ShloMosaic.TcCoe Idealize.SL.Sem Idealize.ShloMosaic.ValueIdx
open Idealize.ShloMosaic.Pipeline (Dat)

namespace Cert.Proof.Chip

open Cert.Kernel10Ideal Cert.Kernel10Ideal.Gen

variable {F : FTy → Type} [FloatOps F] {n : ℕ}

/-- The element of a stretch: `f` of the two arrays' elements at the stretch's row. -/
def pick {α β : Type} (f : α → α → β) (x y : (⟨2, ![7168, n]⟩ : Shape).Idx → α) (i : (⟨3, ![4, 834, n]⟩ : Shape).Idx) : β :=
  f (x (ix2 ⟨1668 * (i 0).val + (i 1).val, by
        have h0 : (i 0).val < 4 := (i 0).isLt
        have h1 : (i 1).val < 834 := (i 1).isLt
        omega⟩ ⟨(i 2).val, (i 2).isLt⟩))
    (y (ix2 ⟨1668 * (i 0).val + (i 1).val, by
        have h0 : (i 0).val < 4 := (i 0).isLt
        have h1 : (i 1).val < 834 := (i 1).isLt
        omega⟩ ⟨(i 2).val, (i 2).isLt⟩))

/-- The same, the two arrays read at an index with the stretch's row and the column. -/
theorem pick_of {α β : Type} (f : α → α → β) (x y : (⟨2, ![7168, n]⟩ : Shape).Idx → α) (i : (⟨3, ![4, 834, n]⟩ : Shape).Idx)
    (j : (⟨2, ![7168, n]⟩ : Shape).Idx) (h0 : (j 0).val = 1668 * (i 0).val + (i 1).val) (h1 : (j 1).val = (i 2).val) :
    f (x j) (y j) = pick f x y i := by
  have e : j = ix2 ⟨1668 * (i 0).val + (i 1).val, h0 ▸ (j 0).isLt⟩ ⟨(i 2).val, (i 2).isLt⟩ := funext fun a => Fin.ext (by
    match a with
    | ⟨0, _⟩ => exact h0
    | ⟨1, _⟩ => exact h1)
  exact congrArg (fun k => f (x k) (y k)) e

/-- A sum of two elements, rounded. -/
abbrev op : F .f32 → F .f32 → F .bf16 := fun a b => FloatOps.truncf .bf16 bitsLt_bf16_f32 (FloatOps.addf a b)

/-- The body's result of one stretch. -/
theorem piece_at (x y : Vec F S7168x128 .f32) (k : ℕ)
    (inb : ∀ a : Fin 2, (![1668 * k, 0] : Fin 2 → ℕ) a + S834x128.size a ≤ S7168x128.size a)
    (inb' : ∀ a : Fin 3, (![k, 0, 0] : Fin 3 → ℕ) a + S1x834x128.size a ≤ S4x834x128.size a) (w : S1x834x128.Idx) :
    shapeCast S1x834x128 (truncf .bf16 (addf (View.ld x (Rect.unit (s := S7168x128) ![1668 * k, 0] S834x128.size inb))
        (View.ld y (Rect.unit (s := S7168x128) ![1668 * k, 0] S834x128.size inb))) bitsLt_bf16_f32) shapeCasts_S834x128_S1x834x128 w
      = pick (n := 128) (op (F := F)) x y ((Rect.unit (s := S4x834x128) ![k, 0, 0] S1x834x128.size inb').emb w) := by
  refine (shapeCast_addUnit_apply ![834, 128] _ shapeCasts_S834x128_S1x834x128 w).trans ?_
  have h : (w 0).val < 1 := (w 0).isLt
  refine pick_of (n := 128) (op (F := F)) x y _ ((Rect.unit (s := S7168x128) ![1668 * k, 0] S834x128.size inb).emb (fun a => w a.succ)) ?_ ?_
  · show 1668 * k + 1 * (w 1).val = 1668 * (k + 1 * (w 0).val) + (0 + 1 * (w 1).val); omega
  · show 0 + 1 * (w 2).val = 0 + 1 * (w 2).val; rfl

/-- What the body leaves in the result's block. -/
theorem out_eq (x y : Vec F S7168x128 .f32) : out0_2 x y = pick (n := 128) (op (F := F)) x y := by
  unfold out0_2
  funext i
  refine View.canon_apply_of_pieces _ _ ?_ i (cover0_2 _ _ _ _ i)
  simp only [List.forall_mem_cons]
  exact ⟨fun w => piece_at x y 3 _ _ w, fun w => piece_at x y 2 _ _ w, fun w => piece_at x y 1 _ _ w,
    fun w => piece_at x y 0 _ _ w, fun p hp => absurd hp List.not_mem_nil⟩

variable (m : (ℓ : Loc nD τ sig) → Buf (Elt F) ℓ) (ρ : Dev nD → PrngReg)

/-- The two arrays as launched. -/
abbrev A (c : Dev nD) : S7168x1024.Idx → F .f32 := m ((c : Thread nD τ).loc main_arg0)
abbrev B (c : Dev nD) : S7168x1024.Idx → F .f32 := m ((c : Thread nD τ).loc main_arg1)

theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = 0 ∧ win0_2.index t 2 = t.val := by decide +kernel

/-- A block's element of either array. -/
theorem blk0 (c : Dev nD) (t : Fin cfg0.N) (y : S7168x128.Idx) (j : S7168x1024.Idx) (h0 : (j 0).val = (y 0).val)
    (h1 : (j 1).val = 128 * t.val + (y 1).val) : iblk m c 0 t y = A m c j := by
  unfold iblk
  rw [View.read_apply]
  refine (congrFun (V_main_arg0 m c) _).trans (congrArg (A m c) (funext fun a => Fin.ext ?_))
  match a with
  | ⟨0, _⟩ => show win0_0.index t 0 * 7168 + 1 * (y 0).val = (j 0).val; rw [(idx0 t).1]; omega
  | ⟨1, _⟩ => show win0_0.index t 1 * 128 + 1 * (y 1).val = (j 1).val; rw [(idx0 t).2]; omega
theorem blk1 (c : Dev nD) (t : Fin cfg0.N) (y : S7168x128.Idx) (j : S7168x1024.Idx) (h0 : (j 0).val = (y 0).val)
    (h1 : (j 1).val = 128 * t.val + (y 1).val) : iblk m c 1 t y = B m c j := by
  unfold iblk
  rw [View.read_apply]
  refine (congrFun (V_main_arg1 m c) _).trans (congrArg (B m c) (funext fun a => Fin.ext ?_))
  match a with
  | ⟨0, _⟩ => show win0_1.index t 0 * 7168 + 1 * (y 0).val = (j 0).val; rw [(idx1 t).1]; omega
  | ⟨1, _⟩ => show win0_1.index t 1 * 128 + 1 * (y 1).val = (j 1).val; rw [(idx1 t).2]; omega

theorem flushed_eq (c : Dev nD) (t : Fin cfg0.N) (hf : (cfg0.win 2).flush t = true) :
    (dats m 0 c).flushed 2 t = ((cfg0.win 2).blk t).view.read (Elt F) (pick (n := 1024) (op (F := F)) (A m c) (B m c)) := by
  have e : (dats m 0 c).flushed 2 t = pick (n := 128) (op (F := F)) (iblk m c 0 t) (iblk m c 1 t) := (after0_2 m c t).trans (out_eq _ _)
  rw [e]
  funext y
  rw [View.read_apply]
  unfold pick
  have r0 : (((cfg0.win 2).blk t).view.emb y 0).val = (y 0).val := by
    show win0_2.index t 0 * 4 + 1 * (y 0).val = _
    rw [(idx2 t).1]; omega
  have r1 : (((cfg0.win 2).blk t).view.emb y 1).val = (y 1).val := by
    show win0_2.index t 1 * 834 + 1 * (y 1).val = _
    rw [(idx2 t).2.1]; omega
  have r2 : (((cfg0.win 2).blk t).view.emb y 2).val = 128 * t.val + (y 2).val := by
    show win0_2.index t 2 * 128 + 1 * (y 2).val = _
    rw [(idx2 t).2.2]; omega
  refine congrArg₂ (op (F := F)) (blk0 m c t _ _ ?_ r2) (blk1 m c t _ _ ?_ r2) <;>
  · show 1668 * _ + _ = 1668 * _ + _
    rw [r0, r1]

/-- The point whose block has an element's column. -/
theorem point_lt (i : S4x834x1024.Idx) : (i 2 : Nat) / 128 < cfg0.N := by
  have h1 : (i 2 : Nat) < 1024 := (i 2).isLt
  have hN : cfg0.N = 8 := N_0
  omega
def point (i : S4x834x1024.Idx) : Fin cfg0.N := ⟨(i 2 : Nat) / 128, point_lt i⟩

theorem final (c : Dev nD) : (dats m 0 c).arrAt 2 cfg0.N = pick (n := 1024) (op (F := F)) (A m c) (B m c) :=
  (dats m 0 c).arrAt_eq_of_cover 2 _ (flushed_eq m c) fun i => by
    refine ⟨point i, flush0_2 _, ?_⟩
    show i ∈ ((View.whole main_v0).slice (win0_2.rect (point i))).set
    rw [View.set_slice_whole, Rect.mem_set_unit]
    have h0 : (i 0 : Nat) < 4 := (i 0).isLt
    have h1 : (i 1 : Nat) < 834 := (i 1).isLt
    have h2 : (point i).val = (i 2 : Nat) / 128 := rfl
    intro a
    match a with
    | ⟨0, _⟩ =>
      show win0_2.index (point i) 0 * 4 ≤ (i 0 : Nat) ∧ (i 0 : Nat) < win0_2.index (point i) 0 * 4 + 4
      rw [(idx2 (point i)).1]; omega
    | ⟨1, _⟩ =>
      show win0_2.index (point i) 1 * 834 ≤ (i 1 : Nat) ∧ (i 1 : Nat) < win0_2.index (point i) 1 * 834 + 834
      rw [(idx2 (point i)).2.1]; omega
    | ⟨2, _⟩ =>
      show win0_2.index (point i) 2 * 128 ≤ (i 2 : Nat) ∧ (i 2 : Nat) < win0_2.index (point i) 2 * 128 + 128
      rw [(idx2 (point i)).2.2]; omega

/-- Every execution ends with the sums and the arguments as they were launched. -/
theorem ends : θ_run defs (onTc (τ := τ) (main (F := F))) ⟨m, fun _ => 0, ρ⟩ fun r => ∀ c : Dev nD,
    r.2.mem ((c : Thread nD τ).loc main_v0) = pick (n := 1024) (op (F := F)) (A m c) (B m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h.1 c).1 2).trans (final m c), h.2 c⟩) (θ_run_and (run_main m ρ) (unchanged m ρ))

end Cert.Proof.Chip

end
-- ==== Proof.ChipRef.lean ====
/-
  TWO CORES' GRADIENTS OF THE INPUT PROJECTION'S WEIGHT, ADDED: the reference adds the whole arrays, cuts the rows into
  eight stretches of 834 and keeps every other one. Its result is the kernel's over any float values, so the two agree over
  the extended reals (`algebraic`) and on the machine's own values (`bitexact`). The program over the machine's values and
  the one over the extended reals have the same text; here the texts are compared, so one run serves both.
-/
module

public import proofs.«01_k».proof.Defs
public import proofs.«01_k».proof.Proof.Chip
public import proofs.«01_k».proof.Proof.Gen.Kernel10
public import proofs.«01_k».proof.Proof.Gen.Reference10Ideal.Run
public import proofs.«01_k».proof.Proof.Gen.Reference10Ideal.Read
public import proofs.«01_k».proof.Proof.Gen.Reference10.Run

@[expose] public section

noncomputable section

open Idealize.ShloMosaic Idealize.ShloMosaic.TcCoe Idealize.SL.Sem Idealize.ShloMosaic.ValueIdx

namespace Cert.Proof.ChipRef

open Cert.Reference10Ideal Cert.Reference10Ideal.Read Cert.Proof.Chip

variable {F : FTy → Type} [FloatOps F]

/-- The reference's result. -/
theorem ref_eq (x y : S7168x1024.Idx → F .f32) : val_main_v5 (F := F) x y = pick (n := 1024) (op (F := F)) x y := by
  funext i
  have h0 : (i 0).val < 4 := (i 0).isLt
  have h1 : (i 1).val < 834 := (i 1).isLt
  have h2 : (i 2).val < 1024 := (i 2).isLt
  rw [val_main_v5_apply, val_main_v4_apply, val_main_v3_apply, val_main_v2_apply, val_main_v1_apply, val_main_v0_apply]
  refine pick_of (n := 1024) (op (F := F)) x y i _ ?_ ?_
  · simp only [idx_main_v1, idx_main_v2, idx_main_v3, idx_main_v4]
    omega
  · simp only [idx_main_v1, idx_main_v2, idx_main_v3, idx_main_v4]
    omega

/-- Over the extended reals the kernel's result is the reference's. -/
theorem algebraic (hK : Cert.Kernel10Ideal.Facts) (hR : Cert.Reference10Ideal.Facts) :
    Cert.algebraic_Kernel10Ideal_Reference10Ideal (hKernel10Ideal := hK) (hReference10Ideal := hR) := by
  intro m g m' g' _ hargs
  refine ⟨fun c => pick (n := 1024) (op (F := Ideal)) (A m c) (B m c), ends m g, ?_⟩
  refine (θ_run _ _ _).mono (fun r h c => ⟨?_, (h c).2⟩) (Cert.Reference10Ideal.Value.run m' g')
  rw [(h c).1, val_main_v5_eq, (hargs c).1, (hargs c).2]
  exact ref_eq _ _

/-- The kernel's function is the same in both programs. -/
theorem body_same (i : Cert.Kernel10.grid0.Coords)
    (a1 : Memref Cert.Kernel10.sig .tc .vmem Cert.Kernel10.S7168x128 .f32) (h1 : a1.IsWhole)
    (a2 : Memref Cert.Kernel10.sig .tc .vmem Cert.Kernel10.S7168x128 .f32) (h2 : a2.IsWhole)
    (a3 : Memref Cert.Kernel10.sig .tc .vmem Cert.Kernel10.S4x834x128 .bf16) (h3 : a3.IsWhole) :
    Cert.Kernel10.cc0_chip_sum_w_in (F := F) i a1 h1 a2 h2 a3 h3 = Cert.Kernel10Ideal.cc0_chip_sum_w_in (F := F) i a1 h1 a2 h2 a3 h3 := by
  unfold Cert.Kernel10.cc0_chip_sum_w_in Cert.Kernel10Ideal.cc0_chip_sum_w_in
  rfl

/-- So is the table of bodies, which has the kernel's function alone; -/
theorem table_same : Cert.Kernel10.defs₀ (F := F) = Cert.Kernel10Ideal.defs₀ (F := F) := by
  unfold Cert.Kernel10.defs₀ Cert.Kernel10Ideal.defs₀
  refine congrArg Defs.onTc (funext fun l => funext fun a => ?_)
  match l, a with
  | 0, (t, s) => exact body_same _ _ _ _ _ _ _
  | ⟨_ + 1, h⟩, _ => exact absurd h (Nat.not_lt.2 (Nat.le_add_left _ _))

/-- and with it what the program's calls run. -/
theorem defs_same : Cert.Kernel10.defs (F := F) = Cert.Kernel10Ideal.defs (F := F) :=
  congrArg (Pipeline.defs Cert.Kernel10Ideal.pcfgs) table_same

/-- The frame over the machine's values. -/
theorem frame_kernel : Cert.quiescent_Kernel10 := fun m ρ _ =>
  (congrArg (fun d => θ_run d (onTc Cert.Kernel10Ideal.main) ⟨m, fun _ => 0, ρ⟩ _) (defs_same (F := Bits))).mpr
    (Cert.Kernel10Ideal.Gen.frame (F := Bits) m ρ)

/-- The kernel's result on the machine's values is the reference's. -/
theorem bitexact (hK : Cert.Kernel10.Facts) (hR : Cert.Reference10.Facts) :
    Cert.bitexact_Kernel10_Reference10 (hKernel10 := hK) (hReference10 := hR) := by
  intro m g m' g' _ hargs
  refine ⟨fun c => pick (n := 1024) (op (F := Bits)) (A (F := Bits) m c) (B (F := Bits) m c), ?_, ?_⟩
  · exact (congrArg (fun d => θ_run d (onTc Cert.Kernel10Ideal.main) ⟨m, fun _ => 0, g⟩ _) (defs_same (F := Bits))).mpr
      (ends (F := Bits) m g)
  · refine (θ_run _ _ _).mono (fun r h c => ⟨?_, (h c).2⟩) (Cert.Reference10.Value.run m' g')
    rw [(h c).1, (hargs c).1, (hargs c).2]
    exact ref_eq _ _

end Cert.Proof.ChipRef

end
-- ==== Proof.ScanVec.lean ====
/-
  THE FORWARD SCAN (`Kernel11`): what the body computes on one chunk of 128 tokens and one pair of heads, as arrays.

  The body handles two chunks of 128 tokens at a grid point, and eight pairs of heads in each. The sixteen stretches of
  code are the same up to the columns they read. `yv p` is the output of pair `p` and `hv p` the state it leaves, each as
  one expression in the pair's number; `split3` is the product with a matrix of zeros and ones that the body takes in
  three terms of lower precision.
-/
module

public import proofs.«01_k».proof.Proof.Blocks
public import proofs.«01_k».proof.Proof.Gen.Kernel11Ideal.Skeleton

@[expose] public section

noncomputable section

open Idealize.ShloMosaic Idealize.SL.Sem Idealize.ShloMosaic.ValueIdx
open scoped BigOperators

namespace Cert.Proof.ScanVec

open Cert.Kernel11Ideal Cert.Kernel11Ideal.Gen Cert.Proof.Blocks

theorem sl_x : ∀ p, p < 8 → S128x1536.Slices ![0, 128 * p] S128x128 := by decide
theorem sl_b : ∀ p, p < 8 → S128x1536.Slices ![0, 1024 + 128 * (p / 4)] S128x128 := by decide
theorem sl_c : ∀ p, p < 8 → S128x1536.Slices ![0, 1280 + 128 * (p / 4)] S128x128 := by decide
theorem sl_f : ∀ p, p < 8 → S128x1024.Slices ![0, 128 * p] S128x128 := by decide
theorem sl_0 : ∀ p, p < 8 → S128x2048.Slices ![0, 128 * p] S128x128 := by decide
theorem sl_1 : ∀ p, p < 8 → S128x2048.Slices ![0, 1024 + 128 * p] S128x128 := by decide
theorem sl_t0 : ∀ p, p < 8 → S128x128.Slices ![2 * p, 0] S1x128 := by decide
theorem sl_t1 : ∀ p, p < 8 → S128x128.Slices ![2 * p + 1, 0] S1x128 := by decide

/-- The products of a group's two small vectors, token with token. -/
def gv (p : ℕ) (hp : p < 8) (X : FVec Ideal S128x1536 .f32) : FVec Ideal S128x128 .f32 :=
  matmul dot_S128x128_S128x128_S128x128_1_1_0_0_n_n none
    (truncf .bf16 (extractStridedSlice S128x128 ![0, 1280 + 128 * (p / 4)] X (sl_c p hp)) bitsLt_bf16_f32)
    (truncf .bf16 (extractStridedSlice S128x128 ![0, 1024 + 128 * (p / 4)] X (sl_b p hp)) bitsLt_bf16_f32)
    (constant S128x128 .f32 0x00000000#32)

/-- A pair's input, scaled by its step. -/
def xdt (p : ℕ) (hp : p < 8) (X : FVec Ideal S128x1536 .f32) (dtf : FVec Ideal S128x1024 .f32) : FVec Ideal S128x128 .f32 :=
  mulf (extractStridedSlice S128x128 ![0, 128 * p] X (sl_x p hp)) (extractStridedSlice S128x128 ![0, 128 * p] dtf (sl_f p hp))

/-- The sum over the chunk's earlier tokens, for one head of the pair. -/
def dv (A : FVec Ideal S128x128 .f32) (R : FVec Ideal S1x128 .f32) (G : FVec Ideal S128x128 .f32) (U : FVec Ideal S128x128 .f32) :
    FVec Ideal S128x128 .f32 :=
  matmul dot_S128x128_S128x128_S128x128_1_0_0_1_n_n none
    (truncf .bf16 (mulf G (exp (select (cmpi .sge (iota .tc S128x128 32 [0] iota_S128x128_d0_w32) (iota .tc S128x128 32 [1] iota_S128x128_d1_w32))
      (subf A (broadcastTo S128x128 R broadcasts_S1x128_S128x128)) (broadcast S128x128 (Scalar.ofBits (F := Ideal) .f32 0xFF800000#32))))) bitsLt_bf16_f32)
    (truncf .bf16 U bitsLt_bf16_f32) (constant S128x128 .f32 0x00000000#32)

/-- A pair's output. -/
def yv (p : ℕ) (hp : p < 8) (X : FVec Ideal S128x1536 .f32) (dtf alf : FVec Ideal S128x1024 .f32) (ALx : FVec Ideal S128x2048 .f32)
    (alt H : FVec Ideal S128x128 .f32) (df : FVec Ideal S1x128 .f32) : FVec Ideal S128x128 .f32 :=
  shapeCast S128x128 (addf (addf
    (select (cmpi .slt (iota .tc S128x128 32 [1] iota_S128x128_d1_w32) (broadcast S128x128 64#32))
      (dv (extractStridedSlice S128x128 ![0, 128 * p] ALx (sl_0 p hp)) (extractStridedSlice S1x128 ![2 * p, 0] alt (sl_t0 p hp)) (gv p hp X) (xdt p hp X dtf))
      (dv (extractStridedSlice S128x128 ![0, 1024 + 128 * p] ALx (sl_1 p hp)) (extractStridedSlice S1x128 ![2 * p + 1, 0] alt (sl_t1 p hp)) (gv p hp X) (xdt p hp X dtf)))
    (mulf (exp (extractStridedSlice S128x128 ![0, 128 * p] alf (sl_f p hp)))
      (matmul dot_S128x128_S128x128_S128x128_1_0_0_1_n_n none
        (truncf .bf16 (extractStridedSlice S128x128 ![0, 1280 + 128 * (p / 4)] X (sl_c p hp)) bitsLt_bf16_f32)
        (truncf .bf16 H bitsLt_bf16_f32) (constant S128x128 .f32 0x00000000#32))))
    (mulf (broadcastTo S128x128 (shapeCast S1x128 df shapeCasts_S1x128_S1x128) broadcasts_S1x128_S128x128)
      (extractStridedSlice S128x128 ![0, 128 * p] X (sl_x p hp)))) shapeCasts_S128x128_S128x128

/-- The state a pair leaves. -/
def hv (p : ℕ) (hp : p < 8) (X : FVec Ideal S128x1536 .f32) (dtf alf : FVec Ideal S128x1024 .f32) (H : FVec Ideal S128x128 .f32) :
    FVec Ideal S128x128 .f32 :=
  shapeCast S128x128 (addf
    (mulf (broadcastTo S128x128 (exp (extractStridedSlice S1x128 ![127, 0] (extractStridedSlice S128x128 ![0, 128 * p] alf (sl_f p hp)) slices_S128x128_o127_0_S1x128)) broadcasts_S1x128_S128x128) H)
    (matmul dot_S128x128_S128x128_S128x128_0_0_1_1_n_n none
      (truncf .bf16 (extractStridedSlice S128x128 ![0, 1024 + 128 * (p / 4)] X (sl_b p hp)) bitsLt_bf16_f32)
      (truncf .bf16 (mulf (exp (subf (broadcastTo S128x128 (extractStridedSlice S1x128 ![127, 0] (extractStridedSlice S128x128 ![0, 128 * p] alf (sl_f p hp)) slices_S128x128_o127_0_S1x128) broadcasts_S1x128_S128x128)
        (extractStridedSlice S128x128 ![0, 128 * p] alf (sl_f p hp)))) (xdt p hp X dtf)) bitsLt_bf16_f32)
      (constant S128x128 .f32 0x00000000#32))) shapeCasts_S128x128_S128x128

/-- A product with a matrix of zeros and ones, the left operand in three terms. -/
def split3 (A : FVec Ideal S128x128 .f32) (E : FVec Ideal S128x2048 .bf16) : FVec Ideal S128x2048 .f32 :=
  matmul dot_S128x384_S384x2048_S128x2048_1_0_0_1_n_n none
    (concatenate S128x384 1 [⟨S128x128, truncf (F := Ideal) (φ := .f32) .bf16 A bitsLt_bf16_f32⟩,
      ⟨S128x128, truncf (F := Ideal) (φ := .f32) .bf16 (subf A (extf .f32 (truncf (F := Ideal) (φ := .f32) .bf16 A bitsLt_bf16_f32) bitsLt_bf16_f32)) bitsLt_bf16_f32⟩,
      ⟨S128x128, truncf (F := Ideal) (φ := .f32) .bf16 (subf (subf A (extf .f32 (truncf (F := Ideal) (φ := .f32) .bf16 A bitsLt_bf16_f32) bitsLt_bf16_f32))
        (extf .f32 (truncf (F := Ideal) (φ := .f32) .bf16 (subf A (extf .f32 (truncf (F := Ideal) (φ := .f32) .bf16 A bitsLt_bf16_f32) bitsLt_bf16_f32)) bitsLt_bf16_f32) bitsLt_bf16_f32)) bitsLt_bf16_f32⟩]
      concatenates_S128x128_S128x128_S128x128_S128x384_d1 : FVec Ideal S128x384 .bf16)
    (concatenate S384x2048 0 [⟨S128x2048, E⟩, ⟨S128x2048, E⟩, ⟨S128x2048, E⟩] concatenates_S128x2048_S128x2048_S128x2048_S384x2048_d0 : FVec Ideal S384x2048 .bf16)
    (constant S128x2048 .f32 0x00000000#32)

theorem pay20_eq (a b : FVec Ideal S128x128 .f32) (E : FVec Ideal S128x2048 .bf16) : k0_pay20 (F := Ideal) a b E = split3 (k0_pay17 a b) E := rfl
theorem pay21_eq (a b : FVec Ideal S128x128 .f32) (g : FVec Ideal S1x128 .f32) (E : FVec Ideal S128x2048 .bf16) :
    k0_pay21 (F := Ideal) a b g E = split3 (k0_pay18 a b g) E := rfl
theorem pay122_eq (a : FVec Ideal S128x128 .f32) (b : FVec Ideal S1x128 .f32) (E : FVec Ideal S128x2048 .bf16) :
    k0_pay122 (F := Ideal) a b E = k0_pay20 (F := Ideal) (k0_pay15 a b) (k0_pay16 a b) E := rfl
theorem pay123_eq (a : FVec Ideal S128x128 .f32) (b g : FVec Ideal S1x128 .f32) (E : FVec Ideal S128x2048 .bf16) :
    k0_pay123 (F := Ideal) a b g E = k0_pay21 (F := Ideal) (k0_pay15 a b) (k0_pay16 a b) g E := rfl
theorem pay121_eq (a : FVec Ideal S128x128 .f32) (b g : FVec Ideal S1x128 .f32) :
    k0_pay121 (F := Ideal) a b g = k0_pay19 (F := Ideal) (k0_pay15 a b) (k0_pay16 a b) g := rfl

section
variable (X : FVec Ideal S128x1536 .f32) (dtf alf : FVec Ideal S128x1024 .f32) (ALx : FVec Ideal S128x2048 .f32)
    (alt H : FVec Ideal S128x128 .f32) (df : FVec Ideal S1x128 .f32)

example : k0_pay47 (F := Ideal) alt ALx alf k0_pay27 (k0_pay30 X) (k0_pay31 X) (k0_pay42 X) (k0_pay43 dtf) H df
  = yv 1 (by decide) X dtf alf ALx alt H df := rfl
example : k0_pay49 (F := Ideal) (k0_pay29 X) (k0_pay45 (k0_pay42 X) (k0_pay43 dtf)) (k0_pay46 alf) H (k0_pay48 alf)
  = hv 1 (by decide) X dtf alf H := rfl
end

end Cert.Proof.ScanVec

end
-- ==== Proof.ScanPair.lean ====
/-
  THE FORWARD SCAN (`Kernel11`): one pair of heads on one chunk, at one element.

  `Y` is the output of a chunk and `Hn` the state it leaves, as plain sums over the chunk's tokens and over the state's
  rows: `X l k` is the gated convolution of token `l`, column `k`; `dt l h` the step and `al l h` the sum of decays up to
  token `l`, for head `h`; `H n k` the state the chunk starts from. `rd_yv` and `rd_hv` say that the body's expressions
  for a pair are these sums at the pair's columns.
-/
module

public import proofs.«01_k».proof.Proof.ScanVec

@[expose] public section

noncomputable section

open Idealize.ShloMosaic Idealize.SL.Sem Idealize.ShloMosaic.ValueIdx
open scoped BigOperators

namespace Cert.Proof.ScanPair

open Cert.Kernel11Ideal Cert.Kernel11Ideal.Gen Cert.Proof.Blocks Cert.Proof.ScanVec

/-! ## The sums -/

/-- The decay from token `s` to token `l`; nothing flows back in time. -/
def dec (al : ℕ → ℕ → EReal) (h l s : ℕ) : EReal :=
  Ideal.exp (if s ≤ l then al l h - al s h else Ideal.ofBits .f32 0xFF800000#32)

/-- The product of two tokens' small vectors. -/
def cbs (X : ℕ → ℕ → EReal) (g l s : ℕ) : EReal := ∑ n : Fin 128, X l (1280 + 128 * g + n.val) * X s (1024 + 128 * g + n.val)

/-- A chunk's output. -/
def Y (X dt al H : ℕ → ℕ → EReal) (D : ℕ → EReal) (l k : ℕ) : EReal :=
  (∑ s : Fin 128, (cbs X (k / 512) l s.val * dec al (k / 64) l s.val) * (X s.val k * dt s.val (k / 64)))
    + Ideal.exp (al l (k / 64)) * (∑ n : Fin 128, X l (1280 + 128 * (k / 512) + n.val) * H n.val k) + D k * X l k

/-- The state a chunk leaves. -/
def Hn (X dt al H : ℕ → ℕ → EReal) (n k : ℕ) : EReal :=
  Ideal.exp (al 127 (k / 64)) * H n k
    + ∑ l : Fin 128, X l.val (1024 + 128 * (k / 512) + n) * (Ideal.exp (al 127 (k / 64) - al l.val (k / 64)) * (X l.val k * dt l.val (k / 64)))

/-! ## Slices, and the products -/

/-- A slice of a matrix, at an element. -/
theorem rd_slice {n m p q : ℕ} (x : (⟨2, ![n, m]⟩ : Shape).Idx → EReal) (o0 o1 : ℕ)
    (h : Shape.Slices ⟨2, ![n, m]⟩ ![o0, o1] ⟨2, ![p, q]⟩) {a b : ℕ} (ha : a < p) (hb : b < q) :
    rd (extractStridedSlice ⟨2, ![p, q]⟩ ![o0, o1] x h) a b = rd x (o0 + a) (o1 + b) := by
  rw [rd_of_lt _ ha hb]
  unfold extractStridedSlice
  exact eq_rd x _ rfl rfl

section Dots

theorem al0 (j : S128x128.Idx) (q : (dot_S128x128_S128x128_S128x128_1_0_0_1_n_n).contr.Idx) : ((dot_S128x128_S128x128_S128x128_1_0_0_1_n_n).lhsIdx j q 0).val = (j 0).val := by
  unfold DotDims.lhsIdx
  rw [dif_neg (show ¬(0 : Fin S128x128.rank) ∈ (dot_S128x128_S128x128_S128x128_1_0_0_1_n_n).lhsBatch by decide), dif_pos (show (0 : Fin S128x128.rank) ∈ (dot_S128x128_S128x128_S128x128_1_0_0_1_n_n).lhsNonContracting by decide)]
  rfl
theorem ar1 (j : S128x128.Idx) (q : (dot_S128x128_S128x128_S128x128_1_0_0_1_n_n).contr.Idx) : ((dot_S128x128_S128x128_S128x128_1_0_0_1_n_n).rhsIdx j q 1).val = (j 1).val := by
  unfold DotDims.rhsIdx
  rw [dif_neg (show ¬(1 : Fin S128x128.rank) ∈ (dot_S128x128_S128x128_S128x128_1_0_0_1_n_n).rhsBatch by decide), dif_pos (show (1 : Fin S128x128.rank) ∈ (dot_S128x128_S128x128_S128x128_1_0_0_1_n_n).rhsNonContracting by decide)]
  rfl
theorem bl0 (j : S128x128.Idx) (q : (dot_S128x128_S128x128_S128x128_1_1_0_0_n_n).contr.Idx) : ((dot_S128x128_S128x128_S128x128_1_1_0_0_n_n).lhsIdx j q 0).val = (j 0).val := by
  unfold DotDims.lhsIdx
  rw [dif_neg (show ¬(0 : Fin S128x128.rank) ∈ (dot_S128x128_S128x128_S128x128_1_1_0_0_n_n).lhsBatch by decide), dif_pos (show (0 : Fin S128x128.rank) ∈ (dot_S128x128_S128x128_S128x128_1_1_0_0_n_n).lhsNonContracting by decide)]
  rfl
theorem br0 (j : S128x128.Idx) (q : (dot_S128x128_S128x128_S128x128_1_1_0_0_n_n).contr.Idx) : ((dot_S128x128_S128x128_S128x128_1_1_0_0_n_n).rhsIdx j q 0).val = (j 1).val := by
  unfold DotDims.rhsIdx
  rw [dif_neg (show ¬(0 : Fin S128x128.rank) ∈ (dot_S128x128_S128x128_S128x128_1_1_0_0_n_n).rhsBatch by decide), dif_pos (show (0 : Fin S128x128.rank) ∈ (dot_S128x128_S128x128_S128x128_1_1_0_0_n_n).rhsNonContracting by decide)]
  rfl
theorem cl1 (j : S128x128.Idx) (q : (dot_S128x128_S128x128_S128x128_0_0_1_1_n_n).contr.Idx) : ((dot_S128x128_S128x128_S128x128_0_0_1_1_n_n).lhsIdx j q 1).val = (j 0).val := by
  unfold DotDims.lhsIdx
  rw [dif_neg (show ¬(1 : Fin S128x128.rank) ∈ (dot_S128x128_S128x128_S128x128_0_0_1_1_n_n).lhsBatch by decide), dif_pos (show (1 : Fin S128x128.rank) ∈ (dot_S128x128_S128x128_S128x128_0_0_1_1_n_n).lhsNonContracting by decide)]
  rfl
theorem cr1 (j : S128x128.Idx) (q : (dot_S128x128_S128x128_S128x128_0_0_1_1_n_n).contr.Idx) : ((dot_S128x128_S128x128_S128x128_0_0_1_1_n_n).rhsIdx j q 1).val = (j 1).val := by
  unfold DotDims.rhsIdx
  rw [dif_neg (show ¬(1 : Fin S128x128.rank) ∈ (dot_S128x128_S128x128_S128x128_0_0_1_1_n_n).rhsBatch by decide), dif_pos (show (1 : Fin S128x128.rank) ∈ (dot_S128x128_S128x128_S128x128_0_0_1_1_n_n).rhsNonContracting by decide)]
  rfl
end Dots

variable {φ₁ φ₂ : FTy}

/-- The three products of 128x128 matrices, at an element. -/
theorem rd_nn (A B : S128x128.Idx → EReal) {a b : ℕ} (ha : a < 128) (hb : b < 128) :
    rd (FloatOps.matmul (F := Ideal) (φ₁ := φ₁) (φ₂ := φ₂) dot_S128x128_S128x128_S128x128_1_0_0_1_n_n none A B (constant S128x128 .f32 0x00000000#32)) a b
      = ∑ k : Fin 128, rd A a k.val * rd B k.val b := by
  rw [rd_of_lt _ ha hb]
  exact matmul_nn dot_S128x128_S128x128_S128x128_1_0_0_1_n_n A B rfl rfl al0
    (fun j q => (dot_S128x128_S128x128_S128x128_1_0_0_1_n_n).lhsIdx_val_of_single rfl j q)
    (fun j q => (dot_S128x128_S128x128_S128x128_1_0_0_1_n_n).rhsIdx_val_of_single rfl j q) ar1 _
theorem rd_nt (A B : S128x128.Idx → EReal) {a b : ℕ} (ha : a < 128) (hb : b < 128) :
    rd (FloatOps.matmul (F := Ideal) (φ₁ := φ₁) (φ₂ := φ₂) dot_S128x128_S128x128_S128x128_1_1_0_0_n_n none A B (constant S128x128 .f32 0x00000000#32)) a b
      = ∑ k : Fin 128, rd A a k.val * rd B b k.val := by
  rw [rd_of_lt _ ha hb]
  exact matmul_nt dot_S128x128_S128x128_S128x128_1_1_0_0_n_n A B rfl rfl bl0
    (fun j q => (dot_S128x128_S128x128_S128x128_1_1_0_0_n_n).lhsIdx_val_of_single rfl j q) br0
    (fun j q => (dot_S128x128_S128x128_S128x128_1_1_0_0_n_n).rhsIdx_val_of_single rfl j q) _
theorem rd_tn (A B : S128x128.Idx → EReal) {a b : ℕ} (ha : a < 128) (hb : b < 128) :
    rd (FloatOps.matmul (F := Ideal) (φ₁ := φ₁) (φ₂ := φ₂) dot_S128x128_S128x128_S128x128_0_0_1_1_n_n none A B (constant S128x128 .f32 0x00000000#32)) a b
      = ∑ k : Fin 128, rd A k.val a * rd B k.val b := by
  rw [rd_of_lt _ ha hb]
  exact matmul_tn dot_S128x128_S128x128_S128x128_0_0_1_1_n_n A B rfl rfl
    (fun j q => (dot_S128x128_S128x128_S128x128_0_0_1_1_n_n).lhsIdx_val_of_single rfl j q) cl1
    (fun j q => (dot_S128x128_S128x128_S128x128_0_0_1_1_n_n).rhsIdx_val_of_single rfl j q) cr1 _

/-! ## The masks -/

theorem sge_iff : ∀ l s : Fin 128, (IntOp.cmpi .sge (BitVec.ofNat 32 (0 * 128 + l.val)) (BitVec.ofNat 32 (0 * 128 + s.val)) = 1) ↔ s.val ≤ l.val := by
  decide +kernel
theorem slt_iff : ∀ j : Fin 128, (IntOp.cmpi .slt (BitVec.ofNat 32 (0 * 128 + j.val)) 64#32 = 1) ↔ j.val < 64 := by
  decide +kernel

/-! ## One pair -/

section
variable (p : ℕ) (hp : p < 8) (X : FVec Ideal S128x1536 .f32) (dtf alf : FVec Ideal S128x1024 .f32) (ALx : FVec Ideal S128x2048 .f32)
    (alt H : FVec Ideal S128x128 .f32) (df : FVec Ideal S1x128 .f32)

theorem rd_gv {l s : ℕ} (hl : l < 128) (hs : s < 128) : rd (gv p hp X) l s = cbs (rd X) (p / 4) l s := by
  refine (rd_nt (φ₁ := .bf16) (φ₂ := .bf16) _ _ hl hs).trans (Finset.sum_congr rfl fun n _ => ?_)
  exact congrArg₂ (· * ·) (rd_slice X 0 (1280 + 128 * (p / 4)) (sl_c p hp) hl n.isLt |>.trans (by rw [Nat.zero_add]))
    (rd_slice X 0 (1024 + 128 * (p / 4)) (sl_b p hp) hs n.isLt |>.trans (by rw [Nat.zero_add]))

theorem rd_xdt {l j : ℕ} (hl : l < 128) (hj : j < 128) : rd (xdt p hp X dtf) l j = rd X l (128 * p + j) * rd dtf l (128 * p + j) := by
  have e : rd (xdt p hp X dtf) l j = rd (extractStridedSlice S128x128 ![0, 128 * p] X (sl_x p hp)) l j * rd (extractStridedSlice S128x128 ![0, 128 * p] dtf (sl_f p hp)) l j := by
    rw [rd_of_lt _ hl hj, rd_of_lt _ hl hj, rd_of_lt _ hl hj]; rfl
  rw [e]
  exact congrArg₂ (· * ·) (rd_slice X 0 (128 * p) (sl_x p hp) hl hj |>.trans (by rw [Nat.zero_add]))
    (rd_slice dtf 0 (128 * p) (sl_f p hp) hl hj |>.trans (by rw [Nat.zero_add]))

theorem rd_dv (A G U : FVec Ideal S128x128 .f32) (R : FVec Ideal S1x128 .f32) {l j : ℕ} (hl : l < 128) (hj : j < 128) :
    rd (dv A R G U) l j = ∑ s : Fin 128, (rd G l s.val * Ideal.exp (if s.val ≤ l then rd A l s.val - rd R 0 s.val else Ideal.ofBits .f32 0xFF800000#32)) * rd U s.val j := by
  refine (rd_nn (φ₁ := .bf16) (φ₂ := .bf16) _ _ hl hj).trans (Finset.sum_congr rfl fun s _ => ?_)
  refine congrArg (· * rd U s.val j) ?_
  rw [rd_of_lt _ hl s.isLt, rd_of_lt G hl s.isLt, rd_of_lt A hl s.isLt]
  refine congrArg (fun e => G (ix2 ⟨l, hl⟩ ⟨s.val, s.isLt⟩) * Ideal.exp e) ?_
  refine (ite_congr (propext (sge_iff ⟨l, hl⟩ s)) (fun _ => ?_) (fun _ => rfl))
  exact congrArg (A (ix2 ⟨l, hl⟩ ⟨s.val, s.isLt⟩) - ·) (brow R broadcasts_S1x128_S128x128 (ix2 ⟨l, hl⟩ ⟨s.val, s.isLt⟩))

variable (dt al Hf : ℕ → ℕ → EReal) (D : ℕ → EReal)

/-- A pair's output, at an element. -/
theorem rd_yv (hdt : ∀ a b, a < 128 → b < 1024 → rd dtf a b = dt a (b / 64)) (hal : ∀ a b, a < 128 → b < 1024 → rd alf a b = al a (b / 64))
    (hAL : ∀ a b, a < 128 → b < 2048 → rd ALx a b = al a (2 * (b % 1024 / 128) + b / 1024)) (halt : ∀ h l, h < 16 → l < 128 → rd alt h l = al l h)
    (hH : ∀ n j, n < 128 → j < 128 → rd H n j = Hf n (128 * p + j)) (hD : ∀ j, j < 128 → rd df 0 j = D (128 * p + j))
    {l j : ℕ} (hl : l < 128) (hj : j < 128) : rd (yv p hp X dtf alf ALx alt H df) l j = Y (rd X) dt al Hf D l (128 * p + j) := by
  have e512 : (128 * p + j) / 512 = p / 4 := by omega
  have hk : 128 * p + j < 1024 := by omega
  have hdv : ∀ (q : ℕ) (A : FVec Ideal S128x128 .f32) (R : FVec Ideal S1x128 .f32), (128 * p + j) / 64 = q →
      (∀ s, s < 128 → rd A l s = al l q) → (∀ s, s < 128 → rd R 0 s = al s q) →
      rd (dv A R (gv p hp X) (xdt p hp X dtf)) l j
        = ∑ s : Fin 128, (cbs (rd X) (p / 4) l s.val * dec al ((128 * p + j) / 64) l s.val) * (rd X s.val (128 * p + j) * dt s.val ((128 * p + j) / 64)) := by
    intro q A R hq hA hR
    rw [rd_dv _ _ _ _ hl hj]
    refine Finset.sum_congr rfl fun s _ => ?_
    rw [rd_gv p hp X hl s.isLt, rd_xdt p hp X dtf s.isLt hj, hA _ s.isLt, hR _ s.isLt, hdt _ _ s.isLt hk, hq]
    rfl
  have hx : extractStridedSlice S128x128 ![0, 128 * p] X (sl_x p hp) (ix2 ⟨l, hl⟩ ⟨j, hj⟩) = rd X l (128 * p + j) := by
    unfold extractStridedSlice
    exact eq_rd X _ (Nat.zero_add l) rfl
  have ha : extractStridedSlice S128x128 ![0, 128 * p] alf (sl_f p hp) (ix2 ⟨l, hl⟩ ⟨j, hj⟩) = al l ((128 * p + j) / 64) := by
    rw [← hal _ _ hl hk]
    unfold extractStridedSlice
    exact eq_rd alf _ (Nat.zero_add l) rfl
  have hd : broadcastTo S128x128 (shapeCast S1x128 df shapeCasts_S1x128_S1x128) broadcasts_S1x128_S128x128 (ix2 ⟨l, hl⟩ ⟨j, hj⟩) = D (128 * p + j) := by
    rw [shapeCast_self, brow]
    exact hD j hj
  unfold yv
  rw [shapeCast_self, rd_of_lt _ hl hj]
  unfold Y
  rw [e512]
  refine congrArg₂ (· + ·) (congrArg₂ (· + ·) ?_ ?_) (congrArg₂ (· * ·) hd hx)
  · refine Eq.trans (ite_congr (propext (slt_iff ⟨j, hj⟩)) (fun _ => rfl) (fun _ => rfl)) ?_
    split_ifs with h
    · have hj' : j < 64 := h
      refine (rd_of_lt _ hl hj).symm.trans (hdv (2 * p) _ _ (by omega) (fun s hs => ?_) fun s hs => ?_)
      · rw [rd_slice ALx 0 (128 * p) (sl_0 p hp) hl hs, Nat.zero_add, hAL _ _ hl (by omega)]
        exact congrArg (al l) (by omega)
      · rw [rd_slice alt (2 * p) 0 (sl_t0 p hp) Nat.one_pos hs, Nat.zero_add]
        exact halt _ _ (by omega) hs
    · have hj' : ¬j < 64 := h
      refine (rd_of_lt _ hl hj).symm.trans (hdv (2 * p + 1) _ _ (by omega) (fun s hs => ?_) fun s hs => ?_)
      · rw [rd_slice ALx 0 (1024 + 128 * p) (sl_1 p hp) hl hs, Nat.zero_add, hAL _ _ hl (by omega)]
        exact congrArg (al l) (by omega)
      · rw [rd_slice alt (2 * p + 1) 0 (sl_t1 p hp) Nat.one_pos hs, Nat.zero_add]
        exact halt _ _ (by omega) hs
  · refine congrArg₂ (· * ·) (congrArg Ideal.exp ha) ?_
    refine (rd_of_lt _ hl hj).symm.trans ((rd_nn (φ₁ := .bf16) (φ₂ := .bf16) _ _ hl hj).trans (Finset.sum_congr rfl fun n _ => ?_))
    exact congrArg₂ (· * ·) (rd_slice X 0 (1280 + 128 * (p / 4)) (sl_c p hp) hl n.isLt |>.trans (by rw [Nat.zero_add])) (hH _ _ n.isLt hj)

/-- The state a pair leaves, at an element. -/
theorem rd_hv (hdt : ∀ a b, a < 128 → b < 1024 → rd dtf a b = dt a (b / 64)) (hal : ∀ a b, a < 128 → b < 1024 → rd alf a b = al a (b / 64))
    (hH : ∀ n j, n < 128 → j < 128 → rd H n j = Hf n (128 * p + j))
    {n j : ℕ} (hn : n < 128) (hj : j < 128) : rd (hv p hp X dtf alf H) n j = Hn (rd X) dt al Hf n (128 * p + j) := by
  have e512 : (128 * p + j) / 512 = p / 4 := by omega
  have hk : 128 * p + j < 1024 := by omega
  have hlast : ∀ i : S1x128.Idx, (i 1).val = j → extractStridedSlice S1x128 ![127, 0] (extractStridedSlice S128x128 ![0, 128 * p] alf (sl_f p hp)) slices_S128x128_o127_0_S1x128 i = al 127 ((128 * p + j) / 64) := by
    intro i hi
    rw [← hal 127 _ (by omega) hk]
    unfold extractStridedSlice
    refine eq_rd alf _ ?_ ?_
    · show 0 + (127 + (i 0).val) = 127
      have := idx2_lt0 i; omega
    · show 128 * p + (0 + (i 1).val) = _
      omega
  unfold hv
  rw [shapeCast_self, rd_of_lt _ hn hj]
  unfold Hn
  rw [e512]
  refine congrArg₂ (· + ·) (congrArg₂ (· * ·) ?_ ?_) ?_
  · rw [brow, rd_of_lt _ Nat.one_pos hj]
    exact congrArg Ideal.exp (hlast _ rfl)
  · rw [← hH _ _ hn hj, rd_of_lt _ hn hj]
  · refine (rd_of_lt _ hn hj).symm.trans ((rd_tn (φ₁ := .bf16) (φ₂ := .bf16) _ _ hn hj).trans (Finset.sum_congr rfl fun l _ => ?_))
    refine congrArg₂ (· * ·) (rd_slice X 0 (1024 + 128 * (p / 4)) (sl_b p hp) l.isLt hn |>.trans (by rw [Nat.zero_add])) ?_
    rw [← hdt _ _ l.isLt hk, ← rd_xdt p hp X dtf l.isLt hj, rd_of_lt _ l.isLt hj, rd_of_lt (xdt p hp X dtf) l.isLt hj]
    refine congrArg (· * xdt p hp X dtf (ix2 ⟨l.val, l.isLt⟩ ⟨j, hj⟩)) (congrArg Ideal.exp (congrArg₂ (· - ·) ?_ ?_))
    · rw [brow, rd_of_lt _ Nat.one_pos hj]
      exact hlast _ rfl
    · rw [← hal _ _ l.isLt hk]
      unfold extractStridedSlice
      exact eq_rd alf _ (Nat.zero_add _) rfl

end

end Cert.Proof.ScanPair

end
-- ==== Proof.ScanSteps.lean ====
/-
  THE FORWARD SCAN (`Kernel11`): the steps and decays of a chunk, spread over the columns of their heads, and the
  convolution with its gate.

  The body spreads a token's sixteen steps over 1024 columns by a product with a matrix of zeros and ones, the left operand
  cut into three terms of lower precision. Over the extended reals the first term is the operand itself and the other two
  are the operand less itself: zero where the operand is a real number, and minus infinity where it is minus infinity.
-/
module

public import proofs.«01_k».proof.Proof.ScanPair
public import proofs.«01_k».proof.Proof.Consts
public import Idealize.ShloMosaic.Lib.KernelVsHost

@[expose] public section

noncomputable section

open Idealize.ShloMosaic Idealize.SL.Sem Idealize.ShloMosaic.ValueIdx
open scoped BigOperators

namespace Cert.Proof.ScanSteps

open Cert.Kernel11Ideal Cert.Kernel11Ideal.Gen Cert.Proof.Blocks Cert.Proof.ScanVec Cert.Proof.ScanPair Cert.Proof.Consts

/-! ## Real numbers among the extended ones -/

/-- A real number. -/
def Real (x : EReal) : Prop := ∃ r : ℝ, x = (r : EReal)

theorem Real.zero : Real 0 := ⟨0, rfl⟩
theorem Real.add {x y : EReal} : Real x → Real y → Real (x + y) := by
  rintro ⟨a, rfl⟩ ⟨b, rfl⟩; exact ⟨a + b, (EReal.coe_add a b).symm⟩
theorem Real.mul {x y : EReal} : Real x → Real y → Real (x * y) := by
  rintro ⟨a, rfl⟩ ⟨b, rfl⟩; exact ⟨a * b, (EReal.coe_mul a b).symm⟩
theorem Real.neg {x : EReal} : Real x → Real (-x) := by
  rintro ⟨a, rfl⟩; exact ⟨-a, (EReal.coe_neg a).symm⟩
theorem Real.sub {x y : EReal} (hx : Real x) (hy : Real y) : Real (x - y) := by
  rw [sub_eq_add_neg]; exact hx.add hy.neg
theorem Real.max {x y : EReal} (hx : Real x) (hy : Real y) : Real (max x y) := by
  rcases max_choice x y with h | h <;> rw [h] <;> assumption
theorem Real.exp {x : EReal} : Real x → Real (Ideal.exp x) := by
  rintro ⟨a, rfl⟩; exact ⟨_, rfl⟩
theorem Real.log1p_exp {x : EReal} : Real x → Real (Ideal.log (1 + Ideal.exp x)) := by
  rintro ⟨a, rfl⟩
  refine ⟨_root_.Real.log (1 + _root_.Real.exp a), ?_⟩
  have h : (1 : EReal) + Ideal.exp (a : EReal) = ((1 + _root_.Real.exp a : ℝ) : EReal) := by
    rw [EReal.coe_add]; rfl
  rw [h, Ideal.log_coe, if_neg (not_le.mpr (by positivity))]
theorem Real.sum {ι : Type*} (s : Finset ι) (f : ι → EReal) (h : ∀ i ∈ s, Real (f i)) : Real (∑ i ∈ s, f i) :=
  Finset.sum_induction f Real (fun _ _ => Real.add) Real.zero h
theorem Real.ne_top {x : EReal} : Real x → x ≠ ⊤ := by
  rintro ⟨a, rfl⟩; exact EReal.coe_ne_top a
theorem Real.sub_self {x : EReal} : Real x → x - x = 0 := by
  rintro ⟨a, rfl⟩; rw [← EReal.coe_sub, _root_.sub_self]; rfl

/-! ## The steps, and the sums of decays -/

/-- Softplus. -/
def spx (x : EReal) : EReal := max x 0 + Ideal.log (1 + Ideal.exp (0 - max x (-x)))

theorem Real.spx {x : EReal} (h : Real x) : Real (spx x) :=
  (h.max Real.zero).add (Real.log1p_exp (Real.zero.sub (h.max h.neg)))

theorem spx_bot : spx ⊥ = 0 := by
  unfold spx
  rw [EReal.neg_bot, max_eq_right (bot_le : (⊥ : EReal) ≤ 0), max_eq_right (bot_le : (⊥ : EReal) ≤ ⊤), EReal.sub_top]
  have h : Ideal.log (1 + Ideal.exp ⊥) = 0 := by
    rw [show Ideal.exp ⊥ = 0 from rfl, add_zero, ← EReal.coe_one, Ideal.log_coe, if_neg (by norm_num), _root_.Real.log_one]
    rfl
  rw [h, add_zero]

/-- Softplus is a real number wherever it isn't plus infinity. -/
theorem Real.spx_of {x : EReal} (h : x ≠ ⊤) : Real (ScanSteps.spx x) := by
  by_cases hb : x = ⊥
  · rw [hb, spx_bot]; exact Real.zero
  · exact Real.spx ⟨x.toReal, (EReal.coe_toReal h hb).symm⟩

theorem exp_nonneg (x : EReal) : 0 ≤ Ideal.exp x := by
  induction x with
  | bot => exact le_rfl
  | top => exact le_top
  | coe r => exact EReal.coe_nonneg.2 (_root_.Real.exp_pos r).le

theorem log1p_nonneg (x : EReal) : 0 ≤ Ideal.log (1 + Ideal.exp x) := by
  induction x with
  | bot => rw [show Ideal.exp ⊥ = 0 from rfl, add_zero, ← EReal.coe_one, Ideal.log_coe, if_neg (by norm_num), _root_.Real.log_one]; exact le_rfl
  | top => exact le_top
  | coe r =>
    have h := _root_.Real.exp_pos r
    rw [show (1 : EReal) + Ideal.exp (r : EReal) = ((1 + _root_.Real.exp r : ℝ) : EReal) by rw [EReal.coe_add]; rfl, Ideal.log_coe, if_neg (by linarith)]
    exact EReal.coe_nonneg.2 (_root_.Real.log_nonneg (by linarith))

theorem spx_nonneg (x : EReal) : 0 ≤ spx x := add_nonneg (le_max_right _ _) (log1p_nonneg _)

/-- What is below plus infinity, with itself less itself added to it, is itself. -/
theorem add_sub_self {x : EReal} (h : x ≠ ⊤) : x + (x - x) + (x - x - (x - x)) = x := by
  by_cases hb : x = ⊥
  · rw [hb]; rfl
  · rw [Real.sub_self ⟨x.toReal, (EReal.coe_toReal h hb).symm⟩, sub_zero, add_zero, add_zero]

/-- The sum of decays up to token `l`. -/
def alc (dt : ℕ → ℕ → EReal) (lg : ℕ → EReal) (l h : ℕ) : EReal :=
  ∑ s : Fin 128, if s.val ≤ l then dt s.val h * (0 - Ideal.exp (lg h)) else 0

/-- Steps of zero or more decay: their sums are never plus infinity. -/
theorem alc_ne_top {dt : ℕ → ℕ → EReal} {lg : ℕ → EReal} {h : ℕ} (hd : ∀ s, 0 ≤ dt s h) (l : ℕ) : alc dt lg l h ≠ ⊤ := by
  refine ne_top_of_le_ne_top EReal.zero_ne_top (Finset.sum_nonpos fun s _ => ?_)
  split_ifs
  · rw [zero_sub, mul_neg]
    exact (EReal.neg_le_neg_iff.2 (mul_nonneg (hd s.val) (exp_nonneg (lg h)))).trans_eq neg_zero
  · exact le_rfl

section
variable (d : FVec Ideal S128x128 .f32) (db lg : FVec Ideal S1x128 .f32)

/-- The step of token `l`, head `h`. -/
def dtc (l h : ℕ) : EReal := spx (rd d l h + rd db 0 h)

theorem rd_dt {l h : ℕ} (hl : l < 128) (hh : h < 128) : rd (k0_pay17 (F := Ideal) (k0_pay15 d db) (k0_pay16 d db)) l h = dtc d db l h := by
  have e : k0_pay15 (F := Ideal) d db (ix2 ⟨l, hl⟩ ⟨h, hh⟩) = rd d l h + rd db 0 h := by
    unfold k0_pay15
    refine congrArg₂ (· + ·) (rd_of_lt d hl hh).symm ?_
    rw [shapeCast_self, brow]
  rw [rd_of_lt _ hl hh]
  unfold dtc spx
  rw [← e]
  show max (k0_pay15 (F := Ideal) d db (ix2 ⟨l, hl⟩ ⟨h, hh⟩)) (Ideal.ofBits .f32 0x00000000#32) + Ideal.log (1 + Ideal.exp (Ideal.ofBits .f32 0x00000000#32 - max _ (-_))) = _
  rw [Ideal.ofBits_zero_f32]

theorem rd_al {l h : ℕ} (hl : l < 128) (hh : h < 128) :
    rd (k0_pay18 (F := Ideal) (k0_pay15 d db) (k0_pay16 d db) lg) l h = alc (dtc d db) (rd lg 0) l h := by
  rw [rd_of_lt _ hl hh]
  unfold k0_pay18
  refine (Ideal.matmul_constant_zero_apply (φ₁ := .f32) (φ₂ := .f32) dot_S128x128_S128x128_S128x128_1_0_0_1_n_n (some .fp32) _ _ _).trans ?_
  rw [← Equiv.sum_comp (contrEquiv1 dot_S128x128_S128x128_S128x128_1_0_0_1_n_n 128 rfl rfl).symm]
  refine Finset.sum_congr rfl fun s _ => ?_
  have hk := contrEquiv1_symm_val dot_S128x128_S128x128_S128x128_1_0_0_1_n_n 128 rfl rfl s
  refine (congrArg₂ (· * ·) (eq_rd _ _ (al0 _ _) (((dot_S128x128_S128x128_S128x128_1_0_0_1_n_n).lhsIdx_val_of_single rfl _ _).trans hk))
    (eq_rd _ _ (((dot_S128x128_S128x128_S128x128_1_0_0_1_n_n).rhsIdx_val_of_single rfl _ _).trans hk) (ar1 _ _))).trans ?_
  have e : rd (mulf (k0_pay17 (F := Ideal) (k0_pay15 d db) (k0_pay16 d db)) (broadcastTo S128x128 (subf (broadcast S1x128 (Scalar.ofBits (F := Ideal) .f32 0x00000000#32)) (exp (shapeCast S1x128 lg shapeCasts_S1x128_S1x128))) broadcasts_S1x128_S128x128)) s.val h
      = dtc d db s.val h * (0 - Ideal.exp (rd lg 0 h)) := by
    rw [rd_of_lt _ s.isLt hh, ← rd_dt d db s.isLt hh, rd_of_lt _ s.isLt hh]
    refine congrArg (_ * ·) ?_
    rw [brow, shapeCast_self, rd_of_lt _ Nat.one_pos hh, rd_of_lt lg Nat.one_pos hh]
    show Ideal.ofBits .f32 0x00000000#32 - _ = _
    rw [Ideal.ofBits_zero_f32]
    rfl
  refine (congrArg₂ (· * ·) ?_ e).trans (ite_mul (s.val ≤ l) (1 : EReal) 0 _ |>.trans ?_)
  · rw [rd_of_lt _ hl s.isLt]
    show ((((IntOp.cmpi .sge (BitVec.ofNat 32 (0 * 128 + l)) (BitVec.ofNat 32 (0 * 128 + s.val))).setWidth 32).toInt : ℝ) : EReal) = _
    have hb : ∀ a b : Fin 128, ((IntOp.cmpi .sge (BitVec.ofNat 32 (0 * 128 + a.val)) (BitVec.ofNat 32 (0 * 128 + b.val))).setWidth 32).toInt = if b.val ≤ a.val then 1 else 0 := by decide +kernel
    rw [hb ⟨l, hl⟩ s]
    split_ifs <;> simp
  · rw [one_mul, zero_mul]

theorem rd_alt {l h : ℕ} (hl : l < 128) (hh : h < 128) :
    rd (k0_pay19 (F := Ideal) (k0_pay15 d db) (k0_pay16 d db) lg) h l = alc (dtc d db) (rd lg 0) l h := by
  rw [← rd_al d db lg hl hh, rd_of_lt _ hh hl, rd_of_lt _ hl hh]
  unfold k0_pay19
  exact transpose_apply [1, 0] _ transposes_S128x128_p1_0_S128x128 _ _ fun b => by match b with | ⟨0, _⟩ => rfl | ⟨1, _⟩ => rfl

end

/-! ## The matrix of zeros and ones -/

/-- The remainder, as the body takes it on 32-bit words. -/
def modW (n r : BitVec 32) : BitVec 32 :=
  Scalar.select
    (IntOp.andi (IntOp.xori (IntOp.cmpi .slt (IntOp.remsi .vector r n) 0#32) (Scalar.cmpi .slt n 0#32)) (IntOp.cmpi .ne (IntOp.remsi .vector r n) 0#32))
    (IntOp.addi (IntOp.remsi .vector r n) n) (IntOp.remsi .vector r n)

/-- The quotient, as the body takes it on 32-bit words. -/
def quoW (n r : BitVec 32) : BitVec 32 :=
  Scalar.select
    (IntOp.andi
      (IntOp.cmpi .ne (IntOp.subi ((IntOp.cmpi .sgt r 0#32).setWidth 32) ((IntOp.cmpi .slt r 0#32).setWidth 32))
        (Scalar.subi (Scalar.extui (Scalar.cmpi .sgt n 0#32)) (Scalar.extui (Scalar.cmpi .slt n 0#32))))
      (IntOp.cmpi .ne (IntOp.remsi .vector r n) 0#32))
    (IntOp.subi (IntOp.divsi .vector r n) 1#32) (IntOp.divsi .vector r n)

/-- The head a column of the 2048 is for. -/
def headW (r : BitVec 32) : BitVec 32 :=
  IntOp.addi (IntOp.muli 2#32 (quoW 128#32 (modW (Scalar.select (Scalar.cmpi .eq 1024#32 0#32) 1#32 1024#32) r))) (quoW 1024#32 r)

/-- The head of column `c` of the 2048. -/
def hd (c : ℕ) : ℕ := 2 * (c % 1024 / 128) + c / 1024

theorem headW_eq : ∀ r : Fin 2048, headW (BitVec.ofNat 32 r.val) = BitVec.ofNat 32 (hd r.val) := by decide +kernel

theorem mask_iff : ∀ r : Fin 1024, (IntOp.cmpi .slt (modW (Scalar.select (Scalar.cmpi .eq 128#32 0#32) 1#32 128#32) (BitVec.ofNat 32 (0 * 1024 + r.val))) 64#32 = 1) ↔ r.val % 128 < 64 := by
  decide +kernel

theorem cell_eq (i : ℕ) (c : Fin 2048) (hi : i < 128) :
    ((((IntOp.cmpi .eq (BitVec.ofNat 32 i) (headW (BitVec.ofNat 32 c.val))).setWidth 32).toInt : ℝ) : EReal) = if i = hd c.val then 1 else 0 := by
  rw [headW_eq]
  have hc : hd c.val < 128 := by have := c.isLt; unfold hd; omega
  by_cases h : i = hd c.val
  · rw [if_pos h, h]
    simp [IntOp.cmpi]
  · rw [if_neg h]
    have hne : (BitVec.ofNat 32 i : BitVec 32) ≠ BitVec.ofNat 32 (hd c.val) := by
      intro e
      have e' := congrArg BitVec.toNat e
      rw [BitVec.toNat_ofNat, BitVec.toNat_ofNat, Nat.mod_eq_of_lt (by omega), Nat.mod_eq_of_lt (by omega)] at e'
      exact h e'
    simp [IntOp.cmpi, beq_eq_false_iff_ne.mpr hne]

/-- The matrix of zeros and ones: column `c` is one at its head's row. -/
def Ones (E : FVec Ideal S128x2048 .bf16) : Prop := ∀ i c, i < 128 → c < 2048 → rd E i c = if i = hd c then 1 else 0

theorem ones_pay7 : Ones (k0_pay7 (F := Ideal) (iota .tc S128x2048 32 [1] iota_S128x2048_d1_w32) k0_pay4 k0_pay5 k0_pay6) := by
  intro i c hi hc
  rw [rd_of_lt _ hi hc, ← cell_eq i ⟨c, hc⟩ hi]
  unfold k0_pay7
  rw [shapeCast_self]
  show ((((IntOp.cmpi .eq (BitVec.ofNat 32 (0 * 128 + i)) (headW (BitVec.ofNat 32 (0 * 2048 + c)))).setWidth 32).toInt : ℝ) : EReal) = _
  simp only [Nat.zero_mul, Nat.zero_add]

abbrev DS := dot_S128x384_S384x2048_S128x2048_1_0_0_1_n_n
theorem sl0 (j : S128x2048.Idx) (q : DS.contr.Idx) : (DS.lhsIdx j q 0).val = (j 0).val := by
  unfold DotDims.lhsIdx
  rw [dif_neg (show ¬(0 : Fin S128x384.rank) ∈ DS.lhsBatch by decide), dif_pos (show (0 : Fin S128x384.rank) ∈ DS.lhsNonContracting by decide)]
  rfl
theorem sr1 (j : S128x2048.Idx) (q : DS.contr.Idx) : (DS.rhsIdx j q 1).val = (j 1).val := by
  unfold DotDims.rhsIdx
  rw [dif_neg (show ¬(1 : Fin S384x2048.rank) ∈ DS.rhsBatch by decide), dif_pos (show (1 : Fin S384x2048.rank) ∈ DS.rhsNonContracting by decide)]
  rfl

/-- The product in three terms picks the head's entry, where that isn't plus infinity. -/
theorem rd_split3 (A : FVec Ideal S128x128 .f32) (E : FVec Ideal S128x2048 .bf16) (hE : Ones E) {l c : ℕ} (hl : l < 128) (hc : c < 2048)
    (hA : rd A l (hd c) ≠ ⊤) : rd (split3 A E) l c = rd A l (hd c) := by
  have hh : hd c < 128 := by unfold hd; omega
  rw [rd_of_lt _ hl hc]
  unfold split3
  refine (matmul_nn (φ₁ := .bf16) (φ₂ := .bf16) DS _ _ rfl rfl sl0 (fun j q => DS.lhsIdx_val_of_single rfl j q)
    (fun j q => DS.rhsIdx_val_of_single rfl j q) sr1 _).trans ?_
  refine (sum_blocks' (fun s => rd _ l s * rd _ s c) 3 128 384 rfl).symm.trans ?_
  have pick : ∀ (k : ℕ) (Ak : S128x128.Idx → EReal), (∀ j, j < 128 → rd (concatenate S128x384 1 [⟨S128x128, truncf (F := Ideal) (φ := .f32) .bf16 A bitsLt_bf16_f32⟩,
      ⟨S128x128, truncf (F := Ideal) (φ := .f32) .bf16 (subf A (extf .f32 (truncf (F := Ideal) (φ := .f32) .bf16 A bitsLt_bf16_f32) bitsLt_bf16_f32)) bitsLt_bf16_f32⟩,
      ⟨S128x128, truncf (F := Ideal) (φ := .f32) .bf16 (subf (subf A (extf .f32 (truncf (F := Ideal) (φ := .f32) .bf16 A bitsLt_bf16_f32) bitsLt_bf16_f32))
        (extf .f32 (truncf (F := Ideal) (φ := .f32) .bf16 (subf A (extf .f32 (truncf (F := Ideal) (φ := .f32) .bf16 A bitsLt_bf16_f32) bitsLt_bf16_f32)) bitsLt_bf16_f32) bitsLt_bf16_f32)) bitsLt_bf16_f32⟩]
      concatenates_S128x128_S128x128_S128x128_S128x384_d1 : FVec Ideal S128x384 .bf16) l (128 * k + j) = rd Ak l j) →
      (∀ j, j < 128 → rd (concatenate S384x2048 0 [⟨S128x2048, E⟩, ⟨S128x2048, E⟩, ⟨S128x2048, E⟩] concatenates_S128x2048_S128x2048_S128x2048_S384x2048_d0 : FVec Ideal S384x2048 .bf16) (128 * k + j) c = rd E j c) →
      (∑ j : Fin 128, rd (concatenate S128x384 1 [⟨S128x128, truncf (F := Ideal) (φ := .f32) .bf16 A bitsLt_bf16_f32⟩,
      ⟨S128x128, truncf (F := Ideal) (φ := .f32) .bf16 (subf A (extf .f32 (truncf (F := Ideal) (φ := .f32) .bf16 A bitsLt_bf16_f32) bitsLt_bf16_f32)) bitsLt_bf16_f32⟩,
      ⟨S128x128, truncf (F := Ideal) (φ := .f32) .bf16 (subf (subf A (extf .f32 (truncf (F := Ideal) (φ := .f32) .bf16 A bitsLt_bf16_f32) bitsLt_bf16_f32))
        (extf .f32 (truncf (F := Ideal) (φ := .f32) .bf16 (subf A (extf .f32 (truncf (F := Ideal) (φ := .f32) .bf16 A bitsLt_bf16_f32) bitsLt_bf16_f32)) bitsLt_bf16_f32) bitsLt_bf16_f32)) bitsLt_bf16_f32⟩]
      concatenates_S128x128_S128x128_S128x128_S128x384_d1 : FVec Ideal S128x384 .bf16) l (128 * k + j.val)
        * rd (concatenate S384x2048 0 [⟨S128x2048, E⟩, ⟨S128x2048, E⟩, ⟨S128x2048, E⟩] concatenates_S128x2048_S128x2048_S128x2048_S384x2048_d0 : FVec Ideal S384x2048 .bf16) (128 * k + j.val) c)
        = rd Ak l (hd c) := by
    intro k Ak h1 h2
    rw [Finset.sum_eq_single (⟨hd c, hh⟩ : Fin 128)]
    · rw [h1 _ hh, h2 _ hh, hE _ _ hh hc, if_pos rfl, mul_one]
    · intro j _ hj
      rw [h2 _ j.isLt, hE _ _ j.isLt hc, if_neg (fun e => hj (Fin.ext e)), mul_zero]
    · intro h; exact absurd (Finset.mem_univ _) h
  rw [Finset.sum_range_succ, Finset.sum_range_succ, Finset.sum_range_one]
  have colk : ∀ (xs : List ((s : Shape) × (s.Idx → EReal))) (h : Shape.Concatenates (xs.map (·.1)) S128x384 1) (k : ℕ) (hk : k < xs.length) (x : S128x128.Idx → EReal)
      (hxk : xs[k] = ⟨S128x128, x⟩) (hpre : (((xs.take k).map (·.1)).map fun s => if h : s.rank = S128x384.rank then s.size ((1 : Fin S128x384.rank).cast h.symm) else 0).sum = 128 * k) (hk3 : k < 3),
      ∀ j, j < 128 → rd (concatenate S128x384 1 xs h) l (128 * k + j) = rd x l j := by
    intro xs h k hk x hxk hpre hk3 j hj
    have hlt : 128 * k + j < 384 := by omega
    rw [rd_of_lt _ hl hlt]
    refine (concat_cols (n := 128) (w := 128) (W := 384) xs h (ix2 ⟨l, hl⟩ ⟨128 * k + j, hlt⟩) k hk x hxk (128 * k) hpre (Nat.le_add_right _ _) (by show 128 * k + j < _; omega)).trans ?_
    show rd x l (128 * k + j - 128 * k) = _
    rw [Nat.add_sub_cancel_left]
  have rowk : ∀ (xs : List ((s : Shape) × (s.Idx → EReal))) (h : Shape.Concatenates (xs.map (·.1)) S384x2048 0) (k : ℕ) (hk : k < xs.length) (x : S128x2048.Idx → EReal)
      (hxk : xs[k] = ⟨S128x2048, x⟩) (hpre : (((xs.take k).map (·.1)).map fun s => if h : s.rank = S384x2048.rank then s.size ((0 : Fin S384x2048.rank).cast h.symm) else 0).sum = 128 * k) (hk3 : k < 3),
      ∀ j, j < 128 → rd (concatenate S384x2048 0 xs h) (128 * k + j) c = rd x j c := by
    intro xs h k hk x hxk hpre hk3 j hj
    have hlt : 128 * k + j < 384 := by omega
    rw [rd_of_lt _ hlt hc]
    refine (concat_rows (n := 128) (m := 2048) (N := 384) xs h (ix2 ⟨128 * k + j, hlt⟩ ⟨c, hc⟩) k hk x hxk (128 * k) hpre (Nat.le_add_right _ _) (by show 128 * k + j < _; omega)).trans ?_
    show rd x (128 * k + j - 128 * k) c = _
    rw [Nat.add_sub_cancel_left]
  have e0 := pick 0 A (by exact colk _ _ 0 (by show 0 < 3; decide) A rfl (by rfl) (by decide)) (by exact rowk _ _ 0 (by show 0 < 3; decide) E rfl (by rfl) (by decide))
  have e1 := pick 1 (subf (F := Ideal) (φ := .f32) A A) (by exact colk _ _ 1 (by show 1 < 3; decide) (subf (F := Ideal) (φ := .f32) A A) rfl (by rfl) (by decide)) (by exact rowk _ _ 1 (by show 1 < 3; decide) E rfl (by rfl) (by decide))
  have e2 := pick 2 (subf (F := Ideal) (φ := .f32) (subf (F := Ideal) (φ := .f32) A A) (subf (F := Ideal) (φ := .f32) A A)) (by exact colk _ _ 2 (by show 2 < 3; decide) (subf (F := Ideal) (φ := .f32) (subf (F := Ideal) (φ := .f32) A A) (subf (F := Ideal) (φ := .f32) A A)) rfl (by rfl) (by decide)) (by exact rowk _ _ 2 (by show 2 < 3; decide) E rfl (by rfl) (by decide))
  refine (congrArg₂ (· + ·) (congrArg₂ (· + ·) e0 e1) e2).trans ?_
  rw [rd_of_lt _ hl hh] at hA
  rw [rd_of_lt _ hl hh, rd_of_lt _ hl hh, rd_of_lt _ hl hh]
  exact add_sub_self hA

/-- The spread array's two halves, each column from its head's half. -/
theorem rd_half (V : FVec Ideal S128x2048 .f32) {l k : ℕ} (hl : l < 128) (hk : k < 1024) :
    rd (k0_pay25 (F := Ideal) V 128#32 k0_pay22 k0_pay23) l k = if k % 128 < 64 then rd V l k else rd V l (1024 + k) := by
  rw [rd_of_lt _ hl hk]
  unfold k0_pay25
  refine (ite_congr (propext (mask_iff ⟨k, hk⟩)) (fun _ => ?_) (fun _ => ?_))
  · unfold extractStridedSlice; exact eq_rd V _ (Nat.zero_add l) (Nat.zero_add k)
  · unfold extractStridedSlice; exact eq_rd V _ (Nat.zero_add l) rfl

theorem rd_spread (A : FVec Ideal S128x128 .f32) (E : FVec Ideal S128x2048 .bf16) (hE : Ones E)
    (hA : ∀ l h, l < 128 → h < 16 → rd A l h ≠ ⊤) {l k : ℕ} (hl : l < 128) (hk : k < 1024) :
    rd (k0_pay25 (F := Ideal) (split3 A E) 128#32 k0_pay22 k0_pay23) l k = rd A l (k / 64) := by
  rw [rd_half _ hl hk]
  split_ifs with h
  · have e : hd k = k / 64 := by unfold hd; omega
    rw [rd_split3 A E hE hl (by omega) (by rw [e]; exact hA _ _ hl (by omega)), e]
  · have e : hd (1024 + k) = k / 64 := by unfold hd; omega
    rw [rd_split3 A E hE hl (by omega) (by rw [e]; exact hA _ _ hl (by omega)), e]

/-! ## The convolution and its gate -/

theorem rd_rot (x : FVec Ideal S136x1536 .f32) (n : BitVec 32) (m : ℕ) (hn : n.toNat = m) (hm : m ≤ 3) {l k : ℕ} (hl : l < 128) (hk : k < 1536) :
    extractStridedSlice S128x1536 ![8, 0] (dynamicRotate 0 n none x rotates_S136x1536_d0) slices_S136x1536_o8_0_S128x1536 (ix2 ⟨l, hl⟩ ⟨k, hk⟩)
      = rd x (8 + l - m) k := by
  unfold extractStridedSlice dynamicRotate
  refine eq_rd x _ ?_ ?_
  · show (8 + l + 136 - (n.toNat + 0) % 136) % 136 = _
    rw [hn]; omega
  · show 0 + k = k
    omega

/-- The convolution of four rows, in the body's order. -/
def cvx (xp : ℕ → ℕ → EReal) (cb w3 w0 w1 w2 : ℕ → EReal) (l k : ℕ) : EReal :=
  (((cb k + w3 k * xp (8 + l) k) + w0 k * xp (8 + l - 3) k) + w1 k * xp (8 + l - 2) k) + w2 k * xp (8 + l - 1) k

/-- The gate. -/
def gate (x : EReal) : EReal := x * Ideal.div (Ideal.ofBits .f32 0x3F800000#32) (Ideal.ofBits .f32 0x3F800000#32 + Ideal.exp (0 - x))

section
variable (xp : FVec Ideal S136x1536 .f32) (cb w3 w0 w1 w2 : FVec Ideal S1x1536 .f32)

theorem rd_cv {l k : ℕ} (hl : l < 128) (hk : k < 1536) :
    rd (k0_pay13 (F := Ideal) xp cb w3 w0 w1 w2) l k = cvx (rd xp) (rd cb 0) (rd w3 0) (rd w0 0) (rd w1 0) (rd w2 0) l k := by
  rw [rd_of_lt _ hl hk]
  unfold k0_pay13
  have b : ∀ w : FVec Ideal S1x1536 .f32, broadcastTo S128x1536 w broadcasts_S1x1536_S128x1536 (ix2 ⟨l, hl⟩ ⟨k, hk⟩) = rd w 0 k := fun w => brow w _ _
  refine congrArg₂ (· + ·) (congrArg₂ (· + ·) (congrArg₂ (· + ·) (congrArg₂ (· + ·) (b cb) (congrArg₂ (· * ·) (b w3) ?_))
    (congrArg₂ (· * ·) (b w0) (rd_rot xp 3#32 3 rfl (by decide) hl hk))) (congrArg₂ (· * ·) (b w1) (rd_rot xp 2#32 2 rfl (by decide) hl hk)))
    (congrArg₂ (· * ·) (b w2) (rd_rot xp 1#32 1 rfl (by decide) hl hk))
  unfold extractStridedSlice
  exact eq_rd xp _ rfl (Nat.zero_add k)

theorem rd_X {l k : ℕ} (hl : l < 128) (hk : k < 1536) :
    rd (k0_pay14 (F := Ideal) xp cb w3 w0 w1 w2) l k = gate (cvx (rd xp) (rd cb 0) (rd w3 0) (rd w0 0) (rd w1 0) (rd w2 0) l k) := by
  rw [← rd_cv xp cb w3 w0 w1 w2 hl hk, rd_of_lt _ hl hk, rd_of_lt _ hl hk]
  unfold gate
  rw [show (0 : EReal) - k0_pay13 (F := Ideal) xp cb w3 w0 w1 w2 (ix2 ⟨l, hl⟩ ⟨k, hk⟩) = Ideal.ofBits .f32 0x00000000#32 - k0_pay13 (F := Ideal) xp cb w3 w0 w1 w2 (ix2 ⟨l, hl⟩ ⟨k, hk⟩) by rw [Ideal.ofBits_zero_f32]]
  rfl

end

end Cert.Proof.ScanSteps

end
-- ==== Proof.ScanSpec.lean ====
/-
  THE FORWARD SCAN (`Kernel11`, `Reference11`): what is computed, element by element.

  The tokens are cut into 32 chunks of 128. `Hs c` is the state before chunk `c`, carried from chunk to chunk; everything
  else of a chunk is a function of its own tokens and of that state.
-/
module

public import proofs.«01_k».proof.Proof.ScanSteps

@[expose] public section

noncomputable section

open Idealize.ShloMosaic Idealize.SL.Sem Idealize.ShloMosaic.ValueIdx
open scoped BigOperators

namespace Cert.Proof.ScanSpec

open Cert.Proof.Blocks Cert.Proof.ScanPair Cert.Proof.ScanSteps

/-- The arguments by coordinates: the projections, the convolution's rows and bias, the bias of the steps, the logarithm of
    the decays, the skip factors, and the norm's weights. -/
structure Data where
  pj : ℕ → ℕ → EReal
  cw : ℕ → ℕ → EReal
  cb : ℕ → EReal
  db : ℕ → EReal
  lg : ℕ → EReal
  ds : ℕ → EReal
  nw : ℕ → EReal

/-- Nothing the steps are made of is plus infinity. -/
def Data.Finite (q : Data) : Prop :=
  (∀ t h, t < 4096 → h < 16 → q.pj t (6656 + h) ≠ ⊤) ∧ (∀ h, h < 16 → q.db h ≠ ⊤)

/-- The arguments' elements. -/
def dataOf (x0 : (⟨2, ![4096, 7168]⟩ : Shape).Idx → EReal) (x1 : (⟨2, ![4, 1536]⟩ : Shape).Idx → EReal) (x2 : (⟨2, ![1, 1536]⟩ : Shape).Idx → EReal)
    (x3 x4 x5 : (⟨2, ![1, 16]⟩ : Shape).Idx → EReal) (x6 : (⟨2, ![1, 1024]⟩ : Shape).Idx → EReal) : Data :=
  ⟨rd x0, rd x1, rd x2 0, rd x3 0, rd x4 0, rd x5 0, rd x6 0⟩

variable (q : Data)

/-- The rows to be convolved, three rows of zeros before the first token. -/
def xq (t k : ℕ) : EReal := if t < 3 then 0 else q.pj (t - 3) (5120 + k)
/-- The convolution of token `t`. -/
def cvg (t k : ℕ) : EReal :=
  (((q.cb k + q.cw 3 k * xq q (t + 3) k) + q.cw 0 k * xq q t k) + q.cw 1 k * xq q (t + 1) k) + q.cw 2 k * xq q (t + 2) k
def Xg (c l k : ℕ) : EReal := gate (cvg q (128 * c + l) k)
def dtg (c l h : ℕ) : EReal := spx (q.pj (128 * c + l) (6656 + h) + q.db h)
def alg (c l h : ℕ) : EReal := alc (dtg q c) q.lg l h
/-- The state before chunk `c`. -/
def Hs : ℕ → ℕ → ℕ → EReal
  | 0 => fun _ _ => 0
  | c + 1 => Hn (Xg q c) (dtg q c) (alg q c) (Hs c)
def yg (c l k : ℕ) : EReal := Y (Xg q c) (dtg q c) (alg q c) (Hs q c) (fun k => q.ds (k / 64)) l k
/-- The output times the gate. -/
def part (c l k : ℕ) : EReal := yg q c l k * gate (q.pj (128 * c + l) (4096 + k))
def mixg (c l k : ℕ) : EReal :=
  part q c l k * Ideal.rsqrt (Ideal.div (∑ j : Fin 512, part q c l (512 * (k / 512) + j.val) * part q c l (512 * (k / 512) + j.val)) (Ideal.ofBits .f32 0x44000000#32)
    + Ideal.ofBits .f32 0x358637BD#32) * q.nw k

theorem dtg_ne_top (hq : q.Finite) {c l h : ℕ} (hc : c < 32) (hl : l < 128) (hh : h < 16) : dtg q c l h ≠ ⊤ :=
  (Real.spx_of (EReal.add_ne_top (hq.1 _ _ (by omega) hh) (hq.2 _ hh))).ne_top
theorem alg_ne_top (c l h : ℕ) : alg q c l h ≠ ⊤ := alc_ne_top (fun _ => spx_nonneg _) l

end Cert.Proof.ScanSpec

end
-- ==== Proof.ScanRun.lean ====
/-
  THE FORWARD SCAN (`Kernel11`): the lists of stores of one grid point.

  The eight pairs of heads of a chunk store one after the other into the columns of two buffers: `hList` is the list of
  stores of the states after the first `p` pairs, `yList` that of the outputs. A pair reads the state before its own store,
  through a read function that is a plain load in one place and a load of what was stored before in the others.
-/
module

public import proofs.«01_k».proof.Proof.ScanVec
public import proofs.«01_k».proof.Proof.Gen.Kernel11Ideal.Frame

@[expose] public section

noncomputable section

open Idealize.ShloMosaic Idealize.SL.Sem Idealize.ShloMosaic.ValueIdx
open scoped BigOperators

namespace Cert.Proof.ScanRun

open Cert.Kernel11Ideal Cert.Kernel11Ideal.Gen Cert.Proof.Blocks Cert.Proof.ScanVec

/-- What the body of a grid point is given: its buffers, and the contents of its inputs. -/
structure Args where
  c : Dev nD
  i : grid0.Coords
  arg1 : Memref sig .tc .vmem S256x1024 .f32
  harg1 : arg1.IsWhole
  arg2 : Memref sig .tc .vmem S256x512 .f32
  harg2 : arg2.IsWhole
  arg3 : Memref sig .tc .vmem S8x1024 .f32
  harg3 : arg3.IsWhole
  arg4 : Memref sig .tc .vmem S8x512 .f32
  harg4 : arg4.IsWhole
  arg5 : Memref sig .tc .vmem S256x128 .f32
  harg5 : arg5.IsWhole
  arg6 : Memref sig .tc .vmem S256x1024 .f32
  harg6 : arg6.IsWhole
  arg7 : Memref sig .tc .vmem S4x1536 .f32
  harg7 : arg7.IsWhole
  arg8 : Memref sig .tc .vmem S1x1536 .f32
  harg8 : arg8.IsWhole
  arg9 : Memref sig .tc .vmem S1x128 .f32
  harg9 : arg9.IsWhole
  arg10 : Memref sig .tc .vmem S1x128 .f32
  harg10 : arg10.IsWhole
  arg11 : Memref sig .tc .vmem S1x1024 .f32
  harg11 : arg11.IsWhole
  arg12 : Memref sig .tc .vmem S1x1024 .f32
  harg12 : arg12.IsWhole
  arg13 : Memref sig .tc .vmem S1x1024 .f32
  harg13 : arg13.IsWhole
  arg14 : Memref sig .tc .vmem S256x1024 .bf16
  harg14 : arg14.IsWhole
  arg15 : Memref sig .tc .vmem S256x1024 .f32
  harg15 : arg15.IsWhole
  arg16 : Memref sig .tc .vmem S2x128x1024 .f32
  harg16 : arg16.IsWhole
  arg17 : Memref sig .tc .vmem S256x1536 .f32
  harg17 : arg17.IsWhole
  arg18 : Memref sig .tc .vmem S128x1024 .f32
  harg18 : arg18.IsWhole
  arg19 : Memref sig .tc .vmem S136x1536 .f32
  harg19 : arg19.IsWhole
  arg20 : Memref sig .tc .vmem S136x1536 .f32
  harg20 : arg20.IsWhole
  arg21 : Memref sig .tc .vmem S128x1024 .f32
  harg21 : arg21.IsWhole
  arg22 : Memref sig .tc .vmem S128x1024 .f32
  harg22 : arg22.IsWhole
  arg23 : Memref sig .tc .vmem S128x2048 .bf16
  harg23 : arg23.IsWhole
  x0 : Vec Ideal S256x1024 .f32
  x1 : Vec Ideal S256x512 .f32
  x2 : Vec Ideal S8x1024 .f32
  x3 : Vec Ideal S8x512 .f32
  x4 : Vec Ideal S256x128 .f32
  x5 : Vec Ideal S256x1024 .f32
  x6 : Vec Ideal S4x1536 .f32
  x7 : Vec Ideal S1x1536 .f32
  x8 : Vec Ideal S1x128 .f32
  x9 : Vec Ideal S1x128 .f32
  x10 : Vec Ideal S1x1024 .f32
  x11 : Vec Ideal S1x1024 .f32
  x12 : Vec Ideal S1x1024 .f32
  xs0 : Vec Ideal S128x1024 .f32
  xs5 : Vec Ideal S128x2048 .bf16

/-- A list of stores into a buffer of 128 rows and 1024 columns. -/
abbrev Stores := List (View.Piece (Elt Ideal) S128x1024 .f32)

theorem inb_p : ∀ p, p < 8 → ∀ a : Fin S128x1024.rank, (![0, 128 * p] : Fin 2 → ℕ) a + S128x128.size a ≤ S128x1024.size a := by decide
theorem inb_1 : ∀ p, p < 8 → ∀ a : Fin S1x1024.rank, (![0, 128 * p] : Fin 2 → ℕ) a + S1x128.size a ≤ S1x1024.size a := by decide

/-- The columns of a pair. -/
abbrev colsOf (p : ℕ) (hp : p < 8) : Rect S128x1024 := Rect.unit (s := S128x1024) ![0, 128 * p] S128x128.size (inb_p p hp)

/-- The stores of the states, after the first `p` pairs. -/
def hList (X : FVec Ideal S128x1536 .f32) (dtf alf : FVec Ideal S128x1024 .f32)
    (R : Stores → ∀ p, p < 8 → FVec Ideal S128x128 .f32) (L0 : Stores) : ∀ p, p ≤ 8 → Stores
  | 0, _ => L0
  | p + 1, h => ⟨colsOf p h, hv p h X dtf alf (R (hList X dtf alf R L0 p (Nat.le_of_succ_le h)) p h)⟩ :: hList X dtf alf R L0 p (Nat.le_of_succ_le h)

/-- The stores of the outputs, after the first `p` pairs. -/
def yList (X : FVec Ideal S128x1536 .f32) (dtf alf : FVec Ideal S128x1024 .f32) (ALx : FVec Ideal S128x2048 .f32)
    (alt : FVec Ideal S128x128 .f32) (D : ∀ p, p < 8 → FVec Ideal S1x128 .f32)
    (R : Stores → ∀ p, p < 8 → FVec Ideal S128x128 .f32) (L0 : Stores) : ∀ p, p ≤ 8 → Stores
  | 0, _ => []
  | p + 1, h => ⟨colsOf p h, yv p h X dtf alf ALx alt (R (hList X dtf alf R L0 p (Nat.le_of_succ_le h)) p h) (D p h)⟩ ::
      yList X dtf alf ALx alt D R L0 p (Nat.le_of_succ_le h)

namespace Args
variable (a : Args)

def w (r : ℕ) (hr : ∀ a : Fin S4x1536.rank, (![r, 0] : Fin 2 → ℕ) a + S1x1536.size a ≤ S4x1536.size a) : FVec Ideal S1x1536 .f32 :=
  (View.readAt (Elt Ideal) a.arg7.view (Rect.unit (s := S4x1536) ![r, 0] S1x1536.size hr).toLoadRect (a.harg7.unread a.x6) :)
def cb : FVec Ideal S1x1536 .f32 :=
  (View.readAt (Elt Ideal) a.arg8.view (Rect.unit (s := S1x1536) ![0, 0] S1x1536.size inb_S1x1536_S1x1536_0_0).toLoadRect (a.harg8.unread a.x7) :)

/-- The padded block of the first chunk, and of the second. -/
def xpA : FVec Ideal S136x1536 .f32 :=
  (a.arg19.view.readCov (Val := Elt Ideal) [⟨Rect.unit (s := S136x1536) ![8, 1024] S128x512.size inb_S136x1536_S128x512_8_1024, k0_pay12 (View.readAt (Elt Ideal) a.arg2.view (Rect.unit (s := S256x512) ![0, 0] S128x512.size inb_S256x512_S128x512_0_0).toLoadRect (a.harg2.unread a.x1))⟩,
    ⟨Rect.unit (s := S136x1536) ![8, 0] S128x1024.size inb_S136x1536_S128x1024_8_0, k0_pay11 (View.readAt (Elt Ideal) a.arg1.view (Rect.unit (s := S256x1024) ![0, 0] S128x1024.size inb_S256x1024_S128x1024_0_0).toLoadRect (a.harg1.unread a.x0))⟩,
    ⟨Rect.unit (s := S136x1536) ![0, 1024] S8x512.size inb_S136x1536_S8x512_0_1024, k0_pay10 a.i (View.readAt (Elt Ideal) a.arg4.view (Rect.unit (s := S8x512) ![0, 0] S8x512.size inb_S8x512_S8x512_0_0).toLoadRect (a.harg4.unread a.x3))⟩,
    ⟨Rect.unit (s := S136x1536) ![0, 0] S8x1024.size inb_S136x1536_S8x1024_0_0, k0_pay9 a.i (View.readAt (Elt Ideal) a.arg3.view (Rect.unit (s := S8x1024) ![0, 0] S8x1024.size inb_S8x1024_S8x1024_0_0).toLoadRect (a.harg3.unread a.x2))⟩]
    (Rect.unit (s := S136x1536) ![0, 0] S136x1536.size inb_S136x1536_S136x1536_0_0).toLoadRect :)
def xpB : FVec Ideal S136x1536 .f32 :=
  (a.arg20.view.readCov (Val := Elt Ideal) [⟨Rect.unit (s := S136x1536) ![8, 1024] S128x512.size inb_S136x1536_S128x512_8_1024, k0_pay116 (View.readAt (Elt Ideal) a.arg2.view (Rect.unit (s := S256x512) ![128, 0] S128x512.size inb_S256x512_S128x512_128_0).toLoadRect (a.harg2.unread a.x1))⟩,
    ⟨Rect.unit (s := S136x1536) ![8, 0] S128x1024.size inb_S136x1536_S128x1024_8_0, k0_pay115 (View.readAt (Elt Ideal) a.arg1.view (Rect.unit (s := S256x1024) ![128, 0] S128x1024.size inb_S256x1024_S128x1024_128_0).toLoadRect (a.harg1.unread a.x0))⟩,
    ⟨Rect.unit (s := S136x1536) ![0, 1024] S8x512.size inb_S136x1536_S8x512_0_1024, k0_pay114 (View.readAt (Elt Ideal) a.arg2.view (Rect.unit (s := S256x512) ![120, 0] S8x512.size inb_S256x512_S8x512_120_0).toLoadRect (a.harg2.unread a.x1))⟩,
    ⟨Rect.unit (s := S136x1536) ![0, 0] S8x1024.size inb_S136x1536_S8x1024_0_0, k0_pay113 (View.readAt (Elt Ideal) a.arg1.view (Rect.unit (s := S256x1024) ![120, 0] S8x1024.size inb_S256x1024_S8x1024_120_0).toLoadRect (a.harg1.unread a.x0))⟩]
    (Rect.unit (s := S136x1536) ![0, 0] S136x1536.size inb_S136x1536_S136x1536_0_0).toLoadRect :)

/-- The convolution of a chunk, and its gate. -/
def cvOf (xp : FVec Ideal S136x1536 .f32) : FVec Ideal S128x1536 .f32 :=
  k0_pay13 xp a.cb (a.w 3 inb_S4x1536_S1x1536_3_0) (a.w 0 inb_S4x1536_S1x1536_0_0) (a.w 1 inb_S4x1536_S1x1536_1_0) (a.w 2 inb_S4x1536_S1x1536_2_0)
def Xof (xp : FVec Ideal S136x1536 .f32) : FVec Ideal S128x1536 .f32 :=
  k0_pay14 xp a.cb (a.w 3 inb_S4x1536_S1x1536_3_0) (a.w 0 inb_S4x1536_S1x1536_0_0) (a.w 1 inb_S4x1536_S1x1536_1_0) (a.w 2 inb_S4x1536_S1x1536_2_0)

/-- The steps of the two chunks as loaded, their bias, and the decay's logarithm. -/
def dA : FVec Ideal S128x128 .f32 :=
  (View.readAt (Elt Ideal) a.arg5.view (Rect.unit (s := S256x128) ![0, 0] S128x128.size inb_S256x128_S128x128_0_0).toLoadRect (a.harg5.unread a.x4) :)
def dB : FVec Ideal S128x128 .f32 :=
  (View.readAt (Elt Ideal) a.arg5.view (Rect.unit (s := S256x128) ![128, 0] S128x128.size inb_S256x128_S128x128_128_0).toLoadRect (a.harg5.unread a.x4) :)
def db : FVec Ideal S1x128 .f32 :=
  (View.readAt (Elt Ideal) a.arg9.view (Rect.unit (s := S1x128) ![0, 0] S1x128.size inb_S1x128_S1x128_0_0).toLoadRect (a.harg9.unread a.x8) :)
def lg : FVec Ideal S1x128 .f32 :=
  (View.readAt (Elt Ideal) a.arg10.view (Rect.unit (s := S1x128) ![0, 0] S1x128.size inb_S1x128_S1x128_0_0).toLoadRect (a.harg10.unread a.x9) :)
def Dp (p : ℕ) (hp : p < 8) : FVec Ideal S1x128 .f32 :=
  (View.readAt (Elt Ideal) a.arg12.view (Rect.unit (s := S1x1024) ![0, 128 * p] S1x128.size (inb_1 p hp)).toLoadRect (a.harg12.unread a.x11) :)

/-- The rows of steps and of sums of decays, spread over the columns of their heads. -/
def dtf (d : FVec Ideal S128x128 .f32) (E : FVec Ideal S128x2048 .bf16) : FVec Ideal S128x1024 .f32 :=
  k0_pay25 (k0_pay20 (k0_pay15 d a.db) (k0_pay16 d a.db) E) 128#32 k0_pay22 k0_pay23
def ALx (d : FVec Ideal S128x128 .f32) (E : FVec Ideal S128x2048 .bf16) : FVec Ideal S128x2048 .f32 :=
  k0_pay21 (k0_pay15 d a.db) (k0_pay16 d a.db) a.lg E
def alf (d : FVec Ideal S128x128 .f32) (E : FVec Ideal S128x2048 .bf16) : FVec Ideal S128x1024 .f32 :=
  k0_pay26 (a.ALx d E) 128#32 k0_pay22 k0_pay23
def alt (d : FVec Ideal S128x128 .f32) : FVec Ideal S128x128 .f32 :=
  k0_pay19 (k0_pay15 d a.db) (k0_pay16 d a.db) a.lg

/-- A load of what was stored before, at a pair's columns. -/
def later (L : Stores) (p : ℕ) (hp : p < 8) : FVec Ideal S128x128 .f32 := (a.arg18.view.readCov L (colsOf p hp).toLoadRect :)
/-- A load of the state the point before left, at a pair's columns. -/
def first (L : Stores) (p : ℕ) (hp : p < 8) : FVec Ideal S128x128 .f32 :=
  (View.readAt (Elt Ideal) a.arg18.view (colsOf p hp).toLoadRect (a.harg18.unread a.xs0) :)

def hA (E : FVec Ideal S128x2048 .bf16) (R : Stores → ∀ p, p < 8 → FVec Ideal S128x128 .f32) (L0 : Stores) : Stores :=
  hList (a.Xof a.xpA) (a.dtf a.dA E) (a.alf a.dA E) R L0 8 (Nat.le_refl 8)
def yA (E : FVec Ideal S128x2048 .bf16) (R : Stores → ∀ p, p < 8 → FVec Ideal S128x128 .f32) (L0 : Stores) : Stores :=
  yList (a.Xof a.xpA) (a.dtf a.dA E) (a.alf a.dA E) (a.ALx a.dA E) (a.alt a.dA) a.Dp R L0 8 (Nat.le_refl 8)
def hB (E : FVec Ideal S128x2048 .bf16) (L0 : Stores) : Stores :=
  hList (a.Xof a.xpB) (a.dtf a.dB E) (a.alf a.dB E) a.later L0 8 (Nat.le_refl 8)
def yB (E : FVec Ideal S128x2048 .bf16) (L0 : Stores) : Stores :=
  yList (a.Xof a.xpB) (a.dtf a.dB E) (a.alf a.dB E) (a.ALx a.dB E) (a.alt a.dB) a.Dp a.later L0 8 (Nat.le_refl 8)

/-- The zeros and ones that the point before left. -/
def Es : FVec Ideal S128x2048 .bf16 :=
  (View.readAt (Elt Ideal) a.arg23.view (Rect.unit (s := S128x2048) ![0, 0] S128x2048.size inb_S128x2048_S128x2048_0_0).toLoadRect (a.harg23.unread a.xs5) :)

/-- The states before the two chunks' halves, as the second chunk's start loads them. -/
def stA (L : Stores) : FVec Ideal S128x1024 .f32 :=
  (a.arg18.view.readCov L (Rect.unit (s := S128x1024) ![0, 0] S128x1024.size inb_S128x1024_S128x1024_0_0).toLoadRect :)
def st0 : FVec Ideal S128x1024 .f32 :=
  (View.readAt (Elt Ideal) a.arg18.view (Rect.unit (s := S128x1024) ![0, 0] S128x1024.size inb_S128x1024_S128x1024_0_0).toLoadRect (a.harg18.unread a.xs0) :)
def yOut1 (L : Stores) : FVec Ideal S128x1024 .f32 :=
  (a.arg21.view.readCov L (Rect.unit (s := S128x1024) ![0, 0] S128x1024.size inb_S128x1024_S128x1024_0_0).toLoadRect :)
def yOut2 (L : Stores) : FVec Ideal S128x1024 .f32 :=
  (a.arg22.view.readCov L (Rect.unit (s := S128x1024) ![0, 0] S128x1024.size inb_S128x1024_S128x1024_0_0).toLoadRect :)
def zA : FVec Ideal S128x1024 .f32 :=
  (View.readAt (Elt Ideal) a.arg6.view (Rect.unit (s := S256x1024) ![0, 0] S128x1024.size inb_S256x1024_S128x1024_0_0).toLoadRect (a.harg6.unread a.x5) :)
def zB : FVec Ideal S128x1024 .f32 :=
  (View.readAt (Elt Ideal) a.arg6.view (Rect.unit (s := S256x1024) ![128, 0] S128x1024.size inb_S256x1024_S128x1024_128_0).toLoadRect (a.harg6.unread a.x5) :)
def nw0 : FVec Ideal S1x512 .f32 :=
  (View.readAt (Elt Ideal) a.arg13.view (Rect.unit (s := S1x1024) ![0, 0] S1x512.size inb_S1x1024_S1x512_0_0).toLoadRect (a.harg13.unread a.x12) :)
def nw1 : FVec Ideal S1x512 .f32 :=
  (View.readAt (Elt Ideal) a.arg13.view (Rect.unit (s := S1x1024) ![0, 512] S1x512.size inb_S1x1024_S1x512_0_512).toLoadRect (a.harg13.unread a.x12) :)

/-- The stores into the four outputs, from the outputs and states of the two chunks. -/
def mixOf (yA yB : FVec Ideal S128x1024 .f32) : List (View.Piece (Elt Ideal) S256x1024 .bf16) :=
  [⟨Rect.unit (s := S256x1024) ![128, 512] S128x512.size inb_S256x1024_S128x512_128_512, k0_pay111 (k0_pay110 yB a.zB) a.nw1⟩,
   ⟨Rect.unit (s := S256x1024) ![128, 0] S128x512.size inb_S256x1024_S128x512_128_0, k0_pay109 yB a.zB a.nw0⟩,
   ⟨Rect.unit (s := S256x1024) ![0, 512] S128x512.size inb_S256x1024_S128x512_0_512, k0_pay111 (k0_pay110 yA a.zA) a.nw1⟩,
   ⟨Rect.unit (s := S256x1024) ![0, 0] S128x512.size inb_S256x1024_S128x512_0_0, k0_pay109 yA a.zA a.nw0⟩]
def outOf (yA yB : FVec Ideal S128x1024 .f32) : List (View.Piece (Elt Ideal) S256x1024 .f32) :=
  [⟨Rect.unit (s := S256x1024) ![128, 0] S128x1024.size inb_S256x1024_S128x1024_128_0, yB⟩,
   ⟨Rect.unit (s := S256x1024) ![0, 0] S128x1024.size inb_S256x1024_S128x1024_0_0, yA⟩]
def statesOf (hA hB : FVec Ideal S128x1024 .f32) : List (View.Piece (Elt Ideal) S2x128x1024 .f32) :=
  [⟨Rect.unit (s := S2x128x1024) ![1, 0, 0] S1x128x1024.size inb_S2x128x1024_S1x128x1024_1_0_0, k0_pay28 (F := Ideal) hB⟩,
   ⟨Rect.unit (s := S2x128x1024) ![0, 0, 0] S1x128x1024.size inb_S2x128x1024_S1x128x1024_0_0_0, k0_pay28 (F := Ideal) hA⟩]
def cvList : List (View.Piece (Elt Ideal) S256x1536 .f32) :=
  [⟨Rect.unit (s := S256x1536) ![128, 0] S128x1536.size inb_S256x1536_S128x1536_128_0, a.cvOf a.xpB⟩,
   ⟨Rect.unit (s := S256x1536) ![0, 0] S128x1536.size inb_S256x1536_S128x1536_0_0, a.cvOf a.xpA⟩]

/-- The zeros and ones as the first grid point stores them, and as it loads them. -/
abbrev eList : List (View.Piece (Elt Ideal) S128x2048 .bf16) :=
  [⟨Rect.unit (s := S128x2048) ![0, 0] S128x2048.size inb_S128x2048_S128x2048_0_0, k0_pay7 (F := Ideal) (iota .tc S128x2048 32 [1] iota_S128x2048_d1_w32) k0_pay4 k0_pay5 k0_pay6⟩]
def E0 : FVec Ideal S128x2048 .bf16 :=
  (a.arg23.view.readCov eList (Rect.unit (s := S128x2048) ![0, 0] S128x2048.size inb_S128x2048_S128x2048_0_0).toLoadRect :)
/-- The first grid point's stores of zeros into the states. -/
abbrev zList : Stores := [⟨Rect.unit (s := S128x1024) ![0, 0] S128x1024.size inb_S128x1024_S128x1024_0_0, k0_pay2 (F := Ideal)⟩]

/-- The first grid point's run. -/
abbrev runA (hc0 : cond0_0 a.i) := kernelRun0_A (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12

/-- The first grid point's stores into the states, after its first chunk. -/
theorem hA_first : kernelRun0_A.sl.HS0_9 (F := Ideal) a.c a.i a.arg1 a.harg1 a.arg2 a.harg2 a.arg3 a.harg3 a.arg4 a.harg4 a.arg5 a.harg5 a.arg7 a.harg7 a.arg8 a.harg8 a.arg9 a.harg9 a.arg10 a.harg10 a.arg18 a.arg19 a.arg23 a.x0 a.x1 a.x2 a.x3 a.x4 a.x6 a.x7 a.x8 a.x9 = a.hA a.E0 a.later zList := rfl

theorem runA_mix (hc0 : cond0_0 a.i) : (a.runA hc0).1 =
    a.mixOf (a.yOut1 (a.yA a.E0 a.later zList)) (a.yOut2 (a.yB a.E0 (a.hA a.E0 a.later zList))) := by
  rw [← a.hA_first]
  unfold runA kernelRun0_A
  dsimp only
  rfl
theorem runA_out (hc0 : cond0_0 a.i) : (a.runA hc0).2.1 =
    outOf (a.yOut1 (a.yA a.E0 a.later zList)) (a.yOut2 (a.yB a.E0 (a.hA a.E0 a.later zList))) := by
  rw [← a.hA_first]
  unfold runA kernelRun0_A
  dsimp only
  rfl
theorem runA_states (hc0 : cond0_0 a.i) : (a.runA hc0).2.2.1 =
    statesOf (a.stA zList) (a.stA (a.hA a.E0 a.later zList)) := by
  unfold runA kernelRun0_A
  dsimp only
  rfl
theorem runA_cv (hc0 : cond0_0 a.i) : (a.runA hc0).2.2.2.1 = a.cvList := by
  unfold runA kernelRun0_A
  dsimp only
  rfl
theorem runA_h (hc0 : cond0_0 a.i) : (a.runA hc0).2.2.2.2.1 = a.hB a.E0 (a.hA a.E0 a.later zList) := by
  refine Eq.trans ?_ (congrArg (a.hB a.E0) a.hA_first)
  unfold runA kernelRun0_A
  dsimp only
  rfl
theorem runA_e (hc0 : cond0_0 a.i) : (a.runA hc0).2.2.2.2.2.1 = eList := by
  unfold runA kernelRun0_A
  dsimp only
  rfl

/-- A later grid point's run. -/
abbrev runB (hc0 : ¬cond0_0 a.i) := kernelRun0_B (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5

theorem runB_mix (hc0 : ¬cond0_0 a.i) : (a.runB hc0).1 =
    a.mixOf (a.yOut1 (a.yA a.Es a.first [])) (a.yOut2 (a.yB a.Es (a.hA a.Es a.first []))) := by
  unfold runB kernelRun0_B
  dsimp only
  rfl
theorem runB_out (hc0 : ¬cond0_0 a.i) : (a.runB hc0).2.1 =
    outOf (a.yOut1 (a.yA a.Es a.first [])) (a.yOut2 (a.yB a.Es (a.hA a.Es a.first []))) := by
  unfold runB kernelRun0_B
  dsimp only
  rfl
theorem runB_states (hc0 : ¬cond0_0 a.i) : (a.runB hc0).2.2.1 = statesOf a.st0 (a.stA (a.hA a.Es a.first [])) := by
  unfold runB kernelRun0_B
  dsimp only
  rfl
theorem runB_cv (hc0 : ¬cond0_0 a.i) : (a.runB hc0).2.2.2.1 = a.cvList := by
  unfold runB kernelRun0_B
  dsimp only
  rfl
theorem runB_h (hc0 : ¬cond0_0 a.i) : (a.runB hc0).2.2.2.2.1 = a.hB a.Es (a.hA a.Es a.first []) := by
  unfold runB kernelRun0_B
  dsimp only
  rfl

end Args

end Cert.Proof.ScanRun

end
-- ==== Proof.ScanLists.lean ====
/-
  THE FORWARD SCAN (`Kernel11`): the lists of stores of a chunk, read element by element.

  Every pair of heads stores into its own 128 columns, so after the eight stores each column holds what its pair stored.
  A pair reads the state at its own columns only, which no earlier pair has stored to.
-/
module

public import proofs.«01_k».proof.Proof.ScanPair
public import proofs.«01_k».proof.Proof.ScanRun
public import Idealize.ShloMosaic.Lib.WritesUnit

@[expose] public section

noncomputable section

open Idealize.ShloMosaic Idealize.SL.Sem Idealize.ShloMosaic.ValueIdx
open scoped BigOperators

namespace Cert.Proof.ScanLists

open Cert.Kernel11Ideal Cert.Kernel11Ideal.Gen Cert.Proof.Blocks Cert.Proof.ScanVec Cert.Proof.ScanPair Cert.Proof.ScanRun

/-! ## A list of stores, at an element -/

section
variable {n m p q : ℕ} (o0 o1 : ℕ) (inb : ∀ a : Fin 2, (![o0, o1] : Fin 2 → ℕ) a + (![p, q] : Fin 2 → ℕ) a ≤ (⟨2, ![n, m]⟩ : Shape).size a)
    (w : (⟨2, ![p, q]⟩ : Shape).Idx → EReal) (L : List (View.Piece (Elt Ideal) (⟨2, ![n, m]⟩ : Shape) .f32))

/-- An element under the newest store. -/
theorem rd_in {a b : ℕ} (ha : a < p) (hb : b < q) :
    rd (View.canon ((⟨Rect.unit (s := ⟨2, ![n, m]⟩) ![o0, o1] ![p, q] inb, w⟩ : View.Piece (Elt Ideal) (⟨2, ![n, m]⟩ : Shape) .f32) :: L)) (o0 + a) (o1 + b) = rd w a b := by
  have h0 : o0 + a < n := lt_of_lt_of_le (Nat.add_lt_add_left ha o0) (inb 0)
  have h1 : o1 + b < m := lt_of_lt_of_le (Nat.add_lt_add_left hb o1) (inb 1)
  rw [rd_of_lt _ h0 h1, rd_of_lt _ ha hb]
  have hy : (Rect.unit (s := ⟨2, ![n, m]⟩) ![o0, o1] ![p, q] inb).emb (ix2 ⟨a, ha⟩ ⟨b, hb⟩) = ix2 ⟨o0 + a, h0⟩ ⟨o1 + b, h1⟩ :=
    funext (Fin.forall_fin_two.mpr ⟨Fin.ext (by show o0 + 1 * a = _; rw [Nat.one_mul]), Fin.ext (by show o1 + 1 * b = _; rw [Nat.one_mul])⟩)
  rw [← hy]
  exact View.canon_cons_emb (Val := Elt Ideal) (e := .f32) (Rect.unit (s := ⟨2, ![n, m]⟩) ![o0, o1] ![p, q] inb) w L _

/-- An element outside the newest store. -/
theorem rd_out {a b : ℕ} (h : a < o0 ∨ o0 + p ≤ a ∨ b < o1 ∨ o1 + q ≤ b) :
    rd (View.canon ((⟨Rect.unit (s := ⟨2, ![n, m]⟩) ![o0, o1] ![p, q] inb, w⟩ : View.Piece (Elt Ideal) (⟨2, ![n, m]⟩ : Shape) .f32) :: L)) a b = rd (View.canon L) a b := by
  by_cases hab : a < n ∧ b < m
  · rw [rd_of_lt _ hab.1 hab.2, rd_of_lt _ hab.1 hab.2]
    refine View.canon_cons_of_not_mem _ L ?_
    show _ ∉ (Rect.unit (s := ⟨2, ![n, m]⟩) ![o0, o1] ![p, q] inb).set
    rw [Rect.mem_set_unit]
    intro hall
    have h0 : o0 ≤ a ∧ a < o0 + p := hall (0 : Fin 2)
    have h1 : o1 ≤ b ∧ b < o1 + q := hall (1 : Fin 2)
    omega
  · rw [rd, dif_neg hab, rd, dif_neg hab]

/-- A load, at an element. -/
theorem rd_load (x : (⟨2, ![n, m]⟩ : Shape).Idx → EReal) {a b : ℕ} (ha : a < p) (hb : b < q) :
    rd (n := p) (m := q) (fun j => x ((Rect.unit (s := ⟨2, ![n, m]⟩) ![o0, o1] ![p, q] inb).toLoadRect.idx j)) a b = rd x (o0 + a) (o1 + b) := by
  rw [rd_of_lt _ ha hb]
  refine eq_rd x _ ?_ ?_
  · show o0 + 1 * a = _; rw [Nat.one_mul]
  · show o1 + 1 * b = _; rw [Nat.one_mul]

/-- A load of an input's contents, at an element. -/
theorem rd_in_load (r : Memref sig .tc .vmem (⟨2, ![n, m]⟩ : Shape) .f32) (hr : r.IsWhole) (x : Vec Ideal (⟨2, ![n, m]⟩ : Shape) .f32) {a b : ℕ} (ha : a < p) (hb : b < q) :
    rd (n := p) (m := q) (View.readAt (Elt Ideal) r.view (Rect.unit (s := ⟨2, ![n, m]⟩) ![o0, o1] ![p, q] inb).toLoadRect (hr.unread x)) a b = rd (n := n) (m := m) x (o0 + a) (o1 + b) := by
  have e : View.readAt (Elt Ideal) r.view (Rect.unit (s := ⟨2, ![n, m]⟩) ![o0, o1] ![p, q] inb).toLoadRect (hr.unread x)
      = fun j => x ((Rect.unit (s := ⟨2, ![n, m]⟩) ![o0, o1] ![p, q] inb).toLoadRect.idx j) := by
    rw [View.readAt_eq_ld, hr.read_unread]
  rw [e]
  exact rd_load o0 o1 inb x ha hb

/-- A load of what was stored, at an element. -/
theorem rd_cov (r : Memref sig .tc .vmem (⟨2, ![n, m]⟩ : Shape) .f32) {a b : ℕ} (ha : a < p) (hb : b < q) :
    rd (n := p) (m := q) (r.view.readCov (Val := Elt Ideal) L (Rect.unit (s := ⟨2, ![n, m]⟩) ![o0, o1] ![p, q] inb).toLoadRect) a b = rd (View.canon L) (o0 + a) (o1 + b) := by
  rw [View.readCov_eq_canon']
  exact rd_load o0 o1 inb (View.canon L) ha hb

end

/-! ## The stores of a chunk -/

section
variable (X : FVec Ideal S128x1536 .f32) (dtf alf : FVec Ideal S128x1024 .f32) (ALx : FVec Ideal S128x2048 .f32)
    (alt : FVec Ideal S128x128 .f32) (D : ∀ p, p < 8 → FVec Ideal S1x128 .f32)
    (R : Stores → ∀ p, p < 8 → FVec Ideal S128x128 .f32) (L0 : Stores)
    (dt al Hf : ℕ → ℕ → EReal) (Df : ℕ → EReal)

/-- The columns of the pairs to come are as they were. -/
theorem hList_out : ∀ p (hp : p ≤ 8) (n k : ℕ), 128 * p ≤ k → rd (View.canon (hList X dtf alf R L0 p hp)) n k = rd (View.canon L0) n k
  | 0, _, n, k, _ => rfl
  | p + 1, hp, n, k, hk => by
    refine (rd_out 0 (128 * p) (inb_p p hp) _ _ (Or.inr (Or.inr (Or.inr (by omega))))).trans ?_
    exact hList_out p _ n k (by omega)

/-- What a read function has to give: the state before the chunk, where no pair has stored yet. -/
def Reads : Prop := ∀ p (hp : p < 8) L, (∀ n k, 128 * p ≤ k → rd (View.canon L) n k = rd (View.canon L0) n k) →
    ∀ n j, n < 128 → j < 128 → rd (R L p hp) n j = Hf n (128 * p + j)

variable (hdt : ∀ a b, a < 128 → b < 1024 → rd dtf a b = dt a (b / 64)) (hal : ∀ a b, a < 128 → b < 1024 → rd alf a b = al a (b / 64))
    (hAL : ∀ a b, a < 128 → b < 2048 → rd ALx a b = al a (2 * (b % 1024 / 128) + b / 1024)) (halt : ∀ h l, h < 16 → l < 128 → rd alt h l = al l h)
    (hD : ∀ p hp j, j < 128 → rd (D p hp) 0 j = Df (128 * p + j)) (hR : Reads R L0 Hf)

include hdt hal hR in
theorem hList_in : ∀ p (hp : p ≤ 8) (n k : ℕ), n < 128 → k < 128 * p → rd (View.canon (hList X dtf alf R L0 p hp)) n k = Hn (rd X) dt al Hf n k
  | 0, _, n, k, _, hk => absurd hk (by omega)
  | p + 1, hp, n, k, hn, hk => by
    by_cases h : k < 128 * p
    · refine (rd_out 0 (128 * p) (inb_p p hp) _ _ (Or.inr (Or.inr (Or.inl h)))).trans ?_
      exact hList_in p _ n k hn h
    · obtain ⟨j, rfl⟩ : ∃ j, k = 128 * p + j := ⟨k - 128 * p, by omega⟩
      have hj : j < 128 := by omega
      have e := rd_in 0 (128 * p) (inb_p p hp) (hv p hp X dtf alf (R (hList X dtf alf R L0 p (Nat.le_of_succ_le hp)) p hp)) (hList X dtf alf R L0 p (Nat.le_of_succ_le hp)) hn hj
      rw [Nat.zero_add] at e
      refine e.trans ?_
      exact rd_hv p hp X dtf alf _ dt al Hf hdt hal (hR p hp _ fun n k hk => hList_out X dtf alf R L0 p _ n k hk) hn hj

include hdt hal hAL halt hD hR in
theorem yList_in : ∀ p (hp : p ≤ 8) (l k : ℕ), l < 128 → k < 128 * p → rd (View.canon (yList X dtf alf ALx alt D R L0 p hp)) l k = Y (rd X) dt al Hf Df l k
  | 0, _, n, k, _, hk => absurd hk (by omega)
  | p + 1, hp, n, k, hn, hk => by
    by_cases h : k < 128 * p
    · refine (rd_out 0 (128 * p) (inb_p p hp) _ _ (Or.inr (Or.inr (Or.inl h)))).trans ?_
      exact yList_in p _ n k hn h
    · obtain ⟨j, rfl⟩ : ∃ j, k = 128 * p + j := ⟨k - 128 * p, by omega⟩
      have hj : j < 128 := by omega
      have e := rd_in 0 (128 * p) (inb_p p hp) (yv p hp X dtf alf ALx alt (R (hList X dtf alf R L0 p (Nat.le_of_succ_le hp)) p hp) (D p hp)) (yList X dtf alf ALx alt D R L0 p (Nat.le_of_succ_le hp)) hn hj
      rw [Nat.zero_add] at e
      refine e.trans ?_
      exact rd_yv p hp X dtf alf ALx alt _ (D p hp) dt al Hf Df hdt hal hAL halt (hR p hp _ fun n k hk => hList_out X dtf alf R L0 p _ n k hk) (hD p hp) hn hj

end

/-! ## The read functions -/

theorem reads_later (a : Args) (L0 : Stores) (Hf : ℕ → ℕ → EReal) (h : ∀ n k, n < 128 → k < 1024 → rd (View.canon L0) n k = Hf n k) :
    Reads a.later L0 Hf := by
  intro p hp L hL n j hn hj
  refine (rd_cov 0 (128 * p) (inb_p p hp) L a.arg18 hn hj).trans ?_
  rw [Nat.zero_add, hL _ _ (Nat.le_add_right _ _)]
  exact h _ _ hn (by omega)

theorem reads_first (a : Args) (L0 : Stores) (Hf : ℕ → ℕ → EReal) (h : ∀ n k, n < 128 → k < 1024 → rd a.xs0 n k = Hf n k) :
    Reads a.first L0 Hf := by
  intro p hp L hL n j hn hj
  refine (rd_in_load 0 (128 * p) (inb_p p hp) a.arg18 a.harg18 a.xs0 hn hj).trans ?_
  rw [Nat.zero_add]
  exact h _ _ hn (by omega)

/-! ## Agreement on the elements that count -/

theorem Y_congr {X X' dt al H H' : ℕ → ℕ → EReal} {D : ℕ → EReal} (hX : ∀ l k, l < 128 → k < 1536 → X l k = X' l k) (hH : ∀ n k, n < 128 → k < 1024 → H n k = H' n k)
    {l k : ℕ} (hl : l < 128) (hk : k < 1024) : Y X dt al H D l k = Y X' dt al H' D l k := by
  unfold Y cbs
  refine congrArg₂ (· + ·) (congrArg₂ (· + ·) (Finset.sum_congr rfl fun s _ => ?_) (congrArg (_ * ·) (Finset.sum_congr rfl fun n _ => ?_))) ?_
  · rw [hX _ _ s.isLt (by omega)]
    refine congrArg (· * _) (congrArg (· * _) (Finset.sum_congr rfl fun n _ => ?_))
    have := n.isLt
    rw [hX _ _ hl (by omega), hX _ _ s.isLt (by omega)]
  · have := n.isLt
    rw [hX _ _ hl (by omega), hH _ _ n.isLt hk]
  · rw [hX _ _ hl (by omega)]

theorem Hn_congr {X X' dt al H H' : ℕ → ℕ → EReal} (hX : ∀ l k, l < 128 → k < 1536 → X l k = X' l k) (hH : ∀ n k, n < 128 → k < 1024 → H n k = H' n k)
    {n k : ℕ} (hn : n < 128) (hk : k < 1024) : Hn X dt al H n k = Hn X' dt al H' n k := by
  unfold Hn
  refine congrArg₂ (· + ·) (congrArg (_ * ·) (hH _ _ hn hk)) (Finset.sum_congr rfl fun l _ => ?_)
  rw [hX _ _ l.isLt (by omega), hX _ _ l.isLt (by omega)]

end Cert.Proof.ScanLists

end
-- ==== Proof.ScanPoint.lean ====
/-
  THE FORWARD SCAN (`Kernel11`): what a grid point leaves, from what it is given.

  Grid point `n` handles chunks `2 n` and `2 n + 1`. `Fits` says that its inputs are its blocks of the arguments; the
  theorems read each of its lists of stores.
-/
module

public import proofs.«01_k».proof.Proof.ScanSpec
public import proofs.«01_k».proof.Proof.ScanLists

@[expose] public section

noncomputable section

open Idealize.ShloMosaic Idealize.SL.Sem Idealize.ShloMosaic.ValueIdx
open scoped BigOperators

namespace Cert.Proof.ScanPoint

open Cert.Kernel11Ideal Cert.Kernel11Ideal.Gen Cert.Proof.Blocks Cert.Proof.ScanVec Cert.Proof.ScanPair Cert.Proof.ScanRun Cert.Proof.ScanSteps
  Cert.Proof.ScanSpec Cert.Proof.ScanLists Cert.Proof.Consts

/-- The inputs of point `n` are its blocks of the arguments. -/
structure Fits (q : Data) (n : ℕ) (a : Args) : Prop where
  lt : n < 16
  i : (a.i 0).val = n
  x0 : ∀ r k, r < 256 → k < 1024 → rd a.x0 r k = q.pj (256 * n + r) (5120 + k)
  x1 : ∀ r k, r < 256 → k < 512 → rd a.x1 r k = q.pj (256 * n + r) (6144 + k)
  x2 : 0 < n → ∀ r k, r < 8 → k < 1024 → rd a.x2 r k = q.pj (256 * n - 8 + r) (5120 + k)
  x3 : 0 < n → ∀ r k, r < 8 → k < 512 → rd a.x3 r k = q.pj (256 * n - 8 + r) (6144 + k)
  x4 : ∀ r k, r < 256 → k < 128 → rd a.x4 r k = q.pj (256 * n + r) (6656 + k)
  x5 : ∀ r k, r < 256 → k < 1024 → rd a.x5 r k = q.pj (256 * n + r) (4096 + k)
  x6 : ∀ r k, r < 4 → k < 1536 → rd a.x6 r k = q.cw r k
  x7 : ∀ k, k < 1536 → rd a.x7 0 k = q.cb k
  x8 : ∀ h, h < 128 → rd a.x8 0 h = q.db h
  x9 : ∀ h, h < 128 → rd a.x9 0 h = q.lg h
  x11 : ∀ k, k < 1024 → rd a.x11 0 k = q.ds (k / 64)
  x12 : ∀ k, k < 1024 → rd a.x12 0 k = q.nw k

section
variable {q : Data} {n : ℕ} {a : Args} (hf : Fits q n a)

include hf

theorem f_w (r : ℕ) (hr : ∀ a : Fin S4x1536.rank, (![r, 0] : Fin 2 → ℕ) a + S1x1536.size a ≤ S4x1536.size a) {k : ℕ} (hk : k < 1536) :
    rd (a.w r hr) 0 k = q.cw r k := by
  have h4 : r + 1 ≤ 4 := hr 0
  refine (rd_in_load r 0 hr a.arg7 a.harg7 a.x6 Nat.one_pos hk).trans ?_
  rw [Nat.add_zero, Nat.zero_add]
  exact hf.x6 _ _ (by omega) hk
theorem f_cb {k : ℕ} (hk : k < 1536) : rd a.cb 0 k = q.cb k := by
  refine (rd_in_load 0 0 inb_S1x1536_S1x1536_0_0 a.arg8 a.harg8 a.x7 Nat.one_pos hk).trans ?_
  rw [Nat.add_zero, Nat.zero_add]
  exact hf.x7 _ hk
theorem f_db {h : ℕ} (hh : h < 128) : rd a.db 0 h = q.db h := by
  refine (rd_in_load 0 0 inb_S1x128_S1x128_0_0 a.arg9 a.harg9 a.x8 Nat.one_pos hh).trans ?_
  rw [Nat.add_zero, Nat.zero_add]
  exact hf.x8 _ hh
theorem f_lg {h : ℕ} (hh : h < 128) : rd a.lg 0 h = q.lg h := by
  refine (rd_in_load 0 0 inb_S1x128_S1x128_0_0 a.arg10 a.harg10 a.x9 Nat.one_pos hh).trans ?_
  rw [Nat.add_zero, Nat.zero_add]
  exact hf.x9 _ hh
theorem f_D (p : ℕ) (hp : p < 8) {j : ℕ} (hj : j < 128) : rd (a.Dp p hp) 0 j = q.ds ((128 * p + j) / 64) := by
  refine (rd_in_load 0 (128 * p) (inb_1 p hp) a.arg12 a.harg12 a.x11 Nat.one_pos hj).trans ?_
  rw [Nat.add_zero]
  exact hf.x11 _ (by omega)
theorem f_nw0 {k : ℕ} (hk : k < 512) : rd a.nw0 0 k = q.nw k := by
  refine (rd_in_load 0 0 inb_S1x1024_S1x512_0_0 a.arg13 a.harg13 a.x12 Nat.one_pos hk).trans ?_
  rw [Nat.add_zero, Nat.zero_add]
  exact hf.x12 _ (by omega)
theorem f_nw1 {k : ℕ} (hk : k < 512) : rd a.nw1 0 k = q.nw (512 + k) := by
  refine (rd_in_load 0 512 inb_S1x1024_S1x512_0_512 a.arg13 a.harg13 a.x12 Nat.one_pos hk).trans ?_
  rw [Nat.add_zero]
  exact hf.x12 _ (by omega)
theorem f_dA {l h : ℕ} (hl : l < 128) (hh : h < 128) : rd a.dA l h = q.pj (128 * (2 * n) + l) (6656 + h) := by
  refine (rd_in_load 0 0 inb_S256x128_S128x128_0_0 a.arg5 a.harg5 a.x4 hl hh).trans ?_
  rw [Nat.zero_add, Nat.zero_add, hf.x4 _ _ (by omega) hh]
  exact congrArg (fun t => q.pj t _) (by omega)
theorem f_dB {l h : ℕ} (hl : l < 128) (hh : h < 128) : rd a.dB l h = q.pj (128 * (2 * n + 1) + l) (6656 + h) := by
  refine (rd_in_load 128 0 inb_S256x128_S128x128_128_0 a.arg5 a.harg5 a.x4 hl hh).trans ?_
  rw [Nat.zero_add, hf.x4 _ _ (by omega) hh]
  exact congrArg (fun t => q.pj t _) (by omega)
theorem f_zA {l k : ℕ} (hl : l < 128) (hk : k < 1024) : rd a.zA l k = q.pj (128 * (2 * n) + l) (4096 + k) := by
  refine (rd_in_load 0 0 inb_S256x1024_S128x1024_0_0 a.arg6 a.harg6 a.x5 hl hk).trans ?_
  rw [Nat.zero_add, Nat.zero_add, hf.x5 _ _ (by omega) hk]
  exact congrArg (fun t => q.pj t _) (by omega)
theorem f_zB {l k : ℕ} (hl : l < 128) (hk : k < 1024) : rd a.zB l k = q.pj (128 * (2 * n + 1) + l) (4096 + k) := by
  refine (rd_in_load 128 0 inb_S256x1024_S128x1024_128_0 a.arg6 a.harg6 a.x5 hl hk).trans ?_
  rw [Nat.zero_add, hf.x5 _ _ (by omega) hk]
  exact congrArg (fun t => q.pj t _) (by omega)

/-! ## The rows to be convolved -/

omit hf in
theorem sel0 : ∀ n : Fin 16, (Scalar.cmpi .eq (BitVec.ofNat 32 n.val) 0#32 = 1#1) ↔ n.val = 0 := by decide

/-- The factor the rows before the block are multiplied by. -/
theorem f_pay8 : k0_pay8 (F := Ideal) a.i = if n = 0 then 0 else 1 := by
  unfold k0_pay8
  have h := sel0 ⟨n, hf.lt⟩
  rw [hf.i]
  show (if Scalar.cmpi .eq (BitVec.ofNat 32 n) 0#32 = 1#1 then Ideal.ofBits .f32 0x00000000#32 else Ideal.ofBits .f32 0x3F800000#32) = _
  rw [Ideal.ofBits_zero_f32, c1, EReal.coe_one]
  exact ite_congr (propext h) (fun _ => rfl) (fun _ => rfl)

omit hf in
theorem pay112_eq : k0_pay112 (F := Ideal) = 1 := by
  unfold k0_pay112
  exact c1.trans EReal.coe_one

theorem f_xpA {r k : ℕ} (h5 : 5 ≤ r) (hr : r < 136) (hk : k < 1536) : rd a.xpA r k = xq q (128 * (2 * n) + r - 5) k := by
  refine (rd_cov 0 0 inb_S136x1536_S136x1536_0_0 _ a.arg19 hr hk).trans ?_
  rw [Nat.zero_add, Nat.zero_add]
  unfold xq
  have hn := hf.lt
  by_cases h8 : 8 ≤ r
  · obtain ⟨l, rfl⟩ : ∃ l, r = 8 + l := ⟨r - 8, by omega⟩
    rw [if_neg (by omega)]
    by_cases hk' : 1024 ≤ k
    · obtain ⟨j, rfl⟩ : ∃ j, k = 1024 + j := ⟨k - 1024, by omega⟩
      refine (rd_in 8 1024 inb_S136x1536_S128x512_8_1024 _ _ (by omega) (by omega)).trans ?_
      unfold k0_pay12
      rw [shapeCast_self]
      refine (rd_in_load 0 0 inb_S256x512_S128x512_0_0 a.arg2 a.harg2 a.x1 (by omega) (by omega)).trans ?_
      rw [hf.x1 _ _ (by omega) (by omega)]
      exact congrArg₂ q.pj (by omega) (by omega)
    · refine (rd_out 8 1024 inb_S136x1536_S128x512_8_1024 _ _ (by omega)).trans ?_
      have e := rd_in 8 0 inb_S136x1536_S128x1024_8_0 (k0_pay11 (View.readAt (Elt Ideal) a.arg1.view (Rect.unit (s := S256x1024) ![0, 0] S128x1024.size inb_S256x1024_S128x1024_0_0).toLoadRect (a.harg1.unread a.x0)))
        [⟨Rect.unit (s := S136x1536) ![0, 1024] S8x512.size inb_S136x1536_S8x512_0_1024, k0_pay10 a.i (View.readAt (Elt Ideal) a.arg4.view (Rect.unit (s := S8x512) ![0, 0] S8x512.size inb_S8x512_S8x512_0_0).toLoadRect (a.harg4.unread a.x3))⟩,
          ⟨Rect.unit (s := S136x1536) ![0, 0] S8x1024.size inb_S136x1536_S8x1024_0_0, k0_pay9 a.i (View.readAt (Elt Ideal) a.arg3.view (Rect.unit (s := S8x1024) ![0, 0] S8x1024.size inb_S8x1024_S8x1024_0_0).toLoadRect (a.harg3.unread a.x2))⟩]
        (show l < 128 by omega) (show k < 1024 by omega)
      rw [Nat.zero_add] at e
      refine e.trans ?_
      unfold k0_pay11
      rw [shapeCast_self]
      refine (rd_in_load 0 0 inb_S256x1024_S128x1024_0_0 a.arg1 a.harg1 a.x0 (by omega) (by omega)).trans ?_
      rw [hf.x0 _ _ (by omega) (by omega)]
      exact congrArg₂ q.pj (by omega) (by omega)
  · refine (rd_out 8 1024 inb_S136x1536_S128x512_8_1024 _ _ (by omega)).trans ((rd_out 8 0 inb_S136x1536_S128x1024_8_0 _ _ (by omega)).trans ?_)
    by_cases hk' : 1024 ≤ k
    · obtain ⟨j, rfl⟩ : ∃ j, k = 1024 + j := ⟨k - 1024, by omega⟩
      have e := rd_in 0 1024 inb_S136x1536_S8x512_0_1024 (k0_pay10 a.i (View.readAt (Elt Ideal) a.arg4.view (Rect.unit (s := S8x512) ![0, 0] S8x512.size inb_S8x512_S8x512_0_0).toLoadRect (a.harg4.unread a.x3)))
        [⟨Rect.unit (s := S136x1536) ![0, 0] S8x1024.size inb_S136x1536_S8x1024_0_0, k0_pay9 a.i (View.readAt (Elt Ideal) a.arg3.view (Rect.unit (s := S8x1024) ![0, 0] S8x1024.size inb_S8x1024_S8x1024_0_0).toLoadRect (a.harg3.unread a.x2))⟩]
        (show r < 8 by omega) (show j < 512 by omega)
      rw [Nat.zero_add] at e
      refine e.trans ?_
      unfold k0_pay10
      dsimp only
      rw [shapeCast_self, rd_of_lt _ (show r < 8 by omega) (show j < 512 by omega)]
      show (View.readAt (Elt Ideal) a.arg4.view (Rect.unit (s := S8x512) ![0, 0] S8x512.size inb_S8x512_S8x512_0_0).toLoadRect (a.harg4.unread a.x3)) _ * k0_pay8 (F := Ideal) a.i = _
      rw [f_pay8 hf]
      by_cases h0 : n = 0
      · rw [if_pos h0, mul_zero, if_pos (by omega)]
      · rw [if_neg h0, if_neg (by omega)]
        refine (mul_one _).trans ?_
        refine ((rd_of_lt _ (show r < 8 by omega) (show j < 512 by omega)).symm.trans (rd_in_load 0 0 inb_S8x512_S8x512_0_0 a.arg4 a.harg4 a.x3 (by omega) (by omega))).trans ?_
        rw [hf.x3 (by omega) _ _ (by omega) (by omega)]
        exact congrArg₂ q.pj (by omega) (by omega)
    · refine (rd_out 0 1024 inb_S136x1536_S8x512_0_1024 _ _ (by omega)).trans ?_
      have e := rd_in 0 0 inb_S136x1536_S8x1024_0_0 (k0_pay9 a.i (View.readAt (Elt Ideal) a.arg3.view (Rect.unit (s := S8x1024) ![0, 0] S8x1024.size inb_S8x1024_S8x1024_0_0).toLoadRect (a.harg3.unread a.x2)))
        [] (show r < 8 by omega) (show k < 1024 by omega)
      rw [Nat.zero_add, Nat.zero_add] at e
      refine e.trans ?_
      unfold k0_pay9
      dsimp only
      rw [shapeCast_self, rd_of_lt _ (show r < 8 by omega) (show k < 1024 by omega)]
      show (View.readAt (Elt Ideal) a.arg3.view (Rect.unit (s := S8x1024) ![0, 0] S8x1024.size inb_S8x1024_S8x1024_0_0).toLoadRect (a.harg3.unread a.x2)) _ * k0_pay8 (F := Ideal) a.i = _
      rw [f_pay8 hf]
      by_cases h0 : n = 0
      · rw [if_pos h0, mul_zero, if_pos (by omega)]
      · rw [if_neg h0, if_neg (by omega)]
        refine (mul_one _).trans ?_
        refine ((rd_of_lt _ (show r < 8 by omega) (show k < 1024 by omega)).symm.trans (rd_in_load 0 0 inb_S8x1024_S8x1024_0_0 a.arg3 a.harg3 a.x2 (by omega) (by omega))).trans ?_
        rw [hf.x2 (by omega) _ _ (by omega) (by omega)]
        exact congrArg₂ q.pj (by omega) (by omega)

theorem f_xpB {r k : ℕ} (h5 : 5 ≤ r) (hr : r < 136) (hk : k < 1536) : rd a.xpB r k = xq q (128 * (2 * n + 1) + r - 5) k := by
  refine (rd_cov 0 0 inb_S136x1536_S136x1536_0_0 _ a.arg20 hr hk).trans ?_
  rw [Nat.zero_add, Nat.zero_add]
  unfold xq
  rw [if_neg (by omega)]
  have hn := hf.lt
  by_cases h8 : 8 ≤ r
  · obtain ⟨l, rfl⟩ : ∃ l, r = 8 + l := ⟨r - 8, by omega⟩
    by_cases hk' : 1024 ≤ k
    · obtain ⟨j, rfl⟩ : ∃ j, k = 1024 + j := ⟨k - 1024, by omega⟩
      refine (rd_in 8 1024 inb_S136x1536_S128x512_8_1024 _ _ (by omega) (by omega)).trans ?_
      unfold k0_pay116
      rw [shapeCast_self]
      refine (rd_in_load 128 0 inb_S256x512_S128x512_128_0 a.arg2 a.harg2 a.x1 (by omega) (by omega)).trans ?_
      rw [hf.x1 _ _ (by omega) (by omega)]
      exact congrArg₂ q.pj (by omega) (by omega)
    · refine (rd_out 8 1024 inb_S136x1536_S128x512_8_1024 _ _ (by omega)).trans ?_
      have e := rd_in 8 0 inb_S136x1536_S128x1024_8_0 (k0_pay115 (View.readAt (Elt Ideal) a.arg1.view (Rect.unit (s := S256x1024) ![128, 0] S128x1024.size inb_S256x1024_S128x1024_128_0).toLoadRect (a.harg1.unread a.x0)))
        [⟨Rect.unit (s := S136x1536) ![0, 1024] S8x512.size inb_S136x1536_S8x512_0_1024, k0_pay114 (View.readAt (Elt Ideal) a.arg2.view (Rect.unit (s := S256x512) ![120, 0] S8x512.size inb_S256x512_S8x512_120_0).toLoadRect (a.harg2.unread a.x1))⟩,
          ⟨Rect.unit (s := S136x1536) ![0, 0] S8x1024.size inb_S136x1536_S8x1024_0_0, k0_pay113 (View.readAt (Elt Ideal) a.arg1.view (Rect.unit (s := S256x1024) ![120, 0] S8x1024.size inb_S256x1024_S8x1024_120_0).toLoadRect (a.harg1.unread a.x0))⟩]
        (show l < 128 by omega) (show k < 1024 by omega)
      rw [Nat.zero_add] at e
      refine e.trans ?_
      unfold k0_pay115
      rw [shapeCast_self]
      refine (rd_in_load 128 0 inb_S256x1024_S128x1024_128_0 a.arg1 a.harg1 a.x0 (by omega) (by omega)).trans ?_
      rw [hf.x0 _ _ (by omega) (by omega)]
      exact congrArg₂ q.pj (by omega) (by omega)
  · refine (rd_out 8 1024 inb_S136x1536_S128x512_8_1024 _ _ (by omega)).trans ((rd_out 8 0 inb_S136x1536_S128x1024_8_0 _ _ (by omega)).trans ?_)
    by_cases hk' : 1024 ≤ k
    · obtain ⟨j, rfl⟩ : ∃ j, k = 1024 + j := ⟨k - 1024, by omega⟩
      have e := rd_in 0 1024 inb_S136x1536_S8x512_0_1024 (k0_pay114 (View.readAt (Elt Ideal) a.arg2.view (Rect.unit (s := S256x512) ![120, 0] S8x512.size inb_S256x512_S8x512_120_0).toLoadRect (a.harg2.unread a.x1)))
        [⟨Rect.unit (s := S136x1536) ![0, 0] S8x1024.size inb_S136x1536_S8x1024_0_0, k0_pay113 (View.readAt (Elt Ideal) a.arg1.view (Rect.unit (s := S256x1024) ![120, 0] S8x1024.size inb_S256x1024_S8x1024_120_0).toLoadRect (a.harg1.unread a.x0))⟩]
        (show r < 8 by omega) (show j < 512 by omega)
      rw [Nat.zero_add] at e
      refine e.trans ?_
      unfold k0_pay114
      dsimp only
      rw [shapeCast_self, rd_of_lt _ (show r < 8 by omega) (show j < 512 by omega)]
      show (View.readAt (Elt Ideal) a.arg2.view (Rect.unit (s := S256x512) ![120, 0] S8x512.size inb_S256x512_S8x512_120_0).toLoadRect (a.harg2.unread a.x1)) _ * k0_pay112 (F := Ideal) = _
      rw [pay112_eq]
      refine (mul_one _).trans ?_
      refine ((rd_of_lt _ (show r < 8 by omega) (show j < 512 by omega)).symm.trans (rd_in_load 120 0 inb_S256x512_S8x512_120_0 a.arg2 a.harg2 a.x1 (by omega) (by omega))).trans ?_
      rw [hf.x1 _ _ (by omega) (by omega)]
      exact congrArg₂ q.pj (by omega) (by omega)
    · refine (rd_out 0 1024 inb_S136x1536_S8x512_0_1024 _ _ (by omega)).trans ?_
      have e := rd_in 0 0 inb_S136x1536_S8x1024_0_0 (k0_pay113 (View.readAt (Elt Ideal) a.arg1.view (Rect.unit (s := S256x1024) ![120, 0] S8x1024.size inb_S256x1024_S8x1024_120_0).toLoadRect (a.harg1.unread a.x0)))
        [] (show r < 8 by omega) (show k < 1024 by omega)
      rw [Nat.zero_add, Nat.zero_add] at e
      refine e.trans ?_
      unfold k0_pay113
      dsimp only
      rw [shapeCast_self, rd_of_lt _ (show r < 8 by omega) (show k < 1024 by omega)]
      show (View.readAt (Elt Ideal) a.arg1.view (Rect.unit (s := S256x1024) ![120, 0] S8x1024.size inb_S256x1024_S8x1024_120_0).toLoadRect (a.harg1.unread a.x0)) _ * k0_pay112 (F := Ideal) = _
      rw [pay112_eq]
      refine (mul_one _).trans ?_
      refine ((rd_of_lt _ (show r < 8 by omega) (show k < 1024 by omega)).symm.trans (rd_in_load 120 0 inb_S256x1024_S8x1024_120_0 a.arg1 a.harg1 a.x0 (by omega) (by omega))).trans ?_
      rw [hf.x0 _ _ (by omega) (by omega)]
      exact congrArg₂ q.pj (by omega) (by omega)

/-! ## A chunk -/

section
variable (c : ℕ) (hc : c < 32) (hq : q.Finite) (xp : FVec Ideal S136x1536 .f32) (hxp : ∀ r k, 5 ≤ r → r < 136 → k < 1536 → rd xp r k = xq q (128 * c + r - 5) k)
    (d : FVec Ideal S128x128 .f32) (hd : ∀ l h, l < 128 → h < 128 → rd d l h = q.pj (128 * c + l) (6656 + h)) (E : FVec Ideal S128x2048 .bf16) (hE : Ones E)

include hxp in
theorem f_cvx {l k : ℕ} (hl : l < 128) (hk : k < 1536) :
    cvx (rd xp) (rd a.cb 0) (rd (a.w 3 inb_S4x1536_S1x1536_3_0) 0) (rd (a.w 0 inb_S4x1536_S1x1536_0_0) 0) (rd (a.w 1 inb_S4x1536_S1x1536_1_0) 0) (rd (a.w 2 inb_S4x1536_S1x1536_2_0) 0) l k
      = cvg q (128 * c + l) k := by
  unfold cvx cvg
  rw [f_cb hf hk, f_w hf 3 _ hk, f_w hf 0 _ hk, f_w hf 1 _ hk, f_w hf 2 _ hk, hxp _ _ (by omega) (by omega) hk, hxp _ _ (by omega) (by omega) hk,
    hxp _ _ (by omega) (by omega) hk, hxp _ _ (by omega) (by omega) hk]
  rw [show 128 * c + (8 + l) - 5 = 128 * c + l + 3 by omega, show 128 * c + (8 + l - 3) - 5 = 128 * c + l by omega,
    show 128 * c + (8 + l - 2) - 5 = 128 * c + l + 1 by omega, show 128 * c + (8 + l - 1) - 5 = 128 * c + l + 2 by omega]

include hxp in
theorem f_cv {l k : ℕ} (hl : l < 128) (hk : k < 1536) : rd (a.cvOf xp) l k = cvg q (128 * c + l) k :=
  (rd_cv xp _ _ _ _ _ hl hk).trans (f_cvx hf c xp hxp hl hk)
include hxp in
theorem f_X {l k : ℕ} (hl : l < 128) (hk : k < 1536) : rd (a.Xof xp) l k = Xg q c l k :=
  (rd_X xp _ _ _ _ _ hl hk).trans (congrArg gate (f_cvx hf c xp hxp hl hk))

include hd in
theorem f_dtc {l h : ℕ} (hl : l < 128) (hh : h < 128) : dtc d a.db l h = dtg q c l h := by
  unfold dtc dtg
  rw [hd _ _ hl hh, f_db hf hh]
include hd in
theorem f_alc {l h : ℕ} (hh : h < 128) : alc (dtc d a.db) (rd a.lg 0) l h = alg q c l h := by
  unfold alg alc
  refine Finset.sum_congr rfl fun s _ => ?_
  rw [f_dtc hf c d hd s.isLt hh, f_lg hf hh]

include hd hc hq hE in
theorem f_dtf {l k : ℕ} (hl : l < 128) (hk : k < 1024) : rd (a.dtf d E) l k = dtg q c l (k / 64) := by
  unfold Args.dtf
  rw [pay20_eq]
  have e : ∀ l h, l < 128 → h < 16 → rd (k0_pay17 (F := Ideal) (k0_pay15 d a.db) (k0_pay16 d a.db)) l h = dtg q c l h := fun l h hl hh =>
    (rd_dt d a.db hl (by omega)).trans (f_dtc hf c d hd hl (by omega))
  rw [rd_spread _ E hE (fun l h hl hh => by rw [e l h hl hh]; exact dtg_ne_top q hq hc hl hh) hl hk]
  exact e _ _ hl (by omega)

include hd hc hq hE in
theorem f_ALx {l k : ℕ} (hl : l < 128) (hk : k < 2048) : rd (a.ALx d E) l k = alg q c l (2 * (k % 1024 / 128) + k / 1024) := by
  unfold Args.ALx
  rw [pay21_eq]
  have h16 : ScanSteps.hd k < 16 := by unfold ScanSteps.hd; omega
  have e : rd (k0_pay18 (F := Ideal) (k0_pay15 d a.db) (k0_pay16 d a.db) a.lg) l (ScanSteps.hd k) = alg q c l (ScanSteps.hd k) :=
    (rd_al d a.db a.lg hl (by omega)).trans (f_alc hf c d hd (by omega))
  refine (rd_split3 _ E hE hl hk (by rw [e]; exact alg_ne_top q c l _)).trans ?_
  exact e

include hd hc hq hE in
theorem f_alf {l k : ℕ} (hl : l < 128) (hk : k < 1024) : rd (a.alf d E) l k = alg q c l (k / 64) := by
  have h := rd_half (a.ALx d E) hl hk
  refine (show rd (a.alf d E) l k = rd (k0_pay25 (F := Ideal) (a.ALx d E) 128#32 k0_pay22 k0_pay23) l k from rfl).trans (h.trans ?_)
  split_ifs with h64
  · rw [f_ALx hf c hc hq d hd E hE hl (by omega)]
    exact congrArg (alg q c l) (by omega)
  · rw [f_ALx hf c hc hq d hd E hE hl (by omega)]
    exact congrArg (alg q c l) (by omega)

include hd in
theorem f_alt {l h : ℕ} (hh : h < 16) (hl : l < 128) : rd (a.alt d) h l = alg q c l h :=
  (rd_alt d a.db a.lg hl (by omega)).trans (f_alc hf c d hd (by omega))

variable (R : Stores → ∀ p, p < 8 → FVec Ideal S128x128 .f32) (L0 : Stores) (hR : Reads R L0 (Hs q c))

include hxp hd hc hq hE hR in
theorem f_h {r k : ℕ} (hr : r < 128) (hk : k < 1024) :
    rd (View.canon (hList (a.Xof xp) (a.dtf d E) (a.alf d E) R L0 8 (Nat.le_refl 8))) r k = Hs q (c + 1) r k := by
  refine (hList_in (a.Xof xp) (a.dtf d E) (a.alf d E) R L0 (dtg q c) (alg q c) (Hs q c) (fun l k hl hk => f_dtf hf c hc hq d hd E hE hl hk)
    (fun l k hl hk => f_alf hf c hc hq d hd E hE hl hk) hR 8 (Nat.le_refl 8) r k hr hk).trans ?_
  exact Hn_congr (fun l k hl hk => f_X hf c xp hxp hl hk) (fun _ _ _ _ => rfl) hr hk

include hxp hd hc hq hE hR in
theorem f_y {l k : ℕ} (hl : l < 128) (hk : k < 1024) :
    rd (View.canon (yList (a.Xof xp) (a.dtf d E) (a.alf d E) (a.ALx d E) (a.alt d) a.Dp R L0 8 (Nat.le_refl 8))) l k = yg q c l k := by
  refine (yList_in (a.Xof xp) (a.dtf d E) (a.alf d E) (a.ALx d E) (a.alt d) a.Dp R L0 (dtg q c) (alg q c) (Hs q c) (fun k => q.ds (k / 64))
    (fun l k hl hk => f_dtf hf c hc hq d hd E hE hl hk) (fun l k hl hk => f_alf hf c hc hq d hd E hE hl hk)
    (fun l k hl hk => f_ALx hf c hc hq d hd E hE hl hk) (fun h l hh hl => f_alt hf c d hd hh hl) (fun p hp j hj => f_D hf p hp hj) hR 8 (Nat.le_refl 8) l k hl hk).trans ?_
  exact Y_congr (fun l k hl hk => f_X hf c xp hxp hl hk) (fun _ _ _ _ => rfl) hl hk

end

end

/-! ## The gated norm -/

section
variable (q : Data) (c : ℕ) (y z : FVec Ideal S128x1024 .f32) (hy : ∀ l k, l < 128 → k < 1024 → rd y l k = yg q c l k)
    (hz : ∀ l k, l < 128 → k < 1024 → rd z l k = q.pj (128 * c + l) (4096 + k))

include hy hz

theorem rd_part {l k : ℕ} (hl : l < 128) (hk : k < 1024) : rd (k0_pay108 (F := Ideal) y z) l k = part q c l k := by
  unfold part gate
  rw [← hy _ _ hl hk, ← hz _ _ hl hk, rd_of_lt _ hl hk, rd_of_lt _ hl hk, rd_of_lt _ hl hk, ← Ideal.ofBits_zero_f32]
  rfl

/-- A group of 512 columns, normalized. -/
theorem rd_norm (o : ℕ) (g : ℕ) (ho : o = 512 * g) (hg : g < 2) (h : S128x1024.Slices ![0, o] S128x512) (l : ℕ) (j : ℕ) (hl : l < 128) (hj : j < 512) :
    mulf (F := Ideal) (φ := .f32) (extractStridedSlice S128x512 ![0, o] (k0_pay108 (F := Ideal) y z) h)
      (broadcastTo S128x512 (rsqrt (addf (divf (shapeCast S128x1 (multiReduction .add [1] S128 (mulf (extractStridedSlice S128x512 ![0, o] (k0_pay108 (F := Ideal) y z) h) (extractStridedSlice S128x512 ![0, o] (k0_pay108 (F := Ideal) y z) h)) 0x00000000#32 reduces_S128x512_S128 (.inl rfl) rfl) shapeCasts_S128_S128x1)
        (broadcast S128x1 (Scalar.ofBits (F := Ideal) .f32 0x44000000#32))) (broadcast S128x1 (Scalar.ofBits (F := Ideal) .f32 0x358637BD#32)))) broadcasts_S128x1_S128x512)
      (ix2 ⟨l, hl⟩ ⟨j, hj⟩)
    = part q c l (512 * g + j) * Ideal.rsqrt (Ideal.div (∑ i : Fin 512, part q c l (512 * g + i.val) * part q c l (512 * g + i.val)) (Ideal.ofBits .f32 0x44000000#32)
        + Ideal.ofBits .f32 0x358637BD#32) := by
  subst ho
  have e : ∀ i, i < 512 → ∀ hi : i < 512, extractStridedSlice S128x512 ![0, 512 * g] (k0_pay108 (F := Ideal) y z) h (ix2 ⟨l, hl⟩ ⟨i, hi⟩) = part q c l (512 * g + i) := by
    intro i _ hi
    rw [← rd_part q c y z hy hz hl (by omega)]
    refine (rd_of_lt _ hl hi).symm.trans ((rd_slice _ 0 (512 * g) h hl hi).trans ?_)
    rw [Nat.zero_add]
  refine congrArg₂ (· * ·) (e j hj hj) ?_
  rw [bcol]
  refine congrArg (fun s => Ideal.rsqrt (Ideal.div s (Ideal.ofBits .f32 0x44000000#32) + Ideal.ofBits .f32 0x358637BD#32)) ?_
  refine (rowsum _ _ reduces_S128x512_S128 (.inl rfl) rfl shapeCasts_S128_S128x1 _).trans (Finset.sum_congr rfl fun i _ => ?_)
  refine (rd_of_lt _ hl i.isLt).trans ?_
  exact congrArg₂ (· * ·) (e i.val i.isLt i.isLt) (e i.val i.isLt i.isLt)

variable (nw : FVec Ideal S1x512 .f32)

theorem rd_mix0 (hnw : ∀ k, k < 512 → rd nw 0 k = q.nw k) {l j : ℕ} (hl : l < 128) (hj : j < 512) :
    k0_pay109 (F := Ideal) y z nw (ix2 ⟨l, hl⟩ ⟨j, hj⟩) = mixg q c l j := by
  unfold mixg
  have e0 : j / 512 = 0 := by omega
  have h := rd_norm q c y z hy hz 0 0 rfl (by decide) slices_S128x1024_o0_0_S128x512 l j hl hj
  rw [e0]
  simp only [Nat.mul_zero, Nat.zero_add] at h ⊢
  refine congrArg₂ (· * ·) h ?_
  exact (brow nw broadcasts_S1x512_S128x512 _).trans (hnw j hj)

theorem rd_mix1 (hnw : ∀ k, k < 512 → rd nw 0 k = q.nw (512 + k)) {l j : ℕ} (hl : l < 128) (hj : j < 512) :
    k0_pay111 (F := Ideal) (k0_pay110 y z) nw (ix2 ⟨l, hl⟩ ⟨j, hj⟩) = mixg q c l (512 + j) := by
  unfold mixg
  have e0 : (512 + j) / 512 = 1 := by omega
  have h := rd_norm q c y z hy hz 512 1 rfl (by decide) slices_S128x1024_o0_512_S128x512 l j hl hj
  rw [e0]
  simp only [Nat.mul_one] at h ⊢
  refine congrArg₂ (· * ·) h ?_
  exact (brow nw broadcasts_S1x512_S128x512 _).trans (hnw j hj)

end

end Cert.Proof.ScanPoint

end
-- ==== Proof.ScanOut.lean ====
/-
  THE FORWARD SCAN (`Kernel11`): what a grid point leaves in its outputs and in the state it carries.

  The stores of a point cover its outputs; read back, they are the gated norm, the outputs, the states before the chunks and
  the convolution of the point's own two chunks.
-/
module

public import proofs.«01_k».proof.Proof.ScanPoint

@[expose] public section

noncomputable section

open Idealize.ShloMosaic Idealize.SL.Sem Idealize.ShloMosaic.ValueIdx
open scoped BigOperators

namespace Cert.Proof.ScanOut

open Cert.Kernel11Ideal Cert.Kernel11Ideal.Gen Cert.Proof.Blocks Cert.Proof.ScanVec Cert.Proof.ScanPair Cert.Proof.ScanRun Cert.Proof.ScanSteps
  Cert.Proof.ScanSpec Cert.Proof.ScanLists Cert.Proof.ScanPoint

/-! ## The two chunks -/

section
variable {q : Data} {n : ℕ} {a : Args} (hf : Fits q n a) (hq : q.Finite) (E : FVec Ideal S128x2048 .bf16) (hE : Ones E)

include hf hq hE in
theorem hA_at (R : Stores → ∀ p, p < 8 → FVec Ideal S128x128 .f32) (L0 : Stores) (hR : Reads R L0 (Hs q (2 * n))) {r k : ℕ} (hr : r < 128) (hk : k < 1024) :
    rd (View.canon (a.hA E R L0)) r k = Hs q (2 * n + 1) r k :=
  have := hf.lt
  f_h hf (2 * n) (by omega) hq a.xpA (fun r k h5 hr hk => f_xpA hf h5 hr hk) a.dA (fun l h hl hh => f_dA hf hl hh) E hE R L0 hR hr hk

include hf hq hE in
theorem yA_at (R : Stores → ∀ p, p < 8 → FVec Ideal S128x128 .f32) (L0 : Stores) (hR : Reads R L0 (Hs q (2 * n))) {r k : ℕ} (hr : r < 128) (hk : k < 1024) :
    rd (a.yOut1 (a.yA E R L0)) r k = yg q (2 * n) r k := by
  have := hf.lt
  refine (rd_cov 0 0 inb_S128x1024_S128x1024_0_0 _ a.arg21 hr hk).trans ?_
  rw [Nat.zero_add, Nat.zero_add]
  exact f_y hf (2 * n) (by omega) hq a.xpA (fun r k h5 hr hk => f_xpA hf h5 hr hk) a.dA (fun l h hl hh => f_dA hf hl hh) E hE R L0 hR hr hk

include hf hq hE in
theorem hB_at (L0 : Stores) (hL : ∀ r k, r < 128 → k < 1024 → rd (View.canon L0) r k = Hs q (2 * n + 1) r k) {r k : ℕ} (hr : r < 128) (hk : k < 1024) :
    rd (View.canon (a.hB E L0)) r k = Hs q (2 * n + 2) r k :=
  have := hf.lt
  f_h hf (2 * n + 1) (by omega) hq a.xpB (fun r k h5 hr hk => f_xpB hf h5 hr hk) a.dB (fun l h hl hh => f_dB hf hl hh) E hE a.later L0
    (reads_later a L0 _ hL) hr hk

include hf hq hE in
theorem yB_at (L0 : Stores) (hL : ∀ r k, r < 128 → k < 1024 → rd (View.canon L0) r k = Hs q (2 * n + 1) r k) {r k : ℕ} (hr : r < 128) (hk : k < 1024) :
    rd (a.yOut2 (a.yB E L0)) r k = yg q (2 * n + 1) r k := by
  have := hf.lt
  refine (rd_cov 0 0 inb_S128x1024_S128x1024_0_0 _ a.arg22 hr hk).trans ?_
  rw [Nat.zero_add, Nat.zero_add]
  exact f_y hf (2 * n + 1) (by omega) hq a.xpB (fun r k h5 hr hk => f_xpB hf h5 hr hk) a.dB (fun l h hl hh => f_dB hf hl hh) E hE a.later L0
    (reads_later a L0 _ hL) hr hk

/-- A load of all the states. -/
theorem stA_at (L : Stores) {r k : ℕ} (hr : r < 128) (hk : k < 1024) : rd (a.stA L) r k = rd (View.canon L) r k := by
  refine (rd_cov 0 0 inb_S128x1024_S128x1024_0_0 _ a.arg18 hr hk).trans ?_
  rw [Nat.zero_add, Nat.zero_add]
theorem st0_at {r k : ℕ} (hr : r < 128) (hk : k < 1024) : rd a.st0 r k = rd a.xs0 r k := by
  refine (rd_in_load 0 0 inb_S128x1024_S128x1024_0_0 a.arg18 a.harg18 a.xs0 hr hk).trans ?_
  rw [Nat.zero_add, Nat.zero_add]

theorem zList_at {r k : ℕ} (hr : r < 128) (hk : k < 1024) : rd (View.canon Args.zList) r k = 0 := by
  rw [show View.canon Args.zList = k0_pay2 (F := Ideal) from View.canon_unit_zero (S := S128x1024) (by decide) _ _, rd_of_lt _ hr hk]
  unfold k0_pay2
  exact Ideal.ofBits_zero_f32

theorem E0_eq : a.E0 = k0_pay7 (F := Ideal) (iota .tc S128x2048 32 [1] iota_S128x2048_d1_w32) k0_pay4 k0_pay5 k0_pay6 :=
  View.readCov_unit_zero _ (by decide) _ _
theorem ones_E0 : Ones a.E0 := by rw [E0_eq]; exact ones_pay7
theorem Es_eq : a.Es = a.xs5 := by
  unfold Args.Es
  rw [View.readAt_eq_ld, a.harg23.read_unread]
  funext j
  refine congrArg a.xs5 (funext fun b => Fin.ext ?_)
  match b with
  | ⟨0, _⟩ => show 0 + 1 * (j 0).val = (j 0).val; omega
  | ⟨1, _⟩ => show 0 + 1 * (j 1).val = (j 1).val; omega

end

/-! ## The outputs' stores, read back -/

section
variable {q : Data} {n : ℕ} {a : Args} (hf : Fits q n a)

/-- The outputs of point `n`. -/
def mixP (q : Data) (n : ℕ) : S256x1024.Idx → EReal := fun i => mixg q (2 * n + (i 0).val / 128) ((i 0).val % 128) (i 1).val
def outP (q : Data) (n : ℕ) : S256x1024.Idx → EReal := fun i => yg q (2 * n + (i 0).val / 128) ((i 0).val % 128) (i 1).val
def statesP (q : Data) (n : ℕ) : S2x128x1024.Idx → EReal := fun i => Hs q (2 * n + (i 0).val) (i 1).val (i 2).val
def cvP (q : Data) (n : ℕ) : S256x1536.Idx → EReal := fun i => cvg q (256 * n + (i 0).val) (i 1).val

variable (y0 y1 : FVec Ideal S128x1024 .f32) (h0 : ∀ l k, l < 128 → k < 1024 → rd y0 l k = yg q (2 * n) l k)
  (h1 : ∀ l k, l < 128 → k < 1024 → rd y1 l k = yg q (2 * n + 1) l k)

include hf h0 h1 in
theorem mixOf_at (i : S256x1024.Idx) (hc : ∃ p ∈ a.mixOf y0 y1, i ∈ p.1.set) : View.canon (a.mixOf y0 y1) i = mixP q n i := by
  refine View.canon_apply_of_pieces (Val := Elt Ideal) (e := .bf16) (mixP q n) (a.mixOf y0 y1) ?_ i hc
  unfold Args.mixOf mixP
  refine List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩
  · have l0 : (x 0).val < 128 := (x 0).isLt
    have l1 : (x 1).val < 512 := (x 1).isLt
    refine (congrArg (k0_pay111 (F := Ideal) (k0_pay110 y1 a.zB) a.nw1) (eq_ix2 (n0 := 128) (n1 := 512) x)).trans ?_
    refine (rd_mix1 q (2 * n + 1) y1 a.zB h1 (fun l k hl hk => f_zB hf hl hk) a.nw1 (fun k hk => f_nw1 hf hk) l0 l1).trans ?_
    show _ = mixg q (2 * n + (128 + 1 * (x 0).val) / 128) ((128 + 1 * (x 0).val) % 128) (512 + 1 * (x 1).val)
    congr 1 <;> omega
  · have l0 : (x 0).val < 128 := (x 0).isLt
    have l1 : (x 1).val < 512 := (x 1).isLt
    refine (congrArg (k0_pay109 (F := Ideal) y1 a.zB a.nw0) (eq_ix2 (n0 := 128) (n1 := 512) x)).trans ?_
    refine (rd_mix0 q (2 * n + 1) y1 a.zB h1 (fun l k hl hk => f_zB hf hl hk) a.nw0 (fun k hk => f_nw0 hf hk) l0 l1).trans ?_
    show _ = mixg q (2 * n + (128 + 1 * (x 0).val) / 128) ((128 + 1 * (x 0).val) % 128) (0 + 1 * (x 1).val)
    congr 1 <;> omega
  · have l0 : (x 0).val < 128 := (x 0).isLt
    have l1 : (x 1).val < 512 := (x 1).isLt
    refine (congrArg (k0_pay111 (F := Ideal) (k0_pay110 y0 a.zA) a.nw1) (eq_ix2 (n0 := 128) (n1 := 512) x)).trans ?_
    refine (rd_mix1 q (2 * n) y0 a.zA h0 (fun l k hl hk => f_zA hf hl hk) a.nw1 (fun k hk => f_nw1 hf hk) l0 l1).trans ?_
    show _ = mixg q (2 * n + (0 + 1 * (x 0).val) / 128) ((0 + 1 * (x 0).val) % 128) (512 + 1 * (x 1).val)
    congr 1 <;> omega
  · have l0 : (x 0).val < 128 := (x 0).isLt
    have l1 : (x 1).val < 512 := (x 1).isLt
    refine (congrArg (k0_pay109 (F := Ideal) y0 a.zA a.nw0) (eq_ix2 (n0 := 128) (n1 := 512) x)).trans ?_
    refine (rd_mix0 q (2 * n) y0 a.zA h0 (fun l k hl hk => f_zA hf hl hk) a.nw0 (fun k hk => f_nw0 hf hk) l0 l1).trans ?_
    show _ = mixg q (2 * n + (0 + 1 * (x 0).val) / 128) ((0 + 1 * (x 0).val) % 128) (0 + 1 * (x 1).val)
    congr 1 <;> omega

include h0 h1 in
theorem outOf_at (i : S256x1024.Idx) (hc : ∃ p ∈ Args.outOf y0 y1, i ∈ p.1.set) : View.canon (Args.outOf y0 y1) i = outP q n i := by
  refine View.canon_apply_of_pieces (Val := Elt Ideal) (e := .f32) (outP q n) (Args.outOf y0 y1) ?_ i hc
  unfold Args.outOf outP
  refine List.forall_mem_cons.mpr ⟨fun x => ?_, List.forall_mem_cons.mpr ⟨fun x => ?_, fun _ h => absurd h List.not_mem_nil⟩⟩
  · have l0 : (x 0).val < 128 := (x 0).isLt
    have l1 : (x 1).val < 1024 := (x 1).isLt
    refine (eq_rd (n := 128) (m := 1024) y1 x rfl rfl).trans ((h1 _ _ l0 l1).trans ?_)
    show _ = yg q (2 * n + (128 + 1 * (x 0).val) / 128) ((128 + 1 * (x 0).val) % 128) (0 + 1 * (x 1).val)
    congr 1 <;> omega
  · have l0 : (x 0).val < 128 := (x 0).isLt
    have l1 : (x 1).val < 1024 := (x 1).isLt
    refine (eq_rd (n := 128) (m := 1024) y0 x rfl rfl).trans ((h0 _ _ l0 l1).trans ?_)
    show _ = yg q (2 * n + (0 + 1 * (x 0).val) / 128) ((0 + 1 * (x 0).val) % 128) (0 + 1 * (x 1).val)
    congr 1 <;> omega

/-- A chunk's states, as they are stored. -/
theorem pay28_at (h : FVec Ideal S128x1024 .f32) (x : S1x128x1024.Idx) : (k0_pay28 (F := Ideal) h x : EReal) = rd h (x 1).val (x 2).val := by
  unfold k0_pay28
  refine (shapeCast_addUnit_apply (α := EReal) ![128, 1024] h shapeCasts_S128x1024_S1x128x1024 x).trans ?_
  exact eq_rd (n := 128) (m := 1024) h _ rfl rfl

variable (s0 s1 : FVec Ideal S128x1024 .f32) (g0 : ∀ l k, l < 128 → k < 1024 → rd s0 l k = Hs q (2 * n) l k)
  (g1 : ∀ l k, l < 128 → k < 1024 → rd s1 l k = Hs q (2 * n + 1) l k)

include g0 g1 in
theorem statesOf_at (i : S2x128x1024.Idx) (hc : ∃ p ∈ Args.statesOf s0 s1, i ∈ p.1.set) : View.canon (Args.statesOf s0 s1) i = statesP q n i := by
  refine View.canon_apply_of_pieces (Val := Elt Ideal) (e := .f32) (statesP q n) (Args.statesOf s0 s1) ?_ i hc
  unfold Args.statesOf statesP
  refine List.forall_mem_cons.mpr ⟨fun x => ?_, List.forall_mem_cons.mpr ⟨fun x => ?_, fun _ h => absurd h List.not_mem_nil⟩⟩
  · have l0 : (x 0).val < 1 := (x 0).isLt
    have l1 : (x 1).val < 128 := (x 1).isLt
    have l2 : (x 2).val < 1024 := (x 2).isLt
    refine (pay28_at s1 x).trans ((g1 _ _ l1 l2).trans ?_)
    show _ = Hs q (2 * n + (1 + 1 * (x 0).val)) (0 + 1 * (x 1).val) (0 + 1 * (x 2).val)
    rw [show 2 * n + (1 + 1 * (x 0).val) = 2 * n + 1 by omega, show 0 + 1 * (x 1).val = (x 1).val by omega, show 0 + 1 * (x 2).val = (x 2).val by omega]
  · have l0 : (x 0).val < 1 := (x 0).isLt
    have l1 : (x 1).val < 128 := (x 1).isLt
    have l2 : (x 2).val < 1024 := (x 2).isLt
    refine (pay28_at s0 x).trans ((g0 _ _ l1 l2).trans ?_)
    show _ = Hs q (2 * n + (0 + 1 * (x 0).val)) (0 + 1 * (x 1).val) (0 + 1 * (x 2).val)
    rw [show 2 * n + (0 + 1 * (x 0).val) = 2 * n by omega, show 0 + 1 * (x 1).val = (x 1).val by omega, show 0 + 1 * (x 2).val = (x 2).val by omega]

include hf in
theorem cvList_at (i : S256x1536.Idx) (hc : ∃ p ∈ a.cvList, i ∈ p.1.set) : View.canon a.cvList i = cvP q n i := by
  refine View.canon_apply_of_pieces (Val := Elt Ideal) (e := .f32) (cvP q n) a.cvList ?_ i hc
  unfold Args.cvList cvP
  refine List.forall_mem_cons.mpr ⟨fun x => ?_, List.forall_mem_cons.mpr ⟨fun x => ?_, fun _ h => absurd h List.not_mem_nil⟩⟩
  · have l0 : (x 0).val < 128 := (x 0).isLt
    have l1 : (x 1).val < 1536 := (x 1).isLt
    refine (eq_rd (n := 128) (m := 1536) (a.cvOf a.xpB) x rfl rfl).trans ((f_cv hf (2 * n + 1) a.xpB (fun r k h5 hr hk => f_xpB hf h5 hr hk) l0 l1).trans ?_)
    show _ = cvg q (256 * n + (128 + 1 * (x 0).val)) (0 + 1 * (x 1).val)
    congr 1 <;> omega
  · have l0 : (x 0).val < 128 := (x 0).isLt
    have l1 : (x 1).val < 1536 := (x 1).isLt
    refine (eq_rd (n := 128) (m := 1536) (a.cvOf a.xpA) x rfl rfl).trans ((f_cv hf (2 * n) a.xpA (fun r k h5 hr hk => f_xpA hf h5 hr hk) l0 l1).trans ?_)
    show _ = cvg q (256 * n + (0 + 1 * (x 0).val)) (0 + 1 * (x 1).val)
    congr 1 <;> omega

end

/-! ## What a point leaves -/

section
variable {q : Data} {n : ℕ} {a : Args} (hf : Fits q n a) (hq : q.Finite) (hc0 : cond0_0 a.i)

/-- The first point starts from zeros. -/
theorem readsA (q : Data) (a : Args) : Reads a.later Args.zList (Hs q 0) := reads_later a Args.zList _ fun r k hr hk => zList_at hr hk

variable (hn : n = 0)

include hf hq hn in
theorem mix_A : out0_A_13 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 = mixP q n := by
  subst hn
  have hE : Ones a.E0 := ones_E0
  have hR : Reads a.later Args.zList (Hs q (2 * 0)) := readsA q a
  unfold out0_A_13
  funext i
  refine (congrFun (View.read_writes_eq_canon _ _ _ fun i => cover0_A_13 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i) i).trans ?_
  have hcov := cover0_A_13 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i
  rw [a.runA_mix hc0] at hcov ⊢
  exact mixOf_at hf _ _ (fun l k hl hk => yA_at hf hq _ hE _ _ hR hl hk)
    (fun l k hl hk => yB_at hf hq _ hE (a.hA a.E0 a.later Args.zList) (fun r k hr hk => hA_at hf hq _ hE _ _ hR hr hk) hl hk) i hcov
include hf hq hn in
theorem out_A : out0_A_14 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 = outP q n := by
  subst hn
  have hE : Ones a.E0 := ones_E0
  have hR : Reads a.later Args.zList (Hs q (2 * 0)) := readsA q a
  unfold out0_A_14
  funext i
  refine (congrFun (View.read_writes_eq_canon _ _ _ fun i => cover0_A_14 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i) i).trans ?_
  have hcov := cover0_A_14 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i
  rw [a.runA_out hc0] at hcov ⊢
  exact outOf_at _ _ (fun l k hl hk => yA_at hf hq _ hE _ _ hR hl hk)
    (fun l k hl hk => yB_at hf hq _ hE (a.hA a.E0 a.later Args.zList) (fun r k hr hk => hA_at hf hq _ hE _ _ hR hr hk) hl hk) i hcov
include hf hq hn in
theorem states_A : out0_A_15 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 = statesP q n := by
  subst hn
  have hE : Ones a.E0 := ones_E0
  have hR : Reads a.later Args.zList (Hs q (2 * 0)) := readsA q a
  unfold out0_A_15
  funext i
  refine (congrFun (View.read_writes_eq_canon _ _ _ fun i => cover0_A_15 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i) i).trans ?_
  have hcov := cover0_A_15 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i
  rw [a.runA_states hc0] at hcov ⊢
  exact statesOf_at _ _ (fun r k hr hk => (stA_at _ hr hk).trans (zList_at hr hk)) (fun r k hr hk => (stA_at _ hr hk).trans (hA_at hf hq _ hE _ _ hR hr hk)) i hcov
include hf in
theorem cv_A : out0_A_16 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 = cvP q n := by
  unfold out0_A_16
  funext i
  refine (congrFun (View.read_writes_eq_canon _ _ _ fun i => cover0_A_16 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i) i).trans ?_
  have hcov := cover0_A_16 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i
  rw [a.runA_cv hc0] at hcov ⊢
  exact cvList_at hf i hcov
include hf hq hn in
theorem h_A {r k : ℕ} (hr : r < 128) (hk : k < 1024) : rd (n := 128) (m := 1024) (sout0_A_0 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12) r k = Hs q (2 * n + 2) r k := by
  subst hn
  have hE : Ones a.E0 := ones_E0
  have hR : Reads a.later Args.zList (Hs q (2 * 0)) := readsA q a
  unfold sout0_A_0
  refine (congrArg (fun v => rd (n := 128) (m := 1024) v r k) (View.read_writes_eq_canon _ _ _ fun i => scover0_A_0 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i)).trans ?_
  rw [a.runA_h hc0]
  exact hB_at hf hq _ hE (a.hA a.E0 a.later Args.zList) (fun r k hr hk => hA_at hf hq _ hE _ _ hR hr hk) hr hk
theorem e_A : Ones (sout0_A_5 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12) := by
  unfold sout0_A_5
  refine (congrArg Ones (View.read_writes_eq_canon _ _ _ fun i => scover0_A_5 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 i)).mpr ?_
  rw [a.runA_e hc0, show View.canon Args.eList = _ from View.canon_unit_zero (S := S128x2048) (by decide) _ _]
  exact ones_pay7

end

section
variable {q : Data} {n : ℕ} {a : Args} (hf : Fits q n a) (hq : q.Finite) (hc0 : ¬cond0_0 a.i)

variable (hx : ∀ r k, r < 128 → k < 1024 → rd a.xs0 r k = Hs q (2 * n) r k) (hx5 : Ones a.xs5)

include hf hq hx hx5 in
theorem mix_B : out0_B_13 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 = mixP q n := by
  have hE : Ones a.Es := by rw [Es_eq]; exact hx5
  have hR : Reads a.first ([] : Stores) (Hs q (2 * n)) := reads_first a [] _ hx
  unfold out0_B_13
  funext i
  refine (congrFun (View.read_writes_eq_canon _ _ _ fun i => cover0_B_13 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i) i).trans ?_
  have hcov := cover0_B_13 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i
  rw [a.runB_mix hc0] at hcov ⊢
  exact mixOf_at hf _ _ (fun l k hl hk => yA_at hf hq _ hE _ _ hR hl hk)
    (fun l k hl hk => yB_at hf hq _ hE (a.hA a.Es a.first ([] : Stores)) (fun r k hr hk => hA_at hf hq _ hE _ _ hR hr hk) hl hk) i hcov
include hf hq hx hx5 in
theorem out_B : out0_B_14 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 = outP q n := by
  have hE : Ones a.Es := by rw [Es_eq]; exact hx5
  have hR : Reads a.first ([] : Stores) (Hs q (2 * n)) := reads_first a [] _ hx
  unfold out0_B_14
  funext i
  refine (congrFun (View.read_writes_eq_canon _ _ _ fun i => cover0_B_14 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i) i).trans ?_
  have hcov := cover0_B_14 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i
  rw [a.runB_out hc0] at hcov ⊢
  exact outOf_at _ _ (fun l k hl hk => yA_at hf hq _ hE _ _ hR hl hk)
    (fun l k hl hk => yB_at hf hq _ hE (a.hA a.Es a.first ([] : Stores)) (fun r k hr hk => hA_at hf hq _ hE _ _ hR hr hk) hl hk) i hcov
include hf hq hx hx5 in
theorem states_B : out0_B_15 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 = statesP q n := by
  have hE : Ones a.Es := by rw [Es_eq]; exact hx5
  have hR : Reads a.first ([] : Stores) (Hs q (2 * n)) := reads_first a [] _ hx
  unfold out0_B_15
  funext i
  refine (congrFun (View.read_writes_eq_canon _ _ _ fun i => cover0_B_15 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i) i).trans ?_
  have hcov := cover0_B_15 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i
  rw [a.runB_states hc0] at hcov ⊢
  exact statesOf_at _ _ (fun r k hr hk => (st0_at hr hk).trans (hx r k hr hk)) (fun r k hr hk => (stA_at _ hr hk).trans (hA_at hf hq _ hE _ _ hR hr hk)) i hcov
include hf in
theorem cv_B : out0_B_16 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 = cvP q n := by
  unfold out0_B_16
  funext i
  refine (congrFun (View.read_writes_eq_canon _ _ _ fun i => cover0_B_16 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i) i).trans ?_
  have hcov := cover0_B_16 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i
  rw [a.runB_cv hc0] at hcov ⊢
  exact cvList_at hf i hcov
include hf hq hx hx5 in
theorem h_B {r k : ℕ} (hr : r < 128) (hk : k < 1024) : rd (n := 128) (m := 1024) (sout0_B_0 (F := Ideal) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5) r k = Hs q (2 * n + 2) r k := by
  have hE : Ones a.Es := by rw [Es_eq]; exact hx5
  have hR : Reads a.first ([] : Stores) (Hs q (2 * n)) := reads_first a [] _ hx
  unfold sout0_B_0
  refine (congrArg (fun v => rd (n := 128) (m := 1024) v r k) (View.read_writes_eq_canon _ _ _ fun i => scover0_B_0 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 hc0 a.x0 a.x1 a.x2 a.x3 a.x4 a.x5 a.x6 a.x7 a.x8 a.x9 a.x10 a.x11 a.x12 a.xs0 a.xs5 i)).trans ?_
  rw [a.runB_h hc0]
  exact hB_at hf hq _ hE (a.hA a.Es a.first ([] : Stores)) (fun r k hr hk => hA_at hf hq _ hE _ _ hR hr hk) hr hk

end

end Cert.Proof.ScanOut

end
-- ==== Proof.ScanGrid.lean ====
/-
  THE FORWARD SCAN (`Kernel11`): what the four result arrays hold, over the extended reals.

  The sixteen grid points take 256 tokens each. Every point reads its blocks of the arguments, the first starts the states
  from zeros, and each later one starts from the states the point before left. The blocks of the results fill their arrays.
-/
module

public import proofs.«01_k».proof.Proof.ScanOut

@[expose] public section

noncomputable section

open Idealize.ShloMosaic Idealize.ShloMosaic.TcCoe Idealize.SL.Sem Idealize.ShloMosaic.ValueIdx
open Idealize.ShloMosaic.Pipeline (Dat)
open scoped BigOperators

namespace Cert.Proof.ScanGrid

open Cert.Kernel11Ideal Cert.Kernel11Ideal.Gen Cert.Proof.Blocks Cert.Proof.ScanPair Cert.Proof.ScanRun Cert.Proof.ScanSteps
  Cert.Proof.ScanSpec Cert.Proof.ScanPoint Cert.Proof.ScanOut

variable (m : (ℓ : Loc nD τ sig) → Buf (Elt Ideal) ℓ) (ρ : Dev nD → PrngReg)

abbrev A0 (c : Dev nD) : S4096x7168.Idx → EReal := m ((c : Thread nD τ).loc main_arg0)
abbrev A1 (c : Dev nD) : S4x1536.Idx → EReal := m ((c : Thread nD τ).loc main_arg1)
abbrev A2 (c : Dev nD) : S1x1536.Idx → EReal := m ((c : Thread nD τ).loc main_arg2)
abbrev A3 (c : Dev nD) : S1x16.Idx → EReal := m ((c : Thread nD τ).loc main_arg3)
abbrev A4 (c : Dev nD) : S1x16.Idx → EReal := m ((c : Thread nD τ).loc main_arg4)
abbrev A5 (c : Dev nD) : S1x16.Idx → EReal := m ((c : Thread nD τ).loc main_arg5)
abbrev A6 (c : Dev nD) : S1x1024.Idx → EReal := m ((c : Thread nD τ).loc main_arg6)
/-- The arguments by coordinates. -/
def qOf (c : Dev nD) : Data := dataOf (A0 m c) (A1 m c) (A2 m c) (A3 m c) (A4 m c) (A5 m c) (A6 m c)

/-! ## What the host prepares -/

/-- A row of sixteen, padded with zeros to 128 lanes. -/
def padded (x : S1x16.Idx → EReal) : S1x128.Idx → EReal :=
  pad S1x128 ![0, 0] ![0, 112] ![0, 0] x (sitofp (F := Ideal) .f32 (constantI S_ 32 0#32)) pads_S1x16_S1x128_000_01120 h_S_
theorem rd_padded (x : S1x16.Idx → EReal) {h : ℕ} (hh : h < 128) : rd (padded x) 0 h = rd x 0 h := by
  rw [rd_of_lt _ Nat.one_pos hh]
  unfold padded
  by_cases h16 : h < 16
  · rw [rd_of_lt x Nat.one_pos h16]
    refine pad_apply_of_inside _ _ _ _ _ _ _ _ (ix2 ⟨0, Nat.one_pos⟩ ⟨h, h16⟩) fun a => ?_
    match a with
    | ⟨0, _⟩ => rfl
    | ⟨1, _⟩ => show h = 0 + h * (0 + 1); omega
  · rw [rd, dif_neg (by omega)]
    refine (pad_apply_of_not_inside _ _ _ _ _ _ _ _ (1 : Fin 2) fun hin => ?_).trans ?_
    · have h3 : (h - 0) / (0 + 1) < 16 := hin.2.2
      omega
    · show (((0#32 : BitVec 32).toInt : ℝ) : EReal) = 0
      simp
theorem V_v0 (c : Dev nD) : V m c main_v0 = padded (A3 m c) := by
  unfold V
  simp only [hostOps0, hostOps0_1, hostOps0_2, hostOps0_3, hostOps0_4,
    List.flatten_cons, List.flatten_nil, List.append_nil, List.cons_append, List.nil_append]
  after_results
  rfl
theorem V_v1 (c : Dev nD) : V m c main_v1 = padded (A4 m c) := by
  unfold V
  simp only [hostOps0, hostOps0_1, hostOps0_2, hostOps0_3, hostOps0_4,
    List.flatten_cons, List.flatten_nil, List.append_nil, List.cons_append, List.nil_append]
  after_results
  rfl
/-- A row of sixteen, each repeated over the 64 columns of its head. -/
def spread (x : S1x16.Idx → EReal) : S1x1024.Idx → EReal :=
  shapeCast S1x1024 (broadcastInDim S1x16x64 ![0, 1] bcast_S1x16_S1x16x64_0_1 x) shapeCasts_S1x16x64_S1x1024
theorem rd_spread_host (x : S1x16.Idx → EReal) {k : ℕ} (hk : k < 1024) : rd (spread x) 0 k = rd x 0 (k / 64) := by
  rw [rd_of_lt _ Nat.one_pos hk, rd_of_lt x Nat.one_pos (show k / 64 < 16 by omega)]
  unfold spread
  refine (shapeCast_apply _ shapeCasts_S1x16x64_S1x1024 _ (ix3 ⟨0, Nat.one_pos⟩ ⟨k / 64, by omega⟩ ⟨k % 64, by omega⟩) ?_).trans ?_
  · rw [Shape.rowMajor_val_two, Shape.rowMajor_val_three]
    show (0 * 16 + k / 64) * 64 + k % 64 = 0 * 1024 + k
    omega
  · refine broadcastInDim_apply ![0, 1] bcast_S1x16_S1x16x64_0_1 x _ _ fun a => ?_
    match a with
    | ⟨0, _⟩ => rfl
    | ⟨1, _⟩ => rfl
theorem V_v5 (c : Dev nD) : V m c main_v5 = spread (A5 m c) := by
  unfold V
  simp only [hostOps0, hostOps0_1, hostOps0_2, hostOps0_3, hostOps0_4,
    List.flatten_cons, List.flatten_nil, List.append_nil, List.cons_append, List.nil_append]
  after_results
  rfl

/-! ## The blocks of the arguments -/

theorem idx0 : ∀ t : Fin grid0.N, win0_0.index t 0 = t.val ∧ win0_0.index t 1 = 5 := by decide +kernel
theorem blk0 (c : Dev nD) (t : Fin cfg0.N) {r k : ℕ} (hr : r < 256) (hk : k < 1024) :
    rd (n := 256) (m := 1024) (iblk m c 0 t) r k = rd (n := 4096) (m := 7168) (A0 m c) ((t.val) * 256 + r) (5 * 1024 + k) := by
  rw [rd_of_lt _ hr hk]
  unfold iblk
  rw [View.read_apply]
  refine (congrFun (V_main_arg0 m c) _).trans (eq_rd (n := 4096) (m := 7168) (A0 m c) _ ?_ ?_)
  · show win0_0.index t 0 * 256 + 1 * r = _; rw [(idx0 t).1, Nat.one_mul]
  · show win0_0.index t 1 * 1024 + 1 * k = _; rw [(idx0 t).2, Nat.one_mul]
theorem idx1 : ∀ t : Fin grid0.N, win0_1.index t 0 = t.val ∧ win0_1.index t 1 = 12 := by decide +kernel
theorem blk1 (c : Dev nD) (t : Fin cfg0.N) {r k : ℕ} (hr : r < 256) (hk : k < 512) :
    rd (n := 256) (m := 512) (iblk m c 1 t) r k = rd (n := 4096) (m := 7168) (A0 m c) ((t.val) * 256 + r) (12 * 512 + k) := by
  rw [rd_of_lt _ hr hk]
  unfold iblk
  rw [View.read_apply]
  refine (congrFun (V_main_arg0 m c) _).trans (eq_rd (n := 4096) (m := 7168) (A0 m c) _ ?_ ?_)
  · show win0_1.index t 0 * 256 + 1 * r = _; rw [(idx1 t).1, Nat.one_mul]
  · show win0_1.index t 1 * 512 + 1 * k = _; rw [(idx1 t).2, Nat.one_mul]
theorem idx2 : ∀ t : Fin grid0.N, win0_2.index t 0 = 32 * t.val - 1 ∧ win0_2.index t 1 = 5 := by decide +kernel
theorem blk2 (c : Dev nD) (t : Fin cfg0.N) {r k : ℕ} (hr : r < 8) (hk : k < 1024) :
    rd (n := 8) (m := 1024) (iblk m c 2 t) r k = rd (n := 4096) (m := 7168) (A0 m c) ((32 * t.val - 1) * 8 + r) (5 * 1024 + k) := by
  rw [rd_of_lt _ hr hk]
  unfold iblk
  rw [View.read_apply]
  refine (congrFun (V_main_arg0 m c) _).trans (eq_rd (n := 4096) (m := 7168) (A0 m c) _ ?_ ?_)
  · show win0_2.index t 0 * 8 + 1 * r = _; rw [(idx2 t).1, Nat.one_mul]
  · show win0_2.index t 1 * 1024 + 1 * k = _; rw [(idx2 t).2, Nat.one_mul]
theorem idx3 : ∀ t : Fin grid0.N, win0_3.index t 0 = 32 * t.val - 1 ∧ win0_3.index t 1 = 12 := by decide +kernel
theorem blk3 (c : Dev nD) (t : Fin cfg0.N) {r k : ℕ} (hr : r < 8) (hk : k < 512) :
    rd (n := 8) (m := 512) (iblk m c 3 t) r k = rd (n := 4096) (m := 7168) (A0 m c) ((32 * t.val - 1) * 8 + r) (12 * 512 + k) := by
  rw [rd_of_lt _ hr hk]
  unfold iblk
  rw [View.read_apply]
  refine (congrFun (V_main_arg0 m c) _).trans (eq_rd (n := 4096) (m := 7168) (A0 m c) _ ?_ ?_)
  · show win0_3.index t 0 * 8 + 1 * r = _; rw [(idx3 t).1, Nat.one_mul]
  · show win0_3.index t 1 * 512 + 1 * k = _; rw [(idx3 t).2, Nat.one_mul]
theorem idx4 : ∀ t : Fin grid0.N, win0_4.index t 0 = t.val ∧ win0_4.index t 1 = 52 := by decide +kernel
theorem blk4 (c : Dev nD) (t : Fin cfg0.N) {r k : ℕ} (hr : r < 256) (hk : k < 128) :
    rd (n := 256) (m := 128) (iblk m c 4 t) r k = rd (n := 4096) (m := 7168) (A0 m c) ((t.val) * 256 + r) (52 * 128 + k) := by
  rw [rd_of_lt _ hr hk]
  unfold iblk
  rw [View.read_apply]
  refine (congrFun (V_main_arg0 m c) _).trans (eq_rd (n := 4096) (m := 7168) (A0 m c) _ ?_ ?_)
  · show win0_4.index t 0 * 256 + 1 * r = _; rw [(idx4 t).1, Nat.one_mul]
  · show win0_4.index t 1 * 128 + 1 * k = _; rw [(idx4 t).2, Nat.one_mul]
theorem idx5 : ∀ t : Fin grid0.N, win0_5.index t 0 = t.val ∧ win0_5.index t 1 = 4 := by decide +kernel
theorem blk5 (c : Dev nD) (t : Fin cfg0.N) {r k : ℕ} (hr : r < 256) (hk : k < 1024) :
    rd (n := 256) (m := 1024) (iblk m c 5 t) r k = rd (n := 4096) (m := 7168) (A0 m c) ((t.val) * 256 + r) (4 * 1024 + k) := by
  rw [rd_of_lt _ hr hk]
  unfold iblk
  rw [View.read_apply]
  refine (congrFun (V_main_arg0 m c) _).trans (eq_rd (n := 4096) (m := 7168) (A0 m c) _ ?_ ?_)
  · show win0_5.index t 0 * 256 + 1 * r = _; rw [(idx5 t).1, Nat.one_mul]
  · show win0_5.index t 1 * 1024 + 1 * k = _; rw [(idx5 t).2, Nat.one_mul]
theorem idx6 : ∀ t : Fin grid0.N, win0_6.index t 0 = 0 ∧ win0_6.index t 1 = 0 := by decide +kernel
theorem blk6 (c : Dev nD) (t : Fin cfg0.N) {r k : ℕ} (hr : r < 4) (hk : k < 1536) :
    rd (n := 4) (m := 1536) (iblk m c 6 t) r k = rd (n := 4) (m := 1536) (A1 m c) ((0) * 4 + r) (0 * 1536 + k) := by
  rw [rd_of_lt _ hr hk]
  unfold iblk
  rw [View.read_apply]
  refine (congrFun (V_main_arg1 m c) _).trans (eq_rd (n := 4) (m := 1536) (A1 m c) _ ?_ ?_)
  · show win0_6.index t 0 * 4 + 1 * r = _; rw [(idx6 t).1, Nat.one_mul]
  · show win0_6.index t 1 * 1536 + 1 * k = _; rw [(idx6 t).2, Nat.one_mul]
theorem idx7 : ∀ t : Fin grid0.N, win0_7.index t 0 = 0 ∧ win0_7.index t 1 = 0 := by decide +kernel
theorem blk7 (c : Dev nD) (t : Fin cfg0.N) {r k : ℕ} (hr : r < 1) (hk : k < 1536) :
    rd (n := 1) (m := 1536) (iblk m c 7 t) r k = rd (n := 1) (m := 1536) (A2 m c) ((0) * 1 + r) (0 * 1536 + k) := by
  rw [rd_of_lt _ hr hk]
  unfold iblk
  rw [View.read_apply]
  refine (congrFun (V_main_arg2 m c) _).trans (eq_rd (n := 1) (m := 1536) (A2 m c) _ ?_ ?_)
  · show win0_7.index t 0 * 1 + 1 * r = _; rw [(idx7 t).1, Nat.one_mul]
  · show win0_7.index t 1 * 1536 + 1 * k = _; rw [(idx7 t).2, Nat.one_mul]
theorem idx8 : ∀ t : Fin grid0.N, win0_8.index t 0 = 0 ∧ win0_8.index t 1 = 0 := by decide +kernel
theorem blk8 (c : Dev nD) (t : Fin cfg0.N) {r k : ℕ} (hr : r < 1) (hk : k < 128) :
    rd (n := 1) (m := 128) (iblk m c 8 t) r k = rd (n := 1) (m := 128) (padded (A3 m c)) ((0) * 1 + r) (0 * 128 + k) := by
  rw [rd_of_lt _ hr hk]
  unfold iblk
  rw [View.read_apply]
  refine (congrFun (V_v0 m c) _).trans (eq_rd (n := 1) (m := 128) (padded (A3 m c)) _ ?_ ?_)
  · show win0_8.index t 0 * 1 + 1 * r = _; rw [(idx8 t).1, Nat.one_mul]
  · show win0_8.index t 1 * 128 + 1 * k = _; rw [(idx8 t).2, Nat.one_mul]
theorem idx9 : ∀ t : Fin grid0.N, win0_9.index t 0 = 0 ∧ win0_9.index t 1 = 0 := by decide +kernel
theorem blk9 (c : Dev nD) (t : Fin cfg0.N) {r k : ℕ} (hr : r < 1) (hk : k < 128) :
    rd (n := 1) (m := 128) (iblk m c 9 t) r k = rd (n := 1) (m := 128) (padded (A4 m c)) ((0) * 1 + r) (0 * 128 + k) := by
  rw [rd_of_lt _ hr hk]
  unfold iblk
  rw [View.read_apply]
  refine (congrFun (V_v1 m c) _).trans (eq_rd (n := 1) (m := 128) (padded (A4 m c)) _ ?_ ?_)
  · show win0_9.index t 0 * 1 + 1 * r = _; rw [(idx9 t).1, Nat.one_mul]
  · show win0_9.index t 1 * 128 + 1 * k = _; rw [(idx9 t).2, Nat.one_mul]
theorem idx11 : ∀ t : Fin grid0.N, win0_11.index t 0 = 0 ∧ win0_11.index t 1 = 0 := by decide +kernel
theorem blk11 (c : Dev nD) (t : Fin cfg0.N) {r k : ℕ} (hr : r < 1) (hk : k < 1024) :
    rd (n := 1) (m := 1024) (iblk m c 11 t) r k = rd (n := 1) (m := 1024) (spread (A5 m c)) ((0) * 1 + r) (0 * 1024 + k) := by
  rw [rd_of_lt _ hr hk]
  unfold iblk
  rw [View.read_apply]
  refine (congrFun (V_v5 m c) _).trans (eq_rd (n := 1) (m := 1024) (spread (A5 m c)) _ ?_ ?_)
  · show win0_11.index t 0 * 1 + 1 * r = _; rw [(idx11 t).1, Nat.one_mul]
  · show win0_11.index t 1 * 1024 + 1 * k = _; rw [(idx11 t).2, Nat.one_mul]
theorem idx12 : ∀ t : Fin grid0.N, win0_12.index t 0 = 0 ∧ win0_12.index t 1 = 0 := by decide +kernel
theorem blk12 (c : Dev nD) (t : Fin cfg0.N) {r k : ℕ} (hr : r < 1) (hk : k < 1024) :
    rd (n := 1) (m := 1024) (iblk m c 12 t) r k = rd (n := 1) (m := 1024) (A6 m c) ((0) * 1 + r) (0 * 1024 + k) := by
  rw [rd_of_lt _ hr hk]
  unfold iblk
  rw [View.read_apply]
  refine (congrFun (V_main_arg6 m c) _).trans (eq_rd (n := 1) (m := 1024) (A6 m c) _ ?_ ?_)
  · show win0_12.index t 0 * 1 + 1 * r = _; rw [(idx12 t).1, Nat.one_mul]
  · show win0_12.index t 1 * 1024 + 1 * k = _; rw [(idx12 t).2, Nat.one_mul]

/-- What the body of point `t` is given, over the states `h` and the zeros and ones `e`. -/
abbrev args (c : Dev nD) (t : Fin cfg0.N) (h : Vec Ideal S128x1024 .f32) (e : Vec Ideal S128x2048 .bf16) : Args :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, scM0_0, Memref.isWhole_whole _, scM0_1, Memref.isWhole_whole _, scM0_2, Memref.isWhole_whole _, scM0_3, Memref.isWhole_whole _, scM0_4, Memref.isWhole_whole _, scM0_5, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, h, e⟩

set_option maxHeartbeats 1600000 in
theorem fits (c : Dev nD) (t : Fin cfg0.N) (h : Vec Ideal S128x1024 .f32) (e : Vec Ideal S128x2048 .bf16) : Fits (qOf m c) t.val (args m c t h e) where
  lt := t.isLt.trans_eq N_0
  i := by
    have hN : t.val < 16 := t.isLt.trans_eq N_0
    refine (Pipeline.Grid.coords_val t 0 (by decide) rfl : (grid0.coords t 0).val = t.val / 1 % 16).trans ?_
    omega
  x0 r k hr hk := (blk0 m c t hr hk).trans (congrArg₂ (rd (n := 4096) (m := 7168) (A0 m c)) (by omega) (by omega))
  x1 r k hr hk := (blk1 m c t hr hk).trans (congrArg₂ (rd (n := 4096) (m := 7168) (A0 m c)) (by omega) (by omega))
  x2 h0 r k hr hk := (blk2 m c t hr hk).trans (congrArg₂ (rd (n := 4096) (m := 7168) (A0 m c)) (by omega) (by omega))
  x3 h0 r k hr hk := (blk3 m c t hr hk).trans (congrArg₂ (rd (n := 4096) (m := 7168) (A0 m c)) (by omega) (by omega))
  x4 r k hr hk := (blk4 m c t hr hk).trans (congrArg₂ (rd (n := 4096) (m := 7168) (A0 m c)) (by omega) (by omega))
  x5 r k hr hk := (blk5 m c t hr hk).trans (congrArg₂ (rd (n := 4096) (m := 7168) (A0 m c)) (by omega) (by omega))
  x6 r k hr hk := (blk6 m c t hr hk).trans (congrArg₂ (rd (n := 4) (m := 1536) (A1 m c)) (by omega) (by omega))
  x7 k hk := (blk7 m c t Nat.one_pos hk).trans (congrArg₂ (rd (n := 1) (m := 1536) (A2 m c)) rfl (by omega))
  x8 k hk := (blk8 m c t Nat.one_pos hk).trans ((congrArg₂ (rd (n := 1) (m := 128) (padded (A3 m c))) rfl (by omega)).trans (rd_padded (A3 m c) hk))
  x9 k hk := (blk9 m c t Nat.one_pos hk).trans ((congrArg₂ (rd (n := 1) (m := 128) (padded (A4 m c))) rfl (by omega)).trans (rd_padded (A4 m c) hk))
  x11 k hk := (blk11 m c t Nat.one_pos hk).trans ((congrArg₂ (rd (n := 1) (m := 1024) (spread (A5 m c))) rfl (by omega)).trans (rd_spread_host (A5 m c) hk))
  x12 k hk := (blk12 m c t Nat.one_pos hk).trans (congrArg₂ (rd (n := 1) (m := 1024) (A6 m c)) rfl (by omega))

/-! ## The points in order -/

/-- What a point leaves: its blocks of the results, the states for the next point, and the zeros and ones. -/
structure Left (q : Data) (n : ℕ) (o : Vec Ideal S256x1024 .bf16 × Vec Ideal S256x1024 .f32 × Vec Ideal S2x128x1024 .f32 × Vec Ideal S256x1536 .f32 × Vec Ideal S128x1024 .f32 × Vec Ideal S128x2048 .bf16) : Prop where
  mix : o.1 = mixP q n
  out : o.2.1 = outP q n
  states : o.2.2.1 = statesP q n
  cv : o.2.2.2.1 = cvP q n
  h : ∀ r k, r < 128 → k < 1024 → rd (n := 128) (m := 1024) o.2.2.2.2.1 r k = Hs q (2 * n + 2) r k
  e : Ones o.2.2.2.2.2

section Point
variable {q : Data} {n : ℕ}
variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S8x1024 .f32) (harg3 : arg3.IsWhole) (arg4 : Memref sig .tc .vmem S8x512 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S2x128x1024 .f32) (harg16 : arg16.IsWhole) (arg17 : Memref sig .tc .vmem S256x1536 .f32) (harg17 : arg17.IsWhole) (arg18 : Memref sig .tc .vmem S128x1024 .f32) (harg18 : arg18.IsWhole) (arg19 : Memref sig .tc .vmem S136x1536 .f32) (harg19 : arg19.IsWhole) (arg20 : Memref sig .tc .vmem S136x1536 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x2048 .bf16) (harg23 : arg23.IsWhole) (x0 : Vec Ideal S256x1024 .f32) (x1 : Vec Ideal S256x512 .f32) (x2 : Vec Ideal S8x1024 .f32) (x3 : Vec Ideal S8x512 .f32) (x4 : Vec Ideal S256x128 .f32) (x5 : Vec Ideal S256x1024 .f32) (x6 : Vec Ideal S4x1536 .f32) (x7 : Vec Ideal S1x1536 .f32) (x8 : Vec Ideal S1x128 .f32) (x9 : Vec Ideal S1x128 .f32) (x10 : Vec Ideal S1x1024 .f32) (x11 : Vec Ideal S1x1024 .f32) (x12 : Vec Ideal S1x1024 .f32) (xs0 : Vec Ideal S128x1024 .f32) (xs5 : Vec Ideal S128x2048 .bf16)

theorem leftA (hf : Fits q n ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, x0, x1, x2, x3, x4, x5, x6, x7, x8, x9, x10, x11, x12, xs0, xs5⟩) (hq : q.Finite) (hc0 : cond0_0 i) (hn : n = 0) :
    Left q n (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12, out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12, out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12, out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12, sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12, sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12) := by
  refine ⟨?_, ?_, ?_, ?_, ?_, ?_⟩
  · dsimp only; exact mix_A hf hq hc0 hn
  · dsimp only; exact out_A hf hq hc0 hn
  · dsimp only; exact states_A hf hq hc0 hn
  · dsimp only; exact cv_A hf hc0
  · intro r k hr hk; dsimp only; exact h_A hf hq hc0 hn hr hk
  · dsimp only; exact e_A (a := ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, x0, x1, x2, x3, x4, x5, x6, x7, x8, x9, x10, x11, x12, xs0, xs5⟩) hc0
theorem leftB (hf : Fits q n ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, x0, x1, x2, x3, x4, x5, x6, x7, x8, x9, x10, x11, x12, xs0, xs5⟩) (hq : q.Finite) (hc0 : ¬cond0_0 i)
    (hx : ∀ r k, r < 128 → k < 1024 → rd (n := 128) (m := 1024) xs0 r k = Hs q (2 * n) r k) (hx5 : Ones xs5) :
    Left q n (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5, out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5, out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5, out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5, sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5, sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xs0 xs5) := by
  refine ⟨?_, ?_, ?_, ?_, ?_, ?_⟩
  · dsimp only; exact mix_B hf hq hc0 hx hx5
  · dsimp only; exact out_B hf hq hc0 hx hx5
  · dsimp only; exact states_B hf hq hc0 hx hx5
  · dsimp only; exact cv_B hf hc0
  · intro r k hr hk; dsimp only; exact h_B hf hq hc0 hx hx5 hr hk
  · dsimp only; exact hx5
end Point

theorem leftAt (c : Dev nD) (t : Fin cfg0.N) (hq : (qOf m c).Finite) (h0 : t.val % 16 = 0) (hn : t.val = 0) :
    Left (qOf m c) t.val (outsAt0 m c t.val t.isLt) :=
  (congrArg (Left (qOf m c) t.val) (outsAt0_A m c t h0)).mpr (leftA _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fits m c t (fun _ => 0) (fun _ => 0)) hq ((hcond0_0 t).mpr h0) hn)
theorem leftAfter (c : Dev nD) (t : Fin cfg0.N) (hq : (qOf m c).Finite) (h0 : ¬t.val % 16 = 0)
    (hx : ∀ r k, r < 128 → k < 1024 → rd (n := 128) (m := 1024) (outsAt0 m c (t.val - 1) (Nat.lt_of_le_of_lt (Nat.sub_le _ _) t.isLt)).2.2.2.2.1 r k = Hs (qOf m c) (2 * t.val) r k)
    (hx5 : Ones (outsAt0 m c (t.val - 1) (Nat.lt_of_le_of_lt (Nat.sub_le _ _) t.isLt)).2.2.2.2.2) :
    Left (qOf m c) t.val (outsAt0 m c t.val t.isLt) :=
  (congrArg (Left (qOf m c) t.val) (outsAt0_B m c t h0)).mpr (leftB _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fits m c t _ _) hq (fun h => h0 ((hcond0_0 t).mp h)) hx hx5)

variable (hq : ∀ c, (qOf m c).Finite)

include hq in
theorem left (c : Dev nD) : ∀ (n : ℕ) (hn : n < cfg0.N), Left (qOf m c) n (outsAt0 m c n hn)
  | 0, hn => leftAt m c ⟨0, hn⟩ (hq c) rfl rfl
  | n + 1, hn => by
    have hN : n + 1 < 16 := hn.trans_eq N_0
    have hp := left c n (Nat.lt_of_succ_lt hn)
    refine leftAfter m c ⟨n + 1, hn⟩ (hq c) (by show ¬(n + 1) % 16 = 0; omega) (fun r k hr hk => ?_) hp.e
    exact (hp.h r k hr hk).trans (congrArg (fun a => Hs (qOf m c) a r k) (Nat.mul_succ 2 n).symm)

/-! ## The result arrays -/

/-- The four results. -/
def mixArr (q : Data) : S4096x1024.Idx → EReal := fun i => mixg q ((i 0).val / 128) ((i 0).val % 128) (i 1).val
def outArr (q : Data) : S4096x1024.Idx → EReal := fun i => yg q ((i 0).val / 128) ((i 0).val % 128) (i 1).val
def statesArr (q : Data) : S32x128x1024.Idx → EReal := fun i => Hs q (i 0).val (i 1).val (i 2).val
def cvArr (q : Data) : S4096x1536.Idx → EReal := fun i => cvg q (i 0).val (i 1).val

theorem idx13 : ∀ t : Fin grid0.N, win0_13.index t 0 = t.val ∧ win0_13.index t 1 = 0 := by decide +kernel
include hq in
theorem flushed13 (c : Dev nD) (t : Fin cfg0.N) (hf : (cfg0.win 13).flush t = true) :
    (dats m 0 c).flushed 13 t = ((cfg0.win 13).blk t).view.read (Elt Ideal) (mixArr (qOf m c)) := by
  have e : (dats m 0 c).flushed 13 t = _ := after0_13 m c t
  rw [e, (left m hq c t.val t.isLt).mix]
  funext y
  rw [View.read_apply]
  have e0 : (((cfg0.win 13).blk t).view.emb y 0).val = 256 * t.val + (y 0).val := by
    show win0_13.index t 0 * 256 + 1 * (y 0).val = _; rw [(idx13 t).1]; omega
  have e1 : (((cfg0.win 13).blk t).view.emb y 1).val = (y 1).val := by
    show win0_13.index t 1 * 1024 + 1 * (y 1).val = _; rw [(idx13 t).2]; omega
  show mixg (qOf m c) (2 * t.val + (y 0).val / 128) ((y 0).val % 128) (y 1).val = mixg (qOf m c) ((((cfg0.win 13).blk t).view.emb y 0).val / 128) ((((cfg0.win 13).blk t).view.emb y 0).val % 128) (((cfg0.win 13).blk t).view.emb y 1).val
  rw [e0, e1, show (256 * t.val + (y 0).val) / 128 = 2 * t.val + (y 0).val / 128 by omega, show (256 * t.val + (y 0).val) % 128 = (y 0).val % 128 by omega]
include hq in
theorem final13 (c : Dev nD) : (dats m 0 c).arrAt 13 cfg0.N = mixArr (qOf m c) :=
  (dats m 0 c).arrAt_eq_of_cover 13 (mixArr (qOf m c)) (flushed13 m hq c) fun i => by
    have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_13 _, ?_⟩
    show i ∈ ((View.whole main_v6_0).slice (win0_13.rect ⟨(i 0 : Nat) / 256, ht⟩)).set
    rw [View.set_slice_whole, Rect.mem_set_unit]
    have e := idx13 ⟨(i 0 : Nat) / 256, ht⟩
    dsimp only at e
    intro a
    match a with
    | ⟨0, _⟩ =>
      show win0_13.index ⟨(i 0 : Nat) / 256, ht⟩ 0 * 256 ≤ (i 0 : Nat) ∧ (i 0 : Nat) < win0_13.index ⟨(i 0 : Nat) / 256, ht⟩ 0 * 256 + 256
      rw [e.1]; omega
    | ⟨1, _⟩ =>
      show win0_13.index ⟨(i 0 : Nat) / 256, ht⟩ 1 * 1024 ≤ (i 1 : Nat) ∧ (i 1 : Nat) < win0_13.index ⟨(i 0 : Nat) / 256, ht⟩ 1 * 1024 + 1024
      rw [e.2]; omega

theorem idx14 : ∀ t : Fin grid0.N, win0_14.index t 0 = t.val ∧ win0_14.index t 1 = 0 := by decide +kernel
include hq in
theorem flushed14 (c : Dev nD) (t : Fin cfg0.N) (hf : (cfg0.win 14).flush t = true) :
    (dats m 0 c).flushed 14 t = ((cfg0.win 14).blk t).view.read (Elt Ideal) (outArr (qOf m c)) := by
  have e : (dats m 0 c).flushed 14 t = _ := after0_14 m c t
  rw [e, (left m hq c t.val t.isLt).out]
  funext y
  rw [View.read_apply]
  have e0 : (((cfg0.win 14).blk t).view.emb y 0).val = 256 * t.val + (y 0).val := by
    show win0_14.index t 0 * 256 + 1 * (y 0).val = _; rw [(idx14 t).1]; omega
  have e1 : (((cfg0.win 14).blk t).view.emb y 1).val = (y 1).val := by
    show win0_14.index t 1 * 1024 + 1 * (y 1).val = _; rw [(idx14 t).2]; omega
  show yg (qOf m c) (2 * t.val + (y 0).val / 128) ((y 0).val % 128) (y 1).val = yg (qOf m c) ((((cfg0.win 14).blk t).view.emb y 0).val / 128) ((((cfg0.win 14).blk t).view.emb y 0).val % 128) (((cfg0.win 14).blk t).view.emb y 1).val
  rw [e0, e1, show (256 * t.val + (y 0).val) / 128 = 2 * t.val + (y 0).val / 128 by omega, show (256 * t.val + (y 0).val) % 128 = (y 0).val % 128 by omega]
include hq in
theorem final14 (c : Dev nD) : (dats m 0 c).arrAt 14 cfg0.N = outArr (qOf m c) :=
  (dats m 0 c).arrAt_eq_of_cover 14 (outArr (qOf m c)) (flushed14 m hq c) fun i => by
    have h0 : (i 0 : Nat) < 4096 := (i 0).isLt
    have h1 : (i 1 : Nat) < 1024 := (i 1).isLt
    have hN : cfg0.N = 16 := N_0
    have ht : (i 0 : Nat) / 256 < cfg0.N := by omega
    refine ⟨⟨(i 0 : Nat) / 256, ht⟩, flush0_14 _, ?_⟩
    show i ∈ ((View.whole main_v6_1).slice (win0_14.rect ⟨(i 0 : Nat) / 256, ht⟩)).set
    rw [View.set_slice_whole, Rect.mem_set_unit]
    have e := idx14 ⟨(i 0 : Nat) / 256, ht⟩
    dsimp only at e
    intro a
    match a with
    | ⟨0, _⟩ =>
      show win0_14.index ⟨(i 0 : Nat) / 256, ht⟩ 0 * 256 ≤ (i 0 : Nat) ∧ (i 0 : Nat) < win0_14.index ⟨(i 0 : Nat) / 256, ht⟩ 0 * 256 + 256
      rw [e.1]; omega
    | ⟨1, _⟩ =>
      show win0_14.index ⟨(i 0 : Nat) / 256, ht⟩ 1 * 1024 ≤ (i 1 : Nat) ∧ (i 1 : Nat) < win0_14.index ⟨(i 0 : Nat) / 256, ht⟩ 1 * 1024 + 1024
      rw [e.2]; omega

theorem idx16 : ∀ t : Fin grid0.N, win0_16.index t 0 = t.val ∧ win0_16.index t 1 = 0 := by decide +kernel
include hq in
theorem flushed16 (c : Dev nD) (t : Fin cfg0.N) (hf : (cfg0.win 16).flush t = true) :
    (dats m 0 c).flushed 16 t = ((cfg0.win 16).blk t).view.read (Elt Ideal) (cvArr (qOf m c)) := by
  have e : (dats m 0 c).flushed 16 t = _ := after0_16 m c t
  rw [e, (left m hq c t.val t.isLt).cv]
  funext y
  rw [View.read_apply]
  have e0 : (((cfg0.win 16).blk t).view.emb y 0).val = 256 * t.val + (y 0).val := by
    show win0_16.index t 0 * 256 + 1 * (y 0).val = _; rw [(idx16 t).1]; omega
  have e1 : (((cfg0.win 16).blk t).view.emb y 1).val = (y 1).val := by
    show win0_16.index t 1 * 1536 + 1 * (y 1).val = _; rw [(idx16 t).2]; omega
  show cvg (qOf m c) (256 * t.val + (y 0).val) (y 1).val = cvg (qOf m c) (((cfg0.win 16).blk t).view.emb y 0).val (((cfg0.win 16).blk t).view.emb y 1).val
  rw [e0, e1]
include hq in
theorem final16 (c : Dev nD) : (dats m 0 c).arrAt 16 cfg0.N = cvArr (qOf m c) :=
  (dats m 0 c).arrAt_eq_of_cover 16 (cvArr (qOf m c)) (flushed16 m hq c) fun i => by
    have h0 : (i 0 : Nat) < 4096 := (i 0).isLt
    have h1 : (i 1 : Nat) < 1536 := (i 1).isLt
    have hN : cfg0.N = 16 := N_0
    have ht : (i 0 : Nat) / 256 < cfg0.N := by omega
    refine ⟨⟨(i 0 : Nat) / 256, ht⟩, flush0_16 _, ?_⟩
    show i ∈ ((View.whole main_v6_3).slice (win0_16.rect ⟨(i 0 : Nat) / 256, ht⟩)).set
    rw [View.set_slice_whole, Rect.mem_set_unit]
    have e := idx16 ⟨(i 0 : Nat) / 256, ht⟩
    dsimp only at e
    intro a
    match a with
    | ⟨0, _⟩ =>
      show win0_16.index ⟨(i 0 : Nat) / 256, ht⟩ 0 * 256 ≤ (i 0 : Nat) ∧ (i 0 : Nat) < win0_16.index ⟨(i 0 : Nat) / 256, ht⟩ 0 * 256 + 256
      rw [e.1]; omega
    | ⟨1, _⟩ =>
      show win0_16.index ⟨(i 0 : Nat) / 256, ht⟩ 1 * 1536 ≤ (i 1 : Nat) ∧ (i 1 : Nat) < win0_16.index ⟨(i 0 : Nat) / 256, ht⟩ 1 * 1536 + 1536
      rw [e.2]; omega

theorem idx15 : ∀ t : Fin grid0.N, win0_15.index t 0 = t.val ∧ win0_15.index t 1 = 0 ∧ win0_15.index t 2 = 0 := by decide +kernel
include hq in
theorem flushed15 (c : Dev nD) (t : Fin cfg0.N) (hf : (cfg0.win 15).flush t = true) :
    (dats m 0 c).flushed 15 t = ((cfg0.win 15).blk t).view.read (Elt Ideal) (statesArr (qOf m c)) := by
  have e : (dats m 0 c).flushed 15 t = _ := after0_15 m c t
  rw [e, (left m hq c t.val t.isLt).states]
  funext y
  rw [View.read_apply]
  have e0 : (((cfg0.win 15).blk t).view.emb y 0).val = 2 * t.val + (y 0).val := by
    show win0_15.index t 0 * 2 + 1 * (y 0).val = _; rw [(idx15 t).1]; omega
  have e1 : (((cfg0.win 15).blk t).view.emb y 1).val = (y 1).val := by
    show win0_15.index t 1 * 128 + 1 * (y 1).val = _; rw [(idx15 t).2.1]; omega
  have e2 : (((cfg0.win 15).blk t).view.emb y 2).val = (y 2).val := by
    show win0_15.index t 2 * 1024 + 1 * (y 2).val = _; rw [(idx15 t).2.2]; omega
  show Hs (qOf m c) (2 * t.val + (y 0).val) (y 1).val (y 2).val = Hs (qOf m c) (((cfg0.win 15).blk t).view.emb y 0).val (((cfg0.win 15).blk t).view.emb y 1).val (((cfg0.win 15).blk t).view.emb y 2).val
  rw [e0, e1, e2]
include hq in
theorem final15 (c : Dev nD) : (dats m 0 c).arrAt 15 cfg0.N = statesArr (qOf m c) :=
  (dats m 0 c).arrAt_eq_of_cover 15 (statesArr (qOf m c)) (flushed15 m hq c) fun i => by
    have h0 : (i 0 : Nat) < 32 := (i 0).isLt
    have h1 : (i 1 : Nat) < 128 := (i 1).isLt
    have h2 : (i 2 : Nat) < 1024 := (i 2).isLt
    have hN : cfg0.N = 16 := N_0
    have ht : (i 0 : Nat) / 2 < cfg0.N := by omega
    refine ⟨⟨(i 0 : Nat) / 2, ht⟩, flush0_15 _, ?_⟩
    show i ∈ ((View.whole main_v6_2).slice (win0_15.rect ⟨(i 0 : Nat) / 2, ht⟩)).set
    rw [View.set_slice_whole, Rect.mem_set_unit]
    have e := idx15 ⟨(i 0 : Nat) / 2, ht⟩
    dsimp only at e
    intro a
    match a with
    | ⟨0, _⟩ =>
      show win0_15.index ⟨(i 0 : Nat) / 2, ht⟩ 0 * 2 ≤ (i 0 : Nat) ∧ (i 0 : Nat) < win0_15.index ⟨(i 0 : Nat) / 2, ht⟩ 0 * 2 + 2
      rw [e.1]; omega
    | ⟨1, _⟩ =>
      show win0_15.index ⟨(i 0 : Nat) / 2, ht⟩ 1 * 128 ≤ (i 1 : Nat) ∧ (i 1 : Nat) < win0_15.index ⟨(i 0 : Nat) / 2, ht⟩ 1 * 128 + 128
      rw [e.2.1]; omega
    | ⟨2, _⟩ =>
      show win0_15.index ⟨(i 0 : Nat) / 2, ht⟩ 2 * 1024 ≤ (i 2 : Nat) ∧ (i 2 : Nat) < win0_15.index ⟨(i 0 : Nat) / 2, ht⟩ 2 * 1024 + 1024
      rw [e.2.2]; omega

end Cert.Proof.ScanGrid

end
-- ==== Proof.ScanRefA.lean ====
/-
  THE FORWARD SCAN'S REFERENCE (`Reference11`), first part: the convolution, the gate, the steps, and the running sums.

  Every intermediate array of the reference is read at an index and stated by the coordinates of that index, over the
  same functions of the arguments as the kernel's side is.
-/
module

public import proofs.«01_k».proof.Proof.ScanSpec
public import proofs.«01_k».proof.Proof.Gen.Reference11Ideal.Read

@[expose] public section

noncomputable section

open Idealize.ShloMosaic Idealize.SL.Sem Idealize.ShloMosaic.ValueIdx
open scoped BigOperators

namespace Cert.Proof.ScanRefA

open Cert.Reference11Ideal Cert.Reference11Ideal.Gen Cert.Reference11Ideal.Read Cert.Proof.Blocks Cert.Proof.ScanPair Cert.Proof.ScanSteps
  Cert.Proof.ScanSpec

/-! ## Running sums -/

theorem foldl_add {ι : Type*} (f : ι → EReal) : ∀ (l : List ι) (r : EReal), l.foldl (fun r n => r + f n) r = r + (l.map f).sum
  | [], r => (add_zero r).symm
  | a :: l, r => by rw [List.foldl_cons, foldl_add f l, List.map_cons, List.sum_cons, add_assoc]

/-- The window of the 128 positions up to the last one read sums the elements up to it. -/
theorem cumsum (x : S2x8x32x128.Idx → EReal) (init : S_.Idx → EReal) (hinit : ∀ j, init j = 0)
    (h : S2x8x32x128.ReduceWindows ![1, 1, 1, 128] ![1, 1, 1, 1] ![0, 0, 0, 127] ![0, 0, 0, 0] S2x8x32x128) (hu : 0 < S_.numel)
    (g : ℕ → EReal) (i : S2x8x32x128.Idx)
    (hg : ∀ j : S2x8x32x128.Idx, j 0 = i 0 → j 1 = i 1 → j 2 = i 2 → x j = g (j 3).val) :
    Host.reduceWindowAdd (F := Ideal) (φ := .f32) ![1, 1, 1, 128] ![1, 1, 1, 1] ![0, 0, 0, 127] ![0, 0, 0, 0] x init h hu i
      = ∑ s : Fin 128, if s.val ≤ (i 3).val then g s.val else 0 := by
  show Host.reduceWindow (α := EReal) (· + ·) ![1, 1, 1, 128] ![1, 1, 1, 1] ![0, 0, 0, 127] ![0, 0, 0, 0] x
    (fun _ : (⟨0, ![]⟩ : Shape).Idx => init (Shape.Idx.first hu)) h (by decide) i = _
  unfold Host.reduceWindow
  dsimp only
  rw [foldl_add, hinit, zero_add, ← Fin.sum_univ_def]
  have hW : (⟨4, ![1, 1, 1, 128]⟩ : Shape).numel = 128 := by decide
  refine Fintype.sum_equiv ((finCongr hW).trans (Equiv.addRight (⟨((i 3).val + 1) % 128, Nat.mod_lt _ (by decide)⟩ : Fin 128))) _ _ fun n => ?_
  have hn : n.val < 128 := n.isLt.trans_eq hW
  have hi : (i 3).val < 128 := (i 3).isLt
  have hw : ∀ u : (⟨4, ![1, 1, 1, 128]⟩ : Shape).Idx, ((⟨4, ![1, 1, 1, 128]⟩ : Shape).rowMajor u).val = n.val →
      (u 0).val = 0 ∧ (u 1).val = 0 ∧ (u 2).val = 0 ∧ (u 3).val = n.val := fun u hr => by
    rw [Shape.rowMajor_val_four] at hr
    have hr' : (((u 0).val * 1 + (u 1).val) * 1 + (u 2).val) * 128 + (u 3).val = n.val := hr
    have u0 : (u 0).val < 1 := (u 0).isLt
    have u1 : (u 1).val < 1 := (u 1).isLt
    have u2 : (u 2).val < 1 := (u 2).isLt
    omega
  obtain ⟨w0, w1, w2, w3⟩ := hw _ (congrArg Fin.val ((⟨4, ![1, 1, 1, 128]⟩ : Shape).rowMajor.apply_symm_apply n))
  have hs : ((((finCongr hW).trans (Equiv.addRight (⟨((i 3).val + 1) % 128, Nat.mod_lt _ (by decide)⟩ : Fin 128))) n : Fin 128)).val
      = (n.val + ((i 3).val + 1) % 128) % 128 := rfl
  have i0 : (i 0).val < 2 := (i 0).isLt
  have i1 : (i 1).val < 8 := (i 1).isLt
  have i2 : (i 2).val < 32 := (i 2).isLt
  by_cases hin : 127 ≤ (i 3).val + n.val
  · rw [dif_pos (fun a => by
      match a with
      | ⟨0, _⟩ => show 0 ≤ (i 0).val * 1 + ((⟨4, ![1, 1, 1, 128]⟩ : Shape).rowMajor.symm n 0).val ∧ (i 0).val * 1 + ((⟨4, ![1, 1, 1, 128]⟩ : Shape).rowMajor.symm n 0).val - 0 < 2; omega
      | ⟨1, _⟩ => show 0 ≤ (i 1).val * 1 + ((⟨4, ![1, 1, 1, 128]⟩ : Shape).rowMajor.symm n 1).val ∧ (i 1).val * 1 + ((⟨4, ![1, 1, 1, 128]⟩ : Shape).rowMajor.symm n 1).val - 0 < 8; omega
      | ⟨2, _⟩ => show 0 ≤ (i 2).val * 1 + ((⟨4, ![1, 1, 1, 128]⟩ : Shape).rowMajor.symm n 2).val ∧ (i 2).val * 1 + ((⟨4, ![1, 1, 1, 128]⟩ : Shape).rowMajor.symm n 2).val - 0 < 32; omega
      | ⟨3, _⟩ => show 127 ≤ (i 3).val * 1 + ((⟨4, ![1, 1, 1, 128]⟩ : Shape).rowMajor.symm n 3).val ∧ (i 3).val * 1 + ((⟨4, ![1, 1, 1, 128]⟩ : Shape).rowMajor.symm n 3).val - 127 < 128; omega), if_pos (by rw [hs]; omega)]
    refine (hg _ (Fin.ext ?_) (Fin.ext ?_) (Fin.ext ?_)).trans (congrArg g ?_)
    · show (i 0).val * 1 + ((⟨4, ![1, 1, 1, 128]⟩ : Shape).rowMajor.symm n 0).val - 0 = (i 0).val; omega
    · show (i 1).val * 1 + ((⟨4, ![1, 1, 1, 128]⟩ : Shape).rowMajor.symm n 1).val - 0 = (i 1).val; omega
    · show (i 2).val * 1 + ((⟨4, ![1, 1, 1, 128]⟩ : Shape).rowMajor.symm n 2).val - 0 = (i 2).val; omega
    · rw [hs]; show (i 3).val * 1 + ((⟨4, ![1, 1, 1, 128]⟩ : Shape).rowMajor.symm n 3).val - 127 = _; omega
  · rw [dif_neg (fun hh => hin (by have h3 : 127 ≤ (i 3).val * 1 + ((⟨4, ![1, 1, 1, 128]⟩ : Shape).rowMajor.symm n 3).val := (hh (3 : Fin 4)).1; omega)), if_neg (by rw [hs]; omega)]

variable (x0 : (⟨2, ![4096, 7168]⟩ : Shape).Idx → EReal) (x1 : (⟨2, ![4, 1536]⟩ : Shape).Idx → EReal) (x2 : (⟨2, ![1, 1536]⟩ : Shape).Idx → EReal)
  (x3 x4 x5 : (⟨2, ![1, 16]⟩ : Shape).Idx → EReal) (x6 : (⟨2, ![1, 1024]⟩ : Shape).Idx → EReal)

/-! ## The convolution -/

theorem v1_eq (i : S4096x1536.Idx) : val_main_v1 (F := Ideal) x0 i = rd x0 (i 0).val (5120 + (i 1).val) :=
  (val_main_v1_apply (F := Ideal) x0 i).trans (eq_rd x0 _ rfl rfl)
/-- The rows with three rows of zeros before them. -/
theorem v4_eq (i : S4099x1536.Idx) :
    val_main_v4 (F := Ideal) x0 i = if (i 0).val < 3 then 0 else rd x0 ((i 0).val - 3) (5120 + (i 1).val) := by
  have h0 : (i 0).val < 4099 := (i 0).isLt
  unfold val_main_v4
  by_cases h3 : (i 0).val < 3
  · rw [if_pos h3]
    refine (pad_apply_of_not_inside _ _ _ _ _ _ _ _ (0 : Fin 2) fun hin => ?_).trans ?_
    · have : 3 ≤ (i 0).val := hin.1
      omega
    · show (((0#32 : BitVec 32).toInt : ℝ) : EReal) = 0
      simp
  · rw [if_neg h3]
    refine (pad_apply_of_inside _ _ _ _ _ _ _ _ (ix2 ⟨(i 0).val - 3, by omega⟩ (i 1)) fun a => ?_).trans (v1_eq x0 _)
    match a with
    | ⟨0, _⟩ => show (i 0).val = 3 + ((i 0).val - 3) * (0 + 1); omega
    | ⟨1, _⟩ => show (i 1).val = 0 + (i 1).val * (0 + 1); omega
theorem pad_eq (i : S4099x1536.Idx) (t k : ℕ) (ht : (i 0).val = t) (hk : (i 1).val = k) :
    val_main_v4 (F := Ideal) x0 i = xq (dataOf x0 x1 x2 x3 x4 x5 x6) t k := by
  rw [v4_eq, ht, hk]; rfl
theorem cv_eq (i : S4096x1536.Idx) :
    val_main_v34 (F := Ideal) x0 x1 x2 i = cvg (dataOf x0 x1 x2 x3 x4 x5 x6) (i 0).val (i 1).val := by
  have hw : ∀ (j : S4x1536.Idx) (a : ℕ), (j 0).val = a → (j 1).val = (i 1).val → x1 j = rd x1 a (i 1).val := fun j a h0 h1 => eq_rd x1 j h0 h1
  have hk : (i 1).val < 1536 := (i 1).isLt
  have e5 : val_main_v5 (F := Ideal) x0 i = xq (dataOf x0 x1 x2 x3 x4 x5 x6) (i 0).val (i 1).val :=
    (val_main_v5_apply (F := Ideal) x0 i).trans (pad_eq x0 x1 x2 x3 x4 x5 x6 _ _ _ rfl rfl)
  have e11 : val_main_v11 (F := Ideal) x0 i = xq (dataOf x0 x1 x2 x3 x4 x5 x6) ((i 0).val + 1) (i 1).val :=
    (val_main_v11_apply (F := Ideal) x0 i).trans (pad_eq x0 x1 x2 x3 x4 x5 x6 _ _ _ (Nat.add_comm 1 _) rfl)
  have e18 : val_main_v18 (F := Ideal) x0 i = xq (dataOf x0 x1 x2 x3 x4 x5 x6) ((i 0).val + 2) (i 1).val :=
    (val_main_v18_apply (F := Ideal) x0 i).trans (pad_eq x0 x1 x2 x3 x4 x5 x6 _ _ _ (Nat.add_comm 2 _) rfl)
  have e25 : val_main_v25 (F := Ideal) x0 i = xq (dataOf x0 x1 x2 x3 x4 x5 x6) ((i 0).val + 3) (i 1).val :=
    (val_main_v25_apply (F := Ideal) x0 i).trans (pad_eq x0 x1 x2 x3 x4 x5 x6 _ _ _ (Nat.add_comm 3 _) rfl)
  have w0 : val_main_v9 (F := Ideal) x1 i = rd x1 0 (i 1).val := by
    rw [val_main_v9_apply, val_main_v8_apply, val_main_v7_apply, val_main_v6_apply]
    exact hw _ _ rfl (Nat.mod_eq_of_lt hk)
  have w1 : val_main_v15 (F := Ideal) x1 i = rd x1 1 (i 1).val := by
    rw [val_main_v15_apply, val_main_v14_apply, val_main_v13_apply, val_main_v12_apply]
    exact hw _ _ rfl (Nat.mod_eq_of_lt hk)
  have w2 : val_main_v22 (F := Ideal) x1 i = rd x1 2 (i 1).val := by
    rw [val_main_v22_apply, val_main_v21_apply, val_main_v20_apply, val_main_v19_apply]
    exact hw _ _ rfl (Nat.mod_eq_of_lt hk)
  have w3 : val_main_v29 (F := Ideal) x1 i = rd x1 3 (i 1).val := by
    rw [val_main_v29_apply, val_main_v28_apply, val_main_v27_apply, val_main_v26_apply]
    exact hw _ _ rfl (Nat.mod_eq_of_lt hk)
  have b : val_main_v33 (F := Ideal) x2 i = rd x2 0 (i 1).val := by
    rw [val_main_v33_apply, val_main_v32_apply, val_main_v3_apply]
    exact eq_rd x2 _ rfl (Nat.mod_eq_of_lt hk)
  rw [val_main_v34_apply, val_main_v31_apply, val_main_v24_apply, val_main_v17_apply, val_main_v10_apply, val_main_v16_apply,
    val_main_v23_apply, val_main_v30_apply, e5, e11, e18, e25, w0, w1, w2, w3, b]
  unfold cvg
  show xq _ _ _ * rd x1 0 _ + xq _ _ _ * rd x1 1 _ + xq _ _ _ * rd x1 2 _ + xq _ _ _ * rd x1 3 _ + rd x2 0 _
    = rd x2 0 _ + rd x1 3 _ * xq _ _ _ + rd x1 0 _ * xq _ _ _ + rd x1 1 _ * xq _ _ _ + rd x1 2 _ * xq _ _ _
  rw [mul_comm (rd x1 0 _), mul_comm (rd x1 1 _), mul_comm (rd x1 2 _), mul_comm (rd x1 3 _)]
  ac_rfl

/-! ## The gate and the steps -/

/-- The gate of the convolved columns. -/
theorem gate_eq (i : S4096x1536.Idx) :
    val_main_v35 (F := Ideal) x0 x1 x2 i = gate (cvg (dataOf x0 x1 x2 x3 x4 x5 x6) (i 0).val (i 1).val) := by
  rw [val_main_v35_apply, val_main_call1_v5_apply, val_main_call1_v4_apply, val_main_call1_cst_0_apply, val_main_call1_v3_apply,
    val_main_call1_v2_apply, val_main_call1_cst_apply, val_main_call1_v1_apply, val_main_call1_v0_apply, cv_eq x0 x1 x2 x3 x4 x5 x6]
  unfold gate
  rw [zero_sub]
  rfl
/-- A step. -/
theorem step_eq (i : S4096x16.Idx) :
    val_main_v46 (F := Ideal) x0 x3 i = spx (rd x0 (i 0).val (6656 + (i 1).val) + rd x3 0 (i 1).val) := by
  have hk : (i 1).val < 16 := (i 1).isLt
  have e : val_main_v45 (F := Ideal) x0 x3 i = rd x0 (i 0).val (6656 + (i 1).val) + rd x3 0 (i 1).val := by
    rw [val_main_v45_apply, val_main_v2_apply, val_main_v44_apply, val_main_v43_apply, val_main_v42_apply]
    exact congrArg₂ (· + ·) (eq_rd x0 _ rfl rfl) (eq_rd x3 _ rfl (Nat.mod_eq_of_lt hk))
  have z : ∀ j, val_main_call2_cst (F := Ideal) j = 0 := fun j => (val_main_call2_cst_apply j).trans Ideal.ofBits_zero_f32
  have hne : val_main_call2_v4 (F := Ideal) x0 x3 i = 0#1 := by
    rw [val_main_call2_v4_apply]
    show Ideal.cmp .une _ _ = _
    simp [Ideal.cmp]
  rw [val_main_v46_apply, hne, val_main_call2_v11_apply, val_main_call2_v1_apply, val_main_call2_v0_apply, val_main_call2_v10_apply,
    val_main_call2_v9_apply, val_main_call2_v8_apply, val_main_call2_v7_apply, val_main_call2_v3_apply, val_main_call2_v2_apply, z, e]
  generalize rd x0 (i 0).val (6656 + (i 1).val) + rd x3 0 (i 1).val = y
  unfold spx
  show max y 0 + Ideal.log (1 + Ideal.exp (-(max (y - 0) (-(y - 0))))) = _
  rw [sub_zero, zero_sub]
/-- A step times the rate of its head. -/
theorem rate_eq (i : S4096x16.Idx) :
    val_main_v56 (F := Ideal) x0 x3 x4 i
      = spx (rd x0 (i 0).val (6656 + (i 1).val) + rd x3 0 (i 1).val) * (0 - Ideal.exp (rd x4 0 (i 1).val)) := by
  have hk : (i 1).val < 16 := (i 1).isLt
  rw [val_main_v56_apply, step_eq, val_main_v55_apply, val_main_v54_apply, val_main_v49_apply, val_main_v48_apply, val_main_v47_apply, zero_sub]
  exact congrArg (fun y : EReal => spx (rd x0 (i 0).val (6656 + (i 1).val) + rd x3 0 (i 1).val) * -Ideal.exp y) (eq_rd x4 _ rfl (Nat.mod_eq_of_lt hk))

/-! ## By chunk, token, group, head and column -/

/-- The arguments by coordinates. -/
abbrev Q : Data := dataOf x0 x1 x2 x3 x4 x5 x6

theorem xs_eq (i : S4096x16x64.Idx) :
    val_main_v37 (F := Ideal) x0 x1 x2 i = Xg (Q x0 x1 x2 x3 x4 x5 x6) ((i 0).val / 128) ((i 0).val % 128) (64 * (i 1).val + (i 2).val) := by
  have h1 : (i 1).val < 16 := (i 1).isLt
  have h2 : (i 2).val < 64 := (i 2).isLt
  rw [val_main_v37_apply, val_main_v36_apply, gate_eq x0 x1 x2 x3 x4 x5 x6]
  refine congrArg gate (congrArg₂ (cvg (Q x0 x1 x2 x3 x4 x5 x6)) ?_ ?_)
  · show (((i 0).val * 16 + (i 1).val) * 64 + (i 2).val) / 1024 = 128 * ((i 0).val / 128) + (i 0).val % 128; omega
  · show (((i 0).val * 16 + (i 1).val) * 64 + (i 2).val) % 1024 = 64 * (i 1).val + (i 2).val; omega
/-- The tokens' columns times their steps. -/
theorem xdt_eq (i : S32x128x2x8x64.Idx) :
    val_main_v53 (F := Ideal) x0 x1 x2 x3 i
      = Xg (Q x0 x1 x2 x3 x4 x5 x6) (i 0).val (i 1).val (512 * (i 2).val + 64 * (i 3).val + (i 4).val) * dtg (Q x0 x1 x2 x3 x4 x5 x6) (i 0).val (i 1).val (8 * (i 2).val + (i 3).val) := by
  have h1 : (i 1).val < 128 := (i 1).isLt
  have h2 : (i 2).val < 2 := (i 2).isLt
  have h3 : (i 3).val < 8 := (i 3).isLt
  have h4 : (i 4).val < 64 := (i 4).isLt
  rw [val_main_v53_apply, val_main_v52_apply, xs_eq x0 x1 x2 x3 x4 x5 x6, val_main_v51_apply, val_main_v50_apply, step_eq]
  have e0 : (((((i 0).val * 128 + (i 1).val) * 2 + (i 2).val) * 8 + (i 3).val) * 64 + (i 4).val) / 1024 = 128 * (i 0).val + (i 1).val := by omega
  have e1 : (((((i 0).val * 128 + (i 1).val) * 2 + (i 2).val) * 8 + (i 3).val) * 64 + (i 4).val) / 64 % 16 = 8 * (i 2).val + (i 3).val := by omega
  have e2 : (((((i 0).val * 128 + (i 1).val) * 2 + (i 2).val) * 8 + (i 3).val) * 64 + (i 4).val) % 64 = (i 4).val := by omega
  refine congrArg₂ (fun a b : EReal => a * b) ?_ ?_
  · show Xg (Q x0 x1 x2 x3 x4 x5 x6) ((((((i 0).val * 128 + (i 1).val) * 2 + (i 2).val) * 8 + (i 3).val) * 64 + (i 4).val) / 1024 / 128)
      ((((((i 0).val * 128 + (i 1).val) * 2 + (i 2).val) * 8 + (i 3).val) * 64 + (i 4).val) / 1024 % 128)
      (64 * ((((((i 0).val * 128 + (i 1).val) * 2 + (i 2).val) * 8 + (i 3).val) * 64 + (i 4).val) / 64 % 16)
        + (((((i 0).val * 128 + (i 1).val) * 2 + (i 2).val) * 8 + (i 3).val) * 64 + (i 4).val) % 64) = _
    rw [e0, e1, e2, show (128 * (i 0).val + (i 1).val) / 128 = (i 0).val by omega, show (128 * (i 0).val + (i 1).val) % 128 = (i 1).val by omega,
      show 64 * (8 * (i 2).val + (i 3).val) + (i 4).val = 512 * (i 2).val + 64 * (i 3).val + (i 4).val by omega]
  · show spx (rd x0 ((((((i 0).val * 128 + (i 1).val) * 2 + (i 2).val) * 8 + (i 3).val) * 64 + (i 4).val) / 1024)
        (6656 + (((((i 0).val * 128 + (i 1).val) * 2 + (i 2).val) * 8 + (i 3).val) * 64 + (i 4).val) / 64 % 16)
      + rd x3 0 ((((((i 0).val * 128 + (i 1).val) * 2 + (i 2).val) * 8 + (i 3).val) * 64 + (i 4).val) / 64 % 16)) = _
    rw [e0, e1]; rfl
/-- The running sums of steps times rates. -/
theorem al_eq (i : S2x8x32x128.Idx) :
    val_main_v61 (F := Ideal) x0 x3 x4 i = alg (Q x0 x1 x2 x3 x4 x5 x6) (i 2).val (i 3).val (8 * (i 0).val + (i 1).val) := by
  have h0 : (i 0).val < 2 := (i 0).isLt
  have h1 : (i 1).val < 8 := (i 1).isLt
  unfold val_main_v61 alg alc
  refine cumsum _ _ (fun j => (val_main_call3_call0_v0_apply j).trans ((val_main_call3_call0_cst_apply _).trans Ideal.ofBits_zero_f32)) _ _
    (fun s => dtg (Q x0 x1 x2 x3 x4 x5 x6) (i 2).val s (8 * (i 0).val + (i 1).val) * (0 - Ideal.exp (rd x4 0 (8 * (i 0).val + (i 1).val)))) i fun j j0 j1 j2 => ?_
  have h3 : (j 3).val < 128 := (j 3).isLt
  rw [val_main_v58_apply, val_main_v57_apply, rate_eq]
  have e0 : ((((j 2).val * 128 + (j 3).val) * 2 + (j 0).val) * 8 + (j 1).val) / 16 = 128 * (i 2).val + (j 3).val := by rw [j0, j1, j2]; omega
  have e1 : ((((j 2).val * 128 + (j 3).val) * 2 + (j 0).val) * 8 + (j 1).val) % 16 = 8 * (i 0).val + (i 1).val := by rw [j0, j1, j2]; omega
  show spx (rd x0 (((((j 2).val * 128 + (j 3).val) * 2 + (j 0).val) * 8 + (j 1).val) / 16) (6656 + ((((j 2).val * 128 + (j 3).val) * 2 + (j 0).val) * 8 + (j 1).val) % 16)
      + rd x3 0 (((((j 2).val * 128 + (j 3).val) * 2 + (j 0).val) * 8 + (j 1).val) % 16))
    * (0 - Ideal.exp (rd x4 0 (((((j 2).val * 128 + (j 3).val) * 2 + (j 0).val) * 8 + (j 1).val) % 16))) = _
  rw [e0, e1]; rfl
/-- The small vectors. -/
theorem b_eq (i : S32x128x2x128.Idx) :
    val_main_v59 (F := Ideal) x0 x1 x2 i = Xg (Q x0 x1 x2 x3 x4 x5 x6) (i 0).val (i 1).val (1024 + 128 * (i 2).val + (i 3).val) := by
  have h1 : (i 1).val < 128 := (i 1).isLt
  have h2 : (i 2).val < 2 := (i 2).isLt
  have h3 : (i 3).val < 128 := (i 3).isLt
  rw [val_main_v59_apply, val_main_v39_apply, val_main_v38_apply, gate_eq x0 x1 x2 x3 x4 x5 x6]
  refine congrArg gate (congrArg₂ (cvg (Q x0 x1 x2 x3 x4 x5 x6)) ?_ ?_)
  · show (((((((i 0).val * 128 + (i 1).val) * 2 + (i 2).val) * 128 + (i 3).val) / 256 * 2 + ((((i 0).val * 128 + (i 1).val) * 2 + (i 2).val) * 128 + (i 3).val) / 128 % 2) * 128
      + ((((i 0).val * 128 + (i 1).val) * 2 + (i 2).val) * 128 + (i 3).val) % 128)) / 256 = 128 * (i 0).val + (i 1).val; omega
  · show 1024 + (((((((i 0).val * 128 + (i 1).val) * 2 + (i 2).val) * 128 + (i 3).val) / 256 * 2 + ((((i 0).val * 128 + (i 1).val) * 2 + (i 2).val) * 128 + (i 3).val) / 128 % 2) * 128
      + ((((i 0).val * 128 + (i 1).val) * 2 + (i 2).val) * 128 + (i 3).val) % 128)) % 256 = 1024 + 128 * (i 2).val + (i 3).val; omega
theorem c_eq (i : S32x128x2x128.Idx) :
    val_main_v60 (F := Ideal) x0 x1 x2 i = Xg (Q x0 x1 x2 x3 x4 x5 x6) (i 0).val (i 1).val (1280 + 128 * (i 2).val + (i 3).val) := by
  have h1 : (i 1).val < 128 := (i 1).isLt
  have h2 : (i 2).val < 2 := (i 2).isLt
  have h3 : (i 3).val < 128 := (i 3).isLt
  rw [val_main_v60_apply, val_main_v41_apply, val_main_v40_apply, gate_eq x0 x1 x2 x3 x4 x5 x6]
  refine congrArg gate (congrArg₂ (cvg (Q x0 x1 x2 x3 x4 x5 x6)) ?_ ?_)
  · show (((((((i 0).val * 128 + (i 1).val) * 2 + (i 2).val) * 128 + (i 3).val) / 256 * 2 + ((((i 0).val * 128 + (i 1).val) * 2 + (i 2).val) * 128 + (i 3).val) / 128 % 2) * 128
      + ((((i 0).val * 128 + (i 1).val) * 2 + (i 2).val) * 128 + (i 3).val) % 128)) / 256 = 128 * (i 0).val + (i 1).val; omega
  · show 1280 + (((((((i 0).val * 128 + (i 1).val) * 2 + (i 2).val) * 128 + (i 3).val) / 256 * 2 + ((((i 0).val * 128 + (i 1).val) * 2 + (i 2).val) * 128 + (i 3).val) / 128 % 2) * 128
      + ((((i 0).val * 128 + (i 1).val) * 2 + (i 2).val) * 128 + (i 3).val) % 128)) % 256 = 1280 + 128 * (i 2).val + (i 3).val; omega

end Cert.Proof.ScanRefA

end
-- ==== Proof.ScanRefB.lean ====
/-
  THE FORWARD SCAN'S REFERENCE (`Reference11`), second part: the products within a chunk, the states, and the four results.
-/
module

public import proofs.«01_k».proof.Proof.ScanRefA

@[expose] public section

noncomputable section

open Idealize.ShloMosaic Idealize.SL.Sem Idealize.ShloMosaic.ValueIdx
open scoped BigOperators

namespace Cert.Proof.ScanRefB

open Cert.Reference11Ideal Cert.Reference11Ideal.Gen Cert.Reference11Ideal.Read Cert.Proof.Blocks Cert.Proof.ScanPair Cert.Proof.ScanSteps
  Cert.Proof.ScanSpec Cert.Proof.ScanRefA

/-! ## The mask -/

theorem tril : ∀ a b : Fin 128, (Scalar.select (IntOp.cmpi .sge (IntOp.addi (BitVec.ofNat 32 a.val) 0#32) (BitVec.ofNat 32 b.val)) 1#1 0#1 : BitVec 1)
    = if b.val ≤ a.val then 1#1 else 0#1 := by decide +kernel
theorem mask_eq (j : S128x128.Idx) : val_main_v63 (F := Ideal) j = if (j 1).val ≤ (j 0).val then 1#1 else 0#1 := by
  rw [val_main_v63_apply, val_main_call4_v4_apply, val_main_call4_v2_apply, val_main_call4_v0_apply, val_main_call4_v1_apply, val_main_call4_c_apply,
    val_main_call4_v3_apply, val_main_v62_apply, val_main_c_0_apply, val_main_call4_v5_apply, val_main_call4_c_0_apply]
  exact tril (j 0) (j 1)

variable (x0 : (⟨2, ![4096, 7168]⟩ : Shape).Idx → EReal) (x1 : (⟨2, ![4, 1536]⟩ : Shape).Idx → EReal) (x2 : (⟨2, ![1, 1536]⟩ : Shape).Idx → EReal)
  (x3 x4 x5 : (⟨2, ![1, 16]⟩ : Shape).Idx → EReal) (x6 : (⟨2, ![1, 1024]⟩ : Shape).Idx → EReal)

/-! ## Within a chunk -/

/-- The decay from one token to a later one; nothing from a later one. -/
theorem dec_eq (i : S2x8x32x128x128.Idx) :
    val_main_v70 (F := Ideal) x0 x3 x4 i = dec (alg (Q x0 x1 x2 x3 x4 x5 x6) (i 2).val) (8 * (i 0).val + (i 1).val) (i 3).val (i 4).val := by
  rw [val_main_v70_apply, val_main_v69_apply, val_main_call5_v1_apply, mask_eq, val_main_v68_apply, val_main_v66_apply, val_main_v64_apply,
    val_main_v67_apply, val_main_v65_apply, al_eq x0 x1 x2 x3 x4 x5 x6, al_eq x0 x1 x2 x3 x4 x5 x6, val_main_call5_v2_apply,
    val_main_call5_v0_apply, val_main_cst_apply]
  unfold dec
  refine congrArg Ideal.exp ?_
  by_cases h : (i 4).val ≤ (i 3).val
  · have e : (if ((idx_main_call5_v1 i) 1).val ≤ ((idx_main_call5_v1 i) 0).val then 1#1 else 0#1 : BitVec 1) = 1#1 := if_pos h
    rw [e, if_pos h]; rfl
  · have e : (if ((idx_main_call5_v1 i) 1).val ≤ ((idx_main_call5_v1 i) 0).val then 1#1 else 0#1 : BitVec 1) = 0#1 := if_neg h
    rw [e, if_neg h]; rfl
theorem cb_eq (i : S2x32x128x128.Idx) :
    val_main_v71 (F := Ideal) x0 x1 x2 i = cbs (Xg (Q x0 x1 x2 x3 x4 x5 x6) (i 1).val) (i 0).val (i 2).val (i 3).val := by
  rw [val_main_v71_apply]
  exact Finset.sum_congr rfl fun k _ => congrArg₂ (fun a b : EReal => a * b) (c_eq x0 x1 x2 x3 x4 x5 x6 _) (b_eq x0 x1 x2 x3 x4 x5 x6 _)
/-- What the chunk's own tokens give. -/
theorem diag_eq (i : S32x128x2x8x64.Idx) :
    val_main_v76 (F := Ideal) x0 x1 x2 x3 x4 i
      = ∑ s : Fin 128, (cbs (Xg (Q x0 x1 x2 x3 x4 x5 x6) (i 0).val) (i 2).val (i 1).val s.val * dec (alg (Q x0 x1 x2 x3 x4 x5 x6) (i 0).val) (8 * (i 2).val + (i 3).val) (i 1).val s.val)
        * (Xg (Q x0 x1 x2 x3 x4 x5 x6) (i 0).val s.val (512 * (i 2).val + 64 * (i 3).val + (i 4).val) * dtg (Q x0 x1 x2 x3 x4 x5 x6) (i 0).val s.val (8 * (i 2).val + (i 3).val)) := by
  rw [val_main_v76_apply, val_main_v75_apply]
  refine Finset.sum_congr rfl fun k _ => ?_
  rw [xdt_eq x0 x1 x2 x3 x4 x5 x6, val_main_v74_apply, val_main_v73_apply, val_main_v72_apply, cb_eq x0 x1 x2 x3 x4 x5 x6, dec_eq x0 x1 x2 x3 x4 x5 x6]
  exact mul_comm _ _

/-! ## The states -/

/-- What a chunk adds to the state, and how much of the state it keeps. -/
theorem st_eq (i : S32x2x8x64x128.Idx) :
    val_main_v85 (F := Ideal) x0 x1 x2 x3 x4 i
      = ∑ l : Fin 128, Xg (Q x0 x1 x2 x3 x4 x5 x6) (i 0).val l.val (1024 + 128 * (i 1).val + (i 4).val)
        * (Ideal.exp (alg (Q x0 x1 x2 x3 x4 x5 x6) (i 0).val 127 (8 * (i 1).val + (i 2).val) - alg (Q x0 x1 x2 x3 x4 x5 x6) (i 0).val l.val (8 * (i 1).val + (i 2).val))
          * (Xg (Q x0 x1 x2 x3 x4 x5 x6) (i 0).val l.val (512 * (i 1).val + 64 * (i 2).val + (i 3).val) * dtg (Q x0 x1 x2 x3 x4 x5 x6) (i 0).val l.val (8 * (i 1).val + (i 2).val))) := by
  rw [val_main_v85_apply]
  refine Finset.sum_congr rfl fun k _ => ?_
  rw [b_eq x0 x1 x2 x3 x4 x5 x6, val_main_v84_apply, xdt_eq x0 x1 x2 x3 x4 x5 x6, val_main_v83_apply, val_main_v82_apply, val_main_v81_apply, val_main_v80_apply,
    val_main_v79_apply, val_main_v78_apply, val_main_v77_apply, al_eq x0 x1 x2 x3 x4 x5 x6, al_eq x0 x1 x2 x3 x4 x5 x6]
  exact mul_comm _ _
theorem keep_eq (i : S32x2x8.Idx) :
    val_main_v90 (F := Ideal) x0 x3 x4 i = Ideal.exp (alg (Q x0 x1 x2 x3 x4 x5 x6) (i 0).val 127 (8 * (i 1).val + (i 2).val)) := by
  have h0 : (i 0).val < 32 := (i 0).isLt
  have h1 : (i 1).val < 2 := (i 1).isLt
  have h2 : (i 2).val < 8 := (i 2).isLt
  rw [val_main_v90_apply, val_main_v88_apply, val_main_v87_apply, val_main_v86_apply, al_eq x0 x1 x2 x3 x4 x5 x6]
  have e0 : (((i 1).val * 8 + (i 2).val) * 32 + (i 0).val) / 256 = (i 1).val := by omega
  have e1 : (((i 1).val * 8 + (i 2).val) * 32 + (i 0).val) / 32 % 8 = (i 2).val := by omega
  have e2 : (((i 1).val * 8 + (i 2).val) * 32 + (i 0).val) / 1 % 32 = (i 0).val := by omega
  show Ideal.exp (alg (Q x0 x1 x2 x3 x4 x5 x6) ((((i 1).val * 8 + (i 2).val) * 32 + (i 0).val) / 1 % 32) (127 + 0)
    (8 * ((((i 1).val * 8 + (i 2).val) * 32 + (i 0).val) / 256) + (((i 1).val * 8 + (i 2).val) * 32 + (i 0).val) / 32 % 8)) = _
  rw [e0, e1, e2]

/-- The state before chunk `c`, by group, head, column and coordinate of the small vectors. -/
def Is (q : Data) (c : ℕ) (v : S2x8x64x128.Idx → EReal) : Prop :=
  ∀ i : S2x8x64x128.Idx, v i = Hs q c (i 3).val (512 * (i 0).val + 64 * (i 1).val + (i 2).val)

/-- One step of the recurrence, as the reference writes it. -/
def stepFn (o : ℕ) (h1 : S32x2x8x64x128.Slices ![o, 0, 0, 0, 0] S1x2x8x64x128) (h2 : S32x2x8.Slices ![o, 0, 0] S1x2x8)
    (st : FVec Ideal S32x2x8x64x128 .f32) (dc : FVec Ideal S32x2x8 .f32) (prev : FVec Ideal S2x8x64x128 .f32) : FVec Ideal S2x8x64x128 .f32 :=
  addf (mulf prev (broadcastInDim S2x8x64x128 ![0, 1, 2, 3] bcast_S2x8x1x1_S2x8x64x128_0_1_2_3
      (broadcastInDim S2x8x1x1 ![0, 1] bcast_S2x8_S2x8x1x1_0_1
        (shapeCast S2x8 (extractStridedSlice S1x2x8 ![o, 0, 0] dc h2) shapeCasts_S1x2x8_S2x8))))
    (shapeCast S2x8x64x128 (extractStridedSlice S1x2x8x64x128 ![o, 0, 0, 0, 0] st h1) shapeCasts_S1x2x8x64x128_S2x8x64x128)

theorem step_st (o : ℕ) (ho : o < 32) (h1 : S32x2x8x64x128.Slices ![o, 0, 0, 0, 0] S1x2x8x64x128) (st : S32x2x8x64x128.Idx → EReal) (i : S2x8x64x128.Idx) :
    shapeCast S2x8x64x128 (extractStridedSlice S1x2x8x64x128 ![o, 0, 0, 0, 0] st h1) shapeCasts_S1x2x8x64x128_S2x8x64x128 i
      = st (fun a => match a with | ⟨0, _⟩ => ⟨o, ho⟩ | ⟨1, _⟩ => i 0 | ⟨2, _⟩ => i 1 | ⟨3, _⟩ => i 2 | ⟨4, _⟩ => i 3) := by
  refine (shapeCast_apply _ shapeCasts_S1x2x8x64x128_S2x8x64x128 i
    (fun a => match a with | ⟨0, _⟩ => ⟨0, Nat.one_pos⟩ | ⟨1, _⟩ => i 0 | ⟨2, _⟩ => i 1 | ⟨3, _⟩ => i 2 | ⟨4, _⟩ => i 3) ?_).trans ?_
  · rw [Shape.rowMajor_val_four, Shape.rowMajor_val_five]
    show (((0 * 2 + (i 0).val) * 8 + (i 1).val) * 64 + (i 2).val) * 128 + (i 3).val = (((i 0).val * 8 + (i 1).val) * 64 + (i 2).val) * 128 + (i 3).val
    omega
  · exact extractStridedSlice_apply _ st h1 _ _ fun a => match a with
      | ⟨0, _⟩ => rfl
      | ⟨1, _⟩ => (Nat.zero_add _).symm
      | ⟨2, _⟩ => (Nat.zero_add _).symm
      | ⟨3, _⟩ => (Nat.zero_add _).symm
      | ⟨4, _⟩ => (Nat.zero_add _).symm
theorem step_keep (o : ℕ) (ho : o < 32) (h2 : S32x2x8.Slices ![o, 0, 0] S1x2x8) (dc : S32x2x8.Idx → EReal) (i : S2x8x64x128.Idx) :
    broadcastInDim S2x8x64x128 ![0, 1, 2, 3] bcast_S2x8x1x1_S2x8x64x128_0_1_2_3
      (broadcastInDim S2x8x1x1 ![0, 1] bcast_S2x8_S2x8x1x1_0_1
        (shapeCast S2x8 (extractStridedSlice S1x2x8 ![o, 0, 0] dc h2) shapeCasts_S1x2x8_S2x8)) i
      = dc (ix3 ⟨o, ho⟩ (i 0) (i 1)) := by
  refine (broadcastInDim_apply _ bcast_S2x8x1x1_S2x8x64x128_0_1_2_3 _ i (fun a => match a with
    | ⟨0, _⟩ => i 0 | ⟨1, _⟩ => i 1 | ⟨2, _⟩ => ⟨0, Nat.one_pos⟩ | ⟨3, _⟩ => ⟨0, Nat.one_pos⟩) fun a => match a with
      | ⟨0, _⟩ => rfl | ⟨1, _⟩ => rfl | ⟨2, _⟩ => rfl | ⟨3, _⟩ => rfl).trans ?_
  refine (broadcastInDim_apply _ bcast_S2x8_S2x8x1x1_0_1 _ _ (ix2 (i 0) (i 1)) fun a => match a with | ⟨0, _⟩ => rfl | ⟨1, _⟩ => rfl).trans ?_
  refine (shapeCast_apply _ shapeCasts_S1x2x8_S2x8 _ (ix3 ⟨0, Nat.one_pos⟩ (i 0) (i 1)) ?_).trans ?_
  · rw [Shape.rowMajor_val_two, Shape.rowMajor_val_three]
    show (0 * 2 + (i 0).val) * 8 + (i 1).val = (i 0).val * 8 + (i 1).val
    omega
  · exact extractStridedSlice_apply _ dc h2 _ _ fun a => match a with
      | ⟨0, _⟩ => rfl
      | ⟨1, _⟩ => (Nat.zero_add _).symm
      | ⟨2, _⟩ => (Nat.zero_add _).symm

theorem step_apply (o : ℕ) (ho : o < 32) (h1 : S32x2x8x64x128.Slices ![o, 0, 0, 0, 0] S1x2x8x64x128) (h2 : S32x2x8.Slices ![o, 0, 0] S1x2x8)
    (st : FVec Ideal S32x2x8x64x128 .f32) (dc : FVec Ideal S32x2x8 .f32) (prev : FVec Ideal S2x8x64x128 .f32) (i : S2x8x64x128.Idx) :
    (stepFn o h1 h2 st dc prev i : EReal) = (prev i : EReal) * (dc (ix3 ⟨o, ho⟩ (i 0) (i 1)) : EReal)
      + (st (fun a => match a with | ⟨0, _⟩ => ⟨o, ho⟩ | ⟨1, _⟩ => i 0 | ⟨2, _⟩ => i 1 | ⟨3, _⟩ => i 2 | ⟨4, _⟩ => i 3) : EReal) :=
  congrArg₂ (fun a b : EReal => (prev i : EReal) * a + b) (step_keep o ho h2 dc i) (step_st o ho h1 st i)

/-- Each step takes the state before a chunk to the state before the next. -/
theorem step (o : ℕ) (ho : o < 32) {h1 : S32x2x8x64x128.Slices ![o, 0, 0, 0, 0] S1x2x8x64x128} {h2 : S32x2x8.Slices ![o, 0, 0] S1x2x8}
    {prev : FVec Ideal S2x8x64x128 .f32} (hp : Is (Q x0 x1 x2 x3 x4 x5 x6) o prev) :
    Is (Q x0 x1 x2 x3 x4 x5 x6) (o + 1) (stepFn o h1 h2 (val_main_v92 (F := Ideal) x0 x1 x2 x3 x4) (val_main_v94 (F := Ideal) x0 x3 x4) prev) := fun i => by
  have h0 : (i 0).val < 2 := (i 0).isLt
  have h1 : (i 1).val < 8 := (i 1).isLt
  have h2 : (i 2).val < 64 := (i 2).isLt
  refine (step_apply o ho _ _ _ _ prev i).trans ?_
  show _ = Hn _ _ _ _ _ _
  rw [hp i, val_main_v94_apply, keep_eq x0 x1 x2 x3 x4 x5 x6, val_main_v92_apply, st_eq x0 x1 x2 x3 x4 x5 x6]
  unfold Hn
  rw [show (512 * (i 0).val + 64 * (i 1).val + (i 2).val) / 64 = 8 * (i 0).val + (i 1).val by omega,
    show (512 * (i 0).val + 64 * (i 1).val + (i 2).val) / 512 = (i 0).val by omega]
  exact congrArg (fun y : EReal => y + _) (mul_comm _ _)

theorem start : Is (Q x0 x1 x2 x3 x4 x5 x6) 0 (val_main_v89 (F := Ideal)) := fun i =>
  (val_main_v89_apply i).trans ((val_main_cst_1_apply _).trans Ideal.ofBits_zero_f32)

/-- The states before the 32 chunks. -/
theorem carried :
    Is (Q x0 x1 x2 x3 x4 x5 x6) 0 (val_main_v89 (F := Ideal))
      ∧ Is (Q x0 x1 x2 x3 x4 x5 x6) 1 (val_main_v103 (F := Ideal) x0 x1 x2 x3 x4)
      ∧ Is (Q x0 x1 x2 x3 x4 x5 x6) 2 (val_main_v111 (F := Ideal) x0 x1 x2 x3 x4)
      ∧ Is (Q x0 x1 x2 x3 x4 x5 x6) 3 (val_main_v119 (F := Ideal) x0 x1 x2 x3 x4)
      ∧ Is (Q x0 x1 x2 x3 x4 x5 x6) 4 (val_main_v127 (F := Ideal) x0 x1 x2 x3 x4)
      ∧ Is (Q x0 x1 x2 x3 x4 x5 x6) 5 (val_main_v135 (F := Ideal) x0 x1 x2 x3 x4)
      ∧ Is (Q x0 x1 x2 x3 x4 x5 x6) 6 (val_main_v143 (F := Ideal) x0 x1 x2 x3 x4)
      ∧ Is (Q x0 x1 x2 x3 x4 x5 x6) 7 (val_main_v151 (F := Ideal) x0 x1 x2 x3 x4)
      ∧ Is (Q x0 x1 x2 x3 x4 x5 x6) 8 (val_main_v159 (F := Ideal) x0 x1 x2 x3 x4)
      ∧ Is (Q x0 x1 x2 x3 x4 x5 x6) 9 (val_main_v167 (F := Ideal) x0 x1 x2 x3 x4)
      ∧ Is (Q x0 x1 x2 x3 x4 x5 x6) 10 (val_main_v175 (F := Ideal) x0 x1 x2 x3 x4)
      ∧ Is (Q x0 x1 x2 x3 x4 x5 x6) 11 (val_main_v183 (F := Ideal) x0 x1 x2 x3 x4)
      ∧ Is (Q x0 x1 x2 x3 x4 x5 x6) 12 (val_main_v191 (F := Ideal) x0 x1 x2 x3 x4)
      ∧ Is (Q x0 x1 x2 x3 x4 x5 x6) 13 (val_main_v199 (F := Ideal) x0 x1 x2 x3 x4)
      ∧ Is (Q x0 x1 x2 x3 x4 x5 x6) 14 (val_main_v207 (F := Ideal) x0 x1 x2 x3 x4)
      ∧ Is (Q x0 x1 x2 x3 x4 x5 x6) 15 (val_main_v215 (F := Ideal) x0 x1 x2 x3 x4)
      ∧ Is (Q x0 x1 x2 x3 x4 x5 x6) 16 (val_main_v223 (F := Ideal) x0 x1 x2 x3 x4)
      ∧ Is (Q x0 x1 x2 x3 x4 x5 x6) 17 (val_main_v231 (F := Ideal) x0 x1 x2 x3 x4)
      ∧ Is (Q x0 x1 x2 x3 x4 x5 x6) 18 (val_main_v239 (F := Ideal) x0 x1 x2 x3 x4)
      ∧ Is (Q x0 x1 x2 x3 x4 x5 x6) 19 (val_main_v247 (F := Ideal) x0 x1 x2 x3 x4)
      ∧ Is (Q x0 x1 x2 x3 x4 x5 x6) 20 (val_main_v255 (F := Ideal) x0 x1 x2 x3 x4)
      ∧ Is (Q x0 x1 x2 x3 x4 x5 x6) 21 (val_main_v263 (F := Ideal) x0 x1 x2 x3 x4)
      ∧ Is (Q x0 x1 x2 x3 x4 x5 x6) 22 (val_main_v271 (F := Ideal) x0 x1 x2 x3 x4)
      ∧ Is (Q x0 x1 x2 x3 x4 x5 x6) 23 (val_main_v279 (F := Ideal) x0 x1 x2 x3 x4)
      ∧ Is (Q x0 x1 x2 x3 x4 x5 x6) 24 (val_main_v287 (F := Ideal) x0 x1 x2 x3 x4)
      ∧ Is (Q x0 x1 x2 x3 x4 x5 x6) 25 (val_main_v295 (F := Ideal) x0 x1 x2 x3 x4)
      ∧ Is (Q x0 x1 x2 x3 x4 x5 x6) 26 (val_main_v303 (F := Ideal) x0 x1 x2 x3 x4)
      ∧ Is (Q x0 x1 x2 x3 x4 x5 x6) 27 (val_main_v311 (F := Ideal) x0 x1 x2 x3 x4)
      ∧ Is (Q x0 x1 x2 x3 x4 x5 x6) 28 (val_main_v319 (F := Ideal) x0 x1 x2 x3 x4)
      ∧ Is (Q x0 x1 x2 x3 x4 x5 x6) 29 (val_main_v327 (F := Ideal) x0 x1 x2 x3 x4)
      ∧ Is (Q x0 x1 x2 x3 x4 x5 x6) 30 (val_main_v335 (F := Ideal) x0 x1 x2 x3 x4)
      ∧ Is (Q x0 x1 x2 x3 x4 x5 x6) 31 (val_main_v343 (F := Ideal) x0 x1 x2 x3 x4) := by
  have h0 := start x0 x1 x2 x3 x4 x5 x6
  have h1 : Is (Q x0 x1 x2 x3 x4 x5 x6) 1 (val_main_v103 (F := Ideal) x0 x1 x2 x3 x4) := step x0 x1 x2 x3 x4 x5 x6 0 (by decide) h0
  have h2 : Is (Q x0 x1 x2 x3 x4 x5 x6) 2 (val_main_v111 (F := Ideal) x0 x1 x2 x3 x4) := step x0 x1 x2 x3 x4 x5 x6 1 (by decide) h1
  have h3 : Is (Q x0 x1 x2 x3 x4 x5 x6) 3 (val_main_v119 (F := Ideal) x0 x1 x2 x3 x4) := step x0 x1 x2 x3 x4 x5 x6 2 (by decide) h2
  have h4 : Is (Q x0 x1 x2 x3 x4 x5 x6) 4 (val_main_v127 (F := Ideal) x0 x1 x2 x3 x4) := step x0 x1 x2 x3 x4 x5 x6 3 (by decide) h3
  have h5 : Is (Q x0 x1 x2 x3 x4 x5 x6) 5 (val_main_v135 (F := Ideal) x0 x1 x2 x3 x4) := step x0 x1 x2 x3 x4 x5 x6 4 (by decide) h4
  have h6 : Is (Q x0 x1 x2 x3 x4 x5 x6) 6 (val_main_v143 (F := Ideal) x0 x1 x2 x3 x4) := step x0 x1 x2 x3 x4 x5 x6 5 (by decide) h5
  have h7 : Is (Q x0 x1 x2 x3 x4 x5 x6) 7 (val_main_v151 (F := Ideal) x0 x1 x2 x3 x4) := step x0 x1 x2 x3 x4 x5 x6 6 (by decide) h6
  have h8 : Is (Q x0 x1 x2 x3 x4 x5 x6) 8 (val_main_v159 (F := Ideal) x0 x1 x2 x3 x4) := step x0 x1 x2 x3 x4 x5 x6 7 (by decide) h7
  have h9 : Is (Q x0 x1 x2 x3 x4 x5 x6) 9 (val_main_v167 (F := Ideal) x0 x1 x2 x3 x4) := step x0 x1 x2 x3 x4 x5 x6 8 (by decide) h8
  have h10 : Is (Q x0 x1 x2 x3 x4 x5 x6) 10 (val_main_v175 (F := Ideal) x0 x1 x2 x3 x4) := step x0 x1 x2 x3 x4 x5 x6 9 (by decide) h9
  have h11 : Is (Q x0 x1 x2 x3 x4 x5 x6) 11 (val_main_v183 (F := Ideal) x0 x1 x2 x3 x4) := step x0 x1 x2 x3 x4 x5 x6 10 (by decide) h10
  have h12 : Is (Q x0 x1 x2 x3 x4 x5 x6) 12 (val_main_v191 (F := Ideal) x0 x1 x2 x3 x4) := step x0 x1 x2 x3 x4 x5 x6 11 (by decide) h11
  have h13 : Is (Q x0 x1 x2 x3 x4 x5 x6) 13 (val_main_v199 (F := Ideal) x0 x1 x2 x3 x4) := step x0 x1 x2 x3 x4 x5 x6 12 (by decide) h12
  have h14 : Is (Q x0 x1 x2 x3 x4 x5 x6) 14 (val_main_v207 (F := Ideal) x0 x1 x2 x3 x4) := step x0 x1 x2 x3 x4 x5 x6 13 (by decide) h13
  have h15 : Is (Q x0 x1 x2 x3 x4 x5 x6) 15 (val_main_v215 (F := Ideal) x0 x1 x2 x3 x4) := step x0 x1 x2 x3 x4 x5 x6 14 (by decide) h14
  have h16 : Is (Q x0 x1 x2 x3 x4 x5 x6) 16 (val_main_v223 (F := Ideal) x0 x1 x2 x3 x4) := step x0 x1 x2 x3 x4 x5 x6 15 (by decide) h15
  have h17 : Is (Q x0 x1 x2 x3 x4 x5 x6) 17 (val_main_v231 (F := Ideal) x0 x1 x2 x3 x4) := step x0 x1 x2 x3 x4 x5 x6 16 (by decide) h16
  have h18 : Is (Q x0 x1 x2 x3 x4 x5 x6) 18 (val_main_v239 (F := Ideal) x0 x1 x2 x3 x4) := step x0 x1 x2 x3 x4 x5 x6 17 (by decide) h17
  have h19 : Is (Q x0 x1 x2 x3 x4 x5 x6) 19 (val_main_v247 (F := Ideal) x0 x1 x2 x3 x4) := step x0 x1 x2 x3 x4 x5 x6 18 (by decide) h18
  have h20 : Is (Q x0 x1 x2 x3 x4 x5 x6) 20 (val_main_v255 (F := Ideal) x0 x1 x2 x3 x4) := step x0 x1 x2 x3 x4 x5 x6 19 (by decide) h19
  have h21 : Is (Q x0 x1 x2 x3 x4 x5 x6) 21 (val_main_v263 (F := Ideal) x0 x1 x2 x3 x4) := step x0 x1 x2 x3 x4 x5 x6 20 (by decide) h20
  have h22 : Is (Q x0 x1 x2 x3 x4 x5 x6) 22 (val_main_v271 (F := Ideal) x0 x1 x2 x3 x4) := step x0 x1 x2 x3 x4 x5 x6 21 (by decide) h21
  have h23 : Is (Q x0 x1 x2 x3 x4 x5 x6) 23 (val_main_v279 (F := Ideal) x0 x1 x2 x3 x4) := step x0 x1 x2 x3 x4 x5 x6 22 (by decide) h22
  have h24 : Is (Q x0 x1 x2 x3 x4 x5 x6) 24 (val_main_v287 (F := Ideal) x0 x1 x2 x3 x4) := step x0 x1 x2 x3 x4 x5 x6 23 (by decide) h23
  have h25 : Is (Q x0 x1 x2 x3 x4 x5 x6) 25 (val_main_v295 (F := Ideal) x0 x1 x2 x3 x4) := step x0 x1 x2 x3 x4 x5 x6 24 (by decide) h24
  have h26 : Is (Q x0 x1 x2 x3 x4 x5 x6) 26 (val_main_v303 (F := Ideal) x0 x1 x2 x3 x4) := step x0 x1 x2 x3 x4 x5 x6 25 (by decide) h25
  have h27 : Is (Q x0 x1 x2 x3 x4 x5 x6) 27 (val_main_v311 (F := Ideal) x0 x1 x2 x3 x4) := step x0 x1 x2 x3 x4 x5 x6 26 (by decide) h26
  have h28 : Is (Q x0 x1 x2 x3 x4 x5 x6) 28 (val_main_v319 (F := Ideal) x0 x1 x2 x3 x4) := step x0 x1 x2 x3 x4 x5 x6 27 (by decide) h27
  have h29 : Is (Q x0 x1 x2 x3 x4 x5 x6) 29 (val_main_v327 (F := Ideal) x0 x1 x2 x3 x4) := step x0 x1 x2 x3 x4 x5 x6 28 (by decide) h28
  have h30 : Is (Q x0 x1 x2 x3 x4 x5 x6) 30 (val_main_v335 (F := Ideal) x0 x1 x2 x3 x4) := step x0 x1 x2 x3 x4 x5 x6 29 (by decide) h29
  have h31 : Is (Q x0 x1 x2 x3 x4 x5 x6) 31 (val_main_v343 (F := Ideal) x0 x1 x2 x3 x4) := step x0 x1 x2 x3 x4 x5 x6 30 (by decide) h30
  exact ⟨h0, h1, h2, h3, h4, h5, h6, h7, h8, h9, h10, h11, h12, h13, h14, h15, h16, h17, h18, h19, h20, h21, h22, h23, h24, h25, h26, h27, h28, h29, h30, h31⟩

/-! ## The states side by side -/

/-- The states before a chunk, as one row of the stack. -/
def Row (q : Data) (c : ℕ) (v : S1x2x8x64x128.Idx → EReal) : Prop :=
  ∀ i : S1x2x8x64x128.Idx, v i = Hs q c (i 4).val (512 * (i 1).val + 64 * (i 2).val + (i 3).val)
theorem row {q : Data} {c : ℕ} {v : S2x8x64x128.Idx → EReal} (h : Is q c v) :
    Row q c (broadcastInDim S1x2x8x64x128 ![1, 2, 3, 4] bcast_S2x8x64x128_S1x2x8x64x128_1_2_3_4 v) := fun i =>
  (broadcastInDim_apply _ bcast_S2x8x64x128_S1x2x8x64x128_1_2_3_4 v i (fun a => match a with
    | ⟨0, _⟩ => i 1 | ⟨1, _⟩ => i 2 | ⟨2, _⟩ => i 3 | ⟨3, _⟩ => i 4) fun a => match a with
      | ⟨0, _⟩ => rfl | ⟨1, _⟩ => rfl | ⟨2, _⟩ => rfl | ⟨3, _⟩ => rfl).trans (h _)
/-- The pieces are the rows from chunk `c` on. -/
def Stacked (q : Data) : ℕ → List ((s : Shape) × (s.Idx → EReal)) → Prop
  | _, [] => True
  | c, p :: l => (∃ x : S1x2x8x64x128.Idx → EReal, p = ⟨S1x2x8x64x128, x⟩ ∧ Row q c x) ∧ Stacked q (c + 1) l
theorem Stacked.get {q : Data} : ∀ (l : List ((s : Shape) × (s.Idx → EReal))) (c : ℕ), Stacked q c l → ∀ (k : ℕ) (hk : k < l.length),
    ∃ x : S1x2x8x64x128.Idx → EReal, l[k] = ⟨S1x2x8x64x128, x⟩ ∧ Row q (c + k) x
  | [], _, _, k, hk => absurd hk (Nat.not_lt_zero k)
  | p :: l, c, h, 0, hk => h.1
  | p :: l, c, h, k + 1, hk => by
    obtain ⟨x, hx, hr⟩ := Stacked.get l (c + 1) h.2 k (Nat.lt_of_succ_lt_succ hk)
    exact ⟨x, hx, by rw [show c + (k + 1) = c + 1 + k by omega]; exact hr⟩
/-- Sixteen rows one after another. -/
theorem stack {q : Data} {c : ℕ} (xs : List ((s : Shape) × (s.Idx → EReal))) (hl : xs.length = 16) (hs : Stacked q c xs)
    (h : Shape.Concatenates (xs.map (·.1)) S16x2x8x64x128 0) (j : S16x2x8x64x128.Idx) :
    concatenate S16x2x8x64x128 0 xs h j = Hs q (c + (j 0).val) (j 4).val (512 * (j 1).val + 64 * (j 2).val + (j 3).val) := by
  have h0 : (j 0).val < 16 := (j 0).isLt
  obtain ⟨x, hx, hr⟩ := Stacked.get xs c hs (j 0).val (by omega)
  refine (concatenate_apply_piece (0 : Fin 5) xs h j (j 0).val (by omega) S1x2x8x64x128 x hx rfl (j 0).val ?_
    (fun a => match a with | ⟨0, _⟩ => ⟨0, Nat.one_pos⟩ | ⟨1, _⟩ => j 1 | ⟨2, _⟩ => j 2 | ⟨3, _⟩ => j 3 | ⟨4, _⟩ => j 4) ?_ ?_).trans (hr _)
  · refine (List.sum_eq_card_nsmul _ 1 fun y hy => ?_).trans ?_
    · obtain ⟨s, hs', rfl⟩ := List.mem_map.mp hy
      obtain ⟨p, hp, rfl⟩ := List.mem_map.mp hs'
      obtain ⟨k, hk, rfl⟩ := List.getElem_of_mem (List.mem_of_mem_take hp)
      obtain ⟨x', hx', _⟩ := Stacked.get xs c hs k hk
      rw [hx']; rfl
    · rw [List.length_map, List.length_map, List.length_take, smul_eq_mul, Nat.mul_one]; omega
  · intro b hb
    match b with
    | ⟨0, _⟩ => exact absurd rfl hb
    | ⟨1, _⟩ => rfl
    | ⟨2, _⟩ => rfl
    | ⟨3, _⟩ => rfl
    | ⟨4, _⟩ => rfl
  · rfl
theorem v384_eq (j : S16x2x8x64x128.Idx) :
    val_main_v384 (F := Ideal) x0 x1 x2 x3 x4 j = Hs (Q x0 x1 x2 x3 x4 x5 x6) (0 + (j 0).val) (j 4).val (512 * (j 1).val + 64 * (j 2).val + (j 3).val) := by
  obtain ⟨h0, h1, h2, h3, h4, h5, h6, h7, h8, h9, h10, h11, h12, h13, h14, h15, _⟩ := carried x0 x1 x2 x3 x4 x5 x6
  unfold val_main_v384
  refine stack _ rfl ?_ _ j
  exact ⟨⟨_, rfl, row h0⟩, ⟨_, rfl, row h1⟩, ⟨_, rfl, row h2⟩, ⟨_, rfl, row h3⟩, ⟨_, rfl, row h4⟩, ⟨_, rfl, row h5⟩, ⟨_, rfl, row h6⟩, ⟨_, rfl, row h7⟩, ⟨_, rfl, row h8⟩, ⟨_, rfl, row h9⟩, ⟨_, rfl, row h10⟩, ⟨_, rfl, row h11⟩, ⟨_, rfl, row h12⟩, ⟨_, rfl, row h13⟩, ⟨_, rfl, row h14⟩, ⟨_, rfl, row h15⟩, trivial⟩
theorem v385_eq (j : S16x2x8x64x128.Idx) :
    val_main_v385 (F := Ideal) x0 x1 x2 x3 x4 j = Hs (Q x0 x1 x2 x3 x4 x5 x6) (16 + (j 0).val) (j 4).val (512 * (j 1).val + 64 * (j 2).val + (j 3).val) := by
  obtain ⟨_, _, _, _, _, _, _, _, _, _, _, _, _, _, _, _, h16, h17, h18, h19, h20, h21, h22, h23, h24, h25, h26, h27, h28, h29, h30, h31⟩ := carried x0 x1 x2 x3 x4 x5 x6
  unfold val_main_v385
  refine stack _ rfl ?_ _ j
  exact ⟨⟨_, rfl, row h16⟩, ⟨_, rfl, row h17⟩, ⟨_, rfl, row h18⟩, ⟨_, rfl, row h19⟩, ⟨_, rfl, row h20⟩, ⟨_, rfl, row h21⟩, ⟨_, rfl, row h22⟩, ⟨_, rfl, row h23⟩, ⟨_, rfl, row h24⟩, ⟨_, rfl, row h25⟩, ⟨_, rfl, row h26⟩, ⟨_, rfl, row h27⟩, ⟨_, rfl, row h28⟩, ⟨_, rfl, row h29⟩, ⟨_, rfl, row h30⟩, ⟨_, rfl, row h31⟩, trivial⟩
theorem prev_eq (j : S32x2x8x64x128.Idx) :
    val_main_v387 (F := Ideal) x0 x1 x2 x3 x4 j = Hs (Q x0 x1 x2 x3 x4 x5 x6) (j 0).val (j 4).val (512 * (j 1).val + 64 * (j 2).val + (j 3).val) := by
  have h0 : (j 0).val < 32 := (j 0).isLt
  unfold val_main_v387
  refine Eq.trans (concatenate_apply_piece (0 : Fin 5) [⟨S0x2x8x64x128, (val_main_v95 (F := Ideal) : S0x2x8x64x128.Idx → EReal)⟩, ⟨S32x2x8x64x128, (val_main_v386 (F := Ideal) x0 x1 x2 x3 x4 : S32x2x8x64x128.Idx → EReal)⟩]
    _ j 1 (Nat.lt_succ_self 1) S32x2x8x64x128 _ rfl rfl 0 rfl j (fun _ _ => rfl) (Nat.zero_add _)) ?_
  unfold val_main_v386
  by_cases h : (j 0).val < 16
  · refine Eq.trans (concatenate_apply_piece (0 : Fin 5) [⟨S16x2x8x64x128, (val_main_v384 (F := Ideal) x0 x1 x2 x3 x4 : S16x2x8x64x128.Idx → EReal)⟩, ⟨S16x2x8x64x128, (val_main_v385 (F := Ideal) x0 x1 x2 x3 x4 : S16x2x8x64x128.Idx → EReal)⟩]
      _ j 0 (Nat.zero_lt_succ _) S16x2x8x64x128 _ rfl rfl 0 rfl
      (fun a => match a with | ⟨0, _⟩ => ⟨(j 0).val, h⟩ | ⟨1, _⟩ => j 1 | ⟨2, _⟩ => j 2 | ⟨3, _⟩ => j 3 | ⟨4, _⟩ => j 4)
      (fun b hb => match b, hb with
        | ⟨0, _⟩, hb => absurd rfl hb | ⟨1, _⟩, _ => rfl | ⟨2, _⟩, _ => rfl | ⟨3, _⟩, _ => rfl | ⟨4, _⟩, _ => rfl)
      (Nat.zero_add _)) ?_
    refine (v384_eq x0 x1 x2 x3 x4 x5 x6 _).trans ?_
    show Hs _ (0 + (j 0).val) _ _ = _
    rw [Nat.zero_add]
  · refine Eq.trans (concatenate_apply_piece (0 : Fin 5) [⟨S16x2x8x64x128, (val_main_v384 (F := Ideal) x0 x1 x2 x3 x4 : S16x2x8x64x128.Idx → EReal)⟩, ⟨S16x2x8x64x128, (val_main_v385 (F := Ideal) x0 x1 x2 x3 x4 : S16x2x8x64x128.Idx → EReal)⟩]
      _ j 1 (Nat.lt_succ_self 1) S16x2x8x64x128 _ rfl rfl 16 rfl
      (fun a => match a with | ⟨0, _⟩ => ⟨(j 0).val - 16, by show (j 0).val - 16 < 16; omega⟩ | ⟨1, _⟩ => j 1 | ⟨2, _⟩ => j 2 | ⟨3, _⟩ => j 3 | ⟨4, _⟩ => j 4)
      (fun b hb => match b, hb with
        | ⟨0, _⟩, hb => absurd rfl hb | ⟨1, _⟩, _ => rfl | ⟨2, _⟩, _ => rfl | ⟨3, _⟩, _ => rfl | ⟨4, _⟩, _ => rfl)
      (Nat.add_sub_of_le (Nat.not_lt.mp h))) ?_
    refine (v385_eq x0 x1 x2 x3 x4 x5 x6 _).trans ?_
    show Hs _ (16 + ((j 0).val - 16)) _ _ = _
    rw [show 16 + ((j 0).val - 16) = (j 0).val by omega]

/-! ## The results -/

/-- What the earlier chunks give. -/
theorem off_eq (i : S32x128x2x8x64.Idx) :
    val_main_v394 (F := Ideal) x0 x1 x2 x3 x4 i
      = Ideal.exp (alg (Q x0 x1 x2 x3 x4 x5 x6) (i 0).val (i 1).val (8 * (i 2).val + (i 3).val))
        * ∑ n : Fin 128, Xg (Q x0 x1 x2 x3 x4 x5 x6) (i 0).val (i 1).val (1280 + 128 * (i 2).val + n.val) * Hs (Q x0 x1 x2 x3 x4 x5 x6) (i 0).val n.val (512 * (i 2).val + 64 * (i 3).val + (i 4).val) := by
  rw [val_main_v394_apply, val_main_v389_apply, val_main_v388_apply, val_main_v393_apply, val_main_v392_apply, val_main_v391_apply, val_main_v390_apply, al_eq x0 x1 x2 x3 x4 x5 x6]
  refine (mul_comm _ _).trans (congrArg (fun y : EReal => _ * y) (Finset.sum_congr rfl fun k _ => ?_))
  rw [prev_eq x0 x1 x2 x3 x4 x5 x6, c_eq x0 x1 x2 x3 x4 x5 x6]
  exact mul_comm _ _
theorem out_eq (i : S4096x1024.Idx) :
    val_main_v403 (F := Ideal) x0 x1 x2 x3 x4 x5 i = yg (Q x0 x1 x2 x3 x4 x5 x6) ((i 0).val / 128) ((i 0).val % 128) (i 1).val := by
  have h0 : (i 0).val < 4096 := (i 0).isLt
  have h1 : (i 1).val < 1024 := (i 1).isLt
  rw [val_main_v403_apply, val_main_v402_apply, val_main_v396_apply, val_main_v395_apply, diag_eq x0 x1 x2 x3 x4 x5 x6, off_eq x0 x1 x2 x3 x4 x5 x6,
    val_main_v401_apply, xs_eq x0 x1 x2 x3 x4 x5 x6, val_main_v400_apply, val_main_v399_apply, val_main_v398_apply, val_main_v397_apply]
  have hj : idx_main_v396 (idx_main_v403 i) = (fun a => match a with
      | ⟨0, _⟩ => ⟨(i 0).val / 128, by show _ < 32; omega⟩ | ⟨1, _⟩ => ⟨(i 0).val % 128, by show _ < 128; omega⟩
      | ⟨2, _⟩ => ⟨(i 1).val / 512, by show _ < 2; omega⟩ | ⟨3, _⟩ => ⟨(i 1).val / 64 % 8, by show _ < 8; omega⟩
      | ⟨4, _⟩ => ⟨(i 1).val % 64, by show _ < 64; omega⟩ : S32x128x2x8x64.Idx) := by
    have f0 : ((i 0).val * 1024 + (i 1).val) / 1024 = (i 0).val := by omega
    have f1 : ((i 0).val * 1024 + (i 1).val) / 64 % 16 = (i 1).val / 64 := by omega
    have f2 : ((i 0).val * 1024 + (i 1).val) % 64 = (i 1).val % 64 := by omega
    have g : (((i 0).val * 1024 + (i 1).val) / 1024 * 16 + ((i 0).val * 1024 + (i 1).val) / 64 % 16) * 64 + ((i 0).val * 1024 + (i 1).val) % 64
      = (i 0).val * 1024 + (i 1).val := by omega
    funext a
    match a with
    | ⟨0, _⟩ =>
      refine Fin.ext ((congrArg (fun n : ℕ => n / 131072) g).trans ?_)
      dsimp only; omega
    | ⟨1, _⟩ =>
      refine Fin.ext ((congrArg (fun n : ℕ => n / 1024 % 128) g).trans ?_)
      dsimp only; omega
    | ⟨2, _⟩ =>
      refine Fin.ext ((congrArg (fun n : ℕ => n / 512 % 2) g).trans ?_)
      dsimp only; omega
    | ⟨3, _⟩ =>
      refine Fin.ext ((congrArg (fun n : ℕ => n / 64 % 8) g).trans ?_)
      dsimp only; omega
    | ⟨4, _⟩ =>
      refine Fin.ext ((congrArg (fun n : ℕ => n % 64) g).trans ?_)
      dsimp only; omega
  rw [hj]
  dsimp only
  have ek : 512 * ((i 1).val / 512) + 64 * ((i 1).val / 64 % 8) + (i 1).val % 64 = (i 1).val := by omega
  have eh : 8 * ((i 1).val / 512) + (i 1).val / 64 % 8 = (i 1).val / 64 := by omega
  unfold yg Y
  refine congrArg₂ (fun a b : EReal => a + b) (congrArg₂ (fun a b : EReal => a + b) ?_ ?_) (congrArg₂ (fun a b : EReal => a * b) ?_ ?_)
  · show (∑ s : Fin 128, (cbs (Xg (Q x0 x1 x2 x3 x4 x5 x6) ((i 0).val / 128)) ((i 1).val / 512) ((i 0).val % 128) s.val * dec (alg (Q x0 x1 x2 x3 x4 x5 x6) ((i 0).val / 128)) (8 * ((i 1).val / 512) + (i 1).val / 64 % 8) ((i 0).val % 128) s.val)
      * (Xg (Q x0 x1 x2 x3 x4 x5 x6) ((i 0).val / 128) s.val (512 * ((i 1).val / 512) + 64 * ((i 1).val / 64 % 8) + (i 1).val % 64) * dtg (Q x0 x1 x2 x3 x4 x5 x6) ((i 0).val / 128) s.val (8 * ((i 1).val / 512) + (i 1).val / 64 % 8))) = _
    rw [ek, eh]
  · show Ideal.exp (alg (Q x0 x1 x2 x3 x4 x5 x6) ((i 0).val / 128) ((i 0).val % 128) (8 * ((i 1).val / 512) + (i 1).val / 64 % 8))
      * (∑ n : Fin 128, Xg (Q x0 x1 x2 x3 x4 x5 x6) ((i 0).val / 128) ((i 0).val % 128) (1280 + 128 * ((i 1).val / 512) + n.val) * Hs (Q x0 x1 x2 x3 x4 x5 x6) ((i 0).val / 128) n.val (512 * ((i 1).val / 512) + 64 * ((i 1).val / 64 % 8) + (i 1).val % 64)) = _
    rw [ek, eh]
  · refine eq_rd x5 _ rfl ?_
    show ((i 0).val * 1024 + (i 1).val) / 64 % 16 % 16 = (i 1).val / 64
    omega
  · show Xg (Q x0 x1 x2 x3 x4 x5 x6) (((i 0).val * 1024 + (i 1).val) / 1024 / 128) (((i 0).val * 1024 + (i 1).val) / 1024 % 128)
      (64 * (((i 0).val * 1024 + (i 1).val) / 64 % 16) + ((i 0).val * 1024 + (i 1).val) % 64) = _
    rw [show ((i 0).val * 1024 + (i 1).val) / 1024 = (i 0).val by omega, show 64 * (((i 0).val * 1024 + (i 1).val) / 64 % 16) + ((i 0).val * 1024 + (i 1).val) % 64 = (i 1).val by omega]
theorem states_eq (i : S32x128x1024.Idx) :
    val_main_v424 (F := Ideal) x0 x1 x2 x3 x4 i = Hs (Q x0 x1 x2 x3 x4 x5 x6) (i 0).val (i 1).val (i 2).val := by
  have h0 : (i 0).val < 32 := (i 0).isLt
  have h1 : (i 1).val < 128 := (i 1).isLt
  have h2 : (i 2).val < 1024 := (i 2).isLt
  rw [val_main_v424_apply, val_main_v423_apply, prev_eq x0 x1 x2 x3 x4 x5 x6]
  show Hs (Q x0 x1 x2 x3 x4 x5 x6) ((((i 0).val * 128 + (i 1).val) * 1024 + (i 2).val) / 131072) ((((i 0).val * 128 + (i 1).val) * 1024 + (i 2).val) / 1024 % 128)
    (512 * ((((i 0).val * 128 + (i 1).val) * 1024 + (i 2).val) / 512 % 2) + 64 * ((((i 0).val * 128 + (i 1).val) * 1024 + (i 2).val) / 64 % 8) + (((i 0).val * 128 + (i 1).val) * 1024 + (i 2).val) % 64) = _
  rw [show (((i 0).val * 128 + (i 1).val) * 1024 + (i 2).val) / 131072 = (i 0).val by omega,
    show (((i 0).val * 128 + (i 1).val) * 1024 + (i 2).val) / 1024 % 128 = (i 1).val by omega,
    show 512 * ((((i 0).val * 128 + (i 1).val) * 1024 + (i 2).val) / 512 % 2) + 64 * ((((i 0).val * 128 + (i 1).val) * 1024 + (i 2).val) / 64 % 8) + (((i 0).val * 128 + (i 1).val) * 1024 + (i 2).val) % 64 = (i 2).val by omega]
/-- The output times the gate. -/
theorem part_eq (i : S4096x1024.Idx) :
    val_main_v406 (F := Ideal) x0 x1 x2 x3 x4 x5 i = part (Q x0 x1 x2 x3 x4 x5 x6) ((i 0).val / 128) ((i 0).val % 128) (i 1).val := by
  rw [val_main_v406_apply, out_eq x0 x1 x2 x3 x4 x5 x6, val_main_v405_apply, val_main_call6_v5_apply, val_main_call6_v4_apply, val_main_call6_cst_0_apply,
    val_main_call6_v3_apply, val_main_call6_v2_apply, val_main_call6_cst_apply, val_main_call6_v1_apply, val_main_call6_v0_apply, val_main_v0_apply]
  unfold part gate
  have e : x0 (idx_main_v0 i) = rd x0 (128 * ((i 0).val / 128) + (i 0).val % 128) (4096 + (i 1).val) :=
    (eq_rd x0 _ rfl rfl).trans (congrArg (fun a => rd x0 a (4096 + (i 1).val)) (by show (i 0).val = _; omega))
  rw [e, zero_sub]
  rfl
theorem mix_eq (i : S4096x1024.Idx) :
    val_main_v422 (F := Ideal) x0 x1 x2 x3 x4 x5 x6 i = mixg (Q x0 x1 x2 x3 x4 x5 x6) ((i 0).val / 128) ((i 0).val % 128) (i 1).val := by
  have h0 : (i 0).val < 4096 := (i 0).isLt
  have h1 : (i 1).val < 1024 := (i 1).isLt
  have p : ∀ (j : S4096x2x512.Idx), val_main_v407 (F := Ideal) x0 x1 x2 x3 x4 x5 j = part (Q x0 x1 x2 x3 x4 x5 x6) ((j 0).val / 128) ((j 0).val % 128) (512 * (j 1).val + (j 2).val) := fun j => by
    have j1 : (j 1).val < 2 := (j 1).isLt
    have j2 : (j 2).val < 512 := (j 2).isLt
    rw [val_main_v407_apply, part_eq x0 x1 x2 x3 x4 x5 x6]
    show part _ ((((j 0).val * 2 + (j 1).val) * 512 + (j 2).val) / 1024 / 128) ((((j 0).val * 2 + (j 1).val) * 512 + (j 2).val) / 1024 % 128)
      ((((j 0).val * 2 + (j 1).val) * 512 + (j 2).val) % 1024) = _
    rw [show (((j 0).val * 2 + (j 1).val) * 512 + (j 2).val) / 1024 = (j 0).val by omega,
      show (((j 0).val * 2 + (j 1).val) * 512 + (j 2).val) % 1024 = 512 * (j 1).val + (j 2).val by omega]
  have w : val_main_v420 (F := Ideal) x6 i = rd x6 0 (i 1).val := by
    rw [val_main_v420_apply, val_main_v419_apply, val_main_v404_apply]
    exact eq_rd x6 _ rfl (Nat.mod_eq_of_lt h1)
  have e0 : ((i 0).val * 1024 + (i 1).val) / 1024 = (i 0).val := by omega
  have e1 : ((i 0).val * 1024 + (i 1).val) / 512 % 2 = (i 1).val / 512 := by omega
  have e2 : ((i 0).val * 1024 + (i 1).val) % 512 = (i 1).val % 512 := by omega
  have e3 : 512 * ((i 1).val / 512) + (i 1).val % 512 = (i 1).val := by omega
  rw [val_main_v422_apply, val_main_v421_apply, w, val_main_v418_apply, val_main_v417_apply, p, val_main_v416_apply, val_main_v415_apply, val_main_v414_apply,
    val_main_v412_apply, val_main_v410_apply, val_main_v409_apply, val_main_cst_3_apply, val_main_v411_apply, val_main_cst_4_apply,
    val_main_v413_apply, val_main_cst_5_apply]
  have hs : (∑ k : Fin 512, val_main_v408 (F := Ideal) x0 x1 x2 x3 x4 x5 (idx_main_v409 (idx_main_v410 (idx_main_v416 (idx_main_v418 i))) k))
      = ∑ j : Fin 512, part (Q x0 x1 x2 x3 x4 x5 x6) ((i 0).val / 128) ((i 0).val % 128) (512 * ((i 1).val / 512) + j.val) * part (Q x0 x1 x2 x3 x4 x5 x6) ((i 0).val / 128) ((i 0).val % 128) (512 * ((i 1).val / 512) + j.val) := by
    refine Finset.sum_congr rfl fun k _ => ?_
    rw [val_main_v408_apply, p]
    show part (Q x0 x1 x2 x3 x4 x5 x6) (((i 0).val * 1024 + (i 1).val) / 1024 / 128) (((i 0).val * 1024 + (i 1).val) / 1024 % 128) (512 * (((i 0).val * 1024 + (i 1).val) / 512 % 2) + k.val)
      * part (Q x0 x1 x2 x3 x4 x5 x6) (((i 0).val * 1024 + (i 1).val) / 1024 / 128) (((i 0).val * 1024 + (i 1).val) / 1024 % 128) (512 * (((i 0).val * 1024 + (i 1).val) / 512 % 2) + k.val) = _
    rw [e0, e1]
  rw [hs]
  unfold mixg
  show part (Q x0 x1 x2 x3 x4 x5 x6) (((i 0).val * 1024 + (i 1).val) / 1024 / 128) (((i 0).val * 1024 + (i 1).val) / 1024 % 128)
      (512 * (((i 0).val * 1024 + (i 1).val) / 512 % 2) + ((i 0).val * 1024 + (i 1).val) % 512)
    * Ideal.rsqrt (Ideal.div (Ideal.ofBits .f32 0x00000000#32 + _) _ + _) * rd x6 0 (i 1).val = _
  rw [e0, e1, e2, e3, Ideal.ofBits_zero_f32, zero_add]
  rfl

end Cert.Proof.ScanRefB

end
-- ==== Proof.ScanEnds.lean ====
/-
  THE FORWARD SCAN (`Kernel11`) against the reference: what the precondition says of the arguments, what every run of the
  kernel ends with, and the algebraic claim.
-/
module

public import proofs.«01_k».proof.Defs
public import proofs.«01_k».proof.Proof.ScanGrid
public import proofs.«01_k».proof.Proof.ScanRefB
public import proofs.«01_k».proof.Proof.Gen.Reference11Ideal.Run

@[expose] public section

noncomputable section

open Idealize.ShloMosaic Idealize.ShloMosaic.TcCoe Idealize.SL.Sem Idealize.ShloMosaic.ValueIdx

namespace Cert.Proof.ScanEnds

open Cert.Kernel11Ideal Cert.Kernel11Ideal.Gen Cert.Proof.Blocks Cert.Proof.ScanSpec Cert.Proof.ScanGrid

/-- The precondition's operations are within their arrays. -/
instance preFacts : Cert.Pre_steps_below_infinity.Facts where
  slices_S4096x7168_S4096x16_0_6656 := by decide
  bcast_S_S4096x16 := by decide
  bcast_S_S1x16 := by decide

/-- What compares below anything is below plus infinity. -/
theorem below {s : Shape} {a b : FVec Ideal s .f32} {i : s.Idx} (h : cmpf .olt a b i = 1#1) : (a i : EReal) ≠ ⊤ := by
  have h' : BitVec.ofBool (decide ((a i : EReal) < (b i : EReal))) = 1#1 := h
  by_cases hlt : (a i : EReal) < (b i : EReal)
  · exact ne_top_of_lt hlt
  · rw [decide_eq_false hlt] at h'
    exact absurd h' (by decide)

variable (m : (ℓ : Loc nD τ sig) → Buf (Elt Ideal) ℓ) (ρ : Dev nD → PrngReg)

/-- The precondition, by coordinates. -/
theorem finite (h : Cert.Pre_Kernel11Ideal_steps_below_infinity m) (c : Dev nD) : (qOf m c).Finite := by
  obtain ⟨h0, h3⟩ := h c
  refine ⟨fun t k ht hk => ?_, fun k hk => ?_⟩
  · have e := congrFun h0 (ix2 ⟨t, ht⟩ ⟨k, hk⟩)
    unfold Cert.Pre_steps_below_infinity.fn at e
    dsimp only at e
    have l := below e
    rw [extractStridedSlice_apply ![0, 6656] _ _ _ (ix2 ⟨t, ht⟩ ⟨6656 + k, by omega⟩) fun a => match a with | ⟨0, _⟩ => (Nat.zero_add t).symm | ⟨1, _⟩ => rfl] at l
    show rd (A0 m c) t (6656 + k) ≠ ⊤
    rw [rd_of_lt (A0 m c) ht (show 6656 + k < 7168 by omega)]
    exact l
  · have e := congrFun h3 (ix2 ⟨0, Nat.one_pos⟩ ⟨k, hk⟩)
    unfold Cert.Pre_steps_below_infinity.fn at e
    dsimp only at e
    show rd (A3 m c) 0 k ≠ ⊤
    rw [rd_of_lt (A3 m c) Nat.one_pos hk]
    exact below e

/-- Every execution ends with the four results at these values and the arguments as they were launched. -/
theorem ends (hq : ∀ c, (qOf m c).Finite) : θ_run defs (onTc (τ := τ) (main (F := Ideal))) ⟨m, fun _ => 0, ρ⟩ fun r => ∀ c : Dev nD,
    r.2.mem ((c : Thread nD τ).loc main_v6_0) = mixArr (qOf m c)
    ∧ r.2.mem ((c : Thread nD τ).loc main_v6_1) = outArr (qOf m c)
    ∧ r.2.mem ((c : Thread nD τ).loc main_v6_2) = statesArr (qOf m c)
    ∧ r.2.mem ((c : Thread nD τ).loc main_v6_3) = cvArr (qOf m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c =>
    ⟨((h.1 c).1 13).trans (final13 m hq c), ((h.1 c).1 14).trans (final14 m hq c), ((h.1 c).1 15).trans (final15 m hq c),
      ((h.1 c).1 16).trans (final16 m hq c), h.2 c⟩)
    (θ_run_and (run_main m ρ) (unchanged m ρ))

/-- The algebraic claim of `Kernel11`. -/
theorem algebraic : Cert.algebraic_Kernel11Ideal_Reference11Ideal_pre_steps_below_infinity := by
  intro m g m' g' hpre hargs
  refine ⟨fun c => mixArr (qOf m c), fun c => outArr (qOf m c), fun c => statesArr (qOf m c), fun c => cvArr (qOf m c), ends m g (finite m hpre), ?_⟩
  refine (θ_run _ _ _).mono (fun r h c => ?_) (Cert.Reference11Ideal.Value.run m' g')
  obtain ⟨e0, e1, e2, e3, e4, e5, e6⟩ := hargs c
  have a0 : StableHlo.launchContents m' c (Proc.devRef .tc Cert.Reference11Ideal.main_arg0) = A0 m c := e0
  have a1 : StableHlo.launchContents m' c (Proc.devRef .tc Cert.Reference11Ideal.main_arg1) = A1 m c := e1
  have a2 : StableHlo.launchContents m' c (Proc.devRef .tc Cert.Reference11Ideal.main_arg2) = A2 m c := e2
  have a3 : StableHlo.launchContents m' c (Proc.devRef .tc Cert.Reference11Ideal.main_arg3) = A3 m c := e3
  have a4 : StableHlo.launchContents m' c (Proc.devRef .tc Cert.Reference11Ideal.main_arg4) = A4 m c := e4
  have a5 : StableHlo.launchContents m' c (Proc.devRef .tc Cert.Reference11Ideal.main_arg5) = A5 m c := e5
  have a6 : StableHlo.launchContents m' c (Proc.devRef .tc Cert.Reference11Ideal.main_arg6) = A6 m c := e6
  refine ⟨(h c).1.trans ((Cert.Reference11Ideal.Read.val_main_v422_eq _).trans ?_), (h c).2.1.trans ((Cert.Reference11Ideal.Read.val_main_v403_eq _).trans ?_),
    (h c).2.2.1.trans ((Cert.Reference11Ideal.Read.val_main_v424_eq _).trans ?_), (h c).2.2.2.1.trans ((Cert.Reference11Ideal.Read.val_main_v34_eq _).trans ?_),
    (h c).2.2.2.2⟩ <;> clear h
  · rw [a0, a1, a2, a3, a4, a5, a6]
    exact funext fun i => ScanRefB.mix_eq (A0 m c) (A1 m c) (A2 m c) (A3 m c) (A4 m c) (A5 m c) (A6 m c) i
  · rw [a0, a1, a2, a3, a4, a5]
    exact funext fun i => ScanRefB.out_eq (A0 m c) (A1 m c) (A2 m c) (A3 m c) (A4 m c) (A5 m c) (A6 m c) i
  · rw [a0, a1, a2, a3, a4]
    exact funext fun i => ScanRefB.states_eq (A0 m c) (A1 m c) (A2 m c) (A3 m c) (A4 m c) (A5 m c) (A6 m c) i
  · rw [a0, a1, a2]
    exact funext fun i => ScanRefA.cv_eq (A0 m c) (A1 m c) (A2 m c) (A3 m c) (A4 m c) (A5 m c) (A6 m c) i

end Cert.Proof.ScanEnds

end
-- ==== Proof.PreBoth.lean ====
/-
  THE PRE-NORM AND THE INPUT PROJECTION: the frame over the machine's float values. The program over the machine's
  values and the one over the extended reals have the same text, so the run of `PreFrame`, which is over any float
  values, is the run of both: here the two texts are compared, and the frame is taken over.
-/
module

public import proofs.«01_k».proof.Defs
public import proofs.«01_k».proof.Proof.PreFrame
public import proofs.«01_k».proof.Proof.Gen.Kernel4

@[expose] public section

noncomputable section

open Idealize.ShloMosaic Idealize.ShloMosaic.TcCoe Idealize.SL.Sem

namespace Cert.Proof.PreNorm

variable {F : FTy → Type} [FloatOps F]

/-- The kernel's function is the same in both programs. -/
theorem body_same (i : Cert.Kernel4.grid0.Coords)
    (a2 : Memref Cert.Kernel4.sig .tc .vmem Cert.Kernel4.S1024x1024 .f32) (h2 : a2.IsWhole)
    (a3 : Memref Cert.Kernel4.sig .tc .vmem Cert.Kernel4.S1x1024 .f32) (h3 : a3.IsWhole)
    (a4 : Memref Cert.Kernel4.sig .tc .vmem Cert.Kernel4.S7168x1024 .bf16) (h4 : a4.IsWhole)
    (a5 : Memref Cert.Kernel4.sig .tc .vmem Cert.Kernel4.S1024x1024 .f32) (h5 : a5.IsWhole)
    (a6 : Memref Cert.Kernel4.sig .tc .vmem Cert.Kernel4.S1024x1024 .bf16) (h6 : a6.IsWhole) :
    Cert.Kernel4.cc0_prenorm_inproj (F := F) i a2 h2 a3 h3 a4 h4 a5 h5 a6 h6
      = Cert.Kernel4Ideal.cc0_prenorm_inproj (F := F) i a2 h2 a3 h3 a4 h4 a5 h5 a6 h6 := by
  unfold Cert.Kernel4.cc0_prenorm_inproj Cert.Kernel4Ideal.cc0_prenorm_inproj
  rfl

/-- So is the table of bodies, which has the kernel's function alone; -/
theorem table_same : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => exact body_same _ _ _ _ _ _ _ _ _ _ _
  | ⟨_ + 1, h⟩, _ => exact absurd h (Nat.not_lt.2 (Nat.le_add_left _ _))

/-- and with it what the program's calls run. -/
theorem defs_same : Cert.Kernel4.defs (F := F) = Cert.Kernel4Ideal.defs (F := F) :=
  congrArg (Pipeline.defs Cert.Kernel4Ideal.pcfgs) table_same

/-- The frame over the machine's float values. -/
theorem frame_kernel : Cert.quiescent_Kernel4 := fun m ρ _ =>
  (congrArg (fun d => θ_run d (onTc Cert.Kernel4Ideal.main) ⟨m, fun _ => 0, ρ⟩ _) (defs_same (F := Bits))).mpr
    (frame (F := Bits) m ρ)

end Cert.Proof.PreNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9
public import proofs.«01_k».proof.Proof.Gen.Reference9Ideal
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Reference4Ideal.Read
public import proofs.«01_k».proof.Proof.OutProjRef
public import proofs.«01_k».proof.Proof.InProjRef
public import proofs.«01_k».proof.Proof.DwInRef
public import proofs.«01_k».proof.Proof.PreRef
public import proofs.«01_k».proof.Proof.SumInRef
public import proofs.«01_k».proof.Proof.SumOutRef
public import proofs.«01_k».proof.Proof.SmallRef
public import proofs.«01_k».proof.Proof.TotalRef
public import proofs.«01_k».proof.Proof.StackRef
public import proofs.«01_k».proof.Proof.ChipRef
public import proofs.«01_k».proof.Proof.ScanEnds
public import proofs.«01_k».proof.Proof.PreBoth
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference9.Run
public import proofs.«01_k».proof.Proof.Gen.Reference10Ideal.Run
public import proofs.«01_k».proof.Proof.Gen.Reference10.Run
public import proofs.«01_k».proof.Proof.Gen.Reference11Ideal.Run
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Reference9.Gen.facts, Cert.Kernel10.Gen.facts, Cert.Kernel10Ideal.Gen.facts, Cert.Reference10Ideal.Gen.facts, Cert.Reference10.Gen.facts, Cert.Kernel11.Gen.facts, Cert.Kernel11Ideal.Gen.facts, Cert.Reference11Ideal.Gen.facts, ScanEnds.preFacts,
    fun m ρ _ => Cert.Kernel.Gen.frame m ρ,
    fun m ρ _ => Cert.KernelIdeal.Gen.frame m ρ,
    fun m ρ _ => (θ_run Cert.ReferenceIdeal.defs _ _).mono (fun r h => ⟨fun c => (h c).2.2.2.2, Idealize.ShloMosaic.sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2, Idealize.ShloMosaic.sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, Idealize.ShloMosaic.sem_eq_zero_of_no_sems (by decide) r.2⟩) (Cert.Reference3Ideal.Value.run (F := Ideal) m ρ),
    PreNorm.frame_kernel,
    fun m ρ _ => PreNorm.frame m ρ,
    fun m ρ _ => (θ_run Cert.Reference4Ideal.defs _ _).mono (fun r h => ⟨fun c => (h c).2.2, Idealize.ShloMosaic.sem_eq_zero_of_no_sems (by decide) r.2⟩) (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2.2.2.2, Idealize.ShloMosaic.sem_eq_zero_of_no_sems (by decide) r.2⟩) (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2.2.2, Idealize.ShloMosaic.sem_eq_zero_of_no_sems (by decide) r.2⟩) (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2.2.2.2.2.2.2.2.2.2.2.2.2.2.2.2.2.2.2.2.2.2.2.2, Idealize.ShloMosaic.sem_eq_zero_of_no_sems (by decide) r.2⟩) (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2.2.2.2.2.2.2.2.2, Idealize.ShloMosaic.sem_eq_zero_of_no_sems (by decide) r.2⟩) (Cert.Reference8Ideal.Value.run (F := Ideal) m ρ),
    StackRef.frame_kernel,
    fun m ρ _ => Cert.Kernel9Ideal.Gen.frame m ρ,
    fun m ρ _ => (θ_run Cert.Reference9Ideal.defs _ _).mono (fun r h => ⟨fun c => (h c).2, Idealize.ShloMosaic.sem_eq_zero_of_no_sems (by decide) r.2⟩) (Cert.Reference9Ideal.Value.run (F := Ideal) m ρ),
    fun m ρ _ => (θ_run Cert.Reference9.defs _ _).mono (fun r h => ⟨fun c => (h c).2, Idealize.ShloMosaic.sem_eq_zero_of_no_sems (by decide) r.2⟩) (Cert.Reference9.Value.run (F := Bits) m ρ),
    ChipRef.frame_kernel,
    fun m ρ _ => Cert.Kernel10Ideal.Gen.frame m ρ,
    fun m ρ _ => (θ_run Cert.Reference10Ideal.defs _ _).mono (fun r h => ⟨fun c => (h c).2, Idealize.ShloMosaic.sem_eq_zero_of_no_sems (by decide) r.2⟩) (Cert.Reference10Ideal.Value.run (F := Ideal) m ρ),
    fun m ρ _ => (θ_run Cert.Reference10.defs _ _).mono (fun r h => ⟨fun c => (h c).2, Idealize.ShloMosaic.sem_eq_zero_of_no_sems (by decide) r.2⟩) (Cert.Reference10.Value.run (F := Bits) m ρ),
    fun m ρ _ => Cert.Kernel11.Gen.frame m ρ,
    fun m ρ _ => Cert.Kernel11Ideal.Gen.frame m ρ,
    fun m ρ _ => Cert.Kernel11Ideal.Gen.frame m ρ,
    fun m ρ _ => (θ_run Cert.Reference11Ideal.defs _ _).mono (fun r h => ⟨fun c => (h c).2.2.2.2, Idealize.ShloMosaic.sem_eq_zero_of_no_sems (by decide) r.2⟩) (Cert.Reference11Ideal.Value.run (F := Ideal) m ρ),
    fun m ρ _ => (θ_run Cert.Reference11Ideal.defs _ _).mono (fun r h => ⟨fun c => (h c).2.2.2.2, Idealize.ShloMosaic.sem_eq_zero_of_no_sems (by decide) r.2⟩) (Cert.Reference11Ideal.Value.run (F := Ideal) m ρ),
    trivial,
    OutProj.algebraic,
    trivial,
    InProj.algebraic,
    trivial,
    DwIn.algebraic,
    trivial,
    PreNorm.algebraic,
    trivial,
    SumInRef.algebraic _ _,
    trivial,
    SumOutRef.algebraic _ _,
    trivial,
    SmallRef.algebraic _ _,
    trivial,
    TotalRef.algebraic _ _,
    trivial,
    StackRef.algebraic _ _,
    StackRef.bitexact _ _,
    trivial,
    ChipRef.algebraic _ _,
    ChipRef.bitexact _ _,
    trivial,
    ScanEnds.algebraic⟩

end Cert.Proof

end
